-- ==== Defs.lean ====
def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluGradIdeal (m : (ℓ : Loc Cert.GluGradIdeal.nD Cert.GluGradIdeal.τ Cert.GluGradIdeal.sig) → Buf (Elt Ideal) ℓ) : Prop :=
  True

def Pre_GeluBwd (m : (ℓ : Loc Cert.GeluBwd.nD Cert.GeluBwd.τ Cert.GeluBwd.sig) → Buf (Elt Bits) ℓ) : Prop :=
  True

def Pre_GeluBwdIdeal (m : (ℓ : Loc Cert.GeluBwdIdeal.nD Cert.GeluBwdIdeal.τ Cert.GeluBwdIdeal.sig) → Buf (Elt Ideal) ℓ) : Prop :=
  True

def Pre_GeluBwdIdeal_gelu_finite [hPre_gelu_finite : Cert.Pre_gelu_finite.Facts] (m : (ℓ : Loc Cert.GeluBwdIdeal.nD Cert.GeluBwdIdeal.τ Cert.GeluBwdIdeal.sig) → Buf (Elt Ideal) ℓ) : Prop :=
  ∀ c : Dev Cert.GeluBwdIdeal.nD,
    (Cert.Pre_gelu_finite.fn (F := Ideal) (m ((c.tc : Thread Cert.GeluBwdIdeal.nD Cert.GeluBwdIdeal.τ).loc Cert.GeluBwdIdeal.main_arg0)) (m ((c.tc : Thread Cert.GeluBwdIdeal.nD Cert.GeluBwdIdeal.τ).loc Cert.GeluBwdIdeal.main_arg1)) (m ((c.tc : Thread Cert.GeluBwdIdeal.nD Cert.GeluBwdIdeal.τ).loc Cert.GeluBwdIdeal.main_arg2)) (m ((c.tc : Thread Cert.GeluBwdIdeal.nD Cert.GeluBwdIdeal.τ).loc Cert.GeluBwdIdeal.main_arg3)) (m ((c.tc : Thread Cert.GeluBwdIdeal.nD Cert.GeluBwdIdeal.τ).loc Cert.GeluBwdIdeal.main_arg4))).1 = (fun _ => 1#1)
    ∧ (Cert.Pre_gelu_finite.fn (F := Ideal) (m ((c.tc : Thread Cert.GeluBwdIdeal.nD Cert.GeluBwdIdeal.τ).loc Cert.GeluBwdIdeal.main_arg0)) (m ((c.tc : Thread Cert.GeluBwdIdeal.nD Cert.GeluBwdIdeal.τ).loc Cert.GeluBwdIdeal.main_arg1)) (m ((c.tc : Thread Cert.GeluBwdIdeal.nD Cert.GeluBwdIdeal.τ).loc Cert.GeluBwdIdeal.main_arg2)) (m ((c.tc : Thread Cert.GeluBwdIdeal.nD Cert.GeluBwdIdeal.τ).loc Cert.GeluBwdIdeal.main_arg3)) (m ((c.tc : Thread Cert.GeluBwdIdeal.nD Cert.GeluBwdIdeal.τ).loc Cert.GeluBwdIdeal.main_arg4))).2.1 = (fun _ => 1#1)
    ∧ (Cert.Pre_gelu_finite.fn (F := Ideal) (m ((c.tc : Thread Cert.GeluBwdIdeal.nD Cert.GeluBwdIdeal.τ).loc Cert.GeluBwdIdeal.main_arg0)) (m ((c.tc : Thread Cert.GeluBwdIdeal.nD Cert.GeluBwdIdeal.τ).loc Cert.GeluBwdIdeal.main_arg1)) (m ((c.tc : Thread Cert.GeluBwdIdeal.nD Cert.GeluBwdIdeal.τ).loc Cert.GeluBwdIdeal.main_arg2)) (m ((c.tc : Thread Cert.GeluBwdIdeal.nD Cert.GeluBwdIdeal.τ).loc Cert.GeluBwdIdeal.main_arg3)) (m ((c.tc : Thread Cert.GeluBwdIdeal.nD Cert.GeluBwdIdeal.τ).loc Cert.GeluBwdIdeal.main_arg4))).2.2.1 = (fun _ => 1#1)
    ∧ (Cert.Pre_gelu_finite.fn (F := Ideal) (m ((c.tc : Thread Cert.GeluBwdIdeal.nD Cert.GeluBwdIdeal.τ).loc Cert.GeluBwdIdeal.main_arg0)) (m ((c.tc : Thread Cert.GeluBwdIdeal.nD Cert.GeluBwdIdeal.τ).loc Cert.GeluBwdIdeal.main_arg1)) (m ((c.tc : Thread Cert.GeluBwdIdeal.nD Cert.GeluBwdIdeal.τ).loc Cert.GeluBwdIdeal.main_arg2)) (m ((c.tc : Thread Cert.GeluBwdIdeal.nD Cert.GeluBwdIdeal.τ).loc Cert.GeluBwdIdeal.main_arg3)) (m ((c.tc : Thread Cert.GeluBwdIdeal.nD Cert.GeluBwdIdeal.τ).loc Cert.GeluBwdIdeal.main_arg4))).2.2.2 = (fun _ => 1#1)

def Pre_GeluGradIdeal (m : (ℓ : Loc Cert.GeluGradIdeal.nD Cert.GeluGradIdeal.τ Cert.GeluGradIdeal.sig) → Buf (Elt Ideal) ℓ) : Prop :=
  True

def Pre_GeluGradIdeal_gelu_finite [hPre_gelu_finite : Cert.Pre_gelu_finite.Facts] (m : (ℓ : Loc Cert.GeluGradIdeal.nD Cert.GeluGradIdeal.τ Cert.GeluGradIdeal.sig) → Buf (Elt Ideal) ℓ) : Prop :=
  ∀ c : Dev Cert.GeluGradIdeal.nD,
    (Cert.Pre_gelu_finite.fn (F := Ideal) (m ((c.tc : Thread Cert.GeluGradIdeal.nD Cert.GeluGradIdeal.τ).loc Cert.GeluGradIdeal.main_arg0)) (m ((c.tc : Thread Cert.GeluGradIdeal.nD Cert.GeluGradIdeal.τ).loc Cert.GeluGradIdeal.main_arg1)) (m ((c.tc : Thread Cert.GeluGradIdeal.nD Cert.GeluGradIdeal.τ).loc Cert.GeluGradIdeal.main_arg2)) (m ((c.tc : Thread Cert.GeluGradIdeal.nD Cert.GeluGradIdeal.τ).loc Cert.GeluGradIdeal.main_arg3)) (m ((c.tc : Thread Cert.GeluGradIdeal.nD Cert.GeluGradIdeal.τ).loc Cert.GeluGradIdeal.main_arg4))).1 = (fun _ => 1#1)
    ∧ (Cert.Pre_gelu_finite.fn (F := Ideal) (m ((c.tc : Thread Cert.GeluGradIdeal.nD Cert.GeluGradIdeal.τ).loc Cert.GeluGradIdeal.main_arg0)) (m ((c.tc : Thread Cert.GeluGradIdeal.nD Cert.GeluGradIdeal.τ).loc Cert.GeluGradIdeal.main_arg1)) (m ((c.tc : Thread Cert.GeluGradIdeal.nD Cert.GeluGradIdeal.τ).loc Cert.GeluGradIdeal.main_arg2)) (m ((c.tc : Thread Cert.GeluGradIdeal.nD Cert.GeluGradIdeal.τ).loc Cert.GeluGradIdeal.main_arg3)) (m ((c.tc : Thread Cert.GeluGradIdeal.nD Cert.GeluGradIdeal.τ).loc Cert.GeluGradIdeal.main_arg4))).2.1 = (fun _ => 1#1)
    ∧ (Cert.Pre_gelu_finite.fn (F := Ideal) (m ((c.tc : Thread Cert.GeluGradIdeal.nD Cert.GeluGradIdeal.τ).loc Cert.GeluGradIdeal.main_arg0)) (m ((c.tc : Thread Cert.GeluGradIdeal.nD Cert.GeluGradIdeal.τ).loc Cert.GeluGradIdeal.main_arg1)) (m ((c.tc : Thread Cert.GeluGradIdeal.nD Cert.GeluGradIdeal.τ).loc Cert.GeluGradIdeal.main_arg2)) (m ((c.tc : Thread Cert.GeluGradIdeal.nD Cert.GeluGradIdeal.τ).loc Cert.GeluGradIdeal.main_arg3)) (m ((c.tc : Thread Cert.GeluGradIdeal.nD Cert.GeluGradIdeal.τ).loc Cert.GeluGradIdeal.main_arg4))).2.2.1 = (fun _ => 1#1)
    ∧ (Cert.Pre_gelu_finite.fn (F := Ideal) (m ((c.tc : Thread Cert.GeluGradIdeal.nD Cert.GeluGradIdeal.τ).loc Cert.GeluGradIdeal.main_arg0)) (m ((c.tc : Thread Cert.GeluGradIdeal.nD Cert.GeluGradIdeal.τ).loc Cert.GeluGradIdeal.main_arg1)) (m ((c.tc : Thread Cert.GeluGradIdeal.nD Cert.GeluGradIdeal.τ).loc Cert.GeluGradIdeal.main_arg2)) (m ((c.tc : Thread Cert.GeluGradIdeal.nD Cert.GeluGradIdeal.τ).loc Cert.GeluGradIdeal.main_arg3)) (m ((c.tc : Thread Cert.GeluGradIdeal.nD Cert.GeluGradIdeal.τ).loc Cert.GeluGradIdeal.main_arg4))).2.2.2 = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_norm_finite [hPre_norm_finite : Cert.Pre_norm_finite.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.2 = (fun _ => 1#1)

def Pre_NormGradIdeal (m : (ℓ : Loc Cert.NormGradIdeal.nD Cert.NormGradIdeal.τ Cert.NormGradIdeal.sig) → Buf (Elt Ideal) ℓ) : Prop :=
  True

def Pre_NormGradIdeal_norm_finite [hPre_norm_finite : Cert.Pre_norm_finite.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_norm_finite.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5))).1 = (fun _ => 1#1)
    ∧ (Cert.Pre_norm_finite.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5))).2.1 = (fun _ => 1#1)
    ∧ (Cert.Pre_norm_finite.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5))).2.2.1 = (fun _ => 1#1)
    ∧ (Cert.Pre_norm_finite.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5))).2.2.2 = (fun _ => 1#1)

def Pre_GateNormBwd (m : (ℓ : Loc Cert.GateNormBwd.nD Cert.GateNormBwd.τ Cert.GateNormBwd.sig) → Buf (Elt Bits) ℓ) : Prop :=
  True

def Pre_GateNormBwdIdeal (m : (ℓ : Loc Cert.GateNormBwdIdeal.nD Cert.GateNormBwdIdeal.τ Cert.GateNormBwdIdeal.sig) → Buf (Elt Ideal) ℓ) : Prop :=
  True

def Pre_GateNormBwdIdeal_gatenorm_finite [hPre_gatenorm_finite : Cert.Pre_gatenorm_finite.Facts] (m : (ℓ : Loc Cert.GateNormBwdIdeal.nD Cert.GateNormBwdIdeal.τ Cert.GateNormBwdIdeal.sig) → Buf (Elt Ideal) ℓ) : Prop :=
  ∀ c : Dev Cert.GateNormBwdIdeal.nD,
    (Cert.Pre_gatenorm_finite.fn (F := Ideal) (m ((c.tc : Thread Cert.GateNormBwdIdeal.nD Cert.GateNormBwdIdeal.τ).loc Cert.GateNormBwdIdeal.main_arg0)) (m ((c.tc : Thread Cert.GateNormBwdIdeal.nD Cert.GateNormBwdIdeal.τ).loc Cert.GateNormBwdIdeal.main_arg1)) (m ((c.tc : Thread Cert.GateNormBwdIdeal.nD Cert.GateNormBwdIdeal.τ).loc Cert.GateNormBwdIdeal.main_arg2)) (m ((c.tc : Thread Cert.GateNormBwdIdeal.nD Cert.GateNormBwdIdeal.τ).loc Cert.GateNormBwdIdeal.main_arg3))).1 = (fun _ => 1#1)
    ∧ (Cert.Pre_gatenorm_finite.fn (F := Ideal) (m ((c.tc : Thread Cert.GateNormBwdIdeal.nD Cert.GateNormBwdIdeal.τ).loc Cert.GateNormBwdIdeal.main_arg0)) (m ((c.tc : Thread Cert.GateNormBwdIdeal.nD Cert.GateNormBwdIdeal.τ).loc Cert.GateNormBwdIdeal.main_arg1)) (m ((c.tc : Thread Cert.GateNormBwdIdeal.nD Cert.GateNormBwdIdeal.τ).loc Cert.GateNormBwdIdeal.main_arg2)) (m ((c.tc : Thread Cert.GateNormBwdIdeal.nD Cert.GateNormBwdIdeal.τ).loc Cert.GateNormBwdIdeal.main_arg3))).2.1 = (fun _ => 1#1)
    ∧ (Cert.Pre_gatenorm_finite.fn (F := Ideal) (m ((c.tc : Thread Cert.GateNormBwdIdeal.nD Cert.GateNormBwdIdeal.τ).loc Cert.GateNormBwdIdeal.main_arg0)) (m ((c.tc : Thread Cert.GateNormBwdIdeal.nD Cert.GateNormBwdIdeal.τ).loc Cert.GateNormBwdIdeal.main_arg1)) (m ((c.tc : Thread Cert.GateNormBwdIdeal.nD Cert.GateNormBwdIdeal.τ).loc Cert.GateNormBwdIdeal.main_arg2)) (m ((c.tc : Thread Cert.GateNormBwdIdeal.nD Cert.GateNormBwdIdeal.τ).loc Cert.GateNormBwdIdeal.main_arg3))).2.2.1 = (fun _ => 1#1)
    ∧ (Cert.Pre_gatenorm_finite.fn (F := Ideal) (m ((c.tc : Thread Cert.GateNormBwdIdeal.nD Cert.GateNormBwdIdeal.τ).loc Cert.GateNormBwdIdeal.main_arg0)) (m ((c.tc : Thread Cert.GateNormBwdIdeal.nD Cert.GateNormBwdIdeal.τ).loc Cert.GateNormBwdIdeal.main_arg1)) (m ((c.tc : Thread Cert.GateNormBwdIdeal.nD Cert.GateNormBwdIdeal.τ).loc Cert.GateNormBwdIdeal.main_arg2)) (m ((c.tc : Thread Cert.GateNormBwdIdeal.nD Cert.GateNormBwdIdeal.τ).loc Cert.GateNormBwdIdeal.main_arg3))).2.2.2 = (fun _ => 1#1)

def Pre_GateNormGradIdeal (m : (ℓ : Loc Cert.GateNormGradIdeal.nD Cert.GateNormGradIdeal.τ Cert.GateNormGradIdeal.sig) → Buf (Elt Ideal) ℓ) : Prop :=
  True

def Pre_GateNormGradIdeal_gatenorm_finite [hPre_gatenorm_finite : Cert.Pre_gatenorm_finite.Facts] (m : (ℓ : Loc Cert.GateNormGradIdeal.nD Cert.GateNormGradIdeal.τ Cert.GateNormGradIdeal.sig) → Buf (Elt Ideal) ℓ) : Prop :=
  ∀ c : Dev Cert.GateNormGradIdeal.nD,
    (Cert.Pre_gatenorm_finite.fn (F := Ideal) (m ((c.tc : Thread Cert.GateNormGradIdeal.nD Cert.GateNormGradIdeal.τ).loc Cert.GateNormGradIdeal.main_arg0)) (m ((c.tc : Thread Cert.GateNormGradIdeal.nD Cert.GateNormGradIdeal.τ).loc Cert.GateNormGradIdeal.main_arg1)) (m ((c.tc : Thread Cert.GateNormGradIdeal.nD Cert.GateNormGradIdeal.τ).loc Cert.GateNormGradIdeal.main_arg2)) (m ((c.tc : Thread Cert.GateNormGradIdeal.nD Cert.GateNormGradIdeal.τ).loc Cert.GateNormGradIdeal.main_arg3))).1 = (fun _ => 1#1)
    ∧ (Cert.Pre_gatenorm_finite.fn (F := Ideal) (m ((c.tc : Thread Cert.GateNormGradIdeal.nD Cert.GateNormGradIdeal.τ).loc Cert.GateNormGradIdeal.main_arg0)) (m ((c.tc : Thread Cert.GateNormGradIdeal.nD Cert.GateNormGradIdeal.τ).loc Cert.GateNormGradIdeal.main_arg1)) (m ((c.tc : Thread Cert.GateNormGradIdeal.nD Cert.GateNormGradIdeal.τ).loc Cert.GateNormGradIdeal.main_arg2)) (m ((c.tc : Thread Cert.GateNormGradIdeal.nD Cert.GateNormGradIdeal.τ).loc Cert.GateNormGradIdeal.main_arg3))).2.1 = (fun _ => 1#1)
    ∧ (Cert.Pre_gatenorm_finite.fn (F := Ideal) (m ((c.tc : Thread Cert.GateNormGradIdeal.nD Cert.GateNormGradIdeal.τ).loc Cert.GateNormGradIdeal.main_arg0)) (m ((c.tc : Thread Cert.GateNormGradIdeal.nD Cert.GateNormGradIdeal.τ).loc Cert.GateNormGradIdeal.main_arg1)) (m ((c.tc : Thread Cert.GateNormGradIdeal.nD Cert.GateNormGradIdeal.τ).loc Cert.GateNormGradIdeal.main_arg2)) (m ((c.tc : Thread Cert.GateNormGradIdeal.nD Cert.GateNormGradIdeal.τ).loc Cert.GateNormGradIdeal.main_arg3))).2.2.1 = (fun _ => 1#1)
    ∧ (Cert.Pre_gatenorm_finite.fn (F := Ideal) (m ((c.tc : Thread Cert.GateNormGradIdeal.nD Cert.GateNormGradIdeal.τ).loc Cert.GateNormGradIdeal.main_arg0)) (m ((c.tc : Thread Cert.GateNormGradIdeal.nD Cert.GateNormGradIdeal.τ).loc Cert.GateNormGradIdeal.main_arg1)) (m ((c.tc : Thread Cert.GateNormGradIdeal.nD Cert.GateNormGradIdeal.τ).loc Cert.GateNormGradIdeal.main_arg2)) (m ((c.tc : Thread Cert.GateNormGradIdeal.nD Cert.GateNormGradIdeal.τ).loc Cert.GateNormGradIdeal.main_arg3))).2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossGradIdeal (m : (ℓ : Loc Cert.LossGradIdeal.nD Cert.LossGradIdeal.τ Cert.LossGradIdeal.sig) → Buf (Elt Ideal) ℓ) : Prop :=
  True

def Pre_LossGradIdeal_loss_finite [hPre_loss_finite : Cert.Pre_loss_finite.Facts] (m : (ℓ : Loc Cert.LossGradIdeal.nD Cert.LossGradIdeal.τ Cert.LossGradIdeal.sig) → Buf (Elt Ideal) ℓ) : Prop :=
  ∀ c : Dev Cert.LossGradIdeal.nD,
    (Cert.Pre_loss_finite.fn (F := Ideal) (m ((c.tc : Thread Cert.LossGradIdeal.nD Cert.LossGradIdeal.τ).loc Cert.LossGradIdeal.main_arg0)) (m ((c.tc : Thread Cert.LossGradIdeal.nD Cert.LossGradIdeal.τ).loc Cert.LossGradIdeal.main_arg1)) (m ((c.tc : Thread Cert.LossGradIdeal.nD Cert.LossGradIdeal.τ).loc Cert.LossGradIdeal.main_arg2))).1 = (fun _ => 1#1)
    ∧ (Cert.Pre_loss_finite.fn (F := Ideal) (m ((c.tc : Thread Cert.LossGradIdeal.nD Cert.LossGradIdeal.τ).loc Cert.LossGradIdeal.main_arg0)) (m ((c.tc : Thread Cert.LossGradIdeal.nD Cert.LossGradIdeal.τ).loc Cert.LossGradIdeal.main_arg1)) (m ((c.tc : Thread Cert.LossGradIdeal.nD Cert.LossGradIdeal.τ).loc Cert.LossGradIdeal.main_arg2))).2.1 = (fun _ => 1#1)
    ∧ (Cert.Pre_loss_finite.fn (F := Ideal) (m ((c.tc : Thread Cert.LossGradIdeal.nD Cert.LossGradIdeal.τ).loc Cert.LossGradIdeal.main_arg0)) (m ((c.tc : Thread Cert.LossGradIdeal.nD Cert.LossGradIdeal.τ).loc Cert.LossGradIdeal.main_arg1)) (m ((c.tc : Thread Cert.LossGradIdeal.nD Cert.LossGradIdeal.τ).loc Cert.LossGradIdeal.main_arg2))).2.2 = (fun _ => 1#1)

def Pre_DrBwd (m : (ℓ : Loc Cert.DrBwd.nD Cert.DrBwd.τ Cert.DrBwd.sig) → Buf (Elt Bits) ℓ) : Prop :=
  True

def Pre_DrBwdIdeal (m : (ℓ : Loc Cert.DrBwdIdeal.nD Cert.DrBwdIdeal.τ Cert.DrBwdIdeal.sig) → Buf (Elt Ideal) ℓ) : Prop :=
  True

def Pre_DrGradIdeal (m : (ℓ : Loc Cert.DrGradIdeal.nD Cert.DrGradIdeal.τ Cert.DrGradIdeal.sig) → Buf (Elt Ideal) ℓ) : Prop :=
  True

def Pre_GateOutBwd (m : (ℓ : Loc Cert.GateOutBwd.nD Cert.GateOutBwd.τ Cert.GateOutBwd.sig) → Buf (Elt Bits) ℓ) : Prop :=
  True

def Pre_GateOutBwdIdeal (m : (ℓ : Loc Cert.GateOutBwdIdeal.nD Cert.GateOutBwdIdeal.τ Cert.GateOutBwdIdeal.sig) → Buf (Elt Ideal) ℓ) : Prop :=
  True

def Pre_GateOutBwdIdeal_gateout_finite [hPre_gateout_finite : Cert.Pre_gateout_finite.Facts] (m : (ℓ : Loc Cert.GateOutBwdIdeal.nD Cert.GateOutBwdIdeal.τ Cert.GateOutBwdIdeal.sig) → Buf (Elt Ideal) ℓ) : Prop :=
  ∀ c : Dev Cert.GateOutBwdIdeal.nD,
    (Cert.Pre_gateout_finite.fn (F := Ideal) (m ((c.tc : Thread Cert.GateOutBwdIdeal.nD Cert.GateOutBwdIdeal.τ).loc Cert.GateOutBwdIdeal.main_arg0)) (m ((c.tc : Thread Cert.GateOutBwdIdeal.nD Cert.GateOutBwdIdeal.τ).loc Cert.GateOutBwdIdeal.main_arg1)) (m ((c.tc : Thread Cert.GateOutBwdIdeal.nD Cert.GateOutBwdIdeal.τ).loc Cert.GateOutBwdIdeal.main_arg2)) (m ((c.tc : Thread Cert.GateOutBwdIdeal.nD Cert.GateOutBwdIdeal.τ).loc Cert.GateOutBwdIdeal.main_arg3))).1 = (fun _ => 1#1)
    ∧ (Cert.Pre_gateout_finite.fn (F := Ideal) (m ((c.tc : Thread Cert.GateOutBwdIdeal.nD Cert.GateOutBwdIdeal.τ).loc Cert.GateOutBwdIdeal.main_arg0)) (m ((c.tc : Thread Cert.GateOutBwdIdeal.nD Cert.GateOutBwdIdeal.τ).loc Cert.GateOutBwdIdeal.main_arg1)) (m ((c.tc : Thread Cert.GateOutBwdIdeal.nD Cert.GateOutBwdIdeal.τ).loc Cert.GateOutBwdIdeal.main_arg2)) (m ((c.tc : Thread Cert.GateOutBwdIdeal.nD Cert.GateOutBwdIdeal.τ).loc Cert.GateOutBwdIdeal.main_arg3))).2.1 = (fun _ => 1#1)
    ∧ (Cert.Pre_gateout_finite.fn (F := Ideal) (m ((c.tc : Thread Cert.GateOutBwdIdeal.nD Cert.GateOutBwdIdeal.τ).loc Cert.GateOutBwdIdeal.main_arg0)) (m ((c.tc : Thread Cert.GateOutBwdIdeal.nD Cert.GateOutBwdIdeal.τ).loc Cert.GateOutBwdIdeal.main_arg1)) (m ((c.tc : Thread Cert.GateOutBwdIdeal.nD Cert.GateOutBwdIdeal.τ).loc Cert.GateOutBwdIdeal.main_arg2)) (m ((c.tc : Thread Cert.GateOutBwdIdeal.nD Cert.GateOutBwdIdeal.τ).loc Cert.GateOutBwdIdeal.main_arg3))).2.2.1 = (fun _ => 1#1)
    ∧ (Cert.Pre_gateout_finite.fn (F := Ideal) (m ((c.tc : Thread Cert.GateOutBwdIdeal.nD Cert.GateOutBwdIdeal.τ).loc Cert.GateOutBwdIdeal.main_arg0)) (m ((c.tc : Thread Cert.GateOutBwdIdeal.nD Cert.GateOutBwdIdeal.τ).loc Cert.GateOutBwdIdeal.main_arg1)) (m ((c.tc : Thread Cert.GateOutBwdIdeal.nD Cert.GateOutBwdIdeal.τ).loc Cert.GateOutBwdIdeal.main_arg2)) (m ((c.tc : Thread Cert.GateOutBwdIdeal.nD Cert.GateOutBwdIdeal.τ).loc Cert.GateOutBwdIdeal.main_arg3))).2.2.2 = (fun _ => 1#1)

def Pre_GateOutGradIdeal (m : (ℓ : Loc Cert.GateOutGradIdeal.nD Cert.GateOutGradIdeal.τ Cert.GateOutGradIdeal.sig) → Buf (Elt Ideal) ℓ) : Prop :=
  True

def Pre_GateOutGradIdeal_gateout_finite [hPre_gateout_finite : Cert.Pre_gateout_finite.Facts] (m : (ℓ : Loc Cert.GateOutGradIdeal.nD Cert.GateOutGradIdeal.τ Cert.GateOutGradIdeal.sig) → Buf (Elt Ideal) ℓ) : Prop :=
  ∀ c : Dev Cert.GateOutGradIdeal.nD,
    (Cert.Pre_gateout_finite.fn (F := Ideal) (m ((c.tc : Thread Cert.GateOutGradIdeal.nD Cert.GateOutGradIdeal.τ).loc Cert.GateOutGradIdeal.main_arg0)) (m ((c.tc : Thread Cert.GateOutGradIdeal.nD Cert.GateOutGradIdeal.τ).loc Cert.GateOutGradIdeal.main_arg1)) (m ((c.tc : Thread Cert.GateOutGradIdeal.nD Cert.GateOutGradIdeal.τ).loc Cert.GateOutGradIdeal.main_arg2)) (m ((c.tc : Thread Cert.GateOutGradIdeal.nD Cert.GateOutGradIdeal.τ).loc Cert.GateOutGradIdeal.main_arg3))).1 = (fun _ => 1#1)
    ∧ (Cert.Pre_gateout_finite.fn (F := Ideal) (m ((c.tc : Thread Cert.GateOutGradIdeal.nD Cert.GateOutGradIdeal.τ).loc Cert.GateOutGradIdeal.main_arg0)) (m ((c.tc : Thread Cert.GateOutGradIdeal.nD Cert.GateOutGradIdeal.τ).loc Cert.GateOutGradIdeal.main_arg1)) (m ((c.tc : Thread Cert.GateOutGradIdeal.nD Cert.GateOutGradIdeal.τ).loc Cert.GateOutGradIdeal.main_arg2)) (m ((c.tc : Thread Cert.GateOutGradIdeal.nD Cert.GateOutGradIdeal.τ).loc Cert.GateOutGradIdeal.main_arg3))).2.1 = (fun _ => 1#1)
    ∧ (Cert.Pre_gateout_finite.fn (F := Ideal) (m ((c.tc : Thread Cert.GateOutGradIdeal.nD Cert.GateOutGradIdeal.τ).loc Cert.GateOutGradIdeal.main_arg0)) (m ((c.tc : Thread Cert.GateOutGradIdeal.nD Cert.GateOutGradIdeal.τ).loc Cert.GateOutGradIdeal.main_arg1)) (m ((c.tc : Thread Cert.GateOutGradIdeal.nD Cert.GateOutGradIdeal.τ).loc Cert.GateOutGradIdeal.main_arg2)) (m ((c.tc : Thread Cert.GateOutGradIdeal.nD Cert.GateOutGradIdeal.τ).loc Cert.GateOutGradIdeal.main_arg3))).2.2.1 = (fun _ => 1#1)
    ∧ (Cert.Pre_gateout_finite.fn (F := Ideal) (m ((c.tc : Thread Cert.GateOutGradIdeal.nD Cert.GateOutGradIdeal.τ).loc Cert.GateOutGradIdeal.main_arg0)) (m ((c.tc : Thread Cert.GateOutGradIdeal.nD Cert.GateOutGradIdeal.τ).loc Cert.GateOutGradIdeal.main_arg1)) (m ((c.tc : Thread Cert.GateOutGradIdeal.nD Cert.GateOutGradIdeal.τ).loc Cert.GateOutGradIdeal.main_arg2)) (m ((c.tc : Thread Cert.GateOutGradIdeal.nD Cert.GateOutGradIdeal.τ).loc Cert.GateOutGradIdeal.main_arg3))).2.2.2 = (fun _ => 1#1)

def Pre_SsdBwd (m : (ℓ : Loc Cert.SsdBwd.nD Cert.SsdBwd.τ Cert.SsdBwd.sig) → Buf (Elt Bits) ℓ) : Prop :=
  True

def Pre_SsdBwdIdeal (m : (ℓ : Loc Cert.SsdBwdIdeal.nD Cert.SsdBwdIdeal.τ Cert.SsdBwdIdeal.sig) → Buf (Elt Ideal) ℓ) : Prop :=
  True

def Pre_SsdGradIdeal (m : (ℓ : Loc Cert.SsdGradIdeal.nD Cert.SsdGradIdeal.τ Cert.SsdGradIdeal.sig) → Buf (Elt Ideal) ℓ) : Prop :=
  True

def Pre_ScanFwd (m : (ℓ : Loc Cert.ScanFwd.nD Cert.ScanFwd.τ Cert.ScanFwd.sig) → Buf (Elt Bits) ℓ) : Prop :=
  True

def Pre_ScanFwdIdeal (m : (ℓ : Loc Cert.ScanFwdIdeal.nD Cert.ScanFwdIdeal.τ Cert.ScanFwdIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_ConvPre (m : (ℓ : Loc Cert.ConvPre.nD Cert.ConvPre.τ Cert.ConvPre.sig) → Buf (Elt Bits) ℓ) : Prop :=
  True

def Pre_ConvPreIdeal (m : (ℓ : Loc Cert.ConvPreIdeal.nD Cert.ConvPreIdeal.τ Cert.ConvPreIdeal.sig) → Buf (Elt Ideal) ℓ) : Prop :=
  True

def Pre_ConvPreIdeal_convpre_finite [hPre_convpre_finite : Cert.Pre_convpre_finite.Facts] (m : (ℓ : Loc Cert.ConvPreIdeal.nD Cert.ConvPreIdeal.τ Cert.ConvPreIdeal.sig) → Buf (Elt Ideal) ℓ) : Prop :=
  ∀ c : Dev Cert.ConvPreIdeal.nD,
    (Cert.Pre_convpre_finite.fn (F := Ideal) (m ((c.tc : Thread Cert.ConvPreIdeal.nD Cert.ConvPreIdeal.τ).loc Cert.ConvPreIdeal.main_arg0)) (m ((c.tc : Thread Cert.ConvPreIdeal.nD Cert.ConvPreIdeal.τ).loc Cert.ConvPreIdeal.main_arg1)) (m ((c.tc : Thread Cert.ConvPreIdeal.nD Cert.ConvPreIdeal.τ).loc Cert.ConvPreIdeal.main_arg2)) (m ((c.tc : Thread Cert.ConvPreIdeal.nD Cert.ConvPreIdeal.τ).loc Cert.ConvPreIdeal.main_arg3))) = (fun _ => 1#1)

def Pre_ConvPreRefIdeal (m : (ℓ : Loc Cert.ConvPreRefIdeal.nD Cert.ConvPreRefIdeal.τ Cert.ConvPreRefIdeal.sig) → Buf (Elt Ideal) ℓ) : Prop :=
  True

def Pre_ConvPreRefIdeal_convpre_finite [hPre_convpre_finite : Cert.Pre_convpre_finite.Facts] (m : (ℓ : Loc Cert.ConvPreRefIdeal.nD Cert.ConvPreRefIdeal.τ Cert.ConvPreRefIdeal.sig) → Buf (Elt Ideal) ℓ) : Prop :=
  ∀ c : Dev Cert.ConvPreRefIdeal.nD,
    (Cert.Pre_convpre_finite.fn (F := Ideal) (m ((c.tc : Thread Cert.ConvPreRefIdeal.nD Cert.ConvPreRefIdeal.τ).loc Cert.ConvPreRefIdeal.main_arg0)) (m ((c.tc : Thread Cert.ConvPreRefIdeal.nD Cert.ConvPreRefIdeal.τ).loc Cert.ConvPreRefIdeal.main_arg1)) (m ((c.tc : Thread Cert.ConvPreRefIdeal.nD Cert.ConvPreRefIdeal.τ).loc Cert.ConvPreRefIdeal.main_arg2)) (m ((c.tc : Thread Cert.ConvPreRefIdeal.nD Cert.ConvPreRefIdeal.τ).loc Cert.ConvPreRefIdeal.main_arg3))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_SkipFwd (m : (ℓ : Loc Cert.SkipFwd.nD Cert.SkipFwd.τ Cert.SkipFwd.sig) → Buf (Elt Bits) ℓ) : Prop :=
  True

def Pre_SkipFwdIdeal (m : (ℓ : Loc Cert.SkipFwdIdeal.nD Cert.SkipFwdIdeal.τ Cert.SkipFwdIdeal.sig) → Buf (Elt Ideal) ℓ) : Prop :=
  True

def Pre_SkipRefIdeal (m : (ℓ : Loc Cert.SkipRefIdeal.nD Cert.SkipRefIdeal.τ Cert.SkipRefIdeal.sig) → Buf (Elt Ideal) ℓ) : Prop :=
  True

def Pre_GatedFwd (m : (ℓ : Loc Cert.GatedFwd.nD Cert.GatedFwd.τ Cert.GatedFwd.sig) → Buf (Elt Bits) ℓ) : Prop :=
  True

def Pre_GatedFwdIdeal (m : (ℓ : Loc Cert.GatedFwdIdeal.nD Cert.GatedFwdIdeal.τ Cert.GatedFwdIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_GroupFwd (m : (ℓ : Loc Cert.GroupFwd.nD Cert.GroupFwd.τ Cert.GroupFwd.sig) → Buf (Elt Bits) ℓ) : Prop :=
  True

def Pre_GroupFwdIdeal (m : (ℓ : Loc Cert.GroupFwdIdeal.nD Cert.GroupFwdIdeal.τ Cert.GroupFwdIdeal.sig) → Buf (Elt Ideal) ℓ) : Prop :=
  True

def Pre_GroupRefIdeal (m : (ℓ : Loc Cert.GroupRefIdeal.nD Cert.GroupRefIdeal.τ Cert.GroupRefIdeal.sig) → Buf (Elt Ideal) ℓ) : Prop :=
  True

def Pre_ReluFwd (m : (ℓ : Loc Cert.ReluFwd.nD Cert.ReluFwd.τ Cert.ReluFwd.sig) → Buf (Elt Bits) ℓ) : Prop :=
  True

def Pre_ReluFwdIdeal (m : (ℓ : Loc Cert.ReluFwdIdeal.nD Cert.ReluFwdIdeal.τ Cert.ReluFwdIdeal.sig) → Buf (Elt Ideal) ℓ) : Prop :=
  True

def Pre_ReluRefIdeal (m : (ℓ : Loc Cert.ReluRefIdeal.nD Cert.ReluRefIdeal.τ Cert.ReluRefIdeal.sig) → Buf (Elt Ideal) ℓ) : Prop :=
  True

def Pre_SquareFwd (m : (ℓ : Loc Cert.SquareFwd.nD Cert.SquareFwd.τ Cert.SquareFwd.sig) → Buf (Elt Bits) ℓ) : Prop :=
  True

def Pre_SquareFwdIdeal (m : (ℓ : Loc Cert.SquareFwdIdeal.nD Cert.SquareFwdIdeal.τ Cert.SquareFwdIdeal.sig) → Buf (Elt Ideal) ℓ) : Prop :=
  True

def Pre_SquareRefIdeal (m : (ℓ : Loc Cert.SquareRefIdeal.nD Cert.SquareRefIdeal.τ Cert.SquareRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_WinFwd (m : (ℓ : Loc Cert.WinFwd.nD Cert.WinFwd.τ Cert.WinFwd.sig) → Buf (Elt Bits) ℓ) : Prop :=
  True

def Pre_WinFwdIdeal (m : (ℓ : Loc Cert.WinFwdIdeal.nD Cert.WinFwdIdeal.τ Cert.WinFwdIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_WzFwd (m : (ℓ : Loc Cert.WzFwd.nD Cert.WzFwd.τ Cert.WzFwd.sig) → Buf (Elt Bits) ℓ) : Prop :=
  True

def Pre_WzFwdIdeal (m : (ℓ : Loc Cert.WzFwdIdeal.nD Cert.WzFwdIdeal.τ Cert.WzFwdIdeal.sig) → Buf (Elt Ideal) ℓ) : Prop :=
  True

def Pre_WzRefIdeal (m : (ℓ : Loc Cert.WzRefIdeal.nD Cert.WzRefIdeal.τ Cert.WzRefIdeal.sig) → Buf (Elt Ideal) ℓ) : Prop :=
  True

def Pre_WxbcFwd (m : (ℓ : Loc Cert.WxbcFwd.nD Cert.WxbcFwd.τ Cert.WxbcFwd.sig) → Buf (Elt Bits) ℓ) : Prop :=
  True

def Pre_WxbcFwdIdeal (m : (ℓ : Loc Cert.WxbcFwdIdeal.nD Cert.WxbcFwdIdeal.τ Cert.WxbcFwdIdeal.sig) → Buf (Elt Ideal) ℓ) : Prop :=
  True

def Pre_WxbcRefIdeal (m : (ℓ : Loc Cert.WxbcRefIdeal.nD Cert.WxbcRefIdeal.τ Cert.WxbcRefIdeal.sig) → Buf (Elt Ideal) ℓ) : Prop :=
  True

def Pre_WdtFwd (m : (ℓ : Loc Cert.WdtFwd.nD Cert.WdtFwd.τ Cert.WdtFwd.sig) → Buf (Elt Bits) ℓ) : Prop :=
  True

def Pre_WdtFwdIdeal (m : (ℓ : Loc Cert.WdtFwdIdeal.nD Cert.WdtFwdIdeal.τ Cert.WdtFwdIdeal.sig) → Buf (Elt Ideal) ℓ) : Prop :=
  True

def Pre_WdtRefIdeal (m : (ℓ : Loc Cert.WdtRefIdeal.nD Cert.WdtRefIdeal.τ Cert.WdtRefIdeal.sig) → Buf (Elt Ideal) ℓ) : Prop :=
  True

def Pre_DhBwd (m : (ℓ : Loc Cert.DhBwd.nD Cert.DhBwd.τ Cert.DhBwd.sig) → Buf (Elt Bits) ℓ) : Prop :=
  True

def Pre_DhBwdIdeal (m : (ℓ : Loc Cert.DhBwdIdeal.nD Cert.DhBwdIdeal.τ Cert.DhBwdIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_DmlpBwd (m : (ℓ : Loc Cert.DmlpBwd.nD Cert.DmlpBwd.τ Cert.DmlpBwd.sig) → Buf (Elt Bits) ℓ) : Prop :=
  True

def Pre_DmlpBwdIdeal (m : (ℓ : Loc Cert.DmlpBwdIdeal.nD Cert.DmlpBwdIdeal.τ Cert.DmlpBwdIdeal.sig) → Buf (Elt Ideal) ℓ) : Prop :=
  True

def Pre_DmlpRefIdeal (m : (ℓ : Loc Cert.DmlpRefIdeal.nD Cert.DmlpRefIdeal.τ Cert.DmlpRefIdeal.sig) → Buf (Elt Ideal) ℓ) : Prop :=
  True

def Pre_DglBwd (m : (ℓ : Loc Cert.DglBwd.nD Cert.DglBwd.τ Cert.DglBwd.sig) → Buf (Elt Bits) ℓ) : Prop :=
  True

def Pre_DglBwdIdeal (m : (ℓ : Loc Cert.DglBwdIdeal.nD Cert.DglBwdIdeal.τ Cert.DglBwdIdeal.sig) → Buf (Elt Ideal) ℓ) : Prop :=
  True

def Pre_DglRefIdeal (m : (ℓ : Loc Cert.DglRefIdeal.nD Cert.DglRefIdeal.τ Cert.DglRefIdeal.sig) → Buf (Elt Ideal) ℓ) : Prop :=
  True

def Pre_DynBwd (m : (ℓ : Loc Cert.DynBwd.nD Cert.DynBwd.τ Cert.DynBwd.sig) → Buf (Elt Bits) ℓ) : Prop :=
  True

def Pre_DynBwdIdeal (m : (ℓ : Loc Cert.DynBwdIdeal.nD Cert.DynBwdIdeal.τ Cert.DynBwdIdeal.sig) → Buf (Elt Ideal) ℓ) : Prop :=
  True

def Pre_DynRefIdeal (m : (ℓ : Loc Cert.DynRefIdeal.nD Cert.DynRefIdeal.τ Cert.DynRefIdeal.sig) → Buf (Elt Ideal) ℓ) : Prop :=
  True

def Pre_DxbcBwd (m : (ℓ : Loc Cert.DxbcBwd.nD Cert.DxbcBwd.τ Cert.DxbcBwd.sig) → Buf (Elt Bits) ℓ) : Prop :=
  True

def Pre_DxbcBwdIdeal (m : (ℓ : Loc Cert.DxbcBwdIdeal.nD Cert.DxbcBwdIdeal.τ Cert.DxbcBwdIdeal.sig) → Buf (Elt Ideal) ℓ) : Prop :=
  True

def Pre_DxbcRefIdeal (m : (ℓ : Loc Cert.DxbcRefIdeal.nD Cert.DxbcRefIdeal.τ Cert.DxbcRefIdeal.sig) → Buf (Elt Ideal) ℓ) : Prop :=
  True

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3)
      ∧ r.2.mem ((c.tc : Thread Cert.GluBwd.nD Cert.GluBwd.τ).loc Cert.GluBwd.main_arg4) = m ((c.tc : Thread Cert.GluBwd.nD Cert.GluBwd.τ).loc Cert.GluBwd.main_arg4))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ r.2.sem = fun _ => 0)

def quiescent_GluGradIdeal [hGluGradIdeal : Cert.GluGradIdeal.Facts] : Prop :=
  ∀ (m : (ℓ : Loc Cert.GluGradIdeal.nD Cert.GluGradIdeal.τ Cert.GluGradIdeal.sig) → Buf (Elt Ideal) ℓ) (g : Dev Cert.GluGradIdeal.nD → PrngReg), Pre_GluGradIdeal m →
    θ_run (Cert.GluGradIdeal.defs (F := Ideal)) (onTc (τ := Cert.GluGradIdeal.τ) (Cert.GluGradIdeal.main (F := Ideal))) ⟨m, fun _ => 0, g⟩ (fun r => (∀ c : Dev Cert.GluGradIdeal.nD,
      r.2.mem ((c.tc : Thread Cert.GluGradIdeal.nD Cert.GluGradIdeal.τ).loc Cert.GluGradIdeal.main_arg0) = m ((c.tc : Thread Cert.GluGradIdeal.nD Cert.GluGradIdeal.τ).loc Cert.GluGradIdeal.main_arg0)
      ∧ r.2.mem ((c.tc : Thread Cert.GluGradIdeal.nD Cert.GluGradIdeal.τ).loc Cert.GluGradIdeal.main_arg1) = m ((c.tc : Thread Cert.GluGradIdeal.nD Cert.GluGradIdeal.τ).loc Cert.GluGradIdeal.main_arg1)
      ∧ r.2.mem ((c.tc : Thread Cert.GluGradIdeal.nD Cert.GluGradIdeal.τ).loc Cert.GluGradIdeal.main_arg2) = m ((c.tc : Thread Cert.GluGradIdeal.nD Cert.GluGradIdeal.τ).loc Cert.GluGradIdeal.main_arg2)
      ∧ r.2.mem ((c.tc : Thread Cert.GluGradIdeal.nD Cert.GluGradIdeal.τ).loc Cert.GluGradIdeal.main_arg3) = m ((c.tc : Thread Cert.GluGradIdeal.nD Cert.GluGradIdeal.τ).loc Cert.GluGradIdeal.main_arg3)
      ∧ r.2.mem ((c.tc : Thread Cert.GluGradIdeal.nD Cert.GluGradIdeal.τ).loc Cert.GluGradIdeal.main_arg4) = m ((c.tc : Thread Cert.GluGradIdeal.nD Cert.GluGradIdeal.τ).loc Cert.GluGradIdeal.main_arg4))
      ∧ r.2.sem = fun _ => 0)

def quiescent_GeluBwd [hGeluBwd : Cert.GeluBwd.Facts] : Prop :=
  ∀ (m : (ℓ : Loc Cert.GeluBwd.nD Cert.GeluBwd.τ Cert.GeluBwd.sig) → Buf (Elt Bits) ℓ) (g : Dev Cert.GeluBwd.nD → PrngReg), Pre_GeluBwd m →
    θ_run (Cert.GeluBwd.defs (F := Bits)) (onTc (τ := Cert.GeluBwd.τ) (Cert.GeluBwd.main (F := Bits))) ⟨m, fun _ => 0, g⟩ (fun r => (∀ c : Dev Cert.GeluBwd.nD,
      r.2.mem ((c.tc : Thread Cert.GeluBwd.nD Cert.GeluBwd.τ).loc Cert.GeluBwd.main_arg0) = m ((c.tc : Thread Cert.GeluBwd.nD Cert.GeluBwd.τ).loc Cert.GeluBwd.main_arg0)
      ∧ r.2.mem ((c.tc : Thread Cert.GeluBwd.nD Cert.GeluBwd.τ).loc Cert.GeluBwd.main_arg1) = m ((c.tc : Thread Cert.GeluBwd.nD Cert.GeluBwd.τ).loc Cert.GeluBwd.main_arg1)
      ∧ r.2.mem ((c.tc : Thread Cert.GeluBwd.nD Cert.GeluBwd.τ).loc Cert.GeluBwd.main_arg2) = m ((c.tc : Thread Cert.GeluBwd.nD Cert.GeluBwd.τ).loc Cert.GeluBwd.main_arg2)
      ∧ r.2.mem ((c.tc : Thread Cert.GeluBwd.nD Cert.GeluBwd.τ).loc Cert.GeluBwd.main_arg3) = m ((c.tc : Thread Cert.GeluBwd.nD Cert.GeluBwd.τ).loc Cert.GeluBwd.main_arg3)
      ∧ r.2.mem ((c.tc : Thread Cert.GeluBwd.nD Cert.GeluBwd.τ).loc Cert.GeluBwd.main_arg4) = m ((c.tc : Thread Cert.GeluBwd.nD Cert.GeluBwd.τ).loc Cert.GeluBwd.main_arg4))
      ∧ r.2.sem = fun _ => 0)

def quiescent_GeluBwdIdeal [hGeluBwdIdeal : Cert.GeluBwdIdeal.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg), Pre_GeluBwdIdeal m →
    θ_run (Cert.GeluBwdIdeal.defs (F := Ideal)) (onTc (τ := Cert.GeluBwdIdeal.τ) (Cert.GeluBwdIdeal.main (F := Ideal))) ⟨m, fun _ => 0, g⟩ (fun r => (∀ c : Dev Cert.GeluBwdIdeal.nD,
      r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
      ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1)
      ∧ r.2.mem ((c.tc : Thread Cert.GeluBwdIdeal.nD Cert.GeluBwdIdeal.τ).loc Cert.GeluBwdIdeal.main_arg2) = m ((c.tc : Thread Cert.GeluBwdIdeal.nD Cert.GeluBwdIdeal.τ).loc Cert.GeluBwdIdeal.main_arg2)
      ∧ r.2.mem ((c.tc : Thread Cert.GeluBwdIdeal.nD Cert.GeluBwdIdeal.τ).loc Cert.GeluBwdIdeal.main_arg3) = m ((c.tc : Thread Cert.GeluBwdIdeal.nD Cert.GeluBwdIdeal.τ).loc Cert.GeluBwdIdeal.main_arg3)
      ∧ r.2.mem ((c.tc : Thread Cert.GeluBwdIdeal.nD Cert.GeluBwdIdeal.τ).loc Cert.GeluBwdIdeal.main_arg4) = m ((c.tc : Thread Cert.GeluBwdIdeal.nD Cert.GeluBwdIdeal.τ).loc Cert.GeluBwdIdeal.main_arg4))
      ∧ r.2.sem = fun _ => 0)

def quiescent_GeluBwdIdeal_pre_gelu_finite [hGeluBwdIdeal : Cert.GeluBwdIdeal.Facts] [hPre_gelu_finite : Cert.Pre_gelu_finite.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg), Pre_GeluBwdIdeal_gelu_finite m →
    θ_run (Cert.GeluBwdIdeal.defs (F := Ideal)) (onTc (τ := Cert.GeluBwdIdeal.τ) (Cert.GeluBwdIdeal.main (F := Ideal))) ⟨m, fun _ => 0, g⟩ (fun r => (∀ c : Dev Cert.GeluBwdIdeal.nD,
      r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
      ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1)
      ∧ r.2.mem ((c.tc : Thread Cert.GeluBwdIdeal.nD Cert.GeluBwdIdeal.τ).loc Cert.GeluBwdIdeal.main_arg2) = m ((c.tc : Thread Cert.GeluBwdIdeal.nD Cert.GeluBwdIdeal.τ).loc Cert.GeluBwdIdeal.main_arg2)
      ∧ r.2.mem ((c.tc : Thread Cert.GeluBwdIdeal.nD Cert.GeluBwdIdeal.τ).loc Cert.GeluBwdIdeal.main_arg3) = m ((c.tc : Thread Cert.GeluBwdIdeal.nD Cert.GeluBwdIdeal.τ).loc Cert.GeluBwdIdeal.main_arg3)
      ∧ r.2.mem ((c.tc : Thread Cert.GeluBwdIdeal.nD Cert.GeluBwdIdeal.τ).loc Cert.GeluBwdIdeal.main_arg4) = m ((c.tc : Thread Cert.GeluBwdIdeal.nD Cert.GeluBwdIdeal.τ).loc Cert.GeluBwdIdeal.main_arg4))
      ∧ r.2.sem = fun _ => 0)

def quiescent_GeluGradIdeal [hGeluGradIdeal : Cert.GeluGradIdeal.Facts] : Prop :=
  ∀ (m : (ℓ : Loc Cert.GeluGradIdeal.nD Cert.GeluGradIdeal.τ Cert.GeluGradIdeal.sig) → Buf (Elt Ideal) ℓ) (g : Dev Cert.GeluGradIdeal.nD → PrngReg), Pre_GeluGradIdeal m →
    θ_run (Cert.GeluGradIdeal.defs (F := Ideal)) (onTc (τ := Cert.GeluGradIdeal.τ) (Cert.GeluGradIdeal.main (F := Ideal))) ⟨m, fun _ => 0, g⟩ (fun r => (∀ c : Dev Cert.GeluGradIdeal.nD,
      r.2.mem ((c.tc : Thread Cert.GeluGradIdeal.nD Cert.GeluGradIdeal.τ).loc Cert.GeluGradIdeal.main_arg0) = m ((c.tc : Thread Cert.GeluGradIdeal.nD Cert.GeluGradIdeal.τ).loc Cert.GeluGradIdeal.main_arg0)
      ∧ r.2.mem ((c.tc : Thread Cert.GeluGradIdeal.nD Cert.GeluGradIdeal.τ).loc Cert.GeluGradIdeal.main_arg1) = m ((c.tc : Thread Cert.GeluGradIdeal.nD Cert.GeluGradIdeal.τ).loc Cert.GeluGradIdeal.main_arg1)
      ∧ r.2.mem ((c.tc : Thread Cert.GeluGradIdeal.nD Cert.GeluGradIdeal.τ).loc Cert.GeluGradIdeal.main_arg2) = m ((c.tc : Thread Cert.GeluGradIdeal.nD Cert.GeluGradIdeal.τ).loc Cert.GeluGradIdeal.main_arg2)
      ∧ r.2.mem ((c.tc : Thread Cert.GeluGradIdeal.nD Cert.GeluGradIdeal.τ).loc Cert.GeluGradIdeal.main_arg3) = m ((c.tc : Thread Cert.GeluGradIdeal.nD Cert.GeluGradIdeal.τ).loc Cert.GeluGradIdeal.main_arg3)
      ∧ r.2.mem ((c.tc : Thread Cert.GeluGradIdeal.nD Cert.GeluGradIdeal.τ).loc Cert.GeluGradIdeal.main_arg4) = m ((c.tc : Thread Cert.GeluGradIdeal.nD Cert.GeluGradIdeal.τ).loc Cert.GeluGradIdeal.main_arg4))
      ∧ r.2.sem = fun _ => 0)

def quiescent_GeluGradIdeal_pre_gelu_finite [hGeluGradIdeal : Cert.GeluGradIdeal.Facts] [hPre_gelu_finite : Cert.Pre_gelu_finite.Facts] : Prop :=
  ∀ (m : (ℓ : Loc Cert.GeluGradIdeal.nD Cert.GeluGradIdeal.τ Cert.GeluGradIdeal.sig) → Buf (Elt Ideal) ℓ) (g : Dev Cert.GeluGradIdeal.nD → PrngReg), Pre_GeluGradIdeal_gelu_finite m →
    θ_run (Cert.GeluGradIdeal.defs (F := Ideal)) (onTc (τ := Cert.GeluGradIdeal.τ) (Cert.GeluGradIdeal.main (F := Ideal))) ⟨m, fun _ => 0, g⟩ (fun r => (∀ c : Dev Cert.GeluGradIdeal.nD,
      r.2.mem ((c.tc : Thread Cert.GeluGradIdeal.nD Cert.GeluGradIdeal.τ).loc Cert.GeluGradIdeal.main_arg0) = m ((c.tc : Thread Cert.GeluGradIdeal.nD Cert.GeluGradIdeal.τ).loc Cert.GeluGradIdeal.main_arg0)
      ∧ r.2.mem ((c.tc : Thread Cert.GeluGradIdeal.nD Cert.GeluGradIdeal.τ).loc Cert.GeluGradIdeal.main_arg1) = m ((c.tc : Thread Cert.GeluGradIdeal.nD Cert.GeluGradIdeal.τ).loc Cert.GeluGradIdeal.main_arg1)
      ∧ r.2.mem ((c.tc : Thread Cert.GeluGradIdeal.nD Cert.GeluGradIdeal.τ).loc Cert.GeluGradIdeal.main_arg2) = m ((c.tc : Thread Cert.GeluGradIdeal.nD Cert.GeluGradIdeal.τ).loc Cert.GeluGradIdeal.main_arg2)
      ∧ r.2.mem ((c.tc : Thread Cert.GeluGradIdeal.nD Cert.GeluGradIdeal.τ).loc Cert.GeluGradIdeal.main_arg3) = m ((c.tc : Thread Cert.GeluGradIdeal.nD Cert.GeluGradIdeal.τ).loc Cert.GeluGradIdeal.main_arg3)
      ∧ r.2.mem ((c.tc : Thread Cert.GeluGradIdeal.nD Cert.GeluGradIdeal.τ).loc Cert.GeluGradIdeal.main_arg4) = m ((c.tc : Thread Cert.GeluGradIdeal.nD Cert.GeluGradIdeal.τ).loc Cert.GeluGradIdeal.main_arg4))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdIdeal_pre_norm_finite [hNormBwdIdeal : Cert.NormBwdIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_norm_finite m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5))
      ∧ r.2.sem = fun _ => 0)

def quiescent_NormGradIdeal_pre_norm_finite [hNormGradIdeal : Cert.NormGradIdeal.Facts] [hPre_norm_finite : Cert.Pre_norm_finite.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_norm_finite m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5))
      ∧ r.2.sem = fun _ => 0)

def quiescent_GateNormBwd [hGateNormBwd : Cert.GateNormBwd.Facts] : Prop :=
  ∀ (m : (ℓ : Loc Cert.GateNormBwd.nD Cert.GateNormBwd.τ Cert.GateNormBwd.sig) → Buf (Elt Bits) ℓ) (g : Dev Cert.GateNormBwd.nD → PrngReg), Pre_GateNormBwd m →
    θ_run (Cert.GateNormBwd.defs (F := Bits)) (onTc (τ := Cert.GateNormBwd.τ) (Cert.GateNormBwd.main (F := Bits))) ⟨m, fun _ => 0, g⟩ (fun r => (∀ c : Dev Cert.GateNormBwd.nD,
      r.2.mem ((c.tc : Thread Cert.GateNormBwd.nD Cert.GateNormBwd.τ).loc Cert.GateNormBwd.main_arg0) = m ((c.tc : Thread Cert.GateNormBwd.nD Cert.GateNormBwd.τ).loc Cert.GateNormBwd.main_arg0)
      ∧ r.2.mem ((c.tc : Thread Cert.GateNormBwd.nD Cert.GateNormBwd.τ).loc Cert.GateNormBwd.main_arg1) = m ((c.tc : Thread Cert.GateNormBwd.nD Cert.GateNormBwd.τ).loc Cert.GateNormBwd.main_arg1)
      ∧ r.2.mem ((c.tc : Thread Cert.GateNormBwd.nD Cert.GateNormBwd.τ).loc Cert.GateNormBwd.main_arg2) = m ((c.tc : Thread Cert.GateNormBwd.nD Cert.GateNormBwd.τ).loc Cert.GateNormBwd.main_arg2)
      ∧ r.2.mem ((c.tc : Thread Cert.GateNormBwd.nD Cert.GateNormBwd.τ).loc Cert.GateNormBwd.main_arg3) = m ((c.tc : Thread Cert.GateNormBwd.nD Cert.GateNormBwd.τ).loc Cert.GateNormBwd.main_arg3))
      ∧ r.2.sem = fun _ => 0)

def quiescent_GateNormBwdIdeal [hGateNormBwdIdeal : Cert.GateNormBwdIdeal.Facts] : Prop :=
  ∀ (m : (ℓ : Loc Cert.GateNormBwdIdeal.nD Cert.GateNormBwdIdeal.τ Cert.GateNormBwdIdeal.sig) → Buf (Elt Ideal) ℓ) (g : Dev Cert.GateNormBwdIdeal.nD → PrngReg), Pre_GateNormBwdIdeal m →
    θ_run (Cert.GateNormBwdIdeal.defs (F := Ideal)) (onTc (τ := Cert.GateNormBwdIdeal.τ) (Cert.GateNormBwdIdeal.main (F := Ideal))) ⟨m, fun _ => 0, g⟩ (fun r => (∀ c : Dev Cert.GateNormBwdIdeal.nD,
      r.2.mem ((c.tc : Thread Cert.GateNormBwdIdeal.nD Cert.GateNormBwdIdeal.τ).loc Cert.GateNormBwdIdeal.main_arg0) = m ((c.tc : Thread Cert.GateNormBwdIdeal.nD Cert.GateNormBwdIdeal.τ).loc Cert.GateNormBwdIdeal.main_arg0)
      ∧ r.2.mem ((c.tc : Thread Cert.GateNormBwdIdeal.nD Cert.GateNormBwdIdeal.τ).loc Cert.GateNormBwdIdeal.main_arg1) = m ((c.tc : Thread Cert.GateNormBwdIdeal.nD Cert.GateNormBwdIdeal.τ).loc Cert.GateNormBwdIdeal.main_arg1)
      ∧ r.2.mem ((c.tc : Thread Cert.GateNormBwdIdeal.nD Cert.GateNormBwdIdeal.τ).loc Cert.GateNormBwdIdeal.main_arg2) = m ((c.tc : Thread Cert.GateNormBwdIdeal.nD Cert.GateNormBwdIdeal.τ).loc Cert.GateNormBwdIdeal.main_arg2)
      ∧ r.2.mem ((c.tc : Thread Cert.GateNormBwdIdeal.nD Cert.GateNormBwdIdeal.τ).loc Cert.GateNormBwdIdeal.main_arg3) = m ((c.tc : Thread Cert.GateNormBwdIdeal.nD Cert.GateNormBwdIdeal.τ).loc Cert.GateNormBwdIdeal.main_arg3))
      ∧ r.2.sem = fun _ => 0)

def quiescent_GateNormBwdIdeal_pre_gatenorm_finite [hGateNormBwdIdeal : Cert.GateNormBwdIdeal.Facts] [hPre_gatenorm_finite : Cert.Pre_gatenorm_finite.Facts] : Prop :=
  ∀ (m : (ℓ : Loc Cert.GateNormBwdIdeal.nD Cert.GateNormBwdIdeal.τ Cert.GateNormBwdIdeal.sig) → Buf (Elt Ideal) ℓ) (g : Dev Cert.GateNormBwdIdeal.nD → PrngReg), Pre_GateNormBwdIdeal_gatenorm_finite m →
    θ_run (Cert.GateNormBwdIdeal.defs (F := Ideal)) (onTc (τ := Cert.GateNormBwdIdeal.τ) (Cert.GateNormBwdIdeal.main (F := Ideal))) ⟨m, fun _ => 0, g⟩ (fun r => (∀ c : Dev Cert.GateNormBwdIdeal.nD,
      r.2.mem ((c.tc : Thread Cert.GateNormBwdIdeal.nD Cert.GateNormBwdIdeal.τ).loc Cert.GateNormBwdIdeal.main_arg0) = m ((c.tc : Thread Cert.GateNormBwdIdeal.nD Cert.GateNormBwdIdeal.τ).loc Cert.GateNormBwdIdeal.main_arg0)
      ∧ r.2.mem ((c.tc : Thread Cert.GateNormBwdIdeal.nD Cert.GateNormBwdIdeal.τ).loc Cert.GateNormBwdIdeal.main_arg1) = m ((c.tc : Thread Cert.GateNormBwdIdeal.nD Cert.GateNormBwdIdeal.τ).loc Cert.GateNormBwdIdeal.main_arg1)
      ∧ r.2.mem ((c.tc : Thread Cert.GateNormBwdIdeal.nD Cert.GateNormBwdIdeal.τ).loc Cert.GateNormBwdIdeal.main_arg2) = m ((c.tc : Thread Cert.GateNormBwdIdeal.nD Cert.GateNormBwdIdeal.τ).loc Cert.GateNormBwdIdeal.main_arg2)
      ∧ r.2.mem ((c.tc : Thread Cert.GateNormBwdIdeal.nD Cert.GateNormBwdIdeal.τ).loc Cert.GateNormBwdIdeal.main_arg3) = m ((c.tc : Thread Cert.GateNormBwdIdeal.nD Cert.GateNormBwdIdeal.τ).loc Cert.GateNormBwdIdeal.main_arg3))
      ∧ r.2.sem = fun _ => 0)

def quiescent_GateNormGradIdeal [hGateNormGradIdeal : Cert.GateNormGradIdeal.Facts] : Prop :=
  ∀ (m : (ℓ : Loc Cert.GateNormGradIdeal.nD Cert.GateNormGradIdeal.τ Cert.GateNormGradIdeal.sig) → Buf (Elt Ideal) ℓ) (g : Dev Cert.GateNormGradIdeal.nD → PrngReg), Pre_GateNormGradIdeal m →
    θ_run (Cert.GateNormGradIdeal.defs (F := Ideal)) (onTc (τ := Cert.GateNormGradIdeal.τ) (Cert.GateNormGradIdeal.main (F := Ideal))) ⟨m, fun _ => 0, g⟩ (fun r => (∀ c : Dev Cert.GateNormGradIdeal.nD,
      r.2.mem ((c.tc : Thread Cert.GateNormGradIdeal.nD Cert.GateNormGradIdeal.τ).loc Cert.GateNormGradIdeal.main_arg0) = m ((c.tc : Thread Cert.GateNormGradIdeal.nD Cert.GateNormGradIdeal.τ).loc Cert.GateNormGradIdeal.main_arg0)
      ∧ r.2.mem ((c.tc : Thread Cert.GateNormGradIdeal.nD Cert.GateNormGradIdeal.τ).loc Cert.GateNormGradIdeal.main_arg1) = m ((c.tc : Thread Cert.GateNormGradIdeal.nD Cert.GateNormGradIdeal.τ).loc Cert.GateNormGradIdeal.main_arg1)
      ∧ r.2.mem ((c.tc : Thread Cert.GateNormGradIdeal.nD Cert.GateNormGradIdeal.τ).loc Cert.GateNormGradIdeal.main_arg2) = m ((c.tc : Thread Cert.GateNormGradIdeal.nD Cert.GateNormGradIdeal.τ).loc Cert.GateNormGradIdeal.main_arg2)
      ∧ r.2.mem ((c.tc : Thread Cert.GateNormGradIdeal.nD Cert.GateNormGradIdeal.τ).loc Cert.GateNormGradIdeal.main_arg3) = m ((c.tc : Thread Cert.GateNormGradIdeal.nD Cert.GateNormGradIdeal.τ).loc Cert.GateNormGradIdeal.main_arg3))
      ∧ r.2.sem = fun _ => 0)

def quiescent_GateNormGradIdeal_pre_gatenorm_finite [hGateNormGradIdeal : Cert.GateNormGradIdeal.Facts] [hPre_gatenorm_finite : Cert.Pre_gatenorm_finite.Facts] : Prop :=
  ∀ (m : (ℓ : Loc Cert.GateNormGradIdeal.nD Cert.GateNormGradIdeal.τ Cert.GateNormGradIdeal.sig) → Buf (Elt Ideal) ℓ) (g : Dev Cert.GateNormGradIdeal.nD → PrngReg), Pre_GateNormGradIdeal_gatenorm_finite m →
    θ_run (Cert.GateNormGradIdeal.defs (F := Ideal)) (onTc (τ := Cert.GateNormGradIdeal.τ) (Cert.GateNormGradIdeal.main (F := Ideal))) ⟨m, fun _ => 0, g⟩ (fun r => (∀ c : Dev Cert.GateNormGradIdeal.nD,
      r.2.mem ((c.tc : Thread Cert.GateNormGradIdeal.nD Cert.GateNormGradIdeal.τ).loc Cert.GateNormGradIdeal.main_arg0) = m ((c.tc : Thread Cert.GateNormGradIdeal.nD Cert.GateNormGradIdeal.τ).loc Cert.GateNormGradIdeal.main_arg0)
      ∧ r.2.mem ((c.tc : Thread Cert.GateNormGradIdeal.nD Cert.GateNormGradIdeal.τ).loc Cert.GateNormGradIdeal.main_arg1) = m ((c.tc : Thread Cert.GateNormGradIdeal.nD Cert.GateNormGradIdeal.τ).loc Cert.GateNormGradIdeal.main_arg1)
      ∧ r.2.mem ((c.tc : Thread Cert.GateNormGradIdeal.nD Cert.GateNormGradIdeal.τ).loc Cert.GateNormGradIdeal.main_arg2) = m ((c.tc : Thread Cert.GateNormGradIdeal.nD Cert.GateNormGradIdeal.τ).loc Cert.GateNormGradIdeal.main_arg2)
      ∧ r.2.mem ((c.tc : Thread Cert.GateNormGradIdeal.nD Cert.GateNormGradIdeal.τ).loc Cert.GateNormGradIdeal.main_arg3) = m ((c.tc : Thread Cert.GateNormGradIdeal.nD Cert.GateNormGradIdeal.τ).loc Cert.GateNormGradIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2))
      ∧ r.2.sem = fun _ => 0)

def quiescent_LossGradIdeal_pre_loss_finite [hLossGradIdeal : Cert.LossGradIdeal.Facts] [hPre_loss_finite : Cert.Pre_loss_finite.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal_loss_finite m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2))
      ∧ r.2.sem = fun _ => 0)

def quiescent_DrBwd [hDrBwd : Cert.DrBwd.Facts] : Prop :=
  ∀ (m : (ℓ : Loc Cert.DrBwd.nD Cert.DrBwd.τ Cert.DrBwd.sig) → Buf (Elt Bits) ℓ) (g : Dev Cert.DrBwd.nD → PrngReg), Pre_DrBwd m →
    θ_run (Cert.DrBwd.defs (F := Bits)) (onTc (τ := Cert.DrBwd.τ) (Cert.DrBwd.main (F := Bits))) ⟨m, fun _ => 0, g⟩ (fun r => (∀ c : Dev Cert.DrBwd.nD,
      r.2.mem ((c.tc : Thread Cert.DrBwd.nD Cert.DrBwd.τ).loc Cert.DrBwd.main_arg0) = m ((c.tc : Thread Cert.DrBwd.nD Cert.DrBwd.τ).loc Cert.DrBwd.main_arg0)
      ∧ r.2.mem ((c.tc : Thread Cert.DrBwd.nD Cert.DrBwd.τ).loc Cert.DrBwd.main_arg1) = m ((c.tc : Thread Cert.DrBwd.nD Cert.DrBwd.τ).loc Cert.DrBwd.main_arg1)
      ∧ r.2.mem ((c.tc : Thread Cert.DrBwd.nD Cert.DrBwd.τ).loc Cert.DrBwd.main_arg2) = m ((c.tc : Thread Cert.DrBwd.nD Cert.DrBwd.τ).loc Cert.DrBwd.main_arg2)
      ∧ r.2.mem ((c.tc : Thread Cert.DrBwd.nD Cert.DrBwd.τ).loc Cert.DrBwd.main_arg3) = m ((c.tc : Thread Cert.DrBwd.nD Cert.DrBwd.τ).loc Cert.DrBwd.main_arg3))
      ∧ r.2.sem = fun _ => 0)

def quiescent_DrBwdIdeal [hDrBwdIdeal : Cert.DrBwdIdeal.Facts] : Prop :=
  ∀ (m : (ℓ : Loc Cert.DrBwdIdeal.nD Cert.DrBwdIdeal.τ Cert.DrBwdIdeal.sig) → Buf (Elt Ideal) ℓ) (g : Dev Cert.DrBwdIdeal.nD → PrngReg), Pre_DrBwdIdeal m →
    θ_run (Cert.DrBwdIdeal.defs (F := Ideal)) (onTc (τ := Cert.DrBwdIdeal.τ) (Cert.DrBwdIdeal.main (F := Ideal))) ⟨m, fun _ => 0, g⟩ (fun r => (∀ c : Dev Cert.DrBwdIdeal.nD,
      r.2.mem ((c.tc : Thread Cert.DrBwdIdeal.nD Cert.DrBwdIdeal.τ).loc Cert.DrBwdIdeal.main_arg0) = m ((c.tc : Thread Cert.DrBwdIdeal.nD Cert.DrBwdIdeal.τ).loc Cert.DrBwdIdeal.main_arg0)
      ∧ r.2.mem ((c.tc : Thread Cert.DrBwdIdeal.nD Cert.DrBwdIdeal.τ).loc Cert.DrBwdIdeal.main_arg1) = m ((c.tc : Thread Cert.DrBwdIdeal.nD Cert.DrBwdIdeal.τ).loc Cert.DrBwdIdeal.main_arg1)
      ∧ r.2.mem ((c.tc : Thread Cert.DrBwdIdeal.nD Cert.DrBwdIdeal.τ).loc Cert.DrBwdIdeal.main_arg2) = m ((c.tc : Thread Cert.DrBwdIdeal.nD Cert.DrBwdIdeal.τ).loc Cert.DrBwdIdeal.main_arg2)
      ∧ r.2.mem ((c.tc : Thread Cert.DrBwdIdeal.nD Cert.DrBwdIdeal.τ).loc Cert.DrBwdIdeal.main_arg3) = m ((c.tc : Thread Cert.DrBwdIdeal.nD Cert.DrBwdIdeal.τ).loc Cert.DrBwdIdeal.main_arg3))
      ∧ r.2.sem = fun _ => 0)

def quiescent_DrGradIdeal [hDrGradIdeal : Cert.DrGradIdeal.Facts] : Prop :=
  ∀ (m : (ℓ : Loc Cert.DrGradIdeal.nD Cert.DrGradIdeal.τ Cert.DrGradIdeal.sig) → Buf (Elt Ideal) ℓ) (g : Dev Cert.DrGradIdeal.nD → PrngReg), Pre_DrGradIdeal m →
    θ_run (Cert.DrGradIdeal.defs (F := Ideal)) (onTc (τ := Cert.DrGradIdeal.τ) (Cert.DrGradIdeal.main (F := Ideal))) ⟨m, fun _ => 0, g⟩ (fun r => (∀ c : Dev Cert.DrGradIdeal.nD,
      r.2.mem ((c.tc : Thread Cert.DrGradIdeal.nD Cert.DrGradIdeal.τ).loc Cert.DrGradIdeal.main_arg0) = m ((c.tc : Thread Cert.DrGradIdeal.nD Cert.DrGradIdeal.τ).loc Cert.DrGradIdeal.main_arg0)
      ∧ r.2.mem ((c.tc : Thread Cert.DrGradIdeal.nD Cert.DrGradIdeal.τ).loc Cert.DrGradIdeal.main_arg1) = m ((c.tc : Thread Cert.DrGradIdeal.nD Cert.DrGradIdeal.τ).loc Cert.DrGradIdeal.main_arg1)
      ∧ r.2.mem ((c.tc : Thread Cert.DrGradIdeal.nD Cert.DrGradIdeal.τ).loc Cert.DrGradIdeal.main_arg2) = m ((c.tc : Thread Cert.DrGradIdeal.nD Cert.DrGradIdeal.τ).loc Cert.DrGradIdeal.main_arg2)
      ∧ r.2.mem ((c.tc : Thread Cert.DrGradIdeal.nD Cert.DrGradIdeal.τ).loc Cert.DrGradIdeal.main_arg3) = m ((c.tc : Thread Cert.DrGradIdeal.nD Cert.DrGradIdeal.τ).loc Cert.DrGradIdeal.main_arg3))
      ∧ r.2.sem = fun _ => 0)

def quiescent_GateOutBwd [hGateOutBwd : Cert.GateOutBwd.Facts] : Prop :=
  ∀ (m : (ℓ : Loc Cert.GateOutBwd.nD Cert.GateOutBwd.τ Cert.GateOutBwd.sig) → Buf (Elt Bits) ℓ) (g : Dev Cert.GateOutBwd.nD → PrngReg), Pre_GateOutBwd m →
    θ_run (Cert.GateOutBwd.defs (F := Bits)) (onTc (τ := Cert.GateOutBwd.τ) (Cert.GateOutBwd.main (F := Bits))) ⟨m, fun _ => 0, g⟩ (fun r => (∀ c : Dev Cert.GateOutBwd.nD,
      r.2.mem ((c.tc : Thread Cert.GateOutBwd.nD Cert.GateOutBwd.τ).loc Cert.GateOutBwd.main_arg0) = m ((c.tc : Thread Cert.GateOutBwd.nD Cert.GateOutBwd.τ).loc Cert.GateOutBwd.main_arg0)
      ∧ r.2.mem ((c.tc : Thread Cert.GateOutBwd.nD Cert.GateOutBwd.τ).loc Cert.GateOutBwd.main_arg1) = m ((c.tc : Thread Cert.GateOutBwd.nD Cert.GateOutBwd.τ).loc Cert.GateOutBwd.main_arg1)
      ∧ r.2.mem ((c.tc : Thread Cert.GateOutBwd.nD Cert.GateOutBwd.τ).loc Cert.GateOutBwd.main_arg2) = m ((c.tc : Thread Cert.GateOutBwd.nD Cert.GateOutBwd.τ).loc Cert.GateOutBwd.main_arg2)
      ∧ r.2.mem ((c.tc : Thread Cert.GateOutBwd.nD Cert.GateOutBwd.τ).loc Cert.GateOutBwd.main_arg3) = m ((c.tc : Thread Cert.GateOutBwd.nD Cert.GateOutBwd.τ).loc Cert.GateOutBwd.main_arg3))
      ∧ r.2.sem = fun _ => 0)

def quiescent_GateOutBwdIdeal [hGateOutBwdIdeal : Cert.GateOutBwdIdeal.Facts] : Prop :=
  ∀ (m : (ℓ : Loc Cert.GateOutBwdIdeal.nD Cert.GateOutBwdIdeal.τ Cert.GateOutBwdIdeal.sig) → Buf (Elt Ideal) ℓ) (g : Dev Cert.GateOutBwdIdeal.nD → PrngReg), Pre_GateOutBwdIdeal m →
    θ_run (Cert.GateOutBwdIdeal.defs (F := Ideal)) (onTc (τ := Cert.GateOutBwdIdeal.τ) (Cert.GateOutBwdIdeal.main (F := Ideal))) ⟨m, fun _ => 0, g⟩ (fun r => (∀ c : Dev Cert.GateOutBwdIdeal.nD,
      r.2.mem ((c.tc : Thread Cert.GateOutBwdIdeal.nD Cert.GateOutBwdIdeal.τ).loc Cert.GateOutBwdIdeal.main_arg0) = m ((c.tc : Thread Cert.GateOutBwdIdeal.nD Cert.GateOutBwdIdeal.τ).loc Cert.GateOutBwdIdeal.main_arg0)
      ∧ r.2.mem ((c.tc : Thread Cert.GateOutBwdIdeal.nD Cert.GateOutBwdIdeal.τ).loc Cert.GateOutBwdIdeal.main_arg1) = m ((c.tc : Thread Cert.GateOutBwdIdeal.nD Cert.GateOutBwdIdeal.τ).loc Cert.GateOutBwdIdeal.main_arg1)
      ∧ r.2.mem ((c.tc : Thread Cert.GateOutBwdIdeal.nD Cert.GateOutBwdIdeal.τ).loc Cert.GateOutBwdIdeal.main_arg2) = m ((c.tc : Thread Cert.GateOutBwdIdeal.nD Cert.GateOutBwdIdeal.τ).loc Cert.GateOutBwdIdeal.main_arg2)
      ∧ r.2.mem ((c.tc : Thread Cert.GateOutBwdIdeal.nD Cert.GateOutBwdIdeal.τ).loc Cert.GateOutBwdIdeal.main_arg3) = m ((c.tc : Thread Cert.GateOutBwdIdeal.nD Cert.GateOutBwdIdeal.τ).loc Cert.GateOutBwdIdeal.main_arg3))
      ∧ r.2.sem = fun _ => 0)

def quiescent_GateOutBwdIdeal_pre_gateout_finite [hGateOutBwdIdeal : Cert.GateOutBwdIdeal.Facts] [hPre_gateout_finite : Cert.Pre_gateout_finite.Facts] : Prop :=
  ∀ (m : (ℓ : Loc Cert.GateOutBwdIdeal.nD Cert.GateOutBwdIdeal.τ Cert.GateOutBwdIdeal.sig) → Buf (Elt Ideal) ℓ) (g : Dev Cert.GateOutBwdIdeal.nD → PrngReg), Pre_GateOutBwdIdeal_gateout_finite m →
    θ_run (Cert.GateOutBwdIdeal.defs (F := Ideal)) (onTc (τ := Cert.GateOutBwdIdeal.τ) (Cert.GateOutBwdIdeal.main (F := Ideal))) ⟨m, fun _ => 0, g⟩ (fun r => (∀ c : Dev Cert.GateOutBwdIdeal.nD,
      r.2.mem ((c.tc : Thread Cert.GateOutBwdIdeal.nD Cert.GateOutBwdIdeal.τ).loc Cert.GateOutBwdIdeal.main_arg0) = m ((c.tc : Thread Cert.GateOutBwdIdeal.nD Cert.GateOutBwdIdeal.τ).loc Cert.GateOutBwdIdeal.main_arg0)
      ∧ r.2.mem ((c.tc : Thread Cert.GateOutBwdIdeal.nD Cert.GateOutBwdIdeal.τ).loc Cert.GateOutBwdIdeal.main_arg1) = m ((c.tc : Thread Cert.GateOutBwdIdeal.nD Cert.GateOutBwdIdeal.τ).loc Cert.GateOutBwdIdeal.main_arg1)
      ∧ r.2.mem ((c.tc : Thread Cert.GateOutBwdIdeal.nD Cert.GateOutBwdIdeal.τ).loc Cert.GateOutBwdIdeal.main_arg2) = m ((c.tc : Thread Cert.GateOutBwdIdeal.nD Cert.GateOutBwdIdeal.τ).loc Cert.GateOutBwdIdeal.main_arg2)
      ∧ r.2.mem ((c.tc : Thread Cert.GateOutBwdIdeal.nD Cert.GateOutBwdIdeal.τ).loc Cert.GateOutBwdIdeal.main_arg3) = m ((c.tc : Thread Cert.GateOutBwdIdeal.nD Cert.GateOutBwdIdeal.τ).loc Cert.GateOutBwdIdeal.main_arg3))
      ∧ r.2.sem = fun _ => 0)

def quiescent_GateOutGradIdeal [hGateOutGradIdeal : Cert.GateOutGradIdeal.Facts] : Prop :=
  ∀ (m : (ℓ : Loc Cert.GateOutGradIdeal.nD Cert.GateOutGradIdeal.τ Cert.GateOutGradIdeal.sig) → Buf (Elt Ideal) ℓ) (g : Dev Cert.GateOutGradIdeal.nD → PrngReg), Pre_GateOutGradIdeal m →
    θ_run (Cert.GateOutGradIdeal.defs (F := Ideal)) (onTc (τ := Cert.GateOutGradIdeal.τ) (Cert.GateOutGradIdeal.main (F := Ideal))) ⟨m, fun _ => 0, g⟩ (fun r => (∀ c : Dev Cert.GateOutGradIdeal.nD,
      r.2.mem ((c.tc : Thread Cert.GateOutGradIdeal.nD Cert.GateOutGradIdeal.τ).loc Cert.GateOutGradIdeal.main_arg0) = m ((c.tc : Thread Cert.GateOutGradIdeal.nD Cert.GateOutGradIdeal.τ).loc Cert.GateOutGradIdeal.main_arg0)
      ∧ r.2.mem ((c.tc : Thread Cert.GateOutGradIdeal.nD Cert.GateOutGradIdeal.τ).loc Cert.GateOutGradIdeal.main_arg1) = m ((c.tc : Thread Cert.GateOutGradIdeal.nD Cert.GateOutGradIdeal.τ).loc Cert.GateOutGradIdeal.main_arg1)
      ∧ r.2.mem ((c.tc : Thread Cert.GateOutGradIdeal.nD Cert.GateOutGradIdeal.τ).loc Cert.GateOutGradIdeal.main_arg2) = m ((c.tc : Thread Cert.GateOutGradIdeal.nD Cert.GateOutGradIdeal.τ).loc Cert.GateOutGradIdeal.main_arg2)
      ∧ r.2.mem ((c.tc : Thread Cert.GateOutGradIdeal.nD Cert.GateOutGradIdeal.τ).loc Cert.GateOutGradIdeal.main_arg3) = m ((c.tc : Thread Cert.GateOutGradIdeal.nD Cert.GateOutGradIdeal.τ).loc Cert.GateOutGradIdeal.main_arg3))
      ∧ r.2.sem = fun _ => 0)

def quiescent_GateOutGradIdeal_pre_gateout_finite [hGateOutGradIdeal : Cert.GateOutGradIdeal.Facts] [hPre_gateout_finite : Cert.Pre_gateout_finite.Facts] : Prop :=
  ∀ (m : (ℓ : Loc Cert.GateOutGradIdeal.nD Cert.GateOutGradIdeal.τ Cert.GateOutGradIdeal.sig) → Buf (Elt Ideal) ℓ) (g : Dev Cert.GateOutGradIdeal.nD → PrngReg), Pre_GateOutGradIdeal_gateout_finite m →
    θ_run (Cert.GateOutGradIdeal.defs (F := Ideal)) (onTc (τ := Cert.GateOutGradIdeal.τ) (Cert.GateOutGradIdeal.main (F := Ideal))) ⟨m, fun _ => 0, g⟩ (fun r => (∀ c : Dev Cert.GateOutGradIdeal.nD,
      r.2.mem ((c.tc : Thread Cert.GateOutGradIdeal.nD Cert.GateOutGradIdeal.τ).loc Cert.GateOutGradIdeal.main_arg0) = m ((c.tc : Thread Cert.GateOutGradIdeal.nD Cert.GateOutGradIdeal.τ).loc Cert.GateOutGradIdeal.main_arg0)
      ∧ r.2.mem ((c.tc : Thread Cert.GateOutGradIdeal.nD Cert.GateOutGradIdeal.τ).loc Cert.GateOutGradIdeal.main_arg1) = m ((c.tc : Thread Cert.GateOutGradIdeal.nD Cert.GateOutGradIdeal.τ).loc Cert.GateOutGradIdeal.main_arg1)
      ∧ r.2.mem ((c.tc : Thread Cert.GateOutGradIdeal.nD Cert.GateOutGradIdeal.τ).loc Cert.GateOutGradIdeal.main_arg2) = m ((c.tc : Thread Cert.GateOutGradIdeal.nD Cert.GateOutGradIdeal.τ).loc Cert.GateOutGradIdeal.main_arg2)
      ∧ r.2.mem ((c.tc : Thread Cert.GateOutGradIdeal.nD Cert.GateOutGradIdeal.τ).loc Cert.GateOutGradIdeal.main_arg3) = m ((c.tc : Thread Cert.GateOutGradIdeal.nD Cert.GateOutGradIdeal.τ).loc Cert.GateOutGradIdeal.main_arg3))
      ∧ r.2.sem = fun _ => 0)

def quiescent_SsdBwd [hSsdBwd : Cert.SsdBwd.Facts] : Prop :=
  ∀ (m : (ℓ : Loc Cert.SsdBwd.nD Cert.SsdBwd.τ Cert.SsdBwd.sig) → Buf (Elt Bits) ℓ) (g : Dev Cert.SsdBwd.nD → PrngReg), Pre_SsdBwd m →
    θ_run (Cert.SsdBwd.defs (F := Bits)) (onTc (τ := Cert.SsdBwd.τ) (Cert.SsdBwd.main (F := Bits))) ⟨m, fun _ => 0, g⟩ (fun r => (∀ c : Dev Cert.SsdBwd.nD,
      r.2.mem ((c.tc : Thread Cert.SsdBwd.nD Cert.SsdBwd.τ).loc Cert.SsdBwd.main_arg0) = m ((c.tc : Thread Cert.SsdBwd.nD Cert.SsdBwd.τ).loc Cert.SsdBwd.main_arg0)
      ∧ r.2.mem ((c.tc : Thread Cert.SsdBwd.nD Cert.SsdBwd.τ).loc Cert.SsdBwd.main_arg1) = m ((c.tc : Thread Cert.SsdBwd.nD Cert.SsdBwd.τ).loc Cert.SsdBwd.main_arg1)
      ∧ r.2.mem ((c.tc : Thread Cert.SsdBwd.nD Cert.SsdBwd.τ).loc Cert.SsdBwd.main_arg2) = m ((c.tc : Thread Cert.SsdBwd.nD Cert.SsdBwd.τ).loc Cert.SsdBwd.main_arg2)
      ∧ r.2.mem ((c.tc : Thread Cert.SsdBwd.nD Cert.SsdBwd.τ).loc Cert.SsdBwd.main_arg3) = m ((c.tc : Thread Cert.SsdBwd.nD Cert.SsdBwd.τ).loc Cert.SsdBwd.main_arg3)
      ∧ r.2.mem ((c.tc : Thread Cert.SsdBwd.nD Cert.SsdBwd.τ).loc Cert.SsdBwd.main_arg4) = m ((c.tc : Thread Cert.SsdBwd.nD Cert.SsdBwd.τ).loc Cert.SsdBwd.main_arg4)
      ∧ r.2.mem ((c.tc : Thread Cert.SsdBwd.nD Cert.SsdBwd.τ).loc Cert.SsdBwd.main_arg5) = m ((c.tc : Thread Cert.SsdBwd.nD Cert.SsdBwd.τ).loc Cert.SsdBwd.main_arg5)
      ∧ r.2.mem ((c.tc : Thread Cert.SsdBwd.nD Cert.SsdBwd.τ).loc Cert.SsdBwd.main_arg6) = m ((c.tc : Thread Cert.SsdBwd.nD Cert.SsdBwd.τ).loc Cert.SsdBwd.main_arg6))
      ∧ r.2.sem = fun _ => 0)

def quiescent_SsdBwdIdeal [hSsdBwdIdeal : Cert.SsdBwdIdeal.Facts] : Prop :=
  ∀ (m : (ℓ : Loc Cert.SsdBwdIdeal.nD Cert.SsdBwdIdeal.τ Cert.SsdBwdIdeal.sig) → Buf (Elt Ideal) ℓ) (g : Dev Cert.SsdBwdIdeal.nD → PrngReg), Pre_SsdBwdIdeal m →
    θ_run (Cert.SsdBwdIdeal.defs (F := Ideal)) (onTc (τ := Cert.SsdBwdIdeal.τ) (Cert.SsdBwdIdeal.main (F := Ideal))) ⟨m, fun _ => 0, g⟩ (fun r => (∀ c : Dev Cert.SsdBwdIdeal.nD,
      r.2.mem ((c.tc : Thread Cert.SsdBwdIdeal.nD Cert.SsdBwdIdeal.τ).loc Cert.SsdBwdIdeal.main_arg0) = m ((c.tc : Thread Cert.SsdBwdIdeal.nD Cert.SsdBwdIdeal.τ).loc Cert.SsdBwdIdeal.main_arg0)
      ∧ r.2.mem ((c.tc : Thread Cert.SsdBwdIdeal.nD Cert.SsdBwdIdeal.τ).loc Cert.SsdBwdIdeal.main_arg1) = m ((c.tc : Thread Cert.SsdBwdIdeal.nD Cert.SsdBwdIdeal.τ).loc Cert.SsdBwdIdeal.main_arg1)
      ∧ r.2.mem ((c.tc : Thread Cert.SsdBwdIdeal.nD Cert.SsdBwdIdeal.τ).loc Cert.SsdBwdIdeal.main_arg2) = m ((c.tc : Thread Cert.SsdBwdIdeal.nD Cert.SsdBwdIdeal.τ).loc Cert.SsdBwdIdeal.main_arg2)
      ∧ r.2.mem ((c.tc : Thread Cert.SsdBwdIdeal.nD Cert.SsdBwdIdeal.τ).loc Cert.SsdBwdIdeal.main_arg3) = m ((c.tc : Thread Cert.SsdBwdIdeal.nD Cert.SsdBwdIdeal.τ).loc Cert.SsdBwdIdeal.main_arg3)
      ∧ r.2.mem ((c.tc : Thread Cert.SsdBwdIdeal.nD Cert.SsdBwdIdeal.τ).loc Cert.SsdBwdIdeal.main_arg4) = m ((c.tc : Thread Cert.SsdBwdIdeal.nD Cert.SsdBwdIdeal.τ).loc Cert.SsdBwdIdeal.main_arg4)
      ∧ r.2.mem ((c.tc : Thread Cert.SsdBwdIdeal.nD Cert.SsdBwdIdeal.τ).loc Cert.SsdBwdIdeal.main_arg5) = m ((c.tc : Thread Cert.SsdBwdIdeal.nD Cert.SsdBwdIdeal.τ).loc Cert.SsdBwdIdeal.main_arg5)
      ∧ r.2.mem ((c.tc : Thread Cert.SsdBwdIdeal.nD Cert.SsdBwdIdeal.τ).loc Cert.SsdBwdIdeal.main_arg6) = m ((c.tc : Thread Cert.SsdBwdIdeal.nD Cert.SsdBwdIdeal.τ).loc Cert.SsdBwdIdeal.main_arg6))
      ∧ r.2.sem = fun _ => 0)

def quiescent_SsdGradIdeal [hSsdGradIdeal : Cert.SsdGradIdeal.Facts] : Prop :=
  ∀ (m : (ℓ : Loc Cert.SsdGradIdeal.nD Cert.SsdGradIdeal.τ Cert.SsdGradIdeal.sig) → Buf (Elt Ideal) ℓ) (g : Dev Cert.SsdGradIdeal.nD → PrngReg), Pre_SsdGradIdeal m →
    θ_run (Cert.SsdGradIdeal.defs (F := Ideal)) (onTc (τ := Cert.SsdGradIdeal.τ) (Cert.SsdGradIdeal.main (F := Ideal))) ⟨m, fun _ => 0, g⟩ (fun r => (∀ c : Dev Cert.SsdGradIdeal.nD,
      r.2.mem ((c.tc : Thread Cert.SsdGradIdeal.nD Cert.SsdGradIdeal.τ).loc Cert.SsdGradIdeal.main_arg0) = m ((c.tc : Thread Cert.SsdGradIdeal.nD Cert.SsdGradIdeal.τ).loc Cert.SsdGradIdeal.main_arg0)
      ∧ r.2.mem ((c.tc : Thread Cert.SsdGradIdeal.nD Cert.SsdGradIdeal.τ).loc Cert.SsdGradIdeal.main_arg1) = m ((c.tc : Thread Cert.SsdGradIdeal.nD Cert.SsdGradIdeal.τ).loc Cert.SsdGradIdeal.main_arg1)
      ∧ r.2.mem ((c.tc : Thread Cert.SsdGradIdeal.nD Cert.SsdGradIdeal.τ).loc Cert.SsdGradIdeal.main_arg2) = m ((c.tc : Thread Cert.SsdGradIdeal.nD Cert.SsdGradIdeal.τ).loc Cert.SsdGradIdeal.main_arg2)
      ∧ r.2.mem ((c.tc : Thread Cert.SsdGradIdeal.nD Cert.SsdGradIdeal.τ).loc Cert.SsdGradIdeal.main_arg3) = m ((c.tc : Thread Cert.SsdGradIdeal.nD Cert.SsdGradIdeal.τ).loc Cert.SsdGradIdeal.main_arg3)
      ∧ r.2.mem ((c.tc : Thread Cert.SsdGradIdeal.nD Cert.SsdGradIdeal.τ).loc Cert.SsdGradIdeal.main_arg4) = m ((c.tc : Thread Cert.SsdGradIdeal.nD Cert.SsdGradIdeal.τ).loc Cert.SsdGradIdeal.main_arg4)
      ∧ r.2.mem ((c.tc : Thread Cert.SsdGradIdeal.nD Cert.SsdGradIdeal.τ).loc Cert.SsdGradIdeal.main_arg5) = m ((c.tc : Thread Cert.SsdGradIdeal.nD Cert.SsdGradIdeal.τ).loc Cert.SsdGradIdeal.main_arg5)
      ∧ r.2.mem ((c.tc : Thread Cert.SsdGradIdeal.nD Cert.SsdGradIdeal.τ).loc Cert.SsdGradIdeal.main_arg6) = m ((c.tc : Thread Cert.SsdGradIdeal.nD Cert.SsdGradIdeal.τ).loc Cert.SsdGradIdeal.main_arg6))
      ∧ r.2.sem = fun _ => 0)

def quiescent_ScanFwd [hScanFwd : Cert.ScanFwd.Facts] : Prop :=
  ∀ (m : (ℓ : Loc Cert.ScanFwd.nD Cert.ScanFwd.τ Cert.ScanFwd.sig) → Buf (Elt Bits) ℓ) (g : Dev Cert.ScanFwd.nD → PrngReg), Pre_ScanFwd m →
    θ_run (Cert.ScanFwd.defs (F := Bits)) (onTc (τ := Cert.ScanFwd.τ) (Cert.ScanFwd.main (F := Bits))) ⟨m, fun _ => 0, g⟩ (fun r => (∀ c : Dev Cert.ScanFwd.nD,
      r.2.mem ((c.tc : Thread Cert.ScanFwd.nD Cert.ScanFwd.τ).loc Cert.ScanFwd.main_arg0) = m ((c.tc : Thread Cert.ScanFwd.nD Cert.ScanFwd.τ).loc Cert.ScanFwd.main_arg0)
      ∧ r.2.mem ((c.tc : Thread Cert.ScanFwd.nD Cert.ScanFwd.τ).loc Cert.ScanFwd.main_arg1) = m ((c.tc : Thread Cert.ScanFwd.nD Cert.ScanFwd.τ).loc Cert.ScanFwd.main_arg1)
      ∧ r.2.mem ((c.tc : Thread Cert.ScanFwd.nD Cert.ScanFwd.τ).loc Cert.ScanFwd.main_arg2) = m ((c.tc : Thread Cert.ScanFwd.nD Cert.ScanFwd.τ).loc Cert.ScanFwd.main_arg2)
      ∧ r.2.mem ((c.tc : Thread Cert.ScanFwd.nD Cert.ScanFwd.τ).loc Cert.ScanFwd.main_arg3) = m ((c.tc : Thread Cert.ScanFwd.nD Cert.ScanFwd.τ).loc Cert.ScanFwd.main_arg3)
      ∧ r.2.mem ((c.tc : Thread Cert.ScanFwd.nD Cert.ScanFwd.τ).loc Cert.ScanFwd.main_arg4) = m ((c.tc : Thread Cert.ScanFwd.nD Cert.ScanFwd.τ).loc Cert.ScanFwd.main_arg4))
      ∧ r.2.sem = fun _ => 0)

def quiescent_ScanFwdIdeal [hScanFwdIdeal : Cert.ScanFwdIdeal.Facts] : Prop :=
  ∀ (m : (ℓ : Loc Cert.ScanFwdIdeal.nD Cert.ScanFwdIdeal.τ Cert.ScanFwdIdeal.sig) → Buf (Elt Ideal) ℓ) (g : Dev Cert.ScanFwdIdeal.nD → PrngReg), Pre_ScanFwdIdeal m →
    θ_run (Cert.ScanFwdIdeal.defs (F := Ideal)) (onTc (τ := Cert.ScanFwdIdeal.τ) (Cert.ScanFwdIdeal.main (F := Ideal))) ⟨m, fun _ => 0, g⟩ (fun r => (∀ c : Dev Cert.ScanFwdIdeal.nD,
      r.2.mem ((c.tc : Thread Cert.ScanFwdIdeal.nD Cert.ScanFwdIdeal.τ).loc Cert.ScanFwdIdeal.main_arg0) = m ((c.tc : Thread Cert.ScanFwdIdeal.nD Cert.ScanFwdIdeal.τ).loc Cert.ScanFwdIdeal.main_arg0)
      ∧ r.2.mem ((c.tc : Thread Cert.ScanFwdIdeal.nD Cert.ScanFwdIdeal.τ).loc Cert.ScanFwdIdeal.main_arg1) = m ((c.tc : Thread Cert.ScanFwdIdeal.nD Cert.ScanFwdIdeal.τ).loc Cert.ScanFwdIdeal.main_arg1)
      ∧ r.2.mem ((c.tc : Thread Cert.ScanFwdIdeal.nD Cert.ScanFwdIdeal.τ).loc Cert.ScanFwdIdeal.main_arg2) = m ((c.tc : Thread Cert.ScanFwdIdeal.nD Cert.ScanFwdIdeal.τ).loc Cert.ScanFwdIdeal.main_arg2)
      ∧ r.2.mem ((c.tc : Thread Cert.ScanFwdIdeal.nD Cert.ScanFwdIdeal.τ).loc Cert.ScanFwdIdeal.main_arg3) = m ((c.tc : Thread Cert.ScanFwdIdeal.nD Cert.ScanFwdIdeal.τ).loc Cert.ScanFwdIdeal.main_arg3)
      ∧ r.2.mem ((c.tc : Thread Cert.ScanFwdIdeal.nD Cert.ScanFwdIdeal.τ).loc Cert.ScanFwdIdeal.main_arg4) = m ((c.tc : Thread Cert.ScanFwdIdeal.nD Cert.ScanFwdIdeal.τ).loc Cert.ScanFwdIdeal.main_arg4))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1))
      ∧ r.2.sem = fun _ => 0)

def quiescent_ConvPre [hConvPre : Cert.ConvPre.Facts] : Prop :=
  ∀ (m : (ℓ : Loc Cert.ConvPre.nD Cert.ConvPre.τ Cert.ConvPre.sig) → Buf (Elt Bits) ℓ) (g : Dev Cert.ConvPre.nD → PrngReg), Pre_ConvPre m →
    θ_run (Cert.ConvPre.defs (F := Bits)) (onTc (τ := Cert.ConvPre.τ) (Cert.ConvPre.main (F := Bits))) ⟨m, fun _ => 0, g⟩ (fun r => (∀ c : Dev Cert.ConvPre.nD,
      r.2.mem ((c.tc : Thread Cert.ConvPre.nD Cert.ConvPre.τ).loc Cert.ConvPre.main_arg0) = m ((c.tc : Thread Cert.ConvPre.nD Cert.ConvPre.τ).loc Cert.ConvPre.main_arg0)
      ∧ r.2.mem ((c.tc : Thread Cert.ConvPre.nD Cert.ConvPre.τ).loc Cert.ConvPre.main_arg1) = m ((c.tc : Thread Cert.ConvPre.nD Cert.ConvPre.τ).loc Cert.ConvPre.main_arg1)
      ∧ r.2.mem ((c.tc : Thread Cert.ConvPre.nD Cert.ConvPre.τ).loc Cert.ConvPre.main_arg2) = m ((c.tc : Thread Cert.ConvPre.nD Cert.ConvPre.τ).loc Cert.ConvPre.main_arg2)
      ∧ r.2.mem ((c.tc : Thread Cert.ConvPre.nD Cert.ConvPre.τ).loc Cert.ConvPre.main_arg3) = m ((c.tc : Thread Cert.ConvPre.nD Cert.ConvPre.τ).loc Cert.ConvPre.main_arg3))
      ∧ r.2.sem = fun _ => 0)

def quiescent_ConvPreIdeal [hConvPreIdeal : Cert.ConvPreIdeal.Facts] : Prop :=
  ∀ (m : (ℓ : Loc Cert.ConvPreIdeal.nD Cert.ConvPreIdeal.τ Cert.ConvPreIdeal.sig) → Buf (Elt Ideal) ℓ) (g : Dev Cert.ConvPreIdeal.nD → PrngReg), Pre_ConvPreIdeal m →
    θ_run (Cert.ConvPreIdeal.defs (F := Ideal)) (onTc (τ := Cert.ConvPreIdeal.τ) (Cert.ConvPreIdeal.main (F := Ideal))) ⟨m, fun _ => 0, g⟩ (fun r => (∀ c : Dev Cert.ConvPreIdeal.nD,
      r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
      ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
      ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2)
      ∧ r.2.mem ((c.tc : Thread Cert.ConvPreIdeal.nD Cert.ConvPreIdeal.τ).loc Cert.ConvPreIdeal.main_arg3) = m ((c.tc : Thread Cert.ConvPreIdeal.nD Cert.ConvPreIdeal.τ).loc Cert.ConvPreIdeal.main_arg3))
      ∧ r.2.sem = fun _ => 0)

def quiescent_ConvPreIdeal_pre_convpre_finite [hConvPreIdeal : Cert.ConvPreIdeal.Facts] [hPre_convpre_finite : Cert.Pre_convpre_finite.Facts] : Prop :=
  ∀ (m : (ℓ : Loc Cert.ConvPreIdeal.nD Cert.ConvPreIdeal.τ Cert.ConvPreIdeal.sig) → Buf (Elt Ideal) ℓ) (g : Dev Cert.ConvPreIdeal.nD → PrngReg), Pre_ConvPreIdeal_convpre_finite m →
    θ_run (Cert.ConvPreIdeal.defs (F := Ideal)) (onTc (τ := Cert.ConvPreIdeal.τ) (Cert.ConvPreIdeal.main (F := Ideal))) ⟨m, fun _ => 0, g⟩ (fun r => (∀ c : Dev Cert.ConvPreIdeal.nD,
      r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
      ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
      ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2)
      ∧ r.2.mem ((c.tc : Thread Cert.ConvPreIdeal.nD Cert.ConvPreIdeal.τ).loc Cert.ConvPreIdeal.main_arg3) = m ((c.tc : Thread Cert.ConvPreIdeal.nD Cert.ConvPreIdeal.τ).loc Cert.ConvPreIdeal.main_arg3))
      ∧ r.2.sem = fun _ => 0)

def quiescent_ConvPreRefIdeal [hConvPreRefIdeal : Cert.ConvPreRefIdeal.Facts] : Prop :=
  ∀ (m : (ℓ : Loc Cert.ConvPreRefIdeal.nD Cert.ConvPreRefIdeal.τ Cert.ConvPreRefIdeal.sig) → Buf (Elt Ideal) ℓ) (g : Dev Cert.ConvPreRefIdeal.nD → PrngReg), Pre_ConvPreRefIdeal m →
    θ_run (Cert.ConvPreRefIdeal.defs (F := Ideal)) (onTc (τ := Cert.ConvPreRefIdeal.τ) (Cert.ConvPreRefIdeal.main (F := Ideal))) ⟨m, fun _ => 0, g⟩ (fun r => (∀ c : Dev Cert.ConvPreRefIdeal.nD,
      r.2.mem ((c.tc : Thread Cert.ConvPreRefIdeal.nD Cert.ConvPreRefIdeal.τ).loc Cert.ConvPreRefIdeal.main_arg0) = m ((c.tc : Thread Cert.ConvPreRefIdeal.nD Cert.ConvPreRefIdeal.τ).loc Cert.ConvPreRefIdeal.main_arg0)
      ∧ r.2.mem ((c.tc : Thread Cert.ConvPreRefIdeal.nD Cert.ConvPreRefIdeal.τ).loc Cert.ConvPreRefIdeal.main_arg1) = m ((c.tc : Thread Cert.ConvPreRefIdeal.nD Cert.ConvPreRefIdeal.τ).loc Cert.ConvPreRefIdeal.main_arg1)
      ∧ r.2.mem ((c.tc : Thread Cert.ConvPreRefIdeal.nD Cert.ConvPreRefIdeal.τ).loc Cert.ConvPreRefIdeal.main_arg2) = m ((c.tc : Thread Cert.ConvPreRefIdeal.nD Cert.ConvPreRefIdeal.τ).loc Cert.ConvPreRefIdeal.main_arg2)
      ∧ r.2.mem ((c.tc : Thread Cert.ConvPreRefIdeal.nD Cert.ConvPreRefIdeal.τ).loc Cert.ConvPreRefIdeal.main_arg3) = m ((c.tc : Thread Cert.ConvPreRefIdeal.nD Cert.ConvPreRefIdeal.τ).loc Cert.ConvPreRefIdeal.main_arg3))
      ∧ r.2.sem = fun _ => 0)

def quiescent_ConvPreRefIdeal_pre_convpre_finite [hConvPreRefIdeal : Cert.ConvPreRefIdeal.Facts] [hPre_convpre_finite : Cert.Pre_convpre_finite.Facts] : Prop :=
  ∀ (m : (ℓ : Loc Cert.ConvPreRefIdeal.nD Cert.ConvPreRefIdeal.τ Cert.ConvPreRefIdeal.sig) → Buf (Elt Ideal) ℓ) (g : Dev Cert.ConvPreRefIdeal.nD → PrngReg), Pre_ConvPreRefIdeal_convpre_finite m →
    θ_run (Cert.ConvPreRefIdeal.defs (F := Ideal)) (onTc (τ := Cert.ConvPreRefIdeal.τ) (Cert.ConvPreRefIdeal.main (F := Ideal))) ⟨m, fun _ => 0, g⟩ (fun r => (∀ c : Dev Cert.ConvPreRefIdeal.nD,
      r.2.mem ((c.tc : Thread Cert.ConvPreRefIdeal.nD Cert.ConvPreRefIdeal.τ).loc Cert.ConvPreRefIdeal.main_arg0) = m ((c.tc : Thread Cert.ConvPreRefIdeal.nD Cert.ConvPreRefIdeal.τ).loc Cert.ConvPreRefIdeal.main_arg0)
      ∧ r.2.mem ((c.tc : Thread Cert.ConvPreRefIdeal.nD Cert.ConvPreRefIdeal.τ).loc Cert.ConvPreRefIdeal.main_arg1) = m ((c.tc : Thread Cert.ConvPreRefIdeal.nD Cert.ConvPreRefIdeal.τ).loc Cert.ConvPreRefIdeal.main_arg1)
      ∧ r.2.mem ((c.tc : Thread Cert.ConvPreRefIdeal.nD Cert.ConvPreRefIdeal.τ).loc Cert.ConvPreRefIdeal.main_arg2) = m ((c.tc : Thread Cert.ConvPreRefIdeal.nD Cert.ConvPreRefIdeal.τ).loc Cert.ConvPreRefIdeal.main_arg2)
      ∧ r.2.mem ((c.tc : Thread Cert.ConvPreRefIdeal.nD Cert.ConvPreRefIdeal.τ).loc Cert.ConvPreRefIdeal.main_arg3) = m ((c.tc : Thread Cert.ConvPreRefIdeal.nD Cert.ConvPreRefIdeal.τ).loc Cert.ConvPreRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2)
      ∧ r.2.mem ((c.tc : Thread Cert.ModFwd.nD Cert.ModFwd.τ).loc Cert.ModFwd.main_arg3) = m ((c.tc : Thread Cert.ModFwd.nD Cert.ModFwd.τ).loc Cert.ModFwd.main_arg3))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
      ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_SkipFwd [hSkipFwd : Cert.SkipFwd.Facts] : Prop :=
  ∀ (m : (ℓ : Loc Cert.SkipFwd.nD Cert.SkipFwd.τ Cert.SkipFwd.sig) → Buf (Elt Bits) ℓ) (g : Dev Cert.SkipFwd.nD → PrngReg), Pre_SkipFwd m →
    θ_run (Cert.SkipFwd.defs (F := Bits)) (onTc (τ := Cert.SkipFwd.τ) (Cert.SkipFwd.main (F := Bits))) ⟨m, fun _ => 0, g⟩ (fun r => (∀ c : Dev Cert.SkipFwd.nD,
      r.2.mem ((c.tc : Thread Cert.SkipFwd.nD Cert.SkipFwd.τ).loc Cert.SkipFwd.main_arg0) = m ((c.tc : Thread Cert.SkipFwd.nD Cert.SkipFwd.τ).loc Cert.SkipFwd.main_arg0)
      ∧ r.2.mem ((c.tc : Thread Cert.SkipFwd.nD Cert.SkipFwd.τ).loc Cert.SkipFwd.main_arg1) = m ((c.tc : Thread Cert.SkipFwd.nD Cert.SkipFwd.τ).loc Cert.SkipFwd.main_arg1)
      ∧ r.2.mem ((c.tc : Thread Cert.SkipFwd.nD Cert.SkipFwd.τ).loc Cert.SkipFwd.main_arg2) = m ((c.tc : Thread Cert.SkipFwd.nD Cert.SkipFwd.τ).loc Cert.SkipFwd.main_arg2))
      ∧ r.2.sem = fun _ => 0)

def quiescent_SkipFwdIdeal [hSkipFwdIdeal : Cert.SkipFwdIdeal.Facts] : Prop :=
  ∀ (m : (ℓ : Loc Cert.SkipFwdIdeal.nD Cert.SkipFwdIdeal.τ Cert.SkipFwdIdeal.sig) → Buf (Elt Ideal) ℓ) (g : Dev Cert.SkipFwdIdeal.nD → PrngReg), Pre_SkipFwdIdeal m →
    θ_run (Cert.SkipFwdIdeal.defs (F := Ideal)) (onTc (τ := Cert.SkipFwdIdeal.τ) (Cert.SkipFwdIdeal.main (F := Ideal))) ⟨m, fun _ => 0, g⟩ (fun r => (∀ c : Dev Cert.SkipFwdIdeal.nD,
      r.2.mem ((c.tc : Thread Cert.SkipFwdIdeal.nD Cert.SkipFwdIdeal.τ).loc Cert.SkipFwdIdeal.main_arg0) = m ((c.tc : Thread Cert.SkipFwdIdeal.nD Cert.SkipFwdIdeal.τ).loc Cert.SkipFwdIdeal.main_arg0)
      ∧ r.2.mem ((c.tc : Thread Cert.SkipFwdIdeal.nD Cert.SkipFwdIdeal.τ).loc Cert.SkipFwdIdeal.main_arg1) = m ((c.tc : Thread Cert.SkipFwdIdeal.nD Cert.SkipFwdIdeal.τ).loc Cert.SkipFwdIdeal.main_arg1)
      ∧ r.2.mem ((c.tc : Thread Cert.SkipFwdIdeal.nD Cert.SkipFwdIdeal.τ).loc Cert.SkipFwdIdeal.main_arg2) = m ((c.tc : Thread Cert.SkipFwdIdeal.nD Cert.SkipFwdIdeal.τ).loc Cert.SkipFwdIdeal.main_arg2))
      ∧ r.2.sem = fun _ => 0)

def quiescent_SkipRefIdeal [hSkipRefIdeal : Cert.SkipRefIdeal.Facts] : Prop :=
  ∀ (m : (ℓ : Loc Cert.SkipRefIdeal.nD Cert.SkipRefIdeal.τ Cert.SkipRefIdeal.sig) → Buf (Elt Ideal) ℓ) (g : Dev Cert.SkipRefIdeal.nD → PrngReg), Pre_SkipRefIdeal m →
    θ_run (Cert.SkipRefIdeal.defs (F := Ideal)) (onTc (τ := Cert.SkipRefIdeal.τ) (Cert.SkipRefIdeal.main (F := Ideal))) ⟨m, fun _ => 0, g⟩ (fun r => (∀ c : Dev Cert.SkipRefIdeal.nD,
      r.2.mem ((c.tc : Thread Cert.SkipRefIdeal.nD Cert.SkipRefIdeal.τ).loc Cert.SkipRefIdeal.main_arg0) = m ((c.tc : Thread Cert.SkipRefIdeal.nD Cert.SkipRefIdeal.τ).loc Cert.SkipRefIdeal.main_arg0)
      ∧ r.2.mem ((c.tc : Thread Cert.SkipRefIdeal.nD Cert.SkipRefIdeal.τ).loc Cert.SkipRefIdeal.main_arg1) = m ((c.tc : Thread Cert.SkipRefIdeal.nD Cert.SkipRefIdeal.τ).loc Cert.SkipRefIdeal.main_arg1)
      ∧ r.2.mem ((c.tc : Thread Cert.SkipRefIdeal.nD Cert.SkipRefIdeal.τ).loc Cert.SkipRefIdeal.main_arg2) = m ((c.tc : Thread Cert.SkipRefIdeal.nD Cert.SkipRefIdeal.τ).loc Cert.SkipRefIdeal.main_arg2))
      ∧ r.2.sem = fun _ => 0)

def quiescent_GatedFwd [hGatedFwd : Cert.GatedFwd.Facts] : Prop :=
  ∀ (m : (ℓ : Loc Cert.GatedFwd.nD Cert.GatedFwd.τ Cert.GatedFwd.sig) → Buf (Elt Bits) ℓ) (g : Dev Cert.GatedFwd.nD → PrngReg), Pre_GatedFwd m →
    θ_run (Cert.GatedFwd.defs (F := Bits)) (onTc (τ := Cert.GatedFwd.τ) (Cert.GatedFwd.main (F := Bits))) ⟨m, fun _ => 0, g⟩ (fun r => (∀ c : Dev Cert.GatedFwd.nD,
      r.2.mem ((c.tc : Thread Cert.GatedFwd.nD Cert.GatedFwd.τ).loc Cert.GatedFwd.main_arg0) = m ((c.tc : Thread Cert.GatedFwd.nD Cert.GatedFwd.τ).loc Cert.GatedFwd.main_arg0)
      ∧ r.2.mem ((c.tc : Thread Cert.GatedFwd.nD Cert.GatedFwd.τ).loc Cert.GatedFwd.main_arg1) = m ((c.tc : Thread Cert.GatedFwd.nD Cert.GatedFwd.τ).loc Cert.GatedFwd.main_arg1)
      ∧ r.2.mem ((c.tc : Thread Cert.GatedFwd.nD Cert.GatedFwd.τ).loc Cert.GatedFwd.main_arg2) = m ((c.tc : Thread Cert.GatedFwd.nD Cert.GatedFwd.τ).loc Cert.GatedFwd.main_arg2)
      ∧ r.2.mem ((c.tc : Thread Cert.GatedFwd.nD Cert.GatedFwd.τ).loc Cert.GatedFwd.main_arg3) = m ((c.tc : Thread Cert.GatedFwd.nD Cert.GatedFwd.τ).loc Cert.GatedFwd.main_arg3))
      ∧ r.2.sem = fun _ => 0)

def quiescent_GatedFwdIdeal [hGatedFwdIdeal : Cert.GatedFwdIdeal.Facts] : Prop :=
  ∀ (m : (ℓ : Loc Cert.GatedFwdIdeal.nD Cert.GatedFwdIdeal.τ Cert.GatedFwdIdeal.sig) → Buf (Elt Ideal) ℓ) (g : Dev Cert.GatedFwdIdeal.nD → PrngReg), Pre_GatedFwdIdeal m →
    θ_run (Cert.GatedFwdIdeal.defs (F := Ideal)) (onTc (τ := Cert.GatedFwdIdeal.τ) (Cert.GatedFwdIdeal.main (F := Ideal))) ⟨m, fun _ => 0, g⟩ (fun r => (∀ c : Dev Cert.GatedFwdIdeal.nD,
      r.2.mem ((c.tc : Thread Cert.GatedFwdIdeal.nD Cert.GatedFwdIdeal.τ).loc Cert.GatedFwdIdeal.main_arg0) = m ((c.tc : Thread Cert.GatedFwdIdeal.nD Cert.GatedFwdIdeal.τ).loc Cert.GatedFwdIdeal.main_arg0)
      ∧ r.2.mem ((c.tc : Thread Cert.GatedFwdIdeal.nD Cert.GatedFwdIdeal.τ).loc Cert.GatedFwdIdeal.main_arg1) = m ((c.tc : Thread Cert.GatedFwdIdeal.nD Cert.GatedFwdIdeal.τ).loc Cert.GatedFwdIdeal.main_arg1)
      ∧ r.2.mem ((c.tc : Thread Cert.GatedFwdIdeal.nD Cert.GatedFwdIdeal.τ).loc Cert.GatedFwdIdeal.main_arg2) = m ((c.tc : Thread Cert.GatedFwdIdeal.nD Cert.GatedFwdIdeal.τ).loc Cert.GatedFwdIdeal.main_arg2)
      ∧ r.2.mem ((c.tc : Thread Cert.GatedFwdIdeal.nD Cert.GatedFwdIdeal.τ).loc Cert.GatedFwdIdeal.main_arg3) = m ((c.tc : Thread Cert.GatedFwdIdeal.nD Cert.GatedFwdIdeal.τ).loc Cert.GatedFwdIdeal.main_arg3))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_GroupFwd [hGroupFwd : Cert.GroupFwd.Facts] : Prop :=
  ∀ (m : (ℓ : Loc Cert.GroupFwd.nD Cert.GroupFwd.τ Cert.GroupFwd.sig) → Buf (Elt Bits) ℓ) (g : Dev Cert.GroupFwd.nD → PrngReg), Pre_GroupFwd m →
    θ_run (Cert.GroupFwd.defs (F := Bits)) (onTc (τ := Cert.GroupFwd.τ) (Cert.GroupFwd.main (F := Bits))) ⟨m, fun _ => 0, g⟩ (fun r => (∀ c : Dev Cert.GroupFwd.nD,
      r.2.mem ((c.tc : Thread Cert.GroupFwd.nD Cert.GroupFwd.τ).loc Cert.GroupFwd.main_arg0) = m ((c.tc : Thread Cert.GroupFwd.nD Cert.GroupFwd.τ).loc Cert.GroupFwd.main_arg0)
      ∧ r.2.mem ((c.tc : Thread Cert.GroupFwd.nD Cert.GroupFwd.τ).loc Cert.GroupFwd.main_arg1) = m ((c.tc : Thread Cert.GroupFwd.nD Cert.GroupFwd.τ).loc Cert.GroupFwd.main_arg1)
      ∧ r.2.mem ((c.tc : Thread Cert.GroupFwd.nD Cert.GroupFwd.τ).loc Cert.GroupFwd.main_arg2) = m ((c.tc : Thread Cert.GroupFwd.nD Cert.GroupFwd.τ).loc Cert.GroupFwd.main_arg2))
      ∧ r.2.sem = fun _ => 0)

def quiescent_GroupFwdIdeal [hGroupFwdIdeal : Cert.GroupFwdIdeal.Facts] : Prop :=
  ∀ (m : (ℓ : Loc Cert.GroupFwdIdeal.nD Cert.GroupFwdIdeal.τ Cert.GroupFwdIdeal.sig) → Buf (Elt Ideal) ℓ) (g : Dev Cert.GroupFwdIdeal.nD → PrngReg), Pre_GroupFwdIdeal m →
    θ_run (Cert.GroupFwdIdeal.defs (F := Ideal)) (onTc (τ := Cert.GroupFwdIdeal.τ) (Cert.GroupFwdIdeal.main (F := Ideal))) ⟨m, fun _ => 0, g⟩ (fun r => (∀ c : Dev Cert.GroupFwdIdeal.nD,
      r.2.mem ((c.tc : Thread Cert.GroupFwdIdeal.nD Cert.GroupFwdIdeal.τ).loc Cert.GroupFwdIdeal.main_arg0) = m ((c.tc : Thread Cert.GroupFwdIdeal.nD Cert.GroupFwdIdeal.τ).loc Cert.GroupFwdIdeal.main_arg0)
      ∧ r.2.mem ((c.tc : Thread Cert.GroupFwdIdeal.nD Cert.GroupFwdIdeal.τ).loc Cert.GroupFwdIdeal.main_arg1) = m ((c.tc : Thread Cert.GroupFwdIdeal.nD Cert.GroupFwdIdeal.τ).loc Cert.GroupFwdIdeal.main_arg1)
      ∧ r.2.mem ((c.tc : Thread Cert.GroupFwdIdeal.nD Cert.GroupFwdIdeal.τ).loc Cert.GroupFwdIdeal.main_arg2) = m ((c.tc : Thread Cert.GroupFwdIdeal.nD Cert.GroupFwdIdeal.τ).loc Cert.GroupFwdIdeal.main_arg2))
      ∧ r.2.sem = fun _ => 0)

def quiescent_GroupRefIdeal [hGroupRefIdeal : Cert.GroupRefIdeal.Facts] : Prop :=
  ∀ (m : (ℓ : Loc Cert.GroupRefIdeal.nD Cert.GroupRefIdeal.τ Cert.GroupRefIdeal.sig) → Buf (Elt Ideal) ℓ) (g : Dev Cert.GroupRefIdeal.nD → PrngReg), Pre_GroupRefIdeal m →
    θ_run (Cert.GroupRefIdeal.defs (F := Ideal)) (onTc (τ := Cert.GroupRefIdeal.τ) (Cert.GroupRefIdeal.main (F := Ideal))) ⟨m, fun _ => 0, g⟩ (fun r => (∀ c : Dev Cert.GroupRefIdeal.nD,
      r.2.mem ((c.tc : Thread Cert.GroupRefIdeal.nD Cert.GroupRefIdeal.τ).loc Cert.GroupRefIdeal.main_arg0) = m ((c.tc : Thread Cert.GroupRefIdeal.nD Cert.GroupRefIdeal.τ).loc Cert.GroupRefIdeal.main_arg0)
      ∧ r.2.mem ((c.tc : Thread Cert.GroupRefIdeal.nD Cert.GroupRefIdeal.τ).loc Cert.GroupRefIdeal.main_arg1) = m ((c.tc : Thread Cert.GroupRefIdeal.nD Cert.GroupRefIdeal.τ).loc Cert.GroupRefIdeal.main_arg1)
      ∧ r.2.mem ((c.tc : Thread Cert.GroupRefIdeal.nD Cert.GroupRefIdeal.τ).loc Cert.GroupRefIdeal.main_arg2) = m ((c.tc : Thread Cert.GroupRefIdeal.nD Cert.GroupRefIdeal.τ).loc Cert.GroupRefIdeal.main_arg2))
      ∧ r.2.sem = fun _ => 0)

def quiescent_ReluFwd [hReluFwd : Cert.ReluFwd.Facts] : Prop :=
  ∀ (m : (ℓ : Loc Cert.ReluFwd.nD Cert.ReluFwd.τ Cert.ReluFwd.sig) → Buf (Elt Bits) ℓ) (g : Dev Cert.ReluFwd.nD → PrngReg), Pre_ReluFwd m →
    θ_run (Cert.ReluFwd.defs (F := Bits)) (onTc (τ := Cert.ReluFwd.τ) (Cert.ReluFwd.main (F := Bits))) ⟨m, fun _ => 0, g⟩ (fun r => (∀ c : Dev Cert.ReluFwd.nD,
      r.2.mem ((c.tc : Thread Cert.ReluFwd.nD Cert.ReluFwd.τ).loc Cert.ReluFwd.main_arg0) = m ((c.tc : Thread Cert.ReluFwd.nD Cert.ReluFwd.τ).loc Cert.ReluFwd.main_arg0)
      ∧ r.2.mem ((c.tc : Thread Cert.ReluFwd.nD Cert.ReluFwd.τ).loc Cert.ReluFwd.main_arg1) = m ((c.tc : Thread Cert.ReluFwd.nD Cert.ReluFwd.τ).loc Cert.ReluFwd.main_arg1))
      ∧ r.2.sem = fun _ => 0)

def quiescent_ReluFwdIdeal [hReluFwdIdeal : Cert.ReluFwdIdeal.Facts] : Prop :=
  ∀ (m : (ℓ : Loc Cert.ReluFwdIdeal.nD Cert.ReluFwdIdeal.τ Cert.ReluFwdIdeal.sig) → Buf (Elt Ideal) ℓ) (g : Dev Cert.ReluFwdIdeal.nD → PrngReg), Pre_ReluFwdIdeal m →
    θ_run (Cert.ReluFwdIdeal.defs (F := Ideal)) (onTc (τ := Cert.ReluFwdIdeal.τ) (Cert.ReluFwdIdeal.main (F := Ideal))) ⟨m, fun _ => 0, g⟩ (fun r => (∀ c : Dev Cert.ReluFwdIdeal.nD,
      r.2.mem ((c.tc : Thread Cert.ReluFwdIdeal.nD Cert.ReluFwdIdeal.τ).loc Cert.ReluFwdIdeal.main_arg0) = m ((c.tc : Thread Cert.ReluFwdIdeal.nD Cert.ReluFwdIdeal.τ).loc Cert.ReluFwdIdeal.main_arg0)
      ∧ r.2.mem ((c.tc : Thread Cert.ReluFwdIdeal.nD Cert.ReluFwdIdeal.τ).loc Cert.ReluFwdIdeal.main_arg1) = m ((c.tc : Thread Cert.ReluFwdIdeal.nD Cert.ReluFwdIdeal.τ).loc Cert.ReluFwdIdeal.main_arg1))
      ∧ r.2.sem = fun _ => 0)

def quiescent_ReluRefIdeal [hReluRefIdeal : Cert.ReluRefIdeal.Facts] : Prop :=
  ∀ (m : (ℓ : Loc Cert.ReluRefIdeal.nD Cert.ReluRefIdeal.τ Cert.ReluRefIdeal.sig) → Buf (Elt Ideal) ℓ) (g : Dev Cert.ReluRefIdeal.nD → PrngReg), Pre_ReluRefIdeal m →
    θ_run (Cert.ReluRefIdeal.defs (F := Ideal)) (onTc (τ := Cert.ReluRefIdeal.τ) (Cert.ReluRefIdeal.main (F := Ideal))) ⟨m, fun _ => 0, g⟩ (fun r => (∀ c : Dev Cert.ReluRefIdeal.nD,
      r.2.mem ((c.tc : Thread Cert.ReluRefIdeal.nD Cert.ReluRefIdeal.τ).loc Cert.ReluRefIdeal.main_arg0) = m ((c.tc : Thread Cert.ReluRefIdeal.nD Cert.ReluRefIdeal.τ).loc Cert.ReluRefIdeal.main_arg0)
      ∧ r.2.mem ((c.tc : Thread Cert.ReluRefIdeal.nD Cert.ReluRefIdeal.τ).loc Cert.ReluRefIdeal.main_arg1) = m ((c.tc : Thread Cert.ReluRefIdeal.nD Cert.ReluRefIdeal.τ).loc Cert.ReluRefIdeal.main_arg1))
      ∧ r.2.sem = fun _ => 0)

def quiescent_SquareFwd [hSquareFwd : Cert.SquareFwd.Facts] : Prop :=
  ∀ (m : (ℓ : Loc Cert.SquareFwd.nD Cert.SquareFwd.τ Cert.SquareFwd.sig) → Buf (Elt Bits) ℓ) (g : Dev Cert.SquareFwd.nD → PrngReg), Pre_SquareFwd m →
    θ_run (Cert.SquareFwd.defs (F := Bits)) (onTc (τ := Cert.SquareFwd.τ) (Cert.SquareFwd.main (F := Bits))) ⟨m, fun _ => 0, g⟩ (fun r => (∀ c : Dev Cert.SquareFwd.nD,
      r.2.mem ((c.tc : Thread Cert.SquareFwd.nD Cert.SquareFwd.τ).loc Cert.SquareFwd.main_arg0) = m ((c.tc : Thread Cert.SquareFwd.nD Cert.SquareFwd.τ).loc Cert.SquareFwd.main_arg0)
      ∧ r.2.mem ((c.tc : Thread Cert.SquareFwd.nD Cert.SquareFwd.τ).loc Cert.SquareFwd.main_arg1) = m ((c.tc : Thread Cert.SquareFwd.nD Cert.SquareFwd.τ).loc Cert.SquareFwd.main_arg1)
      ∧ r.2.mem ((c.tc : Thread Cert.SquareFwd.nD Cert.SquareFwd.τ).loc Cert.SquareFwd.main_arg2) = m ((c.tc : Thread Cert.SquareFwd.nD Cert.SquareFwd.τ).loc Cert.SquareFwd.main_arg2)
      ∧ r.2.mem ((c.tc : Thread Cert.SquareFwd.nD Cert.SquareFwd.τ).loc Cert.SquareFwd.main_arg3) = m ((c.tc : Thread Cert.SquareFwd.nD Cert.SquareFwd.τ).loc Cert.SquareFwd.main_arg3))
      ∧ r.2.sem = fun _ => 0)

def quiescent_SquareFwdIdeal [hSquareFwdIdeal : Cert.SquareFwdIdeal.Facts] : Prop :=
  ∀ (m : (ℓ : Loc Cert.SquareFwdIdeal.nD Cert.SquareFwdIdeal.τ Cert.SquareFwdIdeal.sig) → Buf (Elt Ideal) ℓ) (g : Dev Cert.SquareFwdIdeal.nD → PrngReg), Pre_SquareFwdIdeal m →
    θ_run (Cert.SquareFwdIdeal.defs (F := Ideal)) (onTc (τ := Cert.SquareFwdIdeal.τ) (Cert.SquareFwdIdeal.main (F := Ideal))) ⟨m, fun _ => 0, g⟩ (fun r => (∀ c : Dev Cert.SquareFwdIdeal.nD,
      r.2.mem ((c.tc : Thread Cert.SquareFwdIdeal.nD Cert.SquareFwdIdeal.τ).loc Cert.SquareFwdIdeal.main_arg0) = m ((c.tc : Thread Cert.SquareFwdIdeal.nD Cert.SquareFwdIdeal.τ).loc Cert.SquareFwdIdeal.main_arg0)
      ∧ r.2.mem ((c.tc : Thread Cert.SquareFwdIdeal.nD Cert.SquareFwdIdeal.τ).loc Cert.SquareFwdIdeal.main_arg1) = m ((c.tc : Thread Cert.SquareFwdIdeal.nD Cert.SquareFwdIdeal.τ).loc Cert.SquareFwdIdeal.main_arg1)
      ∧ r.2.mem ((c.tc : Thread Cert.SquareFwdIdeal.nD Cert.SquareFwdIdeal.τ).loc Cert.SquareFwdIdeal.main_arg2) = m ((c.tc : Thread Cert.SquareFwdIdeal.nD Cert.SquareFwdIdeal.τ).loc Cert.SquareFwdIdeal.main_arg2)
      ∧ r.2.mem ((c.tc : Thread Cert.SquareFwdIdeal.nD Cert.SquareFwdIdeal.τ).loc Cert.SquareFwdIdeal.main_arg3) = m ((c.tc : Thread Cert.SquareFwdIdeal.nD Cert.SquareFwdIdeal.τ).loc Cert.SquareFwdIdeal.main_arg3))
      ∧ r.2.sem = fun _ => 0)

def quiescent_SquareRefIdeal [hSquareRefIdeal : Cert.SquareRefIdeal.Facts] : Prop :=
  ∀ (m : (ℓ : Loc Cert.SquareRefIdeal.nD Cert.SquareRefIdeal.τ Cert.SquareRefIdeal.sig) → Buf (Elt Ideal) ℓ) (g : Dev Cert.SquareRefIdeal.nD → PrngReg), Pre_SquareRefIdeal m →
    θ_run (Cert.SquareRefIdeal.defs (F := Ideal)) (onTc (τ := Cert.SquareRefIdeal.τ) (Cert.SquareRefIdeal.main (F := Ideal))) ⟨m, fun _ => 0, g⟩ (fun r => (∀ c : Dev Cert.SquareRefIdeal.nD,
      r.2.mem ((c.tc : Thread Cert.SquareRefIdeal.nD Cert.SquareRefIdeal.τ).loc Cert.SquareRefIdeal.main_arg0) = m ((c.tc : Thread Cert.SquareRefIdeal.nD Cert.SquareRefIdeal.τ).loc Cert.SquareRefIdeal.main_arg0)
      ∧ r.2.mem ((c.tc : Thread Cert.SquareRefIdeal.nD Cert.SquareRefIdeal.τ).loc Cert.SquareRefIdeal.main_arg1) = m ((c.tc : Thread Cert.SquareRefIdeal.nD Cert.SquareRefIdeal.τ).loc Cert.SquareRefIdeal.main_arg1)
      ∧ r.2.mem ((c.tc : Thread Cert.SquareRefIdeal.nD Cert.SquareRefIdeal.τ).loc Cert.SquareRefIdeal.main_arg2) = m ((c.tc : Thread Cert.SquareRefIdeal.nD Cert.SquareRefIdeal.τ).loc Cert.SquareRefIdeal.main_arg2)
      ∧ r.2.mem ((c.tc : Thread Cert.SquareRefIdeal.nD Cert.SquareRefIdeal.τ).loc Cert.SquareRefIdeal.main_arg3) = m ((c.tc : Thread Cert.SquareRefIdeal.nD Cert.SquareRefIdeal.τ).loc Cert.SquareRefIdeal.main_arg3))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2)
      ∧ r.2.mem ((c.tc : Thread Cert.ProjFwd.nD Cert.ProjFwd.τ).loc Cert.ProjFwd.main_arg3) = m ((c.tc : Thread Cert.ProjFwd.nD Cert.ProjFwd.τ).loc Cert.ProjFwd.main_arg3))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_WinFwd [hWinFwd : Cert.WinFwd.Facts] : Prop :=
  ∀ (m : (ℓ : Loc Cert.WinFwd.nD Cert.WinFwd.τ Cert.WinFwd.sig) → Buf (Elt Bits) ℓ) (g : Dev Cert.WinFwd.nD → PrngReg), Pre_WinFwd m →
    θ_run (Cert.WinFwd.defs (F := Bits)) (onTc (τ := Cert.WinFwd.τ) (Cert.WinFwd.main (F := Bits))) ⟨m, fun _ => 0, g⟩ (fun r => (∀ c : Dev Cert.WinFwd.nD,
      r.2.mem ((c.tc : Thread Cert.WinFwd.nD Cert.WinFwd.τ).loc Cert.WinFwd.main_arg0) = m ((c.tc : Thread Cert.WinFwd.nD Cert.WinFwd.τ).loc Cert.WinFwd.main_arg0)
      ∧ r.2.mem ((c.tc : Thread Cert.WinFwd.nD Cert.WinFwd.τ).loc Cert.WinFwd.main_arg1) = m ((c.tc : Thread Cert.WinFwd.nD Cert.WinFwd.τ).loc Cert.WinFwd.main_arg1))
      ∧ r.2.sem = fun _ => 0)

def quiescent_WinFwdIdeal [hWinFwdIdeal : Cert.WinFwdIdeal.Facts] : Prop :=
  ∀ (m : (ℓ : Loc Cert.WinFwdIdeal.nD Cert.WinFwdIdeal.τ Cert.WinFwdIdeal.sig) → Buf (Elt Ideal) ℓ) (g : Dev Cert.WinFwdIdeal.nD → PrngReg), Pre_WinFwdIdeal m →
    θ_run (Cert.WinFwdIdeal.defs (F := Ideal)) (onTc (τ := Cert.WinFwdIdeal.τ) (Cert.WinFwdIdeal.main (F := Ideal))) ⟨m, fun _ => 0, g⟩ (fun r => (∀ c : Dev Cert.WinFwdIdeal.nD,
      r.2.mem ((c.tc : Thread Cert.WinFwdIdeal.nD Cert.WinFwdIdeal.τ).loc Cert.WinFwdIdeal.main_arg0) = m ((c.tc : Thread Cert.WinFwdIdeal.nD Cert.WinFwdIdeal.τ).loc Cert.WinFwdIdeal.main_arg0)
      ∧ r.2.mem ((c.tc : Thread Cert.WinFwdIdeal.nD Cert.WinFwdIdeal.τ).loc Cert.WinFwdIdeal.main_arg1) = m ((c.tc : Thread Cert.WinFwdIdeal.nD Cert.WinFwdIdeal.τ).loc Cert.WinFwdIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_WzFwd [hWzFwd : Cert.WzFwd.Facts] : Prop :=
  ∀ (m : (ℓ : Loc Cert.WzFwd.nD Cert.WzFwd.τ Cert.WzFwd.sig) → Buf (Elt Bits) ℓ) (g : Dev Cert.WzFwd.nD → PrngReg), Pre_WzFwd m →
    θ_run (Cert.WzFwd.defs (F := Bits)) (onTc (τ := Cert.WzFwd.τ) (Cert.WzFwd.main (F := Bits))) ⟨m, fun _ => 0, g⟩ (fun r => (∀ c : Dev Cert.WzFwd.nD,
      r.2.mem ((c.tc : Thread Cert.WzFwd.nD Cert.WzFwd.τ).loc Cert.WzFwd.main_arg0) = m ((c.tc : Thread Cert.WzFwd.nD Cert.WzFwd.τ).loc Cert.WzFwd.main_arg0)
      ∧ r.2.mem ((c.tc : Thread Cert.WzFwd.nD Cert.WzFwd.τ).loc Cert.WzFwd.main_arg1) = m ((c.tc : Thread Cert.WzFwd.nD Cert.WzFwd.τ).loc Cert.WzFwd.main_arg1))
      ∧ r.2.sem = fun _ => 0)

def quiescent_WzFwdIdeal [hWzFwdIdeal : Cert.WzFwdIdeal.Facts] : Prop :=
  ∀ (m : (ℓ : Loc Cert.WzFwdIdeal.nD Cert.WzFwdIdeal.τ Cert.WzFwdIdeal.sig) → Buf (Elt Ideal) ℓ) (g : Dev Cert.WzFwdIdeal.nD → PrngReg), Pre_WzFwdIdeal m →
    θ_run (Cert.WzFwdIdeal.defs (F := Ideal)) (onTc (τ := Cert.WzFwdIdeal.τ) (Cert.WzFwdIdeal.main (F := Ideal))) ⟨m, fun _ => 0, g⟩ (fun r => (∀ c : Dev Cert.WzFwdIdeal.nD,
      r.2.mem ((c.tc : Thread Cert.WzFwdIdeal.nD Cert.WzFwdIdeal.τ).loc Cert.WzFwdIdeal.main_arg0) = m ((c.tc : Thread Cert.WzFwdIdeal.nD Cert.WzFwdIdeal.τ).loc Cert.WzFwdIdeal.main_arg0)
      ∧ r.2.mem ((c.tc : Thread Cert.WzFwdIdeal.nD Cert.WzFwdIdeal.τ).loc Cert.WzFwdIdeal.main_arg1) = m ((c.tc : Thread Cert.WzFwdIdeal.nD Cert.WzFwdIdeal.τ).loc Cert.WzFwdIdeal.main_arg1))
      ∧ r.2.sem = fun _ => 0)

def quiescent_WzRefIdeal [hWzRefIdeal : Cert.WzRefIdeal.Facts] : Prop :=
  ∀ (m : (ℓ : Loc Cert.WzRefIdeal.nD Cert.WzRefIdeal.τ Cert.WzRefIdeal.sig) → Buf (Elt Ideal) ℓ) (g : Dev Cert.WzRefIdeal.nD → PrngReg), Pre_WzRefIdeal m →
    θ_run (Cert.WzRefIdeal.defs (F := Ideal)) (onTc (τ := Cert.WzRefIdeal.τ) (Cert.WzRefIdeal.main (F := Ideal))) ⟨m, fun _ => 0, g⟩ (fun r => (∀ c : Dev Cert.WzRefIdeal.nD,
      r.2.mem ((c.tc : Thread Cert.WzRefIdeal.nD Cert.WzRefIdeal.τ).loc Cert.WzRefIdeal.main_arg0) = m ((c.tc : Thread Cert.WzRefIdeal.nD Cert.WzRefIdeal.τ).loc Cert.WzRefIdeal.main_arg0)
      ∧ r.2.mem ((c.tc : Thread Cert.WzRefIdeal.nD Cert.WzRefIdeal.τ).loc Cert.WzRefIdeal.main_arg1) = m ((c.tc : Thread Cert.WzRefIdeal.nD Cert.WzRefIdeal.τ).loc Cert.WzRefIdeal.main_arg1))
      ∧ r.2.sem = fun _ => 0)

def quiescent_WxbcFwd [hWxbcFwd : Cert.WxbcFwd.Facts] : Prop :=
  ∀ (m : (ℓ : Loc Cert.WxbcFwd.nD Cert.WxbcFwd.τ Cert.WxbcFwd.sig) → Buf (Elt Bits) ℓ) (g : Dev Cert.WxbcFwd.nD → PrngReg), Pre_WxbcFwd m →
    θ_run (Cert.WxbcFwd.defs (F := Bits)) (onTc (τ := Cert.WxbcFwd.τ) (Cert.WxbcFwd.main (F := Bits))) ⟨m, fun _ => 0, g⟩ (fun r => (∀ c : Dev Cert.WxbcFwd.nD,
      r.2.mem ((c.tc : Thread Cert.WxbcFwd.nD Cert.WxbcFwd.τ).loc Cert.WxbcFwd.main_arg0) = m ((c.tc : Thread Cert.WxbcFwd.nD Cert.WxbcFwd.τ).loc Cert.WxbcFwd.main_arg0)
      ∧ r.2.mem ((c.tc : Thread Cert.WxbcFwd.nD Cert.WxbcFwd.τ).loc Cert.WxbcFwd.main_arg1) = m ((c.tc : Thread Cert.WxbcFwd.nD Cert.WxbcFwd.τ).loc Cert.WxbcFwd.main_arg1))
      ∧ r.2.sem = fun _ => 0)

def quiescent_WxbcFwdIdeal [hWxbcFwdIdeal : Cert.WxbcFwdIdeal.Facts] : Prop :=
  ∀ (m : (ℓ : Loc Cert.WxbcFwdIdeal.nD Cert.WxbcFwdIdeal.τ Cert.WxbcFwdIdeal.sig) → Buf (Elt Ideal) ℓ) (g : Dev Cert.WxbcFwdIdeal.nD → PrngReg), Pre_WxbcFwdIdeal m →
    θ_run (Cert.WxbcFwdIdeal.defs (F := Ideal)) (onTc (τ := Cert.WxbcFwdIdeal.τ) (Cert.WxbcFwdIdeal.main (F := Ideal))) ⟨m, fun _ => 0, g⟩ (fun r => (∀ c : Dev Cert.WxbcFwdIdeal.nD,
      r.2.mem ((c.tc : Thread Cert.WxbcFwdIdeal.nD Cert.WxbcFwdIdeal.τ).loc Cert.WxbcFwdIdeal.main_arg0) = m ((c.tc : Thread Cert.WxbcFwdIdeal.nD Cert.WxbcFwdIdeal.τ).loc Cert.WxbcFwdIdeal.main_arg0)
      ∧ r.2.mem ((c.tc : Thread Cert.WxbcFwdIdeal.nD Cert.WxbcFwdIdeal.τ).loc Cert.WxbcFwdIdeal.main_arg1) = m ((c.tc : Thread Cert.WxbcFwdIdeal.nD Cert.WxbcFwdIdeal.τ).loc Cert.WxbcFwdIdeal.main_arg1))
      ∧ r.2.sem = fun _ => 0)

def quiescent_WxbcRefIdeal [hWxbcRefIdeal : Cert.WxbcRefIdeal.Facts] : Prop :=
  ∀ (m : (ℓ : Loc Cert.WxbcRefIdeal.nD Cert.WxbcRefIdeal.τ Cert.WxbcRefIdeal.sig) → Buf (Elt Ideal) ℓ) (g : Dev Cert.WxbcRefIdeal.nD → PrngReg), Pre_WxbcRefIdeal m →
    θ_run (Cert.WxbcRefIdeal.defs (F := Ideal)) (onTc (τ := Cert.WxbcRefIdeal.τ) (Cert.WxbcRefIdeal.main (F := Ideal))) ⟨m, fun _ => 0, g⟩ (fun r => (∀ c : Dev Cert.WxbcRefIdeal.nD,
      r.2.mem ((c.tc : Thread Cert.WxbcRefIdeal.nD Cert.WxbcRefIdeal.τ).loc Cert.WxbcRefIdeal.main_arg0) = m ((c.tc : Thread Cert.WxbcRefIdeal.nD Cert.WxbcRefIdeal.τ).loc Cert.WxbcRefIdeal.main_arg0)
      ∧ r.2.mem ((c.tc : Thread Cert.WxbcRefIdeal.nD Cert.WxbcRefIdeal.τ).loc Cert.WxbcRefIdeal.main_arg1) = m ((c.tc : Thread Cert.WxbcRefIdeal.nD Cert.WxbcRefIdeal.τ).loc Cert.WxbcRefIdeal.main_arg1))
      ∧ r.2.sem = fun _ => 0)

def quiescent_WdtFwd [hWdtFwd : Cert.WdtFwd.Facts] : Prop :=
  ∀ (m : (ℓ : Loc Cert.WdtFwd.nD Cert.WdtFwd.τ Cert.WdtFwd.sig) → Buf (Elt Bits) ℓ) (g : Dev Cert.WdtFwd.nD → PrngReg), Pre_WdtFwd m →
    θ_run (Cert.WdtFwd.defs (F := Bits)) (onTc (τ := Cert.WdtFwd.τ) (Cert.WdtFwd.main (F := Bits))) ⟨m, fun _ => 0, g⟩ (fun r => (∀ c : Dev Cert.WdtFwd.nD,
      r.2.mem ((c.tc : Thread Cert.WdtFwd.nD Cert.WdtFwd.τ).loc Cert.WdtFwd.main_arg0) = m ((c.tc : Thread Cert.WdtFwd.nD Cert.WdtFwd.τ).loc Cert.WdtFwd.main_arg0)
      ∧ r.2.mem ((c.tc : Thread Cert.WdtFwd.nD Cert.WdtFwd.τ).loc Cert.WdtFwd.main_arg1) = m ((c.tc : Thread Cert.WdtFwd.nD Cert.WdtFwd.τ).loc Cert.WdtFwd.main_arg1))
      ∧ r.2.sem = fun _ => 0)

def quiescent_WdtFwdIdeal [hWdtFwdIdeal : Cert.WdtFwdIdeal.Facts] : Prop :=
  ∀ (m : (ℓ : Loc Cert.WdtFwdIdeal.nD Cert.WdtFwdIdeal.τ Cert.WdtFwdIdeal.sig) → Buf (Elt Ideal) ℓ) (g : Dev Cert.WdtFwdIdeal.nD → PrngReg), Pre_WdtFwdIdeal m →
    θ_run (Cert.WdtFwdIdeal.defs (F := Ideal)) (onTc (τ := Cert.WdtFwdIdeal.τ) (Cert.WdtFwdIdeal.main (F := Ideal))) ⟨m, fun _ => 0, g⟩ (fun r => (∀ c : Dev Cert.WdtFwdIdeal.nD,
      r.2.mem ((c.tc : Thread Cert.WdtFwdIdeal.nD Cert.WdtFwdIdeal.τ).loc Cert.WdtFwdIdeal.main_arg0) = m ((c.tc : Thread Cert.WdtFwdIdeal.nD Cert.WdtFwdIdeal.τ).loc Cert.WdtFwdIdeal.main_arg0)
      ∧ r.2.mem ((c.tc : Thread Cert.WdtFwdIdeal.nD Cert.WdtFwdIdeal.τ).loc Cert.WdtFwdIdeal.main_arg1) = m ((c.tc : Thread Cert.WdtFwdIdeal.nD Cert.WdtFwdIdeal.τ).loc Cert.WdtFwdIdeal.main_arg1))
      ∧ r.2.sem = fun _ => 0)

def quiescent_WdtRefIdeal [hWdtRefIdeal : Cert.WdtRefIdeal.Facts] : Prop :=
  ∀ (m : (ℓ : Loc Cert.WdtRefIdeal.nD Cert.WdtRefIdeal.τ Cert.WdtRefIdeal.sig) → Buf (Elt Ideal) ℓ) (g : Dev Cert.WdtRefIdeal.nD → PrngReg), Pre_WdtRefIdeal m →
    θ_run (Cert.WdtRefIdeal.defs (F := Ideal)) (onTc (τ := Cert.WdtRefIdeal.τ) (Cert.WdtRefIdeal.main (F := Ideal))) ⟨m, fun _ => 0, g⟩ (fun r => (∀ c : Dev Cert.WdtRefIdeal.nD,
      r.2.mem ((c.tc : Thread Cert.WdtRefIdeal.nD Cert.WdtRefIdeal.τ).loc Cert.WdtRefIdeal.main_arg0) = m ((c.tc : Thread Cert.WdtRefIdeal.nD Cert.WdtRefIdeal.τ).loc Cert.WdtRefIdeal.main_arg0)
      ∧ r.2.mem ((c.tc : Thread Cert.WdtRefIdeal.nD Cert.WdtRefIdeal.τ).loc Cert.WdtRefIdeal.main_arg1) = m ((c.tc : Thread Cert.WdtRefIdeal.nD Cert.WdtRefIdeal.τ).loc Cert.WdtRefIdeal.main_arg1))
      ∧ r.2.sem = fun _ => 0)

def quiescent_DhBwd [hDhBwd : Cert.DhBwd.Facts] : Prop :=
  ∀ (m : (ℓ : Loc Cert.DhBwd.nD Cert.DhBwd.τ Cert.DhBwd.sig) → Buf (Elt Bits) ℓ) (g : Dev Cert.DhBwd.nD → PrngReg), Pre_DhBwd m →
    θ_run (Cert.DhBwd.defs (F := Bits)) (onTc (τ := Cert.DhBwd.τ) (Cert.DhBwd.main (F := Bits))) ⟨m, fun _ => 0, g⟩ (fun r => (∀ c : Dev Cert.DhBwd.nD,
      r.2.mem ((c.tc : Thread Cert.DhBwd.nD Cert.DhBwd.τ).loc Cert.DhBwd.main_arg0) = m ((c.tc : Thread Cert.DhBwd.nD Cert.DhBwd.τ).loc Cert.DhBwd.main_arg0)
      ∧ r.2.mem ((c.tc : Thread Cert.DhBwd.nD Cert.DhBwd.τ).loc Cert.DhBwd.main_arg1) = m ((c.tc : Thread Cert.DhBwd.nD Cert.DhBwd.τ).loc Cert.DhBwd.main_arg1))
      ∧ r.2.sem = fun _ => 0)

def quiescent_DhBwdIdeal [hDhBwdIdeal : Cert.DhBwdIdeal.Facts] : Prop :=
  ∀ (m : (ℓ : Loc Cert.DhBwdIdeal.nD Cert.DhBwdIdeal.τ Cert.DhBwdIdeal.sig) → Buf (Elt Ideal) ℓ) (g : Dev Cert.DhBwdIdeal.nD → PrngReg), Pre_DhBwdIdeal m →
    θ_run (Cert.DhBwdIdeal.defs (F := Ideal)) (onTc (τ := Cert.DhBwdIdeal.τ) (Cert.DhBwdIdeal.main (F := Ideal))) ⟨m, fun _ => 0, g⟩ (fun r => (∀ c : Dev Cert.DhBwdIdeal.nD,
      r.2.mem ((c.tc : Thread Cert.DhBwdIdeal.nD Cert.DhBwdIdeal.τ).loc Cert.DhBwdIdeal.main_arg0) = m ((c.tc : Thread Cert.DhBwdIdeal.nD Cert.DhBwdIdeal.τ).loc Cert.DhBwdIdeal.main_arg0)
      ∧ r.2.mem ((c.tc : Thread Cert.DhBwdIdeal.nD Cert.DhBwdIdeal.τ).loc Cert.DhBwdIdeal.main_arg1) = m ((c.tc : Thread Cert.DhBwdIdeal.nD Cert.DhBwdIdeal.τ).loc Cert.DhBwdIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_DmlpBwd [hDmlpBwd : Cert.DmlpBwd.Facts] : Prop :=
  ∀ (m : (ℓ : Loc Cert.DmlpBwd.nD Cert.DmlpBwd.τ Cert.DmlpBwd.sig) → Buf (Elt Bits) ℓ) (g : Dev Cert.DmlpBwd.nD → PrngReg), Pre_DmlpBwd m →
    θ_run (Cert.DmlpBwd.defs (F := Bits)) (onTc (τ := Cert.DmlpBwd.τ) (Cert.DmlpBwd.main (F := Bits))) ⟨m, fun _ => 0, g⟩ (fun r => (∀ c : Dev Cert.DmlpBwd.nD,
      r.2.mem ((c.tc : Thread Cert.DmlpBwd.nD Cert.DmlpBwd.τ).loc Cert.DmlpBwd.main_arg0) = m ((c.tc : Thread Cert.DmlpBwd.nD Cert.DmlpBwd.τ).loc Cert.DmlpBwd.main_arg0)
      ∧ r.2.mem ((c.tc : Thread Cert.DmlpBwd.nD Cert.DmlpBwd.τ).loc Cert.DmlpBwd.main_arg1) = m ((c.tc : Thread Cert.DmlpBwd.nD Cert.DmlpBwd.τ).loc Cert.DmlpBwd.main_arg1))
      ∧ r.2.sem = fun _ => 0)

def quiescent_DmlpBwdIdeal [hDmlpBwdIdeal : Cert.DmlpBwdIdeal.Facts] : Prop :=
  ∀ (m : (ℓ : Loc Cert.DmlpBwdIdeal.nD Cert.DmlpBwdIdeal.τ Cert.DmlpBwdIdeal.sig) → Buf (Elt Ideal) ℓ) (g : Dev Cert.DmlpBwdIdeal.nD → PrngReg), Pre_DmlpBwdIdeal m →
    θ_run (Cert.DmlpBwdIdeal.defs (F := Ideal)) (onTc (τ := Cert.DmlpBwdIdeal.τ) (Cert.DmlpBwdIdeal.main (F := Ideal))) ⟨m, fun _ => 0, g⟩ (fun r => (∀ c : Dev Cert.DmlpBwdIdeal.nD,
      r.2.mem ((c.tc : Thread Cert.DmlpBwdIdeal.nD Cert.DmlpBwdIdeal.τ).loc Cert.DmlpBwdIdeal.main_arg0) = m ((c.tc : Thread Cert.DmlpBwdIdeal.nD Cert.DmlpBwdIdeal.τ).loc Cert.DmlpBwdIdeal.main_arg0)
      ∧ r.2.mem ((c.tc : Thread Cert.DmlpBwdIdeal.nD Cert.DmlpBwdIdeal.τ).loc Cert.DmlpBwdIdeal.main_arg1) = m ((c.tc : Thread Cert.DmlpBwdIdeal.nD Cert.DmlpBwdIdeal.τ).loc Cert.DmlpBwdIdeal.main_arg1))
      ∧ r.2.sem = fun _ => 0)

def quiescent_DmlpRefIdeal [hDmlpRefIdeal : Cert.DmlpRefIdeal.Facts] : Prop :=
  ∀ (m : (ℓ : Loc Cert.DmlpRefIdeal.nD Cert.DmlpRefIdeal.τ Cert.DmlpRefIdeal.sig) → Buf (Elt Ideal) ℓ) (g : Dev Cert.DmlpRefIdeal.nD → PrngReg), Pre_DmlpRefIdeal m →
    θ_run (Cert.DmlpRefIdeal.defs (F := Ideal)) (onTc (τ := Cert.DmlpRefIdeal.τ) (Cert.DmlpRefIdeal.main (F := Ideal))) ⟨m, fun _ => 0, g⟩ (fun r => (∀ c : Dev Cert.DmlpRefIdeal.nD,
      r.2.mem ((c.tc : Thread Cert.DmlpRefIdeal.nD Cert.DmlpRefIdeal.τ).loc Cert.DmlpRefIdeal.main_arg0) = m ((c.tc : Thread Cert.DmlpRefIdeal.nD Cert.DmlpRefIdeal.τ).loc Cert.DmlpRefIdeal.main_arg0)
      ∧ r.2.mem ((c.tc : Thread Cert.DmlpRefIdeal.nD Cert.DmlpRefIdeal.τ).loc Cert.DmlpRefIdeal.main_arg1) = m ((c.tc : Thread Cert.DmlpRefIdeal.nD Cert.DmlpRefIdeal.τ).loc Cert.DmlpRefIdeal.main_arg1))
      ∧ r.2.sem = fun _ => 0)

def quiescent_DglBwd [hDglBwd : Cert.DglBwd.Facts] : Prop :=
  ∀ (m : (ℓ : Loc Cert.DglBwd.nD Cert.DglBwd.τ Cert.DglBwd.sig) → Buf (Elt Bits) ℓ) (g : Dev Cert.DglBwd.nD → PrngReg), Pre_DglBwd m →
    θ_run (Cert.DglBwd.defs (F := Bits)) (onTc (τ := Cert.DglBwd.τ) (Cert.DglBwd.main (F := Bits))) ⟨m, fun _ => 0, g⟩ (fun r => (∀ c : Dev Cert.DglBwd.nD,
      r.2.mem ((c.tc : Thread Cert.DglBwd.nD Cert.DglBwd.τ).loc Cert.DglBwd.main_arg0) = m ((c.tc : Thread Cert.DglBwd.nD Cert.DglBwd.τ).loc Cert.DglBwd.main_arg0)
      ∧ r.2.mem ((c.tc : Thread Cert.DglBwd.nD Cert.DglBwd.τ).loc Cert.DglBwd.main_arg1) = m ((c.tc : Thread Cert.DglBwd.nD Cert.DglBwd.τ).loc Cert.DglBwd.main_arg1))
      ∧ r.2.sem = fun _ => 0)

def quiescent_DglBwdIdeal [hDglBwdIdeal : Cert.DglBwdIdeal.Facts] : Prop :=
  ∀ (m : (ℓ : Loc Cert.DglBwdIdeal.nD Cert.DglBwdIdeal.τ Cert.DglBwdIdeal.sig) → Buf (Elt Ideal) ℓ) (g : Dev Cert.DglBwdIdeal.nD → PrngReg), Pre_DglBwdIdeal m →
    θ_run (Cert.DglBwdIdeal.defs (F := Ideal)) (onTc (τ := Cert.DglBwdIdeal.τ) (Cert.DglBwdIdeal.main (F := Ideal))) ⟨m, fun _ => 0, g⟩ (fun r => (∀ c : Dev Cert.DglBwdIdeal.nD,
      r.2.mem ((c.tc : Thread Cert.DglBwdIdeal.nD Cert.DglBwdIdeal.τ).loc Cert.DglBwdIdeal.main_arg0) = m ((c.tc : Thread Cert.DglBwdIdeal.nD Cert.DglBwdIdeal.τ).loc Cert.DglBwdIdeal.main_arg0)
      ∧ r.2.mem ((c.tc : Thread Cert.DglBwdIdeal.nD Cert.DglBwdIdeal.τ).loc Cert.DglBwdIdeal.main_arg1) = m ((c.tc : Thread Cert.DglBwdIdeal.nD Cert.DglBwdIdeal.τ).loc Cert.DglBwdIdeal.main_arg1))
      ∧ r.2.sem = fun _ => 0)

def quiescent_DglRefIdeal [hDglRefIdeal : Cert.DglRefIdeal.Facts] : Prop :=
  ∀ (m : (ℓ : Loc Cert.DglRefIdeal.nD Cert.DglRefIdeal.τ Cert.DglRefIdeal.sig) → Buf (Elt Ideal) ℓ) (g : Dev Cert.DglRefIdeal.nD → PrngReg), Pre_DglRefIdeal m →
    θ_run (Cert.DglRefIdeal.defs (F := Ideal)) (onTc (τ := Cert.DglRefIdeal.τ) (Cert.DglRefIdeal.main (F := Ideal))) ⟨m, fun _ => 0, g⟩ (fun r => (∀ c : Dev Cert.DglRefIdeal.nD,
      r.2.mem ((c.tc : Thread Cert.DglRefIdeal.nD Cert.DglRefIdeal.τ).loc Cert.DglRefIdeal.main_arg0) = m ((c.tc : Thread Cert.DglRefIdeal.nD Cert.DglRefIdeal.τ).loc Cert.DglRefIdeal.main_arg0)
      ∧ r.2.mem ((c.tc : Thread Cert.DglRefIdeal.nD Cert.DglRefIdeal.τ).loc Cert.DglRefIdeal.main_arg1) = m ((c.tc : Thread Cert.DglRefIdeal.nD Cert.DglRefIdeal.τ).loc Cert.DglRefIdeal.main_arg1))
      ∧ r.2.sem = fun _ => 0)

def quiescent_DynBwd [hDynBwd : Cert.DynBwd.Facts] : Prop :=
  ∀ (m : (ℓ : Loc Cert.DynBwd.nD Cert.DynBwd.τ Cert.DynBwd.sig) → Buf (Elt Bits) ℓ) (g : Dev Cert.DynBwd.nD → PrngReg), Pre_DynBwd m →
    θ_run (Cert.DynBwd.defs (F := Bits)) (onTc (τ := Cert.DynBwd.τ) (Cert.DynBwd.main (F := Bits))) ⟨m, fun _ => 0, g⟩ (fun r => (∀ c : Dev Cert.DynBwd.nD,
      r.2.mem ((c.tc : Thread Cert.DynBwd.nD Cert.DynBwd.τ).loc Cert.DynBwd.main_arg0) = m ((c.tc : Thread Cert.DynBwd.nD Cert.DynBwd.τ).loc Cert.DynBwd.main_arg0)
      ∧ r.2.mem ((c.tc : Thread Cert.DynBwd.nD Cert.DynBwd.τ).loc Cert.DynBwd.main_arg1) = m ((c.tc : Thread Cert.DynBwd.nD Cert.DynBwd.τ).loc Cert.DynBwd.main_arg1))
      ∧ r.2.sem = fun _ => 0)

def quiescent_DynBwdIdeal [hDynBwdIdeal : Cert.DynBwdIdeal.Facts] : Prop :=
  ∀ (m : (ℓ : Loc Cert.DynBwdIdeal.nD Cert.DynBwdIdeal.τ Cert.DynBwdIdeal.sig) → Buf (Elt Ideal) ℓ) (g : Dev Cert.DynBwdIdeal.nD → PrngReg), Pre_DynBwdIdeal m →
    θ_run (Cert.DynBwdIdeal.defs (F := Ideal)) (onTc (τ := Cert.DynBwdIdeal.τ) (Cert.DynBwdIdeal.main (F := Ideal))) ⟨m, fun _ => 0, g⟩ (fun r => (∀ c : Dev Cert.DynBwdIdeal.nD,
      r.2.mem ((c.tc : Thread Cert.DynBwdIdeal.nD Cert.DynBwdIdeal.τ).loc Cert.DynBwdIdeal.main_arg0) = m ((c.tc : Thread Cert.DynBwdIdeal.nD Cert.DynBwdIdeal.τ).loc Cert.DynBwdIdeal.main_arg0)
      ∧ r.2.mem ((c.tc : Thread Cert.DynBwdIdeal.nD Cert.DynBwdIdeal.τ).loc Cert.DynBwdIdeal.main_arg1) = m ((c.tc : Thread Cert.DynBwdIdeal.nD Cert.DynBwdIdeal.τ).loc Cert.DynBwdIdeal.main_arg1))
      ∧ r.2.sem = fun _ => 0)

def quiescent_DynRefIdeal [hDynRefIdeal : Cert.DynRefIdeal.Facts] : Prop :=
  ∀ (m : (ℓ : Loc Cert.DynRefIdeal.nD Cert.DynRefIdeal.τ Cert.DynRefIdeal.sig) → Buf (Elt Ideal) ℓ) (g : Dev Cert.DynRefIdeal.nD → PrngReg), Pre_DynRefIdeal m →
    θ_run (Cert.DynRefIdeal.defs (F := Ideal)) (onTc (τ := Cert.DynRefIdeal.τ) (Cert.DynRefIdeal.main (F := Ideal))) ⟨m, fun _ => 0, g⟩ (fun r => (∀ c : Dev Cert.DynRefIdeal.nD,
      r.2.mem ((c.tc : Thread Cert.DynRefIdeal.nD Cert.DynRefIdeal.τ).loc Cert.DynRefIdeal.main_arg0) = m ((c.tc : Thread Cert.DynRefIdeal.nD Cert.DynRefIdeal.τ).loc Cert.DynRefIdeal.main_arg0)
      ∧ r.2.mem ((c.tc : Thread Cert.DynRefIdeal.nD Cert.DynRefIdeal.τ).loc Cert.DynRefIdeal.main_arg1) = m ((c.tc : Thread Cert.DynRefIdeal.nD Cert.DynRefIdeal.τ).loc Cert.DynRefIdeal.main_arg1))
      ∧ r.2.sem = fun _ => 0)

def quiescent_DxbcBwd [hDxbcBwd : Cert.DxbcBwd.Facts] : Prop :=
  ∀ (m : (ℓ : Loc Cert.DxbcBwd.nD Cert.DxbcBwd.τ Cert.DxbcBwd.sig) → Buf (Elt Bits) ℓ) (g : Dev Cert.DxbcBwd.nD → PrngReg), Pre_DxbcBwd m →
    θ_run (Cert.DxbcBwd.defs (F := Bits)) (onTc (τ := Cert.DxbcBwd.τ) (Cert.DxbcBwd.main (F := Bits))) ⟨m, fun _ => 0, g⟩ (fun r => (∀ c : Dev Cert.DxbcBwd.nD,
      r.2.mem ((c.tc : Thread Cert.DxbcBwd.nD Cert.DxbcBwd.τ).loc Cert.DxbcBwd.main_arg0) = m ((c.tc : Thread Cert.DxbcBwd.nD Cert.DxbcBwd.τ).loc Cert.DxbcBwd.main_arg0)
      ∧ r.2.mem ((c.tc : Thread Cert.DxbcBwd.nD Cert.DxbcBwd.τ).loc Cert.DxbcBwd.main_arg1) = m ((c.tc : Thread Cert.DxbcBwd.nD Cert.DxbcBwd.τ).loc Cert.DxbcBwd.main_arg1)
      ∧ r.2.mem ((c.tc : Thread Cert.DxbcBwd.nD Cert.DxbcBwd.τ).loc Cert.DxbcBwd.main_arg2) = m ((c.tc : Thread Cert.DxbcBwd.nD Cert.DxbcBwd.τ).loc Cert.DxbcBwd.main_arg2))
      ∧ r.2.sem = fun _ => 0)

def quiescent_DxbcBwdIdeal [hDxbcBwdIdeal : Cert.DxbcBwdIdeal.Facts] : Prop :=
  ∀ (m : (ℓ : Loc Cert.DxbcBwdIdeal.nD Cert.DxbcBwdIdeal.τ Cert.DxbcBwdIdeal.sig) → Buf (Elt Ideal) ℓ) (g : Dev Cert.DxbcBwdIdeal.nD → PrngReg), Pre_DxbcBwdIdeal m →
    θ_run (Cert.DxbcBwdIdeal.defs (F := Ideal)) (onTc (τ := Cert.DxbcBwdIdeal.τ) (Cert.DxbcBwdIdeal.main (F := Ideal))) ⟨m, fun _ => 0, g⟩ (fun r => (∀ c : Dev Cert.DxbcBwdIdeal.nD,
      r.2.mem ((c.tc : Thread Cert.DxbcBwdIdeal.nD Cert.DxbcBwdIdeal.τ).loc Cert.DxbcBwdIdeal.main_arg0) = m ((c.tc : Thread Cert.DxbcBwdIdeal.nD Cert.DxbcBwdIdeal.τ).loc Cert.DxbcBwdIdeal.main_arg0)
      ∧ r.2.mem ((c.tc : Thread Cert.DxbcBwdIdeal.nD Cert.DxbcBwdIdeal.τ).loc Cert.DxbcBwdIdeal.main_arg1) = m ((c.tc : Thread Cert.DxbcBwdIdeal.nD Cert.DxbcBwdIdeal.τ).loc Cert.DxbcBwdIdeal.main_arg1)
      ∧ r.2.mem ((c.tc : Thread Cert.DxbcBwdIdeal.nD Cert.DxbcBwdIdeal.τ).loc Cert.DxbcBwdIdeal.main_arg2) = m ((c.tc : Thread Cert.DxbcBwdIdeal.nD Cert.DxbcBwdIdeal.τ).loc Cert.DxbcBwdIdeal.main_arg2))
      ∧ r.2.sem = fun _ => 0)

def quiescent_DxbcRefIdeal [hDxbcRefIdeal : Cert.DxbcRefIdeal.Facts] : Prop :=
  ∀ (m : (ℓ : Loc Cert.DxbcRefIdeal.nD Cert.DxbcRefIdeal.τ Cert.DxbcRefIdeal.sig) → Buf (Elt Ideal) ℓ) (g : Dev Cert.DxbcRefIdeal.nD → PrngReg), Pre_DxbcRefIdeal m →
    θ_run (Cert.DxbcRefIdeal.defs (F := Ideal)) (onTc (τ := Cert.DxbcRefIdeal.τ) (Cert.DxbcRefIdeal.main (F := Ideal))) ⟨m, fun _ => 0, g⟩ (fun r => (∀ c : Dev Cert.DxbcRefIdeal.nD,
      r.2.mem ((c.tc : Thread Cert.DxbcRefIdeal.nD Cert.DxbcRefIdeal.τ).loc Cert.DxbcRefIdeal.main_arg0) = m ((c.tc : Thread Cert.DxbcRefIdeal.nD Cert.DxbcRefIdeal.τ).loc Cert.DxbcRefIdeal.main_arg0)
      ∧ r.2.mem ((c.tc : Thread Cert.DxbcRefIdeal.nD Cert.DxbcRefIdeal.τ).loc Cert.DxbcRefIdeal.main_arg1) = m ((c.tc : Thread Cert.DxbcRefIdeal.nD Cert.DxbcRefIdeal.τ).loc Cert.DxbcRefIdeal.main_arg1)
      ∧ r.2.mem ((c.tc : Thread Cert.DxbcRefIdeal.nD Cert.DxbcRefIdeal.τ).loc Cert.DxbcRefIdeal.main_arg2) = m ((c.tc : Thread Cert.DxbcRefIdeal.nD Cert.DxbcRefIdeal.τ).loc Cert.DxbcRefIdeal.main_arg2))
      ∧ r.2.sem = fun _ => 0)

def preserves_GluBwd_GluBwdIdeal : Prop :=
  True

def algebraic_GluBwdIdeal_GluGradIdeal [hGluBwdIdeal : Cert.GluBwdIdeal.Facts] [hGluGradIdeal : Cert.GluGradIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluGradIdeal.nD Cert.GluGradIdeal.τ Cert.GluGradIdeal.sig) → Buf (Elt Ideal) ℓ) (g' : Dev Cert.GluGradIdeal.nD → PrngReg), Pre_GluBwdIdeal m →
    (∀ c : Dev Cert.GluBwdIdeal.nD,
      m' ((c.tc : Thread Cert.GluGradIdeal.nD Cert.GluGradIdeal.τ).loc Cert.GluGradIdeal.main_arg0) = m ((c.tc : Thread Cert.GluBwdIdeal.nD Cert.GluBwdIdeal.τ).loc Cert.GluBwdIdeal.main_arg0)
      ∧ m' ((c.tc : Thread Cert.GluGradIdeal.nD Cert.GluGradIdeal.τ).loc Cert.GluGradIdeal.main_arg1) = m ((c.tc : Thread Cert.GluBwdIdeal.nD Cert.GluBwdIdeal.τ).loc Cert.GluBwdIdeal.main_arg1)
      ∧ m' ((c.tc : Thread Cert.GluGradIdeal.nD Cert.GluGradIdeal.τ).loc Cert.GluGradIdeal.main_arg2) = m ((c.tc : Thread Cert.GluBwdIdeal.nD Cert.GluBwdIdeal.τ).loc Cert.GluBwdIdeal.main_arg2)
      ∧ m' ((c.tc : Thread Cert.GluGradIdeal.nD Cert.GluGradIdeal.τ).loc Cert.GluGradIdeal.main_arg3) = m ((c.tc : Thread Cert.GluBwdIdeal.nD Cert.GluBwdIdeal.τ).loc Cert.GluBwdIdeal.main_arg3)
      ∧ m' ((c.tc : Thread Cert.GluGradIdeal.nD Cert.GluGradIdeal.τ).loc Cert.GluGradIdeal.main_arg4) = m ((c.tc : Thread Cert.GluBwdIdeal.nD Cert.GluBwdIdeal.τ).loc Cert.GluBwdIdeal.main_arg4)) →
    ∃ (v0 : (c : Dev Cert.GluBwdIdeal.nD) → Buf (Elt Ideal) ((c.tc : Thread Cert.GluBwdIdeal.nD Cert.GluBwdIdeal.τ).loc Cert.GluBwdIdeal.main_v1_0)) (v1 : (c : Dev Cert.GluBwdIdeal.nD) → Buf (Elt Ideal) ((c.tc : Thread Cert.GluBwdIdeal.nD Cert.GluBwdIdeal.τ).loc Cert.GluBwdIdeal.main_v1_1)) (v2 : (c : Dev Cert.GluBwdIdeal.nD) → Buf (Elt Ideal) ((c.tc : Thread Cert.GluBwdIdeal.nD Cert.GluBwdIdeal.τ).loc Cert.GluBwdIdeal.main_v1_2)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v1_0) = v0 c
          ∧ r.2.mem ((c.tc : Thread Cert.GluBwdIdeal.nD Cert.GluBwdIdeal.τ).loc Cert.GluBwdIdeal.main_v1_1) = v1 c
          ∧ r.2.mem ((c.tc : Thread Cert.GluBwdIdeal.nD Cert.GluBwdIdeal.τ).loc Cert.GluBwdIdeal.main_v1_2) = v2 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
          ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ θ_run (Cert.GluGradIdeal.defs (F := Ideal)) (onTc (τ := Cert.GluGradIdeal.τ) (Cert.GluGradIdeal.main (F := Ideal))) ⟨m', fun _ => 0, g'⟩ (fun r => ∀ c : Dev Cert.GluGradIdeal.nD,
          r.2.mem ((c.tc : Thread Cert.GluGradIdeal.nD Cert.GluGradIdeal.τ).loc Cert.GluGradIdeal.main_v30) = v0 c
          ∧ r.2.mem ((c.tc : Thread Cert.GluGradIdeal.nD Cert.GluGradIdeal.τ).loc Cert.GluGradIdeal.main_v31) = v1 c
          ∧ r.2.mem ((c.tc : Thread Cert.GluGradIdeal.nD Cert.GluGradIdeal.τ).loc Cert.GluGradIdeal.main_v22) = v2 c
          ∧ r.2.mem ((c.tc : Thread Cert.GluGradIdeal.nD Cert.GluGradIdeal.τ).loc Cert.GluGradIdeal.main_arg0) = m' ((c.tc : Thread Cert.GluGradIdeal.nD Cert.GluGradIdeal.τ).loc Cert.GluGradIdeal.main_arg0)
          ∧ r.2.mem ((c.tc : Thread Cert.GluGradIdeal.nD Cert.GluGradIdeal.τ).loc Cert.GluGradIdeal.main_arg1) = m' ((c.tc : Thread Cert.GluGradIdeal.nD Cert.GluGradIdeal.τ).loc Cert.GluGradIdeal.main_arg1)
          ∧ r.2.mem ((c.tc : Thread Cert.GluGradIdeal.nD Cert.GluGradIdeal.τ).loc Cert.GluGradIdeal.main_arg2) = m' ((c.tc : Thread Cert.GluGradIdeal.nD Cert.GluGradIdeal.τ).loc Cert.GluGradIdeal.main_arg2)
          ∧ r.2.mem ((c.tc : Thread Cert.GluGradIdeal.nD Cert.GluGradIdeal.τ).loc Cert.GluGradIdeal.main_arg3) = m' ((c.tc : Thread Cert.GluGradIdeal.nD Cert.GluGradIdeal.τ).loc Cert.GluGradIdeal.main_arg3)
          ∧ r.2.mem ((c.tc : Thread Cert.GluGradIdeal.nD Cert.GluGradIdeal.τ).loc Cert.GluGradIdeal.main_arg4) = m' ((c.tc : Thread Cert.GluGradIdeal.nD Cert.GluGradIdeal.τ).loc Cert.GluGradIdeal.main_arg4))

def preserves_GeluBwd_GeluBwdIdeal : Prop :=
  IdealRules.named_const.Statement Cert.GeluBwdIdeal.κ "gelu_c" .f32 0x3D372713#32 ((8943 / 200000 : ℝ) : EReal)
  ∧ IdealRules.named_const.Statement Cert.GeluBwdIdeal.κ "gelu_3c" .f32 0x3E095D4F#32 ((26829 / 200000 : ℝ) : EReal)

def algebraic_GeluBwdIdeal_GeluGradIdeal_pre_gelu_finite [hGeluBwdIdeal : Cert.GeluBwdIdeal.Facts] [hGeluGradIdeal : Cert.GeluGradIdeal.Facts] [hPre_gelu_finite : Cert.Pre_gelu_finite.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg)
    (m' : (ℓ : Loc Cert.GeluGradIdeal.nD Cert.GeluGradIdeal.τ Cert.GeluGradIdeal.sig) → Buf (Elt Ideal) ℓ) (g' : Dev Cert.GeluGradIdeal.nD → PrngReg), Pre_GeluBwdIdeal_gelu_finite m →
    (∀ c : Dev Cert.GeluBwdIdeal.nD,
      m' ((c.tc : Thread Cert.GeluGradIdeal.nD Cert.GeluGradIdeal.τ).loc Cert.GeluGradIdeal.main_arg0) = m ((c.tc : Thread Cert.GeluBwdIdeal.nD Cert.GeluBwdIdeal.τ).loc Cert.GeluBwdIdeal.main_arg0)
      ∧ m' ((c.tc : Thread Cert.GeluGradIdeal.nD Cert.GeluGradIdeal.τ).loc Cert.GeluGradIdeal.main_arg1) = m ((c.tc : Thread Cert.GeluBwdIdeal.nD Cert.GeluBwdIdeal.τ).loc Cert.GeluBwdIdeal.main_arg1)
      ∧ m' ((c.tc : Thread Cert.GeluGradIdeal.nD Cert.GeluGradIdeal.τ).loc Cert.GeluGradIdeal.main_arg2) = m ((c.tc : Thread Cert.GeluBwdIdeal.nD Cert.GeluBwdIdeal.τ).loc Cert.GeluBwdIdeal.main_arg2)
      ∧ m' ((c.tc : Thread Cert.GeluGradIdeal.nD Cert.GeluGradIdeal.τ).loc Cert.GeluGradIdeal.main_arg3) = m ((c.tc : Thread Cert.GeluBwdIdeal.nD Cert.GeluBwdIdeal.τ).loc Cert.GeluBwdIdeal.main_arg3)
      ∧ m' ((c.tc : Thread Cert.GeluGradIdeal.nD Cert.GeluGradIdeal.τ).loc Cert.GeluGradIdeal.main_arg4) = m ((c.tc : Thread Cert.GeluBwdIdeal.nD Cert.GeluBwdIdeal.τ).loc Cert.GeluBwdIdeal.main_arg4)) →
    ∃ (v0 : (c : Dev Cert.GeluBwdIdeal.nD) → Buf (Elt Ideal) ((c.tc : Thread Cert.GeluBwdIdeal.nD Cert.GeluBwdIdeal.τ).loc Cert.GeluBwdIdeal.main_v1_0)) (v1 : (c : Dev Cert.GeluBwdIdeal.nD) → Buf (Elt Ideal) ((c.tc : Thread Cert.GeluBwdIdeal.nD Cert.GeluBwdIdeal.τ).loc Cert.GeluBwdIdeal.main_v1_1)) (v2 : (c : Dev Cert.GeluBwdIdeal.nD) → Buf (Elt Ideal) ((c.tc : Thread Cert.GeluBwdIdeal.nD Cert.GeluBwdIdeal.τ).loc Cert.GeluBwdIdeal.main_v2)),
      θ_run (Cert.GeluBwdIdeal.defs (F := Ideal)) (onTc (τ := Cert.GeluBwdIdeal.τ) (Cert.GeluBwdIdeal.main (F := Ideal))) ⟨m, fun _ => 0, g⟩ (fun r => ∀ c : Dev Cert.GeluBwdIdeal.nD,
          r.2.mem ((c.tc : Thread Cert.GeluBwdIdeal.nD Cert.GeluBwdIdeal.τ).loc Cert.GeluBwdIdeal.main_v1_0) = v0 c
          ∧ r.2.mem ((c.tc : Thread Cert.GeluBwdIdeal.nD Cert.GeluBwdIdeal.τ).loc Cert.GeluBwdIdeal.main_v1_1) = v1 c
          ∧ r.2.mem ((c.tc : Thread Cert.GeluBwdIdeal.nD Cert.GeluBwdIdeal.τ).loc Cert.GeluBwdIdeal.main_v2) = v2 c
          ∧ r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
          ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1)
          ∧ r.2.mem ((c.tc : Thread Cert.GeluBwdIdeal.nD Cert.GeluBwdIdeal.τ).loc Cert.GeluBwdIdeal.main_arg2) = m ((c.tc : Thread Cert.GeluBwdIdeal.nD Cert.GeluBwdIdeal.τ).loc Cert.GeluBwdIdeal.main_arg2)
          ∧ r.2.mem ((c.tc : Thread Cert.GeluBwdIdeal.nD Cert.GeluBwdIdeal.τ).loc Cert.GeluBwdIdeal.main_arg3) = m ((c.tc : Thread Cert.GeluBwdIdeal.nD Cert.GeluBwdIdeal.τ).loc Cert.GeluBwdIdeal.main_arg3)
          ∧ r.2.mem ((c.tc : Thread Cert.GeluBwdIdeal.nD Cert.GeluBwdIdeal.τ).loc Cert.GeluBwdIdeal.main_arg4) = m ((c.tc : Thread Cert.GeluBwdIdeal.nD Cert.GeluBwdIdeal.τ).loc Cert.GeluBwdIdeal.main_arg4))
      ∧ θ_run (Cert.GeluGradIdeal.defs (F := Ideal)) (onTc (τ := Cert.GeluGradIdeal.τ) (Cert.GeluGradIdeal.main (F := Ideal))) ⟨m', fun _ => 0, g'⟩ (fun r => ∀ c : Dev Cert.GeluGradIdeal.nD,
          r.2.mem ((c.tc : Thread Cert.GeluGradIdeal.nD Cert.GeluGradIdeal.τ).loc Cert.GeluGradIdeal.main_v38) = v0 c
          ∧ r.2.mem ((c.tc : Thread Cert.GeluGradIdeal.nD Cert.GeluGradIdeal.τ).loc Cert.GeluGradIdeal.main_v45) = v1 c
          ∧ r.2.mem ((c.tc : Thread Cert.GeluGradIdeal.nD Cert.GeluGradIdeal.τ).loc Cert.GeluGradIdeal.main_v47) = v2 c
          ∧ r.2.mem ((c.tc : Thread Cert.GeluGradIdeal.nD Cert.GeluGradIdeal.τ).loc Cert.GeluGradIdeal.main_arg0) = m' ((c.tc : Thread Cert.GeluGradIdeal.nD Cert.GeluGradIdeal.τ).loc Cert.GeluGradIdeal.main_arg0)
          ∧ r.2.mem ((c.tc : Thread Cert.GeluGradIdeal.nD Cert.GeluGradIdeal.τ).loc Cert.GeluGradIdeal.main_arg1) = m' ((c.tc : Thread Cert.GeluGradIdeal.nD Cert.GeluGradIdeal.τ).loc Cert.GeluGradIdeal.main_arg1)
          ∧ r.2.mem ((c.tc : Thread Cert.GeluGradIdeal.nD Cert.GeluGradIdeal.τ).loc Cert.GeluGradIdeal.main_arg2) = m' ((c.tc : Thread Cert.GeluGradIdeal.nD Cert.GeluGradIdeal.τ).loc Cert.GeluGradIdeal.main_arg2)
          ∧ r.2.mem ((c.tc : Thread Cert.GeluGradIdeal.nD Cert.GeluGradIdeal.τ).loc Cert.GeluGradIdeal.main_arg3) = m' ((c.tc : Thread Cert.GeluGradIdeal.nD Cert.GeluGradIdeal.τ).loc Cert.GeluGradIdeal.main_arg3)
          ∧ r.2.mem ((c.tc : Thread Cert.GeluGradIdeal.nD Cert.GeluGradIdeal.τ).loc Cert.GeluGradIdeal.main_arg4) = m' ((c.tc : Thread Cert.GeluGradIdeal.nD Cert.GeluGradIdeal.τ).loc Cert.GeluGradIdeal.main_arg4))

def preserves_NormBwd_NormBwdIdeal : Prop :=
  True

def algebraic_NormBwdIdeal_NormGradIdeal_pre_norm_finite [hNormBwdIdeal : Cert.NormBwdIdeal.Facts] [hNormGradIdeal : Cert.NormGradIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormGradIdeal.nD Cert.NormGradIdeal.τ Cert.NormGradIdeal.sig) → Buf (Elt Ideal) ℓ) (g' : Dev Cert.NormGradIdeal.nD → PrngReg), Pre_NormBwdIdeal_norm_finite m →
    (∀ c : Dev Cert.NormBwdIdeal.nD,
      m' ((c.tc : Thread Cert.NormGradIdeal.nD Cert.NormGradIdeal.τ).loc Cert.NormGradIdeal.main_arg0) = m ((c.tc : Thread Cert.NormBwdIdeal.nD Cert.NormBwdIdeal.τ).loc Cert.NormBwdIdeal.main_arg0)
      ∧ m' ((c.tc : Thread Cert.NormGradIdeal.nD Cert.NormGradIdeal.τ).loc Cert.NormGradIdeal.main_arg1) = m ((c.tc : Thread Cert.NormBwdIdeal.nD Cert.NormBwdIdeal.τ).loc Cert.NormBwdIdeal.main_arg1)
      ∧ m' ((c.tc : Thread Cert.NormGradIdeal.nD Cert.NormGradIdeal.τ).loc Cert.NormGradIdeal.main_arg2) = m ((c.tc : Thread Cert.NormBwdIdeal.nD Cert.NormBwdIdeal.τ).loc Cert.NormBwdIdeal.main_arg2)
      ∧ m' ((c.tc : Thread Cert.NormGradIdeal.nD Cert.NormGradIdeal.τ).loc Cert.NormGradIdeal.main_arg3) = m ((c.tc : Thread Cert.NormBwdIdeal.nD Cert.NormBwdIdeal.τ).loc Cert.NormBwdIdeal.main_arg3)
      ∧ m' ((c.tc : Thread Cert.NormGradIdeal.nD Cert.NormGradIdeal.τ).loc Cert.NormGradIdeal.main_arg4) = m ((c.tc : Thread Cert.NormBwdIdeal.nD Cert.NormBwdIdeal.τ).loc Cert.NormBwdIdeal.main_arg4)
      ∧ m' ((c.tc : Thread Cert.NormGradIdeal.nD Cert.NormGradIdeal.τ).loc Cert.NormGradIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)) (v3 : (c : Dev Cert.NormBwdIdeal.nD) → Buf (Elt Ideal) ((c.tc : Thread Cert.NormBwdIdeal.nD Cert.NormBwdIdeal.τ).loc Cert.NormBwdIdeal.main_v1_3)) (v4 : (c : Dev Cert.NormBwdIdeal.nD) → Buf (Elt Ideal) ((c.tc : Thread Cert.NormBwdIdeal.nD Cert.NormBwdIdeal.τ).loc Cert.NormBwdIdeal.main_v1_4)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_v1_3) = v3 c
          ∧ r.2.mem ((c.tc : Thread Cert.NormBwdIdeal.nD Cert.NormBwdIdeal.τ).loc Cert.NormBwdIdeal.main_v1_4) = v4 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormGradIdeal.defs (F := Ideal)) (onTc (τ := Cert.NormGradIdeal.τ) (Cert.NormGradIdeal.main (F := Ideal))) ⟨m', fun _ => 0, g'⟩ (fun r => ∀ c : Dev Cert.NormGradIdeal.nD,
          r.2.mem ((c.tc : Thread Cert.NormGradIdeal.nD Cert.NormGradIdeal.τ).loc Cert.NormGradIdeal.main_v50) = v0 c
          ∧ r.2.mem ((c.tc : Thread Cert.NormGradIdeal.nD Cert.NormGradIdeal.τ).loc Cert.NormGradIdeal.main_v51) = v1 c
          ∧ r.2.mem ((c.tc : Thread Cert.NormGradIdeal.nD Cert.NormGradIdeal.τ).loc Cert.NormGradIdeal.main_v52) = v2 c
          ∧ r.2.mem ((c.tc : Thread Cert.NormGradIdeal.nD Cert.NormGradIdeal.τ).loc Cert.NormGradIdeal.main_v24) = v3 c
          ∧ r.2.mem ((c.tc : Thread Cert.NormGradIdeal.nD Cert.NormGradIdeal.τ).loc Cert.NormGradIdeal.main_v27) = v4 c
          ∧ r.2.mem ((c.tc : Thread Cert.NormGradIdeal.nD Cert.NormGradIdeal.τ).loc Cert.NormGradIdeal.main_arg0) = m' ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m' ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m' ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m' ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m' ((c.tc : Thread Cert.NormGradIdeal.nD Cert.NormGradIdeal.τ).loc Cert.NormGradIdeal.main_arg4)
          ∧ r.2.mem ((c.tc : Thread Cert.NormGradIdeal.nD Cert.NormGradIdeal.τ).loc Cert.NormGradIdeal.main_arg5) = m' ((c.tc : Thread Cert.NormGradIdeal.nD Cert.NormGradIdeal.τ).loc Cert.NormGradIdeal.main_arg5))

def preserves_GateNormBwd_GateNormBwdIdeal : Prop :=
  True

def algebraic_GateNormBwdIdeal_GateNormGradIdeal_pre_gatenorm_finite [hGateNormBwdIdeal : Cert.GateNormBwdIdeal.Facts] [hGateNormGradIdeal : Cert.GateNormGradIdeal.Facts] [hPre_gatenorm_finite : Cert.Pre_gatenorm_finite.Facts] : Prop :=
  ∀ (m : (ℓ : Loc Cert.GateNormBwdIdeal.nD Cert.GateNormBwdIdeal.τ Cert.GateNormBwdIdeal.sig) → Buf (Elt Ideal) ℓ) (g : Dev Cert.GateNormBwdIdeal.nD → PrngReg)
    (m' : (ℓ : Loc Cert.GateNormGradIdeal.nD Cert.GateNormGradIdeal.τ Cert.GateNormGradIdeal.sig) → Buf (Elt Ideal) ℓ) (g' : Dev Cert.GateNormGradIdeal.nD → PrngReg), Pre_GateNormBwdIdeal_gatenorm_finite m →
    (∀ c : Dev Cert.GateNormBwdIdeal.nD,
      m' ((c.tc : Thread Cert.GateNormGradIdeal.nD Cert.GateNormGradIdeal.τ).loc Cert.GateNormGradIdeal.main_arg0) = m ((c.tc : Thread Cert.GateNormBwdIdeal.nD Cert.GateNormBwdIdeal.τ).loc Cert.GateNormBwdIdeal.main_arg0)
      ∧ m' ((c.tc : Thread Cert.GateNormGradIdeal.nD Cert.GateNormGradIdeal.τ).loc Cert.GateNormGradIdeal.main_arg1) = m ((c.tc : Thread Cert.GateNormBwdIdeal.nD Cert.GateNormBwdIdeal.τ).loc Cert.GateNormBwdIdeal.main_arg1)
      ∧ m' ((c.tc : Thread Cert.GateNormGradIdeal.nD Cert.GateNormGradIdeal.τ).loc Cert.GateNormGradIdeal.main_arg2) = m ((c.tc : Thread Cert.GateNormBwdIdeal.nD Cert.GateNormBwdIdeal.τ).loc Cert.GateNormBwdIdeal.main_arg2)
      ∧ m' ((c.tc : Thread Cert.GateNormGradIdeal.nD Cert.GateNormGradIdeal.τ).loc Cert.GateNormGradIdeal.main_arg3) = m ((c.tc : Thread Cert.GateNormBwdIdeal.nD Cert.GateNormBwdIdeal.τ).loc Cert.GateNormBwdIdeal.main_arg3)) →
    ∃ (v0 : (c : Dev Cert.GateNormBwdIdeal.nD) → Buf (Elt Ideal) ((c.tc : Thread Cert.GateNormBwdIdeal.nD Cert.GateNormBwdIdeal.τ).loc Cert.GateNormBwdIdeal.main_v1_0)) (v1 : (c : Dev Cert.GateNormBwdIdeal.nD) → Buf (Elt Ideal) ((c.tc : Thread Cert.GateNormBwdIdeal.nD Cert.GateNormBwdIdeal.τ).loc Cert.GateNormBwdIdeal.main_v1_1)) (v2 : (c : Dev Cert.GateNormBwdIdeal.nD) → Buf (Elt Ideal) ((c.tc : Thread Cert.GateNormBwdIdeal.nD Cert.GateNormBwdIdeal.τ).loc Cert.GateNormBwdIdeal.main_v1_2)),
      θ_run (Cert.GateNormBwdIdeal.defs (F := Ideal)) (onTc (τ := Cert.GateNormBwdIdeal.τ) (Cert.GateNormBwdIdeal.main (F := Ideal))) ⟨m, fun _ => 0, g⟩ (fun r => ∀ c : Dev Cert.GateNormBwdIdeal.nD,
          r.2.mem ((c.tc : Thread Cert.GateNormBwdIdeal.nD Cert.GateNormBwdIdeal.τ).loc Cert.GateNormBwdIdeal.main_v1_0) = v0 c
          ∧ r.2.mem ((c.tc : Thread Cert.GateNormBwdIdeal.nD Cert.GateNormBwdIdeal.τ).loc Cert.GateNormBwdIdeal.main_v1_1) = v1 c
          ∧ r.2.mem ((c.tc : Thread Cert.GateNormBwdIdeal.nD Cert.GateNormBwdIdeal.τ).loc Cert.GateNormBwdIdeal.main_v1_2) = v2 c
          ∧ r.2.mem ((c.tc : Thread Cert.GateNormBwdIdeal.nD Cert.GateNormBwdIdeal.τ).loc Cert.GateNormBwdIdeal.main_arg0) = m ((c.tc : Thread Cert.GateNormBwdIdeal.nD Cert.GateNormBwdIdeal.τ).loc Cert.GateNormBwdIdeal.main_arg0)
          ∧ r.2.mem ((c.tc : Thread Cert.GateNormBwdIdeal.nD Cert.GateNormBwdIdeal.τ).loc Cert.GateNormBwdIdeal.main_arg1) = m ((c.tc : Thread Cert.GateNormBwdIdeal.nD Cert.GateNormBwdIdeal.τ).loc Cert.GateNormBwdIdeal.main_arg1)
          ∧ r.2.mem ((c.tc : Thread Cert.GateNormBwdIdeal.nD Cert.GateNormBwdIdeal.τ).loc Cert.GateNormBwdIdeal.main_arg2) = m ((c.tc : Thread Cert.GateNormBwdIdeal.nD Cert.GateNormBwdIdeal.τ).loc Cert.GateNormBwdIdeal.main_arg2)
          ∧ r.2.mem ((c.tc : Thread Cert.GateNormBwdIdeal.nD Cert.GateNormBwdIdeal.τ).loc Cert.GateNormBwdIdeal.main_arg3) = m ((c.tc : Thread Cert.GateNormBwdIdeal.nD Cert.GateNormBwdIdeal.τ).loc Cert.GateNormBwdIdeal.main_arg3))
      ∧ θ_run (Cert.GateNormGradIdeal.defs (F := Ideal)) (onTc (τ := Cert.GateNormGradIdeal.τ) (Cert.GateNormGradIdeal.main (F := Ideal))) ⟨m', fun _ => 0, g'⟩ (fun r => ∀ c : Dev Cert.GateNormGradIdeal.nD,
          r.2.mem ((c.tc : Thread Cert.GateNormGradIdeal.nD Cert.GateNormGradIdeal.τ).loc Cert.GateNormGradIdeal.main_v43) = v0 c
          ∧ r.2.mem ((c.tc : Thread Cert.GateNormGradIdeal.nD Cert.GateNormGradIdeal.τ).loc Cert.GateNormGradIdeal.main_v45) = v1 c
          ∧ r.2.mem ((c.tc : Thread Cert.GateNormGradIdeal.nD Cert.GateNormGradIdeal.τ).loc Cert.GateNormGradIdeal.main_v46) = v2 c
          ∧ r.2.mem ((c.tc : Thread Cert.GateNormGradIdeal.nD Cert.GateNormGradIdeal.τ).loc Cert.GateNormGradIdeal.main_arg0) = m' ((c.tc : Thread Cert.GateNormGradIdeal.nD Cert.GateNormGradIdeal.τ).loc Cert.GateNormGradIdeal.main_arg0)
          ∧ r.2.mem ((c.tc : Thread Cert.GateNormGradIdeal.nD Cert.GateNormGradIdeal.τ).loc Cert.GateNormGradIdeal.main_arg1) = m' ((c.tc : Thread Cert.GateNormGradIdeal.nD Cert.GateNormGradIdeal.τ).loc Cert.GateNormGradIdeal.main_arg1)
          ∧ r.2.mem ((c.tc : Thread Cert.GateNormGradIdeal.nD Cert.GateNormGradIdeal.τ).loc Cert.GateNormGradIdeal.main_arg2) = m' ((c.tc : Thread Cert.GateNormGradIdeal.nD Cert.GateNormGradIdeal.τ).loc Cert.GateNormGradIdeal.main_arg2)
          ∧ r.2.mem ((c.tc : Thread Cert.GateNormGradIdeal.nD Cert.GateNormGradIdeal.τ).loc Cert.GateNormGradIdeal.main_arg3) = m' ((c.tc : Thread Cert.GateNormGradIdeal.nD Cert.GateNormGradIdeal.τ).loc Cert.GateNormGradIdeal.main_arg3))

def preserves_LossHead_LossHeadIdeal : Prop :=
  True

def algebraic_LossHeadIdeal_LossGradIdeal_pre_loss_finite [hLossHeadIdeal : Cert.LossHeadIdeal.Facts] [hLossGradIdeal : Cert.LossGradIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossGradIdeal.nD Cert.LossGradIdeal.τ Cert.LossGradIdeal.sig) → Buf (Elt Ideal) ℓ) (g' : Dev Cert.LossGradIdeal.nD → PrngReg), Pre_LossHeadIdeal_loss_finite m →
    (∀ c : Dev Cert.LossHeadIdeal.nD,
      m' ((c.tc : Thread Cert.LossGradIdeal.nD Cert.LossGradIdeal.τ).loc Cert.LossGradIdeal.main_arg0) = m ((c.tc : Thread Cert.LossHeadIdeal.nD Cert.LossHeadIdeal.τ).loc Cert.LossHeadIdeal.main_arg0)
      ∧ m' ((c.tc : Thread Cert.LossGradIdeal.nD Cert.LossGradIdeal.τ).loc Cert.LossGradIdeal.main_arg1) = m ((c.tc : Thread Cert.LossHeadIdeal.nD Cert.LossHeadIdeal.τ).loc Cert.LossHeadIdeal.main_arg1)
      ∧ m' ((c.tc : Thread Cert.LossGradIdeal.nD Cert.LossGradIdeal.τ).loc Cert.LossGradIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossGradIdeal.defs (F := Ideal)) (onTc (τ := Cert.LossGradIdeal.τ) (Cert.LossGradIdeal.main (F := Ideal))) ⟨m', fun _ => 0, g'⟩ (fun r => ∀ c : Dev Cert.LossGradIdeal.nD,
          r.2.mem ((c.tc : Thread Cert.LossGradIdeal.nD Cert.LossGradIdeal.τ).loc Cert.LossGradIdeal.main_v50) = v0 c
          ∧ r.2.mem ((c.tc : Thread Cert.LossGradIdeal.nD Cert.LossGradIdeal.τ).loc Cert.LossGradIdeal.main_v51) = v1 c
          ∧ r.2.mem ((c.tc : Thread Cert.LossGradIdeal.nD Cert.LossGradIdeal.τ).loc Cert.LossGradIdeal.main_v52) = v2 c
          ∧ r.2.mem ((c.tc : Thread Cert.LossGradIdeal.nD Cert.LossGradIdeal.τ).loc Cert.LossGradIdeal.main_v53) = v3 c
          ∧ r.2.mem ((c.tc : Thread Cert.LossGradIdeal.nD Cert.LossGradIdeal.τ).loc Cert.LossGradIdeal.main_arg0) = m' ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m' ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m' ((c.tc : Thread Cert.LossGradIdeal.nD Cert.LossGradIdeal.τ).loc Cert.LossGradIdeal.main_arg2))

def preserves_DrBwd_DrBwdIdeal : Prop :=
  True

def algebraic_DrBwdIdeal_DrGradIdeal [hDrBwdIdeal : Cert.DrBwdIdeal.Facts] [hDrGradIdeal : Cert.DrGradIdeal.Facts] : Prop :=
  ∀ (m : (ℓ : Loc Cert.DrBwdIdeal.nD Cert.DrBwdIdeal.τ Cert.DrBwdIdeal.sig) → Buf (Elt Ideal) ℓ) (g : Dev Cert.DrBwdIdeal.nD → PrngReg)
    (m' : (ℓ : Loc Cert.DrGradIdeal.nD Cert.DrGradIdeal.τ Cert.DrGradIdeal.sig) → Buf (Elt Ideal) ℓ) (g' : Dev Cert.DrGradIdeal.nD → PrngReg), Pre_DrBwdIdeal m →
    (∀ c : Dev Cert.DrBwdIdeal.nD,
      m' ((c.tc : Thread Cert.DrGradIdeal.nD Cert.DrGradIdeal.τ).loc Cert.DrGradIdeal.main_arg0) = m ((c.tc : Thread Cert.DrBwdIdeal.nD Cert.DrBwdIdeal.τ).loc Cert.DrBwdIdeal.main_arg0)
      ∧ m' ((c.tc : Thread Cert.DrGradIdeal.nD Cert.DrGradIdeal.τ).loc Cert.DrGradIdeal.main_arg1) = m ((c.tc : Thread Cert.DrBwdIdeal.nD Cert.DrBwdIdeal.τ).loc Cert.DrBwdIdeal.main_arg1)
      ∧ m' ((c.tc : Thread Cert.DrGradIdeal.nD Cert.DrGradIdeal.τ).loc Cert.DrGradIdeal.main_arg2) = m ((c.tc : Thread Cert.DrBwdIdeal.nD Cert.DrBwdIdeal.τ).loc Cert.DrBwdIdeal.main_arg2)
      ∧ m' ((c.tc : Thread Cert.DrGradIdeal.nD Cert.DrGradIdeal.τ).loc Cert.DrGradIdeal.main_arg3) = m ((c.tc : Thread Cert.DrBwdIdeal.nD Cert.DrBwdIdeal.τ).loc Cert.DrBwdIdeal.main_arg3)) →
    ∃ (v0 : (c : Dev Cert.DrBwdIdeal.nD) → Buf (Elt Ideal) ((c.tc : Thread Cert.DrBwdIdeal.nD Cert.DrBwdIdeal.τ).loc Cert.DrBwdIdeal.main_v5)),
      θ_run (Cert.DrBwdIdeal.defs (F := Ideal)) (onTc (τ := Cert.DrBwdIdeal.τ) (Cert.DrBwdIdeal.main (F := Ideal))) ⟨m, fun _ => 0, g⟩ (fun r => ∀ c : Dev Cert.DrBwdIdeal.nD,
          r.2.mem ((c.tc : Thread Cert.DrBwdIdeal.nD Cert.DrBwdIdeal.τ).loc Cert.DrBwdIdeal.main_v5) = v0 c
          ∧ r.2.mem ((c.tc : Thread Cert.DrBwdIdeal.nD Cert.DrBwdIdeal.τ).loc Cert.DrBwdIdeal.main_arg0) = m ((c.tc : Thread Cert.DrBwdIdeal.nD Cert.DrBwdIdeal.τ).loc Cert.DrBwdIdeal.main_arg0)
          ∧ r.2.mem ((c.tc : Thread Cert.DrBwdIdeal.nD Cert.DrBwdIdeal.τ).loc Cert.DrBwdIdeal.main_arg1) = m ((c.tc : Thread Cert.DrBwdIdeal.nD Cert.DrBwdIdeal.τ).loc Cert.DrBwdIdeal.main_arg1)
          ∧ r.2.mem ((c.tc : Thread Cert.DrBwdIdeal.nD Cert.DrBwdIdeal.τ).loc Cert.DrBwdIdeal.main_arg2) = m ((c.tc : Thread Cert.DrBwdIdeal.nD Cert.DrBwdIdeal.τ).loc Cert.DrBwdIdeal.main_arg2)
          ∧ r.2.mem ((c.tc : Thread Cert.DrBwdIdeal.nD Cert.DrBwdIdeal.τ).loc Cert.DrBwdIdeal.main_arg3) = m ((c.tc : Thread Cert.DrBwdIdeal.nD Cert.DrBwdIdeal.τ).loc Cert.DrBwdIdeal.main_arg3))
      ∧ θ_run (Cert.DrGradIdeal.defs (F := Ideal)) (onTc (τ := Cert.DrGradIdeal.τ) (Cert.DrGradIdeal.main (F := Ideal))) ⟨m', fun _ => 0, g'⟩ (fun r => ∀ c : Dev Cert.DrGradIdeal.nD,
          r.2.mem ((c.tc : Thread Cert.DrGradIdeal.nD Cert.DrGradIdeal.τ).loc Cert.DrGradIdeal.main_v16) = v0 c
          ∧ r.2.mem ((c.tc : Thread Cert.DrGradIdeal.nD Cert.DrGradIdeal.τ).loc Cert.DrGradIdeal.main_arg0) = m' ((c.tc : Thread Cert.DrGradIdeal.nD Cert.DrGradIdeal.τ).loc Cert.DrGradIdeal.main_arg0)
          ∧ r.2.mem ((c.tc : Thread Cert.DrGradIdeal.nD Cert.DrGradIdeal.τ).loc Cert.DrGradIdeal.main_arg1) = m' ((c.tc : Thread Cert.DrGradIdeal.nD Cert.DrGradIdeal.τ).loc Cert.DrGradIdeal.main_arg1)
          ∧ r.2.mem ((c.tc : Thread Cert.DrGradIdeal.nD Cert.DrGradIdeal.τ).loc Cert.DrGradIdeal.main_arg2) = m' ((c.tc : Thread Cert.DrGradIdeal.nD Cert.DrGradIdeal.τ).loc Cert.DrGradIdeal.main_arg2)
          ∧ r.2.mem ((c.tc : Thread Cert.DrGradIdeal.nD Cert.DrGradIdeal.τ).loc Cert.DrGradIdeal.main_arg3) = m' ((c.tc : Thread Cert.DrGradIdeal.nD Cert.DrGradIdeal.τ).loc Cert.DrGradIdeal.main_arg3))

def preserves_GateOutBwd_GateOutBwdIdeal : Prop :=
  True

def algebraic_GateOutBwdIdeal_GateOutGradIdeal_pre_gateout_finite [hGateOutBwdIdeal : Cert.GateOutBwdIdeal.Facts] [hGateOutGradIdeal : Cert.GateOutGradIdeal.Facts] [hPre_gateout_finite : Cert.Pre_gateout_finite.Facts] : Prop :=
  ∀ (m : (ℓ : Loc Cert.GateOutBwdIdeal.nD Cert.GateOutBwdIdeal.τ Cert.GateOutBwdIdeal.sig) → Buf (Elt Ideal) ℓ) (g : Dev Cert.GateOutBwdIdeal.nD → PrngReg)
    (m' : (ℓ : Loc Cert.GateOutGradIdeal.nD Cert.GateOutGradIdeal.τ Cert.GateOutGradIdeal.sig) → Buf (Elt Ideal) ℓ) (g' : Dev Cert.GateOutGradIdeal.nD → PrngReg), Pre_GateOutBwdIdeal_gateout_finite m →
    (∀ c : Dev Cert.GateOutBwdIdeal.nD,
      m' ((c.tc : Thread Cert.GateOutGradIdeal.nD Cert.GateOutGradIdeal.τ).loc Cert.GateOutGradIdeal.main_arg0) = m ((c.tc : Thread Cert.GateOutBwdIdeal.nD Cert.GateOutBwdIdeal.τ).loc Cert.GateOutBwdIdeal.main_arg0)
      ∧ m' ((c.tc : Thread Cert.GateOutGradIdeal.nD Cert.GateOutGradIdeal.τ).loc Cert.GateOutGradIdeal.main_arg1) = m ((c.tc : Thread Cert.GateOutBwdIdeal.nD Cert.GateOutBwdIdeal.τ).loc Cert.GateOutBwdIdeal.main_arg1)
      ∧ m' ((c.tc : Thread Cert.GateOutGradIdeal.nD Cert.GateOutGradIdeal.τ).loc Cert.GateOutGradIdeal.main_arg2) = m ((c.tc : Thread Cert.GateOutBwdIdeal.nD Cert.GateOutBwdIdeal.τ).loc Cert.GateOutBwdIdeal.main_arg2)
      ∧ m' ((c.tc : Thread Cert.GateOutGradIdeal.nD Cert.GateOutGradIdeal.τ).loc Cert.GateOutGradIdeal.main_arg3) = m ((c.tc : Thread Cert.GateOutBwdIdeal.nD Cert.GateOutBwdIdeal.τ).loc Cert.GateOutBwdIdeal.main_arg3)) →
    ∃ (v0 : (c : Dev Cert.GateOutBwdIdeal.nD) → Buf (Elt Ideal) ((c.tc : Thread Cert.GateOutBwdIdeal.nD Cert.GateOutBwdIdeal.τ).loc Cert.GateOutBwdIdeal.main_v4_0)) (v1 : (c : Dev Cert.GateOutBwdIdeal.nD) → Buf (Elt Ideal) ((c.tc : Thread Cert.GateOutBwdIdeal.nD Cert.GateOutBwdIdeal.τ).loc Cert.GateOutBwdIdeal.main_v5)),
      θ_run (Cert.GateOutBwdIdeal.defs (F := Ideal)) (onTc (τ := Cert.GateOutBwdIdeal.τ) (Cert.GateOutBwdIdeal.main (F := Ideal))) ⟨m, fun _ => 0, g⟩ (fun r => ∀ c : Dev Cert.GateOutBwdIdeal.nD,
          r.2.mem ((c.tc : Thread Cert.GateOutBwdIdeal.nD Cert.GateOutBwdIdeal.τ).loc Cert.GateOutBwdIdeal.main_v4_0) = v0 c
          ∧ r.2.mem ((c.tc : Thread Cert.GateOutBwdIdeal.nD Cert.GateOutBwdIdeal.τ).loc Cert.GateOutBwdIdeal.main_v5) = v1 c
          ∧ r.2.mem ((c.tc : Thread Cert.GateOutBwdIdeal.nD Cert.GateOutBwdIdeal.τ).loc Cert.GateOutBwdIdeal.main_arg0) = m ((c.tc : Thread Cert.GateOutBwdIdeal.nD Cert.GateOutBwdIdeal.τ).loc Cert.GateOutBwdIdeal.main_arg0)
          ∧ r.2.mem ((c.tc : Thread Cert.GateOutBwdIdeal.nD Cert.GateOutBwdIdeal.τ).loc Cert.GateOutBwdIdeal.main_arg1) = m ((c.tc : Thread Cert.GateOutBwdIdeal.nD Cert.GateOutBwdIdeal.τ).loc Cert.GateOutBwdIdeal.main_arg1)
          ∧ r.2.mem ((c.tc : Thread Cert.GateOutBwdIdeal.nD Cert.GateOutBwdIdeal.τ).loc Cert.GateOutBwdIdeal.main_arg2) = m ((c.tc : Thread Cert.GateOutBwdIdeal.nD Cert.GateOutBwdIdeal.τ).loc Cert.GateOutBwdIdeal.main_arg2)
          ∧ r.2.mem ((c.tc : Thread Cert.GateOutBwdIdeal.nD Cert.GateOutBwdIdeal.τ).loc Cert.GateOutBwdIdeal.main_arg3) = m ((c.tc : Thread Cert.GateOutBwdIdeal.nD Cert.GateOutBwdIdeal.τ).loc Cert.GateOutBwdIdeal.main_arg3))
      ∧ θ_run (Cert.GateOutGradIdeal.defs (F := Ideal)) (onTc (τ := Cert.GateOutGradIdeal.τ) (Cert.GateOutGradIdeal.main (F := Ideal))) ⟨m', fun _ => 0, g'⟩ (fun r => ∀ c : Dev Cert.GateOutGradIdeal.nD,
          r.2.mem ((c.tc : Thread Cert.GateOutGradIdeal.nD Cert.GateOutGradIdeal.τ).loc Cert.GateOutGradIdeal.main_v12) = v0 c
          ∧ r.2.mem ((c.tc : Thread Cert.GateOutGradIdeal.nD Cert.GateOutGradIdeal.τ).loc Cert.GateOutGradIdeal.main_v9) = v1 c
          ∧ r.2.mem ((c.tc : Thread Cert.GateOutGradIdeal.nD Cert.GateOutGradIdeal.τ).loc Cert.GateOutGradIdeal.main_arg0) = m' ((c.tc : Thread Cert.GateOutGradIdeal.nD Cert.GateOutGradIdeal.τ).loc Cert.GateOutGradIdeal.main_arg0)
          ∧ r.2.mem ((c.tc : Thread Cert.GateOutGradIdeal.nD Cert.GateOutGradIdeal.τ).loc Cert.GateOutGradIdeal.main_arg1) = m' ((c.tc : Thread Cert.GateOutGradIdeal.nD Cert.GateOutGradIdeal.τ).loc Cert.GateOutGradIdeal.main_arg1)
          ∧ r.2.mem ((c.tc : Thread Cert.GateOutGradIdeal.nD Cert.GateOutGradIdeal.τ).loc Cert.GateOutGradIdeal.main_arg2) = m' ((c.tc : Thread Cert.GateOutGradIdeal.nD Cert.GateOutGradIdeal.τ).loc Cert.GateOutGradIdeal.main_arg2)
          ∧ r.2.mem ((c.tc : Thread Cert.GateOutGradIdeal.nD Cert.GateOutGradIdeal.τ).loc Cert.GateOutGradIdeal.main_arg3) = m' ((c.tc : Thread Cert.GateOutGradIdeal.nD Cert.GateOutGradIdeal.τ).loc Cert.GateOutGradIdeal.main_arg3))

def preserves_SsdBwd_SsdBwdIdeal : Prop :=
  True

def algebraic_SsdBwdIdeal_SsdGradIdeal [hSsdBwdIdeal : Cert.SsdBwdIdeal.Facts] [hSsdGradIdeal : Cert.SsdGradIdeal.Facts] : Prop :=
  ∀ (m : (ℓ : Loc Cert.SsdBwdIdeal.nD Cert.SsdBwdIdeal.τ Cert.SsdBwdIdeal.sig) → Buf (Elt Ideal) ℓ) (g : Dev Cert.SsdBwdIdeal.nD → PrngReg)
    (m' : (ℓ : Loc Cert.SsdGradIdeal.nD Cert.SsdGradIdeal.τ Cert.SsdGradIdeal.sig) → Buf (Elt Ideal) ℓ) (g' : Dev Cert.SsdGradIdeal.nD → PrngReg), Pre_SsdBwdIdeal m →
    (∀ c : Dev Cert.SsdBwdIdeal.nD,
      m' ((c.tc : Thread Cert.SsdGradIdeal.nD Cert.SsdGradIdeal.τ).loc Cert.SsdGradIdeal.main_arg0) = m ((c.tc : Thread Cert.SsdBwdIdeal.nD Cert.SsdBwdIdeal.τ).loc Cert.SsdBwdIdeal.main_arg0)
      ∧ m' ((c.tc : Thread Cert.SsdGradIdeal.nD Cert.SsdGradIdeal.τ).loc Cert.SsdGradIdeal.main_arg1) = m ((c.tc : Thread Cert.SsdBwdIdeal.nD Cert.SsdBwdIdeal.τ).loc Cert.SsdBwdIdeal.main_arg1)
      ∧ m' ((c.tc : Thread Cert.SsdGradIdeal.nD Cert.SsdGradIdeal.τ).loc Cert.SsdGradIdeal.main_arg2) = m ((c.tc : Thread Cert.SsdBwdIdeal.nD Cert.SsdBwdIdeal.τ).loc Cert.SsdBwdIdeal.main_arg2)
      ∧ m' ((c.tc : Thread Cert.SsdGradIdeal.nD Cert.SsdGradIdeal.τ).loc Cert.SsdGradIdeal.main_arg3) = m ((c.tc : Thread Cert.SsdBwdIdeal.nD Cert.SsdBwdIdeal.τ).loc Cert.SsdBwdIdeal.main_arg3)
      ∧ m' ((c.tc : Thread Cert.SsdGradIdeal.nD Cert.SsdGradIdeal.τ).loc Cert.SsdGradIdeal.main_arg4) = m ((c.tc : Thread Cert.SsdBwdIdeal.nD Cert.SsdBwdIdeal.τ).loc Cert.SsdBwdIdeal.main_arg4)
      ∧ m' ((c.tc : Thread Cert.SsdGradIdeal.nD Cert.SsdGradIdeal.τ).loc Cert.SsdGradIdeal.main_arg5) = m ((c.tc : Thread Cert.SsdBwdIdeal.nD Cert.SsdBwdIdeal.τ).loc Cert.SsdBwdIdeal.main_arg5)
      ∧ m' ((c.tc : Thread Cert.SsdGradIdeal.nD Cert.SsdGradIdeal.τ).loc Cert.SsdGradIdeal.main_arg6) = m ((c.tc : Thread Cert.SsdBwdIdeal.nD Cert.SsdBwdIdeal.τ).loc Cert.SsdBwdIdeal.main_arg6)) →
    ∃ (v0 : (c : Dev Cert.SsdBwdIdeal.nD) → Buf (Elt Ideal) ((c.tc : Thread Cert.SsdBwdIdeal.nD Cert.SsdBwdIdeal.τ).loc Cert.SsdBwdIdeal.main_v28)) (v1 : (c : Dev Cert.SsdBwdIdeal.nD) → Buf (Elt Ideal) ((c.tc : Thread Cert.SsdBwdIdeal.nD Cert.SsdBwdIdeal.τ).loc Cert.SsdBwdIdeal.main_v30)),
      θ_run (Cert.SsdBwdIdeal.defs (F := Ideal)) (onTc (τ := Cert.SsdBwdIdeal.τ) (Cert.SsdBwdIdeal.main (F := Ideal))) ⟨m, fun _ => 0, g⟩ (fun r => ∀ c : Dev Cert.SsdBwdIdeal.nD,
          r.2.mem ((c.tc : Thread Cert.SsdBwdIdeal.nD Cert.SsdBwdIdeal.τ).loc Cert.SsdBwdIdeal.main_v28) = v0 c
          ∧ r.2.mem ((c.tc : Thread Cert.SsdBwdIdeal.nD Cert.SsdBwdIdeal.τ).loc Cert.SsdBwdIdeal.main_v30) = v1 c
          ∧ r.2.mem ((c.tc : Thread Cert.SsdBwdIdeal.nD Cert.SsdBwdIdeal.τ).loc Cert.SsdBwdIdeal.main_arg0) = m ((c.tc : Thread Cert.SsdBwdIdeal.nD Cert.SsdBwdIdeal.τ).loc Cert.SsdBwdIdeal.main_arg0)
          ∧ r.2.mem ((c.tc : Thread Cert.SsdBwdIdeal.nD Cert.SsdBwdIdeal.τ).loc Cert.SsdBwdIdeal.main_arg1) = m ((c.tc : Thread Cert.SsdBwdIdeal.nD Cert.SsdBwdIdeal.τ).loc Cert.SsdBwdIdeal.main_arg1)
          ∧ r.2.mem ((c.tc : Thread Cert.SsdBwdIdeal.nD Cert.SsdBwdIdeal.τ).loc Cert.SsdBwdIdeal.main_arg2) = m ((c.tc : Thread Cert.SsdBwdIdeal.nD Cert.SsdBwdIdeal.τ).loc Cert.SsdBwdIdeal.main_arg2)
          ∧ r.2.mem ((c.tc : Thread Cert.SsdBwdIdeal.nD Cert.SsdBwdIdeal.τ).loc Cert.SsdBwdIdeal.main_arg3) = m ((c.tc : Thread Cert.SsdBwdIdeal.nD Cert.SsdBwdIdeal.τ).loc Cert.SsdBwdIdeal.main_arg3)
          ∧ r.2.mem ((c.tc : Thread Cert.SsdBwdIdeal.nD Cert.SsdBwdIdeal.τ).loc Cert.SsdBwdIdeal.main_arg4) = m ((c.tc : Thread Cert.SsdBwdIdeal.nD Cert.SsdBwdIdeal.τ).loc Cert.SsdBwdIdeal.main_arg4)
          ∧ r.2.mem ((c.tc : Thread Cert.SsdBwdIdeal.nD Cert.SsdBwdIdeal.τ).loc Cert.SsdBwdIdeal.main_arg5) = m ((c.tc : Thread Cert.SsdBwdIdeal.nD Cert.SsdBwdIdeal.τ).loc Cert.SsdBwdIdeal.main_arg5)
          ∧ r.2.mem ((c.tc : Thread Cert.SsdBwdIdeal.nD Cert.SsdBwdIdeal.τ).loc Cert.SsdBwdIdeal.main_arg6) = m ((c.tc : Thread Cert.SsdBwdIdeal.nD Cert.SsdBwdIdeal.τ).loc Cert.SsdBwdIdeal.main_arg6))
      ∧ θ_run (Cert.SsdGradIdeal.defs (F := Ideal)) (onTc (τ := Cert.SsdGradIdeal.τ) (Cert.SsdGradIdeal.main (F := Ideal))) ⟨m', fun _ => 0, g'⟩ (fun r => ∀ c : Dev Cert.SsdGradIdeal.nD,
          r.2.mem ((c.tc : Thread Cert.SsdGradIdeal.nD Cert.SsdGradIdeal.τ).loc Cert.SsdGradIdeal.main_v95) = v0 c
          ∧ r.2.mem ((c.tc : Thread Cert.SsdGradIdeal.nD Cert.SsdGradIdeal.τ).loc Cert.SsdGradIdeal.main_v62) = v1 c
          ∧ r.2.mem ((c.tc : Thread Cert.SsdGradIdeal.nD Cert.SsdGradIdeal.τ).loc Cert.SsdGradIdeal.main_arg0) = m' ((c.tc : Thread Cert.SsdGradIdeal.nD Cert.SsdGradIdeal.τ).loc Cert.SsdGradIdeal.main_arg0)
          ∧ r.2.mem ((c.tc : Thread Cert.SsdGradIdeal.nD Cert.SsdGradIdeal.τ).loc Cert.SsdGradIdeal.main_arg1) = m' ((c.tc : Thread Cert.SsdGradIdeal.nD Cert.SsdGradIdeal.τ).loc Cert.SsdGradIdeal.main_arg1)
          ∧ r.2.mem ((c.tc : Thread Cert.SsdGradIdeal.nD Cert.SsdGradIdeal.τ).loc Cert.SsdGradIdeal.main_arg2) = m' ((c.tc : Thread Cert.SsdGradIdeal.nD Cert.SsdGradIdeal.τ).loc Cert.SsdGradIdeal.main_arg2)
          ∧ r.2.mem ((c.tc : Thread Cert.SsdGradIdeal.nD Cert.SsdGradIdeal.τ).loc Cert.SsdGradIdeal.main_arg3) = m' ((c.tc : Thread Cert.SsdGradIdeal.nD Cert.SsdGradIdeal.τ).loc Cert.SsdGradIdeal.main_arg3)
          ∧ r.2.mem ((c.tc : Thread Cert.SsdGradIdeal.nD Cert.SsdGradIdeal.τ).loc Cert.SsdGradIdeal.main_arg4) = m' ((c.tc : Thread Cert.SsdGradIdeal.nD Cert.SsdGradIdeal.τ).loc Cert.SsdGradIdeal.main_arg4)
          ∧ r.2.mem ((c.tc : Thread Cert.SsdGradIdeal.nD Cert.SsdGradIdeal.τ).loc Cert.SsdGradIdeal.main_arg5) = m' ((c.tc : Thread Cert.SsdGradIdeal.nD Cert.SsdGradIdeal.τ).loc Cert.SsdGradIdeal.main_arg5)
          ∧ r.2.mem ((c.tc : Thread Cert.SsdGradIdeal.nD Cert.SsdGradIdeal.τ).loc Cert.SsdGradIdeal.main_arg6) = m' ((c.tc : Thread Cert.SsdGradIdeal.nD Cert.SsdGradIdeal.τ).loc Cert.SsdGradIdeal.main_arg6))

def preserves_ScanFwd_ScanFwdIdeal : Prop :=
  True

def algebraic_ScanFwdIdeal_ScanRefIdeal [hScanFwdIdeal : Cert.ScanFwdIdeal.Facts] [hScanRefIdeal : Cert.ScanRefIdeal.Facts] : Prop :=
  ∀ (m : (ℓ : Loc Cert.ScanFwdIdeal.nD Cert.ScanFwdIdeal.τ Cert.ScanFwdIdeal.sig) → Buf (Elt Ideal) ℓ) (g : Dev Cert.ScanFwdIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanFwdIdeal m →
    (∀ c : Dev Cert.ScanFwdIdeal.nD,
      m' ((c.tc : Thread Cert.ScanRefIdeal.nD Cert.ScanRefIdeal.τ).loc Cert.ScanRefIdeal.main_arg0) = m ((c.tc : Thread Cert.ScanFwdIdeal.nD Cert.ScanFwdIdeal.τ).loc Cert.ScanFwdIdeal.main_arg0)
      ∧ m' ((c.tc : Thread Cert.ScanRefIdeal.nD Cert.ScanRefIdeal.τ).loc Cert.ScanRefIdeal.main_arg1) = m ((c.tc : Thread Cert.ScanFwdIdeal.nD Cert.ScanFwdIdeal.τ).loc Cert.ScanFwdIdeal.main_arg1)
      ∧ m' ((c.tc : Thread Cert.ScanRefIdeal.nD Cert.ScanRefIdeal.τ).loc Cert.ScanRefIdeal.main_arg2) = m ((c.tc : Thread Cert.ScanFwdIdeal.nD Cert.ScanFwdIdeal.τ).loc Cert.ScanFwdIdeal.main_arg2)
      ∧ m' ((c.tc : Thread Cert.ScanRefIdeal.nD Cert.ScanRefIdeal.τ).loc Cert.ScanRefIdeal.main_arg3) = m ((c.tc : Thread Cert.ScanFwdIdeal.nD Cert.ScanFwdIdeal.τ).loc Cert.ScanFwdIdeal.main_arg3)
      ∧ m' ((c.tc : Thread Cert.ScanRefIdeal.nD Cert.ScanRefIdeal.τ).loc Cert.ScanRefIdeal.main_arg4) = m ((c.tc : Thread Cert.ScanFwdIdeal.nD Cert.ScanFwdIdeal.τ).loc Cert.ScanFwdIdeal.main_arg4)) →
    ∃ (v0 : (c : Dev Cert.ScanFwdIdeal.nD) → Buf (Elt Ideal) ((c.tc : Thread Cert.ScanFwdIdeal.nD Cert.ScanFwdIdeal.τ).loc Cert.ScanFwdIdeal.main_v27_0)) (v1 : (c : Dev Cert.ScanFwdIdeal.nD) → Buf (Elt Ideal) ((c.tc : Thread Cert.ScanFwdIdeal.nD Cert.ScanFwdIdeal.τ).loc Cert.ScanFwdIdeal.main_v27_1)),
      θ_run (Cert.ScanFwdIdeal.defs (F := Ideal)) (onTc (τ := Cert.ScanFwdIdeal.τ) (Cert.ScanFwdIdeal.main (F := Ideal))) ⟨m, fun _ => 0, g⟩ (fun r => ∀ c : Dev Cert.ScanFwdIdeal.nD,
          r.2.mem ((c.tc : Thread Cert.ScanFwdIdeal.nD Cert.ScanFwdIdeal.τ).loc Cert.ScanFwdIdeal.main_v27_0) = v0 c
          ∧ r.2.mem ((c.tc : Thread Cert.ScanFwdIdeal.nD Cert.ScanFwdIdeal.τ).loc Cert.ScanFwdIdeal.main_v27_1) = v1 c
          ∧ r.2.mem ((c.tc : Thread Cert.ScanFwdIdeal.nD Cert.ScanFwdIdeal.τ).loc Cert.ScanFwdIdeal.main_arg0) = m ((c.tc : Thread Cert.ScanFwdIdeal.nD Cert.ScanFwdIdeal.τ).loc Cert.ScanFwdIdeal.main_arg0)
          ∧ r.2.mem ((c.tc : Thread Cert.ScanFwdIdeal.nD Cert.ScanFwdIdeal.τ).loc Cert.ScanFwdIdeal.main_arg1) = m ((c.tc : Thread Cert.ScanFwdIdeal.nD Cert.ScanFwdIdeal.τ).loc Cert.ScanFwdIdeal.main_arg1)
          ∧ r.2.mem ((c.tc : Thread Cert.ScanFwdIdeal.nD Cert.ScanFwdIdeal.τ).loc Cert.ScanFwdIdeal.main_arg2) = m ((c.tc : Thread Cert.ScanFwdIdeal.nD Cert.ScanFwdIdeal.τ).loc Cert.ScanFwdIdeal.main_arg2)
          ∧ r.2.mem ((c.tc : Thread Cert.ScanFwdIdeal.nD Cert.ScanFwdIdeal.τ).loc Cert.ScanFwdIdeal.main_arg3) = m ((c.tc : Thread Cert.ScanFwdIdeal.nD Cert.ScanFwdIdeal.τ).loc Cert.ScanFwdIdeal.main_arg3)
          ∧ r.2.mem ((c.tc : Thread Cert.ScanFwdIdeal.nD Cert.ScanFwdIdeal.τ).loc Cert.ScanFwdIdeal.main_arg4) = m ((c.tc : Thread Cert.ScanFwdIdeal.nD Cert.ScanFwdIdeal.τ).loc Cert.ScanFwdIdeal.main_arg4))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v68) = v0 c
          ∧ r.2.mem ((c.tc : Thread Cert.ScanRefIdeal.nD Cert.ScanRefIdeal.τ).loc Cert.ScanRefIdeal.main_v69) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)) →
    ∃ (v0 : (c : Dev Cert.ConvInIdeal.nD) → Buf (Elt Ideal) ((c.tc : Thread Cert.ConvInIdeal.nD Cert.ConvInIdeal.τ).loc Cert.ConvInIdeal.main_v0)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v52) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1))

def preserves_ConvPre_ConvPreIdeal : Prop :=
  True

def algebraic_ConvPreIdeal_ConvPreRefIdeal_pre_convpre_finite [hConvPreIdeal : Cert.ConvPreIdeal.Facts] [hConvPreRefIdeal : Cert.ConvPreRefIdeal.Facts] [hPre_convpre_finite : Cert.Pre_convpre_finite.Facts] : Prop :=
  ∀ (m : (ℓ : Loc Cert.ConvPreIdeal.nD Cert.ConvPreIdeal.τ Cert.ConvPreIdeal.sig) → Buf (Elt Ideal) ℓ) (g : Dev Cert.ConvPreIdeal.nD → PrngReg)
    (m' : (ℓ : Loc Cert.ConvPreRefIdeal.nD Cert.ConvPreRefIdeal.τ Cert.ConvPreRefIdeal.sig) → Buf (Elt Ideal) ℓ) (g' : Dev Cert.ConvPreRefIdeal.nD → PrngReg), Pre_ConvPreIdeal_convpre_finite m →
    (∀ c : Dev Cert.ConvPreIdeal.nD,
      m' ((c.tc : Thread Cert.ConvPreRefIdeal.nD Cert.ConvPreRefIdeal.τ).loc Cert.ConvPreRefIdeal.main_arg0) = m ((c.tc : Thread Cert.ConvPreIdeal.nD Cert.ConvPreIdeal.τ).loc Cert.ConvPreIdeal.main_arg0)
      ∧ m' ((c.tc : Thread Cert.ConvPreRefIdeal.nD Cert.ConvPreRefIdeal.τ).loc Cert.ConvPreRefIdeal.main_arg1) = m ((c.tc : Thread Cert.ConvPreIdeal.nD Cert.ConvPreIdeal.τ).loc Cert.ConvPreIdeal.main_arg1)
      ∧ m' ((c.tc : Thread Cert.ConvPreRefIdeal.nD Cert.ConvPreRefIdeal.τ).loc Cert.ConvPreRefIdeal.main_arg2) = m ((c.tc : Thread Cert.ConvPreIdeal.nD Cert.ConvPreIdeal.τ).loc Cert.ConvPreIdeal.main_arg2)
      ∧ m' ((c.tc : Thread Cert.ConvPreRefIdeal.nD Cert.ConvPreRefIdeal.τ).loc Cert.ConvPreRefIdeal.main_arg3) = m ((c.tc : Thread Cert.ConvPreIdeal.nD Cert.ConvPreIdeal.τ).loc Cert.ConvPreIdeal.main_arg3)) →
    ∃ (v0 : (c : Dev Cert.ConvPreIdeal.nD) → Buf (Elt Ideal) ((c.tc : Thread Cert.ConvPreIdeal.nD Cert.ConvPreIdeal.τ).loc Cert.ConvPreIdeal.main_v1_0)) (v1 : (c : Dev Cert.ConvPreIdeal.nD) → Buf (Elt Ideal) ((c.tc : Thread Cert.ConvPreIdeal.nD Cert.ConvPreIdeal.τ).loc Cert.ConvPreIdeal.main_v1_1)) (v2 : (c : Dev Cert.ConvPreIdeal.nD) → Buf (Elt Ideal) ((c.tc : Thread Cert.ConvPreIdeal.nD Cert.ConvPreIdeal.τ).loc Cert.ConvPreIdeal.main_v1_2)),
      θ_run (Cert.ConvPreIdeal.defs (F := Ideal)) (onTc (τ := Cert.ConvPreIdeal.τ) (Cert.ConvPreIdeal.main (F := Ideal))) ⟨m, fun _ => 0, g⟩ (fun r => ∀ c : Dev Cert.ConvPreIdeal.nD,
          r.2.mem ((c.tc : Thread Cert.ConvPreIdeal.nD Cert.ConvPreIdeal.τ).loc Cert.ConvPreIdeal.main_v1_0) = v0 c
          ∧ r.2.mem ((c.tc : Thread Cert.ConvPreIdeal.nD Cert.ConvPreIdeal.τ).loc Cert.ConvPreIdeal.main_v1_1) = v1 c
          ∧ r.2.mem ((c.tc : Thread Cert.ConvPreIdeal.nD Cert.ConvPreIdeal.τ).loc Cert.ConvPreIdeal.main_v1_2) = v2 c
          ∧ r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
          ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
          ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2)
          ∧ r.2.mem ((c.tc : Thread Cert.ConvPreIdeal.nD Cert.ConvPreIdeal.τ).loc Cert.ConvPreIdeal.main_arg3) = m ((c.tc : Thread Cert.ConvPreIdeal.nD Cert.ConvPreIdeal.τ).loc Cert.ConvPreIdeal.main_arg3))
      ∧ θ_run (Cert.ConvPreRefIdeal.defs (F := Ideal)) (onTc (τ := Cert.ConvPreRefIdeal.τ) (Cert.ConvPreRefIdeal.main (F := Ideal))) ⟨m', fun _ => 0, g'⟩ (fun r => ∀ c : Dev Cert.ConvPreRefIdeal.nD,
          r.2.mem ((c.tc : Thread Cert.ConvPreRefIdeal.nD Cert.ConvPreRefIdeal.τ).loc Cert.ConvPreRefIdeal.main_v35) = v0 c
          ∧ r.2.mem ((c.tc : Thread Cert.ConvPreRefIdeal.nD Cert.ConvPreRefIdeal.τ).loc Cert.ConvPreRefIdeal.main_v65) = v1 c
          ∧ r.2.mem ((c.tc : Thread Cert.ConvPreRefIdeal.nD Cert.ConvPreRefIdeal.τ).loc Cert.ConvPreRefIdeal.main_v66) = v2 c
          ∧ r.2.mem ((c.tc : Thread Cert.ConvPreRefIdeal.nD Cert.ConvPreRefIdeal.τ).loc Cert.ConvPreRefIdeal.main_arg0) = m' ((c.tc : Thread Cert.ConvPreRefIdeal.nD Cert.ConvPreRefIdeal.τ).loc Cert.ConvPreRefIdeal.main_arg0)
          ∧ r.2.mem ((c.tc : Thread Cert.ConvPreRefIdeal.nD Cert.ConvPreRefIdeal.τ).loc Cert.ConvPreRefIdeal.main_arg1) = m' ((c.tc : Thread Cert.ConvPreRefIdeal.nD Cert.ConvPreRefIdeal.τ).loc Cert.ConvPreRefIdeal.main_arg1)
          ∧ r.2.mem ((c.tc : Thread Cert.ConvPreRefIdeal.nD Cert.ConvPreRefIdeal.τ).loc Cert.ConvPreRefIdeal.main_arg2) = m' ((c.tc : Thread Cert.ConvPreRefIdeal.nD Cert.ConvPreRefIdeal.τ).loc Cert.ConvPreRefIdeal.main_arg2)
          ∧ r.2.mem ((c.tc : Thread Cert.ConvPreRefIdeal.nD Cert.ConvPreRefIdeal.τ).loc Cert.ConvPreRefIdeal.main_arg3) = m' ((c.tc : Thread Cert.ConvPreRefIdeal.nD Cert.ConvPreRefIdeal.τ).loc Cert.ConvPreRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v34) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_ModFwd_ModFwdIdeal : Prop :=
  True

def algebraic_ModFwdIdeal_ModRefIdeal [hModFwdIdeal : Cert.ModFwdIdeal.Facts] [hModRefIdeal : Cert.ModRefIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModFwdIdeal m →
    (∀ c : Dev Cert.ModFwdIdeal.nD,
      m' ((c.tc : Thread Cert.ModRefIdeal.nD Cert.ModRefIdeal.τ).loc Cert.ModRefIdeal.main_arg0) = m ((c.tc : Thread Cert.ModFwdIdeal.nD Cert.ModFwdIdeal.τ).loc Cert.ModFwdIdeal.main_arg0)
      ∧ m' ((c.tc : Thread Cert.ModRefIdeal.nD Cert.ModRefIdeal.τ).loc Cert.ModRefIdeal.main_arg1) = m ((c.tc : Thread Cert.ModFwdIdeal.nD Cert.ModFwdIdeal.τ).loc Cert.ModFwdIdeal.main_arg1)
      ∧ m' ((c.tc : Thread Cert.ModRefIdeal.nD Cert.ModRefIdeal.τ).loc Cert.ModRefIdeal.main_arg2) = m ((c.tc : Thread Cert.ModFwdIdeal.nD Cert.ModFwdIdeal.τ).loc Cert.ModFwdIdeal.main_arg2)
      ∧ m' ((c.tc : Thread Cert.ModRefIdeal.nD Cert.ModRefIdeal.τ).loc Cert.ModRefIdeal.main_arg3) = m ((c.tc : Thread Cert.ModFwdIdeal.nD Cert.ModFwdIdeal.τ).loc Cert.ModFwdIdeal.main_arg3)) →
    ∃ (v0 : (c : Dev Cert.ModFwdIdeal.nD) → Buf (Elt Ideal) ((c.tc : Thread Cert.ModFwdIdeal.nD Cert.ModFwdIdeal.τ).loc Cert.ModFwdIdeal.main_v1)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v1) = v0 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
          ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v19) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_SkipFwd_SkipFwdIdeal : Prop :=
  True

def algebraic_SkipFwdIdeal_SkipRefIdeal [hSkipFwdIdeal : Cert.SkipFwdIdeal.Facts] [hSkipRefIdeal : Cert.SkipRefIdeal.Facts] : Prop :=
  ∀ (m : (ℓ : Loc Cert.SkipFwdIdeal.nD Cert.SkipFwdIdeal.τ Cert.SkipFwdIdeal.sig) → Buf (Elt Ideal) ℓ) (g : Dev Cert.SkipFwdIdeal.nD → PrngReg)
    (m' : (ℓ : Loc Cert.SkipRefIdeal.nD Cert.SkipRefIdeal.τ Cert.SkipRefIdeal.sig) → Buf (Elt Ideal) ℓ) (g' : Dev Cert.SkipRefIdeal.nD → PrngReg), Pre_SkipFwdIdeal m →
    (∀ c : Dev Cert.SkipFwdIdeal.nD,
      m' ((c.tc : Thread Cert.SkipRefIdeal.nD Cert.SkipRefIdeal.τ).loc Cert.SkipRefIdeal.main_arg0) = m ((c.tc : Thread Cert.SkipFwdIdeal.nD Cert.SkipFwdIdeal.τ).loc Cert.SkipFwdIdeal.main_arg0)
      ∧ m' ((c.tc : Thread Cert.SkipRefIdeal.nD Cert.SkipRefIdeal.τ).loc Cert.SkipRefIdeal.main_arg1) = m ((c.tc : Thread Cert.SkipFwdIdeal.nD Cert.SkipFwdIdeal.τ).loc Cert.SkipFwdIdeal.main_arg1)
      ∧ m' ((c.tc : Thread Cert.SkipRefIdeal.nD Cert.SkipRefIdeal.τ).loc Cert.SkipRefIdeal.main_arg2) = m ((c.tc : Thread Cert.SkipFwdIdeal.nD Cert.SkipFwdIdeal.τ).loc Cert.SkipFwdIdeal.main_arg2)) →
    ∃ (v0 : (c : Dev Cert.SkipFwdIdeal.nD) → Buf (Elt Ideal) ((c.tc : Thread Cert.SkipFwdIdeal.nD Cert.SkipFwdIdeal.τ).loc Cert.SkipFwdIdeal.main_v1)),
      θ_run (Cert.SkipFwdIdeal.defs (F := Ideal)) (onTc (τ := Cert.SkipFwdIdeal.τ) (Cert.SkipFwdIdeal.main (F := Ideal))) ⟨m, fun _ => 0, g⟩ (fun r => ∀ c : Dev Cert.SkipFwdIdeal.nD,
          r.2.mem ((c.tc : Thread Cert.SkipFwdIdeal.nD Cert.SkipFwdIdeal.τ).loc Cert.SkipFwdIdeal.main_v1) = v0 c
          ∧ r.2.mem ((c.tc : Thread Cert.SkipFwdIdeal.nD Cert.SkipFwdIdeal.τ).loc Cert.SkipFwdIdeal.main_arg0) = m ((c.tc : Thread Cert.SkipFwdIdeal.nD Cert.SkipFwdIdeal.τ).loc Cert.SkipFwdIdeal.main_arg0)
          ∧ r.2.mem ((c.tc : Thread Cert.SkipFwdIdeal.nD Cert.SkipFwdIdeal.τ).loc Cert.SkipFwdIdeal.main_arg1) = m ((c.tc : Thread Cert.SkipFwdIdeal.nD Cert.SkipFwdIdeal.τ).loc Cert.SkipFwdIdeal.main_arg1)
          ∧ r.2.mem ((c.tc : Thread Cert.SkipFwdIdeal.nD Cert.SkipFwdIdeal.τ).loc Cert.SkipFwdIdeal.main_arg2) = m ((c.tc : Thread Cert.SkipFwdIdeal.nD Cert.SkipFwdIdeal.τ).loc Cert.SkipFwdIdeal.main_arg2))
      ∧ θ_run (Cert.SkipRefIdeal.defs (F := Ideal)) (onTc (τ := Cert.SkipRefIdeal.τ) (Cert.SkipRefIdeal.main (F := Ideal))) ⟨m', fun _ => 0, g'⟩ (fun r => ∀ c : Dev Cert.SkipRefIdeal.nD,
          r.2.mem ((c.tc : Thread Cert.SkipRefIdeal.nD Cert.SkipRefIdeal.τ).loc Cert.SkipRefIdeal.main_v17) = v0 c
          ∧ r.2.mem ((c.tc : Thread Cert.SkipRefIdeal.nD Cert.SkipRefIdeal.τ).loc Cert.SkipRefIdeal.main_arg0) = m' ((c.tc : Thread Cert.SkipRefIdeal.nD Cert.SkipRefIdeal.τ).loc Cert.SkipRefIdeal.main_arg0)
          ∧ r.2.mem ((c.tc : Thread Cert.SkipRefIdeal.nD Cert.SkipRefIdeal.τ).loc Cert.SkipRefIdeal.main_arg1) = m' ((c.tc : Thread Cert.SkipRefIdeal.nD Cert.SkipRefIdeal.τ).loc Cert.SkipRefIdeal.main_arg1)
          ∧ r.2.mem ((c.tc : Thread Cert.SkipRefIdeal.nD Cert.SkipRefIdeal.τ).loc Cert.SkipRefIdeal.main_arg2) = m' ((c.tc : Thread Cert.SkipRefIdeal.nD Cert.SkipRefIdeal.τ).loc Cert.SkipRefIdeal.main_arg2))

def preserves_GatedFwd_GatedFwdIdeal : Prop :=
  True

def algebraic_GatedFwdIdeal_GatedRefIdeal [hGatedFwdIdeal : Cert.GatedFwdIdeal.Facts] [hGatedRefIdeal : Cert.GatedRefIdeal.Facts] : Prop :=
  ∀ (m : (ℓ : Loc Cert.GatedFwdIdeal.nD Cert.GatedFwdIdeal.τ Cert.GatedFwdIdeal.sig) → Buf (Elt Ideal) ℓ) (g : Dev Cert.GatedFwdIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedFwdIdeal m →
    (∀ c : Dev Cert.GatedFwdIdeal.nD,
      m' ((c.tc : Thread Cert.GatedRefIdeal.nD Cert.GatedRefIdeal.τ).loc Cert.GatedRefIdeal.main_arg0) = m ((c.tc : Thread Cert.GatedFwdIdeal.nD Cert.GatedFwdIdeal.τ).loc Cert.GatedFwdIdeal.main_arg0)
      ∧ m' ((c.tc : Thread Cert.GatedRefIdeal.nD Cert.GatedRefIdeal.τ).loc Cert.GatedRefIdeal.main_arg1) = m ((c.tc : Thread Cert.GatedFwdIdeal.nD Cert.GatedFwdIdeal.τ).loc Cert.GatedFwdIdeal.main_arg1)
      ∧ m' ((c.tc : Thread Cert.GatedRefIdeal.nD Cert.GatedRefIdeal.τ).loc Cert.GatedRefIdeal.main_arg2) = m ((c.tc : Thread Cert.GatedFwdIdeal.nD Cert.GatedFwdIdeal.τ).loc Cert.GatedFwdIdeal.main_arg2)
      ∧ m' ((c.tc : Thread Cert.GatedRefIdeal.nD Cert.GatedRefIdeal.τ).loc Cert.GatedRefIdeal.main_arg3) = m ((c.tc : Thread Cert.GatedFwdIdeal.nD Cert.GatedFwdIdeal.τ).loc Cert.GatedFwdIdeal.main_arg3)) →
    ∃ (v0 : (c : Dev Cert.GatedFwdIdeal.nD) → Buf (Elt Ideal) ((c.tc : Thread Cert.GatedFwdIdeal.nD Cert.GatedFwdIdeal.τ).loc Cert.GatedFwdIdeal.main_v1)),
      θ_run (Cert.GatedFwdIdeal.defs (F := Ideal)) (onTc (τ := Cert.GatedFwdIdeal.τ) (Cert.GatedFwdIdeal.main (F := Ideal))) ⟨m, fun _ => 0, g⟩ (fun r => ∀ c : Dev Cert.GatedFwdIdeal.nD,
          r.2.mem ((c.tc : Thread Cert.GatedFwdIdeal.nD Cert.GatedFwdIdeal.τ).loc Cert.GatedFwdIdeal.main_v1) = v0 c
          ∧ r.2.mem ((c.tc : Thread Cert.GatedFwdIdeal.nD Cert.GatedFwdIdeal.τ).loc Cert.GatedFwdIdeal.main_arg0) = m ((c.tc : Thread Cert.GatedFwdIdeal.nD Cert.GatedFwdIdeal.τ).loc Cert.GatedFwdIdeal.main_arg0)
          ∧ r.2.mem ((c.tc : Thread Cert.GatedFwdIdeal.nD Cert.GatedFwdIdeal.τ).loc Cert.GatedFwdIdeal.main_arg1) = m ((c.tc : Thread Cert.GatedFwdIdeal.nD Cert.GatedFwdIdeal.τ).loc Cert.GatedFwdIdeal.main_arg1)
          ∧ r.2.mem ((c.tc : Thread Cert.GatedFwdIdeal.nD Cert.GatedFwdIdeal.τ).loc Cert.GatedFwdIdeal.main_arg2) = m ((c.tc : Thread Cert.GatedFwdIdeal.nD Cert.GatedFwdIdeal.τ).loc Cert.GatedFwdIdeal.main_arg2)
          ∧ r.2.mem ((c.tc : Thread Cert.GatedFwdIdeal.nD Cert.GatedFwdIdeal.τ).loc Cert.GatedFwdIdeal.main_arg3) = m ((c.tc : Thread Cert.GatedFwdIdeal.nD Cert.GatedFwdIdeal.τ).loc Cert.GatedFwdIdeal.main_arg3))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v14) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3))

def preserves_GroupFwd_GroupFwdIdeal : Prop :=
  True

def algebraic_GroupFwdIdeal_GroupRefIdeal [hGroupFwdIdeal : Cert.GroupFwdIdeal.Facts] [hGroupRefIdeal : Cert.GroupRefIdeal.Facts] : Prop :=
  ∀ (m : (ℓ : Loc Cert.GroupFwdIdeal.nD Cert.GroupFwdIdeal.τ Cert.GroupFwdIdeal.sig) → Buf (Elt Ideal) ℓ) (g : Dev Cert.GroupFwdIdeal.nD → PrngReg)
    (m' : (ℓ : Loc Cert.GroupRefIdeal.nD Cert.GroupRefIdeal.τ Cert.GroupRefIdeal.sig) → Buf (Elt Ideal) ℓ) (g' : Dev Cert.GroupRefIdeal.nD → PrngReg), Pre_GroupFwdIdeal m →
    (∀ c : Dev Cert.GroupFwdIdeal.nD,
      m' ((c.tc : Thread Cert.GroupRefIdeal.nD Cert.GroupRefIdeal.τ).loc Cert.GroupRefIdeal.main_arg0) = m ((c.tc : Thread Cert.GroupFwdIdeal.nD Cert.GroupFwdIdeal.τ).loc Cert.GroupFwdIdeal.main_arg0)
      ∧ m' ((c.tc : Thread Cert.GroupRefIdeal.nD Cert.GroupRefIdeal.τ).loc Cert.GroupRefIdeal.main_arg1) = m ((c.tc : Thread Cert.GroupFwdIdeal.nD Cert.GroupFwdIdeal.τ).loc Cert.GroupFwdIdeal.main_arg1)
      ∧ m' ((c.tc : Thread Cert.GroupRefIdeal.nD Cert.GroupRefIdeal.τ).loc Cert.GroupRefIdeal.main_arg2) = m ((c.tc : Thread Cert.GroupFwdIdeal.nD Cert.GroupFwdIdeal.τ).loc Cert.GroupFwdIdeal.main_arg2)) →
    ∃ (v0 : (c : Dev Cert.GroupFwdIdeal.nD) → Buf (Elt Ideal) ((c.tc : Thread Cert.GroupFwdIdeal.nD Cert.GroupFwdIdeal.τ).loc Cert.GroupFwdIdeal.main_v1)),
      θ_run (Cert.GroupFwdIdeal.defs (F := Ideal)) (onTc (τ := Cert.GroupFwdIdeal.τ) (Cert.GroupFwdIdeal.main (F := Ideal))) ⟨m, fun _ => 0, g⟩ (fun r => ∀ c : Dev Cert.GroupFwdIdeal.nD,
          r.2.mem ((c.tc : Thread Cert.GroupFwdIdeal.nD Cert.GroupFwdIdeal.τ).loc Cert.GroupFwdIdeal.main_v1) = v0 c
          ∧ r.2.mem ((c.tc : Thread Cert.GroupFwdIdeal.nD Cert.GroupFwdIdeal.τ).loc Cert.GroupFwdIdeal.main_arg0) = m ((c.tc : Thread Cert.GroupFwdIdeal.nD Cert.GroupFwdIdeal.τ).loc Cert.GroupFwdIdeal.main_arg0)
          ∧ r.2.mem ((c.tc : Thread Cert.GroupFwdIdeal.nD Cert.GroupFwdIdeal.τ).loc Cert.GroupFwdIdeal.main_arg1) = m ((c.tc : Thread Cert.GroupFwdIdeal.nD Cert.GroupFwdIdeal.τ).loc Cert.GroupFwdIdeal.main_arg1)
          ∧ r.2.mem ((c.tc : Thread Cert.GroupFwdIdeal.nD Cert.GroupFwdIdeal.τ).loc Cert.GroupFwdIdeal.main_arg2) = m ((c.tc : Thread Cert.GroupFwdIdeal.nD Cert.GroupFwdIdeal.τ).loc Cert.GroupFwdIdeal.main_arg2))
      ∧ θ_run (Cert.GroupRefIdeal.defs (F := Ideal)) (onTc (τ := Cert.GroupRefIdeal.τ) (Cert.GroupRefIdeal.main (F := Ideal))) ⟨m', fun _ => 0, g'⟩ (fun r => ∀ c : Dev Cert.GroupRefIdeal.nD,
          r.2.mem ((c.tc : Thread Cert.GroupRefIdeal.nD Cert.GroupRefIdeal.τ).loc Cert.GroupRefIdeal.main_v17) = v0 c
          ∧ r.2.mem ((c.tc : Thread Cert.GroupRefIdeal.nD Cert.GroupRefIdeal.τ).loc Cert.GroupRefIdeal.main_arg0) = m' ((c.tc : Thread Cert.GroupRefIdeal.nD Cert.GroupRefIdeal.τ).loc Cert.GroupRefIdeal.main_arg0)
          ∧ r.2.mem ((c.tc : Thread Cert.GroupRefIdeal.nD Cert.GroupRefIdeal.τ).loc Cert.GroupRefIdeal.main_arg1) = m' ((c.tc : Thread Cert.GroupRefIdeal.nD Cert.GroupRefIdeal.τ).loc Cert.GroupRefIdeal.main_arg1)
          ∧ r.2.mem ((c.tc : Thread Cert.GroupRefIdeal.nD Cert.GroupRefIdeal.τ).loc Cert.GroupRefIdeal.main_arg2) = m' ((c.tc : Thread Cert.GroupRefIdeal.nD Cert.GroupRefIdeal.τ).loc Cert.GroupRefIdeal.main_arg2))

def preserves_ReluFwd_ReluFwdIdeal : Prop :=
  True

def algebraic_ReluFwdIdeal_ReluRefIdeal [hReluFwdIdeal : Cert.ReluFwdIdeal.Facts] [hReluRefIdeal : Cert.ReluRefIdeal.Facts] : Prop :=
  ∀ (m : (ℓ : Loc Cert.ReluFwdIdeal.nD Cert.ReluFwdIdeal.τ Cert.ReluFwdIdeal.sig) → Buf (Elt Ideal) ℓ) (g : Dev Cert.ReluFwdIdeal.nD → PrngReg)
    (m' : (ℓ : Loc Cert.ReluRefIdeal.nD Cert.ReluRefIdeal.τ Cert.ReluRefIdeal.sig) → Buf (Elt Ideal) ℓ) (g' : Dev Cert.ReluRefIdeal.nD → PrngReg), Pre_ReluFwdIdeal m →
    (∀ c : Dev Cert.ReluFwdIdeal.nD,
      m' ((c.tc : Thread Cert.ReluRefIdeal.nD Cert.ReluRefIdeal.τ).loc Cert.ReluRefIdeal.main_arg0) = m ((c.tc : Thread Cert.ReluFwdIdeal.nD Cert.ReluFwdIdeal.τ).loc Cert.ReluFwdIdeal.main_arg0)
      ∧ m' ((c.tc : Thread Cert.ReluRefIdeal.nD Cert.ReluRefIdeal.τ).loc Cert.ReluRefIdeal.main_arg1) = m ((c.tc : Thread Cert.ReluFwdIdeal.nD Cert.ReluFwdIdeal.τ).loc Cert.ReluFwdIdeal.main_arg1)) →
    ∃ (v0 : (c : Dev Cert.ReluFwdIdeal.nD) → Buf (Elt Ideal) ((c.tc : Thread Cert.ReluFwdIdeal.nD Cert.ReluFwdIdeal.τ).loc Cert.ReluFwdIdeal.main_v2)),
      θ_run (Cert.ReluFwdIdeal.defs (F := Ideal)) (onTc (τ := Cert.ReluFwdIdeal.τ) (Cert.ReluFwdIdeal.main (F := Ideal))) ⟨m, fun _ => 0, g⟩ (fun r => ∀ c : Dev Cert.ReluFwdIdeal.nD,
          r.2.mem ((c.tc : Thread Cert.ReluFwdIdeal.nD Cert.ReluFwdIdeal.τ).loc Cert.ReluFwdIdeal.main_v2) = v0 c
          ∧ r.2.mem ((c.tc : Thread Cert.ReluFwdIdeal.nD Cert.ReluFwdIdeal.τ).loc Cert.ReluFwdIdeal.main_arg0) = m ((c.tc : Thread Cert.ReluFwdIdeal.nD Cert.ReluFwdIdeal.τ).loc Cert.ReluFwdIdeal.main_arg0)
          ∧ r.2.mem ((c.tc : Thread Cert.ReluFwdIdeal.nD Cert.ReluFwdIdeal.τ).loc Cert.ReluFwdIdeal.main_arg1) = m ((c.tc : Thread Cert.ReluFwdIdeal.nD Cert.ReluFwdIdeal.τ).loc Cert.ReluFwdIdeal.main_arg1))
      ∧ θ_run (Cert.ReluRefIdeal.defs (F := Ideal)) (onTc (τ := Cert.ReluRefIdeal.τ) (Cert.ReluRefIdeal.main (F := Ideal))) ⟨m', fun _ => 0, g'⟩ (fun r => ∀ c : Dev Cert.ReluRefIdeal.nD,
          r.2.mem ((c.tc : Thread Cert.ReluRefIdeal.nD Cert.ReluRefIdeal.τ).loc Cert.ReluRefIdeal.main_v2) = v0 c
          ∧ r.2.mem ((c.tc : Thread Cert.ReluRefIdeal.nD Cert.ReluRefIdeal.τ).loc Cert.ReluRefIdeal.main_arg0) = m' ((c.tc : Thread Cert.ReluRefIdeal.nD Cert.ReluRefIdeal.τ).loc Cert.ReluRefIdeal.main_arg0)
          ∧ r.2.mem ((c.tc : Thread Cert.ReluRefIdeal.nD Cert.ReluRefIdeal.τ).loc Cert.ReluRefIdeal.main_arg1) = m' ((c.tc : Thread Cert.ReluRefIdeal.nD Cert.ReluRefIdeal.τ).loc Cert.ReluRefIdeal.main_arg1))

def preserves_SquareFwd_SquareFwdIdeal : Prop :=
  True

def algebraic_SquareFwdIdeal_SquareRefIdeal [hSquareFwdIdeal : Cert.SquareFwdIdeal.Facts] [hSquareRefIdeal : Cert.SquareRefIdeal.Facts] : Prop :=
  ∀ (m : (ℓ : Loc Cert.SquareFwdIdeal.nD Cert.SquareFwdIdeal.τ Cert.SquareFwdIdeal.sig) → Buf (Elt Ideal) ℓ) (g : Dev Cert.SquareFwdIdeal.nD → PrngReg)
    (m' : (ℓ : Loc Cert.SquareRefIdeal.nD Cert.SquareRefIdeal.τ Cert.SquareRefIdeal.sig) → Buf (Elt Ideal) ℓ) (g' : Dev Cert.SquareRefIdeal.nD → PrngReg), Pre_SquareFwdIdeal m →
    (∀ c : Dev Cert.SquareFwdIdeal.nD,
      m' ((c.tc : Thread Cert.SquareRefIdeal.nD Cert.SquareRefIdeal.τ).loc Cert.SquareRefIdeal.main_arg0) = m ((c.tc : Thread Cert.SquareFwdIdeal.nD Cert.SquareFwdIdeal.τ).loc Cert.SquareFwdIdeal.main_arg0)
      ∧ m' ((c.tc : Thread Cert.SquareRefIdeal.nD Cert.SquareRefIdeal.τ).loc Cert.SquareRefIdeal.main_arg1) = m ((c.tc : Thread Cert.SquareFwdIdeal.nD Cert.SquareFwdIdeal.τ).loc Cert.SquareFwdIdeal.main_arg1)
      ∧ m' ((c.tc : Thread Cert.SquareRefIdeal.nD Cert.SquareRefIdeal.τ).loc Cert.SquareRefIdeal.main_arg2) = m ((c.tc : Thread Cert.SquareFwdIdeal.nD Cert.SquareFwdIdeal.τ).loc Cert.SquareFwdIdeal.main_arg2)
      ∧ m' ((c.tc : Thread Cert.SquareRefIdeal.nD Cert.SquareRefIdeal.τ).loc Cert.SquareRefIdeal.main_arg3) = m ((c.tc : Thread Cert.SquareFwdIdeal.nD Cert.SquareFwdIdeal.τ).loc Cert.SquareFwdIdeal.main_arg3)) →
    ∃ (v0 : (c : Dev Cert.SquareFwdIdeal.nD) → Buf (Elt Ideal) ((c.tc : Thread Cert.SquareFwdIdeal.nD Cert.SquareFwdIdeal.τ).loc Cert.SquareFwdIdeal.main_v2)),
      θ_run (Cert.SquareFwdIdeal.defs (F := Ideal)) (onTc (τ := Cert.SquareFwdIdeal.τ) (Cert.SquareFwdIdeal.main (F := Ideal))) ⟨m, fun _ => 0, g⟩ (fun r => ∀ c : Dev Cert.SquareFwdIdeal.nD,
          r.2.mem ((c.tc : Thread Cert.SquareFwdIdeal.nD Cert.SquareFwdIdeal.τ).loc Cert.SquareFwdIdeal.main_v2) = v0 c
          ∧ r.2.mem ((c.tc : Thread Cert.SquareFwdIdeal.nD Cert.SquareFwdIdeal.τ).loc Cert.SquareFwdIdeal.main_arg0) = m ((c.tc : Thread Cert.SquareFwdIdeal.nD Cert.SquareFwdIdeal.τ).loc Cert.SquareFwdIdeal.main_arg0)
          ∧ r.2.mem ((c.tc : Thread Cert.SquareFwdIdeal.nD Cert.SquareFwdIdeal.τ).loc Cert.SquareFwdIdeal.main_arg1) = m ((c.tc : Thread Cert.SquareFwdIdeal.nD Cert.SquareFwdIdeal.τ).loc Cert.SquareFwdIdeal.main_arg1)
          ∧ r.2.mem ((c.tc : Thread Cert.SquareFwdIdeal.nD Cert.SquareFwdIdeal.τ).loc Cert.SquareFwdIdeal.main_arg2) = m ((c.tc : Thread Cert.SquareFwdIdeal.nD Cert.SquareFwdIdeal.τ).loc Cert.SquareFwdIdeal.main_arg2)
          ∧ r.2.mem ((c.tc : Thread Cert.SquareFwdIdeal.nD Cert.SquareFwdIdeal.τ).loc Cert.SquareFwdIdeal.main_arg3) = m ((c.tc : Thread Cert.SquareFwdIdeal.nD Cert.SquareFwdIdeal.τ).loc Cert.SquareFwdIdeal.main_arg3))
      ∧ θ_run (Cert.SquareRefIdeal.defs (F := Ideal)) (onTc (τ := Cert.SquareRefIdeal.τ) (Cert.SquareRefIdeal.main (F := Ideal))) ⟨m', fun _ => 0, g'⟩ (fun r => ∀ c : Dev Cert.SquareRefIdeal.nD,
          r.2.mem ((c.tc : Thread Cert.SquareRefIdeal.nD Cert.SquareRefIdeal.τ).loc Cert.SquareRefIdeal.main_v4) = v0 c
          ∧ r.2.mem ((c.tc : Thread Cert.SquareRefIdeal.nD Cert.SquareRefIdeal.τ).loc Cert.SquareRefIdeal.main_arg0) = m' ((c.tc : Thread Cert.SquareRefIdeal.nD Cert.SquareRefIdeal.τ).loc Cert.SquareRefIdeal.main_arg0)
          ∧ r.2.mem ((c.tc : Thread Cert.SquareRefIdeal.nD Cert.SquareRefIdeal.τ).loc Cert.SquareRefIdeal.main_arg1) = m' ((c.tc : Thread Cert.SquareRefIdeal.nD Cert.SquareRefIdeal.τ).loc Cert.SquareRefIdeal.main_arg1)
          ∧ r.2.mem ((c.tc : Thread Cert.SquareRefIdeal.nD Cert.SquareRefIdeal.τ).loc Cert.SquareRefIdeal.main_arg2) = m' ((c.tc : Thread Cert.SquareRefIdeal.nD Cert.SquareRefIdeal.τ).loc Cert.SquareRefIdeal.main_arg2)
          ∧ r.2.mem ((c.tc : Thread Cert.SquareRefIdeal.nD Cert.SquareRefIdeal.τ).loc Cert.SquareRefIdeal.main_arg3) = m' ((c.tc : Thread Cert.SquareRefIdeal.nD Cert.SquareRefIdeal.τ).loc Cert.SquareRefIdeal.main_arg3))

def preserves_ProjFwd_ProjFwdIdeal : Prop :=
  True

def algebraic_ProjFwdIdeal_ProjRefIdeal [hProjFwdIdeal : Cert.ProjFwdIdeal.Facts] [hProjRefIdeal : Cert.ProjRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjFwdIdeal m →
    (∀ c : Dev Cert.ProjFwdIdeal.nD,
      m' ((c.tc : Thread Cert.ProjRefIdeal.nD Cert.ProjRefIdeal.τ).loc Cert.ProjRefIdeal.main_arg0) = m ((c.tc : Thread Cert.ProjFwdIdeal.nD Cert.ProjFwdIdeal.τ).loc Cert.ProjFwdIdeal.main_arg0)
      ∧ m' ((c.tc : Thread Cert.ProjRefIdeal.nD Cert.ProjRefIdeal.τ).loc Cert.ProjRefIdeal.main_arg1) = m ((c.tc : Thread Cert.ProjFwdIdeal.nD Cert.ProjFwdIdeal.τ).loc Cert.ProjFwdIdeal.main_arg1)
      ∧ m' ((c.tc : Thread Cert.ProjRefIdeal.nD Cert.ProjRefIdeal.τ).loc Cert.ProjRefIdeal.main_arg2) = m ((c.tc : Thread Cert.ProjFwdIdeal.nD Cert.ProjFwdIdeal.τ).loc Cert.ProjFwdIdeal.main_arg2)
      ∧ m' ((c.tc : Thread Cert.ProjRefIdeal.nD Cert.ProjRefIdeal.τ).loc Cert.ProjRefIdeal.main_arg3) = m ((c.tc : Thread Cert.ProjFwdIdeal.nD Cert.ProjFwdIdeal.τ).loc Cert.ProjFwdIdeal.main_arg3)) →
    ∃ (v0 : (c : Dev Cert.ProjFwdIdeal.nD) → Buf (Elt Ideal) ((c.tc : Thread Cert.ProjFwdIdeal.nD Cert.ProjFwdIdeal.τ).loc Cert.ProjFwdIdeal.main_v2)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v2) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
          ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_WinFwd_WinFwdIdeal : Prop :=
  True

def algebraic_WinFwdIdeal_WinRefIdeal [hWinFwdIdeal : Cert.WinFwdIdeal.Facts] [hWinRefIdeal : Cert.WinRefIdeal.Facts] : Prop :=
  ∀ (m : (ℓ : Loc Cert.WinFwdIdeal.nD Cert.WinFwdIdeal.τ Cert.WinFwdIdeal.sig) → Buf (Elt Ideal) ℓ) (g : Dev Cert.WinFwdIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinFwdIdeal m →
    (∀ c : Dev Cert.WinFwdIdeal.nD,
      m' ((c.tc : Thread Cert.WinRefIdeal.nD Cert.WinRefIdeal.τ).loc Cert.WinRefIdeal.main_arg0) = m ((c.tc : Thread Cert.WinFwdIdeal.nD Cert.WinFwdIdeal.τ).loc Cert.WinFwdIdeal.main_arg0)
      ∧ m' ((c.tc : Thread Cert.WinRefIdeal.nD Cert.WinRefIdeal.τ).loc Cert.WinRefIdeal.main_arg1) = m ((c.tc : Thread Cert.WinFwdIdeal.nD Cert.WinFwdIdeal.τ).loc Cert.WinFwdIdeal.main_arg1)) →
    ∃ (v0 : (c : Dev Cert.WinFwdIdeal.nD) → Buf (Elt Ideal) ((c.tc : Thread Cert.WinFwdIdeal.nD Cert.WinFwdIdeal.τ).loc Cert.WinFwdIdeal.main_v2)),
      θ_run (Cert.WinFwdIdeal.defs (F := Ideal)) (onTc (τ := Cert.WinFwdIdeal.τ) (Cert.WinFwdIdeal.main (F := Ideal))) ⟨m, fun _ => 0, g⟩ (fun r => ∀ c : Dev Cert.WinFwdIdeal.nD,
          r.2.mem ((c.tc : Thread Cert.WinFwdIdeal.nD Cert.WinFwdIdeal.τ).loc Cert.WinFwdIdeal.main_v2) = v0 c
          ∧ r.2.mem ((c.tc : Thread Cert.WinFwdIdeal.nD Cert.WinFwdIdeal.τ).loc Cert.WinFwdIdeal.main_arg0) = m ((c.tc : Thread Cert.WinFwdIdeal.nD Cert.WinFwdIdeal.τ).loc Cert.WinFwdIdeal.main_arg0)
          ∧ r.2.mem ((c.tc : Thread Cert.WinFwdIdeal.nD Cert.WinFwdIdeal.τ).loc Cert.WinFwdIdeal.main_arg1) = m ((c.tc : Thread Cert.WinFwdIdeal.nD Cert.WinFwdIdeal.τ).loc Cert.WinFwdIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v0) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_WzFwd_WzFwdIdeal : Prop :=
  True

def algebraic_WzFwdIdeal_WzRefIdeal [hWzFwdIdeal : Cert.WzFwdIdeal.Facts] [hWzRefIdeal : Cert.WzRefIdeal.Facts] : Prop :=
  ∀ (m : (ℓ : Loc Cert.WzFwdIdeal.nD Cert.WzFwdIdeal.τ Cert.WzFwdIdeal.sig) → Buf (Elt Ideal) ℓ) (g : Dev Cert.WzFwdIdeal.nD → PrngReg)
    (m' : (ℓ : Loc Cert.WzRefIdeal.nD Cert.WzRefIdeal.τ Cert.WzRefIdeal.sig) → Buf (Elt Ideal) ℓ) (g' : Dev Cert.WzRefIdeal.nD → PrngReg), Pre_WzFwdIdeal m →
    (∀ c : Dev Cert.WzFwdIdeal.nD,
      m' ((c.tc : Thread Cert.WzRefIdeal.nD Cert.WzRefIdeal.τ).loc Cert.WzRefIdeal.main_arg0) = m ((c.tc : Thread Cert.WzFwdIdeal.nD Cert.WzFwdIdeal.τ).loc Cert.WzFwdIdeal.main_arg0)
      ∧ m' ((c.tc : Thread Cert.WzRefIdeal.nD Cert.WzRefIdeal.τ).loc Cert.WzRefIdeal.main_arg1) = m ((c.tc : Thread Cert.WzFwdIdeal.nD Cert.WzFwdIdeal.τ).loc Cert.WzFwdIdeal.main_arg1)) →
    ∃ (v0 : (c : Dev Cert.WzFwdIdeal.nD) → Buf (Elt Ideal) ((c.tc : Thread Cert.WzFwdIdeal.nD Cert.WzFwdIdeal.τ).loc Cert.WzFwdIdeal.main_v2)),
      θ_run (Cert.WzFwdIdeal.defs (F := Ideal)) (onTc (τ := Cert.WzFwdIdeal.τ) (Cert.WzFwdIdeal.main (F := Ideal))) ⟨m, fun _ => 0, g⟩ (fun r => ∀ c : Dev Cert.WzFwdIdeal.nD,
          r.2.mem ((c.tc : Thread Cert.WzFwdIdeal.nD Cert.WzFwdIdeal.τ).loc Cert.WzFwdIdeal.main_v2) = v0 c
          ∧ r.2.mem ((c.tc : Thread Cert.WzFwdIdeal.nD Cert.WzFwdIdeal.τ).loc Cert.WzFwdIdeal.main_arg0) = m ((c.tc : Thread Cert.WzFwdIdeal.nD Cert.WzFwdIdeal.τ).loc Cert.WzFwdIdeal.main_arg0)
          ∧ r.2.mem ((c.tc : Thread Cert.WzFwdIdeal.nD Cert.WzFwdIdeal.τ).loc Cert.WzFwdIdeal.main_arg1) = m ((c.tc : Thread Cert.WzFwdIdeal.nD Cert.WzFwdIdeal.τ).loc Cert.WzFwdIdeal.main_arg1))
      ∧ θ_run (Cert.WzRefIdeal.defs (F := Ideal)) (onTc (τ := Cert.WzRefIdeal.τ) (Cert.WzRefIdeal.main (F := Ideal))) ⟨m', fun _ => 0, g'⟩ (fun r => ∀ c : Dev Cert.WzRefIdeal.nD,
          r.2.mem ((c.tc : Thread Cert.WzRefIdeal.nD Cert.WzRefIdeal.τ).loc Cert.WzRefIdeal.main_v0) = v0 c
          ∧ r.2.mem ((c.tc : Thread Cert.WzRefIdeal.nD Cert.WzRefIdeal.τ).loc Cert.WzRefIdeal.main_arg0) = m' ((c.tc : Thread Cert.WzRefIdeal.nD Cert.WzRefIdeal.τ).loc Cert.WzRefIdeal.main_arg0)
          ∧ r.2.mem ((c.tc : Thread Cert.WzRefIdeal.nD Cert.WzRefIdeal.τ).loc Cert.WzRefIdeal.main_arg1) = m' ((c.tc : Thread Cert.WzRefIdeal.nD Cert.WzRefIdeal.τ).loc Cert.WzRefIdeal.main_arg1))

def preserves_WxbcFwd_WxbcFwdIdeal : Prop :=
  True

def algebraic_WxbcFwdIdeal_WxbcRefIdeal [hWxbcFwdIdeal : Cert.WxbcFwdIdeal.Facts] [hWxbcRefIdeal : Cert.WxbcRefIdeal.Facts] : Prop :=
  ∀ (m : (ℓ : Loc Cert.WxbcFwdIdeal.nD Cert.WxbcFwdIdeal.τ Cert.WxbcFwdIdeal.sig) → Buf (Elt Ideal) ℓ) (g : Dev Cert.WxbcFwdIdeal.nD → PrngReg)
    (m' : (ℓ : Loc Cert.WxbcRefIdeal.nD Cert.WxbcRefIdeal.τ Cert.WxbcRefIdeal.sig) → Buf (Elt Ideal) ℓ) (g' : Dev Cert.WxbcRefIdeal.nD → PrngReg), Pre_WxbcFwdIdeal m →
    (∀ c : Dev Cert.WxbcFwdIdeal.nD,
      m' ((c.tc : Thread Cert.WxbcRefIdeal.nD Cert.WxbcRefIdeal.τ).loc Cert.WxbcRefIdeal.main_arg0) = m ((c.tc : Thread Cert.WxbcFwdIdeal.nD Cert.WxbcFwdIdeal.τ).loc Cert.WxbcFwdIdeal.main_arg0)
      ∧ m' ((c.tc : Thread Cert.WxbcRefIdeal.nD Cert.WxbcRefIdeal.τ).loc Cert.WxbcRefIdeal.main_arg1) = m ((c.tc : Thread Cert.WxbcFwdIdeal.nD Cert.WxbcFwdIdeal.τ).loc Cert.WxbcFwdIdeal.main_arg1)) →
    ∃ (v0 : (c : Dev Cert.WxbcFwdIdeal.nD) → Buf (Elt Ideal) ((c.tc : Thread Cert.WxbcFwdIdeal.nD Cert.WxbcFwdIdeal.τ).loc Cert.WxbcFwdIdeal.main_v2)),
      θ_run (Cert.WxbcFwdIdeal.defs (F := Ideal)) (onTc (τ := Cert.WxbcFwdIdeal.τ) (Cert.WxbcFwdIdeal.main (F := Ideal))) ⟨m, fun _ => 0, g⟩ (fun r => ∀ c : Dev Cert.WxbcFwdIdeal.nD,
          r.2.mem ((c.tc : Thread Cert.WxbcFwdIdeal.nD Cert.WxbcFwdIdeal.τ).loc Cert.WxbcFwdIdeal.main_v2) = v0 c
          ∧ r.2.mem ((c.tc : Thread Cert.WxbcFwdIdeal.nD Cert.WxbcFwdIdeal.τ).loc Cert.WxbcFwdIdeal.main_arg0) = m ((c.tc : Thread Cert.WxbcFwdIdeal.nD Cert.WxbcFwdIdeal.τ).loc Cert.WxbcFwdIdeal.main_arg0)
          ∧ r.2.mem ((c.tc : Thread Cert.WxbcFwdIdeal.nD Cert.WxbcFwdIdeal.τ).loc Cert.WxbcFwdIdeal.main_arg1) = m ((c.tc : Thread Cert.WxbcFwdIdeal.nD Cert.WxbcFwdIdeal.τ).loc Cert.WxbcFwdIdeal.main_arg1))
      ∧ θ_run (Cert.WxbcRefIdeal.defs (F := Ideal)) (onTc (τ := Cert.WxbcRefIdeal.τ) (Cert.WxbcRefIdeal.main (F := Ideal))) ⟨m', fun _ => 0, g'⟩ (fun r => ∀ c : Dev Cert.WxbcRefIdeal.nD,
          r.2.mem ((c.tc : Thread Cert.WxbcRefIdeal.nD Cert.WxbcRefIdeal.τ).loc Cert.WxbcRefIdeal.main_v0) = v0 c
          ∧ r.2.mem ((c.tc : Thread Cert.WxbcRefIdeal.nD Cert.WxbcRefIdeal.τ).loc Cert.WxbcRefIdeal.main_arg0) = m' ((c.tc : Thread Cert.WxbcRefIdeal.nD Cert.WxbcRefIdeal.τ).loc Cert.WxbcRefIdeal.main_arg0)
          ∧ r.2.mem ((c.tc : Thread Cert.WxbcRefIdeal.nD Cert.WxbcRefIdeal.τ).loc Cert.WxbcRefIdeal.main_arg1) = m' ((c.tc : Thread Cert.WxbcRefIdeal.nD Cert.WxbcRefIdeal.τ).loc Cert.WxbcRefIdeal.main_arg1))

def preserves_WdtFwd_WdtFwdIdeal : Prop :=
  True

def algebraic_WdtFwdIdeal_WdtRefIdeal [hWdtFwdIdeal : Cert.WdtFwdIdeal.Facts] [hWdtRefIdeal : Cert.WdtRefIdeal.Facts] : Prop :=
  ∀ (m : (ℓ : Loc Cert.WdtFwdIdeal.nD Cert.WdtFwdIdeal.τ Cert.WdtFwdIdeal.sig) → Buf (Elt Ideal) ℓ) (g : Dev Cert.WdtFwdIdeal.nD → PrngReg)
    (m' : (ℓ : Loc Cert.WdtRefIdeal.nD Cert.WdtRefIdeal.τ Cert.WdtRefIdeal.sig) → Buf (Elt Ideal) ℓ) (g' : Dev Cert.WdtRefIdeal.nD → PrngReg), Pre_WdtFwdIdeal m →
    (∀ c : Dev Cert.WdtFwdIdeal.nD,
      m' ((c.tc : Thread Cert.WdtRefIdeal.nD Cert.WdtRefIdeal.τ).loc Cert.WdtRefIdeal.main_arg0) = m ((c.tc : Thread Cert.WdtFwdIdeal.nD Cert.WdtFwdIdeal.τ).loc Cert.WdtFwdIdeal.main_arg0)
      ∧ m' ((c.tc : Thread Cert.WdtRefIdeal.nD Cert.WdtRefIdeal.τ).loc Cert.WdtRefIdeal.main_arg1) = m ((c.tc : Thread Cert.WdtFwdIdeal.nD Cert.WdtFwdIdeal.τ).loc Cert.WdtFwdIdeal.main_arg1)) →
    ∃ (v0 : (c : Dev Cert.WdtFwdIdeal.nD) → Buf (Elt Ideal) ((c.tc : Thread Cert.WdtFwdIdeal.nD Cert.WdtFwdIdeal.τ).loc Cert.WdtFwdIdeal.main_v2)),
      θ_run (Cert.WdtFwdIdeal.defs (F := Ideal)) (onTc (τ := Cert.WdtFwdIdeal.τ) (Cert.WdtFwdIdeal.main (F := Ideal))) ⟨m, fun _ => 0, g⟩ (fun r => ∀ c : Dev Cert.WdtFwdIdeal.nD,
          r.2.mem ((c.tc : Thread Cert.WdtFwdIdeal.nD Cert.WdtFwdIdeal.τ).loc Cert.WdtFwdIdeal.main_v2) = v0 c
          ∧ r.2.mem ((c.tc : Thread Cert.WdtFwdIdeal.nD Cert.WdtFwdIdeal.τ).loc Cert.WdtFwdIdeal.main_arg0) = m ((c.tc : Thread Cert.WdtFwdIdeal.nD Cert.WdtFwdIdeal.τ).loc Cert.WdtFwdIdeal.main_arg0)
          ∧ r.2.mem ((c.tc : Thread Cert.WdtFwdIdeal.nD Cert.WdtFwdIdeal.τ).loc Cert.WdtFwdIdeal.main_arg1) = m ((c.tc : Thread Cert.WdtFwdIdeal.nD Cert.WdtFwdIdeal.τ).loc Cert.WdtFwdIdeal.main_arg1))
      ∧ θ_run (Cert.WdtRefIdeal.defs (F := Ideal)) (onTc (τ := Cert.WdtRefIdeal.τ) (Cert.WdtRefIdeal.main (F := Ideal))) ⟨m', fun _ => 0, g'⟩ (fun r => ∀ c : Dev Cert.WdtRefIdeal.nD,
          r.2.mem ((c.tc : Thread Cert.WdtRefIdeal.nD Cert.WdtRefIdeal.τ).loc Cert.WdtRefIdeal.main_v0) = v0 c
          ∧ r.2.mem ((c.tc : Thread Cert.WdtRefIdeal.nD Cert.WdtRefIdeal.τ).loc Cert.WdtRefIdeal.main_arg0) = m' ((c.tc : Thread Cert.WdtRefIdeal.nD Cert.WdtRefIdeal.τ).loc Cert.WdtRefIdeal.main_arg0)
          ∧ r.2.mem ((c.tc : Thread Cert.WdtRefIdeal.nD Cert.WdtRefIdeal.τ).loc Cert.WdtRefIdeal.main_arg1) = m' ((c.tc : Thread Cert.WdtRefIdeal.nD Cert.WdtRefIdeal.τ).loc Cert.WdtRefIdeal.main_arg1))

def preserves_DhBwd_DhBwdIdeal : Prop :=
  True

def algebraic_DhBwdIdeal_DhRefIdeal [hDhBwdIdeal : Cert.DhBwdIdeal.Facts] [hDhRefIdeal : Cert.DhRefIdeal.Facts] : Prop :=
  ∀ (m : (ℓ : Loc Cert.DhBwdIdeal.nD Cert.DhBwdIdeal.τ Cert.DhBwdIdeal.sig) → Buf (Elt Ideal) ℓ) (g : Dev Cert.DhBwdIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhBwdIdeal m →
    (∀ c : Dev Cert.DhBwdIdeal.nD,
      m' ((c.tc : Thread Cert.DhRefIdeal.nD Cert.DhRefIdeal.τ).loc Cert.DhRefIdeal.main_arg0) = m ((c.tc : Thread Cert.DhBwdIdeal.nD Cert.DhBwdIdeal.τ).loc Cert.DhBwdIdeal.main_arg0)
      ∧ m' ((c.tc : Thread Cert.DhRefIdeal.nD Cert.DhRefIdeal.τ).loc Cert.DhRefIdeal.main_arg1) = m ((c.tc : Thread Cert.DhBwdIdeal.nD Cert.DhBwdIdeal.τ).loc Cert.DhBwdIdeal.main_arg1)) →
    ∃ (v0 : (c : Dev Cert.DhBwdIdeal.nD) → Buf (Elt Ideal) ((c.tc : Thread Cert.DhBwdIdeal.nD Cert.DhBwdIdeal.τ).loc Cert.DhBwdIdeal.main_v2)),
      θ_run (Cert.DhBwdIdeal.defs (F := Ideal)) (onTc (τ := Cert.DhBwdIdeal.τ) (Cert.DhBwdIdeal.main (F := Ideal))) ⟨m, fun _ => 0, g⟩ (fun r => ∀ c : Dev Cert.DhBwdIdeal.nD,
          r.2.mem ((c.tc : Thread Cert.DhBwdIdeal.nD Cert.DhBwdIdeal.τ).loc Cert.DhBwdIdeal.main_v2) = v0 c
          ∧ r.2.mem ((c.tc : Thread Cert.DhBwdIdeal.nD Cert.DhBwdIdeal.τ).loc Cert.DhBwdIdeal.main_arg0) = m ((c.tc : Thread Cert.DhBwdIdeal.nD Cert.DhBwdIdeal.τ).loc Cert.DhBwdIdeal.main_arg0)
          ∧ r.2.mem ((c.tc : Thread Cert.DhBwdIdeal.nD Cert.DhBwdIdeal.τ).loc Cert.DhBwdIdeal.main_arg1) = m ((c.tc : Thread Cert.DhBwdIdeal.nD Cert.DhBwdIdeal.τ).loc Cert.DhBwdIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v0) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_DmlpBwd_DmlpBwdIdeal : Prop :=
  True

def algebraic_DmlpBwdIdeal_DmlpRefIdeal [hDmlpBwdIdeal : Cert.DmlpBwdIdeal.Facts] [hDmlpRefIdeal : Cert.DmlpRefIdeal.Facts] : Prop :=
  ∀ (m : (ℓ : Loc Cert.DmlpBwdIdeal.nD Cert.DmlpBwdIdeal.τ Cert.DmlpBwdIdeal.sig) → Buf (Elt Ideal) ℓ) (g : Dev Cert.DmlpBwdIdeal.nD → PrngReg)
    (m' : (ℓ : Loc Cert.DmlpRefIdeal.nD Cert.DmlpRefIdeal.τ Cert.DmlpRefIdeal.sig) → Buf (Elt Ideal) ℓ) (g' : Dev Cert.DmlpRefIdeal.nD → PrngReg), Pre_DmlpBwdIdeal m →
    (∀ c : Dev Cert.DmlpBwdIdeal.nD,
      m' ((c.tc : Thread Cert.DmlpRefIdeal.nD Cert.DmlpRefIdeal.τ).loc Cert.DmlpRefIdeal.main_arg0) = m ((c.tc : Thread Cert.DmlpBwdIdeal.nD Cert.DmlpBwdIdeal.τ).loc Cert.DmlpBwdIdeal.main_arg0)
      ∧ m' ((c.tc : Thread Cert.DmlpRefIdeal.nD Cert.DmlpRefIdeal.τ).loc Cert.DmlpRefIdeal.main_arg1) = m ((c.tc : Thread Cert.DmlpBwdIdeal.nD Cert.DmlpBwdIdeal.τ).loc Cert.DmlpBwdIdeal.main_arg1)) →
    ∃ (v0 : (c : Dev Cert.DmlpBwdIdeal.nD) → Buf (Elt Ideal) ((c.tc : Thread Cert.DmlpBwdIdeal.nD Cert.DmlpBwdIdeal.τ).loc Cert.DmlpBwdIdeal.main_v2)),
      θ_run (Cert.DmlpBwdIdeal.defs (F := Ideal)) (onTc (τ := Cert.DmlpBwdIdeal.τ) (Cert.DmlpBwdIdeal.main (F := Ideal))) ⟨m, fun _ => 0, g⟩ (fun r => ∀ c : Dev Cert.DmlpBwdIdeal.nD,
          r.2.mem ((c.tc : Thread Cert.DmlpBwdIdeal.nD Cert.DmlpBwdIdeal.τ).loc Cert.DmlpBwdIdeal.main_v2) = v0 c
          ∧ r.2.mem ((c.tc : Thread Cert.DmlpBwdIdeal.nD Cert.DmlpBwdIdeal.τ).loc Cert.DmlpBwdIdeal.main_arg0) = m ((c.tc : Thread Cert.DmlpBwdIdeal.nD Cert.DmlpBwdIdeal.τ).loc Cert.DmlpBwdIdeal.main_arg0)
          ∧ r.2.mem ((c.tc : Thread Cert.DmlpBwdIdeal.nD Cert.DmlpBwdIdeal.τ).loc Cert.DmlpBwdIdeal.main_arg1) = m ((c.tc : Thread Cert.DmlpBwdIdeal.nD Cert.DmlpBwdIdeal.τ).loc Cert.DmlpBwdIdeal.main_arg1))
      ∧ θ_run (Cert.DmlpRefIdeal.defs (F := Ideal)) (onTc (τ := Cert.DmlpRefIdeal.τ) (Cert.DmlpRefIdeal.main (F := Ideal))) ⟨m', fun _ => 0, g'⟩ (fun r => ∀ c : Dev Cert.DmlpRefIdeal.nD,
          r.2.mem ((c.tc : Thread Cert.DmlpRefIdeal.nD Cert.DmlpRefIdeal.τ).loc Cert.DmlpRefIdeal.main_v0) = v0 c
          ∧ r.2.mem ((c.tc : Thread Cert.DmlpRefIdeal.nD Cert.DmlpRefIdeal.τ).loc Cert.DmlpRefIdeal.main_arg0) = m' ((c.tc : Thread Cert.DmlpRefIdeal.nD Cert.DmlpRefIdeal.τ).loc Cert.DmlpRefIdeal.main_arg0)
          ∧ r.2.mem ((c.tc : Thread Cert.DmlpRefIdeal.nD Cert.DmlpRefIdeal.τ).loc Cert.DmlpRefIdeal.main_arg1) = m' ((c.tc : Thread Cert.DmlpRefIdeal.nD Cert.DmlpRefIdeal.τ).loc Cert.DmlpRefIdeal.main_arg1))

def preserves_DglBwd_DglBwdIdeal : Prop :=
  True

def algebraic_DglBwdIdeal_DglRefIdeal [hDglBwdIdeal : Cert.DglBwdIdeal.Facts] [hDglRefIdeal : Cert.DglRefIdeal.Facts] : Prop :=
  ∀ (m : (ℓ : Loc Cert.DglBwdIdeal.nD Cert.DglBwdIdeal.τ Cert.DglBwdIdeal.sig) → Buf (Elt Ideal) ℓ) (g : Dev Cert.DglBwdIdeal.nD → PrngReg)
    (m' : (ℓ : Loc Cert.DglRefIdeal.nD Cert.DglRefIdeal.τ Cert.DglRefIdeal.sig) → Buf (Elt Ideal) ℓ) (g' : Dev Cert.DglRefIdeal.nD → PrngReg), Pre_DglBwdIdeal m →
    (∀ c : Dev Cert.DglBwdIdeal.nD,
      m' ((c.tc : Thread Cert.DglRefIdeal.nD Cert.DglRefIdeal.τ).loc Cert.DglRefIdeal.main_arg0) = m ((c.tc : Thread Cert.DglBwdIdeal.nD Cert.DglBwdIdeal.τ).loc Cert.DglBwdIdeal.main_arg0)
      ∧ m' ((c.tc : Thread Cert.DglRefIdeal.nD Cert.DglRefIdeal.τ).loc Cert.DglRefIdeal.main_arg1) = m ((c.tc : Thread Cert.DglBwdIdeal.nD Cert.DglBwdIdeal.τ).loc Cert.DglBwdIdeal.main_arg1)) →
    ∃ (v0 : (c : Dev Cert.DglBwdIdeal.nD) → Buf (Elt Ideal) ((c.tc : Thread Cert.DglBwdIdeal.nD Cert.DglBwdIdeal.τ).loc Cert.DglBwdIdeal.main_v2)),
      θ_run (Cert.DglBwdIdeal.defs (F := Ideal)) (onTc (τ := Cert.DglBwdIdeal.τ) (Cert.DglBwdIdeal.main (F := Ideal))) ⟨m, fun _ => 0, g⟩ (fun r => ∀ c : Dev Cert.DglBwdIdeal.nD,
          r.2.mem ((c.tc : Thread Cert.DglBwdIdeal.nD Cert.DglBwdIdeal.τ).loc Cert.DglBwdIdeal.main_v2) = v0 c
          ∧ r.2.mem ((c.tc : Thread Cert.DglBwdIdeal.nD Cert.DglBwdIdeal.τ).loc Cert.DglBwdIdeal.main_arg0) = m ((c.tc : Thread Cert.DglBwdIdeal.nD Cert.DglBwdIdeal.τ).loc Cert.DglBwdIdeal.main_arg0)
          ∧ r.2.mem ((c.tc : Thread Cert.DglBwdIdeal.nD Cert.DglBwdIdeal.τ).loc Cert.DglBwdIdeal.main_arg1) = m ((c.tc : Thread Cert.DglBwdIdeal.nD Cert.DglBwdIdeal.τ).loc Cert.DglBwdIdeal.main_arg1))
      ∧ θ_run (Cert.DglRefIdeal.defs (F := Ideal)) (onTc (τ := Cert.DglRefIdeal.τ) (Cert.DglRefIdeal.main (F := Ideal))) ⟨m', fun _ => 0, g'⟩ (fun r => ∀ c : Dev Cert.DglRefIdeal.nD,
          r.2.mem ((c.tc : Thread Cert.DglRefIdeal.nD Cert.DglRefIdeal.τ).loc Cert.DglRefIdeal.main_v0) = v0 c
          ∧ r.2.mem ((c.tc : Thread Cert.DglRefIdeal.nD Cert.DglRefIdeal.τ).loc Cert.DglRefIdeal.main_arg0) = m' ((c.tc : Thread Cert.DglRefIdeal.nD Cert.DglRefIdeal.τ).loc Cert.DglRefIdeal.main_arg0)
          ∧ r.2.mem ((c.tc : Thread Cert.DglRefIdeal.nD Cert.DglRefIdeal.τ).loc Cert.DglRefIdeal.main_arg1) = m' ((c.tc : Thread Cert.DglRefIdeal.nD Cert.DglRefIdeal.τ).loc Cert.DglRefIdeal.main_arg1))

def preserves_DynBwd_DynBwdIdeal : Prop :=
  True

def algebraic_DynBwdIdeal_DynRefIdeal [hDynBwdIdeal : Cert.DynBwdIdeal.Facts] [hDynRefIdeal : Cert.DynRefIdeal.Facts] : Prop :=
  ∀ (m : (ℓ : Loc Cert.DynBwdIdeal.nD Cert.DynBwdIdeal.τ Cert.DynBwdIdeal.sig) → Buf (Elt Ideal) ℓ) (g : Dev Cert.DynBwdIdeal.nD → PrngReg)
    (m' : (ℓ : Loc Cert.DynRefIdeal.nD Cert.DynRefIdeal.τ Cert.DynRefIdeal.sig) → Buf (Elt Ideal) ℓ) (g' : Dev Cert.DynRefIdeal.nD → PrngReg), Pre_DynBwdIdeal m →
    (∀ c : Dev Cert.DynBwdIdeal.nD,
      m' ((c.tc : Thread Cert.DynRefIdeal.nD Cert.DynRefIdeal.τ).loc Cert.DynRefIdeal.main_arg0) = m ((c.tc : Thread Cert.DynBwdIdeal.nD Cert.DynBwdIdeal.τ).loc Cert.DynBwdIdeal.main_arg0)
      ∧ m' ((c.tc : Thread Cert.DynRefIdeal.nD Cert.DynRefIdeal.τ).loc Cert.DynRefIdeal.main_arg1) = m ((c.tc : Thread Cert.DynBwdIdeal.nD Cert.DynBwdIdeal.τ).loc Cert.DynBwdIdeal.main_arg1)) →
    ∃ (v0 : (c : Dev Cert.DynBwdIdeal.nD) → Buf (Elt Ideal) ((c.tc : Thread Cert.DynBwdIdeal.nD Cert.DynBwdIdeal.τ).loc Cert.DynBwdIdeal.main_v2)),
      θ_run (Cert.DynBwdIdeal.defs (F := Ideal)) (onTc (τ := Cert.DynBwdIdeal.τ) (Cert.DynBwdIdeal.main (F := Ideal))) ⟨m, fun _ => 0, g⟩ (fun r => ∀ c : Dev Cert.DynBwdIdeal.nD,
          r.2.mem ((c.tc : Thread Cert.DynBwdIdeal.nD Cert.DynBwdIdeal.τ).loc Cert.DynBwdIdeal.main_v2) = v0 c
          ∧ r.2.mem ((c.tc : Thread Cert.DynBwdIdeal.nD Cert.DynBwdIdeal.τ).loc Cert.DynBwdIdeal.main_arg0) = m ((c.tc : Thread Cert.DynBwdIdeal.nD Cert.DynBwdIdeal.τ).loc Cert.DynBwdIdeal.main_arg0)
          ∧ r.2.mem ((c.tc : Thread Cert.DynBwdIdeal.nD Cert.DynBwdIdeal.τ).loc Cert.DynBwdIdeal.main_arg1) = m ((c.tc : Thread Cert.DynBwdIdeal.nD Cert.DynBwdIdeal.τ).loc Cert.DynBwdIdeal.main_arg1))
      ∧ θ_run (Cert.DynRefIdeal.defs (F := Ideal)) (onTc (τ := Cert.DynRefIdeal.τ) (Cert.DynRefIdeal.main (F := Ideal))) ⟨m', fun _ => 0, g'⟩ (fun r => ∀ c : Dev Cert.DynRefIdeal.nD,
          r.2.mem ((c.tc : Thread Cert.DynRefIdeal.nD Cert.DynRefIdeal.τ).loc Cert.DynRefIdeal.main_v0) = v0 c
          ∧ r.2.mem ((c.tc : Thread Cert.DynRefIdeal.nD Cert.DynRefIdeal.τ).loc Cert.DynRefIdeal.main_arg0) = m' ((c.tc : Thread Cert.DynRefIdeal.nD Cert.DynRefIdeal.τ).loc Cert.DynRefIdeal.main_arg0)
          ∧ r.2.mem ((c.tc : Thread Cert.DynRefIdeal.nD Cert.DynRefIdeal.τ).loc Cert.DynRefIdeal.main_arg1) = m' ((c.tc : Thread Cert.DynRefIdeal.nD Cert.DynRefIdeal.τ).loc Cert.DynRefIdeal.main_arg1))

def preserves_DxbcBwd_DxbcBwdIdeal : Prop :=
  True

def algebraic_DxbcBwdIdeal_DxbcRefIdeal [hDxbcBwdIdeal : Cert.DxbcBwdIdeal.Facts] [hDxbcRefIdeal : Cert.DxbcRefIdeal.Facts] : Prop :=
  ∀ (m : (ℓ : Loc Cert.DxbcBwdIdeal.nD Cert.DxbcBwdIdeal.τ Cert.DxbcBwdIdeal.sig) → Buf (Elt Ideal) ℓ) (g : Dev Cert.DxbcBwdIdeal.nD → PrngReg)
    (m' : (ℓ : Loc Cert.DxbcRefIdeal.nD Cert.DxbcRefIdeal.τ Cert.DxbcRefIdeal.sig) → Buf (Elt Ideal) ℓ) (g' : Dev Cert.DxbcRefIdeal.nD → PrngReg), Pre_DxbcBwdIdeal m →
    (∀ c : Dev Cert.DxbcBwdIdeal.nD,
      m' ((c.tc : Thread Cert.DxbcRefIdeal.nD Cert.DxbcRefIdeal.τ).loc Cert.DxbcRefIdeal.main_arg0) = m ((c.tc : Thread Cert.DxbcBwdIdeal.nD Cert.DxbcBwdIdeal.τ).loc Cert.DxbcBwdIdeal.main_arg0)
      ∧ m' ((c.tc : Thread Cert.DxbcRefIdeal.nD Cert.DxbcRefIdeal.τ).loc Cert.DxbcRefIdeal.main_arg1) = m ((c.tc : Thread Cert.DxbcBwdIdeal.nD Cert.DxbcBwdIdeal.τ).loc Cert.DxbcBwdIdeal.main_arg1)
      ∧ m' ((c.tc : Thread Cert.DxbcRefIdeal.nD Cert.DxbcRefIdeal.τ).loc Cert.DxbcRefIdeal.main_arg2) = m ((c.tc : Thread Cert.DxbcBwdIdeal.nD Cert.DxbcBwdIdeal.τ).loc Cert.DxbcBwdIdeal.main_arg2)) →
    ∃ (v0 : (c : Dev Cert.DxbcBwdIdeal.nD) → Buf (Elt Ideal) ((c.tc : Thread Cert.DxbcBwdIdeal.nD Cert.DxbcBwdIdeal.τ).loc Cert.DxbcBwdIdeal.main_v2)),
      θ_run (Cert.DxbcBwdIdeal.defs (F := Ideal)) (onTc (τ := Cert.DxbcBwdIdeal.τ) (Cert.DxbcBwdIdeal.main (F := Ideal))) ⟨m, fun _ => 0, g⟩ (fun r => ∀ c : Dev Cert.DxbcBwdIdeal.nD,
          r.2.mem ((c.tc : Thread Cert.DxbcBwdIdeal.nD Cert.DxbcBwdIdeal.τ).loc Cert.DxbcBwdIdeal.main_v2) = v0 c
          ∧ r.2.mem ((c.tc : Thread Cert.DxbcBwdIdeal.nD Cert.DxbcBwdIdeal.τ).loc Cert.DxbcBwdIdeal.main_arg0) = m ((c.tc : Thread Cert.DxbcBwdIdeal.nD Cert.DxbcBwdIdeal.τ).loc Cert.DxbcBwdIdeal.main_arg0)
          ∧ r.2.mem ((c.tc : Thread Cert.DxbcBwdIdeal.nD Cert.DxbcBwdIdeal.τ).loc Cert.DxbcBwdIdeal.main_arg1) = m ((c.tc : Thread Cert.DxbcBwdIdeal.nD Cert.DxbcBwdIdeal.τ).loc Cert.DxbcBwdIdeal.main_arg1)
          ∧ r.2.mem ((c.tc : Thread Cert.DxbcBwdIdeal.nD Cert.DxbcBwdIdeal.τ).loc Cert.DxbcBwdIdeal.main_arg2) = m ((c.tc : Thread Cert.DxbcBwdIdeal.nD Cert.DxbcBwdIdeal.τ).loc Cert.DxbcBwdIdeal.main_arg2))
      ∧ θ_run (Cert.DxbcRefIdeal.defs (F := Ideal)) (onTc (τ := Cert.DxbcRefIdeal.τ) (Cert.DxbcRefIdeal.main (F := Ideal))) ⟨m', fun _ => 0, g'⟩ (fun r => ∀ c : Dev Cert.DxbcRefIdeal.nD,
          r.2.mem ((c.tc : Thread Cert.DxbcRefIdeal.nD Cert.DxbcRefIdeal.τ).loc Cert.DxbcRefIdeal.main_v1) = v0 c
          ∧ r.2.mem ((c.tc : Thread Cert.DxbcRefIdeal.nD Cert.DxbcRefIdeal.τ).loc Cert.DxbcRefIdeal.main_arg0) = m' ((c.tc : Thread Cert.DxbcRefIdeal.nD Cert.DxbcRefIdeal.τ).loc Cert.DxbcRefIdeal.main_arg0)
          ∧ r.2.mem ((c.tc : Thread Cert.DxbcRefIdeal.nD Cert.DxbcRefIdeal.τ).loc Cert.DxbcRefIdeal.main_arg1) = m' ((c.tc : Thread Cert.DxbcRefIdeal.nD Cert.DxbcRefIdeal.τ).loc Cert.DxbcRefIdeal.main_arg1)
          ∧ r.2.mem ((c.tc : Thread Cert.DxbcRefIdeal.nD Cert.DxbcRefIdeal.τ).loc Cert.DxbcRefIdeal.main_arg2) = m' ((c.tc : Thread Cert.DxbcRefIdeal.nD Cert.DxbcRefIdeal.τ).loc Cert.DxbcRefIdeal.main_arg2))

def Claim : Prop :=
  ∃ (hGluBwd : Cert.GluBwd.Facts) (hGluBwdIdeal : Cert.GluBwdIdeal.Facts) (hGluGradIdeal : Cert.GluGradIdeal.Facts) (hGeluBwd : Cert.GeluBwd.Facts) (hGeluBwdIdeal : Cert.GeluBwdIdeal.Facts) (hGeluGradIdeal : Cert.GeluGradIdeal.Facts) (hNormBwd : Cert.NormBwd.Facts) (hNormBwdIdeal : Cert.NormBwdIdeal.Facts) (hNormGradIdeal : Cert.NormGradIdeal.Facts) (hGateNormBwd : Cert.GateNormBwd.Facts) (hGateNormBwdIdeal : Cert.GateNormBwdIdeal.Facts) (hGateNormGradIdeal : Cert.GateNormGradIdeal.Facts) (hLossHead : Cert.LossHead.Facts) (hLossHeadIdeal : Cert.LossHeadIdeal.Facts) (hLossGradIdeal : Cert.LossGradIdeal.Facts) (hDrBwd : Cert.DrBwd.Facts) (hDrBwdIdeal : Cert.DrBwdIdeal.Facts) (hDrGradIdeal : Cert.DrGradIdeal.Facts) (hGateOutBwd : Cert.GateOutBwd.Facts) (hGateOutBwdIdeal : Cert.GateOutBwdIdeal.Facts) (hGateOutGradIdeal : Cert.GateOutGradIdeal.Facts) (hSsdBwd : Cert.SsdBwd.Facts) (hSsdBwdIdeal : Cert.SsdBwdIdeal.Facts) (hSsdGradIdeal : Cert.SsdGradIdeal.Facts) (hScanFwd : Cert.ScanFwd.Facts) (hScanFwdIdeal : Cert.ScanFwdIdeal.Facts) (hScanRefIdeal : Cert.ScanRefIdeal.Facts) (hConvIn : Cert.ConvIn.Facts) (hConvInIdeal : Cert.ConvInIdeal.Facts) (hConvInRefIdeal : Cert.ConvInRefIdeal.Facts) (hConvPre : Cert.ConvPre.Facts) (hConvPreIdeal : Cert.ConvPreIdeal.Facts) (hConvPreRefIdeal : Cert.ConvPreRefIdeal.Facts) (hConvFwd : Cert.ConvFwd.Facts) (hConvFwdIdeal : Cert.ConvFwdIdeal.Facts) (hConvFwdRefIdeal : Cert.ConvFwdRefIdeal.Facts) (hModFwd : Cert.ModFwd.Facts) (hModFwdIdeal : Cert.ModFwdIdeal.Facts) (hModRefIdeal : Cert.ModRefIdeal.Facts) (hSkipFwd : Cert.SkipFwd.Facts) (hSkipFwdIdeal : Cert.SkipFwdIdeal.Facts) (hSkipRefIdeal : Cert.SkipRefIdeal.Facts) (hGatedFwd : Cert.GatedFwd.Facts) (hGatedFwdIdeal : Cert.GatedFwdIdeal.Facts) (hGatedRefIdeal : Cert.GatedRefIdeal.Facts) (hGroupFwd : Cert.GroupFwd.Facts) (hGroupFwdIdeal : Cert.GroupFwdIdeal.Facts) (hGroupRefIdeal : Cert.GroupRefIdeal.Facts) (hReluFwd : Cert.ReluFwd.Facts) (hReluFwdIdeal : Cert.ReluFwdIdeal.Facts) (hReluRefIdeal : Cert.ReluRefIdeal.Facts) (hSquareFwd : Cert.SquareFwd.Facts) (hSquareFwdIdeal : Cert.SquareFwdIdeal.Facts) (hSquareRefIdeal : Cert.SquareRefIdeal.Facts) (hProjFwd : Cert.ProjFwd.Facts) (hProjFwdIdeal : Cert.ProjFwdIdeal.Facts) (hProjRefIdeal : Cert.ProjRefIdeal.Facts) (hWinFwd : Cert.WinFwd.Facts) (hWinFwdIdeal : Cert.WinFwdIdeal.Facts) (hWinRefIdeal : Cert.WinRefIdeal.Facts) (hWzFwd : Cert.WzFwd.Facts) (hWzFwdIdeal : Cert.WzFwdIdeal.Facts) (hWzRefIdeal : Cert.WzRefIdeal.Facts) (hWxbcFwd : Cert.WxbcFwd.Facts) (hWxbcFwdIdeal : Cert.WxbcFwdIdeal.Facts) (hWxbcRefIdeal : Cert.WxbcRefIdeal.Facts) (hWdtFwd : Cert.WdtFwd.Facts) (hWdtFwdIdeal : Cert.WdtFwdIdeal.Facts) (hWdtRefIdeal : Cert.WdtRefIdeal.Facts) (hDhBwd : Cert.DhBwd.Facts) (hDhBwdIdeal : Cert.DhBwdIdeal.Facts) (hDhRefIdeal : Cert.DhRefIdeal.Facts) (hDmlpBwd : Cert.DmlpBwd.Facts) (hDmlpBwdIdeal : Cert.DmlpBwdIdeal.Facts) (hDmlpRefIdeal : Cert.DmlpRefIdeal.Facts) (hDglBwd : Cert.DglBwd.Facts) (hDglBwdIdeal : Cert.DglBwdIdeal.Facts) (hDglRefIdeal : Cert.DglRefIdeal.Facts) (hDynBwd : Cert.DynBwd.Facts) (hDynBwdIdeal : Cert.DynBwdIdeal.Facts) (hDynRefIdeal : Cert.DynRefIdeal.Facts) (hDxbcBwd : Cert.DxbcBwd.Facts) (hDxbcBwdIdeal : Cert.DxbcBwdIdeal.Facts) (hDxbcRefIdeal : Cert.DxbcRefIdeal.Facts) (hPre_gelu_finite : Cert.Pre_gelu_finite.Facts) (hPre_norm_finite : Cert.Pre_norm_finite.Facts) (hPre_gatenorm_finite : Cert.Pre_gatenorm_finite.Facts) (hPre_loss_finite : Cert.Pre_loss_finite.Facts) (hPre_gateout_finite : Cert.Pre_gateout_finite.Facts) (hPre_convpre_finite : Cert.Pre_convpre_finite.Facts),
    quiescent_GluBwd (hGluBwd := hGluBwd)
    ∧ quiescent_GluBwdIdeal (hGluBwdIdeal := hGluBwdIdeal)
    ∧ quiescent_GluGradIdeal (hGluGradIdeal := hGluGradIdeal)
    ∧ quiescent_GeluBwd (hGeluBwd := hGeluBwd)
    ∧ quiescent_GeluBwdIdeal (hGeluBwdIdeal := hGeluBwdIdeal)
    ∧ quiescent_GeluBwdIdeal_pre_gelu_finite (hGeluBwdIdeal := hGeluBwdIdeal) (hPre_gelu_finite := hPre_gelu_finite)
    ∧ quiescent_GeluGradIdeal (hGeluGradIdeal := hGeluGradIdeal)
    ∧ quiescent_GeluGradIdeal_pre_gelu_finite (hGeluGradIdeal := hGeluGradIdeal) (hPre_gelu_finite := hPre_gelu_finite)
    ∧ quiescent_NormBwd (hNormBwd := hNormBwd)
    ∧ quiescent_NormBwdIdeal (hNormBwdIdeal := hNormBwdIdeal)
    ∧ quiescent_NormBwdIdeal_pre_norm_finite (hNormBwdIdeal := hNormBwdIdeal) (hPre_norm_finite := hPre_norm_finite)
    ∧ quiescent_NormGradIdeal (hNormGradIdeal := hNormGradIdeal)
    ∧ quiescent_NormGradIdeal_pre_norm_finite (hNormGradIdeal := hNormGradIdeal) (hPre_norm_finite := hPre_norm_finite)
    ∧ quiescent_GateNormBwd (hGateNormBwd := hGateNormBwd)
    ∧ quiescent_GateNormBwdIdeal (hGateNormBwdIdeal := hGateNormBwdIdeal)
    ∧ quiescent_GateNormBwdIdeal_pre_gatenorm_finite (hGateNormBwdIdeal := hGateNormBwdIdeal) (hPre_gatenorm_finite := hPre_gatenorm_finite)
    ∧ quiescent_GateNormGradIdeal (hGateNormGradIdeal := hGateNormGradIdeal)
    ∧ quiescent_GateNormGradIdeal_pre_gatenorm_finite (hGateNormGradIdeal := hGateNormGradIdeal) (hPre_gatenorm_finite := hPre_gatenorm_finite)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossGradIdeal (hLossGradIdeal := hLossGradIdeal)
    ∧ quiescent_LossGradIdeal_pre_loss_finite (hLossGradIdeal := hLossGradIdeal) (hPre_loss_finite := hPre_loss_finite)
    ∧ quiescent_DrBwd (hDrBwd := hDrBwd)
    ∧ quiescent_DrBwdIdeal (hDrBwdIdeal := hDrBwdIdeal)
    ∧ quiescent_DrGradIdeal (hDrGradIdeal := hDrGradIdeal)
    ∧ quiescent_GateOutBwd (hGateOutBwd := hGateOutBwd)
    ∧ quiescent_GateOutBwdIdeal (hGateOutBwdIdeal := hGateOutBwdIdeal)
    ∧ quiescent_GateOutBwdIdeal_pre_gateout_finite (hGateOutBwdIdeal := hGateOutBwdIdeal) (hPre_gateout_finite := hPre_gateout_finite)
    ∧ quiescent_GateOutGradIdeal (hGateOutGradIdeal := hGateOutGradIdeal)
    ∧ quiescent_GateOutGradIdeal_pre_gateout_finite (hGateOutGradIdeal := hGateOutGradIdeal) (hPre_gateout_finite := hPre_gateout_finite)
    ∧ quiescent_SsdBwd (hSsdBwd := hSsdBwd)
    ∧ quiescent_SsdBwdIdeal (hSsdBwdIdeal := hSsdBwdIdeal)
    ∧ quiescent_SsdGradIdeal (hSsdGradIdeal := hSsdGradIdeal)
    ∧ quiescent_ScanFwd (hScanFwd := hScanFwd)
    ∧ quiescent_ScanFwdIdeal (hScanFwdIdeal := hScanFwdIdeal)
    ∧ quiescent_ScanRefIdeal (hScanRefIdeal := hScanRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_ConvPre (hConvPre := hConvPre)
    ∧ quiescent_ConvPreIdeal (hConvPreIdeal := hConvPreIdeal)
    ∧ quiescent_ConvPreIdeal_pre_convpre_finite (hConvPreIdeal := hConvPreIdeal) (hPre_convpre_finite := hPre_convpre_finite)
    ∧ quiescent_ConvPreRefIdeal (hConvPreRefIdeal := hConvPreRefIdeal)
    ∧ quiescent_ConvPreRefIdeal_pre_convpre_finite (hConvPreRefIdeal := hConvPreRefIdeal) (hPre_convpre_finite := hPre_convpre_finite)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_ModFwd (hModFwd := hModFwd)
    ∧ quiescent_ModFwdIdeal (hModFwdIdeal := hModFwdIdeal)
    ∧ quiescent_ModRefIdeal (hModRefIdeal := hModRefIdeal)
    ∧ quiescent_SkipFwd (hSkipFwd := hSkipFwd)
    ∧ quiescent_SkipFwdIdeal (hSkipFwdIdeal := hSkipFwdIdeal)
    ∧ quiescent_SkipRefIdeal (hSkipRefIdeal := hSkipRefIdeal)
    ∧ quiescent_GatedFwd (hGatedFwd := hGatedFwd)
    ∧ quiescent_GatedFwdIdeal (hGatedFwdIdeal := hGatedFwdIdeal)
    ∧ quiescent_GatedRefIdeal (hGatedRefIdeal := hGatedRefIdeal)
    ∧ quiescent_GroupFwd (hGroupFwd := hGroupFwd)
    ∧ quiescent_GroupFwdIdeal (hGroupFwdIdeal := hGroupFwdIdeal)
    ∧ quiescent_GroupRefIdeal (hGroupRefIdeal := hGroupRefIdeal)
    ∧ quiescent_ReluFwd (hReluFwd := hReluFwd)
    ∧ quiescent_ReluFwdIdeal (hReluFwdIdeal := hReluFwdIdeal)
    ∧ quiescent_ReluRefIdeal (hReluRefIdeal := hReluRefIdeal)
    ∧ quiescent_SquareFwd (hSquareFwd := hSquareFwd)
    ∧ quiescent_SquareFwdIdeal (hSquareFwdIdeal := hSquareFwdIdeal)
    ∧ quiescent_SquareRefIdeal (hSquareRefIdeal := hSquareRefIdeal)
    ∧ quiescent_ProjFwd (hProjFwd := hProjFwd)
    ∧ quiescent_ProjFwdIdeal (hProjFwdIdeal := hProjFwdIdeal)
    ∧ quiescent_ProjRefIdeal (hProjRefIdeal := hProjRefIdeal)
    ∧ quiescent_WinFwd (hWinFwd := hWinFwd)
    ∧ quiescent_WinFwdIdeal (hWinFwdIdeal := hWinFwdIdeal)
    ∧ quiescent_WinRefIdeal (hWinRefIdeal := hWinRefIdeal)
    ∧ quiescent_WzFwd (hWzFwd := hWzFwd)
    ∧ quiescent_WzFwdIdeal (hWzFwdIdeal := hWzFwdIdeal)
    ∧ quiescent_WzRefIdeal (hWzRefIdeal := hWzRefIdeal)
    ∧ quiescent_WxbcFwd (hWxbcFwd := hWxbcFwd)
    ∧ quiescent_WxbcFwdIdeal (hWxbcFwdIdeal := hWxbcFwdIdeal)
    ∧ quiescent_WxbcRefIdeal (hWxbcRefIdeal := hWxbcRefIdeal)
    ∧ quiescent_WdtFwd (hWdtFwd := hWdtFwd)
    ∧ quiescent_WdtFwdIdeal (hWdtFwdIdeal := hWdtFwdIdeal)
    ∧ quiescent_WdtRefIdeal (hWdtRefIdeal := hWdtRefIdeal)
    ∧ quiescent_DhBwd (hDhBwd := hDhBwd)
    ∧ quiescent_DhBwdIdeal (hDhBwdIdeal := hDhBwdIdeal)
    ∧ quiescent_DhRefIdeal (hDhRefIdeal := hDhRefIdeal)
    ∧ quiescent_DmlpBwd (hDmlpBwd := hDmlpBwd)
    ∧ quiescent_DmlpBwdIdeal (hDmlpBwdIdeal := hDmlpBwdIdeal)
    ∧ quiescent_DmlpRefIdeal (hDmlpRefIdeal := hDmlpRefIdeal)
    ∧ quiescent_DglBwd (hDglBwd := hDglBwd)
    ∧ quiescent_DglBwdIdeal (hDglBwdIdeal := hDglBwdIdeal)
    ∧ quiescent_DglRefIdeal (hDglRefIdeal := hDglRefIdeal)
    ∧ quiescent_DynBwd (hDynBwd := hDynBwd)
    ∧ quiescent_DynBwdIdeal (hDynBwdIdeal := hDynBwdIdeal)
    ∧ quiescent_DynRefIdeal (hDynRefIdeal := hDynRefIdeal)
    ∧ quiescent_DxbcBwd (hDxbcBwd := hDxbcBwd)
    ∧ quiescent_DxbcBwdIdeal (hDxbcBwdIdeal := hDxbcBwdIdeal)
    ∧ quiescent_DxbcRefIdeal (hDxbcRefIdeal := hDxbcRefIdeal)
    ∧ preserves_GluBwd_GluBwdIdeal
    ∧ algebraic_GluBwdIdeal_GluGradIdeal (hGluBwdIdeal := hGluBwdIdeal) (hGluGradIdeal := hGluGradIdeal)
    ∧ preserves_GeluBwd_GeluBwdIdeal
    ∧ algebraic_GeluBwdIdeal_GeluGradIdeal_pre_gelu_finite (hGeluBwdIdeal := hGeluBwdIdeal) (hGeluGradIdeal := hGeluGradIdeal) (hPre_gelu_finite := hPre_gelu_finite)
    ∧ preserves_NormBwd_NormBwdIdeal
    ∧ algebraic_NormBwdIdeal_NormGradIdeal_pre_norm_finite (hNormBwdIdeal := hNormBwdIdeal) (hNormGradIdeal := hNormGradIdeal) (hPre_norm_finite := hPre_norm_finite)
    ∧ preserves_GateNormBwd_GateNormBwdIdeal
    ∧ algebraic_GateNormBwdIdeal_GateNormGradIdeal_pre_gatenorm_finite (hGateNormBwdIdeal := hGateNormBwdIdeal) (hGateNormGradIdeal := hGateNormGradIdeal) (hPre_gatenorm_finite := hPre_gatenorm_finite)
    ∧ preserves_LossHead_LossHeadIdeal
    ∧ algebraic_LossHeadIdeal_LossGradIdeal_pre_loss_finite (hLossHeadIdeal := hLossHeadIdeal) (hLossGradIdeal := hLossGradIdeal) (hPre_loss_finite := hPre_loss_finite)
    ∧ preserves_DrBwd_DrBwdIdeal
    ∧ algebraic_DrBwdIdeal_DrGradIdeal (hDrBwdIdeal := hDrBwdIdeal) (hDrGradIdeal := hDrGradIdeal)
    ∧ preserves_GateOutBwd_GateOutBwdIdeal
    ∧ algebraic_GateOutBwdIdeal_GateOutGradIdeal_pre_gateout_finite (hGateOutBwdIdeal := hGateOutBwdIdeal) (hGateOutGradIdeal := hGateOutGradIdeal) (hPre_gateout_finite := hPre_gateout_finite)
    ∧ preserves_SsdBwd_SsdBwdIdeal
    ∧ algebraic_SsdBwdIdeal_SsdGradIdeal (hSsdBwdIdeal := hSsdBwdIdeal) (hSsdGradIdeal := hSsdGradIdeal)
    ∧ preserves_ScanFwd_ScanFwdIdeal
    ∧ algebraic_ScanFwdIdeal_ScanRefIdeal (hScanFwdIdeal := hScanFwdIdeal) (hScanRefIdeal := hScanRefIdeal)
    ∧ preserves_ConvIn_ConvInIdeal
    ∧ algebraic_ConvInIdeal_ConvInRefIdeal (hConvInIdeal := hConvInIdeal) (hConvInRefIdeal := hConvInRefIdeal)
    ∧ preserves_ConvPre_ConvPreIdeal
    ∧ algebraic_ConvPreIdeal_ConvPreRefIdeal_pre_convpre_finite (hConvPreIdeal := hConvPreIdeal) (hConvPreRefIdeal := hConvPreRefIdeal) (hPre_convpre_finite := hPre_convpre_finite)
    ∧ preserves_ConvFwd_ConvFwdIdeal
    ∧ algebraic_ConvFwdIdeal_ConvFwdRefIdeal (hConvFwdIdeal := hConvFwdIdeal) (hConvFwdRefIdeal := hConvFwdRefIdeal)
    ∧ preserves_ModFwd_ModFwdIdeal
    ∧ algebraic_ModFwdIdeal_ModRefIdeal (hModFwdIdeal := hModFwdIdeal) (hModRefIdeal := hModRefIdeal)
    ∧ preserves_SkipFwd_SkipFwdIdeal
    ∧ algebraic_SkipFwdIdeal_SkipRefIdeal (hSkipFwdIdeal := hSkipFwdIdeal) (hSkipRefIdeal := hSkipRefIdeal)
    ∧ preserves_GatedFwd_GatedFwdIdeal
    ∧ algebraic_GatedFwdIdeal_GatedRefIdeal (hGatedFwdIdeal := hGatedFwdIdeal) (hGatedRefIdeal := hGatedRefIdeal)
    ∧ preserves_GroupFwd_GroupFwdIdeal
    ∧ algebraic_GroupFwdIdeal_GroupRefIdeal (hGroupFwdIdeal := hGroupFwdIdeal) (hGroupRefIdeal := hGroupRefIdeal)
    ∧ preserves_ReluFwd_ReluFwdIdeal
    ∧ algebraic_ReluFwdIdeal_ReluRefIdeal (hReluFwdIdeal := hReluFwdIdeal) (hReluRefIdeal := hReluRefIdeal)
    ∧ preserves_SquareFwd_SquareFwdIdeal
    ∧ algebraic_SquareFwdIdeal_SquareRefIdeal (hSquareFwdIdeal := hSquareFwdIdeal) (hSquareRefIdeal := hSquareRefIdeal)
    ∧ preserves_ProjFwd_ProjFwdIdeal
    ∧ algebraic_ProjFwdIdeal_ProjRefIdeal (hProjFwdIdeal := hProjFwdIdeal) (hProjRefIdeal := hProjRefIdeal)
    ∧ preserves_WinFwd_WinFwdIdeal
    ∧ algebraic_WinFwdIdeal_WinRefIdeal (hWinFwdIdeal := hWinFwdIdeal) (hWinRefIdeal := hWinRefIdeal)
    ∧ preserves_WzFwd_WzFwdIdeal
    ∧ algebraic_WzFwdIdeal_WzRefIdeal (hWzFwdIdeal := hWzFwdIdeal) (hWzRefIdeal := hWzRefIdeal)
    ∧ preserves_WxbcFwd_WxbcFwdIdeal
    ∧ algebraic_WxbcFwdIdeal_WxbcRefIdeal (hWxbcFwdIdeal := hWxbcFwdIdeal) (hWxbcRefIdeal := hWxbcRefIdeal)
    ∧ preserves_WdtFwd_WdtFwdIdeal
    ∧ algebraic_WdtFwdIdeal_WdtRefIdeal (hWdtFwdIdeal := hWdtFwdIdeal) (hWdtRefIdeal := hWdtRefIdeal)
    ∧ preserves_DhBwd_DhBwdIdeal
    ∧ algebraic_DhBwdIdeal_DhRefIdeal (hDhBwdIdeal := hDhBwdIdeal) (hDhRefIdeal := hDhRefIdeal)
    ∧ preserves_DmlpBwd_DmlpBwdIdeal
    ∧ algebraic_DmlpBwdIdeal_DmlpRefIdeal (hDmlpBwdIdeal := hDmlpBwdIdeal) (hDmlpRefIdeal := hDmlpRefIdeal)
    ∧ preserves_DglBwd_DglBwdIdeal
    ∧ algebraic_DglBwdIdeal_DglRefIdeal (hDglBwdIdeal := hDglBwdIdeal) (hDglRefIdeal := hDglRefIdeal)
    ∧ preserves_DynBwd_DynBwdIdeal
    ∧ algebraic_DynBwdIdeal_DynRefIdeal (hDynBwdIdeal := hDynBwdIdeal) (hDynRefIdeal := hDynRefIdeal)
    ∧ preserves_DxbcBwd_DxbcBwdIdeal
    ∧ algebraic_DxbcBwdIdeal_DxbcRefIdeal (hDxbcBwdIdeal := hDxbcBwdIdeal) (hDxbcRefIdeal := hDxbcRefIdeal)
-- ==== Pre_convpre_finite.lean ====
abbrev S16384x3072 : Shape := ⟨2, ![16384, 3072]⟩
abbrev S4x3072 : Shape := ⟨2, ![4, 3072]⟩
abbrev S3072 : Shape := ⟨1, ![3072]⟩
abbrev S_ : Shape := ⟨0, ![]⟩

class Facts : Prop where
  bcast_S_S16384x3072 : S_.BroadcastsInDim S16384x3072 (![] : Fin 0 → Fin S16384x3072.rank)

variable [Facts]

def fn {F : FTy → Type} [FloatOps F] (main_arg0 : FVec F S16384x3072 .f32) (main_arg1 : FVec F S4x3072 .f32) (main_arg2 : FVec F S3072 .f32) (main_arg3 : FVec F S16384x3072 .f32) : IVec S16384x3072 1 :=
  let main_v0 : FVec F S16384x3072 .f32 := Host.absf main_arg3
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  main_v2
-- ==== Pre_gatenorm_finite.lean ====
abbrev S16384x2048 : Shape := ⟨2, ![16384, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  bcast_S_S2048 : S_.BroadcastsInDim S2048 (![] : Fin 0 → Fin S2048.rank)

variable [Facts]

def fn {F : FTy → Type} [FloatOps F] (main_arg0 : FVec F S16384x2048 .f32) (main_arg1 : FVec F S16384x2048 .f32) (main_arg2 : FVec F S2048 .f32) (main_arg3 : FVec F S16384x2048 .f32) : IVec S16384x2048 1 × IVec S16384x2048 1 × IVec S2048 1 × IVec S16384x2048 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : FVec F S16384x2048 .f32 := Host.absf main_arg1
  let main_cst_0 : FVec F S_ .f32 := constant S_ .f32 0x7F800000#32
  let main_v4 : FVec F S16384x2048 .f32 := broadcastInDim S16384x2048 ![] bcast_S_S16384x2048 main_cst_0
  let main_v5 : IVec S16384x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S16384x2048 .f32 := Host.absf main_arg3
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  (main_v2, main_v5, main_v8, main_v11)
-- ==== Pre_gateout_finite.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S_ : Shape := ⟨0, ![]⟩

class Facts : Prop where
  bcast_S_S16384x4096 : S_.BroadcastsInDim S16384x4096 (![] : Fin 0 → Fin S16384x4096.rank)
  bcast_S_S4096x1024 : S_.BroadcastsInDim S4096x1024 (![] : Fin 0 → Fin S4096x1024.rank)
  bcast_S_S1x1024 : S_.BroadcastsInDim S1x1024 (![] : Fin 0 → Fin S1x1024.rank)
  bcast_S_S16384x1024 : S_.BroadcastsInDim S16384x1024 (![] : Fin 0 → Fin S16384x1024.rank)

variable [Facts]

def fn {F : FTy → Type} [FloatOps F] (main_arg0 : FVec F S16384x4096 .f32) (main_arg1 : FVec F S4096x1024 .f32) (main_arg2 : FVec F S1x1024 .f32) (main_arg3 : FVec F S16384x1024 .f32) : IVec S16384x4096 1 × IVec S4096x1024 1 × IVec S1x1024 1 × IVec S16384x1024 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Pre_gelu_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)

variable [Facts]

def fn {F : FTy → Type} [FloatOps F] (main_arg0 : FVec F S16384x1024 .f32) (main_arg1 : FVec F S16384x1024 .f32) (main_arg2 : FVec F S1024 .f32) (main_arg3 : FVec F S16384x1024 .f32) (main_arg4 : FVec F S16384x1024 .f32) : IVec S16384x1024 1 × IVec S16384x1024 1 × IVec S1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Pre_loss_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)

variable [Facts]

def fn {F : FTy → Type} [FloatOps F] (main_arg0 : FVec F S16384x1024 .f32) (main_arg1 : FVec F S1024 .f32) (main_arg2 : FVec F S16384x1024 .f32) : IVec S16384x1024 1 × IVec S1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Pre_norm_finite.lean ====
abbrev S16384x1024 : Shape := ⟨2, ![16384, 1024]⟩
abbrev S1024 : Shape := ⟨1, ![1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S1024 .f32) (main_arg2 : FVec F S1x1024 .f32) (main_arg3 : FVec F S1x1024 .f32) (main_arg4 : FVec F S16384x1024 .f32) (main_arg5 : FVec F S16384x1024 .f32) : IVec S16384x1024 1 × IVec S1024 1 × IVec S1x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S16384x1024 .f32 := Host.absf main_arg4
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== GluBwd.lean ====
abbrev S16384x2048 : Shape := ⟨2, ![16384, 2048]⟩
abbrev S2048 : Shape := ⟨1, ![2048]⟩
abbrev S16384x1024 : Shape := ⟨2, ![16384, 1024]⟩
abbrev S1x1024 : Shape := ⟨2, ![1, 1024]⟩
abbrev S1x2048 : Shape := ⟨2, ![1, 2048]⟩
abbrev S256x2048 : Shape := ⟨2, ![256, 2048]⟩
abbrev S256x1024 : Shape := ⟨2, ![256, 1024]⟩
abbrev S1024 : Shape := ⟨1, ![1024]⟩

abbrev nBuf : Space → Nat
  | .hbm => 9
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S1x2048, .f32⟩
  | .hbm, ⟨6, _⟩ => ⟨S16384x2048, .bf16⟩
  | .hbm, ⟨7, _⟩ => ⟨S1x2048, .f32⟩
  | .hbm, ⟨8, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S1x1024, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GluGradIdeal.lean ====
abbrev S16384x2048 : Shape := ⟨2, ![16384, 2048]⟩
abbrev S2048 : Shape := ⟨1, ![2048]⟩
abbrev S16384x1024 : Shape := ⟨2, ![16384, 1024]⟩
abbrev S1x1024 : Shape := ⟨2, ![1, 1024]⟩
abbrev S1x2048 : Shape := ⟨2, ![1, 2048]⟩
abbrev S_ : Shape := ⟨0, ![]⟩
abbrev S1024 : Shape := ⟨1, ![1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S1x2048, .f32⟩
  | .hbm, ⟨6, _⟩ => ⟨S16384x2048, .f32⟩
  | .hbm, ⟨7, _⟩ => ⟨S16384x2048, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S_, .f32⟩
  | .hbm, ⟨40, _⟩ => ⟨S2048, .f32⟩
  | .hbm, ⟨41, _⟩ => ⟨S16384x2048, .bf16⟩
  | .hbm, ⟨42, _⟩ => ⟨S1x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== GeluBwd.lean ====
abbrev S16384x1024 : Shape := ⟨2, ![16384, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 9
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S1x1024, .f32⟩
  | .hbm, ⟨8, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== GeluBwdIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== GeluGradIdeal.lean ====
abbrev S16384x1024 : Shape := ⟨2, ![16384, 1024]⟩
abbrev S1024 : Shape := ⟨1, ![1024]⟩
abbrev S1x1024 : Shape := ⟨2, ![1, 1024]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S16384x1024, .f32⟩
  | .hbm, ⟨64, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== NormBwd.lean ====
abbrev S16384x1024 : Shape := ⟨2, ![16384, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .bf16⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== NormGradIdeal.lean ====
abbrev S16384x1024 : Shape := ⟨2, ![16384, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .bf16⟩
  | .hbm, ⟨70, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== GateNormBwd.lean ====
abbrev S16384x2048 : Shape := ⟨2, ![16384, 2048]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S512 : Shape := ⟨1, ![512]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S16384x2048, .f32⟩
  | .hbm, ⟨4, _⟩ => ⟨S1x2048, .f32⟩
  | .hbm, ⟨5, _⟩ => ⟨S16384x2048, .f32⟩
  | .hbm, ⟨6, _⟩ => ⟨S16384x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateNormGradIdeal.lean ====
abbrev S16384x2048 : Shape := ⟨2, ![16384, 2048]⟩
abbrev S2048 : Shape := ⟨1, ![2048]⟩
abbrev S_ : Shape := ⟨0, ![]⟩
abbrev S16384x4x512 : Shape := ⟨3, ![16384, 4, 512]⟩
abbrev S16384x4 : Shape := ⟨2, ![16384, 4]⟩
abbrev S16384x4x1 : Shape := ⟨3, ![16384, 4, 1]⟩
abbrev S1x2048 : Shape := ⟨2, ![1, 2048]⟩

abbrev nBuf : Space → Nat
  | .hbm => 75
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x4x512, .f32⟩
  | .hbm, ⟨19, _⟩ => ⟨S16384x4x512, .f32⟩
  | .hbm, ⟨20, _⟩ => ⟨S_, .f32⟩
  | .hbm, ⟨21, _⟩ => ⟨S16384x4, .f32⟩
  | .hbm, ⟨22, _⟩ => ⟨S16384x4x1, .f32⟩
  | .hbm, ⟨23, _⟩ => ⟨S_, .f32⟩
  | .hbm, ⟨24, _⟩ => ⟨S16384x4x1, .f32⟩
  | .hbm, ⟨25, _⟩ => ⟨S16384x4x1, .f32⟩
  | .hbm, ⟨26, _⟩ => ⟨S_, .f32⟩
  | .hbm, ⟨27, _⟩ => ⟨S16384x4x1, .f32⟩
  | .hbm, ⟨28, _⟩ => ⟨S16384x4x1, .f32⟩
  | .hbm, ⟨29, _⟩ => ⟨S16384x4x1, .f32⟩
  | .hbm, ⟨30, _⟩ => ⟨S16384x4x1, .f32⟩
  | .hbm, ⟨31, _⟩ => ⟨S_, .f32⟩
  | .hbm, ⟨32, _⟩ => ⟨S16384x4x1, .f32⟩
  | .hbm, ⟨33, _⟩ => ⟨S16384x4x1, .f32⟩
  | .hbm, ⟨34, _⟩ => ⟨S16384x4x512, .f32⟩
  | .hbm, ⟨35, _⟩ => ⟨S16384x4x512, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S2048, .f32⟩
  | .hbm, ⟨48, _⟩ => ⟨S16384x4x512, .f32⟩
  | .hbm, ⟨49, _⟩ => ⟨S16384x4x512, .f32⟩
  | .hbm, ⟨50, _⟩ => ⟨S_, .f32⟩
  | .hbm, ⟨51, _⟩ => ⟨S16384x4, .f32⟩
  | .hbm, ⟨52, _⟩ => ⟨S16384x4x1, .f32⟩
  | .hbm, ⟨53, _⟩ => ⟨S16384x4x512, .f32⟩
  | .hbm, ⟨54, _⟩ => ⟨S16384x4x512, .f32⟩
  | .hbm, ⟨55, _⟩ => ⟨S16384x4x1, .f32⟩
  | .hbm, ⟨56, _⟩ => ⟨S_, .f32⟩
  | .hbm, ⟨57, _⟩ => ⟨S16384x4x1, .f32⟩
  | .hbm, ⟨58, _⟩ => ⟨S16384x4x1, .f32⟩
  | .hbm, ⟨59, _⟩ => ⟨S_, .f32⟩
  | .hbm, ⟨60, _⟩ => ⟨S16384x4, .f32⟩
  | .hbm, ⟨61, _⟩ => ⟨S16384x4x512, .f32⟩
  | .hbm, ⟨62, _⟩ => ⟨S16384x4x512, .f32⟩
  | .hbm, ⟨63, _⟩ => ⟨S16384x4x512, .f32⟩
  | .hbm, ⟨64, _⟩ => ⟨S16384x4x512, .f32⟩
  | .hbm, ⟨65, _⟩ => ⟨S16384x4x512, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x2048, .f32⟩
  | .hbm, ⟨72, _⟩ => ⟨S16384x2048, .f32⟩
  | .hbm, ⟨73, _⟩ => ⟨S16384x2048, .bf16⟩
  | .hbm, ⟨74, _⟩ => ⟨S1x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== LossHead.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .bf16⟩
  | .hbm, ⟨6, _⟩ => ⟨S1x1024, .f32⟩
  | .hbm, ⟨7, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossGradIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .bf16⟩
  | .hbm, ⟨72, _⟩ => ⟨S1x1024, .f32⟩
  | .hbm, ⟨73, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== DrBwd.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S_ : Shape := ⟨0, ![]⟩
abbrev S256x1024 : Shape := ⟨2, ![256, 1024]⟩
abbrev S1024x1024 : Shape := ⟨2, ![1024, 1024]⟩

abbrev nBuf : Space → Nat
  | .hbm => 11
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .bf16⟩
  | .hbm, ⟨8, _⟩ => ⟨S4096x1024, .bf16⟩
  | .hbm, ⟨9, _⟩ => ⟨S16384x1024, .bf16⟩
  | .hbm, ⟨10, _⟩ => ⟨S16384x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![16, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== DrGradIdeal.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .i1⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== GateOutBwd.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S_ : Shape := ⟨0, ![]⟩
abbrev S4x1x1024 : Shape := ⟨3, ![4, 1, 1024]⟩
abbrev S2048x1024 : Shape := ⟨2, ![2048, 1024]⟩
abbrev S1024x1024 : Shape := ⟨2, ![1024, 1024]⟩
abbrev S1x1x1024 : Shape := ⟨3, ![1, 1, 1024]⟩
abbrev S1024 : Shape := ⟨1, ![1024]⟩

abbrev nBuf : Space → Nat
  | .hbm => 13
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .bf16⟩
  | .hbm, ⟨8, _⟩ => ⟨S16384x1024, .bf16⟩
  | .hbm, ⟨9, _⟩ => ⟨S4096x1024, .bf16⟩
  | .hbm, ⟨10, _⟩ => ⟨S4x1x1024, .f32⟩
  | .hbm, ⟨11, _⟩ => ⟨S_, .f32⟩
  | .hbm, ⟨12, _⟩ => ⟨S1x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_cst_0 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateOutGradIdeal.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S_ : Shape := ⟨0, ![]⟩
abbrev S1024 : Shape := ⟨1, ![1024]⟩
abbrev S1024x4096 : Shape := ⟨2, ![1024, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S1024x4096, .f32⟩
  | .hbm, ⟨18, _⟩ => ⟨S4096x1024, .f32⟩
  | .hbm, ⟨19, _⟩ => ⟨S4096x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== SsdBwd.lean ====
abbrev S16384x3072 : Shape := ⟨2, ![16384, 3072]⟩
abbrev S16384x32 : Shape := ⟨2, ![16384, 32]⟩
abbrev S32 : Shape := ⟨1, ![32]⟩
abbrev S16384x2048 : Shape := ⟨2, ![16384, 2048]⟩
abbrev S128x16x128x128 : Shape := ⟨4, ![128, 16, 128, 128]⟩
abbrev S2048 : Shape := ⟨1, ![2048]⟩
abbrev S2048x1 : Shape := ⟨2, ![2048, 1]⟩
abbrev S_ : Shape := ⟨0, ![]⟩
abbrev S128 : Shape := ⟨1, ![128]⟩
abbrev S1x128 : Shape := ⟨2, ![1, 128]⟩
abbrev S2048x128 : Shape := ⟨2, ![2048, 128]⟩
abbrev S128x2048 : Shape := ⟨2, ![128, 2048]⟩
abbrev S1 : Shape := ⟨1, ![1]⟩
abbrev S2 : Shape := ⟨1, ![2]⟩
abbrev S32x64 : Shape := ⟨2, ![32, 64]⟩
abbrev S1x2048 : Shape := ⟨2, ![1, 2048]⟩
abbrev S16384x128 : Shape := ⟨2, ![16384, 128]⟩
abbrev S8x128 : Shape := ⟨2, ![8, 128]⟩
abbrev S128x3072 : Shape := ⟨2, ![128, 3072]⟩
abbrev S128x128 : Shape := ⟨2, ![128, 128]⟩
abbrev S1x16x128x128 : Shape := ⟨4, ![1, 16, 128, 128]⟩
abbrev S16x128x128 : Shape := ⟨3, ![16, 128, 128]⟩
abbrev S1x1x128x128 : Shape := ⟨4, ![1, 1, 128, 128]⟩
abbrev S1x128x128 : Shape := ⟨3, ![1, 128, 128]⟩
abbrev S128x1 : Shape := ⟨2, ![128, 1]⟩
abbrev S1x1 : Shape := ⟨2, ![1, 1]⟩
abbrev S8x2048 : Shape := ⟨2, ![8, 2048]⟩
abbrev S16384x2560 : Shape := ⟨2, ![16384, 2560]⟩
abbrev S1x32 : Shape := ⟨2, ![1, 32]⟩

abbrev nBuf : Space → Nat
  | .hbm => 67
  | .vmem => 28
  | .smem => 0
  | _ => 0

abbrev bufTy : (tb : Table) → Fin (tcTables nBuf tb) → BufTy
  | .hbm, ⟨0, _⟩ => ⟨S16384x3072, .f32⟩
  | .hbm, ⟨1, _⟩ => ⟨S16384x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S16384x2048, .f32⟩
  | .hbm, ⟨6, _⟩ => ⟨S128x16x128x128, .f32⟩
  | .hbm, ⟨7, _⟩ => ⟨S32, .f32⟩
  | .hbm, ⟨8, _⟩ => ⟨S32, .f32⟩
  | .hbm, ⟨9, _⟩ => ⟨S2048, .i32⟩
  | .hbm, ⟨10, _⟩ => ⟨S2048x1, .i32⟩
  | .hbm, ⟨11, _⟩ => ⟨S_, .i32⟩
  | .hbm, ⟨12, _⟩ => ⟨S_, .i32⟩
  | .hbm, ⟨13, _⟩ => ⟨S2048x1, .i32⟩
  | .hbm, ⟨14, _⟩ => ⟨S2048x1, .i32⟩
  | .hbm, ⟨15, _⟩ => ⟨S2048x1, .i32⟩
  | .hbm, ⟨16, _⟩ => ⟨S_, .i32⟩
  | .hbm, ⟨17, _⟩ => ⟨S2048x1, .i32⟩
  | .hbm, ⟨18, _⟩ => ⟨S2048x1, .i1⟩
  | .hbm, ⟨19, _⟩ => ⟨S2048x1, .i32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S2048x1, .i1⟩
  | .hbm, ⟨25, _⟩ => ⟨S_, .i32⟩
  | .hbm, ⟨26, _⟩ => ⟨S2048x1, .i32⟩
  | .hbm, ⟨27, _⟩ => ⟨S2048x1, .i32⟩
  | .hbm, ⟨28, _⟩ => ⟨S2048x1, .i32⟩
  | .hbm, ⟨29, _⟩ => ⟨S128, .i32⟩
  | .hbm, ⟨30, _⟩ => ⟨S1x128, .i32⟩
  | .hbm, ⟨31, _⟩ => ⟨S2048x128, .i32⟩
  | .hbm, ⟨32, _⟩ => ⟨S2048x128, .i32⟩
  | .hbm, ⟨33, _⟩ => ⟨S2048x128, .i1⟩
  | .hbm, ⟨34, _⟩ => ⟨S2048x128, .f32⟩
  | .hbm, ⟨35, _⟩ => ⟨S128x2048, .f32⟩
  | .hbm, ⟨36, _⟩ => ⟨S128x2048, .bf16⟩
  | .hbm, ⟨37, _⟩ => ⟨S_, .f32⟩
  | .hbm, ⟨38, _⟩ => ⟨S1x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S1x128, .f32⟩
  | .hbm, ⟨53, _⟩ => ⟨S32x64, .f32⟩
  | .hbm, ⟨54, _⟩ => ⟨S2048, .f32⟩
  | .hbm, ⟨55, _⟩ => ⟨S1x2048, .f32⟩
  | .hbm, ⟨56, _⟩ => ⟨S_, .i32⟩
  | .hbm, ⟨57, _⟩ => ⟨S_, .f32⟩
  | .hbm, ⟨58, _⟩ => ⟨S16384x128, .f32⟩
  | .hbm, ⟨59, _⟩ => ⟨S16384x3072, .f32⟩
  | .hbm, ⟨60, _⟩ => ⟨S16384x128, .f32⟩
  | .hbm, ⟨61, _⟩ => ⟨S1x128, .f32⟩
  | .hbm, ⟨62, _⟩ => ⟨S1x128, .f32⟩
  | .hbm, ⟨63, _⟩ => ⟨S8x128, .f32⟩
  | .hbm, ⟨64, _⟩ => ⟨S16384x2560, .f32⟩
  | .hbm, ⟨65, _⟩ => ⟨S1x32, .f32⟩
  | .hbm, ⟨66, _⟩ => ⟨S32, .f32⟩
  | .local _ .vmem, ⟨0, _⟩ => ⟨S128x3072, .f32⟩
  | .local _ .vmem, ⟨1, _⟩ => ⟨S128x3072, .f32⟩
  | .local _ .vmem, ⟨2, _⟩ => ⟨S128x128, .f32⟩
  | .local _ .vmem, ⟨3, _⟩ => ⟨S128x128, .f32⟩
  | .local _ .vmem, ⟨4, _⟩ => ⟨S128x2048, .f32⟩
  | .local _ .vmem, ⟨5, _⟩ => ⟨S128x2048, .f32⟩
  | .local _ .vmem, ⟨6, _⟩ => ⟨S1x16x128x128, .f32⟩
  | .local _ .vmem, ⟨7, _⟩ => ⟨S1x16x128x128, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S2048x128, .f32⟩
  | .local _ .vmem, ⟨12, _⟩ => ⟨S128x2048, .bf16⟩
  | .local _ .vmem, ⟨13, _⟩ => ⟨S128x3072, .f32⟩
  | .local _ .vmem, ⟨14, _⟩ => ⟨S128x3072, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S8x128, .f32⟩
  | .local _ .vmem, ⟨20, _⟩ => ⟨S16x128x128, .f32⟩
  | .local _ .vmem, ⟨21, _⟩ => ⟨S128x128, .f32⟩
  | .local _ .vmem, ⟨22, _⟩ => ⟨S128x2048, .f32⟩
  | .local _ .vmem, ⟨23, _⟩ => ⟨S128x128, .f32⟩
  | .local _ .vmem, ⟨24, _⟩ => ⟨S128x128, .f32⟩
  | .local _ .vmem, ⟨25, _⟩ => ⟨S128x2048, .f32⟩
  | .local _ .vmem, ⟨26, _⟩ => ⟨S128x2048, .f32⟩
  | .local _ .vmem, ⟨27, _⟩ => ⟨S1x2048, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_c_0 : Ref sig .tc := ⟨.hbm, 39, rfl⟩
abbrev main_v14 : Ref sig .tc := ⟨.hbm, 40, rfl⟩
abbrev main_c_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_c_3 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_call1_v0 : Ref sig .tc := ⟨.hbm, 57, rfl⟩
abbrev main_v26 : Ref sig .tc := ⟨.hbm, 58, rfl⟩
abbrev main_v27_0 : Ref sig .tc := ⟨.hbm, 59, rfl⟩
abbrev main_v27_1 : Ref sig .tc := ⟨.hbm, 60, rfl⟩
abbrev main_v27_2 : Ref sig .tc := ⟨.hbm, 61, rfl⟩
abbrev main_v27_3 : Ref sig .tc := ⟨.hbm, 62, rfl⟩
abbrev main_v27_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c127_i32_1181 : BitVec 32 := 127#32
  let v2984 : BitVec 1 := Scalar.cmpi .eq arg0 c127_i32_1181
  let v2985 : BitVec 32 := Scalar.extui v2984
  let c0_i32_1182 : BitVec 32 := 0#32
  let v2986 : BitVec 1 := Scalar.cmpi .ne v2985 c0_i32_1182
  v2986

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== SsdGradIdeal.lean ====
abbrev S16384x3072 : Shape := ⟨2, ![16384, 3072]⟩
abbrev S16384x32 : Shape := ⟨2, ![16384, 32]⟩
abbrev S32 : Shape := ⟨1, ![32]⟩
abbrev S16384x2048 : Shape := ⟨2, ![16384, 2048]⟩
abbrev S128x16x128x128 : Shape := ⟨4, ![128, 16, 128, 128]⟩
abbrev S16384x512 : Shape := ⟨2, ![16384, 512]⟩
abbrev S1x32 : Shape := ⟨2, ![1, 32]⟩
abbrev S_ : Shape := ⟨0, ![]⟩
abbrev S4x8 : Shape := ⟨2, ![4, 8]⟩
abbrev S128x128x4x8x64 : Shape := ⟨5, ![128, 128, 4, 8, 64]⟩
abbrev S128x128x4x128 : Shape := ⟨4, ![128, 128, 4, 128]⟩
abbrev S128x128x4x8 : Shape := ⟨4, ![128, 128, 4, 8]⟩
abbrev S128x128x4x8x1 : Shape := ⟨5, ![128, 128, 4, 8, 1]⟩
abbrev S1x1x4x8 : Shape := ⟨4, ![1, 1, 4, 8]⟩
abbrev S4x8x128x128 : Shape := ⟨4, ![4, 8, 128, 128]⟩
abbrev S4x8x128x128x1 : Shape := ⟨5, ![4, 8, 128, 128, 1]⟩
abbrev S4x8x128x1x128 : Shape := ⟨5, ![4, 8, 128, 1, 128]⟩
abbrev S4x8x128x128x128 : Shape := ⟨5, ![4, 8, 128, 128, 128]⟩
abbrev S128x128 : Shape := ⟨2, ![128, 128]⟩
abbrev S128x4x128x128 : Shape := ⟨4, ![128, 4, 128, 128]⟩
abbrev S4x128x128x128 : Shape := ⟨4, ![4, 128, 128, 128]⟩
abbrev S4x1x128x128x128 : Shape := ⟨5, ![4, 1, 128, 128, 128]⟩
abbrev S4x8x128x1 : Shape := ⟨4, ![4, 8, 128, 1]⟩
abbrev S4x8x128 : Shape := ⟨3, ![4, 8, 128]⟩
abbrev S128x4x8 : Shape := ⟨3, ![128, 4, 8]⟩
abbrev S128x4x8x1x1 : Shape := ⟨5, ![128, 4, 8, 1, 1]⟩
abbrev S4x8x1 : Shape := ⟨3, ![4, 8, 1]⟩
abbrev S1x1x4x8x1 : Shape := ⟨5, ![1, 1, 4, 8, 1]⟩
abbrev S128x4x8x64x128 : Shape := ⟨5, ![128, 4, 8, 64, 128]⟩
abbrev S4x8x64x128 : Shape := ⟨4, ![4, 8, 64, 128]⟩
abbrev S1x4x8x64x128 : Shape := ⟨5, ![1, 4, 8, 64, 128]⟩
abbrev S1x4x8x1x1 : Shape := ⟨5, ![1, 4, 8, 1, 1]⟩
abbrev S4x8x1x1 : Shape := ⟨4, ![4, 8, 1, 1]⟩
abbrev S128x4x8x128x128 : Shape := ⟨5, ![128, 4, 8, 128, 128]⟩
abbrev S16384x2560 : Shape := ⟨2, ![16384, 2560]⟩

abbrev nBuf : Space → Nat
  | .hbm => 171
  | .vmem => 0
  | .smem => 0
  | _ => 0

abbrev hbmTy0_0 (i : Nat) : BufTy := match i % 128 with
  | 0 => ⟨S16384x3072, .f32⟩
  | 1 => ⟨S16384x32, .f32⟩
  | 2 => ⟨S32, .f32⟩
  | 3 => ⟨S32, .f32⟩
  | 4 => ⟨S32, .f32⟩
  | 5 => ⟨S16384x2048, .f32⟩
  | 6 => ⟨S128x16x128x128, .f32⟩
  | 7 => ⟨S16384x2048, .f32⟩
  | 8 => ⟨S16384x512, .f32⟩
  | 9 => ⟨S16384x512, .f32⟩
  | 10 => ⟨S1x32, .f32⟩
  | 11 => ⟨S16384x32, .f32⟩
  | 12 => ⟨S16384x32, .f32⟩
  | 13 => ⟨S_, .f32⟩
  | 14 => ⟨S16384x32, .f32⟩
  | 15 => ⟨S16384x32, .f32⟩
  | 16 => ⟨S16384x32, .f32⟩
  | 17 => ⟨S16384x32, .f32⟩
  | 18 => ⟨S16384x32, .i1⟩
  | 19 => ⟨S16384x32, .f32⟩
  | 20 => ⟨S16384x32, .f32⟩
  | 21 => ⟨S16384x32, .f32⟩
  | 22 => ⟨S16384x32, .f32⟩
  | 23 => ⟨S16384x32, .f32⟩
  | 24 => ⟨S16384x32, .f32⟩
  | 25 => ⟨S16384x32, .f32⟩
  | 26 => ⟨S16384x32, .f32⟩
  | 27 => ⟨S32, .f32⟩
  | 28 => ⟨S4x8, .f32⟩
  | 29 => ⟨S4x8, .f32⟩
  | 30 => ⟨S128x128x4x8x64, .f32⟩
  | 31 => ⟨S128x128x4x128, .f32⟩
  | 32 => ⟨S128x128x4x128, .f32⟩
  | 33 => ⟨S128x128x4x8, .f32⟩
  | 34 => ⟨S128x128x4x8x1, .f32⟩
  | 35 => ⟨S128x128x4x8x64, .f32⟩
  | 36 => ⟨S128x128x4x8x64, .f32⟩
  | 37 => ⟨S1x1x4x8, .f32⟩
  | 38 => ⟨S128x128x4x8, .f32⟩
  | 39 => ⟨S128x128x4x8, .f32⟩
  | 40 => ⟨S4x8x128x128, .f32⟩
  | 41 => ⟨S_, .f32⟩
  | 42 => ⟨S_, .f32⟩
  | 43 => ⟨S4x8x128x128, .f32⟩
  | 44 => ⟨S4x8x128x128x1, .f32⟩
  | 45 => ⟨S4x8x128x1x128, .f32⟩
  | 46 => ⟨S4x8x128x128x128, .f32⟩
  | 47 => ⟨S4x8x128x128x128, .f32⟩
  | 48 => ⟨S4x8x128x128x128, .f32⟩
  | 49 => ⟨S_, .i1⟩
  | 50 => ⟨S128x128, .i1⟩
  | 51 => ⟨S128x128, .i32⟩
  | 52 => ⟨S_, .i32⟩
  | 53 => ⟨S128x128, .i32⟩
  | 54 => ⟨S128x128, .i32⟩
  | 55 => ⟨S128x128, .i32⟩
  | 56 => ⟨S128x128, .i1⟩
  | 57 => ⟨S_, .i1⟩
  | 58 => ⟨S128x128, .i1⟩
  | 59 => ⟨S128x128, .i1⟩
  | 60 => ⟨S_, .f32⟩
  | 61 => ⟨S_, .f32⟩
  | 62 => ⟨S4x8x128x128x128, .i1⟩
  | 63 => ⟨S4x8x128x128x128, .f32⟩
  | 64 => ⟨S4x8x128x128x128, .f32⟩
  | 65 => ⟨S4x8x128x128x128, .f32⟩
  | 66 => ⟨S128x4x128x128, .f32⟩
  | 67 => ⟨S4x128x128x128, .f32⟩
  | 68 => ⟨S4x1x128x128x128, .f32⟩
  | 69 => ⟨S4x8x128x128x128, .f32⟩
  | 70 => ⟨S4x8x128x128x128, .f32⟩
  | 71 => ⟨S4x8x128x1, .f32⟩
  | 72 => ⟨S4x8x128x128, .f32⟩
  | 73 => ⟨S4x8x128x128, .f32⟩
  | 74 => ⟨S4x8x128x128, .f32⟩
  | 75 => ⟨S128x128x4x8, .f32⟩
  | 76 => ⟨S128x128x4x8x1, .f32⟩
  | 77 => ⟨S128x128x4x8x64, .f32⟩
  | 78 => ⟨S128x128x4x8x64, .f32⟩
  | 79 => ⟨S4x8x128x1, .f32⟩
  | 80 => ⟨S4x8x128, .f32⟩
  | 81 => ⟨S4x8x128, .f32⟩
  | 82 => ⟨S128x4x8, .f32⟩
  | 83 => ⟨S128x4x8x1x1, .f32⟩
  | 84 => ⟨S4x8x128x128, .f32⟩
  | 85 => ⟨S128x128x4x8, .f32⟩
  | 86 => ⟨S128x128x4x8x1, .f32⟩
  | 87 => ⟨S4x8x1, .f32⟩
  | 88 => ⟨S1x1x4x8x1, .f32⟩
  | 89 => ⟨S128x128x4x8x64, .f32⟩
  | 90 => ⟨S128x128x4x8x64, .f32⟩
  | 91 => ⟨S_, .f32⟩
  | 92 => ⟨S4x8, .f32⟩
  | 93 => ⟨S1x1x4x8x1, .f32⟩
  | 94 => ⟨S128x128x4x8x64, .f32⟩
  | 95 => ⟨S128x128x4x8x64, .f32⟩
  | 96 => ⟨S_, .f32⟩
  | 97 => ⟨S4x8, .f32⟩
  | 98 => ⟨S4x8x1, .f32⟩
  | 99 => ⟨S32, .f32⟩
  | 100 => ⟨S128x128x4x8x64, .f32⟩
  | 101 => ⟨S128x128x4x8x64, .f32⟩
  | 102 => ⟨S128x4x8x64x128, .f32⟩
  | 103 => ⟨S128x4x8x64x128, .f32⟩
  | 104 => ⟨S_, .f32⟩
  | 105 => ⟨S4x8x64x128, .f32⟩
  | 106 => ⟨S_, .f32⟩
  | 107 => ⟨S128x4x8x64x128, .f32⟩
  | 108 => ⟨S_, .i32⟩
  | 109 => ⟨S128x4x8x64x128, .f32⟩
  | 110 => ⟨S128x4x8x1x1, .f32⟩
  | 111 => ⟨S_, .i32⟩
  | 112 => ⟨S4x8x64x128, .f32⟩
  | 113 => ⟨S128x4x8x64x128, .f32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S1x4x8x64x128, .f32⟩
  | 125 => ⟨S4x8x64x128, .f32⟩
  | 126 => ⟨S_, .i32⟩
  | 127 => ⟨S_, .i32⟩
  | _ => ⟨S16384x3072, .f32⟩

abbrev hbmTy0_1 (i : Nat) : BufTy := match i % 128 with
  | 0 => ⟨S_, .i32⟩
  | 1 => ⟨S_, .i32⟩
  | 2 => ⟨S1x4x8x1x1, .f32⟩
  | 3 => ⟨S4x8x1x1, .f32⟩
  | 4 => ⟨S4x8x64x128, .f32⟩
  | 5 => ⟨S4x8x64x128, .f32⟩
  | 6 => ⟨S4x8x64x128, .f32⟩
  | 7 => ⟨S1x4x8x64x128, .f32⟩
  | 8 => ⟨S_, .i32⟩
  | 9 => ⟨S_, .i32⟩
  | 10 => ⟨S_, .i32⟩
  | 11 => ⟨S_, .i32⟩
  | 12 => ⟨S128x4x8x64x128, .f32⟩
  | 13 => ⟨S_, .i32⟩
  | 14 => ⟨S_, .i32⟩
  | 15 => ⟨S128x4x128x128, .f32⟩
  | 16 => ⟨S128x128x4x128, .f32⟩
  | 17 => ⟨S128x4x8x64x128, .f32⟩
  | 18 => ⟨S128x128x4x8x64, .f32⟩
  | 19 => ⟨S128x128x4x8x64, .f32⟩
  | 20 => ⟨S128x128x4x8x64, .f32⟩
  | 21 => ⟨S128x4x8x64x128, .f32⟩
  | 22 => ⟨S128x4x8x128x128, .f32⟩
  | 23 => ⟨S4x8x128x128x128, .f32⟩
  | 24 => ⟨S128x4x8x64x128, .f32⟩
  | 25 => ⟨S128x128x4x8x64, .f32⟩
  | 26 => ⟨S128x128x4x8x64, .f32⟩
  | 27 => ⟨S4x8x128x128x128, .f32⟩
  | 28 => ⟨S_, .f32⟩
  | 29 => ⟨S4x128x128x128, .f32⟩
  | 30 => ⟨S4x1x128x128x128, .f32⟩
  | 31 => ⟨S_, .f32⟩
  | 32 => ⟨S4x128x128x128, .f32⟩
  | 33 => ⟨S128x4x128x128, .f32⟩
  | 34 => ⟨S128x4x128x128, .f32⟩
  | 35 => ⟨S128x128x4x128, .f32⟩
  | 36 => ⟨S128x128x4x128, .f32⟩
  | 37 => ⟨S128x128x4x8x64, .f32⟩
  | 38 => ⟨S128x128x4x8x64, .f32⟩
  | 39 => ⟨S128x128x4x8x64, .f32⟩
  | 40 => ⟨S16384x512, .f32⟩
  | 41 => ⟨S16384x2048, .f32⟩
  | 42 => ⟨S16384x2560, .f32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_call0_cst : Ref sig .tc := ⟨.hbm, 41, rfl⟩
abbrev main_call1_call0_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c : Ref sig .tc := ⟨.hbm, 49, rfl⟩
abbrev main_v27 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_c_0 : Ref sig .tc := ⟨.hbm, 57, rfl⟩
abbrev main_call2_v5 : Ref sig .tc := ⟨.hbm, 58, rfl⟩
abbrev main_v28 : Ref sig .tc := ⟨.hbm, 59, rfl⟩
abbrev main_cst : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_0 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_1 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_2 : Ref sig .tc := ⟨.hbm, 104, rfl⟩
abbrev main_v67 : Ref sig .tc := ⟨.hbm, 105, rfl⟩
abbrev main_cst_3 : Ref sig .tc := ⟨.hbm, 106, rfl⟩
abbrev main_v68 : Ref sig .tc := ⟨.hbm, 107, rfl⟩
abbrev main_c_4 : Ref sig .tc := ⟨.hbm, 108, rfl⟩
abbrev main_v69_0 : Ref sig .tc := ⟨.hbm, 109, rfl⟩
abbrev main_v69_1 : Ref sig .tc := ⟨.hbm, 110, rfl⟩
abbrev main_v69_2 : Ref sig .tc := ⟨.hbm, 111, rfl⟩
abbrev main_v69_3 : Ref sig .tc := ⟨.hbm, 112, rfl⟩
abbrev main_v69_4 : Ref sig .tc := ⟨.hbm, 113, rfl⟩
abbrev main_while0c_c_11 : Ref sig .tc := ⟨.hbm, 114, rfl⟩
abbrev main_while0c_v96 : Ref sig .tc := ⟨.hbm, 115, rfl⟩
abbrev main_while0b_c_11 : Ref sig .tc := ⟨.hbm, 116, rfl⟩
abbrev main_while0b_v96 : Ref sig .tc := ⟨.hbm, 117, rfl⟩
abbrev main_while0b_c_12 : Ref sig .tc := ⟨.hbm, 118, rfl⟩
abbrev main_while0b_v97 : Ref sig .tc := ⟨.hbm, 119, rfl⟩
abbrev main_while0b_call4_c : Ref sig .tc := ⟨.hbm, 120, rfl⟩
abbrev main_while0b_call4_c_0 : Ref sig .tc := ⟨.hbm, 121, rfl⟩
abbrev main_while0b_call4_c_1 : Ref sig .tc := ⟨.hbm, 122, rfl⟩
abbrev main_while0b_call4_c_2 : Ref sig .tc := ⟨.hbm, 123, rfl⟩
abbrev main_while0b_call4_v0 : Ref sig .tc := ⟨.hbm, 124, rfl⟩
abbrev main_while0b_v98 : Ref sig .tc := ⟨.hbm, 125, rfl⟩
abbrev main_while0b_call5_c : Ref sig .tc := ⟨.hbm, 126, rfl⟩
abbrev main_while0b_call5_c_0 : Ref sig .tc := ⟨.hbm, 127, rfl⟩
abbrev main_while0b_call5_c_1 : Ref sig .tc := ⟨.hbm, 128, rfl⟩
abbrev main_while0b_call5_c_2 : Ref sig .tc := ⟨.hbm, 129, rfl⟩
abbrev main_while0b_call5_v0 : Ref sig .tc := ⟨.hbm, 130, rfl⟩
abbrev main_while0b_v99 : Ref sig .tc := ⟨.hbm, 131, rfl⟩
abbrev main_while0b_v100 : Ref sig .tc := ⟨.hbm, 132, rfl⟩
abbrev main_while0b_v101 : Ref sig .tc := ⟨.hbm, 133, rfl⟩
abbrev main_while0b_v102 : Ref sig .tc := ⟨.hbm, 134, rfl⟩
abbrev main_while0b_call6_v0 : Ref sig .tc := ⟨.hbm, 135, rfl⟩
abbrev main_while0b_call6_c : Ref sig .tc := ⟨.hbm, 136, rfl⟩
abbrev main_while0b_call6_c_0 : Ref sig .tc := ⟨.hbm, 137, rfl⟩
abbrev main_while0b_call6_c_1 : Ref sig .tc := ⟨.hbm, 138, rfl⟩
abbrev main_while0b_call6_c_2 : Ref sig .tc := ⟨.hbm, 139, rfl⟩
abbrev main_while0b_v103 : Ref sig .tc := ⟨.hbm, 140, rfl⟩
abbrev main_while0b_c_13 : Ref sig .tc := ⟨.hbm, 141, rfl⟩
abbrev main_while0b_v104 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_cst_5 : Ref sig .tc := ⟨.hbm, 156, rfl⟩
abbrev main_v83 : Ref sig .tc := ⟨.hbm, 157, rfl⟩
abbrev main_v84 : Ref sig .tc := ⟨.hbm, 158, rfl⟩
abbrev main_cst_6 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩

abbrev nD : Nat := 1
abbrev τ : Topo := Topo.v7x

variable {F : FTy → Type} [FloatOps F]

abbrev main_while0_count : Scf.Loop 32 := ⟨0#32, 128#32, 1#32⟩
-- ==== ScanFwd.lean ====
abbrev S16384x3072 : Shape := ⟨2, ![16384, 3072]⟩
abbrev S16384x32 : Shape := ⟨2, ![16384, 32]⟩
abbrev S32 : Shape := ⟨1, ![32]⟩
abbrev S2048 : Shape := ⟨1, ![2048]⟩
abbrev S2048x1 : Shape := ⟨2, ![2048, 1]⟩
abbrev S_ : Shape := ⟨0, ![]⟩
abbrev S128 : Shape := ⟨1, ![128]⟩
abbrev S1x128 : Shape := ⟨2, ![1, 128]⟩
abbrev S2048x128 : Shape := ⟨2, ![2048, 128]⟩
abbrev S128x2048 : Shape := ⟨2, ![128, 2048]⟩
abbrev S1 : Shape := ⟨1, ![1]⟩
abbrev S2 : Shape := ⟨1, ![2]⟩
abbrev S32x64 : Shape := ⟨2, ![32, 64]⟩
abbrev S1x2048 : Shape := ⟨2, ![1, 2048]⟩
abbrev S16384x128 : Shape := ⟨2, ![16384, 128]⟩
abbrev S16384x2048 : Shape := ⟨2, ![16384, 2048]⟩
abbrev S128x16x128x128 : Shape := ⟨4, ![128, 16, 128, 128]⟩
abbrev S128x3072 : Shape := ⟨2, ![128, 3072]⟩
abbrev S128x128 : Shape := ⟨2, ![128, 128]⟩
abbrev S1x16x128x128 : Shape := ⟨4, ![1, 16, 128, 128]⟩
abbrev S16x128x128 : Shape := ⟨3, ![16, 128, 128]⟩
abbrev S1x128x128 : Shape := ⟨3, ![1, 128, 128]⟩
abbrev S1x1x128x128 : Shape := ⟨4, ![1, 1, 128, 128]⟩

abbrev nBuf : Space → Nat
  | .hbm => 59
  | .vmem => 16
  | .smem => 0
  | _ => 0

abbrev bufTy : (tb : Table) → Fin (tcTables nBuf tb) → BufTy
  | .hbm, ⟨0, _⟩ => ⟨S16384x3072, .f32⟩
  | .hbm, ⟨1, _⟩ => ⟨S16384x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S2048, .i32⟩
  | .hbm, ⟨8, _⟩ => ⟨S2048x1, .i32⟩
  | .hbm, ⟨9, _⟩ => ⟨S_, .i32⟩
  | .hbm, ⟨10, _⟩ => ⟨S_, .i32⟩
  | .hbm, ⟨11, _⟩ => ⟨S2048x1, .i32⟩
  | .hbm, ⟨12, _⟩ => ⟨S2048x1, .i32⟩
  | .hbm, ⟨13, _⟩ => ⟨S2048x1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S2048x1, .i32⟩
  | .hbm, ⟨18, _⟩ => ⟨S2048x1, .i32⟩
  | .hbm, ⟨19, _⟩ => ⟨S_, .i32⟩
  | .hbm, ⟨20, _⟩ => ⟨S2048x1, .i32⟩
  | .hbm, ⟨21, _⟩ => ⟨S2048x1, .i1⟩
  | .hbm, ⟨22, _⟩ => ⟨S2048x1, .i1⟩
  | .hbm, ⟨23, _⟩ => ⟨S_, .i32⟩
  | .hbm, ⟨24, _⟩ => ⟨S2048x1, .i32⟩
  | .hbm, ⟨25, _⟩ => ⟨S2048x1, .i32⟩
  | .hbm, ⟨26, _⟩ => ⟨S2048x1, .i32⟩
  | .hbm, ⟨27, _⟩ => ⟨S128, .i32⟩
  | .hbm, ⟨28, _⟩ => ⟨S1x128, .i32⟩
  | .hbm, ⟨29, _⟩ => ⟨S2048x128, .i32⟩
  | .hbm, ⟨30, _⟩ => ⟨S2048x128, .i32⟩
  | .hbm, ⟨31, _⟩ => ⟨S2048x128, .i1⟩
  | .hbm, ⟨32, _⟩ => ⟨S2048x128, .f32⟩
  | .hbm, ⟨33, _⟩ => ⟨S128x2048, .f32⟩
  | .hbm, ⟨34, _⟩ => ⟨S128x2048, .bf16⟩
  | .hbm, ⟨35, _⟩ => ⟨S_, .f32⟩
  | .hbm, ⟨36, _⟩ => ⟨S1x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S1x128, .f32⟩
  | .hbm, ⟨51, _⟩ => ⟨S32x64, .f32⟩
  | .hbm, ⟨52, _⟩ => ⟨S2048, .f32⟩
  | .hbm, ⟨53, _⟩ => ⟨S1x2048, .f32⟩
  | .hbm, ⟨54, _⟩ => ⟨S_, .i32⟩
  | .hbm, ⟨55, _⟩ => ⟨S_, .f32⟩
  | .hbm, ⟨56, _⟩ => ⟨S16384x128, .f32⟩
  | .hbm, ⟨57, _⟩ => ⟨S16384x2048, .f32⟩
  | .hbm, ⟨58, _⟩ => ⟨S128x16x128x128, .f32⟩
  | .local _ .vmem, ⟨0, _⟩ => ⟨S128x3072, .f32⟩
  | .local _ .vmem, ⟨1, _⟩ => ⟨S128x3072, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x2048, .f32⟩
  | .local _ .vmem, ⟨7, _⟩ => ⟨S128x2048, .bf16⟩
  | .local _ .vmem, ⟨8, _⟩ => ⟨S128x2048, .f32⟩
  | .local _ .vmem, ⟨9, _⟩ => ⟨S128x2048, .f32⟩
  | .local _ .vmem, ⟨10, _⟩ => ⟨S1x16x128x128, .f32⟩
  | .local _ .vmem, ⟨11, _⟩ => ⟨S1x16x128x128, .f32⟩
  | .local _ .vmem, ⟨12, _⟩ => ⟨S16x128x128, .f32⟩
  | .local _ .vmem, ⟨13, _⟩ => ⟨S128x128, .f32⟩
  | .local _ .vmem, ⟨14, _⟩ => ⟨S128x2048, .f32⟩
  | .local _ .vmem, ⟨15, _⟩ => ⟨S128x128, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_c_0 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_c_3 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_5 : Ref sig .tc := ⟨.hbm, 54, rfl⟩
abbrev main_call1_v0 : Ref sig .tc := ⟨.hbm, 55, rfl⟩
abbrev main_v26 : Ref sig .tc := ⟨.hbm, 56, rfl⟩
abbrev main_v27_0 : Ref sig .tc := ⟨.hbm, 57, rfl⟩
abbrev main_v27_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ScanRefIdeal.lean ====
abbrev S16384x3072 : Shape := ⟨2, ![16384, 3072]⟩
abbrev S16384x32 : Shape := ⟨2, ![16384, 32]⟩
abbrev S32 : Shape := ⟨1, ![32]⟩
abbrev S16384x2048 : Shape := ⟨2, ![16384, 2048]⟩
abbrev S16384x512 : Shape := ⟨2, ![16384, 512]⟩
abbrev S1x32 : Shape := ⟨2, ![1, 32]⟩
abbrev S_ : Shape := ⟨0, ![]⟩
abbrev S4x8 : Shape := ⟨2, ![4, 8]⟩
abbrev S128x128x4x8x64 : Shape := ⟨5, ![128, 128, 4, 8, 64]⟩
abbrev S128x128x4x128 : Shape := ⟨4, ![128, 128, 4, 128]⟩
abbrev S128x128x4x8 : Shape := ⟨4, ![128, 128, 4, 8]⟩
abbrev S128x128x4x8x1 : Shape := ⟨5, ![128, 128, 4, 8, 1]⟩
abbrev S1x1x4x8 : Shape := ⟨4, ![1, 1, 4, 8]⟩
abbrev S4x8x128x128 : Shape := ⟨4, ![4, 8, 128, 128]⟩
abbrev S4x8x128x128x1 : Shape := ⟨5, ![4, 8, 128, 128, 1]⟩
abbrev S4x8x128x1x128 : Shape := ⟨5, ![4, 8, 128, 1, 128]⟩
abbrev S4x8x128x128x128 : Shape := ⟨5, ![4, 8, 128, 128, 128]⟩
abbrev S128x128 : Shape := ⟨2, ![128, 128]⟩
abbrev S128x4x128x128 : Shape := ⟨4, ![128, 4, 128, 128]⟩
abbrev S4x128x128x128 : Shape := ⟨4, ![4, 128, 128, 128]⟩
abbrev S4x1x128x128x128 : Shape := ⟨5, ![4, 1, 128, 128, 128]⟩
abbrev S128x4x8x64x128 : Shape := ⟨5, ![128, 4, 8, 64, 128]⟩
abbrev S4x8x128x1 : Shape := ⟨4, ![4, 8, 128, 1]⟩
abbrev S4x8x128 : Shape := ⟨3, ![4, 8, 128]⟩
abbrev S4x8x64x128 : Shape := ⟨4, ![4, 8, 64, 128]⟩
abbrev S128x4x8 : Shape := ⟨3, ![128, 4, 8]⟩
abbrev S128x4x8x1x1 : Shape := ⟨5, ![128, 4, 8, 1, 1]⟩
abbrev S1x4x8x64x128 : Shape := ⟨5, ![1, 4, 8, 64, 128]⟩
abbrev S1x4x8x1x1 : Shape := ⟨5, ![1, 4, 8, 1, 1]⟩
abbrev S4x8x1x1 : Shape := ⟨4, ![4, 8, 1, 1]⟩
abbrev S4x8x1 : Shape := ⟨3, ![4, 8, 1]⟩
abbrev S1x1x4x8x1 : Shape := ⟨5, ![1, 1, 4, 8, 1]⟩
abbrev S128x16x128x128 : Shape := ⟨4, ![128, 16, 128, 128]⟩

abbrev nBuf : Space → Nat
  | .hbm => 135
  | .vmem => 0
  | .smem => 0
  | _ => 0

abbrev hbmTy0_0 (i : Nat) : BufTy := match i % 128 with
  | 0 => ⟨S16384x3072, .f32⟩
  | 1 => ⟨S16384x32, .f32⟩
  | 2 => ⟨S32, .f32⟩
  | 3 => ⟨S32, .f32⟩
  | 4 => ⟨S32, .f32⟩
  | 5 => ⟨S16384x2048, .f32⟩
  | 6 => ⟨S16384x512, .f32⟩
  | 7 => ⟨S16384x512, .f32⟩
  | 8 => ⟨S1x32, .f32⟩
  | 9 => ⟨S16384x32, .f32⟩
  | 10 => ⟨S16384x32, .f32⟩
  | 11 => ⟨S_, .f32⟩
  | 12 => ⟨S16384x32, .f32⟩
  | 13 => ⟨S16384x32, .f32⟩
  | 14 => ⟨S16384x32, .f32⟩
  | 15 => ⟨S16384x32, .f32⟩
  | 16 => ⟨S16384x32, .i1⟩
  | 17 => ⟨S16384x32, .f32⟩
  | 18 => ⟨S16384x32, .f32⟩
  | 19 => ⟨S16384x32, .f32⟩
  | 20 => ⟨S16384x32, .f32⟩
  | 21 => ⟨S16384x32, .f32⟩
  | 22 => ⟨S16384x32, .f32⟩
  | 23 => ⟨S16384x32, .f32⟩
  | 24 => ⟨S16384x32, .f32⟩
  | 25 => ⟨S32, .f32⟩
  | 26 => ⟨S4x8, .f32⟩
  | 27 => ⟨S4x8, .f32⟩
  | 28 => ⟨S128x128x4x8x64, .f32⟩
  | 29 => ⟨S128x128x4x128, .f32⟩
  | 30 => ⟨S128x128x4x128, .f32⟩
  | 31 => ⟨S128x128x4x8, .f32⟩
  | 32 => ⟨S128x128x4x8x1, .f32⟩
  | 33 => ⟨S128x128x4x8x64, .f32⟩
  | 34 => ⟨S128x128x4x8x64, .f32⟩
  | 35 => ⟨S1x1x4x8, .f32⟩
  | 36 => ⟨S128x128x4x8, .f32⟩
  | 37 => ⟨S128x128x4x8, .f32⟩
  | 38 => ⟨S4x8x128x128, .f32⟩
  | 39 => ⟨S_, .f32⟩
  | 40 => ⟨S_, .f32⟩
  | 41 => ⟨S4x8x128x128, .f32⟩
  | 42 => ⟨S4x8x128x128x1, .f32⟩
  | 43 => ⟨S4x8x128x1x128, .f32⟩
  | 44 => ⟨S4x8x128x128x128, .f32⟩
  | 45 => ⟨S4x8x128x128x128, .f32⟩
  | 46 => ⟨S4x8x128x128x128, .f32⟩
  | 47 => ⟨S_, .i1⟩
  | 48 => ⟨S128x128, .i1⟩
  | 49 => ⟨S128x128, .i32⟩
  | 50 => ⟨S_, .i32⟩
  | 51 => ⟨S128x128, .i32⟩
  | 52 => ⟨S128x128, .i32⟩
  | 53 => ⟨S128x128, .i32⟩
  | 54 => ⟨S128x128, .i1⟩
  | 55 => ⟨S_, .i1⟩
  | 56 => ⟨S128x128, .i1⟩
  | 57 => ⟨S128x128, .i1⟩
  | 58 => ⟨S_, .f32⟩
  | 59 => ⟨S_, .f32⟩
  | 60 => ⟨S4x8x128x128x128, .i1⟩
  | 61 => ⟨S4x8x128x128x128, .f32⟩
  | 62 => ⟨S4x8x128x128x128, .f32⟩
  | 63 => ⟨S4x8x128x128x128, .f32⟩
  | 64 => ⟨S128x4x128x128, .f32⟩
  | 65 => ⟨S4x128x128x128, .f32⟩
  | 66 => ⟨S4x1x128x128x128, .f32⟩
  | 67 => ⟨S4x8x128x128x128, .f32⟩
  | 68 => ⟨S4x8x128x128x128, .f32⟩
  | 69 => ⟨S128x4x8x64x128, .f32⟩
  | 70 => ⟨S128x128x4x8x64, .f32⟩
  | 71 => ⟨S4x8x128x1, .f32⟩
  | 72 => ⟨S4x8x128x128, .f32⟩
  | 73 => ⟨S4x8x128x128, .f32⟩
  | 74 => ⟨S4x8x128x128, .f32⟩
  | 75 => ⟨S128x128x4x8, .f32⟩
  | 76 => ⟨S128x128x4x8x1, .f32⟩
  | 77 => ⟨S128x128x4x8x64, .f32⟩
  | 78 => ⟨S128x128x4x8x64, .f32⟩
  | 79 => ⟨S128x4x8x64x128, .f32⟩
  | 80 => ⟨S4x8x128x1, .f32⟩
  | 81 => ⟨S4x8x128, .f32⟩
  | 82 => ⟨S4x8x128, .f32⟩
  | 83 => ⟨S_, .f32⟩
  | 84 => ⟨S4x8x64x128, .f32⟩
  | 85 => ⟨S128x4x8, .f32⟩
  | 86 => ⟨S128x4x8x1x1, .f32⟩
  | 87 => ⟨S_, .f32⟩
  | 88 => ⟨S128x4x8x64x128, .f32⟩
  | 89 => ⟨S_, .i32⟩
  | 90 => ⟨S128x4x8x64x128, .f32⟩
  | 91 => ⟨S128x4x8x1x1, .f32⟩
  | 92 => ⟨S_, .i32⟩
  | 93 => ⟨S4x8x64x128, .f32⟩
  | 94 => ⟨S128x4x8x64x128, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S1x4x8x64x128, .f32⟩
  | 102 => ⟨S4x8x64x128, .f32⟩
  | 103 => ⟨S_, .i32⟩
  | 104 => ⟨S_, .i32⟩
  | 105 => ⟨S_, .i32⟩
  | 106 => ⟨S_, .i32⟩
  | 107 => ⟨S1x4x8x1x1, .f32⟩
  | 108 => ⟨S4x8x1x1, .f32⟩
  | 109 => ⟨S4x8x64x128, .f32⟩
  | 110 => ⟨S4x8x64x128, .f32⟩
  | 111 => ⟨S4x8x64x128, .f32⟩
  | 112 => ⟨S1x4x8x64x128, .f32⟩
  | 113 => ⟨S_, .i32⟩
  | 114 => ⟨S_, .i32⟩
  | 115 => ⟨S_, .i32⟩
  | 116 => ⟨S_, .i32⟩
  | 117 => ⟨S128x4x8x64x128, .f32⟩
  | 118 => ⟨S_, .i32⟩
  | 119 => ⟨S_, .i32⟩
  | 120 => ⟨S128x4x8x64x128, .f32⟩
  | 121 => ⟨S128x128x4x8x64, .f32⟩
  | 122 => ⟨S4x8x128x128, .f32⟩
  | 123 => ⟨S128x128x4x8, .f32⟩
  | 124 => ⟨S128x128x4x8x1, .f32⟩
  | 125 => ⟨S128x128x4x8x64, .f32⟩
  | 126 => ⟨S128x128x4x8x64, .f32⟩
  | 127 => ⟨S128x128x4x8x64, .f32⟩
  | _ => ⟨S16384x3072, .f32⟩

abbrev hbmTy0_1 (i : Nat) : BufTy := match i % 128 with
  | 0 => ⟨S4x8x1, .f32⟩
  | 1 => ⟨S1x1x4x8x1, .f32⟩
  | 2 => ⟨S128x128x4x8x64, .f32⟩
  | 3 => ⟨S128x128x4x8x64, .f32⟩
  | 4 => ⟨S128x128x4x8x64, .f32⟩
  | 5 => ⟨S16384x2048, .f32⟩
  | 6 => ⟨S128x16x128x128, .f32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call1_call0_cst : Ref sig .tc := ⟨.hbm, 39, rfl⟩
abbrev main_call1_call0_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c : Ref sig .tc := ⟨.hbm, 47, rfl⟩
abbrev main_v27 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_c_0 : Ref sig .tc := ⟨.hbm, 55, rfl⟩
abbrev main_call2_v5 : Ref sig .tc := ⟨.hbm, 56, rfl⟩
abbrev main_v28 : Ref sig .tc := ⟨.hbm, 57, rfl⟩
abbrev main_cst : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_0 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_1 : Ref sig .tc := ⟨.hbm, 87, rfl⟩
abbrev main_v53 : Ref sig .tc := ⟨.hbm, 88, rfl⟩
abbrev main_c_2 : Ref sig .tc := ⟨.hbm, 89, rfl⟩
abbrev main_v54_0 : Ref sig .tc := ⟨.hbm, 90, rfl⟩
abbrev main_v54_1 : Ref sig .tc := ⟨.hbm, 91, rfl⟩
abbrev main_v54_2 : Ref sig .tc := ⟨.hbm, 92, rfl⟩
abbrev main_v54_3 : Ref sig .tc := ⟨.hbm, 93, rfl⟩
abbrev main_v54_4 : Ref sig .tc := ⟨.hbm, 94, rfl⟩
abbrev main_while0c_c_7 : Ref sig .tc := ⟨.hbm, 95, rfl⟩
abbrev main_while0c_v70 : Ref sig .tc := ⟨.hbm, 96, rfl⟩
abbrev main_while0b_call4_c : Ref sig .tc := ⟨.hbm, 97, rfl⟩
abbrev main_while0b_call4_c_0 : Ref sig .tc := ⟨.hbm, 98, rfl⟩
abbrev main_while0b_call4_c_1 : Ref sig .tc := ⟨.hbm, 99, rfl⟩
abbrev main_while0b_call4_c_2 : Ref sig .tc := ⟨.hbm, 100, rfl⟩
abbrev main_while0b_call4_v0 : Ref sig .tc := ⟨.hbm, 101, rfl⟩
abbrev main_while0b_v70 : Ref sig .tc := ⟨.hbm, 102, rfl⟩
abbrev main_while0b_call5_c : Ref sig .tc := ⟨.hbm, 103, rfl⟩
abbrev main_while0b_call5_c_0 : Ref sig .tc := ⟨.hbm, 104, rfl⟩
abbrev main_while0b_call5_c_1 : Ref sig .tc := ⟨.hbm, 105, rfl⟩
abbrev main_while0b_call5_c_2 : Ref sig .tc := ⟨.hbm, 106, rfl⟩
abbrev main_while0b_call5_v0 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_v74 : Ref sig .tc := ⟨.hbm, 111, rfl⟩
abbrev main_while0b_call6_v0 : Ref sig .tc := ⟨.hbm, 112, rfl⟩
abbrev main_while0b_call6_c : Ref sig .tc := ⟨.hbm, 113, rfl⟩
abbrev main_while0b_call6_c_0 : Ref sig .tc := ⟨.hbm, 114, rfl⟩
abbrev main_while0b_call6_c_1 : Ref sig .tc := ⟨.hbm, 115, rfl⟩
abbrev main_while0b_call6_c_2 : Ref sig .tc := ⟨.hbm, 116, rfl⟩
abbrev main_while0b_v75 : Ref sig .tc := ⟨.hbm, 117, rfl⟩
abbrev main_while0b_c_7 : Ref sig .tc := ⟨.hbm, 118, rfl⟩
abbrev main_while0b_v76 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩

abbrev nD : Nat := 1
abbrev τ : Topo := Topo.v7x

variable {F : FTy → Type} [FloatOps F]

abbrev main_while0_count : Scf.Loop 32 := ⟨0#32, 128#32, 1#32⟩
-- ==== ConvIn.lean ====
abbrev S16384x3072 : Shape := ⟨2, ![16384, 3072]⟩
abbrev S4x3072 : Shape := ⟨2, ![4, 3072]⟩
abbrev S512x3072 : Shape := ⟨2, ![512, 3072]⟩
abbrev S8x3072 : Shape := ⟨2, ![8, 3072]⟩
abbrev S24x3072 : Shape := ⟨2, ![24, 3072]⟩
abbrev S16x3072 : Shape := ⟨2, ![16, 3072]⟩
abbrev S24x512 : Shape := ⟨2, ![24, 512]⟩
abbrev S16x512 : Shape := ⟨2, ![16, 512]⟩
abbrev S1x512 : Shape := ⟨2, ![1, 512]⟩

abbrev nBuf : Space → Nat
  | .hbm => 3
  | .vmem => 8
  | .smem => 0
  | _ => 0

abbrev bufTy : (tb : Table) → Fin (tcTables nBuf tb) → BufTy
  | .hbm, ⟨0, _⟩ => ⟨S16384x3072, .f32⟩
  | .hbm, ⟨1, _⟩ => ⟨S4x3072, .f32⟩
  | .hbm, ⟨2, _⟩ => ⟨S16384x3072, .bf16⟩
  | .local _ .vmem, ⟨0, _⟩ => ⟨S512x3072, .f32⟩
  | .local _ .vmem, ⟨1, _⟩ => ⟨S512x3072, .f32⟩
  | .local _ .vmem, ⟨2, _⟩ => ⟨S8x3072, .f32⟩
  | .local _ .vmem, ⟨3, _⟩ => ⟨S8x3072, .f32⟩
  | .local _ .vmem, ⟨4, _⟩ => ⟨S4x3072, .f32⟩
  | .local _ .vmem, ⟨5, _⟩ => ⟨S512x3072, .bf16⟩
  | .local _ .vmem, ⟨6, _⟩ => ⟨S512x3072, .bf16⟩
  | .local _ .vmem, ⟨7, _⟩ => ⟨S24x3072, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvInRefIdeal.lean ====
abbrev S16384x3072 : Shape := ⟨2, ![16384, 3072]⟩
abbrev S4x3072 : Shape := ⟨2, ![4, 3072]⟩
abbrev S_ : Shape := ⟨0, ![]⟩
abbrev S3x3072 : Shape := ⟨2, ![3, 3072]⟩
abbrev S16387x3072 : Shape := ⟨2, ![16387, 3072]⟩
abbrev S1x3072 : Shape := ⟨2, ![1, 3072]⟩
abbrev S3072 : Shape := ⟨1, ![3072]⟩

abbrev nBuf : Space → Nat
  | .hbm => 63
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S4x3072, .f32⟩
  | .hbm, ⟨2, _⟩ => ⟨S_, .f32⟩
  | .hbm, ⟨3, _⟩ => ⟨S16384x3072, .f32⟩
  | .hbm, ⟨4, _⟩ => ⟨S_, .f32⟩
  | .hbm, ⟨5, _⟩ => ⟨S3x3072, .f32⟩
  | .hbm, ⟨6, _⟩ => ⟨S16387x3072, .f32⟩
  | .hbm, ⟨7, _⟩ => ⟨S_, .f32⟩
  | .hbm, ⟨8, _⟩ => ⟨S3x3072, .f32⟩
  | .hbm, ⟨9, _⟩ => ⟨S16384x3072, .f32⟩
  | .hbm, ⟨10, _⟩ => ⟨S1x3072, .f32⟩
  | .hbm, ⟨11, _⟩ => ⟨S3072, .f32⟩
  | .hbm, ⟨12, _⟩ => ⟨S1x3072, .f32⟩
  | .hbm, ⟨13, _⟩ => ⟨S16384x3072, .f32⟩
  | .hbm, ⟨14, _⟩ => ⟨S16384x3072, .f32⟩
  | .hbm, ⟨15, _⟩ => ⟨S_, .f32⟩
  | .hbm, ⟨16, _⟩ => ⟨S16384x3072, .f32⟩
  | .hbm, ⟨17, _⟩ => ⟨S16384x3072, .f32⟩
  | .hbm, ⟨18, _⟩ => ⟨S16384x3072, .f32⟩
  | .hbm, ⟨19, _⟩ => ⟨S1x3072, .f32⟩
  | .hbm, ⟨20, _⟩ => ⟨S3072, .f32⟩
  | .hbm, ⟨21, _⟩ => ⟨S1x3072, .f32⟩
  | .hbm, ⟨22, _⟩ => ⟨S16384x3072, .f32⟩
  | .hbm, ⟨23, _⟩ => ⟨S16384x3072, .f32⟩
  | .hbm, ⟨24, _⟩ => ⟨S16384x3072, .f32⟩
  | .hbm, ⟨25, _⟩ => ⟨S16384x3072, .f32⟩
  | .hbm, ⟨26, _⟩ => ⟨S1x3072, .f32⟩
  | .hbm, ⟨27, _⟩ => ⟨S3072, .f32⟩
  | .hbm, ⟨28, _⟩ => ⟨S1x3072, .f32⟩
  | .hbm, ⟨29, _⟩ => ⟨S16384x3072, .f32⟩
  | .hbm, ⟨30, _⟩ => ⟨S16384x3072, .f32⟩
  | .hbm, ⟨31, _⟩ => ⟨S16384x3072, .f32⟩
  | .hbm, ⟨32, _⟩ => ⟨S16384x3072, .f32⟩
  | .hbm, ⟨33, _⟩ => ⟨S1x3072, .f32⟩
  | .hbm, ⟨34, _⟩ => ⟨S3072, .f32⟩
  | .hbm, ⟨35, _⟩ => ⟨S1x3072, .f32⟩
  | .hbm, ⟨36, _⟩ => ⟨S16384x3072, .f32⟩
  | .hbm, ⟨37, _⟩ => ⟨S16384x3072, .f32⟩
  | .hbm, ⟨38, _⟩ => ⟨S16384x3072, .f32⟩
  | .hbm, ⟨39, _⟩ => ⟨S16384x3072, .f32⟩
  | .hbm, ⟨40, _⟩ => ⟨S16384x3072, .f32⟩
  | .hbm, ⟨41, _⟩ => ⟨S16384x3072, .f32⟩
  | .hbm, ⟨42, _⟩ => ⟨S16384x3072, .f32⟩
  | .hbm, ⟨43, _⟩ => ⟨S_, .f32⟩
  | .hbm, ⟨44, _⟩ => ⟨S16387x3072, .f32⟩
  | .hbm, ⟨45, _⟩ => ⟨S16384x3072, .f32⟩
  | .hbm, ⟨46, _⟩ => ⟨S16384x3072, .f32⟩
  | .hbm, ⟨47, _⟩ => ⟨S_, .f32⟩
  | .hbm, ⟨48, _⟩ => ⟨S16387x3072, .f32⟩
  | .hbm, ⟨49, _⟩ => ⟨S16387x3072, .f32⟩
  | .hbm, ⟨50, _⟩ => ⟨S16384x3072, .f32⟩
  | .hbm, ⟨51, _⟩ => ⟨S16384x3072, .f32⟩
  | .hbm, ⟨52, _⟩ => ⟨S_, .f32⟩
  | .hbm, ⟨53, _⟩ => ⟨S16387x3072, .f32⟩
  | .hbm, ⟨54, _⟩ => ⟨S16387x3072, .f32⟩
  | .hbm, ⟨55, _⟩ => ⟨S16384x3072, .f32⟩
  | .hbm, ⟨56, _⟩ => ⟨S16384x3072, .f32⟩
  | .hbm, ⟨57, _⟩ => ⟨S_, .f32⟩
  | .hbm, ⟨58, _⟩ => ⟨S16387x3072, .f32⟩
  | .hbm, ⟨59, _⟩ => ⟨S16387x3072, .f32⟩
  | .hbm, ⟨60, _⟩ => ⟨S3x3072, .f32⟩
  | .hbm, ⟨61, _⟩ => ⟨S16384x3072, .f32⟩
  | .hbm, ⟨62, _⟩ => ⟨S16384x3072, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== ConvPre.lean ====
abbrev S16384x3072 : Shape := ⟨2, ![16384, 3072]⟩
abbrev S4x3072 : Shape := ⟨2, ![4, 3072]⟩
abbrev S3072 : Shape := ⟨1, ![3072]⟩
abbrev S1x3072 : Shape := ⟨2, ![1, 3072]⟩
abbrev S512x3072 : Shape := ⟨2, ![512, 3072]⟩
abbrev S8x3072 : Shape := ⟨2, ![8, 3072]⟩
abbrev S24x3072 : Shape := ⟨2, ![24, 3072]⟩
abbrev S16x3072 : Shape := ⟨2, ![16, 3072]⟩
abbrev S24x256 : Shape := ⟨2, ![24, 256]⟩
abbrev S16x256 : Shape := ⟨2, ![16, 256]⟩
abbrev S1x256 : Shape := ⟨2, ![1, 256]⟩
abbrev S256 : Shape := ⟨1, ![256]⟩

abbrev nBuf : Space → Nat
  | .hbm => 8
  | .vmem => 13
  | .smem => 0
  | _ => 0

abbrev bufTy : (tb : Table) → Fin (tcTables nBuf tb) → BufTy
  | .hbm, ⟨0, _⟩ => ⟨S16384x3072, .f32⟩
  | .hbm, ⟨1, _⟩ => ⟨S4x3072, .f32⟩
  | .hbm, ⟨2, _⟩ => ⟨S3072, .f32⟩
  | .hbm, ⟨3, _⟩ => ⟨S16384x3072, .f32⟩
  | .hbm, ⟨4, _⟩ => ⟨S1x3072, .f32⟩
  | .hbm, ⟨5, _⟩ => ⟨S16384x3072, .f32⟩
  | .hbm, ⟨6, _⟩ => ⟨S4x3072, .f32⟩
  | .hbm, ⟨7, _⟩ => ⟨S1x3072, .f32⟩
  | .local _ .vmem, ⟨0, _⟩ => ⟨S512x3072, .f32⟩
  | .local _ .vmem, ⟨1, _⟩ => ⟨S512x3072, .f32⟩
  | .local _ .vmem, ⟨2, _⟩ => ⟨S512x3072, .f32⟩
  | .local _ .vmem, ⟨3, _⟩ => ⟨S512x3072, .f32⟩
  | .local _ .vmem, ⟨4, _⟩ => ⟨S8x3072, .f32⟩
  | .local _ .vmem, ⟨5, _⟩ => ⟨S8x3072, .f32⟩
  | .local _ .vmem, ⟨6, _⟩ => ⟨S4x3072, .f32⟩
  | .local _ .vmem, ⟨7, _⟩ => ⟨S1x3072, .f32⟩
  | .local _ .vmem, ⟨8, _⟩ => ⟨S512x3072, .f32⟩
  | .local _ .vmem, ⟨9, _⟩ => ⟨S512x3072, .f32⟩
  | .local _ .vmem, ⟨10, _⟩ => ⟨S4x3072, .f32⟩
  | .local _ .vmem, ⟨11, _⟩ => ⟨S1x3072, .f32⟩
  | .local _ .vmem, ⟨12, _⟩ => ⟨S24x3072, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvPreRefIdeal.lean ====
abbrev S16384x3072 : Shape := ⟨2, ![16384, 3072]⟩
abbrev S4x3072 : Shape := ⟨2, ![4, 3072]⟩
abbrev S3072 : Shape := ⟨1, ![3072]⟩
abbrev S_ : Shape := ⟨0, ![]⟩
abbrev S3x3072 : Shape := ⟨2, ![3, 3072]⟩
abbrev S16387x3072 : Shape := ⟨2, ![16387, 3072]⟩
abbrev S1x3072 : Shape := ⟨2, ![1, 3072]⟩

abbrev nBuf : Space → Nat
  | .hbm => 102
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S4x3072, .f32⟩
  | .hbm, ⟨2, _⟩ => ⟨S3072, .f32⟩
  | .hbm, ⟨3, _⟩ => ⟨S16384x3072, .f32⟩
  | .hbm, ⟨4, _⟩ => ⟨S_, .f32⟩
  | .hbm, ⟨5, _⟩ => ⟨S3x3072, .f32⟩
  | .hbm, ⟨6, _⟩ => ⟨S16387x3072, .f32⟩
  | .hbm, ⟨7, _⟩ => ⟨S16384x3072, .f32⟩
  | .hbm, ⟨8, _⟩ => ⟨S1x3072, .f32⟩
  | .hbm, ⟨9, _⟩ => ⟨S3072, .f32⟩
  | .hbm, ⟨10, _⟩ => ⟨S1x3072, .f32⟩
  | .hbm, ⟨11, _⟩ => ⟨S16384x3072, .f32⟩
  | .hbm, ⟨12, _⟩ => ⟨S16384x3072, .f32⟩
  | .hbm, ⟨13, _⟩ => ⟨S_, .f32⟩
  | .hbm, ⟨14, _⟩ => ⟨S16384x3072, .f32⟩
  | .hbm, ⟨15, _⟩ => ⟨S16384x3072, .f32⟩
  | .hbm, ⟨16, _⟩ => ⟨S16384x3072, .f32⟩
  | .hbm, ⟨17, _⟩ => ⟨S1x3072, .f32⟩
  | .hbm, ⟨18, _⟩ => ⟨S3072, .f32⟩
  | .hbm, ⟨19, _⟩ => ⟨S1x3072, .f32⟩
  | .hbm, ⟨20, _⟩ => ⟨S16384x3072, .f32⟩
  | .hbm, ⟨21, _⟩ => ⟨S16384x3072, .f32⟩
  | .hbm, ⟨22, _⟩ => ⟨S16384x3072, .f32⟩
  | .hbm, ⟨23, _⟩ => ⟨S16384x3072, .f32⟩
  | .hbm, ⟨24, _⟩ => ⟨S1x3072, .f32⟩
  | .hbm, ⟨25, _⟩ => ⟨S3072, .f32⟩
  | .hbm, ⟨26, _⟩ => ⟨S1x3072, .f32⟩
  | .hbm, ⟨27, _⟩ => ⟨S16384x3072, .f32⟩
  | .hbm, ⟨28, _⟩ => ⟨S16384x3072, .f32⟩
  | .hbm, ⟨29, _⟩ => ⟨S16384x3072, .f32⟩
  | .hbm, ⟨30, _⟩ => ⟨S16384x3072, .f32⟩
  | .hbm, ⟨31, _⟩ => ⟨S1x3072, .f32⟩
  | .hbm, ⟨32, _⟩ => ⟨S3072, .f32⟩
  | .hbm, ⟨33, _⟩ => ⟨S1x3072, .f32⟩
  | .hbm, ⟨34, _⟩ => ⟨S16384x3072, .f32⟩
  | .hbm, ⟨35, _⟩ => ⟨S16384x3072, .f32⟩
  | .hbm, ⟨36, _⟩ => ⟨S16384x3072, .f32⟩
  | .hbm, ⟨37, _⟩ => ⟨S1x3072, .f32⟩
  | .hbm, ⟨38, _⟩ => ⟨S16384x3072, .f32⟩
  | .hbm, ⟨39, _⟩ => ⟨S16384x3072, .f32⟩
  | .hbm, ⟨40, _⟩ => ⟨S16384x3072, .f32⟩
  | .hbm, ⟨41, _⟩ => ⟨S16384x3072, .f32⟩
  | .hbm, ⟨42, _⟩ => ⟨S_, .f32⟩
  | .hbm, ⟨43, _⟩ => ⟨S16384x3072, .f32⟩
  | .hbm, ⟨44, _⟩ => ⟨S16384x3072, .f32⟩
  | .hbm, ⟨45, _⟩ => ⟨S_, .f32⟩
  | .hbm, ⟨46, _⟩ => ⟨S16384x3072, .f32⟩
  | .hbm, ⟨47, _⟩ => ⟨S16384x3072, .f32⟩
  | .hbm, ⟨48, _⟩ => ⟨S_, .f32⟩
  | .hbm, ⟨49, _⟩ => ⟨S16384x3072, .f32⟩
  | .hbm, ⟨50, _⟩ => ⟨S16384x3072, .f32⟩
  | .hbm, ⟨51, _⟩ => ⟨S16384x3072, .f32⟩
  | .hbm, ⟨52, _⟩ => ⟨S16384x3072, .f32⟩
  | .hbm, ⟨53, _⟩ => ⟨S16384x3072, .f32⟩
  | .hbm, ⟨54, _⟩ => ⟨S16384x3072, .f32⟩
  | .hbm, ⟨55, _⟩ => ⟨S16384x3072, .f32⟩
  | .hbm, ⟨56, _⟩ => ⟨S16384x3072, .f32⟩
  | .hbm, ⟨57, _⟩ => ⟨S_, .f32⟩
  | .hbm, ⟨58, _⟩ => ⟨S3072, .f32⟩
  | .hbm, ⟨59, _⟩ => ⟨S1x3072, .f32⟩
  | .hbm, ⟨60, _⟩ => ⟨S_, .f32⟩
  | .hbm, ⟨61, _⟩ => ⟨S3072, .f32⟩
  | .hbm, ⟨62, _⟩ => ⟨S16384x3072, .f32⟩
  | .hbm, ⟨63, _⟩ => ⟨S_, .f32⟩
  | .hbm, ⟨64, _⟩ => ⟨S3072, .f32⟩
  | .hbm, ⟨65, _⟩ => ⟨S1x3072, .f32⟩
  | .hbm, ⟨66, _⟩ => ⟨S_, .f32⟩
  | .hbm, ⟨67, _⟩ => ⟨S3072, .f32⟩
  | .hbm, ⟨68, _⟩ => ⟨S1x3072, .f32⟩
  | .hbm, ⟨69, _⟩ => ⟨S_, .f32⟩
  | .hbm, ⟨70, _⟩ => ⟨S4x3072, .f32⟩
  | .hbm, ⟨71, _⟩ => ⟨S16384x3072, .f32⟩
  | .hbm, ⟨72, _⟩ => ⟨S_, .f32⟩
  | .hbm, ⟨73, _⟩ => ⟨S3072, .f32⟩
  | .hbm, ⟨74, _⟩ => ⟨S1x3072, .f32⟩
  | .hbm, ⟨75, _⟩ => ⟨S_, .f32⟩
  | .hbm, ⟨76, _⟩ => ⟨S3072, .f32⟩
  | .hbm, ⟨77, _⟩ => ⟨S1x3072, .f32⟩
  | .hbm, ⟨78, _⟩ => ⟨S_, .f32⟩
  | .hbm, ⟨79, _⟩ => ⟨S4x3072, .f32⟩
  | .hbm, ⟨80, _⟩ => ⟨S4x3072, .f32⟩
  | .hbm, ⟨81, _⟩ => ⟨S16384x3072, .f32⟩
  | .hbm, ⟨82, _⟩ => ⟨S_, .f32⟩
  | .hbm, ⟨83, _⟩ => ⟨S3072, .f32⟩
  | .hbm, ⟨84, _⟩ => ⟨S1x3072, .f32⟩
  | .hbm, ⟨85, _⟩ => ⟨S_, .f32⟩
  | .hbm, ⟨86, _⟩ => ⟨S3072, .f32⟩
  | .hbm, ⟨87, _⟩ => ⟨S1x3072, .f32⟩
  | .hbm, ⟨88, _⟩ => ⟨S_, .f32⟩
  | .hbm, ⟨89, _⟩ => ⟨S4x3072, .f32⟩
  | .hbm, ⟨90, _⟩ => ⟨S4x3072, .f32⟩
  | .hbm, ⟨91, _⟩ => ⟨S16384x3072, .f32⟩
  | .hbm, ⟨92, _⟩ => ⟨S_, .f32⟩
  | .hbm, ⟨93, _⟩ => ⟨S3072, .f32⟩
  | .hbm, ⟨94, _⟩ => ⟨S1x3072, .f32⟩
  | .hbm, ⟨95, _⟩ => ⟨S_, .f32⟩
  | .hbm, ⟨96, _⟩ => ⟨S3072, .f32⟩
  | .hbm, ⟨97, _⟩ => ⟨S1x3072, .f32⟩
  | .hbm, ⟨98, _⟩ => ⟨S_, .f32⟩
  | .hbm, ⟨99, _⟩ => ⟨S4x3072, .f32⟩
  | .hbm, ⟨100, _⟩ => ⟨S4x3072, .f32⟩
  | .hbm, ⟨101, _⟩ => ⟨S1x3072, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v34_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v34_1 : Ref sig .tc := ⟨.hbm, 51, rfl⟩
abbrev main_v34_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_cst_1 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]
-- ==== ConvFwd.lean ====
abbrev S16384x3072 : Shape := ⟨2, ![16384, 3072]⟩
abbrev S4x3072 : Shape := ⟨2, ![4, 3072]⟩
abbrev S3072 : Shape := ⟨1, ![3072]⟩
abbrev S1x3072 : Shape := ⟨2, ![1, 3072]⟩
abbrev S512x3072 : Shape := ⟨2, ![512, 3072]⟩
abbrev S8x3072 : Shape := ⟨2, ![8, 3072]⟩
abbrev S24x3072 : Shape := ⟨2, ![24, 3072]⟩
abbrev S16x3072 : Shape := ⟨2, ![16, 3072]⟩
abbrev S24x512 : Shape := ⟨2, ![24, 512]⟩
abbrev S16x512 : Shape := ⟨2, ![16, 512]⟩
abbrev S1x512 : Shape := ⟨2, ![1, 512]⟩

abbrev nBuf : Space → Nat
  | .hbm => 5
  | .vmem => 9
  | .smem => 0
  | _ => 0

abbrev bufTy : (tb : Table) → Fin (tcTables nBuf tb) → BufTy
  | .hbm, ⟨0, _⟩ => ⟨S16384x3072, .f32⟩
  | .hbm, ⟨1, _⟩ => ⟨S4x3072, .f32⟩
  | .hbm, ⟨2, _⟩ => ⟨S3072, .f32⟩
  | .hbm, ⟨3, _⟩ => ⟨S1x3072, .f32⟩
  | .hbm, ⟨4, _⟩ => ⟨S16384x3072, .f32⟩
  | .local _ .vmem, ⟨0, _⟩ => ⟨S512x3072, .f32⟩
  | .local _ .vmem, ⟨1, _⟩ => ⟨S512x3072, .f32⟩
  | .local _ .vmem, ⟨2, _⟩ => ⟨S8x3072, .f32⟩
  | .local _ .vmem, ⟨3, _⟩ => ⟨S8x3072, .f32⟩
  | .local _ .vmem, ⟨4, _⟩ => ⟨S4x3072, .f32⟩
  | .local _ .vmem, ⟨5, _⟩ => ⟨S1x3072, .f32⟩
  | .local _ .vmem, ⟨6, _⟩ => ⟨S512x3072, .f32⟩
  | .local _ .vmem, ⟨7, _⟩ => ⟨S512x3072, .f32⟩
  | .local _ .vmem, ⟨8, _⟩ => ⟨S24x3072, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdRefIdeal.lean ====
abbrev S16384x3072 : Shape := ⟨2, ![16384, 3072]⟩
abbrev S4x3072 : Shape := ⟨2, ![4, 3072]⟩
abbrev S3072 : Shape := ⟨1, ![3072]⟩
abbrev S_ : Shape := ⟨0, ![]⟩
abbrev S3x3072 : Shape := ⟨2, ![3, 3072]⟩
abbrev S16387x3072 : Shape := ⟨2, ![16387, 3072]⟩
abbrev S1x3072 : Shape := ⟨2, ![1, 3072]⟩

abbrev nBuf : Space → Nat
  | .hbm => 48
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S4x3072, .f32⟩
  | .hbm, ⟨2, _⟩ => ⟨S3072, .f32⟩
  | .hbm, ⟨3, _⟩ => ⟨S_, .f32⟩
  | .hbm, ⟨4, _⟩ => ⟨S3x3072, .f32⟩
  | .hbm, ⟨5, _⟩ => ⟨S16387x3072, .f32⟩
  | .hbm, ⟨6, _⟩ => ⟨S16384x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S16384x3072, .f32⟩
  | .hbm, ⟨11, _⟩ => ⟨S16384x3072, .f32⟩
  | .hbm, ⟨12, _⟩ => ⟨S_, .f32⟩
  | .hbm, ⟨13, _⟩ => ⟨S16384x3072, .f32⟩
  | .hbm, ⟨14, _⟩ => ⟨S16384x3072, .f32⟩
  | .hbm, ⟨15, _⟩ => ⟨S16384x3072, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S16384x3072, .f32⟩
  | .hbm, ⟨20, _⟩ => ⟨S16384x3072, .f32⟩
  | .hbm, ⟨21, _⟩ => ⟨S16384x3072, .f32⟩
  | .hbm, ⟨22, _⟩ => ⟨S16384x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S16384x3072, .f32⟩
  | .hbm, ⟨27, _⟩ => ⟨S16384x3072, .f32⟩
  | .hbm, ⟨28, _⟩ => ⟨S16384x3072, .f32⟩
  | .hbm, ⟨29, _⟩ => ⟨S16384x3072, .f32⟩
  | .hbm, ⟨30, _⟩ => ⟨S1x3072, .f32⟩
  | .hbm, ⟨31, _⟩ => ⟨S3072, .f32⟩
  | .hbm, ⟨32, _⟩ => ⟨S1x3072, .f32⟩
  | .hbm, ⟨33, _⟩ => ⟨S16384x3072, .f32⟩
  | .hbm, ⟨34, _⟩ => ⟨S16384x3072, .f32⟩
  | .hbm, ⟨35, _⟩ => ⟨S16384x3072, .f32⟩
  | .hbm, ⟨36, _⟩ => ⟨S1x3072, .f32⟩
  | .hbm, ⟨37, _⟩ => ⟨S16384x3072, .f32⟩
  | .hbm, ⟨38, _⟩ => ⟨S16384x3072, .f32⟩
  | .hbm, ⟨39, _⟩ => ⟨S16384x3072, .f32⟩
  | .hbm, ⟨40, _⟩ => ⟨S16384x3072, .f32⟩
  | .hbm, ⟨41, _⟩ => ⟨S_, .f32⟩
  | .hbm, ⟨42, _⟩ => ⟨S16384x3072, .f32⟩
  | .hbm, ⟨43, _⟩ => ⟨S16384x3072, .f32⟩
  | .hbm, ⟨44, _⟩ => ⟨S_, .f32⟩
  | .hbm, ⟨45, _⟩ => ⟨S16384x3072, .f32⟩
  | .hbm, ⟨46, _⟩ => ⟨S16384x3072, .f32⟩
  | .hbm, ⟨47, _⟩ => ⟨S16384x3072, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== ModFwd.lean ====
abbrev S16384x1024 : Shape := ⟨2, ![16384, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModRefIdeal.lean ====
abbrev S16384x1024 : Shape := ⟨2, ![16384, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== SkipFwd.lean ====
abbrev S16384x1024 : Shape := ⟨2, ![16384, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1x1024, .f32⟩
  | .hbm, ⟨4, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SkipRefIdeal.lean ====
abbrev S16384x1024 : Shape := ⟨2, ![16384, 1024]⟩
abbrev S1024 : Shape := ⟨1, ![1024]⟩
abbrev S1x1024 : Shape := ⟨2, ![1, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== GatedFwd.lean ====
abbrev S16384x2048 : Shape := ⟨2, ![16384, 2048]⟩
abbrev S2048 : Shape := ⟨1, ![2048]⟩
abbrev S16384x1024 : Shape := ⟨2, ![16384, 1024]⟩
abbrev S1x1024 : Shape := ⟨2, ![1, 1024]⟩
abbrev S1x2048 : Shape := ⟨2, ![1, 2048]⟩
abbrev S256x2048 : Shape := ⟨2, ![256, 2048]⟩
abbrev S256x1024 : Shape := ⟨2, ![256, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x1024, .f32⟩
  | .hbm, ⟨3, _⟩ => ⟨S1x1024, .f32⟩
  | .hbm, ⟨4, _⟩ => ⟨S1x2048, .f32⟩
  | .hbm, ⟨5, _⟩ => ⟨S16384x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatedRefIdeal.lean ====
abbrev S16384x2048 : Shape := ⟨2, ![16384, 2048]⟩
abbrev S2048 : Shape := ⟨1, ![2048]⟩
abbrev S16384x1024 : Shape := ⟨2, ![16384, 1024]⟩
abbrev S1x1024 : Shape := ⟨2, ![1, 1024]⟩
abbrev S1x2048 : Shape := ⟨2, ![1, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x1024, .f32⟩
  | .hbm, ⟨3, _⟩ => ⟨S1x1024, .f32⟩
  | .hbm, ⟨4, _⟩ => ⟨S1x2048, .f32⟩
  | .hbm, ⟨5, _⟩ => ⟨S16384x2048, .f32⟩
  | .hbm, ⟨6, _⟩ => ⟨S16384x2048, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== GroupFwd.lean ====
abbrev S16384x2048 : Shape := ⟨2, ![16384, 2048]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S1x2048, .f32⟩
  | .hbm, ⟨4, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GroupRefIdeal.lean ====
abbrev S16384x2048 : Shape := ⟨2, ![16384, 2048]⟩
abbrev S2048 : Shape := ⟨1, ![2048]⟩
abbrev S_ : Shape := ⟨0, ![]⟩
abbrev S16384x4x512 : Shape := ⟨3, ![16384, 4, 512]⟩
abbrev S16384x4 : Shape := ⟨2, ![16384, 4]⟩
abbrev S16384x4x1 : Shape := ⟨3, ![16384, 4, 1]⟩
abbrev S1x2048 : Shape := ⟨2, ![1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x4x512, .f32⟩
  | .hbm, ⟨14, _⟩ => ⟨S16384x4x512, .f32⟩
  | .hbm, ⟨15, _⟩ => ⟨S_, .f32⟩
  | .hbm, ⟨16, _⟩ => ⟨S16384x4, .f32⟩
  | .hbm, ⟨17, _⟩ => ⟨S16384x4x1, .f32⟩
  | .hbm, ⟨18, _⟩ => ⟨S_, .f32⟩
  | .hbm, ⟨19, _⟩ => ⟨S16384x4x1, .f32⟩
  | .hbm, ⟨20, _⟩ => ⟨S16384x4x1, .f32⟩
  | .hbm, ⟨21, _⟩ => ⟨S_, .f32⟩
  | .hbm, ⟨22, _⟩ => ⟨S16384x4x1, .f32⟩
  | .hbm, ⟨23, _⟩ => ⟨S16384x4x1, .f32⟩
  | .hbm, ⟨24, _⟩ => ⟨S16384x4x1, .f32⟩
  | .hbm, ⟨25, _⟩ => ⟨S16384x4x512, .f32⟩
  | .hbm, ⟨26, _⟩ => ⟨S16384x4x512, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== ReluFwd.lean ====
abbrev S16384x1024 : Shape := ⟨2, ![16384, 1024]⟩
abbrev S1024x4096 : Shape := ⟨2, ![1024, 4096]⟩
abbrev S16384x4096 : Shape := ⟨2, ![16384, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x1024, .bf16⟩
  | .hbm, ⟨3, _⟩ => ⟨S1024x4096, .bf16⟩
  | .hbm, ⟨4, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReluRefIdeal.lean ====
abbrev S16384x1024 : Shape := ⟨2, ![16384, 1024]⟩
abbrev S1024x4096 : Shape := ⟨2, ![1024, 4096]⟩
abbrev S16384x4096 : Shape := ⟨2, ![16384, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== SquareFwd.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S512x4096 : Shape := ⟨2, ![512, 4096]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S16384x1024, .f32⟩
  | .hbm, ⟨4, _⟩ => ⟨S16384x4096, .bf16⟩
  | .hbm, ⟨5, _⟩ => ⟨S4096x1024, .bf16⟩
  | .hbm, ⟨6, _⟩ => ⟨S16384x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== SquareRefIdeal.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S16384x1024, .f32⟩
  | .hbm, ⟨4, _⟩ => ⟨S16384x4096, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ProjFwd.lean ====
abbrev S16384x2048 : Shape := ⟨2, ![16384, 2048]⟩
abbrev S2048x1024 : Shape := ⟨2, ![2048, 1024]⟩
abbrev S1x1024 : Shape := ⟨2, ![1, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1x1024, .f32⟩
  | .hbm, ⟨3, _⟩ => ⟨S16384x1024, .f32⟩
  | .hbm, ⟨4, _⟩ => ⟨S16384x2048, .bf16⟩
  | .hbm, ⟨5, _⟩ => ⟨S2048x1024, .bf16⟩
  | .hbm, ⟨6, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ProjRefIdeal.lean ====
abbrev S16384x2048 : Shape := ⟨2, ![16384, 2048]⟩
abbrev S2048x1024 : Shape := ⟨2, ![2048, 1024]⟩
abbrev S1x1024 : Shape := ⟨2, ![1, 1024]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== WinFwd.lean ====
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinRefIdeal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== WzFwd.lean ====
abbrev S16384x1024 : Shape := ⟨2, ![16384, 1024]⟩
abbrev S1024x2048 : Shape := ⟨2, ![1024, 2048]⟩
abbrev S16384x2048 : Shape := ⟨2, ![16384, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x1024, .bf16⟩
  | .hbm, ⟨3, _⟩ => ⟨S1024x2048, .bf16⟩
  | .hbm, ⟨4, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WzRefIdeal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== WxbcFwd.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x1024, .bf16⟩
  | .hbm, ⟨3, _⟩ => ⟨S1024x3072, .bf16⟩
  | .hbm, ⟨4, _⟩ => ⟨S16384x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WxbcRefIdeal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== WdtFwd.lean ====
abbrev S16384x1024 : Shape := ⟨2, ![16384, 1024]⟩
abbrev S1024x128 : Shape := ⟨2, ![1024, 128]⟩
abbrev S16384x128 : Shape := ⟨2, ![16384, 128]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x128, .f32⟩
  | .hbm, ⟨2, _⟩ => ⟨S16384x1024, .bf16⟩
  | .hbm, ⟨3, _⟩ => ⟨S1024x128, .bf16⟩
  | .hbm, ⟨4, _⟩ => ⟨S16384x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WdtRefIdeal.lean ====
abbrev S16384x1024 : Shape := ⟨2, ![16384, 1024]⟩
abbrev S1024x128 : Shape := ⟨2, ![1024, 128]⟩
abbrev S16384x128 : Shape := ⟨2, ![16384, 128]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x128, .f32⟩
  | .hbm, ⟨2, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DhBwd.lean ====
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DmlpBwd.lean ====
abbrev S16384x4096 : Shape := ⟨2, ![16384, 4096]⟩
abbrev S1024x4096 : Shape := ⟨2, ![1024, 4096]⟩
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S1024x4096, .f32⟩
  | .hbm, ⟨2, _⟩ => ⟨S16384x4096, .bf16⟩
  | .hbm, ⟨3, _⟩ => ⟨S1024x4096, .bf16⟩
  | .hbm, ⟨4, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmlpRefIdeal.lean ====
abbrev S16384x4096 : Shape := ⟨2, ![16384, 4096]⟩
abbrev S1024x4096 : Shape := ⟨2, ![1024, 4096]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1024x4096, .f32⟩
  | .hbm, ⟨2, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DglBwd.lean ====
abbrev S16384x2048 : Shape := ⟨2, ![16384, 2048]⟩
abbrev S1024x2048 : Shape := ⟨2, ![1024, 2048]⟩
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S1024x2048, .f32⟩
  | .hbm, ⟨2, _⟩ => ⟨S16384x2048, .bf16⟩
  | .hbm, ⟨3, _⟩ => ⟨S1024x2048, .bf16⟩
  | .hbm, ⟨4, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DglRefIdeal.lean ====
abbrev S16384x2048 : Shape := ⟨2, ![16384, 2048]⟩
abbrev S1024x2048 : Shape := ⟨2, ![1024, 2048]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1024x2048, .f32⟩
  | .hbm, ⟨2, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DynBwd.lean ====
abbrev S16384x1024 : Shape := ⟨2, ![16384, 1024]⟩
abbrev S2048x1024 : Shape := ⟨2, ![2048, 1024]⟩
abbrev S16384x2048 : Shape := ⟨2, ![16384, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S16384x1024, .bf16⟩
  | .hbm, ⟨3, _⟩ => ⟨S2048x1024, .bf16⟩
  | .hbm, ⟨4, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DynRefIdeal.lean ====
abbrev S16384x1024 : Shape := ⟨2, ![16384, 1024]⟩
abbrev S2048x1024 : Shape := ⟨2, ![2048, 1024]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DxbcBwd.lean ====
abbrev S16384x3072 : Shape := ⟨2, ![16384, 3072]⟩
abbrev S1024x3072 : Shape := ⟨2, ![1024, 3072]⟩
abbrev S16384x1024 : Shape := ⟨2, ![16384, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x3072, .f32⟩
  | .hbm, ⟨1, _⟩ => ⟨S1024x3072, .f32⟩
  | .hbm, ⟨2, _⟩ => ⟨S16384x1024, .f32⟩
  | .hbm, ⟨3, _⟩ => ⟨S16384x3072, .bf16⟩
  | .hbm, ⟨4, _⟩ => ⟨S1024x3072, .bf16⟩
  | .hbm, ⟨5, _⟩ => ⟨S16384x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxbcRefIdeal.lean ====
abbrev S16384x3072 : Shape := ⟨2, ![16384, 3072]⟩
abbrev S1024x3072 : Shape := ⟨2, ![1024, 3072]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S1024x3072, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.GluSpec.lean ====
/- The gradient of the gated linear unit, as plain sums over the rows: what both programs are shown to compute. -/
module

public import Idealize.ShloMosaic.Lib.Pointwise
public import Idealize.ShloMosaic.PureOps.Ideal.Laws

@[expose] public section

noncomputable section

open Idealize.ShloMosaic

namespace Cert.Glu

/-- The arguments that the gradient reads: the projection before its bias, the bias, the gate of the residual branch and
    the cotangent of the branch's output. -/
structure Args where
  ab : Shape.Idx ⟨2, ![16384, 2048]⟩ → EReal
  bias : Shape.Idx ⟨1, ![2048]⟩ → EReal
  gate : Shape.Idx ⟨2, ![1, 1024]⟩ → EReal
  dxo : Shape.Idx ⟨2, ![16384, 1024]⟩ → EReal

variable (A : Args)

/-- The value half of row `r`, with its bias. -/
def val (r : Fin 16384) (j : Fin 1024) : EReal := A.ab (ix2 r ⟨j.val, by omega⟩) + A.bias (ix1 ⟨j.val, by omega⟩)

/-- The sigmoid of the gating half of row `r`. -/
def sig (r : Fin 16384) (j : Fin 1024) : EReal :=
  Ideal.logistic (A.ab (ix2 r ⟨1024 + j.val, by omega⟩) + A.bias (ix1 ⟨1024 + j.val, by omega⟩))

/-- The gradient of the value half. -/
def dval (r : Fin 16384) (j : Fin 1024) : EReal := A.gate (ix2 0 j) * A.dxo (ix2 r j) * sig A r j

/-- The gradient of the gating half, through the sigmoid. -/
def dgt (r : Fin 16384) (j : Fin 1024) : EReal :=
  A.gate (ix2 0 j) * A.dxo (ix2 r j) * val A r j * (sig A r j * (1 - sig A r j))

/-- The gradient of the projection: the two halves side by side. -/
def dab (r : Fin 16384) (j : Fin 2048) : EReal :=
  if h : j.val < 1024 then dval A r ⟨j.val, h⟩ else dgt A r ⟨j.val - 1024, by omega⟩

/-- The gradient of the bias: the sum over the rows. -/
def dbias (j : Fin 2048) : EReal := ∑ r : Fin 16384, dab A r j

/-- The cotangent times the unit's output. -/
def gateTerm (r : Fin 16384) (j : Fin 1024) : EReal := A.dxo (ix2 r j) * (val A r j * sig A r j)

/-- The gradient of the branch's gate: the sum of these over the rows. -/
def dgate (j : Fin 1024) : EReal := ∑ r : Fin 16384, gateTerm A r j

end Cert.Glu

end
-- ==== Proof.GluKernel.lean ====
/- What the kernel's three result arrays hold: the gradient of the gated linear unit (`Cert.Glu`). -/
module

public import proofs.«01_k».proof.Proof.GluSpec
public import proofs.«01_k».proof.Proof.Gen.GluBwdIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GluBwdIdeal.Grad

open Cert.GluBwdIdeal Cert.GluBwdIdeal.Gen Cert.Glu

variable (m : (ℓ : Loc nD τ sig) → Buf (Elt Ideal) ℓ)

/-- The arguments, as the kernel's memory holds them at launch. -/
abbrev args (c : Dev nD) : Args :=
  ⟨m ((c : Thread nD τ).loc main_arg0), m ((c : Thread nD τ).loc main_arg1), m ((c : Thread nD τ).loc main_arg3), m ((c : Thread nD τ).loc main_arg4)⟩

/-- Which block each window takes at each point. -/
theorem idx_val : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0] :=
  (by decide +kernel : ∀ t : Fin grid0.N, _)

theorem t_lt (t : Fin cfg0.N) : t.val < 64 := lt_of_lt_of_eq t.isLt N_0

/-- Row `i` of the block of point `t`. -/
abbrev row (t : Fin cfg0.N) (i : Fin 256) : Fin 16384 := ⟨t.val * 256 + i.val, by have := t_lt t; omega⟩

/-- The left half of the projection's block, its bias, and the same for the right half. -/
local notation "abL" => fun m c t => View.ld (iblk m c 0 t) (Rect.unit ![0, 0] ![256, 1024] inb_S256x2048_S256x1024_0_0)
local notation "abR" => fun m c t => View.ld (iblk m c 0 t) (Rect.unit ![0, 1024] ![256, 1024] inb_S256x2048_S256x1024_0_1024)
local notation "biasL" => fun m c t => View.ld (iblk m c 2 t) (Rect.unit ![0, 0] ![1, 1024] inb_S1x2048_S1x1024_0_0)
local notation "biasR" => fun m c t => View.ld (iblk m c 2 t) (Rect.unit ![0, 1024] ![1, 1024] inb_S1x2048_S1x1024_0_1024)

/-- A point computes the value half's gradient of its rows. -/
theorem dval_at (c : Dev nD) (t : Fin cfg0.N) (i : Fin 256) (j : Fin 1024) :
    k0_pay10 (abR m c t) (biasR m c t) (iblk m c 1 t) (iblk m c 3 t) (ix2 i j) = dval (args m c) (row t i) j := by
  pointwise [k0_pay10, k0_pay9, k0_pay7, dval, Glu.sig]
  blk_point [iblk, V, idx_val t]

/-- A point computes the gating half's gradient of its rows. -/
theorem dgt_at (c : Dev nD) (t : Fin cfg0.N) (i : Fin 256) (j : Fin 1024) :
    k0_pay11 (abL m c t) (biasL m c t) (abR m c t) (biasR m c t) (iblk m c 1 t) (iblk m c 3 t) (ix2 i j) = dgt (args m c) (row t i) j := by
  pointwise [k0_pay11, k0_pay9, k0_pay7, k0_pay6, dgt, Glu.sig, val]
  blk_point [iblk, V, idx_val t]

/-- The left half of the bias' accumulator gains the column sums of the value half's gradient. -/
theorem bias_left (c : Dev nD) (t : Fin cfg0.N) (acc : FVec Ideal S1x1024 .f32) (x : S1x1024.Idx) :
    k0_pay2 (k0_pay10 (abR m c t) (biasR m c t) (iblk m c 1 t) (iblk m c 3 t)) acc x
      = acc x + ∑ i : Fin 256, dval (args m c) (row t i) (x 1) := by
  idx_vars x
  pointwise [k0_pay2]
  exact congrArg (_ + ·) (Fin.sum_fin_congr fun i => dval_at m c t i _)

/-- The right half gains those of the gating half's gradient. -/
theorem bias_right (c : Dev nD) (t : Fin cfg0.N) (acc : FVec Ideal S1x1024 .f32) (x : S1x1024.Idx) :
    k0_pay3 (k0_pay11 (abL m c t) (biasL m c t) (abR m c t) (biasR m c t) (iblk m c 1 t) (iblk m c 3 t)) acc x
      = acc x + ∑ i : Fin 256, dgt (args m c) (row t i) (x 1) := by
  idx_vars x
  pointwise [k0_pay3]
  exact congrArg (_ + ·) (Fin.sum_fin_congr fun i => dgt_at m c t i _)

/-- The gate's accumulator gains the column sums of cotangent times output. -/
theorem gate_step (c : Dev nD) (t : Fin cfg0.N) (acc : FVec Ideal S1x1024 .f32) (x : S1x1024.Idx) :
    k0_pay8 (abL m c t) (biasL m c t) (abR m c t) (biasR m c t) (iblk m c 1 t) acc x
      = acc x + ∑ i : Fin 256, gateTerm (args m c) (row t i) (x 1) := by
  idx_vars x
  pointwise [k0_pay8, k0_pay7, k0_pay6, gateTerm, Glu.sig, val]
  blk_point [iblk, V, idx_val t]

theorem dab_left (A : Args) {r r' : Fin 16384} {j : Fin 2048} {k : Fin 1024} (hr : r'.val = r.val) (h : j.val = k.val) :
    dval A r k = dab A r' j := by
  have hj : j.val < 1024 := by omega
  rw [dab, dif_pos hj, Fin.ext hr]; exact congrArg _ (Fin.ext h.symm)

theorem dab_right (A : Args) {r r' : Fin 16384} {j : Fin 2048} {k : Fin 1024} (hr : r'.val = r.val) (h : j.val = 1024 + k.val) :
    dgt A r k = dab A r' j := by
  have hj : ¬ j.val < 1024 := by omega
  rw [dab, dif_neg hj, Fin.ext hr]; exact congrArg _ (Fin.ext (by show k.val = j.val - 1024; omega))

theorem idx2_ext {n k : Nat} {x y : Shape.Idx ⟨2, ![n, k]⟩} (h0 : (x 0).val = (y 0).val) (h1 : (x 1).val = (y 1).val) : x = y :=
  funext fun a => Fin.ext (by fin_cases a; exacts [h0, h1])

/-- A load of a rectangle reads the array at the rectangle's coordinates. -/
theorem ld_eq {s : Shape} {e : EltTy} (v : s.Idx → Elt Ideal e) (r : Rect s) (x : r.shape.Idx) (y : s.Idx) (h : r.emb x = y) :
    View.ld v r x = v y := by rw [← h]; rfl

theorem dab_tile_left (c : Dev nD) (t : Fin cfg0.N) (x : S256x1024.Idx) (y : S256x2048.Idx) (h0 : (y 0).val = (x 0).val) (h1 : (y 1).val = (x 1).val) :
    k0_pay12 (abR m c t) (biasR m c t) (iblk m c 1 t) (iblk m c 3 t) x = dab (args m c) (row t (y 0)) (y 1) := by
  idx_vars x
  exact (dval_at m c t _ _).trans (dab_left _ (congrArg (t.val * 256 + ·) h0) h1)

theorem dab_tile_right (c : Dev nD) (t : Fin cfg0.N) (x : S256x1024.Idx) (y : S256x2048.Idx) (h0 : (y 0).val = (x 0).val) (h1 : (y 1).val = 1024 + (x 1).val) :
    k0_pay1 (k0_pay11 (abL m c t) (biasL m c t) (abR m c t) (biasR m c t) (iblk m c 1 t) (iblk m c 3 t)) x = dab (args m c) (row t (y 0)) (y 1) := by
  idx_vars x
  exact (dgt_at m c t _ _).trans (dab_right _ (congrArg (t.val * 256 + ·) h0) h1)

/-- Point `t` writes the gradient of its rows of the projection. -/
theorem dab_point (c : Dev nD) (t : Fin cfg0.N) (y : S256x2048.Idx) :
    (outsAt0 m c t.val t.isLt).1 y = dab (args m c) (row t (y 0)) (y 1) := by
  by_cases h : t.val % 64 = 0
  · rw [outsAt0_A m c t h]; frame_out
    canon_tiles x h
    · exact dab_tile_right m c t x y h0 h1
    · exact dab_tile_left m c t x y h0 h1
  · rw [outsAt0_B m c t h]; frame_out
    canon_tiles x h
    · exact dab_tile_right m c t x y h0 h1
    · exact dab_tile_left m c t x y h0 h1

theorem zero_left : (k0_pay4 (F := Ideal)) = fun _ => (0 : EReal) := by
  funext x
  pointwise [k0_pay4]

/-- At the first point the bias' accumulator is the column sums of that point's rows. -/
theorem bias_first (c : Dev nD) (t : Fin cfg0.N) (h : t.val % 64 = 0) (y : S1x2048.Idx) :
    (outsAt0 m c t.val t.isLt).2.1 y = (0 : EReal) + ∑ i : Fin 256, dab (args m c) (row t i) (y 1) := by
  rw [outsAt0_A m c t h]; frame_out
  refine View.canon_append_of_piecesOf (Val := Elt Ideal) (e := .f32) (fun y => ((0 : EReal) + ∑ i : Fin 256, dab (args m c) (row t i) (y 1) : EReal))
    [_] [_, _] ⟨fun x => ?_, fun x => ?_, trivial⟩ y ?_
  · refine (bias_right m c t _ x).trans ?_
    rw [View.readCov_skip (h := by decide +kernel), View.readCov_fill (h := by decide), zero_left]
    exact congrArg ((0 : EReal) + ·) (Finset.sum_congr rfl fun i _ => dab_right _ rfl (by simp [Rect.emb_apply]))
  · refine (bias_left m c t _ x).trans ?_
    rw [View.readCov_fill (h := by decide), zero_left]
    exact congrArg ((0 : EReal) + ·) (Finset.sum_congr rfl fun i _ => dab_left _ rfl (by simp [Rect.emb_apply]))
  · have h0 := (y 0).isLt
    have h1 := (y 1).isLt
    by_cases hy : (y 1).val < 1024
    · exact ⟨_, List.mem_cons_of_mem _ List.mem_cons_self, (Rect.mem_set_unit (inb := by decide)).2 (Fin.forall_fin_two.2 ⟨⟨Nat.zero_le _, h0⟩, Nat.zero_le _, by simpa using hy⟩)⟩
    · exact ⟨_, List.mem_cons_self, (Rect.mem_set_unit (inb := by decide)).2 (Fin.forall_fin_two.2 ⟨⟨Nat.zero_le _, h0⟩, Nat.le_of_not_lt hy, h1⟩)⟩

/-- At every other point it gains them. -/
theorem bias_next (c : Dev nD) (t : Fin cfg0.N) (h : ¬ t.val % 64 = 0) (y : S1x2048.Idx) :
    (outsAt0 m c t.val t.isLt).2.1 y = (outsAt0 m c (t.val - 1) (Nat.lt_of_le_of_lt (Nat.sub_le _ _) t.isLt)).2.1 y + ∑ i : Fin 256, dab (args m c) (row t i) (y 1) := by
  rw [outsAt0_B m c t h]; frame_out
  canon_tiles x h
  · refine (bias_right m c t _ x).trans ?_
    refine congrArg₂ (· + ·) (ld_eq _ _ _ y (idx2_ext ?_ ?_)) (Finset.sum_congr rfl fun i _ => dab_right _ rfl h1) <;> simp [Rect.emb_apply, h0, h1]
  · refine (bias_left m c t _ x).trans ?_
    refine congrArg₂ (· + ·) (ld_eq _ _ _ y (idx2_ext ?_ ?_)) (Finset.sum_congr rfl fun i _ => dab_left _ rfl h1) <;> simp [Rect.emb_apply, h0, h1]

/-- The gate's accumulator at the first point, and at every other. -/
theorem gate_first (c : Dev nD) (t : Fin cfg0.N) (h : t.val % 64 = 0) (y : S1x1024.Idx) :
    (outsAt0 m c t.val t.isLt).2.2 y
      = (0 : EReal) + ∑ i : Fin 256, gateTerm (args m c) (row t i) (y 1) := by
  rw [outsAt0_A m c t h]; frame_out
  refine (gate_step m c t _ y).trans ?_
  exact congrArg (· + _) (by pointwise [k0_pay5])

theorem gate_next (c : Dev nD) (t : Fin cfg0.N) (h : ¬ t.val % 64 = 0) (y : S1x1024.Idx) :
    (outsAt0 m c t.val t.isLt).2.2 y = (outsAt0 m c (t.val - 1) (Nat.lt_of_le_of_lt (Nat.sub_le _ _) t.isLt)).2.2 y
      + ∑ i : Fin 256, gateTerm (args m c) (row t i) (y 1) := by
  rw [outsAt0_B m c t h]; frame_out
  exact gate_step m c t _ y

/-- The three arrays of the program's end. -/
theorem final_dab (c : Dev nD) (j : S16384x2048.Idx) : (dats m 0 c).arrAt 4 cfg0.N j = dab (args m c) (j 0) (j 1) := by
  refine congrFun (a := j) ((dats m 0 c).arrAt_eq_of_covers 4 (fun j => dab (args m c) (j 0) (j 1)) (by decide +kernel) fun t _ y => ?_)
  blk_simp
  rw [after0_4, dab_point]
  refine congrArg₂ (dab (args m c)) (Fin.ext ?_) (Fin.ext ?_)
  · blk_point [idx_val t]
  · blk_point [idx_val t]

theorem final_dbias (c : Dev nD) (j : S1x2048.Idx) : (dats m 0 c).arrAt 5 cfg0.N j = dbias (args m c) (j 1) := by
  refine congrFun (a := j) ((dats m 0 c).arrAt_eq_of_covers 5 (fun j => dbias (args m c) (j 1)) (by decide +kernel) fun t hf y => ?_)
  blk_simp
  rw [after0_5, Pipeline.eq_sum_fin_of_reset_step_apply_of_flush (fun n h => (outsAt0 m c n h).2.1) 64 (fun _ => 0) _
    (fun t h j => bias_first m c t h j) (fun t h j => bias_next m c t h j) t ((flush0_5 t).mp hf) _, zero_add]
  refine Fin.sum_mul_add_congr fun s k hl => ?_
  refine congrArg₂ (dab (args m c)) (Fin.ext ?_) (Fin.ext ?_)
  · have := t_lt t
    show (64 * (t.val / 64) + s.val) * 256 + k.val = s.val * 256 + k.val
    omega
  · blk_point [idx_val t]

theorem final_dgate (c : Dev nD) (j : S1x1024.Idx) : (dats m 0 c).arrAt 6 cfg0.N j = dgate (args m c) (j 1) := by
  refine congrFun (a := j) ((dats m 0 c).arrAt_eq_of_covers 6 (fun j => dgate (args m c) (j 1)) (by decide +kernel) fun t hf y => ?_)
  blk_simp
  rw [after0_6, Pipeline.eq_sum_fin_of_reset_step_apply_of_flush (fun n h => (outsAt0 m c n h).2.2) 64 (fun _ => 0) _
    (fun t h j => gate_first m c t h j) (fun t h j => gate_next m c t h j) t ((flush0_6 t).mp hf) _, zero_add]
  refine Fin.sum_mul_add_congr fun s k hl => ?_
  refine congrArg₂ (gateTerm (args m c)) (Fin.ext ?_) (Fin.ext ?_)
  · have := t_lt t
    show (64 * (t.val / 64) + s.val) * 256 + k.val = s.val * 256 + k.val
    omega
  · blk_point [idx_val t]

end Cert.GluBwdIdeal.Grad

end
-- ==== Proof.GluRef.lean ====
/- What the reference's three results hold: the gradient of the gated linear unit (`Cert.Glu`). -/
module

public import proofs.«01_k».proof.Proof.GluSpec
public import proofs.«01_k».proof.Proof.Gen.GluGradIdeal.Read

@[expose] public section

set_option maxRecDepth 16384

noncomputable section

open Idealize.ShloMosaic Idealize.ShloMosaic.TcCoe Idealize.SL.Sem

namespace Cert.GluGradIdeal.Grad

open Cert.GluGradIdeal Cert.GluGradIdeal.Read Cert.Glu

variable (A : Args)

theorem ref_val (r : Fin 16384) (j : Fin 1024) : val_main_v3 (F := Ideal) A.ab A.bias (ix2 r j) = val A r j := by
  pointwise [val_main_v3, val_main_v2, val_main_v1, val_main_v0, val]

theorem ref_sig (r : Fin 16384) (j : Fin 1024) : val_main_v10 (F := Ideal) A.ab A.bias (ix2 r j) = Glu.sig A r j := by
  pointwise [val_main_v10, val_main_v9, val_main_v8, val_main_v7, val_main_v6, val_main_v5, val_main_v4, val_main_v2, val_main_v1, val_main_v0, Glu.sig, val_main_cst, val_main_cst_0]
  rfl

theorem ref_dval (r : Fin 16384) (j : Fin 1024) : val_main_v24 (F := Ideal) A.ab A.bias A.gate A.dxo (ix2 r j) = dval A r j := by
  rw [val_main_v24_apply, ref_sig]
  pointwise [val_main_v19, val_main_v18, dval]

theorem ref_dgt (r : Fin 16384) (j : Fin 1024) : val_main_v25 (F := Ideal) A.ab A.bias A.gate A.dxo (ix2 r j) = dgt A r j := by
  rw [val_main_v25_apply, val_main_v23_apply, val_main_v13_apply, val_main_v12_apply, ref_sig, ref_val]
  pointwise [val_main_v19, val_main_v18, val_main_v11, val_main_cst_1, dgt]
  rw [mul_comm (val A r j)]

theorem ref_dab (r : Fin 16384) (j : Fin 2048) : val_main_v26 (F := Ideal) A.ab A.bias A.gate A.dxo (ix2 r j) = dab A r j := by
  pointwise [val_main_v26, dab]
  simp only [ref_dval, ref_dgt]

theorem result_dab (i : S16384x2048.Idx) : val_main_v30 (F := Ideal) A.ab A.bias A.gate A.dxo i = dab A (i 0) (i 1) := by
  idx_vars i
  exact ref_dab A _ _

theorem result_dbias (i : S1x2048.Idx) : val_main_v31 (F := Ideal) A.ab A.bias A.gate A.dxo i = dbias A (i 1) := by
  idx_vars i
  pointwise [val_main_v31, val_main_v29, val_main_v28, val_main_v27, dbias, ref_dab, val_main_cst_3, val_main_cst_4]
  exact Fin.sum_univ_one _

theorem result_dgate (i : S1x1024.Idx) : val_main_v22 (F := Ideal) A.ab A.bias A.dxo i = dgate A (i 1) := by
  idx_vars i
  pointwise [val_main_v22, val_main_v21, val_main_v20, val_main_v14, dgate, gateTerm, ref_val, ref_sig, val_main_cst_2]

end Cert.GluGradIdeal.Grad

end
-- ==== Proof.Glu.lean ====
/- Kernel and reference compute the same three gradients of the gated linear unit. -/
module

public import proofs.«01_k».proof.Defs
public import proofs.«01_k».proof.Proof.GluKernel
public import proofs.«01_k».proof.Proof.GluRef
public import proofs.«01_k».proof.Proof.Gen.GluGradIdeal.Run

@[expose] public section

noncomputable section

open Idealize.ShloMosaic Idealize.ShloMosaic.TcCoe Idealize.SL.Sem

namespace Cert.Glu

/-- The kernel's results, as functions of its arguments. -/
theorem kernel_run (m : (ℓ : Loc Cert.GluBwdIdeal.nD Cert.GluBwdIdeal.τ Cert.GluBwdIdeal.sig) → Buf (Elt Ideal) ℓ) (c : Dev Cert.GluBwdIdeal.nD) :
    (Cert.GluBwdIdeal.Gen.dats m 0 c).arrAt 4 Cert.GluBwdIdeal.cfg0.N = (fun j => dab (Cert.GluBwdIdeal.Grad.args m c) (j 0) (j 1))
    ∧ (Cert.GluBwdIdeal.Gen.dats m 0 c).arrAt 5 Cert.GluBwdIdeal.cfg0.N = (fun j => dbias (Cert.GluBwdIdeal.Grad.args m c) (j 1))
    ∧ (Cert.GluBwdIdeal.Gen.dats m 0 c).arrAt 6 Cert.GluBwdIdeal.cfg0.N = (fun j => dgate (Cert.GluBwdIdeal.Grad.args m c) (j 1)) :=
  ⟨funext (Cert.GluBwdIdeal.Grad.final_dab m c), funext (Cert.GluBwdIdeal.Grad.final_dbias m c), funext (Cert.GluBwdIdeal.Grad.final_dgate m c)⟩

/-- The reference terminates, keeps its arguments and uses no semaphore. -/
theorem frame_ref : Cert.quiescent_GluGradIdeal := fun m ρ _ =>
  (θ_run Cert.GluGradIdeal.defs _ _).mono (fun r h => ⟨fun c => (h c).2.2.2, sem_eq_zero_of_no_sems (by decide) r.2⟩)
    (Cert.GluGradIdeal.Value.run (F := Ideal) m ρ)

/-- The value claim. -/
theorem algebraic : Cert.algebraic_GluBwdIdeal_GluGradIdeal := fun m g m' g' _ hag =>
  ⟨fun c j => dab (Cert.GluBwdIdeal.Grad.args m c) (j 0) (j 1), fun c j => dbias (Cert.GluBwdIdeal.Grad.args m c) (j 1),
    fun c j => dgate (Cert.GluBwdIdeal.Grad.args m c) (j 1),
    (θ_run _ _ _).mono (fun _ h c => ⟨(h c).1.trans (kernel_run m c).1, (h c).2.1.trans (kernel_run m c).2.1, (h c).2.2.1.trans (kernel_run m c).2.2, (h c).2.2.2⟩)
      (Cert.GluBwdIdeal.Value.run_blocks m g),
    (θ_run _ _ _).mono (fun _ h c => by
      obtain ⟨a0, a1, _, a3, a4⟩ := hag c
      refine ⟨(h c).1.trans ?_, (h c).2.1.trans ?_, (h c).2.2.1.trans ?_, (h c).2.2.2⟩
      · rw [a0, a1, a3, a4]; exact funext (Cert.GluGradIdeal.Grad.result_dab (Cert.GluBwdIdeal.Grad.args m c))
      · rw [a0, a1, a3, a4]; exact funext (Cert.GluGradIdeal.Grad.result_dbias (Cert.GluBwdIdeal.Grad.args m c))
      · rw [a0, a1, a4]; exact funext (Cert.GluGradIdeal.Grad.result_dgate (Cert.GluBwdIdeal.Grad.args m c)))
      (Cert.GluGradIdeal.Value.run m' g')⟩

end Cert.Glu

end
-- ==== Proof.Reals.lean ====
/- Finite arguments, and the gradient of a root-mean-square norm over the reals. -/
module

public import Idealize.ShloMosaic.Lib.Pointwise
public import Idealize.ShloMosaic.PureOps.Ideal.Laws

@[expose] public section

noncomputable section

open Idealize.ShloMosaic

namespace Cert.Reals

/-- A finite extended real. -/
def Fin1 (x : EReal) : Prop := ∃ r : ℝ, x = r

theorem Fin1.mul {x y : EReal} (hx : Fin1 x) (hy : Fin1 y) : Fin1 (x * y) := by
  obtain ⟨a, rfl⟩ := hx; obtain ⟨b, rfl⟩ := hy; exact ⟨a * b, (EReal.coe_mul a b).symm⟩

theorem Fin1.add {x y : EReal} (hx : Fin1 x) (hy : Fin1 y) : Fin1 (x + y) := by
  obtain ⟨a, rfl⟩ := hx; obtain ⟨b, rfl⟩ := hy; exact ⟨a + b, (EReal.coe_add a b).symm⟩

theorem Fin1.sub {x y : EReal} (hx : Fin1 x) (hy : Fin1 y) : Fin1 (x - y) := by
  obtain ⟨a, rfl⟩ := hx; obtain ⟨b, rfl⟩ := hy; exact ⟨a - b, (EReal.coe_sub a b).symm⟩

theorem Fin1.one : Fin1 1 := ⟨1, rfl⟩

theorem coe_sum {n : Nat} (f : Fin n → ℝ) : ∑ k, (f k : EReal) = ((∑ k, f k : ℝ) : EReal) := by
  induction n with
  | zero => simp
  | succ n ih => rw [Fin.sum_univ_succ, Fin.sum_univ_succ, ih, EReal.coe_add]

theorem Fin1.sum {n : Nat} {f : Fin n → EReal} (h : ∀ k, Fin1 (f k)) : Fin1 (∑ k, f k) := by
  choose g hg using h
  exact ⟨∑ k, g k, by rw [← coe_sum]; exact Finset.sum_congr rfl fun k _ => hg k⟩

theorem div_real (x y : ℝ) (h : y ≠ 0) : Ideal.div x (y : EReal) = ((x / y : ℝ) : EReal) := by
  rw [Ideal.div_coe h, ← EReal.coe_mul, mul_one_div]

theorem rsqrt_real {x : ℝ} (h : 0 < x) : Ideal.rsqrt (x : EReal) = (((Real.sqrt x)⁻¹ : ℝ) : EReal) := by
  rw [Ideal.rsqrt_coe, if_neg (not_lt.2 h.le), if_neg h.ne']

/-- The mean square of a row plus the norm's epsilon. -/
def ms {n : Nat} (x : Fin n → EReal) (c e : EReal) : EReal := Ideal.div (∑ k, x k * x k) c + e

theorem Fin1.div {x : EReal} (hx : Fin1 x) {c : ℝ} (hc : c ≠ 0) : Fin1 (Ideal.div x c) := by
  obtain ⟨a, rfl⟩ := hx; exact ⟨_, div_real a c hc⟩

theorem Fin1.rsqrt_ms {n : Nat} {x : Fin n → EReal} (hx : ∀ k, Fin1 (x k)) {c e : ℝ} (hc : 0 < c) (he : 0 < e) : Fin1 (Ideal.rsqrt (ms x c e)) := by
  choose x' hx' using hx
  obtain rfl : x = fun k => (x' k : EReal) := funext hx'
  have hpos : 0 < (∑ k, x' k * x' k) / c + e := by
    have : 0 ≤ ∑ k, x' k * x' k := Finset.sum_nonneg fun k _ => mul_self_nonneg _
    positivity
  have hms : ms (fun k => (x' k : EReal)) c e = (((∑ k, x' k * x' k) / c + e : ℝ) : EReal) := by
    unfold ms
    simp only [← EReal.coe_mul, coe_sum, div_real _ _ hc.ne', ← EReal.coe_add]
  rw [hms, rsqrt_real hpos]
  exact ⟨_, rfl⟩

/-- The gradient of a row's norm, as the derivative of the two factors `x` and the root, against the short form that
    subtracts the projection on the normed row. -/
theorem rms_grad {n : Nat} {x w : Fin n → EReal} (hx : ∀ k, Fin1 (x k)) (hw : ∀ k, Fin1 (w k)) {c e : ℝ} (hc : 0 < c) (he : 0 < e) (j : Fin n) :
    Ideal.rsqrt (ms x c e) * (w j - x j * Ideal.rsqrt (ms x c e) * Ideal.div (∑ k, w k * (x k * Ideal.rsqrt (ms x c e))) c)
      = w j * Ideal.rsqrt (ms x c e)
        + x j * Ideal.div ((∑ k, x k * w k) * (((-1 / 2 : ℝ) : EReal) * Ideal.div (Ideal.rsqrt (ms x c e)) (ms x c e))) c
        + Ideal.div ((∑ k, x k * w k) * (((-1 / 2 : ℝ) : EReal) * Ideal.div (Ideal.rsqrt (ms x c e)) (ms x c e))) c * x j := by
  choose x' hx' using hx
  choose w' hw' using hw
  obtain rfl : x = fun k => (x' k : EReal) := funext hx'
  obtain rfl : w = fun k => (w' k : EReal) := funext hw'
  have hpos : 0 < (∑ k, x' k * x' k) / c + e := by
    have : 0 ≤ ∑ k, x' k * x' k := Finset.sum_nonneg fun k _ => mul_self_nonneg _
    positivity
  have hms : ms (fun k => (x' k : EReal)) c e = (((∑ k, x' k * x' k) / c + e : ℝ) : EReal) := by
    unfold ms
    simp only [← EReal.coe_mul, coe_sum, div_real _ _ hc.ne', ← EReal.coe_add]
  set a := (∑ k, x' k * x' k) / c + e with ha
  simp only [hms, rsqrt_real hpos, div_real _ _ hpos.ne', ← EReal.coe_mul, coe_sum, div_real _ _ hc.ne', ← EReal.coe_add, ← EReal.coe_sub]
  refine congrArg _ ?_
  have hs : Real.sqrt a * Real.sqrt a = a := Real.mul_self_sqrt hpos.le
  have hs0 : Real.sqrt a ≠ 0 := (Real.sqrt_pos.2 hpos).ne'
  have hsum : ∑ k, w' k * (x' k * (Real.sqrt a)⁻¹) = (∑ k, x' k * w' k) * (Real.sqrt a)⁻¹ := by
    rw [Finset.sum_mul]; exact Finset.sum_congr rfl fun k _ => by ring
  rw [hsum]
  have hd : (Real.sqrt a)⁻¹ / a = (Real.sqrt a)⁻¹ * ((Real.sqrt a)⁻¹ * (Real.sqrt a)⁻¹) := by
    rw [← mul_inv, hs, div_eq_mul_inv]
  rw [hd]
  field_simp
  ring

/-- An entry that a precondition tests against infinity is finite. -/
theorem fin1_of_lt {x : EReal} (h : BitVec.ofBool (decide (FloatOps.absf (F := Ideal) (φ := .f32) x < Ideal.ofBits .f32 0x7F800000#32)) = 1#1) : Fin1 x := by
  have hi : Ideal.ofBits .f32 0x7F800000#32 = ⊤ := by simp [Ideal.ofBits, Ideal.ieee]
  change BitVec.ofBool (decide (max x (-x) < Ideal.ofBits .f32 0x7F800000#32)) = 1#1 at h
  rw [hi] at h
  induction x with
  | bot => simp at h
  | top => simp at h
  | coe r => exact ⟨r, rfl⟩

/-- The literals of the norms and of the loss: minus a half, the widths of a row and of a group, the epsilon. -/
theorem lit_neg_half : Ideal.ofBits .f32 0xBF000000#32 = ((-1 / 2 : ℝ) : EReal) := by
  simp [Ideal.ofBits, Ideal.ieee, -EReal.coe_mul, -EReal.coe_neg]; norm_num

theorem lit_two : Ideal.ofBits .f32 0x40000000#32 = ((2 : ℝ) : EReal) := by
  simp [Ideal.ofBits, Ideal.ieee, -EReal.coe_mul]; norm_num

/-- Twice an extended real. -/
theorem add_self (x : EReal) : x + x = ((2 : ℝ) : EReal) * x := by
  induction x with
  | bot => rw [EReal.coe_mul_bot_of_pos (by norm_num)]; rfl
  | top => rw [EReal.coe_mul_top_of_pos (by norm_num)]; rfl
  | coe x => rw [← EReal.coe_add, ← EReal.coe_mul]; exact congrArg _ (by ring)

theorem lit_1024 : Ideal.ofBits .f32 0x44800000#32 = ((1024 : ℝ) : EReal) := by
  simp [Ideal.ofBits, Ideal.ieee, -EReal.coe_mul, -EReal.coe_neg]; norm_num

theorem lit_512 : Ideal.ofBits .f32 0x44000000#32 = ((512 : ℝ) : EReal) := by
  simp [Ideal.ofBits, Ideal.ieee, -EReal.coe_mul, -EReal.coe_neg]; norm_num

theorem lit_eps : ∃ e : ℝ, 0 < e ∧ Ideal.ofBits .f32 0x3727C5AC#32 = (e : EReal) := by
  refine ⟨_, ?_, by simp [Ideal.ofBits, Ideal.ieee]; rfl⟩
  norm_num

end Cert.Reals

end
-- ==== Proof.GeluSpec.lean ====
/- The gradient of the gelu (in its tanh form) with the skip, as plain sums: what both programs are shown to compute. -/
module

public import proofs.«01_k».proof.Proof.Reals

@[expose] public section

noncomputable section

open Idealize.ShloMosaic

namespace Cert.Gelu

/-- The arguments: the scan's output, its input, the skip's weight, the cotangent, and what is added to the input's gradient. -/
structure Args where
  y : Shape.Idx ⟨2, ![16384, 1024]⟩ → EReal
  u : Shape.Idx ⟨2, ![16384, 1024]⟩ → EReal
  skip : Shape.Idx ⟨1, ![1024]⟩ → EReal
  dgl : Shape.Idx ⟨2, ![16384, 1024]⟩ → EReal
  dug : Shape.Idx ⟨2, ![16384, 1024]⟩ → EReal

variable (A : Args)

/-- The number that the word of √(2/π) is, the cubic's coefficient and three times that, and one half. -/
abbrev K : EReal := Ideal.ofBits .f32 0x3F4C422A#32
abbrev C : EReal := ((8943 / 200000 : ℝ) : EReal)
abbrev C3 : EReal := ((26829 / 200000 : ℝ) : EReal)
abbrev half : EReal := Ideal.ofBits .f32 0x3F000000#32

/-- What the gelu is applied to, and its tanh. -/
def v (r : Fin 16384) (j : Fin 1024) : EReal := A.y (ix2 r j) + A.skip (ix1 j) * A.u (ix2 r j)
def t (r : Fin 16384) (j : Fin 1024) : EReal := Ideal.tanh (K * (v A r j + C * (v A r j * v A r j * v A r j)))

/-- The gradient of the gelu's argument, which is that of the scan's output. -/
def dv (r : Fin 16384) (j : Fin 1024) : EReal :=
  A.dgl (ix2 r j) * (half * (1 + t A r j) + half * v A r j * (1 - t A r j * t A r j) * (K * (1 + C3 * v A r j * v A r j)))

/-- The gradients of the skip's weight and of the input. -/
def dskip (j : Fin 1024) : EReal := ∑ r : Fin 16384, dv A r j * A.u (ix2 r j)
def du (r : Fin 16384) (j : Fin 1024) : EReal := A.dug (ix2 r j) + A.skip (ix1 j) * dv A r j

end Cert.Gelu

end
-- ==== Proof.GeluKernel.lean ====
/- What the kernel's three result arrays hold: the gradient of the gelu with the skip (`Cert.Gelu`). -/
module

public import proofs.«01_k».proof.Proof.GeluSpec
public import proofs.«01_k».proof.Proof.Gen.GeluBwdIdeal.Frame
public import Idealize.ShloMosaic.Lib.Pipeline.ValueKit
public import Idealize.ShloMosaic.PureOps.IdealRules

@[expose] public section

set_option maxRecDepth 16384

noncomputable section

open Idealize.ShloMosaic Idealize.ShloMosaic.TcCoe Idealize.SL.Sem
open Idealize.ShloMosaic.Pipeline (Dat)

namespace Cert.GeluBwdIdeal.Grad

open Cert.GeluBwdIdeal Cert.GeluBwdIdeal.Gen Cert.Gelu

variable (m : (ℓ : Loc nD τ sig) → Buf (Elt Ideal) ℓ) (ρ : Dev nD → PrngReg)

/-- The arguments, as the kernel's memory holds them at launch. -/
abbrev args (c : Dev nD) : Args :=
  ⟨m ((c : Thread nD τ).loc main_arg0), m ((c : Thread nD τ).loc main_arg1), m ((c : Thread nD τ).loc main_arg2), m ((c : Thread nD τ).loc main_arg3),
    m ((c : Thread nD τ).loc main_arg4)⟩

/-- The two named constants, over the extended reals. -/
theorem named_c : Named.named (F := Ideal) (φ := .f32) κ "gelu_c" 0x3D372713#32 = C := IdealRules.named_const.ideal_named_scalar _ _ _ _ rfl
theorem named_3c : Named.named (F := Ideal) (φ := .f32) κ "gelu_3c" 0x3E095D4F#32 = C3 := IdealRules.named_const.ideal_named_scalar _ _ _ _ rfl

/-- Which block each window takes at each point, of both calls. -/
theorem idx_val : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

theorem idx_val1 : ∀ t : Fin cfg1.N, win1_0.index t = ![t.val, 0] ∧ win1_1.index t = ![t.val, 0] ∧ win1_2.index t = ![0, 0] ∧ win1_3.index t = ![t.val, 0] :=
  (by decide +kernel : ∀ t : Fin grid1.N, _)

theorem t_lt (t : Fin cfg0.N) : t.val < 64 := lt_of_lt_of_eq t.isLt N_0
theorem t_lt1 (t : Fin cfg1.N) : t.val < 64 := lt_of_lt_of_eq t.isLt N_1

/-- Row `i` of the block of point `t`. -/
abbrev row (t : Fin cfg0.N) (i : Fin 256) : Fin 16384 := ⟨t.val * 256 + i.val, by have := t_lt t; omega⟩
abbrev row1 (t : Fin cfg1.N) (i : Fin 256) : Fin 16384 := ⟨t.val * 256 + i.val, by have := t_lt1 t; omega⟩

/-- The skip's weight as a row, which the host prepares. -/
theorem skip_row (c : Dev nD) : W1 m ρ c (Proc.devRef .tc main_v0) = fun x => (args m c).skip (ix1 (x 1)) := by
  funext x
  idx_vars x
  show StableHlo.after hostOps0 (W0 m ρ c) (Proc.devRef .tc main_v0) _ = _
  after_results
  pointwise []

/-- A point computes the gradient of its rows. -/
theorem dv_at (c : Dev nD) (t : Fin cfg0.N) (i : Fin 256) (j : Fin 1024) :
    k0_pay3 (F := Ideal) (iblk0 (V1 m ρ) c 1 t) (iblk0 (V1 m ρ) c 0 t) (iblk0 (V1 m ρ) c 3 t) (iblk0 (V1 m ρ) c 2 t) (ix2 i j) = dv (args m c) (row t i) j := by
  pointwise [k0_pay3, dv, v, Gelu.t, named_c, named_3c]
  blk_point [iblk0, V1, idx_val t]
  rw [skip_row]
  blk_point [idx_val t]

theorem dskip_step (c : Dev nD) (t : Fin cfg0.N) (acc : FVec Ideal S1x1024 .f32) (x : S1x1024.Idx) :
    k0_pay1 (F := Ideal) (iblk0 (V1 m ρ) c 1 t) (k0_pay3 (iblk0 (V1 m ρ) c 1 t) (iblk0 (V1 m ρ) c 0 t) (iblk0 (V1 m ρ) c 3 t) (iblk0 (V1 m ρ) c 2 t)) acc x
      = acc x + ∑ i : Fin 256, dv (args m c) (row t i) (x 1) * (args m c).u (ix2 (row t i) (x 1)) := by
  idx_vars x
  pointwise [k0_pay1, dv_at]
  blk_point [iblk0, V1, idx_val t]

/-- Point `t` writes the gradient of its rows. -/
theorem dv_point (c : Dev nD) (t : Fin cfg0.N) (y : S256x1024.Idx) : (outsAt0 (V1 m ρ) c t.val t.isLt).1 y = dv (args m c) (row t (y 0)) (y 1) := by
  idx_vars y
  by_cases h : t.val % 64 = 0
  · rw [outsAt0_A (V1 m ρ) c t h]; frame_out
    exact dv_at m ρ c t _ _
  · rw [outsAt0_B (V1 m ρ) c t h]; frame_out
    exact dv_at m ρ c t _ _

/-- What the accumulator of the skip's gradient holds after the first point, and what it gains at a later one. -/
theorem dskip_first (c : Dev nD) (t : Fin cfg0.N) (h : t.val % 64 = 0) (y : S1x1024.Idx) :
    (outsAt0 (V1 m ρ) c t.val t.isLt).2 y = (0 : EReal) + ∑ i : Fin 256, dv (args m c) (row t i) (y 1) * (args m c).u (ix2 (row t i) (y 1)) := by
  rw [outsAt0_A (V1 m ρ) c t h]; frame_out
  exact (dskip_step m ρ c t _ y).trans (congrArg (· + _) (by pointwise [k0_pay2]))

theorem dskip_next (c : Dev nD) (t : Fin cfg0.N) (h : ¬ t.val % 64 = 0) (y : S1x1024.Idx) :
    (outsAt0 (V1 m ρ) c t.val t.isLt).2 y = (outsAt0 (V1 m ρ) c (t.val - 1) (Nat.lt_of_le_of_lt (Nat.sub_le _ _) t.isLt)).2 y
      + ∑ i : Fin 256, dv (args m c) (row t i) (y 1) * (args m c).u (ix2 (row t i) (y 1)) := by
  rw [outsAt0_B (V1 m ρ) c t h]; frame_out
  exact dskip_step m ρ c t _ y

/-- The two arrays of the first call's end. -/
theorem final_dv (c : Dev nD) : (dat0 (V1 m ρ) c).arrAt 4 cfg0.N = fun j => dv (args m c) (j 0) (j 1) := by
  refine (dat0 (V1 m ρ) c).arrAt_eq_of_covers 4 (fun j => dv (args m c) (j 0) (j 1)) (by decide +kernel) fun t _ y => ?_
  blk_simp
  rw [after0_4]
  refine (dv_point m ρ c t y).trans (congrArg₂ (dv (args m c)) (Fin.ext ?_) (Fin.ext ?_))
  · blk_point [idx_val t]
  · blk_point [idx_val t]

/-- Every row is one row of one point. -/
theorem rows (t : Fin cfg0.N) (f : Fin 16384 → EReal) (h : ∀ s : Fin 64, 64 * (t.val / 64) + s.val < cfg0.N) :
    ∑ s : Fin 64, ∑ i : Fin 256, f (row ⟨64 * (t.val / 64) + s.val, h s⟩ i) = ∑ r : Fin 16384, f r := by
  refine Fin.sum_mul_add_congr fun s k hl => congrArg f (Fin.ext ?_)
  have := t_lt t
  show (64 * (t.val / 64) + s.val) * 256 + k.val = s.val * 256 + k.val
  omega

theorem final_dskip (c : Dev nD) : (dat0 (V1 m ρ) c).arrAt 5 cfg0.N = fun j => dskip (args m c) (j 1) := by
  refine (dat0 (V1 m ρ) c).arrAt_eq_of_covers 5 (fun j => dskip (args m c) (j 1)) (by decide +kernel) fun t hf y => ?_
  blk_simp
  rw [after0_5, Pipeline.eq_sum_fin_of_reset_step_apply_of_flush (fun n h => (outsAt0 (V1 m ρ) c n h).2) 64 (fun _ => 0) _
    (fun t h j => dskip_first m ρ c t h j) (fun t h j => dskip_next m ρ c t h j) t ((flush0_5 t).mp hf) _, zero_add]
  refine (rows t (fun r => dv (args m c) r (y 1) * (args m c).u (ix2 r (y 1))) _).trans (congrArg (dskip (args m c)) (Fin.ext ?_))
  blk_point [idx_val t]

/-- What the second call reads: the first call's result, the skip's row and the other part of the input's gradient. -/
theorem second_dv (c : Dev nD) : V2 m ρ c main_v1_0 = fun j => dv (args m c) (j 0) (j 1) := (W2_arr m ρ c 4).trans (final_dv m ρ c)

theorem second_skip (c : Dev nD) : V2 m ρ c main_v0 = fun x => (args m c).skip (ix1 (x 1)) :=
  (W2_of m ρ c main_v0 (by decide)).trans (skip_row m ρ c)

theorem second_dug (c : Dev nD) : V2 m ρ c main_arg4 = (args m c).dug := W2_args m ρ c main_arg4 (by decide)

theorem du_at (c : Dev nD) (t : Fin cfg1.N) (i : Fin 256) (j : Fin 1024) :
    k1_pay1 (F := Ideal) (iblk1 (V2 m ρ) c 0 t) (iblk1 (V2 m ρ) c 2 t) (iblk1 (V2 m ρ) c 1 t) (ix2 i j) = du (args m c) (row1 t i) j := by
  have h0 : iblk1 (V2 m ρ) c 0 t (ix2 i j) = (args m c).dug (ix2 (row1 t i) j) := by
    refine (congrFun (second_dug m ρ c) _).trans ?_
    blk_point [idx_val1 t]
  have h1 : iblk1 (V2 m ρ) c 1 t (ix2 i j) = dv (args m c) (row1 t i) j := by
    refine (congrFun (second_dv m ρ c) _).trans (congrArg₂ (dv (args m c)) (Fin.ext ?_) (Fin.ext ?_))
    · blk_point [idx_val1 t]
    · blk_point [idx_val1 t]
  have h2 : ∀ p : Fin 1, iblk1 (V2 m ρ) c 2 t (ix2 p j) = (args m c).skip (ix1 j) := fun p => by
    refine (congrFun (second_skip m ρ c) _).trans ?_
    blk_point [idx_val1 t]
  pointwise [k1_pay1, h0, h1, h2, du]

theorem final_du (c : Dev nD) : (dat1 (V2 m ρ) c).arrAt 3 cfg1.N = fun j => du (args m c) (j 0) (j 1) := by
  refine (dat1 (V2 m ρ) c).arrAt_eq_of_covers 3 (fun j => du (args m c) (j 0) (j 1)) (by decide +kernel) fun t _ y => ?_
  blk_simp
  rw [after1_3]; frame_out
  idx_vars y
  refine (du_at m ρ c t y0 y1).trans (congrArg₂ (du (args m c)) (Fin.ext ?_) (Fin.ext ?_))
  · blk_point [idx_val1 t]
  · blk_point [idx_val1 t]

/-- The three results at the program's end. -/
theorem end_dv (c : Dev nD) : W3 m ρ c (Proc.devRef .tc main_v1_0) = fun j => dv (args m c) (j 0) (j 1) :=
  (W3_of m ρ c main_v1_0 (by decide)).trans (second_dv m ρ c)

theorem end_dskip (c : Dev nD) : W3 m ρ c (Proc.devRef .tc main_v1_1) = fun j => dskip (args m c) (j 1) :=
  (W3_of m ρ c main_v1_1 (by decide)).trans ((W2_arr m ρ c 5).trans (final_dskip m ρ c))

theorem end_du (c : Dev nD) : W3 m ρ c (Proc.devRef .tc main_v2) = fun j => du (args m c) (j 0) (j 1) :=
  (W3_arr m ρ c 3).trans (final_du m ρ c)

end Cert.GeluBwdIdeal.Grad

end
-- ==== Proof.GeluRun.lean ====
/- The run of the gelu's two calls with what every buffer holds at the end. -/
module

public import proofs.«01_k».proof.Proof.Gen.GeluBwdIdeal.Frame

@[expose] public section

set_option maxRecDepth 16384

noncomputable section

namespace Cert.GeluBwdIdeal.Grad

open Cert.GeluBwdIdeal Cert.GeluBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates with each unscoped buffer at the last boundary's contents. -/
theorem run_all : θ_run defs (onTc (τ := τ) (main (F := F))) ⟨m, fun _ => 0, ρ⟩ (fun r => ∀ c : Dev nD, ∀ b : Ref sig .tc,
      Proc.devRef .tc b ∈ Pipeline.ucRefs τ sig → r.2.mem ((c.tc : Thread nD τ).loc b) = W3 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c b hb => h c _ hb)

end Cert.GeluBwdIdeal.Grad

end
-- ==== Proof.GeluRef.lean ====
/- What the reference's three results hold: the gradient of the gelu with the skip (`Cert.Gelu`). -/
module

public import proofs.«01_k».proof.Proof.GeluSpec
public import proofs.«01_k».proof.Proof.Gen.GeluGradIdeal.Read
public import Idealize.ShloMosaic.PureOps.IdealRules

@[expose] public section

set_option maxRecDepth 16384

noncomputable section

open Idealize.ShloMosaic Idealize.ShloMosaic.TcCoe Idealize.SL.Sem

namespace Cert.GeluGradIdeal.Grad

open Cert.GeluGradIdeal Cert.GeluGradIdeal.Read Cert.Gelu

/-- The literals are real numbers. -/
theorem lit_K : Ideal.ofBits .f32 0x3F4C422A#32 = ((13386282 / 16777216 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_three : Ideal.ofBits .f32 0x40400000#32 = ((3 : ℝ) : EReal) := by
  simp [Ideal.ofBits, Ideal.ieee, -EReal.coe_mul]; norm_num

/-- The cubic's coefficient, formed by a division. -/
theorem ref_c (i : S_.Idx) : val_main_v4 (F := Ideal) i = C := by
  have h₁ : Ideal.ofBits .f32 0x472EAB00#32 = ((44715 : ℝ) : EReal) := by
    simp [Ideal.ofBits, Ideal.ieee, -EReal.coe_mul]; norm_num
  have h₂ : Ideal.ofBits .f32 0x49742400#32 = ((1000000 : ℝ) : EReal) := by
    simp [Ideal.ofBits, Ideal.ieee, -EReal.coe_mul]; norm_num
  rw [val_main_v4_apply, val_main_cst_apply, val_main_cst_0_apply]
  show Ideal.div (Ideal.ofBits .f32 0x472EAB00#32) (Ideal.ofBits .f32 0x49742400#32) = _
  rw [h₁, h₂, Reals.div_real _ _ (by norm_num : (1000000 : ℝ) ≠ 0)]
  exact congrArg _ (by norm_num)

theorem ref_c10 (i : S_.Idx) : val_main_v10 (F := Ideal) i = C := ref_c i

variable (A : Args)

theorem ref_v (r : Fin 16384) (j : Fin 1024) : val_main_v3 (F := Ideal) A.y A.u A.skip (ix2 r j) = v A r j := by
  pointwise [val_main_v3, val_main_v2, val_main_v1, val_main_v0, v]

theorem ref_t (r : Fin 16384) (j : Fin 1024) : val_main_v16 (F := Ideal) A.y A.u A.skip (ix2 r j) = Gelu.t A r j := by
  pointwise [val_main_v16, val_main_v15, val_main_v14, val_main_v13, val_main_v12, val_main_v11, ref_c10, val_main_v6, val_main_v5, val_main_cst_2, ref_v, Gelu.t]

/-- What the claim asks of the arguments: these four are finite. -/
structure Finite : Prop where
  y : ∀ i, Reals.Fin1 (A.y i)
  u : ∀ i, Reals.Fin1 (A.u i)
  skip : ∀ i, Reals.Fin1 (A.skip i)
  dgl : ∀ i, Reals.Fin1 (A.dgl i)

section
variable {A} (h : Finite A)
include h

/-- The derivative that the reference builds up term by term is the closed one. -/
theorem ref_dv (r : Fin 16384) (j : Fin 1024) : val_main_v38 (F := Ideal) A.y A.u A.skip A.dgl (ix2 r j) = dv A r j := by
  pointwise [val_main_v38, val_main_v37, val_main_v36, val_main_v35, val_main_v34, val_main_v33, val_main_v32, val_main_v31, val_main_v30, val_main_v29, val_main_v28, val_main_v27,
    val_main_v25, val_main_v24, val_main_v23, val_main_v22, val_main_v21, val_main_v20, val_main_v19, val_main_v18, val_main_v17, val_main_v9, val_main_v8, val_main_v7,
    val_main_cst_1, val_main_cst_3, val_main_cst_4, val_main_cst_5, val_main_cst_6, val_main_cst_7, val_main_cst_8, ref_v, ref_t, ref_c10, dv]
  obtain ⟨x, hx⟩ : Reals.Fin1 (v A r j) := (h.y _).add ((h.skip _).mul (h.u _))
  obtain ⟨d, hd⟩ := h.dgl (ix2 r j)
  have ht : Gelu.t A r j = ((Real.tanh (13386282 / 16777216 * (x + 8943 / 200000 * (x * x * x))) : ℝ) : EReal) := by
    unfold Gelu.t
    rw [hx]
    unfold K C
    rw [lit_K]
    simp only [← EReal.coe_mul, ← EReal.coe_add]
    rfl
  rw [hx, hd, ht]
  unfold K C C3 half
  rw [lit_K, lit_half, lit_three]
  simp only [← EReal.coe_one, ← EReal.coe_mul, ← EReal.coe_add, ← EReal.coe_sub]
  exact congrArg _ (by ring)

theorem result_dv (i : S16384x1024.Idx) : val_main_v38 (F := Ideal) A.y A.u A.skip A.dgl i = dv A (i 0) (i 1) := by
  idx_vars i
  exact ref_dv h _ _

theorem result_dskip (i : S1x1024.Idx) : val_main_v45 (F := Ideal) A.y A.u A.skip A.dgl i = dskip A (i 1) := by
  idx_vars i
  pointwise [val_main_v45, val_main_v44, val_main_v43, val_main_v42, val_main_v41, val_main_cst_9, val_main_cst_10, ref_dv h, dskip]
  rw [Fin.sum_univ_one]

theorem result_du (i : S16384x1024.Idx) : val_main_v47 (F := Ideal) A.y A.u A.skip A.dgl A.dug i = du A (i 0) (i 1) := by
  idx_vars i
  pointwise [val_main_v47, val_main_v46, val_main_v40, val_main_v39, val_main_v0, ref_dv h, du]

end

end Cert.GeluGradIdeal.Grad

end
-- ==== Proof.Gelu.lean ====
/- Kernel and reference compute the same gradient of the gelu with the skip. -/
module

public import proofs.«01_k».proof.Defs
public import proofs.«01_k».proof.Proof.GeluKernel
public import proofs.«01_k».proof.Proof.GeluRun
public import proofs.«01_k».proof.Proof.GeluRef
public import proofs.«01_k».proof.Proof.Gen.GeluGradIdeal.Run
public import proofs.«01_k».proof.Proof.Gen.Pre_gelu_finite

@[expose] public section

noncomputable section

open Idealize.ShloMosaic Idealize.ShloMosaic.TcCoe Idealize.SL.Sem

namespace Cert.Gelu

open Cert.GeluBwdIdeal.Grad Cert.GeluGradIdeal.Grad

/-- The precondition says that the four arguments are finite. -/
theorem finite (m : (ℓ : Loc Cert.GeluBwdIdeal.nD Cert.GeluBwdIdeal.τ Cert.GeluBwdIdeal.sig) → Buf (Elt Ideal) ℓ)
    (hp : Cert.Pre_GeluBwdIdeal_gelu_finite m) (c : Dev Cert.GeluBwdIdeal.nD) : Finite (args m c) := by
  obtain ⟨h0, h1, h2, h3⟩ := hp c
  exact ⟨fun i => Reals.fin1_of_lt (congrFun h0 i), fun i => Reals.fin1_of_lt (congrFun h1 i), fun i => Reals.fin1_of_lt (congrFun h2 i),
    fun i => Reals.fin1_of_lt (congrFun h3 i)⟩

/-- The reference terminates, keeps its arguments and uses no semaphore. -/
theorem frame_ref : Cert.quiescent_GeluGradIdeal := fun m ρ _ =>
  (θ_run Cert.GeluGradIdeal.defs _ _).mono (fun r h => ⟨fun c => (h c).2.2.2, sem_eq_zero_of_no_sems (by decide) r.2⟩)
    (Cert.GeluGradIdeal.Value.run (F := Ideal) m ρ)

/-- The kernel's two named constants. -/
theorem preserves : Cert.preserves_GeluBwd_GeluBwdIdeal :=
  ⟨IdealRules.named_const.statement Cert.GeluBwdIdeal.κ "gelu_c" .f32 0x3D372713#32 _ rfl,
    IdealRules.named_const.statement Cert.GeluBwdIdeal.κ "gelu_3c" .f32 0x3E095D4F#32 _ rfl⟩

/-- The arguments, as the reference's memory holds them at launch. -/
def rargs (m : (ℓ : Loc Cert.GeluGradIdeal.nD Cert.GeluGradIdeal.τ Cert.GeluGradIdeal.sig) → Buf (Elt Ideal) ℓ) (c : Dev Cert.GeluGradIdeal.nD) : Args :=
  ⟨m ((c : Thread Cert.GeluGradIdeal.nD Cert.GeluGradIdeal.τ).loc Cert.GeluGradIdeal.main_arg0), m ((c : Thread Cert.GeluGradIdeal.nD Cert.GeluGradIdeal.τ).loc Cert.GeluGradIdeal.main_arg1),
    m ((c : Thread Cert.GeluGradIdeal.nD Cert.GeluGradIdeal.τ).loc Cert.GeluGradIdeal.main_arg2), m ((c : Thread Cert.GeluGradIdeal.nD Cert.GeluGradIdeal.τ).loc Cert.GeluGradIdeal.main_arg3),
    m ((c : Thread Cert.GeluGradIdeal.nD Cert.GeluGradIdeal.τ).loc Cert.GeluGradIdeal.main_arg4)⟩

open Cert.GeluBwdIdeal Cert.GeluBwdIdeal.Gen in
/-- The value claim. -/
theorem algebraic : Cert.algebraic_GeluBwdIdeal_GeluGradIdeal_pre_gelu_finite := fun m g m' g' hp hag =>
  ⟨fun c j => dv (args m c) (j 0) (j 1), fun c j => dskip (args m c) (j 1), fun c j => du (args m c) (j 0) (j 1),
    (θ_run _ _ _).mono (fun _ h c =>
      ⟨(h c main_v1_0 (mem_uc _ (by decide))).trans (end_dv m g c), (h c main_v1_1 (mem_uc _ (by decide))).trans (end_dskip m g c),
        (h c main_v2 (mem_uc _ (by decide))).trans (end_du m g c), (h c main_arg0 (mem_uc _ (by decide))).trans (W3_main_arg0 m g c),
        (h c main_arg1 (mem_uc _ (by decide))).trans (W3_main_arg1 m g c), (h c main_arg2 (mem_uc _ (by decide))).trans (W3_main_arg2 m g c),
        (h c main_arg3 (mem_uc _ (by decide))).trans (W3_main_arg3 m g c), (h c main_arg4 (mem_uc _ (by decide))).trans (W3_main_arg4 m g c)⟩)
      (run_all m g),
    (θ_run _ _ _).mono (fun _ h c => by
      obtain ⟨a0, a1, a2, a3, a4⟩ := hag c
      have e : rargs m' c = args m c := by unfold rargs args; rw [a0, a1, a2, a3, a4]
      have hf : Finite (rargs m' c) := e ▸ finite m hp c
      exact ⟨(h c).1.trans ((funext (result_dv hf)).trans (congrArg (fun (A : Args) (j : Shape.Idx ⟨2, ![16384, 1024]⟩) => dv A (j 0) (j 1)) e)),
        (h c).2.1.trans ((funext (result_dskip hf)).trans (congrArg (fun (A : Args) (j : Shape.Idx ⟨2, ![1, 1024]⟩) => dskip A (j 1)) e)),
        (h c).2.2.1.trans ((funext (result_du hf)).trans (congrArg (fun (A : Args) (j : Shape.Idx ⟨2, ![16384, 1024]⟩) => du A (j 0) (j 1)) e)), (h c).2.2.2⟩)
      (Cert.GeluGradIdeal.Value.run m' g')⟩

end Cert.Gelu

end
-- ==== Proof.NormSpec.lean ====
/- The gradient of the modulated norm, as plain sums over rows and columns: what both programs are shown to compute. -/
module

public import proofs.«01_k».proof.Proof.Reals

@[expose] public section

noncomputable section

open Idealize.ShloMosaic

namespace Cert.Norm

/-- The arguments that the gradient reads: the rows, the norm's weight, the modulation's scale, the cotangent and the
    gradient that passes by. -/
structure Args where
  x : Shape.Idx ⟨2, ![16384, 1024]⟩ → EReal
  g : Shape.Idx ⟨1, ![1024]⟩ → EReal
  sc : Shape.Idx ⟨2, ![1, 1024]⟩ → EReal
  dh : Shape.Idx ⟨2, ![16384, 1024]⟩ → EReal
  pass : Shape.Idx ⟨2, ![16384, 1024]⟩ → EReal

variable (A : Args)

/-- The norm's epsilon, the number that its single-precision word is. -/
abbrev eps : EReal := Ideal.ofBits .f32 0x3727C5AC#32

/-- The width of a row, the number that its single-precision word is. -/
abbrev width : EReal := Ideal.ofBits .f32 0x44800000#32

/-- One over the root mean square of row `r`. -/
def rinv (r : Fin 16384) : EReal := Ideal.rsqrt (Reals.ms (fun k : Fin 1024 => A.x (ix2 r k)) width eps)

/-- The normed row. -/
def xhat (r : Fin 16384) (j : Fin 1024) : EReal := A.x (ix2 r j) * rinv A r

/-- The cotangent of the weighted normed row. -/
def dn (r : Fin 16384) (j : Fin 1024) : EReal := A.dh (ix2 r j) * (1 + A.sc (ix2 0 j))

/-- The gradient of the modulation's scale, of its shift, and of the weight. -/
def dsc (j : Fin 1024) : EReal := ∑ r : Fin 16384, A.dh (ix2 r j) * (xhat A r j * A.g (ix1 j))
def dsh (j : Fin 1024) : EReal := ∑ r : Fin 16384, A.dh (ix2 r j)
def dg (j : Fin 1024) : EReal := ∑ r : Fin 16384, dn A r j * xhat A r j

/-- The gradient of the rows, on top of the one that passes by. -/
def dx (r : Fin 16384) (j : Fin 1024) : EReal :=
  A.pass (ix2 r j) + rinv A r * (dn A r j * A.g (ix1 j)
    - xhat A r j * Ideal.div (∑ k : Fin 1024, dn A r k * A.g (ix1 k) * xhat A r k) width)

end Cert.Norm

end
-- ==== Proof.NormKernel.lean ====
/- What the kernel's five result arrays hold: the gradient of the modulated norm (`Cert.Norm`). -/
module

public import proofs.«01_k».proof.Proof.NormSpec
public import proofs.«01_k».proof.Proof.Gen.NormBwdIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormBwdIdeal.Grad

open Cert.NormBwdIdeal Cert.NormBwdIdeal.Gen Cert.Norm

variable (m : (ℓ : Loc nD τ sig) → Buf (Elt Ideal) ℓ)

/-- The arguments, as the kernel's memory holds them at launch. -/
abbrev args (c : Dev nD) : Args :=
  ⟨m ((c : Thread nD τ).loc main_arg0), m ((c : Thread nD τ).loc main_arg1), m ((c : Thread nD τ).loc main_arg3), m ((c : Thread nD τ).loc main_arg4),
    m ((c : Thread nD τ).loc main_arg5)⟩

/-- Which block each window takes at each point. -/
theorem idx_val : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ win0_7.index t = ![t.val, 0]
    ∧ win0_8.index t = ![0, 0] ∧ win0_9.index t = ![0, 0] ∧ win0_10.index t = ![0, 0] :=
  (by decide +kernel : ∀ t : Fin grid0.N, _)

theorem t_lt (t : Fin cfg0.N) : t.val < 64 := lt_of_lt_of_eq t.isLt N_0

/-- Row `i` of the block of point `t`. -/
abbrev row (t : Fin cfg0.N) (i : Fin 256) : Fin 16384 := ⟨t.val * 256 + i.val, by have := t_lt t; omega⟩

/-- A point computes its rows' inverse root mean squares, normed rows and cotangents. -/
theorem rinv_at (c : Dev nD) (t : Fin cfg0.N) (i : Fin 256) : k0_pay8 (F := Ideal) (iblk m c 0 t) (ix2 i 0) = rinv (args m c) (row t i) := by
  pointwise [k0_pay8, rinv, Reals.ms]
  blk_point [iblk, V, idx_val t]

theorem xhat_at (c : Dev nD) (t : Fin cfg0.N) (i : Fin 256) (j : Fin 1024) :
    k0_pay9 (F := Ideal) (iblk m c 0 t) (ix2 i j) = xhat (args m c) (row t i) j := by
  pointwise [k0_pay9, xhat, rinv_at]
  blk_point [iblk, V, idx_val t]

theorem dn_at (c : Dev nD) (t : Fin cfg0.N) (i : Fin 256) (j : Fin 1024) :
    k0_pay11 (F := Ideal) (iblk m c 1 t) (iblk m c 5 t) (ix2 i j) = dn (args m c) (row t i) j := by
  pointwise [k0_pay11, dn]
  blk_point [iblk, V, idx_val t]

theorem g_at (c : Dev nD) (t : Fin cfg0.N) (j : Fin 1024) : k0_pay10 (F := Ideal) (iblk m c 3 t) (ix2 0 j) = (args m c).g (ix1 j) := by
  pointwise [k0_pay10]
  blk_point [iblk, V, idx_val t]

theorem dx_at (c : Dev nD) (t : Fin cfg0.N) (i : Fin 256) (j : Fin 1024) :
    k0_pay3 (F := Ideal) (k0_pay8 (iblk m c 0 t)) (k0_pay9 (iblk m c 0 t)) (k0_pay10 (iblk m c 3 t)) (k0_pay11 (iblk m c 1 t) (iblk m c 5 t)) (iblk m c 2 t) (ix2 i j)
      = dx (args m c) (row t i) j := by
  pointwise [k0_pay3, dx, rinv_at, xhat_at, dn_at, g_at]
  blk_point [iblk, V, idx_val t]

/-- What each accumulator gains at a point. -/
theorem dg_step (c : Dev nD) (t : Fin cfg0.N) (acc : FVec Ideal S1x1024 .f32) (x : S1x1024.Idx) :
    k0_pay2 (F := Ideal) (k0_pay9 (iblk m c 0 t)) (k0_pay11 (iblk m c 1 t) (iblk m c 5 t)) acc x
      = acc x + ∑ i : Fin 256, dn (args m c) (row t i) (x 1) * xhat (args m c) (row t i) (x 1) := by
  idx_vars x
  pointwise [k0_pay2, dn_at, xhat_at]

theorem dsh_step (c : Dev nD) (t : Fin cfg0.N) (acc : FVec Ideal S1x1024 .f32) (x : S1x1024.Idx) :
    k0_pay1 (F := Ideal) (k0_pay13 acc) (k0_pay14 (iblk m c 1 t)) x = acc x + ∑ i : Fin 256, (args m c).dh (ix2 (row t i) (x 1)) := by
  idx_vars x
  pointwise [k0_pay1, k0_pay13, k0_pay14]
  blk_point [iblk, V, idx_val t]

theorem dsc_step (c : Dev nD) (t : Fin cfg0.N) (acc : FVec Ideal S1x1024 .f32) (x : S1x1024.Idx) :
    k0_pay12 (F := Ideal) (iblk m c 0 t) (iblk m c 1 t) (iblk m c 3 t) acc x
      = acc x + ∑ i : Fin 256, (args m c).dh (ix2 (row t i) (x 1)) * (xhat (args m c) (row t i) (x 1) * (args m c).g (ix1 (x 1))) := by
  idx_vars x
  pointwise [k0_pay12, xhat_at, g_at]
  blk_point [iblk, V, idx_val t]

/-- Point `t` writes the gradient of its rows, in both precisions. -/
theorem dx_point (c : Dev nD) (t : Fin cfg0.N) (y : S256x1024.Idx) :
    (outsAt0 m c t.val t.isLt).1 y = dx (args m c) (row t (y 0)) (y 1) ∧ (outsAt0 m c t.val t.isLt).2.1 y = dx (args m c) (row t (y 0)) (y 1) := by
  idx_vars y
  by_cases h : t.val % 64 = 0
  · rw [outsAt0_A m c t h]; frame_out
    exact ⟨dx_at m c t _ _, dx_at m c t _ _⟩
  · rw [outsAt0_B m c t h]; frame_out
    exact ⟨dx_at m c t _ _, dx_at m c t _ _⟩

theorem dg_first (c : Dev nD) (t : Fin cfg0.N) (h : t.val % 64 = 0) (y : S1x1024.Idx) :
    (outsAt0 m c t.val t.isLt).2.2.1 y = (0 : EReal) + ∑ i : Fin 256, dn (args m c) (row t i) (y 1) * xhat (args m c) (row t i) (y 1) := by
  rw [outsAt0_A m c t h]; frame_out
  exact (dg_step m c t _ y).trans (congrArg (· + _) (by pointwise [k0_pay5]))

theorem dg_next (c : Dev nD) (t : Fin cfg0.N) (h : ¬ t.val % 64 = 0) (y : S1x1024.Idx) :
    (outsAt0 m c t.val t.isLt).2.2.1 y = (outsAt0 m c (t.val - 1) (Nat.lt_of_le_of_lt (Nat.sub_le _ _) t.isLt)).2.2.1 y
      + ∑ i : Fin 256, dn (args m c) (row t i) (y 1) * xhat (args m c) (row t i) (y 1) := by
  rw [outsAt0_B m c t h]; frame_out
  exact dg_step m c t _ y

theorem dsh_first (c : Dev nD) (t : Fin cfg0.N) (h : t.val % 64 = 0) (y : S1x1024.Idx) :
    (outsAt0 m c t.val t.isLt).2.2.2.1 y = (0 : EReal) + ∑ i : Fin 256, (args m c).dh (ix2 (row t i) (y 1)) := by
  rw [outsAt0_A m c t h]; frame_out
  exact (dsh_step m c t _ y).trans (congrArg (· + _) (by pointwise [k0_pay6]))

theorem dsh_next (c : Dev nD) (t : Fin cfg0.N) (h : ¬ t.val % 64 = 0) (y : S1x1024.Idx) :
    (outsAt0 m c t.val t.isLt).2.2.2.1 y = (outsAt0 m c (t.val - 1) (Nat.lt_of_le_of_lt (Nat.sub_le _ _) t.isLt)).2.2.2.1 y
      + ∑ i : Fin 256, (args m c).dh (ix2 (row t i) (y 1)) := by
  rw [outsAt0_B m c t h]; frame_out
  exact dsh_step m c t _ y

theorem dsc_first (c : Dev nD) (t : Fin cfg0.N) (h : t.val % 64 = 0) (y : S1x1024.Idx) :
    (outsAt0 m c t.val t.isLt).2.2.2.2 y
      = (0 : EReal) + ∑ i : Fin 256, (args m c).dh (ix2 (row t i) (y 1)) * (xhat (args m c) (row t i) (y 1) * (args m c).g (ix1 (y 1))) := by
  rw [outsAt0_A m c t h]; frame_out
  exact (dsc_step m c t _ y).trans (congrArg (· + _) (by pointwise [k0_pay7]))

theorem dsc_next (c : Dev nD) (t : Fin cfg0.N) (h : ¬ t.val % 64 = 0) (y : S1x1024.Idx) :
    (outsAt0 m c t.val t.isLt).2.2.2.2 y = (outsAt0 m c (t.val - 1) (Nat.lt_of_le_of_lt (Nat.sub_le _ _) t.isLt)).2.2.2.2 y
      + ∑ i : Fin 256, (args m c).dh (ix2 (row t i) (y 1)) * (xhat (args m c) (row t i) (y 1) * (args m c).g (ix1 (y 1))) := by
  rw [outsAt0_B m c t h]; frame_out
  exact dsc_step m c t _ y

/-- The five arrays of the program's end. -/
theorem final_dx (c : Dev nD) : (dats m 0 c).arrAt 6 cfg0.N = fun j => dx (args m c) (j 0) (j 1) := by
  refine (dats m 0 c).arrAt_eq_of_covers 6 (fun j => dx (args m c) (j 0) (j 1)) (by decide +kernel) fun t _ y => ?_
  blk_simp
  rw [after0_6]
  refine (dx_point m c t y).1.trans (congrArg₂ (dx (args m c)) (Fin.ext ?_) (Fin.ext ?_))
  · blk_point [idx_val t]
  · blk_point [idx_val t]

theorem final_dxb (c : Dev nD) : (dats m 0 c).arrAt 7 cfg0.N = fun j => dx (args m c) (j 0) (j 1) := by
  refine (dats m 0 c).arrAt_eq_of_covers 7 (fun j => dx (args m c) (j 0) (j 1)) (by decide +kernel) fun t _ y => ?_
  blk_simp
  rw [after0_7]
  refine (dx_point m c t y).2.trans (congrArg₂ (dx (args m c)) (Fin.ext ?_) (Fin.ext ?_))
  · blk_point [idx_val t]
  · blk_point [idx_val t]

/-- Every row is one row of one point. -/
theorem rows (t : Fin cfg0.N) (f : Fin 16384 → Fin 1024 → EReal) {j j' : Fin 1024} (hj : j.val = j'.val) (h : ∀ s : Fin 64, 64 * (t.val / 64) + s.val < cfg0.N) :
    ∑ s : Fin 64, ∑ i : Fin 256, f (row ⟨64 * (t.val / 64) + s.val, h s⟩ i) j = ∑ r : Fin 16384, f r j' := by
  obtain rfl : j = j' := Fin.ext hj
  refine Fin.sum_mul_add_congr fun s k hl => congrArg (f · j) (Fin.ext ?_)
  have := t_lt t
  show (64 * (t.val / 64) + s.val) * 256 + k.val = s.val * 256 + k.val
  omega

theorem final_dg (c : Dev nD) : (dats m 0 c).arrAt 8 cfg0.N = fun j => dg (args m c) (j 1) := by
  refine (dats m 0 c).arrAt_eq_of_covers 8 (fun j => dg (args m c) (j 1)) (by decide +kernel) fun t hf y => ?_
  blk_simp
  rw [after0_8, Pipeline.eq_sum_fin_of_reset_step_apply_of_flush (fun n h => (outsAt0 m c n h).2.2.1) 64 (fun _ => 0) _
    (fun t h j => dg_first m c t h j) (fun t h j => dg_next m c t h j) t ((flush0_8 t).mp hf) _, zero_add]
  refine rows t (fun r j => dn (args m c) r j * xhat (args m c) r j) ?_ _
  blk_point [idx_val t]

theorem final_dsh (c : Dev nD) : (dats m 0 c).arrAt 9 cfg0.N = fun j => dsh (args m c) (j 1) := by
  refine (dats m 0 c).arrAt_eq_of_covers 9 (fun j => dsh (args m c) (j 1)) (by decide +kernel) fun t hf y => ?_
  blk_simp
  rw [after0_9, Pipeline.eq_sum_fin_of_reset_step_apply_of_flush (fun n h => (outsAt0 m c n h).2.2.2.1) 64 (fun _ => 0) _
    (fun t h j => dsh_first m c t h j) (fun t h j => dsh_next m c t h j) t ((flush0_9 t).mp hf) _, zero_add]
  refine rows t (fun r j => (args m c).dh (ix2 r j)) ?_ _
  blk_point [idx_val t]

theorem final_dsc (c : Dev nD) : (dats m 0 c).arrAt 10 cfg0.N = fun j => dsc (args m c) (j 1) := by
  refine (dats m 0 c).arrAt_eq_of_covers 10 (fun j => dsc (args m c) (j 1)) (by decide +kernel) fun t hf y => ?_
  blk_simp
  rw [after0_10, Pipeline.eq_sum_fin_of_reset_step_apply_of_flush (fun n h => (outsAt0 m c n h).2.2.2.2) 64 (fun _ => 0) _
    (fun t h j => dsc_first m c t h j) (fun t h j => dsc_next m c t h j) t ((flush0_10 t).mp hf) _, zero_add]
  refine rows t (fun r j => (args m c).dh (ix2 r j) * (xhat (args m c) r j * (args m c).g (ix1 j))) ?_ _
  blk_point [idx_val t]

end Cert.NormBwdIdeal.Grad

end
-- ==== Proof.NormRef.lean ====
/- What the reference's five results hold: the gradient of the modulated norm (`Cert.Norm`). -/
module

public import proofs.«01_k».proof.Proof.NormSpec
public import proofs.«01_k».proof.Proof.Gen.NormGradIdeal.Read

@[expose] public section

set_option maxRecDepth 16384

noncomputable section

open Idealize.ShloMosaic Idealize.ShloMosaic.TcCoe Idealize.SL.Sem

namespace Cert.NormGradIdeal.Grad

open Cert.NormGradIdeal Cert.NormGradIdeal.Read Cert.Norm

variable (A : Args)

/-- The mean square plus the epsilon, and its inverse root. -/
theorem ref_ms (r : Fin 16384) (q : Fin 1) : val_main_v6 (F := Ideal) A.x (ix2 r q) = Reals.ms (fun k : Fin 1024 => A.x (ix2 r k)) width eps := by
  pointwise [val_main_v6, val_main_v5, val_main_v4, val_main_v3, val_main_v2, val_main_v1, val_main_v0, val_main_cst, val_main_cst_0, val_main_cst_1, Reals.ms]

theorem ref_rinv (r : Fin 16384) (q : Fin 1) : val_main_v7 (F := Ideal) A.x (ix2 r q) = rinv A r := by
  rw [val_main_v7_apply, ref_ms]; rfl

theorem ref_xhat (r : Fin 16384) (j : Fin 1024) : val_main_v12 (F := Ideal) A.x (ix2 r j) = xhat A r j := by
  pointwise [val_main_v12, val_main_v11, xhat, ref_rinv]

theorem ref_dn (r : Fin 16384) (j : Fin 1024) : val_main_v29 (F := Ideal) A.sc A.dh (ix2 r j) = dn A r j := by
  pointwise [val_main_v29, val_main_v28, val_main_v22, val_main_v17, val_main_v16, val_main_cst_3, dn]

theorem ref_w (r : Fin 16384) (j : Fin 1024) : val_main_v34 (F := Ideal) A.g A.sc A.dh (ix2 r j) = dn A r j * A.g (ix1 j) := by
  pointwise [val_main_v34, val_main_v33, val_main_v13, ref_dn]

theorem result_dsh (i : S1x1024.Idx) : val_main_v24 (F := Ideal) A.dh i = dsh A (i 1) := by
  idx_vars i
  pointwise [val_main_v24, val_main_v23, val_main_v22, val_main_cst_4, dsh]

theorem result_dsc (i : S1x1024.Idx) : val_main_v27 (F := Ideal) A.x A.g A.dh i = dsc A (i 1) := by
  idx_vars i
  pointwise [val_main_v27, val_main_v26, val_main_v25, val_main_v22, val_main_v15, val_main_v14, val_main_v13, ref_xhat, val_main_cst_5, dsc]
  exact Finset.sum_congr rfl fun r _ => mul_comm _ _

theorem result_dg (i : S1x1024.Idx) : val_main_v52 (F := Ideal) A.x A.sc A.dh i = dg A (i 1) := by
  idx_vars i
  pointwise [val_main_v52, val_main_v35, val_main_v32, val_main_v31, val_main_v30, ref_dn, ref_xhat, val_main_cst_6, val_main_cst_7, dg]
  rw [Fin.sum_univ_one]
  exact Finset.sum_congr rfl fun r _ => mul_comm _ _

/-- The scalar that the chain through the root multiplies the row by. -/
def chain (r : Fin 16384) : EReal :=
  Ideal.div ((∑ k : Fin 1024, A.x (ix2 r k) * (dn A r k * A.g (ix1 k))) * (((-1 / 2 : ℝ) : EReal)
    * Ideal.div (rinv A r) (Reals.ms (fun k : Fin 1024 => A.x (ix2 r k)) width eps))) width

theorem ref_chain (r : Fin 16384) (j : Fin 1024) : val_main_v45 (F := Ideal) A.x A.g A.sc A.dh (ix2 r j) = chain A r := by
  pointwise [val_main_v45, val_main_v44, val_main_v43, val_main_v42, val_main_v41, val_main_v38, val_main_v37, val_main_v36, ref_w, val_main_v10, val_main_v9, val_main_v8, ref_ms, ref_rinv, chain, val_main_cst_2, val_main_cst_8, val_main_cst_9, val_main_cst_10]
  rw [Reals.lit_neg_half, Fin.sum_univ_one]

theorem ref_dx (r : Fin 16384) (j : Fin 1024) : val_main_v50 (F := Ideal) A.x A.g A.sc A.dh A.pass (ix2 r j)
    = A.pass (ix2 r j) + ((dn A r j * A.g (ix1 j) * rinv A r + A.x (ix2 r j) * chain A r) + chain A r * A.x (ix2 r j)) := by
  pointwise [val_main_v50, val_main_v49, val_main_v48, val_main_v47, val_main_v46, val_main_v40, val_main_v39, ref_chain, ref_w, ref_rinv, val_main_v11]

/-- What the claim asks of the arguments: rows, weight, scale and cotangent are finite. -/
structure Finite : Prop where
  x : ∀ i, Reals.Fin1 (A.x i)
  g : ∀ i, Reals.Fin1 (A.g i)
  sc : ∀ i, Reals.Fin1 (A.sc i)
  dh : ∀ i, Reals.Fin1 (A.dh i)

theorem result_dx (h : Finite A) (i : S16384x1024.Idx) : val_main_v50 (F := Ideal) A.x A.g A.sc A.dh A.pass i = dx A (i 0) (i 1) := by
  idx_vars i
  rw [ref_dx]
  obtain ⟨e, he, hl⟩ := Reals.lit_eps
  have hw : ∀ k : Fin 1024, Reals.Fin1 (dn A i0 k * A.g (ix1 k)) := fun k => ((h.dh _).mul (Reals.Fin1.one.add (h.sc _))).mul (h.g _)
  have key := Reals.rms_grad (fun k : Fin 1024 => h.x (ix2 i0 k)) hw (c := 1024) (e := e) (by norm_num) he i1
  rw [← hl, ← Reals.lit_1024] at key
  exact congrArg (A.pass (ix2 i0 i1) + ·) key.symm

end Cert.NormGradIdeal.Grad

end
-- ==== Proof.Norm.lean ====
/- Kernel and reference compute the same five gradients of the modulated norm. -/
module

public import proofs.«01_k».proof.Defs
public import proofs.«01_k».proof.Proof.NormKernel
public import proofs.«01_k».proof.Proof.NormRef
public import proofs.«01_k».proof.Proof.Gen.NormGradIdeal.Run
public import proofs.«01_k».proof.Proof.Gen.Pre_norm_finite

@[expose] public section

noncomputable section

open Idealize.ShloMosaic Idealize.ShloMosaic.TcCoe Idealize.SL.Sem

namespace Cert.Norm

open Cert.NormBwdIdeal.Grad Cert.NormGradIdeal.Grad

/-- The precondition says that the rows, the weight, the scale and the cotangent are finite. -/
theorem finite (m : (ℓ : Loc Cert.NormBwdIdeal.nD Cert.NormBwdIdeal.τ Cert.NormBwdIdeal.sig) → Buf (Elt Ideal) ℓ)
    (hp : Cert.Pre_NormBwdIdeal_norm_finite m) (c : Dev Cert.NormBwdIdeal.nD) : Finite (args m c) := by
  obtain ⟨h0, h1, h2, h3⟩ := hp c
  exact ⟨fun i => Reals.fin1_of_lt (congrFun h0 i), fun i => Reals.fin1_of_lt (congrFun h1 i), fun i => Reals.fin1_of_lt (congrFun h2 i),
    fun i => Reals.fin1_of_lt (congrFun h3 i)⟩

/-- The reference terminates, keeps its arguments and uses no semaphore. -/
theorem frame_ref : Cert.quiescent_NormGradIdeal := fun m ρ _ =>
  (θ_run Cert.NormGradIdeal.defs _ _).mono (fun r h => ⟨fun c => (h c).2.2.2.2.2, sem_eq_zero_of_no_sems (by decide) r.2⟩)
    (Cert.NormGradIdeal.Value.run (F := Ideal) m ρ)

/-- The value claim. -/
theorem algebraic : Cert.algebraic_NormBwdIdeal_NormGradIdeal_pre_norm_finite := fun m g m' g' hp hag =>
  ⟨fun c j => dx (args m c) (j 0) (j 1), fun c j => dx (args m c) (j 0) (j 1), fun c j => dg (args m c) (j 1),
    fun c j => dsh (args m c) (j 1), fun c j => dsc (args m c) (j 1),
    (θ_run _ _ _).mono (fun _ h c => ⟨(h c).1.trans (final_dx m c), (h c).2.1.trans (final_dxb m c), (h c).2.2.1.trans (final_dg m c),
      (h c).2.2.2.1.trans (final_dsh m c), (h c).2.2.2.2.1.trans (final_dsc m c), (h c).2.2.2.2.2⟩) (Cert.NormBwdIdeal.Value.run_blocks m g),
    (θ_run _ _ _).mono (fun _ h c => by
      obtain ⟨a0, a1, _, a3, a4, a5⟩ := hag c
      refine ⟨(h c).1.trans ?_, (h c).2.1.trans ?_, (h c).2.2.1.trans ?_, (h c).2.2.2.1.trans ?_, (h c).2.2.2.2.1.trans ?_, (h c).2.2.2.2.2⟩
      · unfold Cert.NormGradIdeal.Value.res_main_v50; rw [a0, a1, a3, a4, a5]; exact funext (result_dx (args m c) (finite m hp c))
      · unfold Cert.NormGradIdeal.Value.res_main_v51; rw [a0, a1, a3, a4, a5]; exact funext (result_dx (args m c) (finite m hp c))
      · rw [a0, a3, a4]; exact funext (result_dg (args m c))
      · rw [a4]; exact funext (result_dsh (args m c))
      · rw [a0, a1, a4]; exact funext (result_dsc (args m c)))
      (Cert.NormGradIdeal.Value.run m' g')⟩

end Cert.Norm

end
-- ==== Proof.GateNormSpec.lean ====
/- The gradient of the gate by silu with the grouped norm behind it, as plain sums: what both programs are shown to compute. -/
module

public import proofs.«01_k».proof.Proof.Reals

@[expose] public section

noncomputable section

open Idealize.ShloMosaic

namespace Cert.GateNorm

/-- The arguments: the scan's output, the gate, the norm's weight and the cotangent. -/
structure Args where
  y : Shape.Idx ⟨2, ![16384, 2048]⟩ → EReal
  z : Shape.Idx ⟨2, ![16384, 2048]⟩ → EReal
  g : Shape.Idx ⟨1, ![2048]⟩ → EReal
  d : Shape.Idx ⟨2, ![16384, 2048]⟩ → EReal

variable (A : Args)

/-- The norm's epsilon and the width of a group, the numbers that their single-precision words are. -/
abbrev eps : EReal := Ideal.ofBits .f32 0x3727C5AC#32
abbrev width : EReal := Ideal.ofBits .f32 0x44000000#32

/-- Column `k` of group `q`, and a column's group and place in it. -/
def col (q : Fin 4) (k : Fin 512) : Fin 2048 := ⟨q.val * 512 + k.val, by omega⟩
def grp (j : Fin 2048) : Fin 4 := ⟨j.val / 512, by omega⟩
def pos (j : Fin 2048) : Fin 512 := ⟨j.val % 512, by omega⟩

theorem col_grp_pos (j : Fin 2048) : col (grp j) (pos j) = j := Fin.ext (by show j.val / 512 * 512 + j.val % 512 = j.val; omega)

/-- The gate's sigmoid, and the gated row. -/
def sg (r : Fin 16384) (j : Fin 2048) : EReal := Ideal.logistic (A.z (ix2 r j))
def gated (r : Fin 16384) (j : Fin 2048) : EReal := A.y (ix2 r j) * (A.z (ix2 r j) * sg A r j)

/-- One over the root mean square of a group of a gated row, and the normed row. -/
def rinv (r : Fin 16384) (q : Fin 4) : EReal := Ideal.rsqrt (Reals.ms (fun k : Fin 512 => gated A r (col q k)) width eps)
def yhat (r : Fin 16384) (q : Fin 4) (k : Fin 512) : EReal := gated A r (col q k) * rinv A r q

/-- The cotangent of the normed row. -/
def w (r : Fin 16384) (q : Fin 4) (k : Fin 512) : EReal := A.d (ix2 r (col q k)) * A.g (ix1 (col q k))

/-- The gradient of the gated row. -/
def dgated (r : Fin 16384) (q : Fin 4) (k : Fin 512) : EReal :=
  rinv A r q * (w A r q k - yhat A r q k * Ideal.div (∑ k : Fin 512, w A r q k * yhat A r q k) width)

/-- The gradients of the scan's output and of the gate, and the norm's weight's. -/
def dyAt (r : Fin 16384) (q : Fin 4) (k : Fin 512) : EReal := dgated A r q k * (A.z (ix2 r (col q k)) * sg A r (col q k))
def dzAt (r : Fin 16384) (q : Fin 4) (k : Fin 512) : EReal :=
  dgated A r q k * A.y (ix2 r (col q k)) * (sg A r (col q k) * (1 + A.z (ix2 r (col q k)) * (1 - sg A r (col q k))))
def gTerm (r : Fin 16384) (q : Fin 4) (k : Fin 512) : EReal := A.d (ix2 r (col q k)) * yhat A r q k

def dy (r : Fin 16384) (j : Fin 2048) : EReal := dyAt A r (grp j) (pos j)
def dz (r : Fin 16384) (j : Fin 2048) : EReal := dzAt A r (grp j) (pos j)
def dg (j : Fin 2048) : EReal := ∑ r : Fin 16384, gTerm A r (grp j) (pos j)

end Cert.GateNorm

end
-- ==== Proof.Blocks.lean ====
/- Loads of a part of a block. -/
module

public import Idealize.ShloMosaic.Lib.Pipeline.ValueKit
public import Idealize.ShloMosaic.Lib.Pipeline.ReadBack

@[expose] public section

noncomputable section

open Idealize.ShloMosaic

namespace Cert.Blocks

/-- Two indices of a matrix with the same coordinates are equal. -/
theorem idx2_ext {n k : Nat} {x y : Shape.Idx ⟨2, ![n, k]⟩} (h0 : (x 0).val = (y 0).val) (h1 : (x 1).val = (y 1).val) : x = y :=
  funext fun a => Fin.ext (by fin_cases a; exacts [h0, h1])

/-- A load of a rectangle reads the array at the rectangle's coordinates. -/
theorem ld_eq {s : Shape} {e : EltTy} (v : s.Idx → Elt Ideal e) (r : Rect s) (x : r.shape.Idx) (y : s.Idx) (h : r.emb x = y) :
    View.ld v r x = v y := by rw [← h]; rfl

/-- A load of some columns of a matrix, at an index. -/
theorem ld_cols {a b a' b' o : Nat} {e : EltTy} (v : Shape.Idx ⟨2, ![a, b]⟩ → Elt Ideal e) (h) (i : Fin a') (k : Fin b') (i' : Fin a) (k' : Fin b)
    (hi : i'.val = i.val) (hk : k'.val = o + k.val) :
    View.ld v (Rect.unit (s := ⟨2, ![a, b]⟩) ![0, o] ![a', b'] h) (ix2 i k) = v (ix2 i' k') :=
  ld_eq _ _ _ _ (idx2_ext (by simp [Rect.emb_apply, hi]) (by simp [Rect.emb_apply, hk]))

/-- Four stores that are blocks of `G` and cover `y` leave `G y` there, over an earlier store. -/
theorem canon_four {Val : EltTy → Type} [∀ e, Nonempty (Val e)] {s : Shape} {e : EltTy} (G : s.Idx → Val e) (p3 p2 p1 p0 pf : View.Piece Val s e) (y : s.Idx)
    (h3 : ∀ x, p3.2 x = G (p3.1.emb x)) (h2 : ∀ x, p2.2 x = G (p2.1.emb x)) (h1 : ∀ x, p1.2 x = G (p1.1.emb x)) (h0 : ∀ x, p0.2 x = G (p0.1.emb x))
    (hc : y ∈ p3.1.set ∨ y ∈ p2.1.set ∨ y ∈ p1.1.set ∨ y ∈ p0.1.set) : View.canon [p3, p2, p1, p0, pf] y = G y := by
  refine View.canon_append_of_piecesOf G [pf] [p3, p2, p1, p0] ⟨h3, h2, h1, h0, trivial⟩ y ?_
  rcases hc with h | h | h | h
  exacts [⟨p3, by simp, h⟩, ⟨p2, by simp, h⟩, ⟨p1, by simp, h⟩, ⟨p0, by simp, h⟩]

end Cert.Blocks

end
-- ==== Proof.GateNormKernel.lean ====
/- What the kernel's three result arrays hold: the gradient of the gated, grouped norm (`Cert.GateNorm`). -/
module

public import proofs.«01_k».proof.Proof.GateNormSpec
public import proofs.«01_k».proof.Proof.Blocks
public import proofs.«01_k».proof.Proof.Gen.GateNormBwdIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GateNormBwdIdeal.Grad

open Cert.GateNormBwdIdeal Cert.GateNormBwdIdeal.Gen Cert.GateNorm Cert.Blocks

variable (m : (ℓ : Loc nD τ sig) → Buf (Elt Ideal) ℓ)

/-- The arguments, as the kernel's memory holds them at launch. -/
abbrev args (c : Dev nD) : Args :=
  ⟨m ((c : Thread nD τ).loc main_arg0), m ((c : Thread nD τ).loc main_arg1), m ((c : Thread nD τ).loc main_arg2), m ((c : Thread nD τ).loc main_arg3)⟩

/-- Which block each window takes at each point. -/
theorem idx_val : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem t_lt (t : Fin cfg0.N) : t.val < 64 := lt_of_lt_of_eq t.isLt N_0

/-- Row `i` of the block of point `t`. -/
abbrev row (t : Fin cfg0.N) (i : Fin 256) : Fin 16384 := ⟨t.val * 256 + i.val, by have := t_lt t; omega⟩

/-! ## One group of columns -/

/-- A block of a group holds the arguments' rows `R` at group `q`. -/
structure Holds (A : Args) (R : Fin 256 → Fin 16384) (q : Fin 4) (z y d : Vec Ideal S256x512 .f32) (g : Vec Ideal S1x512 .f32) : Prop where
  z : ∀ i k, z (ix2 i k) = A.z (ix2 (R i) (col q k))
  y : ∀ i k, y (ix2 i k) = A.y (ix2 (R i) (col q k))
  d : ∀ i k, d (ix2 i k) = A.d (ix2 (R i) (col q k))
  g : ∀ k, g (ix2 0 k) = A.g (ix1 (col q k))

section
variable {A : Args} {R : Fin 256 → Fin 16384} {q : Fin 4} {z y d : Vec Ideal S256x512 .f32} {g : Vec Ideal S1x512 .f32} (H : Holds A R q z y d g)
include H

theorem gated_at (i : Fin 256) (k : Fin 512) : k0_pay5 (F := Ideal) z y (ix2 i k) = gated A (R i) (col q k) := by
  pointwise [k0_pay5, k0_pay4, k0_pay3, H.z, H.y, gated, sg]

theorem rinv_at (i : Fin 256) (p : Fin 1) : k0_pay6 (F := Ideal) z y (ix2 i p) = rinv A (R i) q := by
  pointwise [k0_pay6, gated_at H, rinv, Reals.ms]

theorem yhat_at (i : Fin 256) (k : Fin 512) : k0_pay7 (F := Ideal) z y (ix2 i k) = yhat A (R i) q k := by
  pointwise [k0_pay7, gated_at H, rinv_at H, yhat]

theorem w_at (i : Fin 256) (k : Fin 512) : k0_pay9 (F := Ideal) d g (ix2 i k) = w A (R i) q k := by
  pointwise [k0_pay9, H.d, H.g, w]

theorem dgated_at (i : Fin 256) (k : Fin 512) :
    k0_pay11 (F := Ideal) (k0_pay6 z y) (k0_pay9 d g) (k0_pay10 z y d g) (ix2 i k) = dgated A (R i) q k := by
  pointwise [k0_pay11, k0_pay10, yhat_at H, rinv_at H, w_at H, dgated]

theorem dy_at (i : Fin 256) (k : Fin 512) :
    k0_pay12 (F := Ideal) (k0_pay4 z) (k0_pay6 z y) (k0_pay9 d g) (k0_pay10 z y d g) (ix2 i k) = dyAt A (R i) q k := by
  pointwise [k0_pay12, k0_pay4, k0_pay3, dgated_at H, H.z, dyAt, sg]

theorem dz_at (i : Fin 256) (k : Fin 512) :
    k0_pay13 (F := Ideal) z y (k0_pay3 z) (k0_pay6 z y) (k0_pay9 d g) (k0_pay10 z y d g) (ix2 i k) = dzAt A (R i) q k := by
  pointwise [k0_pay13, k0_pay3, dgated_at H, H.z, H.y, dzAt, sg]

theorem g_step (acc : Vec Ideal S1x512 .f32) (p : Fin 1) (k : Fin 512) :
    k0_pay8 (F := Ideal) z y d acc (ix2 p k) = acc (ix2 p k) + ∑ i : Fin 256, gTerm A (R i) q k := by
  pointwise [k0_pay8, yhat_at H, H.d, gTerm]

end

/-! ## The blocks of a point -/

/-- The loads of a point at the columns of group `q`. -/
theorem holds (c : Dev nD) (t : Fin cfg0.N) (q : Fin 4) {o : Nat} (ho : o = q.val * 512) (h1 h0 h2 h3) :
    Holds (args m c) (row t) q (View.ld (iblk m c 1 t) (Rect.unit ![0, o] ![256, 512] h1)) (View.ld (iblk m c 0 t) (Rect.unit ![0, o] ![256, 512] h0))
      (View.ld (iblk m c 2 t) (Rect.unit ![0, o] ![256, 512] h2)) (View.ld (iblk m c 3 t) (Rect.unit ![0, o] ![1, 512] h3)) where
  z i k := (ld_cols _ _ i k i (col q k) rfl (by rw [ho]; rfl)).trans (by blk_point [iblk, V, idx_val t])
  y i k := (ld_cols _ _ i k i (col q k) rfl (by rw [ho]; rfl)).trans (by blk_point [iblk, V, idx_val t])
  d i k := (ld_cols _ _ i k i (col q k) rfl (by rw [ho]; rfl)).trans (by blk_point [iblk, V, idx_val t])
  g k := (ld_cols _ _ 0 k 0 (col q k) rfl (by rw [ho]; rfl)).trans (by blk_point [iblk, V, idx_val t])

/-- Column `y` is the group's `x`-th. -/
theorem at_col {f : Fin 16384 → Fin 4 → Fin 512 → EReal} {r r' : Fin 16384} {q : Fin 4} {k : Fin 512} {j : Fin 2048} (hr : r = r') (h : j.val = q.val * 512 + k.val) :
    f r q k = f r' (grp j) (pos j) := by
  obtain rfl : q = grp j := Fin.ext (by show q.val = j.val / 512; omega)
  obtain rfl : k = pos j := Fin.ext (by show k.val = j.val % 512; omega)
  rw [hr]

theorem dy_tile (c : Dev nD) (t : Fin cfg0.N) (q : Fin 4) (x : S256x512.Idx) (y : S256x2048.Idx) {o : Nat} (ho : o = q.val * 512) (h1 h0 h2 h3)
    (e0 : (y 0).val = (x 0).val) (e1 : (y 1).val = o + (x 1).val) :
    k0_pay12 (F := Ideal) (k0_pay4 (View.ld (iblk m c 1 t) (Rect.unit ![0, o] ![256, 512] h1)))
      (k0_pay6 (View.ld (iblk m c 1 t) (Rect.unit ![0, o] ![256, 512] h1)) (View.ld (iblk m c 0 t) (Rect.unit ![0, o] ![256, 512] h0)))
      (k0_pay9 (View.ld (iblk m c 2 t) (Rect.unit ![0, o] ![256, 512] h2)) (View.ld (iblk m c 3 t) (Rect.unit ![0, o] ![1, 512] h3)))
      (k0_pay10 (View.ld (iblk m c 1 t) (Rect.unit ![0, o] ![256, 512] h1)) (View.ld (iblk m c 0 t) (Rect.unit ![0, o] ![256, 512] h0))
        (View.ld (iblk m c 2 t) (Rect.unit ![0, o] ![256, 512] h2)) (View.ld (iblk m c 3 t) (Rect.unit ![0, o] ![1, 512] h3))) x
      = dy (args m c) (row t (y 0)) (y 1) := by
  idx_vars x
  exact (dy_at (holds m c t q ho h1 h0 h2 h3) _ _).trans (at_col (f := dyAt (args m c)) (Fin.ext (congrArg (t.val * 256 + ·) e0.symm)) (ho ▸ e1))

theorem dz_tile (c : Dev nD) (t : Fin cfg0.N) (q : Fin 4) (x : S256x512.Idx) (y : S256x2048.Idx) {o : Nat} (ho : o = q.val * 512) (h1 h0 h2 h3)
    (e0 : (y 0).val = (x 0).val) (e1 : (y 1).val = o + (x 1).val) :
    k0_pay13 (F := Ideal) (View.ld (iblk m c 1 t) (Rect.unit ![0, o] ![256, 512] h1)) (View.ld (iblk m c 0 t) (Rect.unit ![0, o] ![256, 512] h0))
      (k0_pay3 (View.ld (iblk m c 1 t) (Rect.unit ![0, o] ![256, 512] h1)))
      (k0_pay6 (View.ld (iblk m c 1 t) (Rect.unit ![0, o] ![256, 512] h1)) (View.ld (iblk m c 0 t) (Rect.unit ![0, o] ![256, 512] h0)))
      (k0_pay9 (View.ld (iblk m c 2 t) (Rect.unit ![0, o] ![256, 512] h2)) (View.ld (iblk m c 3 t) (Rect.unit ![0, o] ![1, 512] h3)))
      (k0_pay10 (View.ld (iblk m c 1 t) (Rect.unit ![0, o] ![256, 512] h1)) (View.ld (iblk m c 0 t) (Rect.unit ![0, o] ![256, 512] h0))
        (View.ld (iblk m c 2 t) (Rect.unit ![0, o] ![256, 512] h2)) (View.ld (iblk m c 3 t) (Rect.unit ![0, o] ![1, 512] h3))) x
      = dz (args m c) (row t (y 0)) (y 1) := by
  idx_vars x
  exact (dz_at (holds m c t q ho h1 h0 h2 h3) _ _).trans (at_col (f := dzAt (args m c)) (Fin.ext (congrArg (t.val * 256 + ·) e0.symm)) (ho ▸ e1))

/-- Point `t` writes both gradients of its rows. -/
theorem dy_point (c : Dev nD) (t : Fin cfg0.N) (y : S256x2048.Idx) :
    (outsAt0 m c t.val t.isLt).1 y = dy (args m c) (row t (y 0)) (y 1) := by
  by_cases h : t.val % 64 = 0
  · rw [outsAt0_A m c t h]; frame_out
    canon_tiles x h
    · exact dy_tile m c t 3 x y rfl _ _ _ _ h0 h1
    · exact dy_tile m c t 2 x y rfl _ _ _ _ h0 h1
    · exact dy_tile m c t 1 x y rfl _ _ _ _ h0 h1
    · exact dy_tile m c t 0 x y rfl _ _ _ _ h0 (h1.trans (Nat.zero_add _).symm)
  · rw [outsAt0_B m c t h]; frame_out
    canon_tiles x h
    · exact dy_tile m c t 3 x y rfl _ _ _ _ h0 h1
    · exact dy_tile m c t 2 x y rfl _ _ _ _ h0 h1
    · exact dy_tile m c t 1 x y rfl _ _ _ _ h0 h1
    · exact dy_tile m c t 0 x y rfl _ _ _ _ h0 (h1.trans (Nat.zero_add _).symm)

theorem dz_point (c : Dev nD) (t : Fin cfg0.N) (y : S256x2048.Idx) :
    (outsAt0 m c t.val t.isLt).2.1 y = dz (args m c) (row t (y 0)) (y 1) := by
  by_cases h : t.val % 64 = 0
  · rw [outsAt0_A m c t h]; frame_out
    canon_tiles x h
    · exact dz_tile m c t 3 x y rfl _ _ _ _ h0 h1
    · exact dz_tile m c t 2 x y rfl _ _ _ _ h0 h1
    · exact dz_tile m c t 1 x y rfl _ _ _ _ h0 h1
    · exact dz_tile m c t 0 x y rfl _ _ _ _ h0 (h1.trans (Nat.zero_add _).symm)
  · rw [outsAt0_B m c t h]; frame_out
    canon_tiles x h
    · exact dz_tile m c t 3 x y rfl _ _ _ _ h0 h1
    · exact dz_tile m c t 2 x y rfl _ _ _ _ h0 h1
    · exact dz_tile m c t 1 x y rfl _ _ _ _ h0 h1
    · exact dz_tile m c t 0 x y rfl _ _ _ _ h0 (h1.trans (Nat.zero_add _).symm)

/-- What the weight's accumulator gains at a point, at one group's columns. -/
theorem g_tile (c : Dev nD) (t : Fin cfg0.N) (q : Fin 4) (acc : Vec Ideal S1x512 .f32) (x : S1x512.Idx) (y : S1x2048.Idx) {o : Nat} (ho : o = q.val * 512) (h1 h0 h2)
    (e1 : (y 1).val = o + (x 1).val) :
    k0_pay8 (F := Ideal) (View.ld (iblk m c 1 t) (Rect.unit ![0, o] ![256, 512] h1)) (View.ld (iblk m c 0 t) (Rect.unit ![0, o] ![256, 512] h0))
      (View.ld (iblk m c 2 t) (Rect.unit ![0, o] ![256, 512] h2)) acc x
      = acc x + ∑ i : Fin 256, gTerm (args m c) (row t i) (grp (y 1)) (pos (y 1)) := by
  idx_vars x
  refine (g_step (holds m c t q ho h1 h0 h2 (by subst ho; exact (by decide : ∀ q : Fin 4, ∀ a : Fin 2, (![0, q.val * 512] : Fin 2 → Nat) a + (![1, 512] : Fin 2 → Nat) a ≤ (![1, 2048] : Fin 2 → Nat) a) q)) acc _ _).trans (congrArg (acc _ + ·) (Finset.sum_congr rfl fun i _ => ?_))
  exact at_col (f := gTerm (args m c)) rfl (ho ▸ e1)

theorem g_next (c : Dev nD) (t : Fin cfg0.N) (h : ¬ t.val % 64 = 0) (y : S1x2048.Idx) :
    (outsAt0 m c t.val t.isLt).2.2 y = (outsAt0 m c (t.val - 1) (Nat.lt_of_le_of_lt (Nat.sub_le _ _) t.isLt)).2.2 y
      + ∑ i : Fin 256, gTerm (args m c) (row t i) (grp (y 1)) (pos (y 1)) := by
  rw [outsAt0_B m c t h]; frame_out
  canon_tiles x h
  · refine (g_tile m c t 3 _ x y rfl _ _ _ h1).trans (congrArg (· + _) (ld_eq _ _ _ y (idx2_ext ?_ ?_))) <;> simp [Rect.emb_apply, h0, h1]
  · refine (g_tile m c t 2 _ x y rfl _ _ _ h1).trans (congrArg (· + _) (ld_eq _ _ _ y (idx2_ext ?_ ?_))) <;> simp [Rect.emb_apply, h0, h1]
  · refine (g_tile m c t 1 _ x y rfl _ _ _ h1).trans (congrArg (· + _) (ld_eq _ _ _ y (idx2_ext ?_ ?_))) <;> simp [Rect.emb_apply, h0, h1]
  · refine (g_tile m c t 0 _ x y rfl _ _ _ (h1.trans (Nat.zero_add _).symm)).trans (congrArg (· + _) (ld_eq _ _ _ y (idx2_ext ?_ ?_))) <;> simp [Rect.emb_apply, h0, h1]

theorem fill_zero : (k0_pay2 (F := Ideal)) = fun _ => (0 : EReal) := by
  funext x
  pointwise [k0_pay2]

theorem g_first (c : Dev nD) (t : Fin cfg0.N) (h : t.val % 64 = 0) (y : S1x2048.Idx) :
    (outsAt0 m c t.val t.isLt).2.2 y = (0 : EReal) + ∑ i : Fin 256, gTerm (args m c) (row t i) (grp (y 1)) (pos (y 1)) := by
  rw [outsAt0_A m c t h]; frame_out
  refine (canon_four (Val := Elt Ideal) (e := .f32) (s := S1x2048) ?G _ _ _ _ _ y ?_ ?_ ?_ ?_ ?_).trans ?_
  case G => exact fun y => ((0 : EReal) + ∑ i : Fin 256, gTerm (args m c) (row t i) (grp (y 1)) (pos (y 1)) : EReal)
  · intro x
    refine (g_tile m c t 3 _ x _ rfl _ _ _ (by simp [Rect.emb_apply])).trans (congrArg (· + _) ?_)
    rw [View.readCov_skip (h := by decide +kernel), View.readCov_skip (h := by decide +kernel), View.readCov_skip (h := by decide +kernel), View.readCov_fill (h := by decide), fill_zero]
  · intro x
    refine (g_tile m c t 2 _ x _ rfl _ _ _ (by simp [Rect.emb_apply])).trans (congrArg (· + _) ?_)
    rw [View.readCov_skip (h := by decide +kernel), View.readCov_skip (h := by decide +kernel), View.readCov_fill (h := by decide), fill_zero]
  · intro x
    refine (g_tile m c t 1 _ x _ rfl _ _ _ (by simp [Rect.emb_apply])).trans (congrArg (· + _) ?_)
    rw [View.readCov_skip (h := by decide +kernel), View.readCov_fill (h := by decide), fill_zero]
  · intro x
    refine (g_tile m c t 0 _ x _ rfl _ _ _ (by simp [Rect.emb_apply])).trans (congrArg (· + _) ?_)
    rw [View.readCov_fill (h := by decide), fill_zero]
  · have h0 := (y 0).isLt
    have h1 : (y 1).val < 2048 := (y 1).isLt
    have hin : ∀ {o : Nat} (inb), o ≤ (y 1).val → (y 1).val < o + 512 → y ∈ (Rect.unit (s := S1x2048) ![0, o] ![1, 512] inb).set := fun inb h h' =>
      (Rect.mem_set_unit (inb := inb)).2 (Fin.forall_fin_two.2 ⟨⟨Nat.zero_le _, h0⟩, h, h'⟩)
    by_cases c1 : (y 1).val < 512
    · exact .inr (.inr (.inr (hin (by decide) (Nat.zero_le _) (by omega))))
    by_cases c2 : (y 1).val < 1024
    · exact .inr (.inr (.inl (hin (by decide) (by omega) (by omega))))
    by_cases c3 : (y 1).val < 1536
    · exact .inr (.inl (hin (by decide) (by omega) (by omega)))
    · exact .inl (hin (by decide) (by omega) (by omega))
  · rfl

/-- The three arrays of the program's end. -/
theorem final_dy (c : Dev nD) : (dats m 0 c).arrAt 4 cfg0.N = fun j => dy (args m c) (j 0) (j 1) := by
  refine (dats m 0 c).arrAt_eq_of_covers 4 (fun j => dy (args m c) (j 0) (j 1)) (by decide +kernel) fun t _ y => ?_
  blk_simp
  rw [after0_4, dy_point]
  refine congrArg₂ (dy (args m c)) (Fin.ext ?_) (Fin.ext ?_)
  · blk_point [idx_val t]
  · blk_point [idx_val t]

theorem final_dz (c : Dev nD) : (dats m 0 c).arrAt 5 cfg0.N = fun j => dz (args m c) (j 0) (j 1) := by
  refine (dats m 0 c).arrAt_eq_of_covers 5 (fun j => dz (args m c) (j 0) (j 1)) (by decide +kernel) fun t _ y => ?_
  blk_simp
  rw [after0_5, dz_point]
  refine congrArg₂ (dz (args m c)) (Fin.ext ?_) (Fin.ext ?_)
  · blk_point [idx_val t]
  · blk_point [idx_val t]

theorem final_dg (c : Dev nD) : (dats m 0 c).arrAt 6 cfg0.N = fun j => dg (args m c) (j 1) := by
  refine (dats m 0 c).arrAt_eq_of_covers 6 (fun j => dg (args m c) (j 1)) (by decide +kernel) fun t hf y => ?_
  blk_simp
  rw [after0_6, Pipeline.eq_sum_fin_of_reset_step_apply_of_flush (fun n h => (outsAt0 m c n h).2.2) 64 (fun _ => 0) _
    (fun t h j => g_first m c t h j) (fun t h j => g_next m c t h j) t ((flush0_6 t).mp hf) _, zero_add]
  refine Fin.sum_mul_add_congr fun s k hl => ?_
  refine congrArg₂ (fun r j => gTerm (args m c) r (grp j) (pos j)) (Fin.ext ?_) (Fin.ext ?_)
  · have := t_lt t
    show (64 * (t.val / 64) + s.val) * 256 + k.val = s.val * 256 + k.val
    omega
  · blk_point [idx_val t]

end Cert.GateNormBwdIdeal.Grad

end
-- ==== Proof.GateNormRef.lean ====
/- What the reference's three results hold: the gradient of the gated, grouped norm (`Cert.GateNorm`). -/
module

public import proofs.«01_k».proof.Proof.GateNormSpec
public import proofs.«01_k».proof.Proof.Gen.GateNormGradIdeal.Read

@[expose] public section

set_option maxRecDepth 16384

noncomputable section

open Idealize.ShloMosaic Idealize.ShloMosaic.TcCoe Idealize.SL.Sem

namespace Cert.GateNormGradIdeal.Grad

open Cert.GateNormGradIdeal Cert.GateNormGradIdeal.Read Cert.GateNorm

variable (A : Args)

theorem ref_sg (r : Fin 16384) (j : Fin 2048) : val_main_v0_2 (F := Ideal) A.z (ix2 r j) = sg A r j := by
  pointwise [val_main_v0_2, val_main_call0_v4, val_main_call0_v3, val_main_call0_v2, val_main_call0_v1, val_main_call0_v0, val_main_call0_cst, val_main_call0_cst_0, sg]
  rfl

theorem ref_gated (r : Fin 16384) (j : Fin 2048) : val_main_v1 (F := Ideal) A.y A.z (ix2 r j) = gated A r j := by
  pointwise [val_main_v1, val_main_v0_0, ref_sg, gated]

theorem ref_group (r : Fin 16384) (q : Fin 4) (k : Fin 512) : val_main_v2 (F := Ideal) A.y A.z (ix3 r q k) = gated A r (col q k) := by
  pointwise [val_main_v2]
  exact ref_gated A r (col q k)

theorem ref_ms (r : Fin 16384) (q : Fin 4) (p : Fin 1) :
    val_main_v9 (F := Ideal) A.y A.z (ix3 r q p) = Reals.ms (fun k : Fin 512 => gated A r (col q k)) width eps := by
  pointwise [val_main_v9, val_main_v8, val_main_v7, val_main_v6, val_main_v5, val_main_v4, val_main_v3, ref_group, val_main_cst, val_main_cst_0, val_main_cst_1, Reals.ms]

theorem ref_rinv (r : Fin 16384) (q : Fin 4) (p : Fin 1) : val_main_v10 (F := Ideal) A.y A.z (ix3 r q p) = rinv A r q := by
  rw [val_main_v10_apply, ref_ms]; rfl

theorem ref_yhat (r : Fin 16384) (q : Fin 4) (k : Fin 512) : val_main_v15 (F := Ideal) A.y A.z (ix3 r q k) = yhat A r q k := by
  pointwise [val_main_v15, val_main_v14, ref_group, ref_rinv, yhat]

theorem ref_w (r : Fin 16384) (q : Fin 4) (k : Fin 512) : val_main_v26 (F := Ideal) A.g A.d (ix3 r q k) = w A r q k := by
  pointwise [val_main_v26, val_main_v24, val_main_v23, val_main_v17]
  rfl

/-- The scalar that the chain through the root multiplies the group by. -/
def chain (r : Fin 16384) (q : Fin 4) : EReal :=
  Ideal.div ((∑ k : Fin 512, gated A r (col q k) * w A r q k) * (((-1 / 2 : ℝ) : EReal)
    * Ideal.div (rinv A r q) (Reals.ms (fun k : Fin 512 => gated A r (col q k)) width eps))) width

theorem ref_chain (r : Fin 16384) (q : Fin 4) (k : Fin 512) : val_main_v36 (F := Ideal) A.y A.z A.g A.d (ix3 r q k) = chain A r q := by
  pointwise [val_main_v36, val_main_v35, val_main_v34, val_main_v33, val_main_v32, val_main_v29, val_main_v28, val_main_v27, ref_group, ref_w, val_main_v13, val_main_v12, val_main_v11, ref_ms, ref_rinv, chain, val_main_cst_2, val_main_cst_5, val_main_cst_6, val_main_cst_7]
  rw [Reals.lit_neg_half, Fin.sum_univ_one]

theorem ref_dgated (r : Fin 16384) (q : Fin 4) (k : Fin 512) : val_main_v40 (F := Ideal) A.y A.z A.g A.d (ix3 r q k)
    = w A r q k * rinv A r q + gated A r (col q k) * chain A r q + chain A r q * gated A r (col q k) := by
  pointwise [val_main_v40, val_main_v39, val_main_v38, val_main_v37, val_main_v31, val_main_v30, ref_chain, ref_w, ref_rinv, ref_group]

/-- What the claim asks of the arguments: they are finite. -/
structure Finite : Prop where
  y : ∀ i, Reals.Fin1 (A.y i)
  z : ∀ i, Reals.Fin1 (A.z i)
  g : ∀ i, Reals.Fin1 (A.g i)
  d : ∀ i, Reals.Fin1 (A.d i)

section
variable {A} (h : Finite A)
include h

theorem fin_sg (r : Fin 16384) (j : Fin 2048) : Reals.Fin1 (sg A r j) := by
  obtain ⟨z, hz⟩ := h.z (ix2 r j)
  rw [sg, hz, Ideal.logistic_coe]
  exact ⟨_, rfl⟩

theorem fin_gated (r : Fin 16384) (j : Fin 2048) : Reals.Fin1 (gated A r j) := (h.y _).mul ((h.z _).mul (fin_sg h r j))

theorem fin_w (r : Fin 16384) (q : Fin 4) (k : Fin 512) : Reals.Fin1 (w A r q k) := (h.d _).mul (h.g _)

theorem dgated_eq (r : Fin 16384) (q : Fin 4) (k : Fin 512) : val_main_v40 (F := Ideal) A.y A.z A.g A.d (ix3 r q k) = dgated A r q k := by
  rw [ref_dgated]
  obtain ⟨e, he, hl⟩ := Reals.lit_eps
  have key := Reals.rms_grad (fun k : Fin 512 => fin_gated h r (col q k)) (fin_w h r q) (c := 512) (e := e) (by norm_num) he k
  rw [← hl, ← Reals.lit_512] at key
  exact key.symm

theorem fin_dgated (r : Fin 16384) (q : Fin 4) (k : Fin 512) : Reals.Fin1 (dgated A r q k) := by
  obtain ⟨e, he, hl⟩ := Reals.lit_eps
  have hr : Reals.Fin1 (rinv A r q) := by
    have := Reals.Fin1.rsqrt_ms (fun k : Fin 512 => fin_gated h r (col q k)) (c := 512) (by norm_num) he
    rwa [← hl, ← Reals.lit_512] at this
  refine hr.mul ((fin_w h r q k).sub (((fin_gated h r _).mul hr).mul ?_))
  have := (Reals.Fin1.sum fun k : Fin 512 => (fin_w h r q k).mul ((fin_gated h r (col q k)).mul hr)).div (c := 512) (by norm_num)
  rwa [← Reals.lit_512] at this

theorem ref_dgated_flat (r : Fin 16384) (j : Fin 2048) : val_main_v41 (F := Ideal) A.y A.z A.g A.d (ix2 r j) = dgated A r (grp j) (pos j) := by
  pointwise [val_main_v41]
  exact dgated_eq h r (grp j) (pos j)

theorem result_dy (i : S16384x2048.Idx) : val_main_v43 (F := Ideal) A.y A.z A.g A.d i = dy A (i 0) (i 1) := by
  idx_vars i
  pointwise [val_main_v43, val_main_v0_0, ref_sg, ref_dgated_flat h, dy, dyAt, col_grp_pos]

theorem result_dz (i : S16384x2048.Idx) : val_main_v45 (F := Ideal) A.y A.z A.g A.d i = dz A (i 0) (i 1) := by
  idx_vars i
  pointwise [val_main_v45, val_main_v44, val_main_v42, val_main_call1_v0, val_main_call1_v1, val_main_call1_v2, val_main_v0_1, val_main_call0_v7, val_main_call0_v6, val_main_call0_cst_1, ref_sg, ref_dgated_flat h, dz, dzAt, col_grp_pos]
  obtain ⟨s, hs⟩ := fin_sg h i0 i1
  obtain ⟨y, hy⟩ := h.y (ix2 i0 i1)
  obtain ⟨z, hz⟩ := h.z (ix2 i0 i1)
  obtain ⟨u, hu⟩ := fin_dgated h i0 (grp i1) (pos i1)
  rw [hs, hy, hz, hu, ← EReal.coe_one]
  simp only [← EReal.coe_mul, ← EReal.coe_add, ← EReal.coe_sub]
  exact congrArg _ (by ring)

end

theorem result_dg (i : S1x2048.Idx) : val_main_v46 (F := Ideal) A.y A.z A.d i = dg A (i 1) := by
  idx_vars i
  pointwise [val_main_v46, val_main_v25, val_main_v22, val_main_v21, val_main_v20, val_main_v16, val_main_cst_3, val_main_cst_4, dg, gTerm, col_grp_pos]
  rw [Fin.sum_univ_one]
  refine Finset.sum_congr rfl fun r _ => ?_
  refine (mul_comm _ _).trans (congrArg (_ * ·) ?_)
  exact ref_yhat A r (grp i1) (pos i1)

end Cert.GateNormGradIdeal.Grad

end
-- ==== Proof.GateNorm.lean ====
/- Kernel and reference compute the same three gradients of the gated, grouped norm. -/
module

public import proofs.«01_k».proof.Defs
public import proofs.«01_k».proof.Proof.GateNormKernel
public import proofs.«01_k».proof.Proof.GateNormRef
public import proofs.«01_k».proof.Proof.Gen.GateNormGradIdeal.Run
public import proofs.«01_k».proof.Proof.Gen.Pre_gatenorm_finite

@[expose] public section

noncomputable section

open Idealize.ShloMosaic Idealize.ShloMosaic.TcCoe Idealize.SL.Sem

namespace Cert.GateNorm

open Cert.GateNormBwdIdeal.Grad Cert.GateNormGradIdeal.Grad

/-- The precondition says that the arguments are finite. -/
theorem finite (m : (ℓ : Loc Cert.GateNormBwdIdeal.nD Cert.GateNormBwdIdeal.τ Cert.GateNormBwdIdeal.sig) → Buf (Elt Ideal) ℓ)
    (hp : Cert.Pre_GateNormBwdIdeal_gatenorm_finite m) (c : Dev Cert.GateNormBwdIdeal.nD) : Finite (args m c) := by
  obtain ⟨h0, h1, h2, h3⟩ := hp c
  exact ⟨fun i => Reals.fin1_of_lt (congrFun h0 i), fun i => Reals.fin1_of_lt (congrFun h1 i), fun i => Reals.fin1_of_lt (congrFun h2 i),
    fun i => Reals.fin1_of_lt (congrFun h3 i)⟩

/-- The reference terminates, keeps its arguments and uses no semaphore. -/
theorem frame_ref : Cert.quiescent_GateNormGradIdeal := fun m ρ _ =>
  (θ_run Cert.GateNormGradIdeal.defs _ _).mono (fun r h => ⟨fun c => (h c).2.2.2, sem_eq_zero_of_no_sems (by decide) r.2⟩)
    (Cert.GateNormGradIdeal.Value.run (F := Ideal) m ρ)

/-- The arguments, as the reference's memory holds them at launch. -/
def rargs (m : (ℓ : Loc Cert.GateNormGradIdeal.nD Cert.GateNormGradIdeal.τ Cert.GateNormGradIdeal.sig) → Buf (Elt Ideal) ℓ) (c : Dev Cert.GateNormGradIdeal.nD) : Args :=
  ⟨m ((c : Thread Cert.GateNormGradIdeal.nD Cert.GateNormGradIdeal.τ).loc Cert.GateNormGradIdeal.main_arg0), m ((c : Thread Cert.GateNormGradIdeal.nD Cert.GateNormGradIdeal.τ).loc Cert.GateNormGradIdeal.main_arg1),
    m ((c : Thread Cert.GateNormGradIdeal.nD Cert.GateNormGradIdeal.τ).loc Cert.GateNormGradIdeal.main_arg2), m ((c : Thread Cert.GateNormGradIdeal.nD Cert.GateNormGradIdeal.τ).loc Cert.GateNormGradIdeal.main_arg3)⟩

/-- The value claim. -/
theorem algebraic : Cert.algebraic_GateNormBwdIdeal_GateNormGradIdeal_pre_gatenorm_finite := fun m g m' g' hp hag =>
  ⟨fun c j => dy (args m c) (j 0) (j 1), fun c j => dz (args m c) (j 0) (j 1), fun c j => dg (args m c) (j 1),
    (θ_run _ _ _).mono (fun _ h c => ⟨(h c).1.trans (final_dy m c), (h c).2.1.trans (final_dz m c), (h c).2.2.1.trans (final_dg m c), (h c).2.2.2⟩)
      (Cert.GateNormBwdIdeal.Value.run_blocks m g),
    (θ_run _ _ _).mono (fun _ h c => by
      obtain ⟨a0, a1, a2, a3⟩ := hag c
      have e : rargs m' c = args m c := by unfold rargs args; rw [a0, a1, a2, a3]
      have hf : Finite (rargs m' c) := e ▸ finite m hp c
      exact ⟨(h c).1.trans ((funext (result_dy hf)).trans (congrArg (fun (A : Args) (j : Shape.Idx ⟨2, ![16384, 2048]⟩) => dy A (j 0) (j 1)) e)),
        (h c).2.1.trans ((funext (result_dz hf)).trans (congrArg (fun (A : Args) (j : Shape.Idx ⟨2, ![16384, 2048]⟩) => dz A (j 0) (j 1)) e)),
        (h c).2.2.1.trans ((funext (result_dg (rargs m' c))).trans (congrArg (fun (A : Args) (j : Shape.Idx ⟨2, ![1, 2048]⟩) => dg A (j 1)) e)), (h c).2.2.2⟩)
      (Cert.GateNormGradIdeal.Value.run m' g')⟩

end Cert.GateNorm

end
-- ==== Proof.LossSpec.lean ====
/- The loss and the gradient of the last norm, as plain sums: what both programs are shown to compute. -/
module

public import proofs.«01_k».proof.Proof.Reals

@[expose] public section

noncomputable section

open Idealize.ShloMosaic

namespace Cert.Loss

/-- The arguments: the rows, the norm's weight and the targets. -/
structure Args where
  x : Shape.Idx ⟨2, ![16384, 1024]⟩ → EReal
  g : Shape.Idx ⟨1, ![1024]⟩ → EReal
  t : Shape.Idx ⟨2, ![16384, 1024]⟩ → EReal

variable (A : Args)

/-- The norm's epsilon, the width of a row, its inverse and half of that, the numbers that their single-precision words are. -/
abbrev eps : EReal := Ideal.ofBits .f32 0x3727C5AC#32
abbrev width : EReal := Ideal.ofBits .f32 0x44800000#32
abbrev inv : EReal := Ideal.ofBits .f32 0x3A800000#32
abbrev halfInv : EReal := Ideal.ofBits .f32 0x3A000000#32

/-- One over the root mean square of row `r`, the normed row, and the output's distance from its target. -/
def rinv (r : Fin 16384) : EReal := Ideal.rsqrt (Reals.ms (fun k : Fin 1024 => A.x (ix2 r k)) width eps)
def xhat (r : Fin 16384) (j : Fin 1024) : EReal := A.x (ix2 r j) * rinv A r
def err (r : Fin 16384) (j : Fin 1024) : EReal := xhat A r j * A.g (ix1 j) - A.t (ix2 r j)

/-- A row's share of the loss, and the loss. -/
def rowLoss (r : Fin 16384) : EReal := (∑ k : Fin 1024, err A r k * err A r k) * halfInv
def loss : EReal := ∑ r : Fin 16384, rowLoss A r

/-- The gradient of the output, and of the norm's weight. -/
def dy (r : Fin 16384) (j : Fin 1024) : EReal := err A r j * inv
def dg (j : Fin 1024) : EReal := ∑ r : Fin 16384, dy A r j * xhat A r j

/-- The gradient of the rows. -/
def dx (r : Fin 16384) (j : Fin 1024) : EReal :=
  rinv A r * (dy A r j * A.g (ix1 j) - xhat A r j * Ideal.div (∑ k : Fin 1024, dy A r k * A.g (ix1 k) * xhat A r k) width)

end Cert.Loss

end
-- ==== Proof.LossKernel.lean ====
/- What the kernel's four result arrays hold: the loss and the gradient of the last norm (`Cert.Loss`). -/
module

public import proofs.«01_k».proof.Proof.LossSpec
public import proofs.«01_k».proof.Proof.Gen.LossHeadIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossHeadIdeal.Grad

open Cert.LossHeadIdeal Cert.LossHeadIdeal.Gen Cert.Loss

variable (m : (ℓ : Loc nD τ sig) → Buf (Elt Ideal) ℓ)

/-- The arguments, as the kernel's memory holds them at launch. -/
abbrev args (c : Dev nD) : Args :=
  ⟨m ((c : Thread nD τ).loc main_arg0), m ((c : Thread nD τ).loc main_arg1), m ((c : Thread nD τ).loc main_arg2)⟩

/-- Which block each window takes at each point. -/
theorem idx_val : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

theorem t_lt (t : Fin cfg0.N) : t.val < 64 := lt_of_lt_of_eq t.isLt N_0

/-- Row `i` of the block of point `t`. -/
abbrev row (t : Fin cfg0.N) (i : Fin 256) : Fin 16384 := ⟨t.val * 256 + i.val, by have := t_lt t; omega⟩

theorem rinv_at (c : Dev nD) (t : Fin cfg0.N) (i : Fin 256) (p : Fin 1) : k0_pay6 (F := Ideal) (iblk m c 0 t) (ix2 i p) = rinv (args m c) (row t i) := by
  pointwise [k0_pay6, rinv, Reals.ms]
  blk_point [iblk, V, idx_val t]

theorem xhat_at (c : Dev nD) (t : Fin cfg0.N) (i : Fin 256) (j : Fin 1024) :
    k0_pay7 (F := Ideal) (iblk m c 0 t) (ix2 i j) = xhat (args m c) (row t i) j := by
  pointwise [k0_pay7, xhat, rinv_at]
  blk_point [iblk, V, idx_val t]

theorem g_at (c : Dev nD) (t : Fin cfg0.N) (p : Fin 1) (j : Fin 1024) : k0_pay8 (F := Ideal) (iblk m c 2 t) (ix2 p j) = (args m c).g (ix1 j) := by
  pointwise [k0_pay8]
  blk_point [iblk, V, idx_val t]

theorem err_at (c : Dev nD) (t : Fin cfg0.N) (i : Fin 256) (j : Fin 1024) :
    k0_pay9 (F := Ideal) (iblk m c 0 t) (iblk m c 2 t) (iblk m c 1 t) (ix2 i j) = err (args m c) (row t i) j := by
  pointwise [k0_pay9, err, xhat_at, g_at]
  blk_point [iblk, V, idx_val t]

theorem dy_at (c : Dev nD) (t : Fin cfg0.N) (i : Fin 256) (j : Fin 1024) :
    k0_pay11 (F := Ideal) (iblk m c 0 t) (iblk m c 2 t) (iblk m c 1 t) (ix2 i j) = dy (args m c) (row t i) j := by
  pointwise [k0_pay11, dy, err_at]

theorem dx_at (c : Dev nD) (t : Fin cfg0.N) (i : Fin 256) (j : Fin 1024) :
    k0_pay2 (F := Ideal) (k0_pay6 (iblk m c 0 t)) (k0_pay7 (iblk m c 0 t)) (k0_pay8 (iblk m c 2 t)) (k0_pay11 (iblk m c 0 t) (iblk m c 2 t) (iblk m c 1 t)) (ix2 i j)
      = dx (args m c) (row t i) j := by
  pointwise [k0_pay2, dx, rinv_at, xhat_at, dy_at, g_at]

/-- What each accumulator gains at a point. -/
theorem dg_step (c : Dev nD) (t : Fin cfg0.N) (acc : FVec Ideal S1x1024 .f32) (x : S1x1024.Idx) :
    k0_pay1 (F := Ideal) (k0_pay7 (iblk m c 0 t)) (k0_pay11 (iblk m c 0 t) (iblk m c 2 t) (iblk m c 1 t)) acc x
      = acc x + ∑ i : Fin 256, dy (args m c) (row t i) (x 1) * xhat (args m c) (row t i) (x 1) := by
  idx_vars x
  pointwise [k0_pay1, dy_at, xhat_at]

theorem loss_step (c : Dev nD) (t : Fin cfg0.N) (acc : FVec Ideal S1x128 .f32) (x : S1x128.Idx) :
    k0_pay10 (F := Ideal) (iblk m c 0 t) (iblk m c 2 t) (iblk m c 1 t) acc x = acc x + ∑ i : Fin 256, rowLoss (args m c) (row t i) := by
  idx_vars x
  pointwise [k0_pay10, rowLoss, err_at]

/-- Point `t` writes the gradient of its rows, in both precisions. -/
theorem dx_point (c : Dev nD) (t : Fin cfg0.N) (y : S256x1024.Idx) :
    (outsAt0 m c t.val t.isLt).1 y = dx (args m c) (row t (y 0)) (y 1) ∧ (outsAt0 m c t.val t.isLt).2.1 y = dx (args m c) (row t (y 0)) (y 1) := by
  idx_vars y
  by_cases h : t.val % 64 = 0
  · rw [outsAt0_A m c t h]; frame_out
    exact ⟨dx_at m c t _ _, dx_at m c t _ _⟩
  · rw [outsAt0_B m c t h]; frame_out
    exact ⟨dx_at m c t _ _, dx_at m c t _ _⟩

theorem dg_first (c : Dev nD) (t : Fin cfg0.N) (h : t.val % 64 = 0) (y : S1x1024.Idx) :
    (outsAt0 m c t.val t.isLt).2.2.1 y = (0 : EReal) + ∑ i : Fin 256, dy (args m c) (row t i) (y 1) * xhat (args m c) (row t i) (y 1) := by
  rw [outsAt0_A m c t h]; frame_out
  exact (dg_step m c t _ y).trans (congrArg (· + _) (by pointwise [k0_pay4]))

theorem dg_next (c : Dev nD) (t : Fin cfg0.N) (h : ¬ t.val % 64 = 0) (y : S1x1024.Idx) :
    (outsAt0 m c t.val t.isLt).2.2.1 y = (outsAt0 m c (t.val - 1) (Nat.lt_of_le_of_lt (Nat.sub_le _ _) t.isLt)).2.2.1 y
      + ∑ i : Fin 256, dy (args m c) (row t i) (y 1) * xhat (args m c) (row t i) (y 1) := by
  rw [outsAt0_B m c t h]; frame_out
  exact dg_step m c t _ y

theorem loss_first (c : Dev nD) (t : Fin cfg0.N) (h : t.val % 64 = 0) (y : S1x128.Idx) :
    (outsAt0 m c t.val t.isLt).2.2.2 y = (0 : EReal) + ∑ i : Fin 256, rowLoss (args m c) (row t i) := by
  rw [outsAt0_A m c t h]; frame_out
  exact (loss_step m c t _ y).trans (congrArg (· + _) (by pointwise [k0_pay5]))

theorem loss_next (c : Dev nD) (t : Fin cfg0.N) (h : ¬ t.val % 64 = 0) (y : S1x128.Idx) :
    (outsAt0 m c t.val t.isLt).2.2.2 y = (outsAt0 m c (t.val - 1) (Nat.lt_of_le_of_lt (Nat.sub_le _ _) t.isLt)).2.2.2 y
      + ∑ i : Fin 256, rowLoss (args m c) (row t i) := by
  rw [outsAt0_B m c t h]; frame_out
  exact loss_step m c t _ y

/-- The four arrays of the program's end. -/
theorem final_dx (c : Dev nD) : (dats m 0 c).arrAt 3 cfg0.N = fun j => dx (args m c) (j 0) (j 1) := by
  refine (dats m 0 c).arrAt_eq_of_covers 3 (fun j => dx (args m c) (j 0) (j 1)) (by decide +kernel) fun t _ y => ?_
  blk_simp
  rw [after0_3]
  refine (dx_point m c t y).1.trans (congrArg₂ (dx (args m c)) (Fin.ext ?_) (Fin.ext ?_))
  · blk_point [idx_val t]
  · blk_point [idx_val t]

theorem final_dxb (c : Dev nD) : (dats m 0 c).arrAt 4 cfg0.N = fun j => dx (args m c) (j 0) (j 1) := by
  refine (dats m 0 c).arrAt_eq_of_covers 4 (fun j => dx (args m c) (j 0) (j 1)) (by decide +kernel) fun t _ y => ?_
  blk_simp
  rw [after0_4]
  refine (dx_point m c t y).2.trans (congrArg₂ (dx (args m c)) (Fin.ext ?_) (Fin.ext ?_))
  · blk_point [idx_val t]
  · blk_point [idx_val t]

/-- Every row is one row of one point. -/
theorem rows (t : Fin cfg0.N) (f : Fin 16384 → EReal) (h : ∀ s : Fin 64, 64 * (t.val / 64) + s.val < cfg0.N) :
    ∑ s : Fin 64, ∑ i : Fin 256, f (row ⟨64 * (t.val / 64) + s.val, h s⟩ i) = ∑ r : Fin 16384, f r := by
  refine Fin.sum_mul_add_congr fun s k hl => congrArg f (Fin.ext ?_)
  have := t_lt t
  show (64 * (t.val / 64) + s.val) * 256 + k.val = s.val * 256 + k.val
  omega

theorem final_dg (c : Dev nD) : (dats m 0 c).arrAt 5 cfg0.N = fun j => dg (args m c) (j 1) := by
  refine (dats m 0 c).arrAt_eq_of_covers 5 (fun j => dg (args m c) (j 1)) (by decide +kernel) fun t hf y => ?_
  blk_simp
  rw [after0_5, Pipeline.eq_sum_fin_of_reset_step_apply_of_flush (fun n h => (outsAt0 m c n h).2.2.1) 64 (fun _ => 0) _
    (fun t h j => dg_first m c t h j) (fun t h j => dg_next m c t h j) t ((flush0_5 t).mp hf) _, zero_add]
  refine (rows t (fun r => dy (args m c) r (y 1) * xhat (args m c) r (y 1)) _).trans (congrArg (dg (args m c)) (Fin.ext ?_))
  blk_point [idx_val t]

theorem final_loss (c : Dev nD) : (dats m 0 c).arrAt 6 cfg0.N = fun _ => loss (args m c) := by
  refine (dats m 0 c).arrAt_eq_of_covers 6 (fun _ => loss (args m c)) (by decide +kernel) fun t hf y => ?_
  blk_simp
  rw [after0_6, Pipeline.eq_sum_fin_of_reset_step_apply_of_flush (fun n h => (outsAt0 m c n h).2.2.2) 64 (fun _ => 0) _
    (fun t h j => loss_first m c t h j) (fun t h j => loss_next m c t h j) t ((flush0_6 t).mp hf) _, zero_add]
  exact rows t (rowLoss (args m c)) _

end Cert.LossHeadIdeal.Grad

end
-- ==== Proof.LossRef.lean ====
/- What the reference's four results hold: the loss and the gradient of the last norm (`Cert.Loss`). -/
module

public import proofs.«01_k».proof.Proof.LossSpec
public import proofs.«01_k».proof.Proof.Gen.LossGradIdeal.Read

@[expose] public section

set_option maxRecDepth 16384

noncomputable section

open Idealize.ShloMosaic Idealize.ShloMosaic.TcCoe Idealize.SL.Sem

namespace Cert.LossGradIdeal.Grad

open Cert.LossGradIdeal Cert.LossGradIdeal.Read Cert.Loss

/-- The literals of the mean and of its half. -/
theorem lit_inv : inv = ((1 / 1024 : ℝ) : EReal) := by
  show Ideal.ofBits .f32 0x3A800000#32 = _
  simp [Ideal.ofBits, Ideal.ieee, -EReal.coe_mul]; norm_num

theorem lit_halfInv : halfInv = ((1 / 2048 : ℝ) : EReal) := by
  show Ideal.ofBits .f32 0x3A000000#32 = _
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

variable (A : Args)

/-- The mean square plus the epsilon, and its inverse root. -/
theorem ref_ms (r : Fin 16384) (q : Fin 1) : val_main_v6 (F := Ideal) A.x (ix2 r q) = Reals.ms (fun k : Fin 1024 => A.x (ix2 r k)) width eps := by
  pointwise [val_main_v6, val_main_v5, val_main_v4, val_main_v3, val_main_v2, val_main_v1, val_main_v0, val_main_cst, val_main_cst_0, val_main_cst_1, Reals.ms]

theorem ref_rinv (r : Fin 16384) (q : Fin 1) : val_main_v7 (F := Ideal) A.x (ix2 r q) = rinv A r := by
  rw [val_main_v7_apply, ref_ms]; rfl

theorem ref_xhat (r : Fin 16384) (j : Fin 1024) : val_main_v12 (F := Ideal) A.x (ix2 r j) = xhat A r j := by
  pointwise [val_main_v12, val_main_v11, xhat, ref_rinv]

theorem ref_err (r : Fin 16384) (j : Fin 1024) : val_main_v16 (F := Ideal) A.x A.g A.t (ix2 r j) = err A r j := by
  pointwise [val_main_v16, val_main_v15, val_main_v14, val_main_v13, ref_xhat, err]

/-- What the claim asks of the arguments: they are finite. -/
structure Finite : Prop where
  x : ∀ i, Reals.Fin1 (A.x i)
  g : ∀ i, Reals.Fin1 (A.g i)
  t : ∀ i, Reals.Fin1 (A.t i)

section
variable {A} (h : Finite A)
include h

theorem fin_err (r : Fin 16384) (j : Fin 1024) : Reals.Fin1 (err A r j) := by
  obtain ⟨e, he, hl⟩ := Reals.lit_eps
  have hr : Reals.Fin1 (rinv A r) := by
    have := Reals.Fin1.rsqrt_ms (fun k : Fin 1024 => h.x (ix2 r k)) (c := 1024) (by norm_num) he
    rwa [← hl, ← Reals.lit_1024] at this
  exact (((h.x _).mul hr).mul (h.g _)).sub (h.t _)

theorem ref_dy (r : Fin 16384) (j : Fin 1024) : val_main_v30 (F := Ideal) A.x A.g A.t (ix2 r j) = dy A r j := by
  pointwise [val_main_v30, val_main_v29, val_main_v28, val_main_v27, val_main_v26, val_main_v25, val_main_v19, val_main_v18, val_main_cst_3, val_main_cst_8, val_main_cst_9, val_main_cst_10, ref_err, dy]
  obtain ⟨a, ha⟩ := fin_err h r j
  rw [ha, lit_inv, Reals.lit_1024, lit_half, lit_two]
  simp only [mul_one, Reals.div_real _ _ (by norm_num : (1024 : ℝ) ≠ 0), ← EReal.coe_mul]
  exact congrArg _ (by ring)

theorem ref_w (r : Fin 16384) (j : Fin 1024) : val_main_v35 (F := Ideal) A.x A.g A.t (ix2 r j) = dy A r j * A.g (ix1 j) := by
  pointwise [val_main_v35, val_main_v34, val_main_v13, ref_dy h]

theorem result_dg (i : S1x1024.Idx) : val_main_v52 (F := Ideal) A.x A.g A.t i = dg A (i 1) := by
  idx_vars i
  pointwise [val_main_v52, val_main_v36, val_main_v33, val_main_v32, val_main_v31, ref_dy h, ref_xhat, val_main_cst_11, val_main_cst_12, dg]
  rw [Fin.sum_univ_one]
  exact Finset.sum_congr rfl fun r _ => mul_comm _ _

/-- The mean of a row's squares, over all rows, is the loss. -/
theorem result_loss (i : S1x128.Idx) : val_main_v53 (F := Ideal) A.x A.g A.t i = loss A := by
  idx_vars i
  pointwise [val_main_v53, val_main_v24, val_main_v23, val_main_v22, val_main_v21, val_main_v20, val_main_v17, val_main_cst_4, val_main_cst_5, val_main_cst_6, val_main_cst_7, ref_err, loss, rowLoss]
  choose s hs using fun r => Reals.Fin1.sum fun k : Fin 1024 => (fin_err h r k).mul (fin_err h r k)
  simp only [hs, lit_halfInv, Reals.lit_1024, lit_half, Reals.div_real _ _ (by norm_num : (1024 : ℝ) ≠ 0), ← EReal.coe_mul, Reals.coe_sum]
  refine congrArg _ ?_
  rw [Finset.mul_sum]
  exact Finset.sum_congr rfl fun r _ => by ring

end

/-- The scalar that the chain through the root multiplies the row by. -/
def chain (r : Fin 16384) : EReal :=
  Ideal.div ((∑ k : Fin 1024, A.x (ix2 r k) * (dy A r k * A.g (ix1 k))) * (((-1 / 2 : ℝ) : EReal)
    * Ideal.div (rinv A r) (Reals.ms (fun k : Fin 1024 => A.x (ix2 r k)) width eps))) width

section
variable {A} (h : Finite A)
include h

theorem ref_chain (r : Fin 16384) (j : Fin 1024) : val_main_v46 (F := Ideal) A.x A.g A.t (ix2 r j) = chain A r := by
  pointwise [val_main_v46, val_main_v45, val_main_v44, val_main_v43, val_main_v42, val_main_v39, val_main_v38, val_main_v37, ref_w h, val_main_v10, val_main_v9, val_main_v8, ref_ms, ref_rinv, chain, val_main_cst_2, val_main_cst_13, val_main_cst_14, val_main_cst_15]
  rw [Reals.lit_neg_half, Fin.sum_univ_one]

theorem result_dx (i : S16384x1024.Idx) : val_main_v50 (F := Ideal) A.x A.g A.t i = dx A (i 0) (i 1) := by
  idx_vars i
  pointwise [val_main_v50, val_main_v49, val_main_v48, val_main_v47, val_main_v41, val_main_v40, ref_chain h, ref_w h, ref_rinv]
  obtain ⟨e, he, hl⟩ := Reals.lit_eps
  have hw : ∀ k : Fin 1024, Reals.Fin1 (dy A i0 k * A.g (ix1 k)) := fun k => ((fin_err h _ _).mul ⟨_, lit_inv⟩).mul (h.g _)
  have key := Reals.rms_grad (fun k : Fin 1024 => h.x (ix2 i0 k)) hw (c := 1024) (e := e) (by norm_num) he i1
  rw [← hl, ← Reals.lit_1024] at key
  exact key.symm

end

end Cert.LossGradIdeal.Grad

end
-- ==== Proof.Loss.lean ====
/- Kernel and reference compute the same loss and the same gradient of the last norm. -/
module

public import proofs.«01_k».proof.Defs
public import proofs.«01_k».proof.Proof.LossKernel
public import proofs.«01_k».proof.Proof.LossRef
public import proofs.«01_k».proof.Proof.Gen.LossGradIdeal.Run
public import proofs.«01_k».proof.Proof.Gen.Pre_loss_finite

@[expose] public section

noncomputable section

open Idealize.ShloMosaic Idealize.ShloMosaic.TcCoe Idealize.SL.Sem

namespace Cert.Loss

open Cert.LossHeadIdeal.Grad Cert.LossGradIdeal.Grad

/-- The precondition says that the arguments are finite. -/
theorem finite (m : (ℓ : Loc Cert.LossHeadIdeal.nD Cert.LossHeadIdeal.τ Cert.LossHeadIdeal.sig) → Buf (Elt Ideal) ℓ)
    (hp : Cert.Pre_LossHeadIdeal_loss_finite m) (c : Dev Cert.LossHeadIdeal.nD) : Finite (args m c) := by
  obtain ⟨h0, h1, h2⟩ := hp c
  exact ⟨fun i => Reals.fin1_of_lt (congrFun h0 i), fun i => Reals.fin1_of_lt (congrFun h1 i), fun i => Reals.fin1_of_lt (congrFun h2 i)⟩

/-- The reference terminates, keeps its arguments and uses no semaphore. -/
theorem frame_ref : Cert.quiescent_LossGradIdeal := fun m ρ _ =>
  (θ_run Cert.LossGradIdeal.defs _ _).mono (fun r h => ⟨fun c => (h c).2.2.2.2, sem_eq_zero_of_no_sems (by decide) r.2⟩)
    (Cert.LossGradIdeal.Value.run (F := Ideal) m ρ)

/-- The arguments, as the reference's memory holds them at launch. -/
def rargs (m : (ℓ : Loc Cert.LossGradIdeal.nD Cert.LossGradIdeal.τ Cert.LossGradIdeal.sig) → Buf (Elt Ideal) ℓ) (c : Dev Cert.LossGradIdeal.nD) : Args :=
  ⟨m ((c : Thread Cert.LossGradIdeal.nD Cert.LossGradIdeal.τ).loc Cert.LossGradIdeal.main_arg0), m ((c : Thread Cert.LossGradIdeal.nD Cert.LossGradIdeal.τ).loc Cert.LossGradIdeal.main_arg1),
    m ((c : Thread Cert.LossGradIdeal.nD Cert.LossGradIdeal.τ).loc Cert.LossGradIdeal.main_arg2)⟩

/-- The value claim. -/
theorem algebraic : Cert.algebraic_LossHeadIdeal_LossGradIdeal_pre_loss_finite := fun m g m' g' hp hag =>
  ⟨fun c j => dx (args m c) (j 0) (j 1), fun c j => dx (args m c) (j 0) (j 1), fun c j => dg (args m c) (j 1), fun c _ => loss (args m c),
    (θ_run _ _ _).mono (fun _ h c => ⟨(h c).1.trans (final_dx m c), (h c).2.1.trans (final_dxb m c), (h c).2.2.1.trans (final_dg m c),
      (h c).2.2.2.1.trans (final_loss m c), (h c).2.2.2.2⟩)
      (Cert.LossHeadIdeal.Value.run_blocks m g),
    (θ_run _ _ _).mono (fun _ h c => by
      obtain ⟨a0, a1, a2⟩ := hag c
      have e : rargs m' c = args m c := by unfold rargs args; rw [a0, a1, a2]
      have hf : Finite (rargs m' c) := e ▸ finite m hp c
      exact ⟨(h c).1.trans ((funext (result_dx hf)).trans (congrArg (fun (A : Args) (j : Shape.Idx ⟨2, ![16384, 1024]⟩) => dx A (j 0) (j 1)) e)),
        (h c).2.1.trans ((funext (result_dx hf)).trans (congrArg (fun (A : Args) (j : Shape.Idx ⟨2, ![16384, 1024]⟩) => dx A (j 0) (j 1)) e)),
        (h c).2.2.1.trans ((funext (result_dg hf)).trans (congrArg (fun (A : Args) (j : Shape.Idx ⟨2, ![1, 1024]⟩) => dg A (j 1)) e)),
        (h c).2.2.2.1.trans ((funext (result_loss hf)).trans (congrArg (fun (A : Args) (_ : Shape.Idx ⟨2, ![1, 128]⟩) => loss A) e)), (h c).2.2.2.2⟩)
      (Cert.LossGradIdeal.Value.run m' g')⟩

end Cert.Loss

end
-- ==== Proof.DrSpec.lean ====
/- The gradient of the squared relu behind a gated product, as a plain sum: what both programs are shown to compute. -/
module

public import proofs.«01_k».proof.Proof.Reals

@[expose] public section

noncomputable section

open Idealize.ShloMosaic

namespace Cert.Dr

/-- The arguments: the relu's argument, the weight, the gate of its columns, and the cotangent. -/
structure Args where
  p : Shape.Idx ⟨2, ![16384, 4096]⟩ → EReal
  w2 : Shape.Idx ⟨2, ![4096, 1024]⟩ → EReal
  g2 : Shape.Idx ⟨2, ![1, 1024]⟩ → EReal
  dx2 : Shape.Idx ⟨2, ![16384, 1024]⟩ → EReal

variable (A : Args)

/-- The gradient of the square, and that of the relu's argument: the former times twice the relu. -/
def ds (r : Fin 16384) (k : Fin 4096) : EReal := ∑ j : Fin 1024, A.dx2 (ix2 r j) * (A.w2 (ix2 k j) * A.g2 (ix2 0 j))
def relu (r : Fin 16384) (k : Fin 4096) : EReal := max (A.p (ix2 r k)) 0
def dr (r : Fin 16384) (k : Fin 4096) : EReal := ds A r k * (((2 : ℝ) : EReal) * relu A r k)

end Cert.Dr

end
-- ==== Proof.DrKernel.lean ====
/- What the kernel's result array holds: the gradient of the squared relu (`Cert.Dr`). -/
module

public import proofs.«01_k».proof.Proof.DrSpec
public import proofs.«01_k».proof.Proof.Gen.DrBwdIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DrBwdIdeal.Grad

open Cert.DrBwdIdeal Cert.DrBwdIdeal.Gen Cert.Dr

variable (m : (ℓ : Loc nD τ sig) → Buf (Elt Ideal) ℓ) (ρ : Dev nD → PrngReg)

/-- The arguments, as the kernel's memory holds them at launch. -/
abbrev args (c : Dev nD) : Args :=
  ⟨m ((c : Thread nD τ).loc main_arg0), m ((c : Thread nD τ).loc main_arg1), m ((c : Thread nD τ).loc main_arg2), m ((c : Thread nD τ).loc main_arg3)⟩

/-- Which block each window takes at each point: the second call's grid runs over the tiles of the result, column fastest. -/
theorem idx_val : ∀ t : Fin cfg0.N, win0_0.index t = ![t.val, 0] ∧ win0_1.index t = ![0, 0] ∧ win0_2.index t = ![t.val, 0] :=
  (by decide +kernel : ∀ t : Fin grid0.N, _)

theorem idx_val1 : ∀ t : Fin cfg1.N, win1_0.index t = ![t.val / 4, 0] ∧ win1_1.index t = ![t.val % 4, 0] ∧ win1_2.index t = ![t.val / 4, t.val % 4]
    ∧ win1_3.index t = ![t.val / 4, t.val % 4] :=
  (by decide +kernel : ∀ t : Fin grid1.N, _)

theorem t_lt (t : Fin cfg0.N) : t.val < 16 := lt_of_lt_of_eq t.isLt N_0
theorem t_lt1 (t : Fin cfg1.N) : t.val < 64 := lt_of_lt_of_eq t.isLt N_1

/-- Row `i` and column `k` of the tile of point `t`. -/
abbrev row (t : Fin cfg1.N) (i : Fin 1024) : Fin 16384 := ⟨t.val / 4 * 1024 + i.val, by have := t_lt1 t; omega⟩
abbrev col (t : Fin cfg1.N) (k : Fin 1024) : Fin 4096 := ⟨t.val % 4 * 1024 + k.val, by omega⟩

/-- The first call scales the weight's columns. -/
theorem scaled (c : Dev nD) : (dat0 (V1 m ρ) c).arrAt 2 cfg0.N = fun j => (args m c).w2 j * (args m c).g2 (ix2 0 (j 1)) := by
  refine (dat0 (V1 m ρ) c).arrAt_eq_of_covers 2 (fun j => (args m c).w2 j * (args m c).g2 (ix2 0 (j 1))) (by decide +kernel) fun t _ y => ?_
  blk_simp
  rw [after0_2]; frame_out
  idx_vars y
  pointwise [k0_pay1]
  blk_point [iblk0, V1, idx_val t]

/-- What the second call reads: the scaled weight, the relu and the cotangent. -/
theorem second_w (c : Dev nD) : V3 m ρ c main_v3 = fun j => (args m c).w2 j * (args m c).g2 (ix2 0 (j 1)) :=
  (W3_of m ρ c main_v3 (by decide)).trans ((W2_arr m ρ c 2).trans (scaled m ρ c))

theorem second_relu (c : Dev nD) : V3 m ρ c main_v2 = fun j => relu (args m c) (j 0) (j 1) := by
  refine (W3_of m ρ c main_v2 (by decide)).trans ((W2_of m ρ c main_v2 (by decide)).trans (funext fun x => ?_))
  idx_vars x
  show StableHlo.after hostOps0 (W0 m ρ c) (Proc.devRef .tc main_v2) _ = _
  after_results
  pointwise [relu]

theorem second_dx2 (c : Dev nD) : V3 m ρ c main_v4 = (args m c).dx2 := by
  funext x
  idx_vars x
  show StableHlo.after hostOps1 (W2 m ρ c) (Proc.devRef .tc main_v4) _ = _
  after_results
  pointwise []
  exact congrFun (W2_args m ρ c main_arg3 (by decide)) _

/-- A point computes its tile of the gradient. -/
theorem dr_at (c : Dev nD) (t : Fin cfg1.N) (i k : Fin 1024) :
    k1_pay1 (F := Ideal) (iblk1 (V3 m ρ) c 0 t) (iblk1 (V3 m ρ) c 1 t) (iblk1 (V3 m ρ) c 2 t) (ix2 i k) = dr (args m c) (row t i) (col t k) := by
  have h0 : ∀ j : Fin 1024, iblk1 (V3 m ρ) c 0 t (ix2 i j) = (args m c).dx2 (ix2 (row t i) j) := fun j => by
    refine (congrFun (second_dx2 m ρ c) _).trans ?_
    blk_point [idx_val1 t]
  have h1 : ∀ j : Fin 1024, iblk1 (V3 m ρ) c 1 t (ix2 k j) = (args m c).w2 (ix2 (col t k) j) * (args m c).g2 (ix2 0 j) := fun j => by
    refine (congrFun (second_w m ρ c) _).trans ?_
    blk_point [idx_val1 t]
  have h2 : iblk1 (V3 m ρ) c 2 t (ix2 i k) = relu (args m c) (row t i) (col t k) := by
    refine (congrFun (second_relu m ρ c) _).trans (congrArg₂ (relu (args m c)) (Fin.ext ?_) (Fin.ext ?_))
    · blk_point [idx_val1 t]
    · blk_point [idx_val1 t]
  pointwise [k1_pay1, h0, h1, h2, dr, ds]
  rw [Reals.lit_two]

theorem final_dr (c : Dev nD) : (dat1 (V3 m ρ) c).arrAt 3 cfg1.N = fun j => dr (args m c) (j 0) (j 1) := by
  refine (dat1 (V3 m ρ) c).arrAt_eq_of_covers 3 (fun j => dr (args m c) (j 0) (j 1)) (by decide +kernel) fun t _ y => ?_
  blk_simp
  rw [after1_3]; frame_out
  idx_vars y
  refine (dr_at m ρ c t y0 y1).trans (congrArg₂ (dr (args m c)) (Fin.ext ?_) (Fin.ext ?_))
  · blk_point [idx_val1 t]
  · blk_point [idx_val1 t]

/-- The result at the program's end. -/
theorem end_dr (c : Dev nD) : W4 m ρ c (Proc.devRef .tc main_v5) = fun j => dr (args m c) (j 0) (j 1) :=
  (W4_arr m ρ c 3).trans (final_dr m ρ c)

end Cert.DrBwdIdeal.Grad

end
-- ==== Proof.DrRun.lean ====
/- The run of the two calls of the relu's gradient with what every buffer holds at the end. -/
module

public import proofs.«01_k».proof.Proof.Gen.DrBwdIdeal.Frame

@[expose] public section

set_option maxRecDepth 16384

noncomputable section

namespace Cert.DrBwdIdeal.Grad

open Cert.DrBwdIdeal Cert.DrBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates with each unscoped buffer at the last boundary's contents. -/
theorem run_all : θ_run defs (onTc (τ := τ) (main (F := F))) ⟨m, fun _ => 0, ρ⟩ (fun r => ∀ c : Dev nD, ∀ b : Ref sig .tc,
      Proc.devRef .tc b ∈ Pipeline.ucRefs τ sig → r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c b hb => h c _ hb)

end Cert.DrBwdIdeal.Grad

end
-- ==== Proof.DrRef.lean ====
/- What the reference's result holds: the gradient of the squared relu (`Cert.Dr`). -/
module

public import proofs.«01_k».proof.Proof.DrSpec
public import proofs.«01_k».proof.Proof.Gen.DrGradIdeal.Read

@[expose] public section

set_option maxRecDepth 16384

noncomputable section

open Idealize.ShloMosaic Idealize.ShloMosaic.TcCoe Idealize.SL.Sem

namespace Cert.DrGradIdeal.Grad

open Cert.DrGradIdeal Cert.DrGradIdeal.Read Cert.Dr

variable (A : Args)

theorem ref_ds (r : Fin 16384) (k : Fin 4096) : val_main_v10 (F := Ideal) A.w2 A.g2 A.dx2 (ix2 r k) = ds A r k := by
  pointwise [val_main_v10, val_main_v9, val_main_v8, ds]
  exact Finset.sum_congr rfl fun j _ => by rw [mul_comm (A.g2 _), mul_assoc, mul_comm (A.g2 _)]

theorem ref_relu (r : Fin 16384) (k : Fin 4096) : val_main_v0 (F := Ideal) A.p (ix2 r k) = relu A r k := by
  pointwise [val_main_v0, val_main_call0_v0, val_main_call0_cst, relu]

/-- Where the relu is zero, so is twice it. -/
theorem result_dr (i : S16384x4096.Idx) : val_main_v16 (F := Ideal) A.p A.w2 A.g2 A.dx2 i = dr A (i 0) (i 1) := by
  idx_vars i
  pointwise [val_main_v16, val_main_v15, val_main_v14, val_main_v13, val_main_v12, val_main_v11, val_main_v3, val_main_v2, val_main_v1, val_main_cst, val_main_cst_1, ref_ds, ref_relu, dr]
  split_ifs with h
  · rw [mul_comm (relu A i0 i1), Reals.add_self, mul_left_comm]
  · rw [relu, max_eq_right (not_lt.mp h), mul_zero, mul_zero]

end Cert.DrGradIdeal.Grad

end
-- ==== Proof.Dr.lean ====
/- Kernel and reference compute the same gradient of the squared relu. -/
module

public import proofs.«01_k».proof.Defs
public import proofs.«01_k».proof.Proof.DrKernel
public import proofs.«01_k».proof.Proof.DrRun
public import proofs.«01_k».proof.Proof.DrRef
public import proofs.«01_k».proof.Proof.Gen.DrGradIdeal.Run

@[expose] public section

noncomputable section

open Idealize.ShloMosaic Idealize.ShloMosaic.TcCoe Idealize.SL.Sem

namespace Cert.Dr

open Cert.DrBwdIdeal.Grad Cert.DrGradIdeal.Grad

/-- The reference terminates, keeps its arguments and uses no semaphore. -/
theorem frame_ref : Cert.quiescent_DrGradIdeal := fun m ρ _ =>
  (θ_run Cert.DrGradIdeal.defs _ _).mono (fun r h => ⟨fun c => (h c).2, sem_eq_zero_of_no_sems (by decide) r.2⟩)
    (Cert.DrGradIdeal.Value.run (F := Ideal) m ρ)

/-- The arguments, as the reference's memory holds them at launch. -/
def rargs (m : (ℓ : Loc Cert.DrGradIdeal.nD Cert.DrGradIdeal.τ Cert.DrGradIdeal.sig) → Buf (Elt Ideal) ℓ) (c : Dev Cert.DrGradIdeal.nD) : Args :=
  ⟨m ((c : Thread Cert.DrGradIdeal.nD Cert.DrGradIdeal.τ).loc Cert.DrGradIdeal.main_arg0), m ((c : Thread Cert.DrGradIdeal.nD Cert.DrGradIdeal.τ).loc Cert.DrGradIdeal.main_arg1),
    m ((c : Thread Cert.DrGradIdeal.nD Cert.DrGradIdeal.τ).loc Cert.DrGradIdeal.main_arg2), m ((c : Thread Cert.DrGradIdeal.nD Cert.DrGradIdeal.τ).loc Cert.DrGradIdeal.main_arg3)⟩

open Cert.DrBwdIdeal Cert.DrBwdIdeal.Gen in
/-- The value claim. -/
theorem algebraic : Cert.algebraic_DrBwdIdeal_DrGradIdeal := fun m g m' g' _ hag =>
  ⟨fun c j => dr (args m c) (j 0) (j 1),
    (θ_run _ _ _).mono (fun _ h c =>
      ⟨(h c main_v5 (mem_uc _ (by decide))).trans (end_dr m g c), (h c main_arg0 (mem_uc _ (by decide))).trans (W4_main_arg0 m g c),
        (h c main_arg1 (mem_uc _ (by decide))).trans (W4_main_arg1 m g c), (h c main_arg2 (mem_uc _ (by decide))).trans (W4_main_arg2 m g c),
        (h c main_arg3 (mem_uc _ (by decide))).trans (W4_main_arg3 m g c)⟩)
      (run_all m g),
    (θ_run _ _ _).mono (fun _ h c => by
      obtain ⟨a0, a1, a2, a3⟩ := hag c
      have e : rargs m' c = args m c := by unfold rargs args; rw [a0, a1, a2, a3]
      exact ⟨(h c).1.trans ((funext (result_dr (rargs m' c))).trans (congrArg (fun (A : Args) (j : Shape.Idx ⟨2, ![16384, 4096]⟩) => dr A (j 0) (j 1)) e)), (h c).2⟩)
      (Cert.DrGradIdeal.Value.run m' g')⟩

end Cert.Dr

end
-- ==== Proof.GateOutSpec.lean ====
/- The gradients of a gated product's weight and gate, as plain sums: what both programs are shown to compute. -/
module

public import proofs.«01_k».proof.Proof.Reals

@[expose] public section

noncomputable section

open Idealize.ShloMosaic

namespace Cert.GateOut

/-- The arguments: the relu's argument, the weight, the gate of its columns, and the cotangent. -/
structure Args where
  p : Shape.Idx ⟨2, ![16384, 4096]⟩ → EReal
  w2 : Shape.Idx ⟨2, ![4096, 1024]⟩ → EReal
  g2 : Shape.Idx ⟨2, ![1, 1024]⟩ → EReal
  dx2 : Shape.Idx ⟨2, ![16384, 1024]⟩ → EReal

variable (A : Args)

/-- The squared relu, and its product with the cotangent: the weight's gradient before the gate. -/
def relu2 (r : Fin 16384) (k : Fin 4096) : EReal := max (A.p (ix2 r k)) 0 * max (A.p (ix2 r k)) 0
def raw (k : Fin 4096) (j : Fin 1024) : EReal := ∑ r : Fin 16384, relu2 A r k * A.dx2 (ix2 r j)

/-- The gradient of the weight, and of the gate. -/
def dw (k : Fin 4096) (j : Fin 1024) : EReal := raw A k j * A.g2 (ix2 0 j)
def dgate (j : Fin 1024) : EReal := ∑ k : Fin 4096, raw A k j * A.w2 (ix2 k j)

end Cert.GateOut

end
-- ==== Proof.GateOutKernel.lean ====
/- What the kernel's two result arrays hold: the gradients of the gated product's weight and gate (`Cert.GateOut`). -/
module

public import proofs.«01_k».proof.Proof.GateOutSpec
public import proofs.«01_k».proof.Proof.Gen.GateOutBwdIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GateOutBwdIdeal.Grad

open Cert.GateOutBwdIdeal Cert.GateOutBwdIdeal.Gen Cert.GateOut

variable (m : (ℓ : Loc nD τ sig) → Buf (Elt Ideal) ℓ)

/-- The arguments, as the kernel's memory holds them at launch. -/
abbrev args (c : Dev nD) : Args :=
  ⟨m ((c : Thread nD τ).loc main_arg0), m ((c : Thread nD τ).loc main_arg1), m ((c : Thread nD τ).loc main_arg2), m ((c : Thread nD τ).loc main_arg3)⟩

/-- Which block each window takes at each point: the rows go round once for each quarter of the weight. -/
theorem idx_val : ∀ t : Fin cfg0.N, win0_0.index t = ![t.val % 8, t.val / 8] ∧ win0_1.index t = ![t.val % 8, 0] ∧ win0_2.index t = ![t.val / 8, 0]
    ∧ win0_3.index t = ![0, 0] ∧ win0_4.index t = ![t.val / 8, 0] ∧ win0_5.index t = ![t.val / 8, 0, 0] :=
  (by decide +kernel : ∀ t : Fin grid0.N, _)

theorem t_lt (t : Fin cfg0.N) : t.val < 32 := lt_of_lt_of_eq t.isLt N_0

/-- Row `i` of the rows of point `t`, and row `k` of its quarter of the weight. -/
abbrev row (t : Fin cfg0.N) (i : Fin 2048) : Fin 16384 := ⟨t.val % 8 * 2048 + i.val, by omega⟩
abbrev wrow (t : Fin cfg0.N) (k : Fin 1024) : Fin 4096 := ⟨t.val / 8 * 1024 + k.val, by have := t_lt t; omega⟩

/-- What the host hands the region: the relu, and the cotangent. -/
theorem V_relu (c : Dev nD) : V m c main_v2 = fun j => max ((args m c).p j) 0 := by
  show StableHlo.after (List.flatten [hostOps0]) (fun b => m (c, b)) (Proc.devRef .tc main_v2) = _
  simp only [List.flatten_cons, List.flatten_nil, List.append_nil]
  after_results
  funext x; idx_vars x
  pointwise []

theorem V_dx2 (c : Dev nD) : V m c main_v3 = (args m c).dx2 := by
  show StableHlo.after (List.flatten [hostOps0]) (fun b => m (c, b)) (Proc.devRef .tc main_v3) = _
  simp only [List.flatten_cons, List.flatten_nil, List.append_nil]
  after_results
  funext x; idx_vars x
  pointwise []

theorem relu_at (c : Dev nD) (t : Fin cfg0.N) (i : Fin 2048) (k : Fin 1024) :
    iblk m c 0 t (ix2 i k) = max ((args m c).p (ix2 (row t i) (wrow t k))) 0 := by
  refine (congrFun (V_relu m c) _).trans ?_
  blk_point [idx_val t]

theorem dx2_at (c : Dev nD) (t : Fin cfg0.N) (i : Fin 2048) (j : Fin 1024) :
    iblk m c 1 t (ix2 i j) = (args m c).dx2 (ix2 (row t i) j) := by
  refine (congrFun (V_dx2 m c) _).trans ?_
  blk_point [idx_val t]

theorem w2_at (c : Dev nD) (t : Fin cfg0.N) (k : Fin 1024) (j : Fin 1024) :
    iblk m c 2 t (ix2 k j) = (args m c).w2 (ix2 (wrow t k) j) := by
  blk_point [iblk, V, idx_val t]

theorem g2_at (c : Dev nD) (t : Fin cfg0.N) (j : Fin 1024) : iblk m c 3 t (ix2 0 j) = (args m c).g2 (ix2 0 j) := by
  blk_point [iblk, V, idx_val t]

/-- One point's product. -/
theorem prod_at (c : Dev nD) (t : Fin cfg0.N) (k : Fin 1024) (j : Fin 1024) :
    k0_pay1 (F := Ideal) (iblk m c 0 t) (iblk m c 1 t) (ix2 k j)
      = ∑ i : Fin 2048, relu2 (args m c) (row t i) (wrow t k) * (args m c).dx2 (ix2 (row t i) j) := by
  pointwise [k0_pay1, relu2, relu_at, dx2_at]

/-- The scratch accumulator: set at a quarter's first rows, gaining the product of each further block of rows. -/
theorem acc_first (c : Dev nD) (t : Fin cfg0.N) (h : t.val % 8 = 0) (y : S1024x1024.Idx) :
    (outsAt0 m c t.val t.isLt).2.2 y
      = (0 : EReal) + ∑ i : Fin 2048, relu2 (args m c) (row t i) (wrow t (y 0)) * (args m c).dx2 (ix2 (row t i) (y 1)) := by
  idx_vars y
  rw [outsAt0_A m c t h (by omega) (by omega)]; frame_out
  rw [zero_add]
  refine Eq.trans ?_ (prod_at m c t y0 y1)
  pointwise [k0_pay2]

theorem acc_next (c : Dev nD) (t : Fin cfg0.N) (h : ¬ t.val % 8 = 0) (y : S1024x1024.Idx) :
    (outsAt0 m c t.val t.isLt).2.2 y = (outsAt0 m c (t.val - 1) (Nat.lt_of_le_of_lt (Nat.sub_le _ _) t.isLt)).2.2 y
      + ∑ i : Fin 2048, relu2 (args m c) (row t i) (wrow t (y 0)) * (args m c).dx2 (ix2 (row t i) (y 1)) := by
  idx_vars y
  by_cases h' : t.val % 8 = 7
  · rw [outsAt0_C m c t h (by omega) h']; frame_out
    pointwise [k0_pay3, prod_at]
    rw [read_unread_whole]
  · rw [outsAt0_B m c t h (by omega) h']; frame_out
    pointwise [k0_pay3, prod_at]
    rw [read_unread_whole]

/-- All blocks of rows together are all the rows. -/
theorem rows (t : Fin cfg0.N) (y : S1024x1024.Idx) (h : ∀ s : Fin 8, 8 * (t.val / 8) + s.val < cfg0.N) (A : Args) :
    ∑ s : Fin 8, ∑ i : Fin 2048, relu2 A (row ⟨8 * (t.val / 8) + s.val, h s⟩ i) (wrow ⟨8 * (t.val / 8) + s.val, h s⟩ (y 0))
        * A.dx2 (ix2 (row ⟨8 * (t.val / 8) + s.val, h s⟩ i) (y 1))
      = raw A (wrow t (y 0)) (y 1) := by
  unfold raw
  refine Fin.sum_mul_add_congr (f := fun r => relu2 A r (wrow t (y 0)) * A.dx2 (ix2 r (y 1))) fun s k hl => ?_
  have hr : row ⟨8 * (t.val / 8) + s.val, h s⟩ k = ⟨s.val * 2048 + k.val, hl⟩ := Fin.ext (by show (8 * (t.val / 8) + s.val) % 8 * 2048 + k.val = s.val * 2048 + k.val; omega)
  have hw : wrow ⟨8 * (t.val / 8) + s.val, h s⟩ (y 0) = wrow t (y 0) := Fin.ext (congrArg (· * 1024 + (y 0).val) (by show (8 * (t.val / 8) + s.val) / 8 = t.val / 8; omega))
  rw [hr, hw]

/-- After a quarter's last rows the accumulator holds the quarter of the whole product. -/
theorem acc_last (c : Dev nD) (t : Fin cfg0.N) (h : t.val % 8 = 7) (y : S1024x1024.Idx) :
    (outsAt0 m c t.val t.isLt).2.2 y = raw (args m c) (wrow t (y 0)) (y 1) := by
  rw [Pipeline.eq_sum_fin_of_reset_step_apply_of_flush (fun n h => (outsAt0 m c n h).2.2) 8 (fun _ => 0) _
    (fun t h j => acc_first m c t h j) (fun t h j => acc_next m c t h j) t h _, zero_add]
  exact rows t y _ (args m c)

/-- What the last point of a quarter writes, from the accumulator. -/
theorem dw_point (c : Dev nD) (t : Fin cfg0.N) (h : t.val % 8 = 7) (y : S1024x1024.Idx) :
    (outsAt0 m c t.val t.isLt).1 y = dw (args m c) (wrow t (y 0)) (y 1) := by
  have e : (outsAt0 m c t.val t.isLt).1 = k0_pay5 ((outsAt0 m c t.val t.isLt).2.2) (iblk m c 3 t) := by
    rw [outsAt0_C m c t (by omega) (by omega) h]; frame_out
  rw [e]
  idx_vars y
  pointwise [k0_pay5, acc_last m c t h, g2_at, dw]

theorem dgate_point (c : Dev nD) (t : Fin cfg0.N) (h : t.val % 8 = 7) (y : S1x1x1024.Idx) :
    (outsAt0 m c t.val t.isLt).2.1 y = ∑ k : Fin 1024, raw (args m c) (wrow t k) (y 2) * (args m c).w2 (ix2 (wrow t k) (y 2)) := by
  have e : (outsAt0 m c t.val t.isLt).2.1 = k0_pay4 ((outsAt0 m c t.val t.isLt).2.2) (iblk m c 2 t) := by
    rw [outsAt0_C m c t (by omega) (by omega) h]; frame_out
  rw [e]
  idx_vars y
  pointwise [k0_pay4, acc_last m c t h, w2_at]

/-- The arrays after the region. -/
theorem final_dw (c : Dev nD) : (dats m 0 c).arrAt 4 cfg0.N = fun j => dw (args m c) (j 0) (j 1) := by
  refine (dats m 0 c).arrAt_eq_of_covers 4 (fun j => dw (args m c) (j 0) (j 1)) (by decide +kernel) fun t hf y => ?_
  blk_simp
  rw [after0_4]
  refine (dw_point m c t ((flush0_4 t).mp hf) y).trans (congrArg₂ (dw (args m c)) (Fin.ext ?_) (Fin.ext ?_))
  · blk_point [idx_val t]
  · blk_point [idx_val t]

/-- A quarter's share of the gate's gradient. -/
def part (A : Args) (q : Fin 4) (j : Fin 1024) : EReal :=
  ∑ k : Fin 1024, raw A ⟨q.val * 1024 + k.val, by omega⟩ j * A.w2 (ix2 ⟨q.val * 1024 + k.val, by omega⟩ j)

theorem final_parts (c : Dev nD) : (dats m 0 c).arrAt 5 cfg0.N = fun j => part (args m c) (j 0) (j 2) := by
  refine (dats m 0 c).arrAt_eq_of_covers 5 (fun j => part (args m c) (j 0) (j 2)) (by decide +kernel) fun t hf y => ?_
  blk_simp
  rw [after0_5]
  have hq : t.val / 8 < 4 := by have := t_lt t; omega
  refine ((dgate_point m c t ((flush0_5 t).mp hf) y).trans (rfl : _ = part (args m c) ⟨t.val / 8, hq⟩ (y 2))).trans
    (congrArg₂ (part (args m c)) (Fin.ext ?_) (Fin.ext ?_))
  · blk_point [idx_val t]
  · blk_point [idx_val t]

/-- The host adds the four shares up. -/
theorem tail_dgate (c : Dev nD) : Pipeline.afterTail₀ cfgs (dats m) 0 (V0 m) [hostOps1] c main_v5 = fun j => dgate (args m c) (j 1) := by
  have hv : Pipeline.withArrays spec0 c (V0 m c) (fun w => (dats m 0 c).arrAt w cfg0.N) (Proc.devRef .tc main_v4_1) = fun j => part (args m c) (j 0) (j 2) :=
    (Pipeline.withArrays_arr spec0 (by decide) c (V0 m c) (fun w => (dats m 0 c).arrAt w cfg0.N) 5).trans (final_parts m c)
  show StableHlo.after (List.flatten [hostOps1]) (Pipeline.withArrays spec0 c (V0 m c) fun w => (dats m 0 c).arrAt w cfg0.N) (Proc.devRef .tc main_v5) = _
  simp only [List.flatten_cons, List.flatten_nil, List.append_nil]
  after_results
  rw [hv]
  funext x; idx_vars x
  pointwise [part]
  unfold dgate
  exact Fin.sum_mul_add_congr fun s k hl => rfl

/-- The kernel's run: both results, and the arguments as they were. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v4_0) = (fun j => dw (args m c) (j 0) (j 1))
      ∧ r.2.mem ((c.tc : Thread nD τ).loc main_v5) = (fun j => dgate (args m c) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final_dw m c),
    ((h c).2 main_v5 (Pipeline.mem_restRefs_of main_v5 (by decide) (by decide))).trans (tail_dgate m c),
    ((h c).2 main_arg0 (Pipeline.mem_restRefs_of main_arg0 (by decide) (by decide))).trans (W_main_arg0 m (dats m) c),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c))),
    ((h c).2 main_arg3 (Pipeline.mem_restRefs_of main_arg3 (by decide) (by decide))).trans (W_main_arg3 m (dats m) c)⟩) (run_main m ρ)

end Cert.GateOutBwdIdeal.Grad

end
-- ==== Proof.GateOutRef.lean ====
/- What the reference's results hold: the gradients of the gated product's weight and gate (`Cert.GateOut`). -/
module

public import proofs.«01_k».proof.Proof.GateOutSpec
public import proofs.«01_k».proof.Proof.Gen.GateOutGradIdeal.Read

@[expose] public section

set_option maxRecDepth 16384

noncomputable section

open Idealize.ShloMosaic Idealize.ShloMosaic.TcCoe Idealize.SL.Sem

namespace Cert.GateOutGradIdeal.Grad

open Cert.GateOutGradIdeal Cert.GateOutGradIdeal.Read Cert.GateOut

variable (A : Args)

theorem ref_relu2 (r : Fin 16384) (k : Fin 4096) : val_main_v1 (F := Ideal) A.p (ix2 r k) = relu2 A r k := by
  pointwise [val_main_v1, val_main_v0, val_main_call0_v0, val_main_call0_cst, relu2]

/-- What the claim asks of the arguments: they are finite. -/
structure Finite : Prop where
  p : ∀ i, Reals.Fin1 (A.p i)
  w2 : ∀ i, Reals.Fin1 (A.w2 i)
  g2 : ∀ i, Reals.Fin1 (A.g2 i)
  dx2 : ∀ i, Reals.Fin1 (A.dx2 i)

section
variable {A} (h : Finite A)
include h

theorem fin_relu2 (r : Fin 16384) (k : Fin 4096) : Reals.Fin1 (relu2 A r k) := by
  obtain ⟨a, ha⟩ := h.p (ix2 r k)
  have : Reals.Fin1 (max (A.p (ix2 r k)) 0) := ⟨max a 0, by rw [ha, ← EReal.coe_zero]; exact (EReal.coe_strictMono.monotone.map_max).symm⟩
  exact this.mul this

/-- The gate goes inside the sum over the rows. -/
theorem result_dw (i : S4096x1024.Idx) : val_main_v12 (F := Ideal) A.p A.g2 A.dx2 i = dw A (i 0) (i 1) := by
  idx_vars i
  pointwise [val_main_v12, val_main_v11, val_main_v10, val_main_v6, val_main_v5, ref_relu2 A]
  choose s hs using fun r : Fin 16384 => fin_relu2 h r i0
  choose d hd using fun r : Fin 16384 => h.dx2 (ix2 r i1)
  obtain ⟨g, hg⟩ := h.g2 (ix2 0 i1)
  simp only [dw, raw, hs, hd, hg, ← EReal.coe_mul, Reals.coe_sum]
  exact congrArg _ (by rw [Finset.sum_mul]; exact Finset.sum_congr rfl fun r _ => by ring)

/-- The two sums of the gate's gradient change places. -/
theorem result_dgate (i : S1x1024.Idx) : val_main_v9 (F := Ideal) A.p A.w2 A.dx2 i = dgate A (i 1) := by
  idx_vars i
  pointwise [val_main_v9, val_main_v8, val_main_cst, val_main_v7, val_main_v2, ref_relu2 A]
  choose s hs using fun (r : Fin 16384) (k : Fin 4096) => fin_relu2 h r k
  choose d hd using fun r : Fin 16384 => h.dx2 (ix2 r i1)
  choose w hw using fun k : Fin 4096 => h.w2 (ix2 k i1)
  simp only [dgate, raw, hs, hd, hw, ← EReal.coe_mul, Reals.coe_sum]
  refine congrArg _ ?_
  simp only [Finset.mul_sum, Finset.sum_mul]
  rw [Finset.sum_comm]
  exact Finset.sum_congr rfl fun k _ => Finset.sum_congr rfl fun r _ => by ring

end

end Cert.GateOutGradIdeal.Grad

end
-- ==== Proof.GateOut.lean ====
/- Kernel and reference compute the same gradients of the gated product's weight and gate. -/
module

public import proofs.«01_k».proof.Defs
public import proofs.«01_k».proof.Proof.GateOutKernel
public import proofs.«01_k».proof.Proof.GateOutRef
public import proofs.«01_k».proof.Proof.Gen.GateOutGradIdeal.Run
public import proofs.«01_k».proof.Proof.Gen.Pre_gateout_finite

@[expose] public section

noncomputable section

open Idealize.ShloMosaic Idealize.ShloMosaic.TcCoe Idealize.SL.Sem

namespace Cert.GateOut

open Cert.GateOutBwdIdeal.Grad Cert.GateOutGradIdeal.Grad

/-- The precondition says that the arguments are finite. -/
theorem finite (m : (ℓ : Loc Cert.GateOutBwdIdeal.nD Cert.GateOutBwdIdeal.τ Cert.GateOutBwdIdeal.sig) → Buf (Elt Ideal) ℓ)
    (hp : Cert.Pre_GateOutBwdIdeal_gateout_finite m) (c : Dev Cert.GateOutBwdIdeal.nD) : Finite (args m c) := by
  obtain ⟨h0, h1, h2, h3⟩ := hp c
  exact ⟨fun i => Reals.fin1_of_lt (congrFun h0 i), fun i => Reals.fin1_of_lt (congrFun h1 i), fun i => Reals.fin1_of_lt (congrFun h2 i), fun i => Reals.fin1_of_lt (congrFun h3 i)⟩

/-- The reference terminates, keeps its arguments and uses no semaphore. -/
theorem frame_ref : Cert.quiescent_GateOutGradIdeal := fun m ρ _ =>
  (θ_run Cert.GateOutGradIdeal.defs _ _).mono (fun r h => ⟨fun c => (h c).2.2, sem_eq_zero_of_no_sems (by decide) r.2⟩)
    (Cert.GateOutGradIdeal.Value.run (F := Ideal) m ρ)

/-- The arguments, as the reference's memory holds them at launch. -/
def rargs (m : (ℓ : Loc Cert.GateOutGradIdeal.nD Cert.GateOutGradIdeal.τ Cert.GateOutGradIdeal.sig) → Buf (Elt Ideal) ℓ) (c : Dev Cert.GateOutGradIdeal.nD) : Args :=
  ⟨m ((c : Thread Cert.GateOutGradIdeal.nD Cert.GateOutGradIdeal.τ).loc Cert.GateOutGradIdeal.main_arg0), m ((c : Thread Cert.GateOutGradIdeal.nD Cert.GateOutGradIdeal.τ).loc Cert.GateOutGradIdeal.main_arg1),
    m ((c : Thread Cert.GateOutGradIdeal.nD Cert.GateOutGradIdeal.τ).loc Cert.GateOutGradIdeal.main_arg2), m ((c : Thread Cert.GateOutGradIdeal.nD Cert.GateOutGradIdeal.τ).loc Cert.GateOutGradIdeal.main_arg3)⟩

/-- The value claim. -/
theorem algebraic : Cert.algebraic_GateOutBwdIdeal_GateOutGradIdeal_pre_gateout_finite := fun m g m' g' hp hag =>
  ⟨fun c j => dw (args m c) (j 0) (j 1), fun c j => dgate (args m c) (j 1), run m g,
    (θ_run _ _ _).mono (fun _ h c => by
      obtain ⟨a0, a1, a2, a3⟩ := hag c
      have e : rargs m' c = args m c := by unfold rargs args; rw [a0, a1, a2, a3]
      have hf : Finite (rargs m' c) := e ▸ finite m hp c
      exact ⟨(h c).1.trans ((funext (result_dw hf)).trans (congrArg (fun (A : Args) (j : Shape.Idx ⟨2, ![4096, 1024]⟩) => dw A (j 0) (j 1)) e)),
        (h c).2.1.trans ((funext (result_dgate hf)).trans (congrArg (fun (A : Args) (j : Shape.Idx ⟨2, ![1, 1024]⟩) => dgate A (j 1)) e)), (h c).2.2⟩)
      (Cert.GateOutGradIdeal.Value.run m' g')⟩

end Cert.GateOut

end
-- ==== Proof.SsdSpec.lean ====
/- The gradients of a chunked state-space scan, as plain sums: what both programs are shown to compute. -/
module

public import proofs.«01_k».proof.Proof.Reals

@[expose] public section

noncomputable section

open Idealize.ShloMosaic

namespace Cert.Ssd

/-- The arguments: the three projections side by side, the raw step sizes, their bias, the logarithm of the decay rate, the skip's weight, and the
    cotangent. -/
structure Args where
  xbc : Shape.Idx ⟨2, ![16384, 3072]⟩ → EReal
  dtRaw : Shape.Idx ⟨2, ![16384, 32]⟩ → EReal
  dtBias : Shape.Idx ⟨1, ![32]⟩ → EReal
  aLog : Shape.Idx ⟨1, ![32]⟩ → EReal
  d : Shape.Idx ⟨1, ![32]⟩ → EReal
  dy : Shape.Idx ⟨2, ![16384, 2048]⟩ → EReal

/-- Row `l` of chunk `k`. -/
def row (k l : Fin 128) : Fin 16384 := ⟨k.val * 128 + l.val, by omega⟩

/-- Channel `p` of head `h`, head `r` of group `g`, and which head and which group a channel belongs to. -/
def chan (h : Fin 32) (p : Fin 64) : Fin 2048 := ⟨h.val * 64 + p.val, by omega⟩
def head (g : Fin 4) (r : Fin 8) : Fin 32 := ⟨g.val * 8 + r.val, by omega⟩
def headOf (q : Fin 2048) : Fin 32 := ⟨q.val / 64, by omega⟩
def groupOf (q : Fin 2048) : Fin 4 := ⟨q.val / 512, by omega⟩

/-- The chunk of a row and its place there; the group of a column of the second projection, and its place there. -/
def chunkOf (r : Fin 16384) : Fin 128 := ⟨r.val / 128, by omega⟩
def rowOf (r : Fin 16384) : Fin 128 := ⟨r.val % 128, by omega⟩
def grp (j : Fin 512) : Fin 4 := ⟨j.val / 128, by omega⟩
def lane (j : Fin 512) : Fin 128 := ⟨j.val % 128, by omega⟩

variable (A : Args)

/-- The three projections, and the cotangent, by chunk and row. -/
def X (k l : Fin 128) (q : Fin 2048) : EReal := A.xbc (ix2 (row k l) ⟨q.val, by omega⟩)
def B (k l : Fin 128) (g : Fin 4) (n : Fin 128) : EReal := A.xbc (ix2 (row k l) ⟨2048 + (g.val * 128 + n.val), by omega⟩)
def C (k l : Fin 128) (g : Fin 4) (n : Fin 128) : EReal := A.xbc (ix2 (row k l) ⟨2560 + (g.val * 128 + n.val), by omega⟩)
def dY (k l : Fin 128) (q : Fin 2048) : EReal := A.dy (ix2 (row k l) q)

/-- The softplus. -/
def softplus (z : EReal) : EReal := max z 0 + Ideal.log (1 + Ideal.exp (-(max z (-z))))

/-- The step size, the logarithm of the decay over one row, its sum up to a row, and over the chunk. -/
def dt (k l : Fin 128) (h : Fin 32) : EReal := softplus (A.dtRaw (ix2 (row k l) h) + A.dtBias (ix1 h))
def adt (k l : Fin 128) (h : Fin 32) : EReal := dt A k l h * -(Ideal.exp (A.aLog (ix1 h)))
def cs (k l : Fin 128) (h : Fin 32) : EReal := ∑ s : Fin 128, if s ≤ l then adt A k s h else 0

/-- The decay from row `s` to row `l`, from row `s` to the chunk's end, from its start to row `l`, and over it. -/
def lm (k l s : Fin 128) (h : Fin 32) : EReal := if s ≤ l then Ideal.exp (cs A k l h - cs A k s h) else 0
def dec (k s : Fin 128) (h : Fin 32) : EReal := Ideal.exp (cs A k 127 h - cs A k s h)
def ex (k l : Fin 128) (h : Fin 32) : EReal := Ideal.exp (cs A k l h)
def cd (k : Fin 128) (h : Fin 32) : EReal := Ideal.exp (cs A k 127 h)

/-- The scaled input, and the products of the second and third projection's rows. -/
def xdt (k s : Fin 128) (q : Fin 2048) : EReal := X A k s q * dt A k s (headOf q)
def cb (k l s : Fin 128) (g : Fin 4) : EReal := ∑ n : Fin 128, C A k l g n * B A k s g n

/-- The chunk that step `t` of the backward scan reads. -/
def rev (t : ℕ) : Fin 128 := ⟨127 - t, by omega⟩

/-- What chunk `k` adds to the state's gradient, and the state's gradient before step `t` of the backward scan. -/
def inc (k : Fin 128) (q : Fin 2048) (n : Fin 128) : EReal := ∑ l : Fin 128, (dY A k l q * ex A k l (headOf q)) * C A k l (groupOf q) n
def st : ℕ → Fin 2048 → Fin 128 → EReal
  | 0, _, _ => 0
  | t + 1, q, n => inc A (rev t) q n + cd A (rev t) (headOf q) * st t q n

/-- The state's gradient at the end of chunk `k`. -/
def dS (k : Fin 128) : Fin 2048 → Fin 128 → EReal := st A (127 - k.val)

/-- The gradient of the scaled input: through the state, and through the chunk's own rows. -/
def dxdt (k s : Fin 128) (q : Fin 2048) : EReal :=
  dec A k s (headOf q) * (∑ n : Fin 128, dS A k q n * B A k s (groupOf q) n) + ∑ l : Fin 128, dY A k l q * (cb A k l s (groupOf q) * lm A k l s (headOf q))
def dx (k s : Fin 128) (q : Fin 2048) : EReal := dY A k s q * A.d (ix1 (headOf q)) + dxdt A k s q * dt A k s (headOf q)

/-- The gradient of the products of rows, and of the second projection. -/
def dcb (k l s : Fin 128) (g : Fin 4) : EReal :=
  ∑ r : Fin 8, (∑ p : Fin 64, dY A k l (chan (head g r) p) * xdt A k s (chan (head g r) p)) * lm A k l s (head g r)
def dB (k s : Fin 128) (g : Fin 4) (n : Fin 128) : EReal :=
  (∑ r : Fin 8, ∑ p : Fin 64, dS A k (chan (head g r) p) n * (dec A k s (head g r) * xdt A k s (chan (head g r) p)))
    + ∑ l : Fin 128, dcb A k l s g * C A k l g n

/-- The gradient of the skip's weight. -/
def dD (h : Fin 32) : EReal := ∑ k : Fin 128, ∑ l : Fin 128, ∑ p : Fin 64, X A k l (chan h p) * dY A k l (chan h p)

end Cert.Ssd

end
-- ==== Proof.SsdLanes.lean ====
/- The lanes of a pair of heads: masks, halves, and which head, group and channel a lane belongs to. -/
module

public import proofs.«01_k».proof.Proof.SsdSpec
public import Idealize.ShloMosaic.Lib.ValueIdx

@[expose] public section

set_option maxRecDepth 16384

noncomputable section

open Idealize.ShloMosaic

namespace Cert.Ssd

/-- The group of a pair, and the four pairs of a group. -/
abbrev gr (p : Fin 16) : Fin 4 := ⟨p.val / 4, by omega⟩
abbrev pr (g : Fin 4) (i : Fin 4) : Fin 16 := ⟨4 * g.val + i.val, by omega⟩

/-- The masks: a lane below a bound, and a row at or below another. -/
theorem sel_32 : ∀ h : Fin 128, IntOp.cmpi CmpIPredicate.slt (BitVec.ofNat 32 h.val) 32#32 = if h.val < 32 then 1#1 else 0#1 := by decide +kernel
theorem sel_64 : ∀ h : Fin 128, IntOp.cmpi CmpIPredicate.slt (BitVec.ofNat 32 h.val) 64#32 = if h.val < 64 then 1#1 else 0#1 := by decide +kernel
theorem sel_ge : ∀ l s : Fin 128, IntOp.cmpi CmpIPredicate.sge (BitVec.ofNat 32 l.val) (BitVec.ofNat 32 s.val) = if s ≤ l then 1#1 else 0#1 := by decide +kernel

theorem select_ite (p : Prop) [Decidable p] (a b : EReal) : Scalar.select (if p then 1#1 else 0#1) a b = if p then a else b := by
  by_cases h : p <;> simp [h, Scalar.select]

/-- A sum over 128 lanes of which one half is masked. -/
theorem sum_halves (f : Fin 128 → EReal) : ∑ j : Fin 128, f j = (∑ p : Fin 64, f ⟨p.val, by omega⟩) + ∑ p : Fin 64, f ⟨64 + p.val, by omega⟩ :=
  Fin.sum_univ_add (a := 64) (b := 64) f
theorem sum_lo (f : Fin 128 → EReal) : (∑ j : Fin 128, if j.val < 64 then f j else 0) = ∑ p : Fin 64, f ⟨p.val, by omega⟩ := by
  rw [sum_halves]; simp
theorem sum_hi (f : Fin 128 → EReal) : (∑ j : Fin 128, if j.val < 64 then 0 else f j) = ∑ p : Fin 64, f ⟨64 + p.val, by omega⟩ := by
  rw [sum_halves]; simp

/-- The channel of a lane of a pair, and the pair's two heads. -/
def ch (p : Fin 16) (j : Fin 128) : Fin 2048 := ⟨128 * p.val + j.val, by omega⟩
def h0 (p : Fin 16) : Fin 32 := ⟨2 * p.val, by omega⟩
def h1 (p : Fin 16) : Fin 32 := ⟨2 * p.val + 1, by omega⟩
theorem headOf_lo (p : Fin 16) (j : Fin 128) (h : j.val < 64) : headOf (ch p j) = h0 p := Fin.ext (by simp only [headOf, ch, h0]; omega)
theorem headOf_hi (p : Fin 16) (j : Fin 128) (h : ¬ j.val < 64) : headOf (ch p j) = h1 p := Fin.ext (by simp only [headOf, ch, h1]; omega)
theorem groupOf_ch (p : Fin 16) (j : Fin 128) : groupOf (ch p j) = gr p := Fin.ext (by simp only [groupOf, ch]; omega)
theorem ch_lo (p : Fin 16) (q : Fin 64) (h) : ch p ⟨q.val, h⟩ = chan (h0 p) q := Fin.ext (by simp only [chan, ch, h0]; omega)
theorem ch_hi (p : Fin 16) (q : Fin 64) (h) : ch p ⟨64 + q.val, h⟩ = chan (h1 p) q := Fin.ext (by simp only [chan, ch, h1]; omega)
theorem headOf_chan (h : Fin 32) (p : Fin 64) : headOf (chan h p) = h := Fin.ext (by simp only [headOf, chan]; omega)
theorem pick (p : Fin 16) (j : Fin 128) (f : Fin 32 → EReal) : (if j.val < 64 then f (h0 p) else f (h1 p)) = f (headOf (ch p j)) := by
  by_cases h : j.val < 64
  · rw [if_pos h, headOf_lo p j h]
  · rw [if_neg h, headOf_hi p j h]

/-- The host's head of a channel: the quotient by 64, rounded down. -/
theorem head_word : ∀ q : Fin 2048, Scalar.select
          (IntOp.andi
            (IntOp.cmpi CmpIPredicate.ne
              (if BitVec.ofNat 32 q.val = 0 then (0 : BitVec 32) else if (BitVec.ofNat 32 q.val).msb = true then -1 else 1)
              (if (64#32 : BitVec 32) = 0 then (0 : BitVec 32) else if BitVec.msb 64#32 = true then -1 else 1))
            (IntOp.cmpi CmpIPredicate.ne (IntOp.remsi ArithUnit.host (BitVec.ofNat 32 q.val) 64#32) 0#32))
          (IntOp.subi (IntOp.divsi ArithUnit.host (BitVec.ofNat 32 q.val) 64#32) 1#32)
          (IntOp.divsi ArithUnit.host (BitVec.ofNat 32 q.val) 64#32) = BitVec.ofNat 32 (q.val / 64) := by decide +kernel

theorem hot_word (q : Fin 2048) (h : Fin 128) : (FloatOps.uitofp FTy.f32 (IntOp.cmpi CmpIPredicate.eq (BitVec.ofNat 32 (q.val / 64)) (BitVec.ofNat 32 h.val)) : Ideal .f32)
    = (if h.val = q.val / 64 then 1 else 0 : EReal) := by
  by_cases e : h.val = q.val / 64
  · rw [if_pos e, e, show IntOp.cmpi CmpIPredicate.eq (BitVec.ofNat 32 (q.val / 64)) (BitVec.ofNat 32 (q.val / 64)) = 1#1 by simp [IntOp.cmpi]]
    show (((1#1 : BitVec 1).toNat : ℝ) : EReal) = 1
    simp
  · have hne : ¬ BitVec.ofNat 32 (q.val / 64) = BitVec.ofNat 32 h.val := fun w => e (by
      have := congrArg BitVec.toNat w
      simp only [BitVec.toNat_ofNat] at this
      omega)
    rw [if_neg e, show IntOp.cmpi CmpIPredicate.eq (BitVec.ofNat 32 (q.val / 64)) (BitVec.ofNat 32 h.val) = 0#1 by
      show BitVec.ofBool (BitVec.ofNat 32 (q.val / 64) == BitVec.ofNat 32 h.val) = 0#1
      rw [beq_eq_false_iff_ne.mpr hne]; rfl]
    show (((0#1 : BitVec 1).toNat : ℝ) : EReal) = 0
    simp

end Cert.Ssd

end
-- ==== Proof.SsdTiles.lean ====
/- What one grid point of the gated scan's backward call stores, written once for every pair of heads: the kernel unrolls the sixteen pairs
   and cuts them at different places, and the stored tiles are the same functions of the pair's loads. -/
module

public import proofs.«01_k».proof.Proof.SsdLanes
public import proofs.«01_k».proof.Proof.Gen.SsdBwdIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SsdBwdIdeal.Grad

open Cert.SsdBwdIdeal Cert.SsdBwdIdeal.Gen
open Cert.Ssd (gr pr)

variable {F : FTy → Type} [FloatOps F]

/-- What a grid point reads: the blocks of its windows, and what the point before left in the two carried buffers. -/
structure Blk (F : FTy → Type) where
  x : Vec F S128x3072 .f32
  dt : Vec F S128x128 .f32
  dy : Vec F S128x2048 .f32
  saved : Vec F S1x16x128x128 .f32
  bias : Vec F S1x128 .f32
  rate : Vec F S1x128 .f32
  skip : Vec F S1x2048 .f32
  hot : Vec F S128x2048 .bf16
  state : Vec F S16x128x128 .f32
  cols : Vec F S1x2048 .f32

theorem inb_x (o : Fin 24) : ∀ a, (![0, 128 * o.val] : Fin 2 → ℕ) a + (![128, 128] : Fin 2 → ℕ) a ≤ S128x3072.size a := by
  intro a; fin_cases a <;> simp <;> omega
theorem inb_q (p : Fin 16) : ∀ a, (![0, 128 * p.val] : Fin 2 → ℕ) a + (![128, 128] : Fin 2 → ℕ) a ≤ S128x2048.size a := by
  intro a; fin_cases a <;> simp <;> omega
theorem inb_r (p : Fin 16) : ∀ a, (![0, 128 * p.val] : Fin 2 → ℕ) a + (![1, 128] : Fin 2 → ℕ) a ≤ S1x2048.size a := by
  intro a; fin_cases a <;> simp <;> omega
theorem inb_h (h : Fin 128) : ∀ a, (![h.val, 0] : Fin 2 → ℕ) a + (![1, 128] : Fin 2 → ℕ) a ≤ S128x128.size a := by
  intro a; fin_cases a <;> simp <;> omega
theorem inb_s (p : Fin 16) : ∀ a, (![p.val, 0, 0] : Fin 3 → ℕ) a + (![1, 128, 128] : Fin 3 → ℕ) a ≤ S16x128x128.size a := by
  intro a; fin_cases a <;> simp <;> omega

theorem inb_p (p : Fin 16) : ∀ a, (![0, p.val, 0, 0] : Fin 4 → ℕ) a + (![1, 1, 128, 128] : Fin 4 → ℕ) a ≤ S1x16x128x128.size a := by
  intro a; fin_cases a <;> simp <;> omega

namespace Blk
variable (B : Blk F)

/-- The tile of 128 columns of the inputs' block. -/
abbrev xs (o : Fin 24) : Vec F S128x128 .f32 := View.ld B.x (Rect.unit ![0, 128 * o.val] ![128, 128] (inb_x o))
abbrev X (p : Fin 16) : Vec F S128x128 .f32 := B.xs ⟨p.val, by omega⟩
abbrev Bm (g : Fin 4) : Vec F S128x128 .f32 := B.xs ⟨16 + g.val, by omega⟩
abbrev Cm (g : Fin 4) : Vec F S128x128 .f32 := B.xs ⟨20 + g.val, by omega⟩
abbrev D (p : Fin 16) : Vec F S128x128 .f32 := View.ld B.dy (Rect.unit ![0, 128 * p.val] ![128, 128] (inb_q p))
abbrev dtx : Vec F S128x2048 .f32 := k0_pay12 (k0_pay9 B.dt B.bias) B.hot
abbrev cst : Vec F S128x128 .f32 := k0_pay11 B.dt B.bias B.rate
abbrev last : Vec F S128x128 .f32 := k0_pay13 (k0_pay10 B.dt B.bias B.rate)
abbrev T (p : Fin 16) : Vec F S128x128 .f32 := View.ld B.dtx (Rect.unit ![0, 128 * p.val] ![128, 128] (inb_q p))
abbrev R (h : Fin 128) : Vec F S1x128 .f32 := View.ld B.cst (Rect.unit ![h.val, 0] ![1, 128] (inb_h h))
abbrev Q (h : Fin 128) : Vec F S1x128 .f32 := View.ld B.last (Rect.unit ![h.val, 0] ![1, 128] (inb_h h))
abbrev S (p : Fin 16) : Vec F S1x128x128 .f32 := View.ld B.state (Rect.unit ![p.val, 0, 0] ![1, 128, 128] (inb_s p))
abbrev H (p : Fin 16) : Vec F S1x1x128x128 .f32 := View.ld B.saved (Rect.unit ![0, p.val, 0, 0] ![1, 1, 128, 128] (inb_p p))
abbrev K (p : Fin 16) : Vec F S1x128 .f32 := View.ld B.skip (Rect.unit ![0, 128 * p.val] ![1, 128] (inb_r p))
abbrev W (p : Fin 16) : Vec F S1x128 .f32 := View.ld B.cols (Rect.unit ![0, 128 * p.val] ![1, 128] (inb_r p))

/-- The two heads of a pair. -/
abbrev lo (p : Fin 16) : Fin 128 := ⟨2 * p.val, by omega⟩
abbrev hi (p : Fin 16) : Fin 128 := ⟨2 * p.val + 1, by omega⟩

/-- The pair's new state. -/
def newState (p : Fin 16) : Vec F S1x128x128 .f32 :=
  shapeCast S1x128x128 (k0_pay52 (B.Cm (gr p)) (B.D p) (k0_pay21 (B.S p)) (k0_pay36 (k0_pay23 (B.R (lo p))) (k0_pay26 (B.R (hi p))) k0_pay29)
    (k0_pay40 (k0_pay24 (B.Q (lo p))) (k0_pay27 (B.Q (hi p))) k0_pay30)) shapeCasts_S128x128_S1x128x128

/-- The pair's gradient of its inputs. -/
def newX (p : Fin 16) : Vec F S128x128 .f32 :=
  k0_pay65 (B.D p) (B.T p)
    (k0_pay58 (B.Bm (gr p)) (k0_pay21 (B.S p))
      (k0_pay38 (k0_pay23 (B.R (lo p))) (k0_pay24 (B.Q (lo p))) (k0_pay26 (B.R (hi p))) (k0_pay27 (B.Q (hi p))) k0_pay29)
      (k0_pay44 (B.D p) k0_pay29 (k0_pay33 (k0_pay16 (B.Bm (gr p)) (B.Cm (gr p))) (B.R (lo p))))
      (k0_pay45 (k0_pay16 (B.Bm (gr p)) (B.Cm (gr p))) (k0_pay32 (B.R (hi p))))
      (k0_pay46 (B.D p) k0_pay29) (constant S128x128 .f32 0x00000000#32)) (B.K p)

/-- The gradient of the products `C B` of a group, a pair at a time. -/
def addCb (p : Fin 16) (a : Vec F S128x128 .f32) : Vec F S128x128 .f32 :=
  k0_pay47 a (k0_pay31 (B.R (lo p))) (k0_pay32 (B.R (hi p))) (k0_pay42 (B.X p) (B.D p) (B.T p) k0_pay29) (k0_pay43 (B.X p) (B.D p) (B.T p) k0_pay29)

/-- The gradient of `B` through the states, a pair at a time. -/
def addB (p : Fin 16) (a : Vec F S128x128 .f32) : Vec F S128x128 .f32 :=
  k0_pay55 a (k0_pay21 (B.S p)) (k0_pay39 (B.X p) (k0_pay23 (B.R (lo p))) (k0_pay24 (B.Q (lo p))) (k0_pay26 (B.R (hi p))) (k0_pay27 (B.Q (hi p))) (B.T p) k0_pay29)

/-- The gradient of `C` through the states, a pair at a time. -/
def addC (p : Fin 16) (a : Vec F S128x128 .f32) : Vec F S128x128 .f32 :=
  k0_pay51 a (B.D p) (k0_pay20 (B.H p)) (k0_pay36 (k0_pay23 (B.R (lo p))) (k0_pay26 (B.R (hi p))) k0_pay29)

/-- The gradient of `B` of a group. -/
def newB (g : Fin 4) : Vec F S128x128 .f32 :=
  k0_pay224 (B.Cm g) (B.addCb (pr g 3) (B.addCb (pr g 2) (B.addCb (pr g 1) (B.addCb (pr g 0) k0_pay17))))
    (B.addB (pr g 3) (B.addB (pr g 2) (B.addB (pr g 1) (B.addB (pr g 0) k0_pay18))))

/-- The gradient of `C` of a group. -/
def newC (g : Fin 4) : Vec F S128x128 .f32 :=
  k0_pay223 (B.Bm g) (B.addCb (pr g 3) (B.addCb (pr g 2) (B.addCb (pr g 1) (B.addCb (pr g 0) k0_pay17))))
    (B.addC (pr g 3) (B.addC (pr g 2) (B.addC (pr g 1) (B.addC (pr g 0) k0_pay19))))

/-- The pair's columns of the running sums of `x dy`. -/
def newCols (p : Fin 16) : Vec F S1x128 .f32 := k0_pay41 (B.X p) (B.D p) (B.W p)

/-- The stores, as pieces. -/
abbrev pS (p : Fin 16) : View.Piece (Elt F) S16x128x128 .f32 := ⟨Rect.unit ![p.val, 0, 0] ![1, 128, 128] (inb_s p), B.newState p⟩
abbrev pW (p : Fin 16) : View.Piece (Elt F) S1x2048 .f32 := ⟨Rect.unit ![0, 128 * p.val] ![1, 128] (inb_r p), B.newCols p⟩
abbrev pX (p : Fin 16) : View.Piece (Elt F) S128x3072 .f32 := ⟨Rect.unit ![0, 128 * p.val] ![128, 128] (inb_x ⟨p.val, by omega⟩), B.newX p⟩
abbrev pB (g : Fin 4) : View.Piece (Elt F) S128x3072 .f32 := ⟨Rect.unit ![0, 128 * (16 + g.val)] ![128, 128] (inb_x ⟨16 + g.val, by omega⟩), B.newB g⟩
abbrev pC (g : Fin 4) : View.Piece (Elt F) S128x3072 .f32 := ⟨Rect.unit ![0, 128 * (20 + g.val)] ![128, 128] (inb_x ⟨20 + g.val, by omega⟩), B.newC g⟩

abbrev pairs : List (Fin 16) := [15, 14, 13, 12, 11, 10, 9, 8, 7, 6, 5, 4, 3, 2, 1, 0]
/-- What the point stores of a group's gradients. -/
abbrev group (g : Fin 4) : List (View.Piece (Elt F) S128x3072 .f32) :=
  [B.pC g, B.pB g, B.pX (pr g 3), B.pX (pr g 2), B.pX (pr g 1), B.pX (pr g 0)]

abbrev grads : List (View.Piece (Elt F) S128x3072 .f32) := B.group 3 ++ B.group 2 ++ B.group 1 ++ B.group 0
/-- The fills of the carried buffers at the first point. -/
abbrev fillS : View.Piece (Elt F) S16x128x128 .f32 := ⟨Rect.unit ![0, 0, 0] ![16, 128, 128] (by intro a; fin_cases a <;> simp), k0_pay4⟩
abbrev fillW : View.Piece (Elt F) S1x2048 .f32 := ⟨Rect.unit ![0, 0] ![1, 2048] (by intro a; fin_cases a <;> simp), k0_pay5⟩

end Blk

variable (m : (ℓ : Loc nD τ sig) → Buf (Elt F) ℓ)

/-- What point `t` reads, over the carried buffers. -/
abbrev blk (c : Dev nD) (t : Fin cfg0.N) (s : Vec F S16x128x128 .f32) (w : Vec F S1x2048 .f32) : Blk F :=
  ⟨iblk m c 0 t, iblk m c 1 t, iblk m c 2 t, iblk m c 3 t, iblk m c 4 t, iblk m c 5 t, iblk m c 6 t, iblk m c 8 t, s, w⟩

/-- The point before. -/
theorem pre_lt (t : Fin cfg0.N) : t.val - 1 < cfg0.N := lt_of_le_of_lt (Nat.sub_le _ _) t.isLt
abbrev prev (c : Dev nD) (t : Fin cfg0.N) := outsAt0 m c (t.val - 1) (pre_lt t)
abbrev blkOf (c : Dev nD) (t : Fin cfg0.N) : Blk F := blk m c t (prev m c t).2.2.2.2.2.1 (prev m c t).2.2.2.2.2.2

end Cert.SsdBwdIdeal.Grad

end
-- ==== Proof.SsdVal.lean ====
/- The tiles of `SsdTiles` as the sums of `SsdSpec`, where the blocks that a grid point reads are the rows of one chunk. -/
module

public import proofs.«01_k».proof.Proof.SsdLanes
public import proofs.«01_k».proof.Proof.SsdTiles
public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.SsdBwdIdeal.Grad

open Cert.SsdBwdIdeal Cert.SsdBwdIdeal.Gen Cert.Ssd

/-- The step of a lane: the softplus below lane 32, zero from there on. -/
theorem step_at (x : Vec Ideal S128x128 .f32) (b : Vec Ideal S1x128 .f32) (l h : Fin 128) :
    k0_pay9 x b (ix2 l h) = if h.val < 32 then softplus (x (ix2 l h) + b (ix2 0 h)) else 0 := by
  pointwise [k0_pay9]
  rw [sel_32, select_ite, zero_sub]
  rfl

theorem h0_pr (g i : Fin 4) : h0 (pr g i) = head g ⟨2 * i.val, by omega⟩ := Fin.ext (by simp only [h0, pr, head]; omega)
theorem h1_pr (g i : Fin 4) : h1 (pr g i) = head g ⟨2 * i.val + 1, by omega⟩ := Fin.ext (by simp only [h1, pr, head]; omega)

/-- The blocks hold the rows of chunk `k`, and the state's gradient is `G`. -/
structure Fits (A : Args) (k : Fin 128) (G : Fin 2048 → Fin 128 → EReal) (B : Blk Ideal) : Prop where
  x : ∀ (l : Fin 128) (q : Fin 3072), B.x (ix2 l q) = A.xbc (ix2 (row k l) q)
  dt : ∀ (l : Fin 128) (h : Fin 32), B.dt (ix2 l ⟨h.val, by omega⟩) = A.dtRaw (ix2 (row k l) h)
  dy : ∀ (l : Fin 128) (q : Fin 2048), B.dy (ix2 l q) = A.dy (ix2 (row k l) q)
  bias : ∀ h : Fin 32, B.bias (ix2 0 ⟨h.val, by omega⟩) = A.dtBias (ix1 h)
  rate : ∀ h : Fin 32, B.rate (ix2 0 ⟨h.val, by omega⟩) = -(Ideal.exp (A.aLog (ix1 h)))
  skip : ∀ q : Fin 2048, B.skip (ix2 0 q) = A.d (ix1 (headOf q))
  hot : ∀ (h : Fin 128) (q : Fin 2048), B.hot (ix2 h q) = if h.val = q.val / 64 then 1 else 0
  state : ∀ (p : Fin 16) (j n : Fin 128), B.state (ix3 p j n) = G (ch p j) n

namespace Fits
variable {A : Args} {k : Fin 128} {G : Fin 2048 → Fin 128 → EReal} {B : Blk Ideal} (H : Fits A k G B)
include H

theorem dt_at (l : Fin 128) (h : Fin 32) : k0_pay9 B.dt B.bias (ix2 l ⟨h.val, by omega⟩) = Ssd.dt A k l h := by
  rw [step_at, if_pos h.isLt, H.dt, H.bias]; rfl
theorem adt_at (l : Fin 128) (h : Fin 32) : k0_pay10 B.dt B.bias B.rate (ix2 l ⟨h.val, by omega⟩) = adt A k l h := by
  pointwise [k0_pay10]
  rw [H.dt_at, H.rate]; rfl
theorem cst_at (l : Fin 128) (h : Fin 32) : B.cst (ix2 ⟨h.val, by omega⟩ l) = cs A k l h := by
  show k0_pay11 B.dt B.bias B.rate _ = _
  pointwise [k0_pay11]
  refine Finset.sum_congr rfl fun s _ => ?_
  rw [sel_ge, select_ite, H.adt_at]
theorem last_at (l : Fin 128) (h : Fin 32) : B.last (ix2 ⟨h.val, by omega⟩ l) = cs A k 127 h := by
  show k0_pay13 (k0_pay10 B.dt B.bias B.rate) _ = _
  pointwise [k0_pay13]
  refine Finset.sum_congr rfl fun s _ => ?_
  rw [H.adt_at, if_pos (show s ≤ 127 from Fin.le_last s)]
theorem dtx_at (l : Fin 128) (q : Fin 2048) : B.dtx (ix2 l q) = Ssd.dt A k l (headOf q) := by
  show k0_pay12 (k0_pay9 B.dt B.bias) B.hot _ = _
  pointwise [k0_pay12]
  rw [Finset.sum_eq_single (⟨(headOf q).val, by omega⟩ : Fin 128)]
  · rw [H.dt_at, H.hot, if_pos (show (headOf q).val = q.val / 64 from rfl), mul_one]
  · intro h _ hne
    rw [H.hot, if_neg (fun e : h.val = q.val / 64 => hne (Fin.ext e)), mul_zero]
  · intro h; exact absurd (Finset.mem_univ _) h

theorem X_at (p : Fin 16) (l j : Fin 128) : B.X p (ix2 l j) = Ssd.X A k l (ch p j) :=
  (Blocks.ld_cols _ _ l j l ⟨128 * p.val + j.val, by omega⟩ rfl rfl).trans (H.x l _)
theorem Bm_at (g : Fin 4) (l n : Fin 128) : B.Bm g (ix2 l n) = Ssd.B A k l g n :=
  (Blocks.ld_cols _ _ l n l ⟨2048 + (g.val * 128 + n.val), by omega⟩ rfl (by simp only; omega)).trans (H.x l _)
theorem Cm_at (g : Fin 4) (l n : Fin 128) : B.Cm g (ix2 l n) = Ssd.C A k l g n :=
  (Blocks.ld_cols _ _ l n l ⟨2560 + (g.val * 128 + n.val), by omega⟩ rfl (by simp only; omega)).trans (H.x l _)
theorem D_at (p : Fin 16) (l j : Fin 128) : B.D p (ix2 l j) = dY A k l (ch p j) :=
  (Blocks.ld_cols _ _ l j l (ch p j) rfl rfl).trans (H.dy l _)
theorem T_at (p : Fin 16) (l j : Fin 128) : B.T p (ix2 l j) = Ssd.dt A k l (headOf (ch p j)) :=
  (Blocks.ld_cols _ _ l j l (ch p j) rfl rfl).trans (H.dtx_at l _)
theorem K_at (p : Fin 16) (j : Fin 128) : B.K p (ix2 0 j) = A.d (ix1 (headOf (ch p j))) :=
  (Blocks.ld_cols _ _ 0 j 0 (ch p j) rfl rfl).trans (H.skip _)
theorem S_at (p : Fin 16) (j n : Fin 128) : B.S p (ix3 0 j n) = G (ch p j) n :=
  (Blocks.ld_eq _ _ _ (ix3 p j n) (funext fun a => Fin.ext (by fin_cases a <;> simp [Rect.emb_apply]))).trans (H.state p j n)
theorem R_lo (p : Fin 16) (l : Fin 128) : B.R (Blk.lo p) (ix2 0 l) = cs A k l (h0 p) :=
  (Blocks.ld_eq _ _ _ (ix2 (Blk.lo p) l) (Blocks.idx2_ext (by simp [Rect.emb_apply]) (by simp [Rect.emb_apply]))).trans (H.cst_at l (h0 p))
theorem R_hi (p : Fin 16) (l : Fin 128) : B.R (Blk.hi p) (ix2 0 l) = cs A k l (h1 p) :=
  (Blocks.ld_eq _ _ _ (ix2 (Blk.hi p) l) (Blocks.idx2_ext (by simp [Rect.emb_apply]) (by simp [Rect.emb_apply]))).trans (H.cst_at l (h1 p))
theorem Q_lo (p : Fin 16) (l : Fin 128) : B.Q (Blk.lo p) (ix2 0 l) = cs A k 127 (h0 p) :=
  (Blocks.ld_eq _ _ _ (ix2 (Blk.lo p) l) (Blocks.idx2_ext (by simp [Rect.emb_apply]) (by simp [Rect.emb_apply]))).trans (H.last_at l (h0 p))
theorem Q_hi (p : Fin 16) (l : Fin 128) : B.Q (Blk.hi p) (ix2 0 l) = cs A k 127 (h1 p) :=
  (Blocks.ld_eq _ _ _ (ix2 (Blk.hi p) l) (Blocks.idx2_ext (by simp [Rect.emb_apply]) (by simp [Rect.emb_apply]))).trans (H.last_at l (h1 p))

theorem newState_at (p : Fin 16) (j n : Fin 128) :
    B.newState p (ix3 0 j n) = inc A k (ch p j) n + cd A k (headOf (ch p j)) * G (ch p j) n := by
  unfold Blk.newState
  pointwise [k0_pay52, k0_pay21, k0_pay36, k0_pay23, k0_pay26, k0_pay29, k0_pay40, k0_pay24, k0_pay27, k0_pay30, k0_pay50, k0_pay22, k0_pay25]
  simp only [sel_64, select_ite, H.D_at, H.Cm_at, H.R_lo, H.R_hi, H.Q_lo, H.Q_hi, H.S_at]
  rw [pick p j fun h => Ideal.exp (cs A k 127 h)]
  refine congrArg₂ (· + ·) (Finset.sum_congr rfl fun l _ => ?_) rfl
  rw [pick p j fun h => Ideal.exp (cs A k l h), groupOf_ch]
  rfl

theorem newX_at (p : Fin 16) (s j : Fin 128) (hG : G = dS A k) : B.newX p (ix2 s j) = dx A k s (ch p j) := by
  unfold Blk.newX
  pointwise [k0_pay65, k0_pay58, k0_pay21, k0_pay38, k0_pay44, k0_pay45, k0_pay46, k0_pay33, k0_pay34, k0_pay16, k0_pay32, k0_pay31, k0_pay28, k0_pay23, k0_pay26, k0_pay29, k0_pay40, k0_pay24, k0_pay27, k0_pay30, k0_pay50, k0_pay22, k0_pay25, k0_pay54, k0_pay62, k0_pay63, k0_pay64]
  simp only [sel_64, sel_ge, select_ite, H.D_at, H.Cm_at, H.Bm_at, H.R_lo, H.R_hi, H.Q_lo, H.Q_hi, H.S_at, H.T_at, H.K_at]
  rw [pick p j fun h => Ideal.exp (cs A k 127 h - cs A k s h), hG]
  have e : ((∑ l : Fin 128, if j.val < 64 then (if s ≤ l then (∑ n : Fin 128, Ssd.C A k l (gr p) n * Ssd.B A k s (gr p) n) * Ideal.exp (cs A k l (h0 p) - cs A k s (h0 p)) * dY A k l (ch p j) else 0) else 0)
      + ∑ l : Fin 128, if j.val < 64 then 0 else (if s ≤ l then (∑ n : Fin 128, Ssd.C A k l (gr p) n * Ssd.B A k s (gr p) n) * Ideal.exp (cs A k l (h1 p) - cs A k s (h1 p)) * dY A k l (ch p j) else 0))
      = ∑ l : Fin 128, dY A k l (ch p j) * (cb A k l s (groupOf (ch p j)) * lm A k l s (headOf (ch p j))) := by
    rw [← Finset.sum_add_distrib]
    refine Finset.sum_congr rfl fun l _ => ?_
    rw [groupOf_ch]
    by_cases hj : j.val < 64
    · rw [if_pos hj, if_pos hj, add_zero, headOf_lo p j hj, lm, cb]
      by_cases hl : s ≤ l
      · rw [if_pos hl, if_pos hl, mul_comm]
      · rw [if_neg hl, if_neg hl, mul_zero, mul_zero]
    · rw [if_neg hj, if_neg hj, zero_add, headOf_hi p j hj, lm, cb]
      by_cases hl : s ≤ l
      · rw [if_pos hl, if_pos hl, mul_comm]
      · rw [if_neg hl, if_neg hl, mul_zero, mul_zero]
  rw [e, dx, dxdt, mul_comm (A.d _), groupOf_ch]
  refine congrArg₂ (· + ·) rfl (congrArg (· * _) ?_)
  rw [add_comm, mul_comm]
  refine congrArg₂ (· + ·) (congrArg₂ (· * ·) rfl (Finset.sum_congr rfl fun n _ => mul_comm _ _)) rfl

/-- What the head `h` adds to the gradient of the products of rows, and of the second projection. -/
theorem addCb_at (p : Fin 16) (a : Vec Ideal S128x128 .f32) (l s : Fin 128) :
    B.addCb p a (ix2 l s) = a (ix2 l s) + (∑ q : Fin 64, dY A k l (chan (h0 p) q) * xdt A k s (chan (h0 p) q)) * lm A k l s (h0 p)
      + (∑ q : Fin 64, dY A k l (chan (h1 p) q) * xdt A k s (chan (h1 p) q)) * lm A k l s (h1 p) := by
  unfold Blk.addCb
  pointwise [k0_pay47, k0_pay31, k0_pay32, k0_pay42, k0_pay43, k0_pay29, k0_pay35, k0_pay28, k0_pay23, k0_pay26, k0_pay22, k0_pay25]
  simp only [sel_64, sel_ge, select_ite, H.D_at, H.X_at, H.T_at, H.R_lo, H.R_hi]
  rw [sum_lo fun j => dY A k l (ch p j) * (Ssd.X A k s (ch p j) * Ssd.dt A k s (headOf (ch p j))),
    sum_hi fun j => dY A k l (ch p j) * (Ssd.X A k s (ch p j) * Ssd.dt A k s (headOf (ch p j)))]
  simp only [ch_lo, ch_hi]
  unfold lm xdt
  by_cases h : s ≤ l
  · simp only [if_pos h]
  · simp only [if_neg h, mul_zero]

theorem addB_at (p : Fin 16) (a : Vec Ideal S128x128 .f32) (s n : Fin 128) :
    B.addB p a (ix2 s n) = a (ix2 s n) + (∑ q : Fin 64, G (chan (h0 p) q) n * (dec A k s (h0 p) * xdt A k s (chan (h0 p) q)))
      + ∑ q : Fin 64, G (chan (h1 p) q) n * (dec A k s (h1 p) * xdt A k s (chan (h1 p) q)) := by
  unfold Blk.addB
  pointwise [k0_pay55, k0_pay21, k0_pay39, k0_pay38, k0_pay35, k0_pay23, k0_pay24, k0_pay26, k0_pay27, k0_pay29, k0_pay22, k0_pay25]
  simp only [sel_64, select_ite, H.X_at, H.T_at, H.R_lo, H.R_hi, H.Q_lo, H.Q_hi, H.S_at]
  rw [sum_halves, add_assoc]
  refine congrArg₂ (· + ·) rfl (congrArg₂ (· + ·) (Finset.sum_congr rfl fun q _ => ?_) (Finset.sum_congr rfl fun q _ => ?_))
  · rw [if_pos q.isLt, ch_lo, mul_comm, mul_comm (Ssd.X A k s _ * _)]; rfl
  · rw [if_neg (by simp), ch_hi, mul_comm, mul_comm (Ssd.X A k s _ * _)]; rfl

theorem newB_at (g : Fin 4) (s n : Fin 128) (hG : G = dS A k) : B.newB g (ix2 s n) = dB A k s g n := by
  unfold Blk.newB
  pointwise [k0_pay224]
  simp only [H.addCb_at, H.addB_at]
  pointwise [k0_pay17, k0_pay18]
  rw [hG, dB, Fin.sum_univ_eight]
  refine congrArg₂ (· + ·) ?_ (Finset.sum_congr rfl fun l _ => ?_)
  · simp only [h0_pr, h1_pr, H.Cm_at]; first | rfl | (rw [zero_add]; rfl)
  · rw [dcb, Fin.sum_univ_eight]; simp only [h0_pr, h1_pr, H.Cm_at]; first | rfl | (rw [zero_add]; rfl)

omit H in
/-- The running sums: the pair's columns. -/
theorem newCols_at (H : Fits A k G B) (p : Fin 16) (j : Fin 128) :
    B.newCols p (ix2 0 j) = B.cols (ix2 0 (ch p j)) + ∑ l : Fin 128, Ssd.X A k l (ch p j) * dY A k l (ch p j) := by
  unfold Blk.newCols
  pointwise [k0_pay41]
  simp only [H.D_at, H.X_at]
  refine congrArg₂ (· + ·) (Blocks.ld_cols _ _ 0 j 0 (ch p j) rfl rfl) (Finset.sum_congr rfl fun l _ => mul_comm _ _)

end Fits

end Cert.SsdBwdIdeal.Grad

end
-- ==== Proof.SsdHost.lean ====
/- What the host hands the gated scan's backward call, and what a grid point therefore reads. -/
module

public import proofs.«01_k».proof.Proof.SsdVal
public import Idealize.ShloMosaic.Lib.Routing.OpsOne

@[expose] public section
set_option maxRecDepth 16384
noncomputable section
open Idealize.ShloMosaic Idealize.ShloMosaic.TcCoe Idealize.SL.Sem
open Idealize.ShloMosaic.Pipeline (Dat)
namespace Cert.SsdBwdIdeal.Grad
open Cert.SsdBwdIdeal Cert.SsdBwdIdeal.Gen Cert.Ssd
variable (m : (ℓ : Loc nD τ sig) → Buf (Elt Ideal) ℓ)

/-- The arguments, as the kernel's memory holds them at launch. -/
abbrev args (c : Dev nD) : Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5)⟩

/-- Which block each window takes at each point: the chunks from the last to the first. -/
theorem idx_val : ∀ t : Fin cfg0.N, win0_0.index t = ![127 - t.val, 0] ∧ win0_1.index t = ![127 - t.val, 0] ∧ win0_2.index t = ![127 - t.val, 0]
    ∧ win0_4.index t = ![0, 0] ∧ win0_5.index t = ![0, 0] ∧ win0_6.index t = ![0, 0] ∧ win0_7.index t = ![0, 0] ∧ win0_8.index t = ![0, 0]
    ∧ win0_9.index t = ![127 - t.val, 0] ∧ win0_13.index t = ![0, 0] :=
  (by decide +kernel : ∀ t : Fin grid0.N, _)

/-- A row of 32 numbers written into the first lanes of a row of 128. -/
theorem row_set (Z : IVec S2 32) (hZ : ∀ x, Z x = 0#32) (x0 : S1x128.Idx → EReal) (u : S32.Idx → EReal) (h : Fin 32) :
    Host.scatter scatter_S1x128_S2_S32_0_0_01_0 (fun _ b => b) x0 Z u (ix2 0 ⟨h.val, by omega⟩) = u (ix1 h) := by
  have hw0 : ∀ k : Fin 32, scatter_S1x128_S2_S32_0_0_01_0.window (ix1 k) 0 = 0 := fun k => by
    unfold ScatterDims.window
    rw [dif_neg (by decide)]
  have hw1 : ∀ k : Fin 32, scatter_S1x128_S2_S32_0_0_01_0.window (ix1 k) 1 = k.val := fun k => by
    unfold ScatterDims.window
    rw [dif_pos (by decide)]
    exact congrArg (fun t => ((ix1 k : S32.Idx) t).val) (Subsingleton.elim (α := Fin 1) _ 0)
  have hs : ∀ (k : Fin 32) (q : Fin 2), scatter_S1x128_S2_S32_0_0_01_0.start (ix1 k) Z q = 0 := fun k q =>
    (Routing.start_pair (R := 1) (C := 128) scatter_S1x128_S2_S32_0_0_01_0 rfl rfl Z (ix1 k) q).trans (by rw [hZ]; rfl)
  have lands : ∀ (k : Fin 32), scatter_S1x128_S2_S32_0_0_01_0.resultIdx? (ix1 k) Z = some (ix2 0 ⟨h.val, by omega⟩) ↔ k = h := fun k => by
    refine (Routing.resultIdx?_ix2 (R := 1) (C := 128) scatter_S1x128_S2_S32_0_0_01_0 (ix1 k) Z 0 ⟨h.val, by omega⟩).trans ?_
    rw [hs, hs, hw0, hw1, Fin.ext_iff]
    simp
  refine Routing.scatter_set_hit _ x0 Z u _ _ (fun k hk => ?_) (ix1 h) ((lands h).2 rfl)
  idx_vars k
  rw [(lands _).1 hk]

/-- The two index words are zero. -/
theorem words_zero (x : S2.Idx) : concatenate S2 0 [⟨S1, broadcastInDim S1 ![] bcast_S_S1 (constantI S_ 32 0#32)⟩, ⟨S1, broadcastInDim S1 ![] bcast_S_S1 (constantI S_ 32 0#32)⟩] concatenates_S1_S1_S2_d0 x = 0#32 := by
  idx_vars x
  fin_cases x0 <;> pointwise []

/-- What the host hands the region: the bias, the rates, the skip weights, the raw steps and the heads' channels. -/
theorem V_bias (c : Dev nD) (h : Fin 32) : V m c main_v22 (ix2 0 ⟨h.val, by omega⟩) = (args m c).dtBias (ix1 h) := by
  show StableHlo.after (List.flatten [hostOps0, hostOps0_1, hostOps0_2, hostOps0_3]) (fun b => m (c, b)) (Proc.devRef .tc main_v22) _ = _
  simp only [List.flatten_cons, List.flatten_nil, List.append_nil, List.cons_append, List.nil_append]
  after_results
  exact row_set _ words_zero _ _ h
theorem V_rate (c : Dev nD) (h : Fin 32) : V m c main_v17 (ix2 0 ⟨h.val, by omega⟩) = -(Ideal.exp ((args m c).aLog (ix1 h))) := by
  show StableHlo.after (List.flatten [hostOps0, hostOps0_1, hostOps0_2, hostOps0_3]) (fun b => m (c, b)) (Proc.devRef .tc main_v17) _ = _
  simp only [List.flatten_cons, List.flatten_nil, List.append_nil, List.cons_append, List.nil_append]
  after_results
  refine (row_set _ words_zero _ _ h).trans ?_
  pointwise []
theorem V_skip (c : Dev nD) (q : Fin 2048) : V m c main_v25 (ix2 0 q) = (args m c).d (ix1 (headOf q)) := by
  show StableHlo.after (List.flatten [hostOps0, hostOps0_1, hostOps0_2, hostOps0_3]) (fun b => m (c, b)) (Proc.devRef .tc main_v25) _ = _
  simp only [List.flatten_cons, List.flatten_nil, List.append_nil, List.cons_append, List.nil_append]
  after_results
  pointwise []
  rfl
theorem V_dt (c : Dev nD) (r : Fin 16384) (h : Fin 32) : V m c main_v26 (ix2 r ⟨h.val, by omega⟩) = (args m c).dtRaw (ix2 r h) := by
  show StableHlo.after (List.flatten [hostOps0, hostOps0_1, hostOps0_2, hostOps0_3]) (fun b => m (c, b)) (Proc.devRef .tc main_v26) _ = _
  simp only [List.flatten_cons, List.flatten_nil, List.append_nil, List.cons_append, List.nil_append]
  after_results
  simp only [StableHlo.TRef.toBuf, StableHlo.TRef.ofBuf, cast_eq]
  pointwise []
theorem V_seg (c : Dev nD) (q : Fin 2048) (h : Fin 128) : V m c main_v10 (ix2 q h) = (if h.val = q.val / 64 then 1 else 0 : EReal) := by
  show StableHlo.after (List.flatten [hostOps0, hostOps0_1, hostOps0_2, hostOps0_3]) (fun b => m (c, b)) (Proc.devRef .tc main_v10) _ = _
  simp only [List.flatten_cons, List.flatten_nil, List.append_nil, List.cons_append, List.nil_append]
  after_results
  simp only [StableHlo.TRef.toBuf, StableHlo.TRef.ofBuf, cast_eq]
  pointwise []
  exact (congrArg (fun w => FloatOps.uitofp FTy.f32 (IntOp.cmpi CmpIPredicate.eq w (BitVec.ofNat 32 h.val))) (head_word q)).trans (hot_word q h)
theorem V_hot (c : Dev nD) (h : Fin 128) (q : Fin 2048) : V m c main_v12 (ix2 h q) = V m c main_v10 (ix2 q h) := by
  show StableHlo.after (List.flatten [hostOps0, hostOps0_1, hostOps0_2, hostOps0_3]) (fun b => m (c, b)) (Proc.devRef .tc main_v12) _
    = StableHlo.after (List.flatten [hostOps0, hostOps0_1, hostOps0_2, hostOps0_3]) (fun b => m (c, b)) (Proc.devRef .tc main_v10) _
  simp only [List.flatten_cons, List.flatten_nil, List.append_nil, List.cons_append, List.nil_append]
  after_results
  pointwise []

theorem t_lt (t : Fin cfg0.N) : t.val < 128 := lt_of_lt_of_eq t.isLt N_0

/-- A block of each host-made array, at an index: the chunk's rows, or the whole array. -/
theorem read_dt (v : S16384x128.Idx → Elt Ideal .f32) (t : Fin cfg0.N) (i j : Fin 128) :
    ((cfg0.win 1).blk t).view.read (Elt Ideal) v (ix2 i j) = v (ix2 (row (rev t.val) i) j) :=
  congrArg v (Blocks.idx2_ext (by blk_point [idx_val t, row, rev]) (by blk_point [idx_val t]))
theorem read_x (v : S16384x3072.Idx → Elt Ideal .f32) (t : Fin cfg0.N) (i : Fin 128) (j : Fin 3072) :
    ((cfg0.win 0).blk t).view.read (Elt Ideal) v (ix2 i j) = v (ix2 (row (rev t.val) i) j) :=
  congrArg v (Blocks.idx2_ext (by blk_point [idx_val t, row, rev]) (by blk_point [idx_val t]))
theorem read_dy (v : S16384x2048.Idx → Elt Ideal .f32) (t : Fin cfg0.N) (i : Fin 128) (j : Fin 2048) :
    ((cfg0.win 2).blk t).view.read (Elt Ideal) v (ix2 i j) = v (ix2 (row (rev t.val) i) j) :=
  congrArg v (Blocks.idx2_ext (by blk_point [idx_val t, row, rev]) (by blk_point [idx_val t]))
theorem read_bias (v : S1x128.Idx → Elt Ideal .f32) (t : Fin cfg0.N) (j : Fin 128) : ((cfg0.win 4).blk t).view.read (Elt Ideal) v (ix2 0 j) = v (ix2 0 j) :=
  congrArg v (Blocks.idx2_ext (by blk_point [idx_val t]) (by blk_point [idx_val t]))
theorem read_rate (v : S1x128.Idx → Elt Ideal .f32) (t : Fin cfg0.N) (j : Fin 128) : ((cfg0.win 5).blk t).view.read (Elt Ideal) v (ix2 0 j) = v (ix2 0 j) :=
  congrArg v (Blocks.idx2_ext (by blk_point [idx_val t]) (by blk_point [idx_val t]))
theorem read_skip (v : S1x2048.Idx → Elt Ideal .f32) (t : Fin cfg0.N) (j : Fin 2048) : ((cfg0.win 6).blk t).view.read (Elt Ideal) v (ix2 0 j) = v (ix2 0 j) :=
  congrArg v (Blocks.idx2_ext (by blk_point [idx_val t]) (by blk_point [idx_val t]))
theorem read_seg (v : S2048x128.Idx → Elt Ideal .f32) (t : Fin cfg0.N) (i : Fin 2048) (j : Fin 128) : ((cfg0.win 7).blk t).view.read (Elt Ideal) v (ix2 i j) = v (ix2 i j) :=
  congrArg v (Blocks.idx2_ext (by blk_point [idx_val t]) (by blk_point [idx_val t]))
theorem read_hot (v : S128x2048.Idx → Elt Ideal .bf16) (t : Fin cfg0.N) (i : Fin 128) (j : Fin 2048) : ((cfg0.win 8).blk t).view.read (Elt Ideal) v (ix2 i j) = v (ix2 i j) :=
  congrArg v (Blocks.idx2_ext (by blk_point [idx_val t]) (by blk_point [idx_val t]))

theorem x_at (c : Dev nD) (t : Fin cfg0.N) (l : Fin 128) (q : Fin 3072) : iblk m c 0 t (ix2 l q) = (args m c).xbc (ix2 (row (rev t.val) l) q) := by
  unfold iblk
  exact (read_x (V m c main_arg0) t l q).trans (congrFun (V_main_arg0 m c) _)
theorem dt_at (c : Dev nD) (t : Fin cfg0.N) (l : Fin 128) (h : Fin 32) : iblk m c 1 t (ix2 l ⟨h.val, by omega⟩) = (args m c).dtRaw (ix2 (row (rev t.val) l) h) := by
  unfold iblk
  exact (read_dt (V m c main_v26) t l ⟨h.val, by omega⟩).trans (V_dt m c (row (rev t.val) l) h)
theorem dy_at (c : Dev nD) (t : Fin cfg0.N) (l : Fin 128) (q : Fin 2048) : iblk m c 2 t (ix2 l q) = (args m c).dy (ix2 (row (rev t.val) l) q) := by
  unfold iblk
  exact (read_dy (V m c main_arg5) t l q).trans (congrFun (V_main_arg5 m c) _)
theorem bias_at (c : Dev nD) (t : Fin cfg0.N) (h : Fin 32) : iblk m c 4 t (ix2 0 ⟨h.val, by omega⟩) = (args m c).dtBias (ix1 h) := by
  unfold iblk
  exact (read_bias (V m c main_v22) t ⟨h.val, by omega⟩).trans (V_bias m c h)
theorem rate_at (c : Dev nD) (t : Fin cfg0.N) (h : Fin 32) : iblk m c 5 t (ix2 0 ⟨h.val, by omega⟩) = -(Ideal.exp ((args m c).aLog (ix1 h))) := by
  unfold iblk
  exact (read_rate (V m c main_v17) t ⟨h.val, by omega⟩).trans (V_rate m c h)
theorem skip_at (c : Dev nD) (t : Fin cfg0.N) (q : Fin 2048) : iblk m c 6 t (ix2 0 q) = (args m c).d (ix1 (headOf q)) := by
  unfold iblk
  exact (read_skip (V m c main_v25) t q).trans (V_skip m c q)
theorem hot_at (c : Dev nD) (t : Fin cfg0.N) (h : Fin 128) (q : Fin 2048) : iblk m c 8 t (ix2 h q) = (if h.val = q.val / 64 then 1 else 0 : EReal) := by
  unfold iblk
  exact (read_hot (V m c main_v12) t h q).trans ((V_hot m c h q).trans (V_seg m c q h))

set_option maxHeartbeats 2000000 in
/-- A point's blocks hold the rows of its chunk. -/
theorem fits (c : Dev nD) (t : Fin cfg0.N) (s : Vec Ideal S16x128x128 .f32) (w : Vec Ideal S1x2048 .f32) (G : Fin 2048 → Fin 128 → EReal)
    (hs : ∀ (p : Fin 16) (j n : Fin 128), s (ix3 p j n) = G (ch p j) n) : Fits (args m c) (rev t.val) G (blk m c t s w) where
  x := x_at m c t
  dt := dt_at m c t
  dy := dy_at m c t
  bias := bias_at m c t
  rate := rate_at m c t
  skip := skip_at m c t
  hot := hot_at m c t
  state := hs

/-- The heads' channels, as the last point reads them. -/
theorem seg_at (c : Dev nD) (t : Fin cfg0.N) (q : Fin 2048) (h : Fin 128) : iblk m c 7 t (ix2 q h) = (if h.val = q.val / 64 then 1 else 0 : EReal) :=
  (read_seg (V m c main_v10) t q h).trans (V_seg m c q h)

end Cert.SsdBwdIdeal.Grad

end
-- ==== Proof.SsdPoint.lean ====
/- The generated run's stores at each kind of grid point, as the pieces of `SsdTiles`. -/
module

public import proofs.«01_k».proof.Proof.SsdTiles

@[expose] public section

set_option maxRecDepth 16384

noncomputable section

open Idealize.ShloMosaic Idealize.ShloMosaic.TcCoe Idealize.SL.Sem
open Idealize.ShloMosaic.Pipeline (Dat)

namespace Cert.SsdBwdIdeal.Grad

open Cert.SsdBwdIdeal Cert.SsdBwdIdeal.Gen

variable {F : FTy → Type} [FloatOps F]
variable (m : (ℓ : Loc nD τ sig) → Buf (Elt F) ℓ)

set_option maxHeartbeats 2000000 in
/-- What the first point leaves of the running sums of `x dy`. -/
theorem cols_A (c : Dev nD) (t : Fin cfg0.N) (h0 : t.val % 128 = 0) (h1 : ¬ t.val % 128 = 127) :
    (outsAt0 m c t.val t.isLt).2.2.2.2.2.2 = View.canon (Blk.pairs.map (blk m c t k0_pay4 k0_pay5).pW ++ [Blk.fillW]) := by
  rw [outsAt0_A m c t h0 h1]
  frame_open
  dsimp only
  simp (disch := decide) only [↓ View.readCov_skip, ↓ View.readCov_cons_toLoadRect, ↓ View.readCov_fill]
  frame_out
  sl_kernel_rfl

set_option maxHeartbeats 2000000 in
/-- What the first point leaves of the state's gradient. -/
theorem state_A (c : Dev nD) (t : Fin cfg0.N) (h0 : t.val % 128 = 0) (h1 : ¬ t.val % 128 = 127) :
    (outsAt0 m c t.val t.isLt).2.2.2.2.2.1 = View.canon (Blk.pairs.map (blk m c t k0_pay4 k0_pay5).pS ++ [Blk.fillS]) := by
  rw [outsAt0_A m c t h0 h1]
  frame_open
  dsimp only
  simp (disch := decide) only [↓ View.readCov_skip, ↓ View.readCov_cons_toLoadRect, ↓ View.readCov_fill]
  frame_out
  sl_kernel_rfl

set_option maxHeartbeats 2000000 in
/-- What a point between leaves of the running sums of `x dy`. -/
theorem cols_B (c : Dev nD) (t : Fin cfg0.N) (h0 : ¬ t.val % 128 = 0) (h1 : ¬ t.val % 128 = 127) :
    (outsAt0 m c t.val t.isLt).2.2.2.2.2.2 = View.canon (Blk.pairs.map (blkOf m c t).pW) := by
  rw [outsAt0_B m c t h0 h1]
  frame_open
  dsimp only
  try simp (disch := decide) only [↓ View.readCov_skip, ↓ View.readCov_cons_toLoadRect, ↓ View.readCov_fill]
  frame_out
  simp only [read_unread_whole]
  sl_kernel_rfl

set_option maxHeartbeats 2000000 in
/-- What a point between leaves of the state's gradient. -/
theorem state_B (c : Dev nD) (t : Fin cfg0.N) (h0 : ¬ t.val % 128 = 0) (h1 : ¬ t.val % 128 = 127) :
    (outsAt0 m c t.val t.isLt).2.2.2.2.2.1 = View.canon (Blk.pairs.map (blkOf m c t).pS) := by
  rw [outsAt0_B m c t h0 h1]
  frame_open
  dsimp only
  try simp (disch := decide) only [↓ View.readCov_skip, ↓ View.readCov_cons_toLoadRect, ↓ View.readCov_fill]
  frame_out
  simp only [read_unread_whole]
  sl_kernel_rfl

set_option maxHeartbeats 2000000 in
/-- What the last point leaves of the running sums of `x dy`. -/
theorem cols_C (c : Dev nD) (t : Fin cfg0.N) (h0 : ¬ t.val % 128 = 0) (h1 : t.val % 128 = 127) :
    (outsAt0 m c t.val t.isLt).2.2.2.2.2.2 = View.canon (Blk.pairs.map (blkOf m c t).pW) := by
  rw [outsAt0_C m c t h0 h1]
  frame_open
  dsimp only
  try simp (disch := decide) only [↓ View.readCov_skip, ↓ View.readCov_cons_toLoadRect, ↓ View.readCov_fill]
  frame_out
  simp only [read_unread_whole]
  sl_kernel_rfl

set_option maxHeartbeats 2000000 in
/-- What the last point leaves of the state's gradient. -/
theorem state_C (c : Dev nD) (t : Fin cfg0.N) (h0 : ¬ t.val % 128 = 0) (h1 : t.val % 128 = 127) :
    (outsAt0 m c t.val t.isLt).2.2.2.2.2.1 = View.canon (Blk.pairs.map (blkOf m c t).pS) := by
  rw [outsAt0_C m c t h0 h1]
  frame_open
  dsimp only
  try simp (disch := decide) only [↓ View.readCov_skip, ↓ View.readCov_cons_toLoadRect, ↓ View.readCov_fill]
  frame_out
  simp only [read_unread_whole]
  sl_kernel_rfl

set_option maxHeartbeats 2000000 in
/-- What the first point leaves of the gradients of the three projections. -/
theorem grad_A (c : Dev nD) (t : Fin cfg0.N) (h0 : t.val % 128 = 0) (h1 : ¬ t.val % 128 = 127) :
    (outsAt0 m c t.val t.isLt).1 = View.canon (blk m c t k0_pay4 k0_pay5).grads := by
  rw [outsAt0_A m c t h0 h1]
  frame_open
  dsimp only
  simp (disch := decide) only [↓ View.readCov_skip, ↓ View.readCov_cons_toLoadRect, ↓ View.readCov_fill]
  frame_out
  sl_kernel_rfl

set_option maxHeartbeats 2000000 in
/-- What a point between leaves of the gradients of the three projections. -/
theorem grad_B (c : Dev nD) (t : Fin cfg0.N) (h0 : ¬ t.val % 128 = 0) (h1 : ¬ t.val % 128 = 127) :
    (outsAt0 m c t.val t.isLt).1 = View.canon (blkOf m c t).grads := by
  rw [outsAt0_B m c t h0 h1]
  frame_open
  dsimp only
  simp (disch := decide) only [↓ View.readCov_skip, ↓ View.readCov_cons_toLoadRect, ↓ View.readCov_fill]
  frame_out
  simp only [read_unread_whole]
  sl_kernel_rfl

set_option maxHeartbeats 2000000 in
/-- What the last point leaves of the gradients of the three projections. -/
theorem grad_C (c : Dev nD) (t : Fin cfg0.N) (h0 : ¬ t.val % 128 = 0) (h1 : t.val % 128 = 127) :
    (outsAt0 m c t.val t.isLt).1 = View.canon (blkOf m c t).grads := by
  rw [outsAt0_C m c t h0 h1]
  frame_open
  dsimp only
  simp (disch := decide) only [↓ View.readCov_skip, ↓ View.readCov_cons_toLoadRect, ↓ View.readCov_fill]
  frame_out
  simp only [read_unread_whole]
  sl_kernel_rfl

set_option maxHeartbeats 2000000 in
/-- What the last point leaves of the gradient of the skip's weight. -/
theorem dd_C (c : Dev nD) (t : Fin cfg0.N) (h0 : ¬ t.val % 128 = 0) (h1 : t.val % 128 = 127) :
    (outsAt0 m c t.val t.isLt).2.2.2.2.1 = k0_pay3 (k0_pay829 (iblk m c 7 t))
      (show Vec F S1x2048 .f32 from (View.whole cc0_scratch7).readCov (Blk.pairs.map (blkOf m c t).pW) (Rect.unit (s := S1x2048) ![0, 0] ![1, 2048] inb_S1x2048_S1x2048_0_0).toLoadRect) := by
  rw [outsAt0_C m c t h0 h1]
  frame_open
  dsimp only
  try simp (disch := decide) only [↓ View.readCov_skip, ↓ View.readCov_cons_toLoadRect, ↓ View.readCov_fill]
  frame_out
  simp only [read_unread_whole]
  sl_kernel_rfl

end Cert.SsdBwdIdeal.Grad

end
-- ==== Proof.SsdSteps.lean ====
/- What the gated scan's backward call leaves after each grid point: the gradient of the state, the running sums, and a chunk's gradients. -/
module

public import proofs.«01_k».proof.Proof.SsdHost
public import proofs.«01_k».proof.Proof.SsdPoint

@[expose] public section

set_option maxRecDepth 16384

noncomputable section

open Idealize.ShloMosaic Idealize.ShloMosaic.TcCoe Idealize.SL.Sem
open Idealize.ShloMosaic.Pipeline (Dat)

namespace Cert.SsdBwdIdeal.Grad

open Cert.SsdBwdIdeal Cert.SsdBwdIdeal.Gen Cert.Ssd

variable (B : Blk Ideal)

theorem mem_pairs (p : Fin 16) : p ∈ Blk.pairs := by revert p; decide

/-- The stored states, read back: each pair's own. -/
theorem canon_state (L : List (View.Piece (Elt Ideal) S16x128x128 .f32)) (p : Fin 16) (j n : Fin 128) :
    View.canon (Blk.pairs.map B.pS ++ L) (ix3 p j n) = B.newState p (ix3 0 j n) := by
  refine View.canon_append_of_pieces (fun y : S16x128x128.Idx => B.newState (y 0) (ix3 0 (y 1) (y 2))) L (Blk.pairs.map B.pS) ?_ (ix3 p j n)
    ⟨B.pS p, List.mem_map_of_mem (mem_pairs p), ?_⟩
  · intro r hr x
    obtain ⟨o, _, rfl⟩ := List.mem_map.mp hr
    have e0 : (B.pS o).1.emb x 0 = o := Fin.ext (by simp [Rect.emb_apply])
    have e1 : (x : S1x128x128.Idx) = ix3 0 ((B.pS o).1.emb x 1) ((B.pS o).1.emb x 2) := funext fun a => Fin.ext (by
      have : (x 0).val < 1 := (x 0).isLt
      fin_cases a <;> simp [Rect.emb_apply] <;> omega)
    show B.newState o x = _
    dsimp only
    rw [e0]
    exact congrArg (B.newState o) e1
  · rw [Rect.mem_set_unit]
    intro a; fin_cases a <;> simp

theorem cover_cols (y : S1x2048.Idx) : ∃ r ∈ Blk.pairs.map B.pW, y ∈ r.1.set := by
  have h1 : (y 1).val < 2048 := (y 1).isLt
  have h0 : (y 0).val < 1 := (y 0).isLt
  refine ⟨B.pW ⟨(y 1).val / 128, by omega⟩, List.mem_map_of_mem (mem_pairs _), ?_⟩
  rw [Rect.mem_set_unit]
  intro a; fin_cases a <;> simp <;> omega

/-- The stored running sums, read back. -/
theorem canon_cols (L : List (View.Piece (Elt Ideal) S1x2048 .f32)) (q : Fin 2048) :
    View.canon (Blk.pairs.map B.pW ++ L) (ix2 0 q) = B.newCols ⟨q.val / 128, by omega⟩ (ix2 0 ⟨q.val % 128, by omega⟩) := by
  refine View.canon_append_of_pieces (fun y : S1x2048.Idx => B.newCols ⟨(y 1).val / 128, by have : (y 1).val < 2048 := (y 1).isLt; omega⟩ (ix2 0 ⟨(y 1).val % 128, by omega⟩)) L
    (Blk.pairs.map B.pW) ?_ (ix2 0 q) (cover_cols B _)
  intro r hr x
  obtain ⟨o, _, rfl⟩ := List.mem_map.mp hr
  have l1 : (x 1).val < 128 := (x 1).isLt
  have l0 : (x 0).val < 1 := (x 0).isLt
  have e : ((B.pW o).1.emb x 1).val = 128 * o.val + (x 1).val := by simp [Rect.emb_apply]
  show B.newCols o x = _
  dsimp only
  refine congrArg₂ (fun p (i : S1x128.Idx) => B.newCols p i) (Fin.ext ?_) (Blocks.idx2_ext ?_ ?_)
  · simp only [e]; omega
  · show (x 0).val = 0; omega
  · show (x 1).val = ((B.pW o).1.emb x 1).val % 128; rw [e]; omega

/-- A chunk's gradients, as one array: the tile of each column. -/
def block (y : S128x3072.Idx) : EReal :=
  if h : (y 1).val / 128 < 16 then B.newX ⟨(y 1).val / 128, h⟩ (ix2 (y 0) ⟨(y 1).val % 128, by omega⟩)
  else if (y 1).val / 128 < 20 then B.newB ⟨((y 1).val / 128 - 16) % 4, by omega⟩ (ix2 (y 0) ⟨(y 1).val % 128, by omega⟩)
  else B.newC ⟨((y 1).val / 128 - 20) % 4, by omega⟩ (ix2 (y 0) ⟨(y 1).val % 128, by omega⟩)

theorem pX_block (p : Fin 16) (x) : (B.pX p).2 x = block B ((B.pX p).1.emb x) := by
  have l1 : (x 1).val < 128 := (x 1).isLt
  have e : ((B.pX p).1.emb x 1).val = 128 * p.val + (x 1).val := by simp [Rect.emb_apply]
  have e0 : ((B.pX p).1.emb x 0).val = (x 0).val := by simp [Rect.emb_apply]
  unfold block
  rw [dif_pos (by rw [e]; omega)]
  show B.newX p x = _
  refine congrArg₂ (fun p (i : S128x128.Idx) => B.newX p i) (Fin.ext ?_) (Blocks.idx2_ext ?_ ?_)
  · simp only [e]; omega
  · exact e0.symm
  · show (x 1).val = ((B.pX p).1.emb x 1).val % 128; rw [e]; omega
theorem pB_block (g : Fin 4) (x) : (B.pB g).2 x = block B ((B.pB g).1.emb x) := by
  have l1 : (x 1).val < 128 := (x 1).isLt
  have e : ((B.pB g).1.emb x 1).val = 128 * (16 + g.val) + (x 1).val := by simp [Rect.emb_apply]
  have e0 : ((B.pB g).1.emb x 0).val = (x 0).val := by simp [Rect.emb_apply]
  unfold block
  rw [dif_neg (by rw [e]; omega), if_pos (by rw [e]; omega)]
  show B.newB g x = _
  refine congrArg₂ (fun p (i : S128x128.Idx) => B.newB p i) (Fin.ext ?_) (Blocks.idx2_ext ?_ ?_)
  · simp only [e]; omega
  · exact e0.symm
  · show (x 1).val = ((B.pB g).1.emb x 1).val % 128; rw [e]; omega
theorem pC_block (g : Fin 4) (x) : (B.pC g).2 x = block B ((B.pC g).1.emb x) := by
  have l1 : (x 1).val < 128 := (x 1).isLt
  have e : ((B.pC g).1.emb x 1).val = 128 * (20 + g.val) + (x 1).val := by simp [Rect.emb_apply]
  have e0 : ((B.pC g).1.emb x 0).val = (x 0).val := by simp [Rect.emb_apply]
  unfold block
  rw [dif_neg (by rw [e]; omega), if_neg (by rw [e]; omega)]
  show B.newC g x = _
  refine congrArg₂ (fun p (i : S128x128.Idx) => B.newC p i) (Fin.ext ?_) (Blocks.idx2_ext ?_ ?_)
  · simp only [e]; omega
  · exact e0.symm
  · show (x 1).val = ((B.pC g).1.emb x 1).val % 128; rw [e]; omega

theorem group_block (g : Fin 4) : ∀ r ∈ B.group g, ∀ x, r.2 x = block B (r.1.emb x) := by
  intro r hr
  simp only [Blk.group, List.mem_cons, List.not_mem_nil, or_false] at hr
  rcases hr with rfl | rfl | rfl | rfl | rfl | rfl
  exacts [pC_block B _, pB_block B _, pX_block B _, pX_block B _, pX_block B _, pX_block B _]

theorem mem_grads (g : Fin 4) (r) (h : r ∈ B.group g) : r ∈ B.grads := by
  simp only [Blk.grads, List.mem_append]
  match g, h with
  | 0, h => exact Or.inr h
  | 1, h => exact Or.inl (Or.inr h)
  | 2, h => exact Or.inl (Or.inl (Or.inr h))
  | 3, h => exact Or.inl (Or.inl (Or.inl h))

theorem mem_pX (p : Fin 16) : B.pX p ∈ B.grads := by
  refine mem_grads B (gr p) _ ?_
  have e : p = pr (gr p) ⟨p.val % 4, by omega⟩ := Fin.ext (by simp only; omega)
  have : ∀ (g i : Fin 4), B.pX (pr g i) ∈ B.group g := fun g i => by
    match i with
    | 0 => simp [Blk.group]
    | 1 => simp [Blk.group]
    | 2 => simp [Blk.group]
    | 3 => simp [Blk.group]
  have h := this (gr p) ⟨p.val % 4, by omega⟩
  rw [← e] at h
  exact h

/-- The stored gradients, read back. -/
theorem canon_grads (y : S128x3072.Idx) : View.canon B.grads y = block B y := by
  have h := View.canon_append_of_pieces (block B) [] B.grads ?_ y ?_
  · rwa [List.append_nil] at h
  · intro r hr
    simp only [Blk.grads, List.mem_append] at hr
    rcases hr with ((h | h) | h) | h
    exacts [group_block B _ r h, group_block B _ r h, group_block B _ r h, group_block B _ r h]
  · have h1 : (y 1).val < 3072 := (y 1).isLt
    have h0 : (y 0).val < 128 := (y 0).isLt
    by_cases a : (y 1).val < 2048
    · refine ⟨B.pX ⟨(y 1).val / 128, by omega⟩, mem_pX B _, ?_⟩
      rw [Rect.mem_set_unit]; intro a; fin_cases a <;> simp <;> omega
    · by_cases b : (y 1).val < 2560
      · refine ⟨B.pB ⟨(y 1).val / 128 - 16, by omega⟩, mem_grads B ⟨(y 1).val / 128 - 16, by omega⟩ _ (List.mem_cons_of_mem _ List.mem_cons_self), ?_⟩
        rw [Rect.mem_set_unit]; intro a; fin_cases a <;> simp <;> omega
      · refine ⟨B.pC ⟨(y 1).val / 128 - 20, by omega⟩, mem_grads B ⟨(y 1).val / 128 - 20, by omega⟩ _ List.mem_cons_self, ?_⟩
        rw [Rect.mem_set_unit]; intro a; fin_cases a <;> simp <;> omega

/-- A chunk's gradients are those of `SsdSpec`, below column 2560. -/
theorem block_x {A : Args} {k : Fin 128} {G : Fin 2048 → Fin 128 → EReal} {B : Blk Ideal} (H : Fits A k G B) (hG : G = dS A k) (s : Fin 128) (q : Fin 3072) (h : q.val < 2048) :
    block B (ix2 s q) = dx A k s ⟨q.val, h⟩ := by
  unfold block
  rw [dif_pos (by show q.val / 128 < 16; omega)]
  refine (H.newX_at _ _ _ hG).trans (congrArg (dx A k s) (Fin.ext ?_))
  simp only [ch]
  show 128 * (q.val / 128) + q.val % 128 = q.val
  omega
theorem block_b {A : Args} {k : Fin 128} {G : Fin 2048 → Fin 128 → EReal} {B : Blk Ideal} (H : Fits A k G B) (hG : G = dS A k) (s : Fin 128) (q : Fin 3072) (h : 2048 ≤ q.val) (h' : q.val < 2560) :
    block B (ix2 s q) = dB A k s (grp ⟨q.val - 2048, by omega⟩) (lane ⟨q.val - 2048, by omega⟩) := by
  unfold block
  rw [dif_neg (by show ¬ q.val / 128 < 16; omega), if_pos (by show q.val / 128 < 20; omega)]
  refine (H.newB_at _ _ _ hG).trans (congrArg₂ (dB A k s) (Fin.ext ?_) (Fin.ext ?_))
  · show (q.val / 128 - 16) % 4 = (q.val - 2048) / 128; omega
  · show q.val % 128 = (q.val - 2048) % 128; omega

variable (m : (ℓ : Loc nD τ sig) → Buf (Elt Ideal) ℓ)

/-- The running sums after the points up to `t`. -/
def sums (A : Args) : ℕ → Fin 2048 → EReal
  | 0, _ => 0
  | t + 1, q => sums A t q + ∑ l : Fin 128, Ssd.X A (rev t) l q * dY A (rev t) l q

theorem ch_divmod (q : Fin 2048) : ch ⟨q.val / 128, by omega⟩ ⟨q.val % 128, by omega⟩ = q := Fin.ext (by simp only [ch]; omega)

/-- What one point leaves, from what it finds. -/
theorem state_step {A : Args} {t : ℕ} {B : Blk Ideal} (H : Fits A (rev t) (st A t) B) (L) (p : Fin 16) (j n : Fin 128) :
    View.canon (Blk.pairs.map B.pS ++ L) (ix3 p j n) = st A (t + 1) (ch p j) n :=
  (canon_state B L p j n).trans (H.newState_at p j n)
theorem cols_step {A : Args} {t : ℕ} {G} {B : Blk Ideal} (H : Fits A (rev t) G B) (hw : ∀ q, B.cols (ix2 0 q) = sums A t q) (L) (q : Fin 2048) :
    View.canon (Blk.pairs.map B.pW ++ L) (ix2 0 q) = sums A (t + 1) q := by
  rw [canon_cols B L q, H.newCols_at, ch_divmod, hw]; rfl

/-- The fills are zeros. -/
theorem zero_state (p : Fin 16) (j n : Fin 128) : k0_pay4 (F := Ideal) (ix3 p j n) = (0 : EReal) := by pointwise [k0_pay4]
theorem zero_cols (q : Fin 2048) : k0_pay5 (F := Ideal) (ix2 0 q) = (0 : EReal) := by pointwise [k0_pay5]

/-- The first point's blocks, over the zeros. -/
theorem fits_first (c : Dev nD) (ht : 0 < cfg0.N) : Fits (args m c) (rev 0) (st (args m c) 0) (blk m c ⟨0, ht⟩ (k0_pay4 (F := Ideal)) (k0_pay5 (F := Ideal))) :=
  fits m c ⟨0, ht⟩ (k0_pay4 (F := Ideal)) (k0_pay5 (F := Ideal)) (st (args m c) 0) zero_state

/-- After point `t`: the state's gradient and the running sums. -/
theorem carried (c : Dev nD) : ∀ (t : ℕ) (ht : t < cfg0.N),
    (∀ (p : Fin 16) (j n : Fin 128), (outsAt0 m c t ht).2.2.2.2.2.1 (ix3 p j n) = st (args m c) (t + 1) (ch p j) n)
      ∧ ∀ q : Fin 2048, (outsAt0 m c t ht).2.2.2.2.2.2 (ix2 0 q) = sums (args m c) (t + 1) q
  | 0, ht => by
    have h := fits_first m c ht
    have hs := state_A m c ⟨0, ht⟩ rfl (by show ¬ 0 % 128 = 127; decide)
    have hc := cols_A m c ⟨0, ht⟩ rfl (by show ¬ 0 % 128 = 127; decide)
    exact ⟨fun p j n => (congrFun hs _).trans (state_step h _ p j n),
      fun q => (congrFun hc _).trans (cols_step h zero_cols _ q)⟩
  | t + 1, ht => by
    have ih := carried c t (Nat.lt_of_succ_lt ht)
    have hN : t + 1 < 128 := lt_of_lt_of_eq ht N_0
    have h := fits m c ⟨t + 1, ht⟩ (prev m c ⟨t + 1, ht⟩).2.2.2.2.2.1 (prev m c ⟨t + 1, ht⟩).2.2.2.2.2.2 (st (args m c) (t + 1)) ih.1
    have h0 : ¬ (t + 1) % 128 = 0 := by omega
    have hs : (outsAt0 m c (t + 1) ht).2.2.2.2.2.1 = View.canon (Blk.pairs.map (blkOf m c ⟨t + 1, ht⟩).pS) := by
      by_cases h1 : (t + 1) % 128 = 127
      · exact state_C m c ⟨t + 1, ht⟩ h0 h1
      · exact state_B m c ⟨t + 1, ht⟩ h0 h1
    have hc : (outsAt0 m c (t + 1) ht).2.2.2.2.2.2 = View.canon (Blk.pairs.map (blkOf m c ⟨t + 1, ht⟩).pW) := by
      by_cases h1 : (t + 1) % 128 = 127
      · exact cols_C m c ⟨t + 1, ht⟩ h0 h1
      · exact cols_B m c ⟨t + 1, ht⟩ h0 h1
    rw [← List.append_nil (Blk.pairs.map (blkOf m c ⟨t + 1, ht⟩).pS)] at hs
    rw [← List.append_nil (Blk.pairs.map (blkOf m c ⟨t + 1, ht⟩).pW)] at hc
    exact ⟨fun p j n => (congrFun hs _).trans (state_step h _ p j n), fun q => (congrFun hc _).trans (cols_step h ih.2 _ q)⟩

/-- A point's block reads its chunk, with the state's gradient of the points before. -/
theorem dS_rev (A : Args) (t : ℕ) (h : t < 128) : st A t = dS A (rev t) := by
  unfold dS
  congr 1
  show t = 127 - (127 - t)
  omega

set_option maxHeartbeats 2000000 in
/-- What a point stores of the gradients. -/
theorem grad_point (c : Dev nD) (t : Fin cfg0.N) : ∃ B : Blk Ideal, Fits (args m c) (rev t.val) (dS (args m c) (rev t.val)) B ∧ (outsAt0 m c t.val t.isLt).1 = block B := by
  have ht := t_lt t
  rw [← dS_rev (args m c) t.val ht]
  obtain ⟨t, hN⟩ := t
  match t with
  | 0 =>
    exact ⟨_, fits_first m c hN,
      (grad_A m c ⟨0, hN⟩ rfl (by show ¬ 0 % 128 = 127; decide)).trans (funext (canon_grads _))⟩
  | t + 1 =>
    have ht : t + 1 < 128 := ht
    refine ⟨_, fits m c ⟨t + 1, hN⟩ (prev m c ⟨t + 1, hN⟩).2.2.2.2.2.1 (prev m c ⟨t + 1, hN⟩).2.2.2.2.2.2 (st (args m c) (t + 1)) (carried m c t (Nat.lt_of_succ_lt hN)).1, ?_⟩
    have h0 : ¬ (t + 1) % 128 = 0 := by omega
    by_cases h1 : (t + 1) % 128 = 127
    · exact (grad_C m c ⟨t + 1, hN⟩ h0 h1).trans (funext (canon_grads _))
    · exact (grad_B m c ⟨t + 1, hN⟩ h0 h1).trans (funext (canon_grads _))

/-- All the running sums are the sums over all rows. -/
theorem sums_all (A : Args) (q : Fin 2048) : sums A 128 q = ∑ k : Fin 128, ∑ l : Fin 128, Ssd.X A k l q * dY A k l q := by
  have h : ∀ t : ℕ, sums A t q = ∑ u ∈ Finset.range t, ∑ l : Fin 128, Ssd.X A (rev u) l q * dY A (rev u) l q := fun t => by
    induction t with
    | zero => rfl
    | succ t ih => rw [Finset.sum_range_succ, ← ih]; rfl
  rw [h, Finset.sum_range]
  exact Fintype.sum_equiv Fin.revPerm _ _ fun u => by
    have e : rev u.val = Fin.revPerm u := Fin.ext (by simp [rev, Fin.val_rev])
    rw [e]

/-- A sum over the channels against the channels of one head. -/
theorem sum_head (f : Fin 2048 → EReal) (h : Fin 32) : ∑ q : Fin 2048, f q * (if h.val = q.val / 64 then 1 else 0) = ∑ p : Fin 64, f (chan h p) := by
  show ∑ q : Fin (32 * 64), f q * (if h.val = q.val / 64 then 1 else 0) = _
  rw [← (finProdFinEquiv (m := 32) (n := 64)).sum_comp, Fintype.sum_prod_type, Finset.sum_eq_single h]
  · refine Finset.sum_congr rfl fun p _ => ?_
    have e : (finProdFinEquiv (h, p) : Fin (32 * 64)) = chan h p := Fin.ext (by simp only [finProdFinEquiv_apply_val, chan]; omega)
    rw [e, if_pos (by simp only [chan]; omega), mul_one]
  · intro a _ hne
    refine Finset.sum_eq_zero fun p _ => ?_
    rw [if_neg (fun w => hne (Fin.ext (by simp only [finProdFinEquiv_apply_val] at w; omega))), mul_zero]
  · intro w; exact absurd (Finset.mem_univ _) w

/-- What the last point stores of the skip weights' gradients. -/
theorem dd_point (c : Dev nD) (t : Fin cfg0.N) (h1 : t.val % 128 = 127) (i : Fin 8) (h : Fin 32) :
    (outsAt0 m c t.val t.isLt).2.2.2.2.1 (ix2 i ⟨h.val, by omega⟩) = dD (args m c) h := by
  have ht := t_lt t
  have hc : ∀ q : Fin 2048, View.canon (Blk.pairs.map (blkOf m c t).pW) (ix2 0 q) = sums (args m c) 128 q := fun q => by
    rw [← cols_C m c t (by omega) h1, (carried m c t.val t.isLt).2 q]
    congr 1; omega
  rw [dd_C m c t (by omega) h1, View.readCov_eq_canon_ld _ _ _ (cover_cols (blkOf m c t))]
  pointwise [k0_pay3, k0_pay829]
  have e : ∀ q : Fin 2048, iblk m c 7 t (ix2 q ⟨h.val, by omega⟩) = (if h.val = q.val / 64 then 1 else 0 : EReal) := fun q => seg_at m c t q ⟨h.val, by omega⟩
  simp only [hc, e]
  rw [sum_head, dD]
  simp only [sums_all]
  rw [Finset.sum_comm]
  exact Finset.sum_congr rfl fun k _ => Finset.sum_comm

end Cert.SsdBwdIdeal.Grad

end
-- ==== Proof.SsdKernel.lean ====
/- What the two results of the gated scan's backward call hold: the gradients of `x` and `B`, and of the skip weights (`Cert.Ssd`). -/
module

public import proofs.«01_k».proof.Proof.SsdSteps

@[expose] public section

set_option maxRecDepth 16384

noncomputable section

open Idealize.ShloMosaic Idealize.ShloMosaic.TcCoe Idealize.SL.Sem
open Idealize.ShloMosaic.Pipeline (Dat)

namespace Cert.SsdBwdIdeal.Grad

open Cert.SsdBwdIdeal Cert.SsdBwdIdeal.Gen Cert.Ssd

variable (m : (ℓ : Loc nD τ sig) → Buf (Elt Ideal) ℓ)

theorem point_lt (n : ℕ) : 127 - n < cfg0.N := lt_of_lt_of_eq (by omega) N_0.symm

/-- The whole array of gradients: each chunk's rows are what its point stored. -/
def stored (c : Dev nD) (y : S16384x3072.Idx) : EReal :=
  (outsAt0 m c (127 - (y 0).val / 128) (point_lt _)).1 (ix2 ⟨(y 0).val % 128, by omega⟩ (y 1))

theorem stored_point (c : Dev nD) (t : Fin cfg0.N) (y : S128x3072.Idx) (x : S16384x3072.Idx) (h0 : (x 0).val = (127 - t.val) * 128 + (y 0).val) (h1 : (x 1).val = (y 1).val) :
    (outsAt0 m c t.val t.isLt).1 y = stored m c x := by
  have ht := t_lt t
  have hy : (y 0).val < 128 := (y 0).isLt
  have e : ∀ (n : ℕ) (h : n < cfg0.N), n = t.val → (outsAt0 m c t.val t.isLt).1 = (outsAt0 m c n h).1 := fun n h e => by subst e; rfl
  unfold stored
  rw [← e (127 - (x 0).val / 128) (point_lt _) (by omega)]
  exact congrArg _ (Blocks.idx2_ext (by show (y 0).val = (x 0).val % 128; omega) h1.symm)

theorem final_grads (c : Dev nD) : (dats m 0 c).arrAt 9 cfg0.N = stored m c := by
  refine (dats m 0 c).arrAt_eq_of_covers 9 (stored m c) (by decide +kernel) fun t hf y => ?_
  blk_simp
  rw [after0_9]
  refine stored_point m c t y _ ?_ ?_
  · blk_point [idx_val t]
  · blk_point [idx_val t]

theorem stored_x (c : Dev nD) (r : Fin 16384) (q : Fin 3072) (h : q.val < 2048) : stored m c (ix2 r q) = dx (args m c) (chunkOf r) (rowOf r) ⟨q.val, h⟩ := by
  obtain ⟨B, H, e⟩ := grad_point m c ⟨127 - r.val / 128, point_lt _⟩
  have k : rev (127 - r.val / 128) = chunkOf r := Fin.ext (by simp only [rev, chunkOf]; omega)
  rw [k] at H
  exact (congrFun e _).trans (block_x H rfl _ q h)
theorem stored_b (c : Dev nD) (r : Fin 16384) (q : Fin 3072) (h : 2048 ≤ q.val) (h' : q.val < 2560) :
    stored m c (ix2 r q) = dB (args m c) (chunkOf r) (rowOf r) (grp ⟨q.val - 2048, by omega⟩) (lane ⟨q.val - 2048, by omega⟩) := by
  obtain ⟨B, H, e⟩ := grad_point m c ⟨127 - r.val / 128, point_lt _⟩
  have k : rev (127 - r.val / 128) = chunkOf r := Fin.ext (by simp only [rev, chunkOf]; omega)
  rw [k] at H
  exact (congrFun e _).trans (block_b H rfl _ q h h')

/-- The last point. -/
abbrev tLast : Fin cfg0.N := ⟨127, lt_of_lt_of_eq (by omega) N_0.symm⟩

theorem final_dd (c : Dev nD) : (dats m 0 c).arrAt 13 cfg0.N = (outsAt0 m c tLast.val tLast.isLt).2.2.2.2.1 := by
  refine (dats m 0 c).arrAt_eq_of_after_last 13 tLast (by decide +kernel) _ fun j => ?_
  rw [after0_13]
  exact congrArg (outsAt0 m c tLast.val tLast.isLt).2.2.2.2.1 (Blocks.idx2_ext rfl rfl)

/-- The gradients of `x` and of `B`, side by side. -/
def dxb (A : Args) (x : S16384x2560.Idx) : EReal :=
  if h : (x 1).val < 2048 then dx A (chunkOf (x 0)) (rowOf (x 0)) ⟨(x 1).val, h⟩
  else dB A (chunkOf (x 0)) (rowOf (x 0)) (grp ⟨(x 1).val - 2048, by have : (x 1).val < 2560 := (x 1).isLt; omega⟩)
    (lane ⟨(x 1).val - 2048, by have : (x 1).val < 2560 := (x 1).isLt; omega⟩)

/-- The host keeps the first 2560 columns, and the first row of the skip weights' gradients. -/
theorem tail_grads (c : Dev nD) : Pipeline.afterTail₀ cfgs (dats m) 0 (V0 m) [hostOps1] c main_v28 = dxb (args m c) := by
  have hv : Pipeline.withArrays spec0 c (V0 m c) (fun w => (dats m 0 c).arrAt w cfg0.N) (Proc.devRef .tc main_v27_0) = stored m c :=
    (Pipeline.withArrays_arr spec0 (by decide) c (V0 m c) (fun w => (dats m 0 c).arrAt w cfg0.N) 9).trans (final_grads m c)
  show StableHlo.after (List.flatten [hostOps1]) (Pipeline.withArrays spec0 c (V0 m c) fun w => (dats m 0 c).arrAt w cfg0.N) (Proc.devRef .tc main_v28) = _
  simp only [List.flatten_cons, List.flatten_nil, List.append_nil]
  after_results
  rw [hv]
  funext x; idx_vars x
  pointwise []
  unfold dxb
  by_cases h : x1.val < 2048
  · rw [dif_pos (show ((ix2 x0 x1 : S16384x2560.Idx) 1).val < 2048 from h)]
    exact stored_x m c x0 ⟨x1.val, by omega⟩ h
  · rw [dif_neg (show ¬ ((ix2 x0 x1 : S16384x2560.Idx) 1).val < 2048 from h)]
    exact stored_b m c x0 ⟨x1.val, by omega⟩ (by simp only; omega) x1.isLt

theorem tail_dd (c : Dev nD) : Pipeline.afterTail₀ cfgs (dats m) 0 (V0 m) [hostOps1] c main_v30 = fun x => dD (args m c) (x 0) := by
  have hv : Pipeline.withArrays spec0 c (V0 m c) (fun w => (dats m 0 c).arrAt w cfg0.N) (Proc.devRef .tc main_v27_4) = (outsAt0 m c tLast.val tLast.isLt).2.2.2.2.1 :=
    (Pipeline.withArrays_arr spec0 (by decide) c (V0 m c) (fun w => (dats m 0 c).arrAt w cfg0.N) 13).trans (final_dd m c)
  show StableHlo.after (List.flatten [hostOps1]) (Pipeline.withArrays spec0 c (V0 m c) fun w => (dats m 0 c).arrAt w cfg0.N) (Proc.devRef .tc main_v30) = _
  simp only [List.flatten_cons, List.flatten_nil, List.append_nil]
  after_results
  rw [hv]
  funext x; idx_vars x
  pointwise []
  exact dd_point m c tLast rfl 0 x0

/-- The kernel's run: both results, and the arguments as they were. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v28) = dxb (args m c)
      ∧ r.2.mem ((c.tc : Thread nD τ).loc main_v30) = (fun x => dD (args m c) (x 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v28 (Pipeline.mem_restRefs_of main_v28 (by decide) (by decide))).trans (tail_grads m c),
    ((h c).2 main_v30 (Pipeline.mem_restRefs_of main_v30 (by decide) (by decide))).trans (tail_dd m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).1 2).trans (((dats m 0 c).arrAt_in 2 rfl _).trans ((A_eq m c 2).trans (V_main_arg5 m c))),
    ((h c).1 3).trans (((dats m 0 c).arrAt_in 3 rfl _).trans ((A_eq m c 3).trans (V_main_arg6 m c)))⟩) (run_main m ρ)

end Cert.SsdBwdIdeal.Grad

end
-- ==== Proof.SsdArrays.lean ====
/- The arrays that a reference of the recurrence forms before its loop, as functions of the arguments; and a running sum along the last axis. -/
module

public import proofs.«01_k».proof.Proof.SsdLanes

@[expose] public section

set_option maxRecDepth 16384

noncomputable section

open Idealize.ShloMosaic Idealize.ShloMosaic.TcCoe Idealize.SL.Sem Idealize.ShloMosaic.StableHlo

namespace Cert.Ssd

/- How the programs write a row, a head and a channel. -/
theorem row_mk (k l : Fin 128) (h) : (⟨k.val * 128 + l.val, h⟩ : Fin 16384) = row k l := rfl
theorem head_mk (g : Fin 4) (r : Fin 8) (h) : (⟨g.val * 8 + r.val, h⟩ : Fin 32) = head g r := rfl
theorem chan_mk (g : Fin 4) (r : Fin 8) (p : Fin 64) (h) : (⟨g.val * 512 + r.val * 64 + p.val, h⟩ : Fin 2048) = chan (head g r) p :=
  Fin.ext (by simp only [chan, head]; omega)
theorem chan3_mk (g : Fin 4) (r : Fin 8) (p : Fin 64) (h) : (⟨g.val * 512 + r.val * 64 + p.val, h⟩ : Fin 3072) = ⟨(chan (head g r) p).val, by omega⟩ :=
  Fin.ext (by simp only [chan, head]; omega)
theorem chunk_mk (r : Fin 16384) (h) : (⟨r.val / 128, h⟩ : Fin 128) = chunkOf r := rfl
theorem rowOf_mk (r : Fin 16384) (h) : (⟨r.val % 128, h⟩ : Fin 128) = rowOf r := rfl
theorem grp_mk (j : Fin 512) (h) : (⟨j.val / 128, h⟩ : Fin 4) = grp j := rfl
theorem lane_mk (j : Fin 512) (h) : (⟨j.val % 128, h⟩ : Fin 128) = lane j := rfl
theorem groupOf_mk (q : Fin 2048) (h) : (⟨q.val / 512, h⟩ : Fin 4) = groupOf q := rfl
theorem head_group (q : Fin 2048) (h) : head (groupOf q) ⟨q.val / 64 % 8, h⟩ = headOf q := Fin.ext (by simp only [head, groupOf, headOf]; omega)
theorem chan_head (q : Fin 2048) (h) : chan (headOf q) ⟨q.val % 64, h⟩ = q := Fin.ext (by simp only [chan, headOf]; omega)
theorem head_divmod (h : Fin 32) (a b) : head ⟨h.val / 8, a⟩ ⟨h.val % 8, b⟩ = h := Fin.ext (by simp only [head]; omega)
theorem groupOf_chan (g : Fin 4) (r : Fin 8) (p : Fin 64) : groupOf (chan (head g r) p) = g := Fin.ext (by simp only [chan, head, groupOf]; omega)

variable (A : Args)

/- The arrays that the reference forms, as functions of the arguments. -/
def aZ : (⟨2, ![16384, 32]⟩ : Shape).Idx → EReal := fun x => A.dtRaw x + A.dtBias (ix1 (x 1))
def aSp : (⟨2, ![16384, 32]⟩ : Shape).Idx → EReal := fun x => softplus (A.dtRaw x + A.dtBias (ix1 (x 1)))
def aX0 : (⟨2, ![16384, 2048]⟩ : Shape).Idx → EReal := fun x => A.xbc (ix2 (x 0) ⟨(show Fin 2048 from x 1).val, by have := (show Fin 2048 from x 1).isLt; omega⟩)
def aB0 : (⟨2, ![16384, 512]⟩ : Shape).Idx → EReal := fun x => A.xbc (ix2 (x 0) ⟨2048 + (show Fin 512 from x 1).val, by have := (show Fin 512 from x 1).isLt; omega⟩)
def aC0 : (⟨2, ![16384, 512]⟩ : Shape).Idx → EReal := fun x => A.xbc (ix2 (x 0) ⟨2560 + (show Fin 512 from x 1).val, by have := (show Fin 512 from x 1).isLt; omega⟩)
def aX : (⟨5, ![128, 128, 4, 8, 64]⟩ : Shape).Idx → EReal := fun x => X A (x 0) (x 1) (chan (head (x 2) (x 3)) (x 4))
def aB : (⟨4, ![128, 128, 4, 128]⟩ : Shape).Idx → EReal := fun x => B A (x 0) (x 1) (x 2) (x 3)
def aC : (⟨4, ![128, 128, 4, 128]⟩ : Shape).Idx → EReal := fun x => C A (x 0) (x 1) (x 2) (x 3)
def aDt : (⟨5, ![128, 128, 4, 8, 1]⟩ : Shape).Idx → EReal := fun x => dt A (x 0) (x 1) (head (x 2) (x 3))
def aXdt : (⟨5, ![128, 128, 4, 8, 64]⟩ : Shape).Idx → EReal := fun x => xdt A (x 0) (x 1) (chan (head (x 2) (x 3)) (x 4))
def aAdt : (⟨4, ![4, 8, 128, 128]⟩ : Shape).Idx → EReal := fun x => adt A (x 2) (x 3) (head (x 0) (x 1))
def aCs : (⟨4, ![4, 8, 128, 128]⟩ : Shape).Idx → EReal := fun x => cs A (x 2) (x 3) (head (x 0) (x 1))
def aDiff : (⟨5, ![4, 8, 128, 128, 128]⟩ : Shape).Idx → EReal := fun x => cs A (x 2) (x 3) (head (x 0) (x 1)) - cs A (x 2) (x 4) (head (x 0) (x 1))
def aTri : (⟨2, ![128, 128]⟩ : Shape).Idx → BitVec 1 := fun x => if (show Fin 128 from x 1) ≤ (show Fin 128 from x 0) then 1#1 else 0#1
def aMask : (⟨5, ![4, 8, 128, 128, 128]⟩ : Shape).Idx → EReal := fun x => if (show Fin 128 from x 4) ≤ (show Fin 128 from x 3) then aDiff A x else ⊥
def aL : (⟨5, ![4, 8, 128, 128, 128]⟩ : Shape).Idx → EReal := fun x => lm A (x 2) (x 3) (x 4) (head (x 0) (x 1))
def aCbL : (⟨5, ![4, 8, 128, 128, 128]⟩ : Shape).Idx → EReal := fun x => cb A (x 2) (x 3) (x 4) (x 0) * lm A (x 2) (x 3) (x 4) (head (x 0) (x 1))
def aDec : (⟨5, ![128, 128, 4, 8, 1]⟩ : Shape).Idx → EReal := fun x => dec A (x 0) (x 1) (head (x 2) (x 3))
def aDecX : (⟨5, ![128, 128, 4, 8, 64]⟩ : Shape).Idx → EReal := fun x => dec A (x 0) (x 1) (head (x 2) (x 3)) * xdt A (x 0) (x 1) (chan (head (x 2) (x 3)) (x 4))
def aCd : (⟨5, ![128, 4, 8, 1, 1]⟩ : Shape).Idx → EReal := fun x => cd A (x 0) (head (x 1) (x 2))
def aDy : (⟨5, ![128, 128, 4, 8, 64]⟩ : Shape).Idx → EReal := fun x => dY A (x 0) (x 1) (chan (head (x 2) (x 3)) (x 4))
def aDyD : (⟨5, ![128, 128, 4, 8, 64]⟩ : Shape).Idx → EReal := fun x => dY A (x 0) (x 1) (chan (head (x 2) (x 3)) (x 4)) * A.d (ix1 (head (x 2) (x 3)))
def aDD : (⟨1, ![32]⟩ : Shape).Idx → EReal := fun x => dD A (x 0)
def aInc : (⟨5, ![128, 4, 8, 64, 128]⟩ : Shape).Idx → EReal := fun x => inc A (x 0) (chan (head (x 1) (x 2)) (x 3)) (x 4)

/- A window of the whole last axis, padded low by one less, sums each row up to its own place. -/
theorem window_sum (l : Fin 128) (f : Fin 128 → EReal) :
    (∑ n : Fin 128, if h : 127 ≤ l.val + n.val then f ⟨l.val + n.val - 127, by omega⟩ else 0) = ∑ s : Fin 128, if s ≤ l then f s else 0 := by
  rw [← Finset.sum_filter]
  refine Eq.trans (b := ∑ n ∈ Finset.univ.filter (fun n : Fin 128 => 127 ≤ l.val + n.val), f ⟨l.val + n.val - 127, by omega⟩) ?_ ?_
  · rw [Finset.sum_filter]
    exact Finset.sum_congr rfl fun n _ => by split <;> rfl
  · refine Finset.sum_bij' (fun n _ => ⟨l.val + n.val - 127, by omega⟩) (fun s _ => ⟨min 127 (s.val + 127 - l.val), by omega⟩) ?_ ?_ ?_ ?_ ?_
    · intro n hn
      simp only [Finset.mem_filter, Finset.mem_univ, true_and, Fin.le_def] at hn ⊢
      omega
    · intro s hs
      simp only [Finset.mem_filter, Finset.mem_univ, true_and, Fin.le_def] at hs ⊢
      omega
    · intro n hn
      simp only [Finset.mem_filter, Finset.mem_univ, true_and, Fin.ext_iff] at hn ⊢
      omega
    · intro s hs
      simp only [Finset.mem_filter, Finset.mem_univ, true_and, Fin.ext_iff, Fin.le_def] at hs ⊢
      omega
    · intro n hn
      rfl

theorem foldl_plus {α : Type} (f : α → EReal) (L : List α) (r : EReal) : L.foldl (fun r n => r + f n) r = r + (L.map f).sum := by
  induction L generalizing r with
  | nil => simp
  | cons a L ih => rw [List.foldl_cons, ih, List.map_cons, List.sum_cons, add_assoc]

theorem numelW : (⟨4, ![1, 1, 1, 128]⟩ : Shape).numel = 128 := by decide

theorem cumsum4 (x : (⟨4, ![4, 8, 128, 128]⟩ : Shape).Idx → EReal) (h hu) (g : Fin 4) (r : Fin 8) (k l : Fin 128) :
    Host.reduceWindowAdd (F := Ideal) (φ := .f32) ![1, 1, 1, 128] ![1, 1, 1, 1] ![0, 0, 0, 127] ![0, 0, 0, 0] x
      (fun _ : (⟨0, ![]⟩ : Shape).Idx => (0 : EReal)) h hu (ix4 g r k l) = ∑ s : Fin 128, if s ≤ l then x (ix4 g r k s) else 0 := by
  have key : ∀ n : Fin 128, ∀ a : Fin 4, ((⟨4, ![1, 1, 1, 128]⟩ : Shape).rowMajor.symm (n.cast numelW.symm) a).val = if a = 3 then n.val else 0 := by
    intro n a
    have e := Shape.rowMajor_val_four (d := ![1, 1, 1, 128]) ((⟨4, ![1, 1, 1, 128]⟩ : Shape).rowMajor.symm (n.cast numelW.symm))
    rw [Equiv.apply_symm_apply] at e
    generalize (⟨4, ![1, 1, 1, 128]⟩ : Shape).rowMajor.symm (n.cast numelW.symm) = y at e ⊢
    have h0 : (y 0).val < 1 := (y 0).isLt
    have h1 : (y 1).val < 1 := (y 1).isLt
    have h2 : (y 2).val < 1 := (y 2).isLt
    have e' : n.val = (((y 0).val * 1 + (y 1).val) * 1 + (y 2).val) * 128 + (y 3).val := e
    fin_cases a
    · show (y 0).val = 0; omega
    · show (y 1).val = 0; omega
    · show (y 2).val = 0; omega
    · show (y 3).val = n.val; omega
  show Host.reduceWindow (· + ·) _ _ _ _ x (fun _ : (⟨0, ![]⟩ : Shape).Idx => (0 : EReal)) h (by decide) (ix4 g r k l) = _
  rw [← window_sum l (fun s => x (ix4 g r k s))]
  unfold Host.reduceWindow
  rw [foldl_plus, zero_add]
  refine (Fin.sum_univ_def _).symm.trans (Fintype.sum_equiv (finCongr numelW) _ _ fun n => ?_)
  obtain ⟨n, rfl⟩ : ∃ n' : Fin 128, n = n'.cast numelW.symm := ⟨n.cast numelW, rfl⟩
  dsimp only
  have e3 : ((⟨4, ![1, 1, 1, 128]⟩ : Shape).rowMajor.symm (n.cast numelW.symm) 3).val = n.val := (key n 3).trans (if_pos rfl)
  have e2 : ((⟨4, ![1, 1, 1, 128]⟩ : Shape).rowMajor.symm (n.cast numelW.symm) 2).val = 0 := (key n 2).trans (if_neg (by decide))
  have e1 : ((⟨4, ![1, 1, 1, 128]⟩ : Shape).rowMajor.symm (n.cast numelW.symm) 1).val = 0 := (key n 1).trans (if_neg (by decide))
  have e0 : ((⟨4, ![1, 1, 1, 128]⟩ : Shape).rowMajor.symm (n.cast numelW.symm) 0).val = 0 := (key n 0).trans (if_neg (by decide))
  have hg := g.isLt
  have hr := r.isLt
  have hk := k.isLt
  have hl := l.isLt
  split
  · next hin =>
    have b3 := hin 3
    change 127 ≤ l.val * 1 + ((⟨4, ![1, 1, 1, 128]⟩ : Shape).rowMajor.symm (n.cast numelW.symm) 3).val ∧ _ at b3
    have hle : 127 ≤ l.val + ((finCongr numelW) (n.cast numelW.symm)).val := by
      show 127 ≤ l.val + n.val
      omega
    rw [dif_pos hle]
    refine congrArg x (funext fun a => Fin.ext ?_)
    fin_cases a
    · show g.val * 1 + ((⟨4, ![1, 1, 1, 128]⟩ : Shape).rowMajor.symm (n.cast numelW.symm) 0).val - 0 = g.val
      omega
    · show r.val * 1 + ((⟨4, ![1, 1, 1, 128]⟩ : Shape).rowMajor.symm (n.cast numelW.symm) 1).val - 0 = r.val
      omega
    · show k.val * 1 + ((⟨4, ![1, 1, 1, 128]⟩ : Shape).rowMajor.symm (n.cast numelW.symm) 2).val - 0 = k.val
      omega
    · show l.val * 1 + ((⟨4, ![1, 1, 1, 128]⟩ : Shape).rowMajor.symm (n.cast numelW.symm) 3).val - 127 = l.val + n.val - 127
      omega
  · next hin =>
    rw [dif_neg]
    refine fun hle => hin fun a => ?_
    change 127 ≤ l.val + n.val at hle
    have hn := n.isLt
    fin_cases a
    · show 0 ≤ g.val * 1 + ((⟨4, ![1, 1, 1, 128]⟩ : Shape).rowMajor.symm (n.cast numelW.symm) 0).val ∧ g.val * 1 + ((⟨4, ![1, 1, 1, 128]⟩ : Shape).rowMajor.symm (n.cast numelW.symm) 0).val - 0 < 4
      omega
    · show 0 ≤ r.val * 1 + ((⟨4, ![1, 1, 1, 128]⟩ : Shape).rowMajor.symm (n.cast numelW.symm) 1).val ∧ r.val * 1 + ((⟨4, ![1, 1, 1, 128]⟩ : Shape).rowMajor.symm (n.cast numelW.symm) 1).val - 0 < 8
      omega
    · show 0 ≤ k.val * 1 + ((⟨4, ![1, 1, 1, 128]⟩ : Shape).rowMajor.symm (n.cast numelW.symm) 2).val ∧ k.val * 1 + ((⟨4, ![1, 1, 1, 128]⟩ : Shape).rowMajor.symm (n.cast numelW.symm) 2).val - 0 < 128
      omega
    · show 127 ≤ l.val * 1 + ((⟨4, ![1, 1, 1, 128]⟩ : Shape).rowMajor.symm (n.cast numelW.symm) 3).val ∧ l.val * 1 + ((⟨4, ![1, 1, 1, 128]⟩ : Shape).rowMajor.symm (n.cast numelW.symm) 3).val - 127 < 128
      omega

theorem tri_word : ∀ i j : Fin 128, Scalar.select (IntOp.cmpi CmpIPredicate.sge (IntOp.addi (BitVec.ofNat 32 i.val) 0#32) (BitVec.ofNat 32 j.val)) 1#1 0#1
    = if j ≤ i then 1#1 else 0#1 := by decide +kernel
theorem bot_word : Ideal.ofBits .f32 0xFF800000#32 = ⊥ := by simp [Ideal.ofBits, Ideal.ieee]

end Cert.Ssd

end
-- ==== Proof.SsdRef.lean ====
/- What the reference's buffers hold before its loop (`Cert.Ssd`). -/
module

public import proofs.«01_k».proof.Proof.SsdArrays
public import proofs.«01_k».proof.Proof.Gen.SsdGradIdeal.Run

@[expose] public section

set_option maxRecDepth 16384

noncomputable section

open Idealize.ShloMosaic Idealize.ShloMosaic.TcCoe Idealize.SL.Sem Idealize.ShloMosaic.StableHlo

namespace Cert.SsdGradIdeal.Grad

open Cert.SsdGradIdeal Cert.SsdGradIdeal.Gen Cert.SsdGradIdeal.Value Cert.Ssd

variable (A : Args) (V : Valuation τ sig (Elt Ideal))

/- The projections, and the step sizes before the softplus. -/
theorem s0_v5 (h1 : V (Proc.devRef .tc main_arg1) = A.dtRaw) (h2 : V (Proc.devRef .tc main_arg2) = A.dtBias) :
    after hostOps0 V (Proc.devRef .tc main_v5) = aZ A := by
  after_results
  rw [h1, h2]; funext x; idx_vars x
  pointwise [aZ]
theorem s0_v0 (h0 : V (Proc.devRef .tc main_arg0) = A.xbc) : after hostOps0 V (Proc.devRef .tc main_v0) = aX0 A := by
  after_results
  rw [h0]; funext x; idx_vars x
  pointwise [aX0]
theorem s0_v1 (h0 : V (Proc.devRef .tc main_arg0) = A.xbc) : after hostOps0 V (Proc.devRef .tc main_v1) = aB0 A := by
  after_results
  rw [h0]; funext x; idx_vars x
  pointwise [aB0]
theorem s0_v2 (h0 : V (Proc.devRef .tc main_arg0) = A.xbc) : after hostOps0 V (Proc.devRef .tc main_v2) = aC0 A := by
  after_results
  rw [h0]; funext x; idx_vars x
  pointwise [aC0]

/- The step sizes. -/
theorem s1_v6 (h5 : V (Proc.devRef .tc main_v5) = aZ A) : after hostOps0_1 V (Proc.devRef .tc main_v6) = aSp A := by
  after_results
  simp only [TRef.toBuf, TRef.ofBuf, cast_eq]
  rw [h5]; funext x; idx_vars x
  pointwise [aZ, aSp, softplus]
  exact if_neg (fun h => h rfl)

/- The projections by chunk, the scaled input, and the logarithms of the decays. -/
theorem s2_v10 (h0 : V (Proc.devRef .tc main_v0) = aX0 A) : after hostOps0_2 V (Proc.devRef .tc main_v10) = aX A := by
  after_results
  rw [h0]; funext x; idx_vars x
  pointwise [X, aX0, aX, row_mk, chan_mk]
theorem s2_v11 (h0 : V (Proc.devRef .tc main_v1) = aB0 A) : after hostOps0_2 V (Proc.devRef .tc main_v11) = aB A := by
  after_results
  rw [h0]; funext x; idx_vars x
  pointwise [B, aB0, aB, row_mk]
theorem s2_v12 (h0 : V (Proc.devRef .tc main_v2) = aC0 A) : after hostOps0_2 V (Proc.devRef .tc main_v12) = aC A := by
  after_results
  rw [h0]; funext x; idx_vars x
  pointwise [C, aC0, aC, row_mk]
theorem s2_v14 (h0 : V (Proc.devRef .tc main_v6) = aSp A) : after hostOps0_2 V (Proc.devRef .tc main_v14) = aDt A := by
  after_results
  rw [h0]; funext x; idx_vars x
  pointwise [aSp, aDt, dt, row_mk, head_mk]
theorem s2_v16 (h0 : V (Proc.devRef .tc main_v0) = aX0 A) (h6 : V (Proc.devRef .tc main_v6) = aSp A) :
    after hostOps0_2 V (Proc.devRef .tc main_v16) = aXdt A := by
  after_results
  rw [h0, h6]; funext x; idx_vars x
  pointwise [xdt, X, dt, aX0, aSp, aXdt, row_mk, chan_mk, head_mk, headOf_chan]
theorem s2_v20 (h0 : V (Proc.devRef .tc main_v6) = aSp A) (h3 : V (Proc.devRef .tc main_arg3) = A.aLog) :
    after hostOps0_2 V (Proc.devRef .tc main_v20) = aAdt A := by
  after_results
  rw [h0, h3]; funext x; idx_vars x
  pointwise [aSp, aAdt, adt, dt, row_mk, head_mk]

/- The summed logarithms, their differences, the mask. -/
theorem s3_v21 (h0 : V (Proc.devRef .tc main_v20) = aAdt A) : after hostOps0_3 V (Proc.devRef .tc main_v21) = aCs A := by
  after_results
  simp only [TRef.toBuf, TRef.ofBuf, cast_eq]
  rw [h0]; funext x; idx_vars x
  have z : (broadcastInDim S_ ![] bcast_S_S_ (constant (F := Ideal) S_ .f32 0x00000000#32)) = fun _ : S_.Idx => (0 : EReal) := by
    funext i
    pointwise []
  rw [z]
  exact cumsum4 _ _ _ _ _ _ _
theorem s4_v26 (h0 : V (Proc.devRef .tc main_v21) = aCs A) : after hostOps0_4 V (Proc.devRef .tc main_v26) = aDiff A := by
  after_results
  rw [h0]; funext x; idx_vars x
  pointwise [aCs, aDiff]
theorem s4_v27 : after hostOps0_4 V (Proc.devRef .tc main_v27) = fun _ : S128x128.Idx => 1#1 := by
  after_results
  funext x; idx_vars x
  pointwise []
theorem s5_v28 (h0 : V (Proc.devRef .tc main_v27) = fun _ : S128x128.Idx => 1#1) : after hostOps0_5 V (Proc.devRef .tc main_v28) = aTri := by
  after_results
  simp only [TRef.toBuf, TRef.ofBuf, cast_eq]
  rw [h0]; funext x; idx_vars x
  pointwise [aTri]
  exact tri_word x0 x1
theorem s6_cst : after hostOps0_6 V (Proc.devRef .tc main_cst) = constant (F := Ideal) S_ .f32 0xFF800000#32 := by
  after_results
theorem s7_v29 (h0 : V (Proc.devRef .tc main_v28) = aTri) (h1 : V (Proc.devRef .tc main_v26) = aDiff A)
    (h2 : V (Proc.devRef .tc main_cst) = constant (F := Ideal) S_ .f32 0xFF800000#32) : after hostOps0_7 V (Proc.devRef .tc main_v29) = aMask A := by
  after_results
  simp only [TRef.toBuf, TRef.ofBuf, cast_eq]
  rw [h0, h1, h2]; funext x; idx_vars x
  pointwise [aTri, aMask]
  by_cases h : x4 ≤ x3
  · simp [h, Scalar.select]
  · simp only [h, if_false, Scalar.select]
    exact bot_word

/- The decays, the products, and what the loop starts from. -/
theorem s8_v30 (h0 : V (Proc.devRef .tc main_v29) = aMask A) : after hostOps0_8 V (Proc.devRef .tc main_v30) = aL A := by
  after_results
  rw [h0]; funext x; idx_vars x
  pointwise [aMask, aDiff, aL, lm]
  by_cases h : x4 ≤ x3
  · simp [h]
  · simp [h]
theorem s8_v35 (h0 : V (Proc.devRef .tc main_v29) = aMask A) (hB : V (Proc.devRef .tc main_v11) = aB A) (hC : V (Proc.devRef .tc main_v12) = aC A) :
    after hostOps0_8 V (Proc.devRef .tc main_v35) = aCbL A := by
  after_results
  rw [h0, hB, hC]; funext x; idx_vars x
  pointwise [aCbL, aB, aC, cb, aMask, aDiff, lm]
  by_cases h : x4 ≤ x3
  · simp [h]
  · simp [h]
theorem s8_v41 (h0 : V (Proc.devRef .tc main_v21) = aCs A) : after hostOps0_8 V (Proc.devRef .tc main_v41) = aDec A := by
  after_results
  rw [h0]; funext x; idx_vars x
  pointwise [aDec, aCs, dec]
theorem s8_v43 (h0 : V (Proc.devRef .tc main_v21) = aCs A) (h1 : V (Proc.devRef .tc main_v16) = aXdt A) :
    after hostOps0_8 V (Proc.devRef .tc main_v43) = aDecX A := by
  after_results
  rw [h0, h1]; funext x; idx_vars x
  pointwise [aDecX, aXdt, aCs, dec]
theorem s8_v69_1 (h0 : V (Proc.devRef .tc main_v21) = aCs A) : after hostOps0_8 V (Proc.devRef .tc main_v69_1) = aCd A := by
  after_results
  rw [h0]; funext x; idx_vars x
  pointwise [id_eq, aCd, aCs, cd]
theorem s8_v54 (h0 : V (Proc.devRef .tc main_arg5) = A.dy) : after hostOps0_8 V (Proc.devRef .tc main_v54) = aDy A := by
  after_results
  rw [h0]; funext x; idx_vars x
  pointwise [aDy, dY, row_mk, chan_mk]
theorem s8_v59 (h0 : V (Proc.devRef .tc main_arg5) = A.dy) (h1 : V (Proc.devRef .tc main_arg4) = A.d) :
    after hostOps0_8 V (Proc.devRef .tc main_v59) = aDyD A := by
  after_results
  rw [h0, h1]; funext x; idx_vars x
  pointwise [aDyD, dY, row_mk, chan_mk, head_mk]
theorem sum_014 {a b e : ℕ} (h : (⟨5, ![a, b, 4, 8, e]⟩ : Shape).ReducesTo [0, 1, 4] S4x8) (v : (⟨5, ![a, b, 4, 8, e]⟩ : Shape).Idx → EReal) (g : Fin 4) (r : Fin 8) :
    Ideal.hostReduceAdd h v 0 (ix2 g r) = ∑ k : Fin a, ∑ l : Fin b, ∑ p : Fin e, v (ix5 k l g r p) := by
  refine (zero_add _).trans ?_
  refine (Finset.sum_filter_eq_sum_of_fiber _ (fun k : Fin a × Fin b × Fin e => ix5 k.1 k.2.1 g r k.2.2)
    (fun _ _ e => Prod.ext (congrFun e 0) (Prod.ext (congrFun e 1) (congrFun e 4))) (fun i => ⟨fun e => ⟨(i 0, i 1, i 4), ?_⟩, ?_⟩) v).trans ?_
  · funext c
    match c with
    | ⟨0, _⟩ => rfl
    | ⟨1, _⟩ => rfl
    | ⟨2, _⟩ => exact (congrFun e 0).symm
    | ⟨3, _⟩ => exact (congrFun e 1).symm
    | ⟨4, _⟩ => rfl
  · rintro ⟨k, rfl⟩
    funext c
    fin_cases c <;> rfl
  · simp only [Fintype.sum_prod_type]
theorem s8_v62 (h0 : V (Proc.devRef .tc main_arg5) = A.dy) (h1 : V (Proc.devRef .tc main_v10) = aX A) :
    after hostOps0_8 V (Proc.devRef .tc main_v62) = aDD A := by
  after_results
  rw [h0, h1]; funext x; idx_vars x
  pointwise [aDD, dD, aX, dY, row_mk, chan_mk, head_mk, sum_014, Fin.sum_univ_one, head_divmod]
theorem s8_v69_0 (h0 : V (Proc.devRef .tc main_arg5) = A.dy) (h1 : V (Proc.devRef .tc main_v21) = aCs A) (h2 : V (Proc.devRef .tc main_v12) = aC A) :
    after hostOps0_8 V (Proc.devRef .tc main_v69_0) = aInc A := by
  after_results
  rw [h0, h1, h2]; funext x; idx_vars x
  pointwise [id_eq, aInc, inc, aCs, aC, dY, ex, row_mk, chan_mk, head_mk, headOf_chan, groupOf_chan]
theorem s8_v69_3 : after hostOps0_8 V (Proc.devRef .tc main_v69_3) = fun _ : S4x8x64x128.Idx => (0 : EReal) := by
  after_results
  funext x; idx_vars x
  pointwise [id_eq]
theorem s8_v69_4 : after hostOps0_8 V (Proc.devRef .tc main_v69_4) = fun _ : S128x4x8x64x128.Idx => (0 : EReal) := by
  after_results
  funext x; idx_vars x
  pointwise [id_eq]

end Cert.SsdGradIdeal.Grad

end
-- ==== Proof.SsdLoop.lean ====
/- What the reference computes: its loop, and the gradients after it (`Cert.Ssd`). -/
module

public import proofs.«01_k».proof.Proof.SsdRef

@[expose] public section

set_option maxRecDepth 16384

noncomputable section

open Idealize.ShloMosaic Idealize.ShloMosaic.TcCoe Idealize.SL.Sem Idealize.ShloMosaic.StableHlo

namespace Cert.SsdGradIdeal.Grad

open Cert.SsdGradIdeal Cert.SsdGradIdeal.Gen Cert.SsdGradIdeal.Value Cert.Ssd

variable (A : Args) (V : Valuation τ sig (Elt Ideal))

/-- The state's gradients, stacked by chunk; and the two results. -/
def aDS : S128x4x8x64x128.Idx → EReal := fun x => dS A (x 0) (chan (head (x 1) (x 2)) (x 3)) (x 4)
def aDx : S16384x2048.Idx → EReal := fun x => dx A (chunkOf (x 0)) (rowOf (x 0)) (x 1)
def aDB : S16384x512.Idx → EReal := fun x => dB A (chunkOf (x 0)) (rowOf (x 0)) (grp (x 1)) (lane (x 1))

/-- What the buffers hold that are read after the loop. -/
structure After : Prop where
  v11 : V (Proc.devRef .tc main_v11) = aB A
  v12 : V (Proc.devRef .tc main_v12) = aC A
  v14 : V (Proc.devRef .tc main_v14) = aDt A
  v16 : V (Proc.devRef .tc main_v16) = aXdt A
  v30 : V (Proc.devRef .tc main_v30) = aL A
  v35 : V (Proc.devRef .tc main_v35) = aCbL A
  v41 : V (Proc.devRef .tc main_v41) = aDec A
  v43 : V (Proc.devRef .tc main_v43) = aDecX A
  v54 : V (Proc.devRef .tc main_v54) = aDy A
  v59 : V (Proc.devRef .tc main_v59) = aDyD A

set_option maxHeartbeats 1000000 in
theorem s9_v94 (h : After A V) (hs : V (Proc.devRef .tc main_v69_4) = aDS A) : after hostOps0_9 V (Proc.devRef .tc main_v94) = aDx A := by
  obtain ⟨h11, h12, h14, h16, h30, h35, h41, h43, h54, h59⟩ := h
  after_results
  rw [h11, h14, h35, h41, h54, h59, hs]
  clear h11 h12 h14 h16 h30 h35 h41 h43 h54 h59 hs
  funext x; idx_vars x
  pointwise [aDx, dx, dxdt, aB, aC, aDt, aXdt, aL, aCbL, aDec, aDecX, aDy, aDyD, aDS, chunk_mk, rowOf_mk, groupOf_mk, grp_mk, lane_mk, head_group, chan_head, Fin.sum_univ_one]
set_option maxHeartbeats 1000000 in
theorem s9_v93 (h : After A V) (hs : V (Proc.devRef .tc main_v69_4) = aDS A) : after hostOps0_9 V (Proc.devRef .tc main_v93) = aDB A := by
  obtain ⟨h11, h12, h14, h16, h30, h35, h41, h43, h54, h59⟩ := h
  after_results
  rw [h12, h16, h30, h43, h54, hs]
  clear h11 h12 h14 h16 h30 h35 h41 h43 h54 h59 hs
  funext x; idx_vars x
  pointwise [aDB, dB, dcb, aB, aC, aDt, aXdt, aL, aCbL, aDec, aDecX, aDy, aDyD, aDS, chunk_mk, rowOf_mk, groupOf_mk, grp_mk, lane_mk, head_group, chan_head, Fin.sum_univ_one]
/-- What the loop carries before trip `k`. -/
structure Carried (k : ℕ) : Prop where
  inc : V (Proc.devRef .tc main_v69_0) = aInc A
  cd : V (Proc.devRef .tc main_v69_1) = aCd A
  ctr : V (Proc.devRef .tc main_v69_2) = fun _ : S_.Idx => Scf.iv 0#32 1#32 k
  st : V (Proc.devRef .tc main_v69_3) = fun x : S4x8x64x128.Idx => st A k (chan (head (x 0) (x 1)) (x 2)) (x 3)
  stack : V (Proc.devRef .tc main_v69_4) = fun x : S128x4x8x64x128.Idx => if 127 - (show Fin 128 from x 0).val < k then aDS A x else 0

/-- Trip `k` reads, and writes, chunk `127 - k`. -/
theorem start_word : ∀ k : Fin 128, IntOp.subi (IntOp.subi 128#32 (Scf.iv 0#32 1#32 k.val)) 1#32 = BitVec.ofNat 32 (127 - k.val) := by decide +kernel
theorem start_clamp : ∀ k : Fin 128, (min (max (BitVec.ofNat 32 (127 - k.val)).toInt 0) ((128 - 1 : ℕ) : ℤ)).toNat = 127 - k.val := by decide +kernel

theorem ctr_word : ∀ k : Fin 128, IntOp.addi (Scf.iv 0#32 1#32 k.val) 1#32 = Scf.iv 0#32 1#32 (k.val + 1) := by decide +kernel

/-- The starts of trip `k`'s block. -/
def start (k : ℕ) : Fin 5 → ℤ := fun a => ((![fun _ => BitVec.ofNat 32 (127 - k), constantI S_ 32 0#32, constantI S_ 32 0#32, constantI S_ 32 0#32, constantI S_ 32 0#32] : Fin 5 → S_.Idx → BitVec 32) a (Shape.Idx.first h_S_)).toInt

theorem slice_inc (k : Fin 128) (x : S128x4x8x64x128.Idx → EReal) (h) (a : Fin 1) (g : Fin 4) (r : Fin 8) (p : Fin 64) (n : Fin 128) :
    Host.dynamicSlice S1x4x8x64x128 x (start k) h (ix5 a g r p n) = x (ix5 (rev k) g r p n) := by
  rw [Host.dynamicSlice_apply]
  refine congrArg x (funext fun b => Fin.ext ?_)
  have ha : a.val = 0 := by omega
  match b with
  | ⟨0, _⟩ => exact (congrArg₂ (· + ·) (start_clamp k) ha).trans (Nat.add_zero _)
  | ⟨1, _⟩ => exact Nat.zero_add _
  | ⟨2, _⟩ => exact Nat.zero_add _
  | ⟨3, _⟩ => exact Nat.zero_add _
  | ⟨4, _⟩ => exact Nat.zero_add _

theorem slice_cd (k : Fin 128) (x : S128x4x8x1x1.Idx → EReal) (h) (a : Fin 1) (g : Fin 4) (r : Fin 8) (p : Fin 1) (n : Fin 1) :
    Host.dynamicSlice S1x4x8x1x1 x (start k) h (ix5 a g r p n) = x (ix5 (rev k) g r p n) := by
  rw [Host.dynamicSlice_apply]
  refine congrArg x (funext fun b => Fin.ext ?_)
  have ha : a.val = 0 := by omega
  match b with
  | ⟨0, _⟩ => exact (congrArg₂ (· + ·) (start_clamp k) ha).trans (Nat.add_zero _)
  | ⟨1, _⟩ => exact Nat.zero_add _
  | ⟨2, _⟩ => exact Nat.zero_add _
  | ⟨3, _⟩ => exact Nat.zero_add _
  | ⟨4, _⟩ => exact Nat.zero_add _

theorem update_stack (k : Fin 128) (x : S128x4x8x64x128.Idx → EReal) (u : S1x4x8x64x128.Idx → EReal) (h) (c : Fin 128) (g : Fin 4) (r : Fin 8) (p : Fin 64) (n : Fin 128) :
    Host.dynamicUpdateSlice x u (start k) h (ix5 c g r p n) = if c = rev k then u (ix5 0 g r p n) else x (ix5 c g r p n) := by
  rw [Host.dynamicUpdateSlice_apply]
  have hc : Host.clampedStart S128x4x8x64x128 S1x4x8x64x128 h.1 (start k) 0 = 127 - k.val := start_clamp k
  have hk := k.isLt
  have hc' := c.isLt
  by_cases e : c = rev k
  · have ev : c.val = 127 - k.val := congrArg Fin.val e
    rw [if_pos e, dif_pos]
    · refine congrArg u (funext fun b => Fin.ext ?_)
      match b with
      | ⟨0, _⟩ => exact (congrArg₂ (· - ·) ev hc).trans (Nat.sub_self _)
      | ⟨1, _⟩ => rfl
      | ⟨2, _⟩ => rfl
      | ⟨3, _⟩ => rfl
      | ⟨4, _⟩ => rfl
    · intro b
      match b with
      | ⟨0, _⟩ =>
        show Host.clampedStart S128x4x8x64x128 S1x4x8x64x128 h.1 (start k) 0 ≤ c.val ∧ c.val < Host.clampedStart S128x4x8x64x128 S1x4x8x64x128 h.1 (start k) 0 + 1
        omega
      | ⟨1, _⟩ => exact ⟨Nat.zero_le _, (Nat.zero_add 4).symm ▸ g.isLt⟩
      | ⟨2, _⟩ => exact ⟨Nat.zero_le _, (Nat.zero_add 8).symm ▸ r.isLt⟩
      | ⟨3, _⟩ => exact ⟨Nat.zero_le _, (Nat.zero_add 64).symm ▸ p.isLt⟩
      | ⟨4, _⟩ => exact ⟨Nat.zero_le _, (Nat.zero_add 128).symm ▸ n.isLt⟩
  · rw [if_neg e, dif_neg]
    intro hin
    have h0 : Host.clampedStart S128x4x8x64x128 S1x4x8x64x128 h.1 (start k) 0 ≤ c.val ∧ c.val < Host.clampedStart S128x4x8x64x128 S1x4x8x64x128 h.1 (start k) 0 + 1 := hin 0
    exact e (Fin.ext (by show c.val = 127 - k.val; omega))

theorem res_start (k : Fin 128) (h : V (Proc.devRef .tc main_v69_2) = fun _ : S_.Idx => Scf.iv 0#32 1#32 k.val) :
    res_main_while0b_v97 V = fun _ : S_.Idx => BitVec.ofNat 32 (127 - k.val) := by
  unfold res_main_while0b_v97
  rw [h]
  exact funext fun _ => start_word k

theorem cast_inc (y : S1x4x8x64x128.Idx → EReal) (g : Fin 4) (r : Fin 8) (p : Fin 64) (n : Fin 128) :
    shapeCast S4x8x64x128 y shapeCasts_S1x4x8x64x128_S4x8x64x128 (ix4 g r p n) = y (ix5 0 g r p n) := by pointwise []
theorem cast_cd (y : S1x4x8x1x1.Idx → EReal) (g : Fin 4) (r : Fin 8) (p : Fin 64) (n : Fin 128) :
    broadcastInDim S4x8x64x128 ![0, 1, 2, 3] bcast_S4x8x1x1_S4x8x64x128_0_1_2_3 (shapeCast S4x8x1x1 y shapeCasts_S1x4x8x1x1_S4x8x1x1) (ix4 g r p n)
      = y (ix5 0 g r 0 0) := by pointwise []
theorem lift_st (y : S4x8x64x128.Idx → EReal) (g : Fin 4) (r : Fin 8) (p : Fin 64) (n : Fin 128) :
    broadcastInDim S1x4x8x64x128 ![1, 2, 3, 4] bcast_S4x8x64x128_S1x4x8x64x128_1_2_3_4 y (ix5 0 g r p n) = y (ix4 g r p n) := by pointwise []
theorem step_st (k : Fin 128) (h : Carried A V k.val) :
    step_main_v69_3 V = fun x : S4x8x64x128.Idx => Cert.Ssd.st A (k.val + 1) (chan (head (x 0) (x 1)) (x 2)) (x 3) := by
  have e := res_start V k h.ctr
  unfold step_main_v69_3
  rw [h.inc, h.cd, h.st, e]
  funext x; idx_vars x
  refine (congrArg₂ (· + ·) ?_ (congrArg₂ (· * ·) ?_ rfl) : _ = inc A (rev k) (chan (head x0 x1) x2) x3 + cd A (rev k) (headOf (chan (head x0 x1) x2)) * _)
  · refine Eq.trans ?_ (slice_inc k (aInc A) sliceFits_S128x4x8x64x128_S1x4x8x64x128 0 x0 x1 x2 x3)
    exact cast_inc _ _ _ _ _
  · rw [headOf_chan]
    refine Eq.trans ?_ (slice_cd k (aCd A) sliceFits_S128x4x8x1x1_S1x4x8x1x1 0 x0 x1 0 0)
    exact cast_cd _ _ _ _ _
theorem step_stack (k : Fin 128) (h : Carried A V k.val) :
    step_main_v69_4 V = fun x : S128x4x8x64x128.Idx => if 127 - (show Fin 128 from x 0).val < k.val + 1 then aDS A x else 0 := by
  have e := res_start V k h.ctr
  unfold step_main_v69_4
  rw [h.stack, h.st, e]
  funext x; idx_vars x
  refine (update_stack k _ _ updateFits_S128x4x8x64x128_S1x4x8x64x128 _ _ _ _ _).trans ?_
  rw [lift_st]
  show (if x0 = rev k then Cert.Ssd.st A k.val (chan (head x1 x2) x3) x4 else if 127 - x0.val < k.val then dS A x0 (chan (head x1 x2) x3) x4 else 0)
    = if 127 - x0.val < k.val + 1 then dS A x0 (chan (head x1 x2) x3) x4 else 0
  have hk := k.isLt
  have hx := x0.isLt
  by_cases hc : x0 = rev k
  · have hv : 127 - x0.val = k.val := by rw [hc]; show 127 - (127 - k.val) = k.val; omega
    rw [if_pos hc, if_pos (by omega)]
    unfold dS
    rw [hv]
  · have hv : 127 - x0.val ≠ k.val := fun hv => hc (Fin.ext (by show x0.val = 127 - k.val; omega))
    rw [if_neg hc]
    by_cases hlt : 127 - x0.val < k.val
    · rw [if_pos hlt, if_pos (by omega)]
    · rw [if_neg hlt, if_neg (by omega)]
theorem step (k : Fin 128) (h : Carried A V k.val) : Carried A (STEP V) (k.val + 1) := by
  refine ⟨(STEP_main_v69_0 V).trans h.inc, (STEP_main_v69_1 V).trans h.cd, (STEP_main_v69_2 V).trans ?_,
    (STEP_main_v69_3 V).trans (step_st A V k h), (STEP_main_v69_4 V).trans (step_stack A V k h)⟩
  unfold step_main_v69_2
  rw [h.ctr]
  exact funext fun _ => ctr_word k
variable (m : (ℓ : Loc nD τ sig) → Buf (Elt Ideal) ℓ)

/-- The buffers that a trip writes. -/
abbrev tripW : List (Ref sig .tc) := condOps_W ++ while0Ops0_W ++ while0Ops0_1_W ++ while0Ops0_2_W ++ while0Ops0_3_W ++ while0Ops0_4_W ++ while0Ops0_5_W
theorem keep_trip (b : Ref sig .tc) (h : b ∉ tripW) : afterL bodyI (after condOps V) (Proc.devRef .tc b) = V (Proc.devRef .tc b) := by
  simp only [tripW, List.mem_append, not_or] at h
  obtain ⟨⟨⟨⟨⟨⟨hc, h0⟩, h1⟩, h2⟩, h3⟩, h4⟩, h5⟩ := h
  simp only [afterL_cons, afterL_nil]
  rw [after_of_writes_sub while0Ops0_5 _ while0Ops0_5_writes h5, after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]
theorem keep_loop (b : Ref sig .tc) (h : b ∉ tripW) (c : Dev nD) : ∀ k, atK m k c (Proc.devRef .tc b) = entryContents preI m c (Proc.devRef .tc b)
  | 0 => rfl
  | k + 1 => (keep_trip (atK m k c) b h).trans (keep_loop b h c k)

/-- What the loop carries after `k` trips. -/
theorem carried (c : Dev nD) (h0 : Carried A (entryContents preI m c) 0) : ∀ k ≤ 128, Carried A (STEP^[k] (entryContents preI m c)) k
  | 0, _ => h0
  | k + 1, h => by
    rw [Function.iterate_succ_apply']
    exact step A _ ⟨k, h⟩ (carried c h0 k (Nat.le_of_succ_le h))

end Cert.SsdGradIdeal.Grad

end
-- ==== Proof.SsdEntry.lean ====
/- What the reference's buffers hold when its loop begins, and its results (`Cert.Ssd`). -/
module

public import proofs.«01_k».proof.Proof.SsdLoop

@[expose] public section

set_option maxRecDepth 16384

noncomputable section

open Idealize.ShloMosaic Idealize.ShloMosaic.TcCoe Idealize.SL.Sem Idealize.ShloMosaic.StableHlo

namespace Cert.SsdGradIdeal.Grad

open Cert.SsdGradIdeal Cert.SsdGradIdeal.Gen Cert.SsdGradIdeal.Value Cert.Ssd

variable (A : Args) (V : Valuation τ sig (Elt Ideal))

/-- The arguments are in their buffers. -/
structure Given : Prop where
  a0 : V (Proc.devRef .tc main_arg0) = A.xbc
  a1 : V (Proc.devRef .tc main_arg1) = A.dtRaw
  a2 : V (Proc.devRef .tc main_arg2) = A.dtBias
  a3 : V (Proc.devRef .tc main_arg3) = A.aLog
  a4 : V (Proc.devRef .tc main_arg4) = A.d
  a5 : V (Proc.devRef .tc main_arg5) = A.dy

/-- The projections by chunk are in their buffers. -/
structure Kept : Prop where
  v10 : V (Proc.devRef .tc main_v10) = aX A
  v11 : V (Proc.devRef .tc main_v11) = aB A
  v12 : V (Proc.devRef .tc main_v12) = aC A
  v14 : V (Proc.devRef .tc main_v14) = aDt A
  v16 : V (Proc.devRef .tc main_v16) = aXdt A
  a4 : V (Proc.devRef .tc main_arg4) = A.d
  a5 : V (Proc.devRef .tc main_arg5) = A.dy
abbrev keptRefs : List (Ref sig .tc) := [main_v10, main_v11, main_v12, main_v14, main_v16, main_arg4, main_arg5]
variable {A V} in
theorem Kept.of {W : Valuation τ sig (Elt Ideal)} (h : Kept A V) (e : ∀ b ∈ keptRefs, W (Proc.devRef .tc b) = V (Proc.devRef .tc b)) : Kept A W :=
  ⟨(e main_v10 (by decide)).trans h.v10, (e main_v11 (by decide)).trans h.v11, (e main_v12 (by decide)).trans h.v12, (e main_v14 (by decide)).trans h.v14,
    (e main_v16 (by decide)).trans h.v16, (e main_arg4 (by decide)).trans h.a4, (e main_arg5 (by decide)).trans h.a5⟩

theorem at2 (g : Given A V) : Kept A (after hostOps0_2 (after hostOps0_1 (after hostOps0 V)))
    ∧ after hostOps0_2 (after hostOps0_1 (after hostOps0 V)) (Proc.devRef .tc main_v20) = aAdt A := by
  have k0 (b : Ref sig .tc) (h : b ∉ hostOps0_W) := after_of_writes_sub hostOps0 V hostOps0_writes h
  have k1 (b : Ref sig .tc) (h : b ∉ hostOps0_1_W) := after_of_writes_sub hostOps0_1 (after hostOps0 V) hostOps0_1_writes h
  have k2 (b : Ref sig .tc) (h : b ∉ hostOps0_2_W) := after_of_writes_sub hostOps0_2 (after hostOps0_1 (after hostOps0 V)) hostOps0_2_writes h
  have v0 := (k1 main_v0 (by decide)).trans (s0_v0 A V g.a0)
  have v1 := (k1 main_v1 (by decide)).trans (s0_v1 A V g.a0)
  have v2 := (k1 main_v2 (by decide)).trans (s0_v2 A V g.a0)
  have v6 := s1_v6 A (after hostOps0 V) (s0_v5 A V g.a1 g.a2)
  have a3 := (k1 main_arg3 (by decide)).trans ((k0 main_arg3 (by decide)).trans g.a3)
  exact ⟨⟨s2_v10 A _ v0, s2_v11 A _ v1, s2_v12 A _ v2, s2_v14 A _ v6, s2_v16 A _ v0 v6,
    (k2 main_arg4 (by decide)).trans ((k1 main_arg4 (by decide)).trans ((k0 main_arg4 (by decide)).trans g.a4)),
    (k2 main_arg5 (by decide)).trans ((k1 main_arg5 (by decide)).trans ((k0 main_arg5 (by decide)).trans g.a5))⟩, s2_v20 A _ v6 a3⟩

theorem at7 (k : Kept A V) (h20 : V (Proc.devRef .tc main_v20) = aAdt A) :
    Kept A (after hostOps0_7 (after hostOps0_6 (after hostOps0_5 (after hostOps0_4 (after hostOps0_3 V)))))
    ∧ after hostOps0_7 (after hostOps0_6 (after hostOps0_5 (after hostOps0_4 (after hostOps0_3 V)))) (Proc.devRef .tc main_v21) = aCs A
    ∧ after hostOps0_7 (after hostOps0_6 (after hostOps0_5 (after hostOps0_4 (after hostOps0_3 V)))) (Proc.devRef .tc main_v29) = aMask A := by
  have k3 (b : Ref sig .tc) (h : b ∉ hostOps0_3_W) := after_of_writes_sub hostOps0_3 V hostOps0_3_writes h
  have h21 := s3_v21 A V h20
  generalize after hostOps0_3 V = V3 at *
  have k4 (b : Ref sig .tc) (h : b ∉ hostOps0_4_W) := after_of_writes_sub hostOps0_4 V3 hostOps0_4_writes h
  have h26 := s4_v26 A V3 h21
  have h27 := s4_v27 V3
  generalize after hostOps0_4 V3 = V4 at *
  have k5 (b : Ref sig .tc) (h : b ∉ hostOps0_5_W) := after_of_writes_sub hostOps0_5 V4 hostOps0_5_writes h
  have h28 := s5_v28 V4 h27
  generalize after hostOps0_5 V4 = V5 at *
  have k6 (b : Ref sig .tc) (h : b ∉ hostOps0_6_W) := after_of_writes_sub hostOps0_6 V5 hostOps0_6_writes h
  have hc := s6_cst V5
  generalize after hostOps0_6 V5 = V6 at *
  have k7 (b : Ref sig .tc) (h : b ∉ hostOps0_7_W) := after_of_writes_sub hostOps0_7 V6 hostOps0_7_writes h
  refine ⟨k.of fun b hb => ?_, ?_, s7_v29 A V6 ((k6 _ (by decide)).trans h28) ((k6 _ (by decide)).trans ((k5 _ (by decide)).trans h26)) hc⟩
  · have d : ∀ b ∈ keptRefs, b ∉ hostOps0_3_W ∧ b ∉ hostOps0_4_W ∧ b ∉ hostOps0_5_W ∧ b ∉ hostOps0_6_W ∧ b ∉ hostOps0_7_W := by decide
    obtain ⟨d3, d4, d5, d6, d7⟩ := d b hb
    exact (k7 b d7).trans ((k6 b d6).trans ((k5 b d5).trans ((k4 b d4).trans (k3 b d3))))
  · exact (k7 _ (by decide)).trans ((k6 _ (by decide)).trans ((k5 _ (by decide)).trans ((k4 _ (by decide)).trans h21)))

theorem ctr0 : after hostOps0_8 V (Proc.devRef .tc main_v69_2) = fun _ : S_.Idx => Scf.iv 0#32 1#32 0 := by
  after_results
  funext i
  exact (by decide : (0#32 : BitVec 32) = Scf.iv 0#32 1#32 0)

/-- What the loop starts from. -/
theorem at8 (k : Kept A V) (h21 : V (Proc.devRef .tc main_v21) = aCs A) (h29 : V (Proc.devRef .tc main_v29) = aMask A) :
    After A (after hostOps0_8 V) ∧ Carried A (after hostOps0_8 V) 0 ∧ after hostOps0_8 V (Proc.devRef .tc main_v62) = aDD A := by
  have k8 (b : Ref sig .tc) (h : b ∉ hostOps0_8_W) := after_of_writes_sub hostOps0_8 V hostOps0_8_writes h
  refine ⟨⟨(k8 _ (by decide)).trans k.v11, (k8 _ (by decide)).trans k.v12, (k8 _ (by decide)).trans k.v14, (k8 _ (by decide)).trans k.v16,
    s8_v30 A V h29, s8_v35 A V h29 k.v11 k.v12, s8_v41 A V h21, s8_v43 A V h21 k.v16, s8_v54 A V k.a5, s8_v59 A V k.a5 k.a4⟩,
    ⟨s8_v69_0 A V k.a5 h21 k.v12, s8_v69_1 A V h21, ctr0 V, ?_, ?_⟩, s8_v62 A V k.a5 k.v10⟩
  · exact s8_v69_3 V
  · refine (s8_v69_4 V).trans (funext fun x => (if_neg (Nat.not_lt_zero _)).symm)

theorem entry (g : Given A V) : After A (afterL preI V) ∧ Carried A (afterL preI V) 0 ∧ afterL preI V (Proc.devRef .tc main_v62) = aDD A := by
  obtain ⟨k2, h20⟩ := at2 A V g
  obtain ⟨k7, h21, h29⟩ := at7 A _ k2 h20
  exact at8 A _ k7 h21 h29

variable (m : (ℓ : Loc nD τ sig) → Buf (Elt Ideal) ℓ)

/-- The arguments of core `c`. -/
def args (c : Dev nD) : Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5)⟩
theorem given (c : Dev nD) : Given (args m c) (launchContents m c) := ⟨rfl, rfl, rfl, rfl, rfl, rfl⟩

/-- The first result: the gradients of the input and of the second projection, side by side. -/
def result (A : Args) : S16384x2560.Idx → EReal :=
  concatenate S16384x2560 1 [⟨S16384x2048, aDx A⟩, ⟨S16384x512, aDB A⟩] concatenates_S16384x2048_S16384x512_S16384x2560_d1

theorem s9_v95 : after hostOps0_9 V (Proc.devRef .tc main_v95) = concatenate S16384x2560 1
    [⟨S16384x2048, after hostOps0_9 V (Proc.devRef .tc main_v94)⟩, ⟨S16384x512, after hostOps0_9 V (Proc.devRef .tc main_v93)⟩]
    concatenates_S16384x2048_S16384x512_S16384x2560_d1 := by
  after_results
abbrev argRefs : List (Ref sig .tc) := [main_v62, main_arg0, main_arg1, main_arg2, main_arg3, main_arg4, main_arg5, main_arg6]
theorem keep9 (b : Ref sig .tc) (h : b ∈ argRefs) : after hostOps0_9 V (Proc.devRef .tc b) = V (Proc.devRef .tc b) := by
  fin_cases h <;> after_results

theorem final (c : Dev nD) : finalContents condOps preI bodyI postI 128 m c (Proc.devRef .tc main_v95) = result (args m c)
    ∧ finalContents condOps preI bodyI postI 128 m c (Proc.devRef .tc main_v62) = aDD (args m c) := by
  obtain ⟨hA, h0, hD⟩ := entry (args m c) _ (given m c)
  have hC := carried (args m c) m c h0 128 le_rfl
  have hs := (atK_agree m c 128 main_v69_4 (by decide)).trans hC.stack
  have hs' : atK m 128 c (Proc.devRef .tc main_v69_4) = aDS (args m c) := hs.trans (funext fun x => if_pos (by omega))
  have k (b : Ref sig .tc) (h : b ∉ tripW) := keep_loop m b h c 128
  have kc (b : Ref sig .tc) (h : b ∉ condOps_W) := after_of_writes_sub condOps (atK m 128 c) condOps_writes h
  have e (b : Ref sig .tc) (h : b ∉ tripW) (h' : b ∉ condOps_W) := (kc b h').trans (k b h)
  have hA' : After (args m c) (after condOps (atK m 128 c)) :=
    ⟨(e _ (by decide) (by decide)).trans hA.v11, (e _ (by decide) (by decide)).trans hA.v12, (e _ (by decide) (by decide)).trans hA.v14,
      (e _ (by decide) (by decide)).trans hA.v16, (e _ (by decide) (by decide)).trans hA.v30, (e _ (by decide) (by decide)).trans hA.v35,
      (e _ (by decide) (by decide)).trans hA.v41, (e _ (by decide) (by decide)).trans hA.v43, (e _ (by decide) (by decide)).trans hA.v54,
      (e _ (by decide) (by decide)).trans hA.v59⟩
  constructor
  · show after hostOps0_9 (after condOps (atK m 128 c)) (Proc.devRef .tc main_v95) = _
    have h94 := s9_v94 (args m c) _ hA' ((kc _ (by decide)).trans hs')
    have h93 := s9_v93 (args m c) _ hA' ((kc _ (by decide)).trans hs')
    rw [s9_v95, h94, h93]
    rfl
  · show after hostOps0_9 (after condOps (atK m 128 c)) (Proc.devRef .tc main_v62) = _
    exact (keep9 _ main_v62 (by decide)).trans ((e _ (by decide) (by decide)).trans hD)

/-- The arguments keep their contents. -/
theorem final_arg (c : Dev nD) (b : Ref sig .tc) (hb : b ∈ argRefs.tail) :
    finalContents condOps preI bodyI postI 128 m c (Proc.devRef .tc b) = launchContents m c (Proc.devRef .tc b) := by
  have d : ∀ b ∈ argRefs.tail, b ∉ tripW ∧ b ∉ condOps_W ∧ b ∉ hostOps0_W ∧ b ∉ hostOps0_1_W ∧ b ∉ hostOps0_2_W ∧ b ∉ hostOps0_3_W
      ∧ b ∉ hostOps0_4_W ∧ b ∉ hostOps0_5_W ∧ b ∉ hostOps0_6_W ∧ b ∉ hostOps0_7_W ∧ b ∉ hostOps0_8_W := by decide
  obtain ⟨dt, dc, d0, d1, d2, d3, d4, d5, d6, d7, d8⟩ := d b hb
  show after hostOps0_9 (after condOps (atK m 128 c)) (Proc.devRef .tc b) = _
  rw [keep9 _ b (List.mem_of_mem_tail hb), after_of_writes_sub condOps _ condOps_writes dc, keep_loop m b dt c 128]
  simp only [entryContents, afterL_cons, afterL_nil]
  rw [after_of_writes_sub hostOps0_8 _ hostOps0_8_writes d8, after_of_writes_sub hostOps0_7 _ hostOps0_7_writes d7,
    after_of_writes_sub hostOps0_6 _ hostOps0_6_writes d6, after_of_writes_sub hostOps0_5 _ hostOps0_5_writes d5,
    after_of_writes_sub hostOps0_4 _ hostOps0_4_writes d4, after_of_writes_sub hostOps0_3 _ hostOps0_3_writes d3,
    after_of_writes_sub hostOps0_2 _ hostOps0_2_writes d2, after_of_writes_sub hostOps0_1 _ hostOps0_1_writes d1,
    after_of_writes_sub hostOps0 _ hostOps0_writes d0]

/-- The reference's run: its two results, and its arguments. -/
theorem run (ρ : Dev nD → PrngReg) : θ_run (defs (F := Ideal)) (onTc (τ := τ) (main (F := Ideal))) ⟨m, fun _ => 0, ρ⟩
    (fun r => ∀ c : Dev nD, r.2.mem ((c : Thread nD τ).loc main_v95) = result (args m c) ∧ r.2.mem ((c : Thread nD τ).loc main_v62) = aDD (args m c)
      ∧ ∀ b ∈ argRefs.tail, r.2.mem ((c : Thread nD τ).loc b) = m ((c : Thread nD τ).loc b)) :=
  (θ_run defs _ _).mono (fun r h c => ⟨(h c main_v95 (by decide)).trans (final m c).1, (h c main_v62 (by decide)).trans (final m c).2,
    fun b hb => (h c b (by revert b; decide)).trans (final_arg m c b hb)⟩) (run_fold m ρ)

end Cert.SsdGradIdeal.Grad

end
-- ==== Proof.Ssd.lean ====
/- Kernel and reference compute the same gradients of the state-space recurrence's input, input projection and skip weights. -/
module

public import proofs.«01_k».proof.Defs
public import proofs.«01_k».proof.Proof.SsdKernel
public import proofs.«01_k».proof.Proof.SsdEntry

@[expose] public section

noncomputable section

open Idealize.ShloMosaic Idealize.ShloMosaic.TcCoe Idealize.SL.Sem

namespace Cert.Ssd

open Cert.SsdGradIdeal Cert.SsdGradIdeal.Grad

/-- The reference's first result holds the gradients of the input in its first 2048 columns, those of the input projection in the others. -/
theorem result_eq (A : Args) : Cert.SsdGradIdeal.Grad.result A = Cert.SsdBwdIdeal.Grad.dxb A := funext fun x => by
  unfold Cert.SsdGradIdeal.Grad.result Cert.SsdBwdIdeal.Grad.dxb
  have hx : (x 1).val < 2560 := (x 1).isLt
  by_cases h : (x 1).val < 2048
  · rw [dif_pos h]
    exact concatenate_pair_apply_left 1 (aDx A) (aDB A) _ x rfl (ix2 (x 0) ⟨(x 1).val, h⟩) fun b => by fin_cases b <;> rfl
  · rw [dif_neg h]
    exact concatenate_pair_apply_right 1 (aDx A) (aDB A) _ x rfl rfl (ix2 (x 0) ⟨(x 1).val - 2048, by omega⟩)
      (fun b hb => by fin_cases b; rfl; exact absurd rfl hb) (show (x 1).val - 2048 + 2048 = (x 1).val by omega)

/-- The reference terminates, keeps its arguments and uses no semaphore. -/
theorem frame_ref : Cert.quiescent_SsdGradIdeal := fun m ρ _ =>
  (θ_run Cert.SsdGradIdeal.defs _ _).mono (fun r h => ⟨fun c =>
      have k := (h c).2.2
      ⟨k main_arg0 (by decide), k main_arg1 (by decide), k main_arg2 (by decide), k main_arg3 (by decide), k main_arg4 (by decide),
        k main_arg5 (by decide), k main_arg6 (by decide)⟩, sem_eq_zero_of_no_sems (by decide) r.2⟩)
    (Cert.SsdGradIdeal.Grad.run m ρ)

/-- The value claim: for every saved state, since neither program's results depend on it. -/
theorem algebraic : Cert.algebraic_SsdBwdIdeal_SsdGradIdeal := fun m g m' g' _ hag =>
  ⟨fun c => Cert.SsdBwdIdeal.Grad.dxb (Cert.SsdBwdIdeal.Grad.args m c), fun c x => dD (Cert.SsdBwdIdeal.Grad.args m c) (x 0),
    Cert.SsdBwdIdeal.Grad.run m g,
    (θ_run _ _ _).mono (fun _ h c => by
      obtain ⟨a0, a1, a2, a3, a4, a5, _⟩ := hag c
      have e : Cert.SsdGradIdeal.Grad.args m' c = Cert.SsdBwdIdeal.Grad.args m c := by
        unfold Cert.SsdGradIdeal.Grad.args Cert.SsdBwdIdeal.Grad.args; rw [a0, a1, a2, a3, a4, a5]
      have k := (h c).2.2
      exact ⟨(h c).1.trans ((result_eq _).trans (congrArg Cert.SsdBwdIdeal.Grad.dxb e)), (h c).2.1.trans (congrArg aDD e),
        k main_arg0 (by decide), k main_arg1 (by decide), k main_arg2 (by decide), k main_arg3 (by decide), k main_arg4 (by decide),
        k main_arg5 (by decide), k main_arg6 (by decide)⟩)
      (Cert.SsdGradIdeal.Grad.run m' g')⟩

end Cert.Ssd

end
-- ==== Proof.ScanSpec.lean ====
/- The chunked state-space scan itself, as plain sums: what both programs of the forward pass are shown to compute. -/
module

public import proofs.«01_k».proof.Proof.SsdSpec

@[expose] public section

noncomputable section

open Idealize.ShloMosaic

namespace Cert.Ssd

variable (A : Args)

/-- The chunk that step `t` of the forward scan reads. -/
def fwd (t : ℕ) : Fin 128 := ⟨t % 128, by omega⟩

/-- What chunk `k` adds to the state, and the state before step `t` of the scan. -/
def grow (k : Fin 128) (q : Fin 2048) (n : Fin 128) : EReal := ∑ s : Fin 128, (dec A k s (headOf q) * xdt A k s q) * B A k s (groupOf q) n
def fst : ℕ → Fin 2048 → Fin 128 → EReal
  | 0, _, _ => 0
  | t + 1, q, n => cd A (fwd t) (headOf q) * fst t q n + grow A (fwd t) q n

/-- The output from the state `G` at the chunk's start: through the chunk's own rows, through the state, and past both. -/
def out (k l : Fin 128) (G : Fin 2048 → Fin 128 → EReal) (q : Fin 2048) : EReal :=
  (∑ s : Fin 128, (cb A k l s (groupOf q) * lm A k l s (headOf q)) * xdt A k s q)
    + (∑ n : Fin 128, G q n * C A k l (groupOf q) n) * ex A k l (headOf q) + X A k l q * A.d (ix1 (headOf q))

/-- The state at the start of chunk `k`, and the output. -/
def saved (k : Fin 128) : Fin 2048 → Fin 128 → EReal := fst A k.val
def y (k l : Fin 128) (q : Fin 2048) : EReal := out A k l (saved A k) q

end Cert.Ssd

end
-- ==== Proof.ScanTiles.lean ====
/- What one grid point of the gated scan's forward call stores, written once for every pair of heads: the kernel unrolls the sixteen pairs
   and cuts them at different places, and the stored tiles are the same functions of the pair's loads. -/
module

public import proofs.«01_k».proof.Proof.SsdLanes
public import proofs.«01_k».proof.Proof.Gen.ScanFwdIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ScanFwdIdeal.Grad

open Cert.ScanFwdIdeal Cert.ScanFwdIdeal.Gen
open Cert.Ssd (gr)

variable {F : FTy → Type} [FloatOps F]

/-- What a grid point reads: the blocks of its windows, and the state that the point before left. -/
structure Blk (F : FTy → Type) where
  x : Vec F S128x3072 .f32
  dt : Vec F S128x128 .f32
  bias : Vec F S1x128 .f32
  rate : Vec F S1x128 .f32
  skip : Vec F S1x2048 .f32
  hot : Vec F S128x2048 .bf16
  state : Vec F S16x128x128 .f32

theorem inb_x (o : Fin 24) : ∀ a, (![0, 128 * o.val] : Fin 2 → ℕ) a + (![128, 128] : Fin 2 → ℕ) a ≤ S128x3072.size a := by
  intro a; fin_cases a <;> simp <;> omega
theorem inb_q (p : Fin 16) : ∀ a, (![0, 128 * p.val] : Fin 2 → ℕ) a + (![128, 128] : Fin 2 → ℕ) a ≤ S128x2048.size a := by
  intro a; fin_cases a <;> simp <;> omega
theorem inb_r (p : Fin 16) : ∀ a, (![0, 128 * p.val] : Fin 2 → ℕ) a + (![1, 128] : Fin 2 → ℕ) a ≤ S1x2048.size a := by
  intro a; fin_cases a <;> simp <;> omega
theorem inb_h (h : Fin 128) : ∀ a, (![h.val, 0] : Fin 2 → ℕ) a + (![1, 128] : Fin 2 → ℕ) a ≤ S128x128.size a := by
  intro a; fin_cases a <;> simp <;> omega
theorem inb_s (p : Fin 16) : ∀ a, (![p.val, 0, 0] : Fin 3 → ℕ) a + (![1, 128, 128] : Fin 3 → ℕ) a ≤ S16x128x128.size a := by
  intro a; fin_cases a <;> simp <;> omega

theorem inb_p (p : Fin 16) : ∀ a, (![0, p.val, 0, 0] : Fin 4 → ℕ) a + (![1, 1, 128, 128] : Fin 4 → ℕ) a ≤ S1x16x128x128.size a := by
  intro a; fin_cases a <;> simp <;> omega

namespace Blk
variable (B : Blk F)

/-- The tile of 128 columns of the inputs' block. -/
abbrev xs (o : Fin 24) : Vec F S128x128 .f32 := View.ld B.x (Rect.unit ![0, 128 * o.val] ![128, 128] (inb_x o))
abbrev X (p : Fin 16) : Vec F S128x128 .f32 := B.xs ⟨p.val, by omega⟩
abbrev Bm (g : Fin 4) : Vec F S128x128 .f32 := B.xs ⟨16 + g.val, by omega⟩
abbrev Cm (g : Fin 4) : Vec F S128x128 .f32 := B.xs ⟨20 + g.val, by omega⟩
abbrev dtx : Vec F S128x2048 .f32 := k0_pay7 (k0_pay4 B.dt B.bias) B.hot
abbrev cst : Vec F S128x128 .f32 := k0_pay6 B.dt B.bias B.rate
abbrev last : Vec F S128x128 .f32 := k0_pay8 (k0_pay5 B.dt B.bias B.rate)
abbrev T (p : Fin 16) : Vec F S128x128 .f32 := View.ld B.dtx (Rect.unit ![0, 128 * p.val] ![128, 128] (inb_q p))
abbrev R (h : Fin 128) : Vec F S1x128 .f32 := View.ld B.cst (Rect.unit ![h.val, 0] ![1, 128] (inb_h h))
abbrev Q (h : Fin 128) : Vec F S1x128 .f32 := View.ld B.last (Rect.unit ![h.val, 0] ![1, 128] (inb_h h))
abbrev S (p : Fin 16) : Vec F S1x128x128 .f32 := View.ld B.state (Rect.unit ![p.val, 0, 0] ![1, 128, 128] (inb_s p))
abbrev K (p : Fin 16) : Vec F S1x128 .f32 := View.ld B.skip (Rect.unit ![0, 128 * p.val] ![1, 128] (inb_r p))

/-- The two heads of a pair. -/
abbrev lo (p : Fin 16) : Fin 128 := ⟨2 * p.val, by omega⟩
abbrev hi (p : Fin 16) : Fin 128 := ⟨2 * p.val + 1, by omega⟩

/-- The pair's new state. -/
def newState (p : Fin 16) : Vec F S1x128x128 .f32 :=
  k0_pay28 (B.Bm (gr p)) (k0_pay10 (B.S p)) (k0_pay21 (B.X p) (k0_pay12 (B.R (lo p))) (k0_pay13 (B.Q (lo p))) (k0_pay15 (B.R (hi p))) (B.Q (hi p)) (B.T p))
    (k0_pay22 (k0_pay13 (B.Q (lo p))) (B.Q (hi p)))

/-- The pair's state as it was. -/
def oldState (p : Fin 16) : Vec F S1x1x128x128 .f32 := k0_pay27 (k0_pay10 (B.S p))

/-- The pair's output. -/
def newY (p : Fin 16) : Vec F S128x128 .f32 :=
  k0_pay26 (B.X p) (k0_pay20 (B.Cm (gr p)) (k0_pay10 (B.S p)) (k0_pay12 (B.R (lo p))) (k0_pay15 (B.R (hi p))))
    (k0_pay23 (B.X p) (k0_pay9 (B.Bm (gr p)) (B.Cm (gr p))) (k0_pay11 (B.R (lo p))) (k0_pay12 (B.R (lo p))) (B.T p))
    (k0_pay24 (k0_pay9 (B.Bm (gr p)) (B.Cm (gr p))) (k0_pay14 (B.R (hi p))) (k0_pay15 (B.R (hi p)))) (k0_pay25 (B.X p) (B.T p))
    (constant S128x128 .f32 0x00000000#32) (B.K p)

/-- The stores, as pieces. -/
abbrev pS (p : Fin 16) : View.Piece (Elt F) S16x128x128 .f32 := ⟨Rect.unit ![p.val, 0, 0] ![1, 128, 128] (inb_s p), B.newState p⟩
abbrev pO (p : Fin 16) : View.Piece (Elt F) S1x16x128x128 .f32 := ⟨Rect.unit ![0, p.val, 0, 0] ![1, 1, 128, 128] (inb_p p), B.oldState p⟩
abbrev pY (p : Fin 16) : View.Piece (Elt F) S128x2048 .f32 := ⟨Rect.unit ![0, 128 * p.val] ![128, 128] (inb_q p), B.newY p⟩

abbrev pairs : List (Fin 16) := [15, 14, 13, 12, 11, 10, 9, 8, 7, 6, 5, 4, 3, 2, 1, 0]
/-- The fill of the state at the first point. -/
abbrev fillS : View.Piece (Elt F) S16x128x128 .f32 := ⟨Rect.unit ![0, 0, 0] ![16, 128, 128] (by intro a; fin_cases a <;> simp), k0_pay3⟩

end Blk

variable (m : (ℓ : Loc nD τ sig) → Buf (Elt F) ℓ)

/-- What point `t` reads, over the carried state. -/
abbrev blk (c : Dev nD) (t : Fin cfg0.N) (s : Vec F S16x128x128 .f32) : Blk F :=
  ⟨iblk m c 0 t, iblk m c 1 t, iblk m c 2 t, iblk m c 3 t, iblk m c 4 t, iblk m c 5 t, s⟩

/-- The point before. -/
theorem pre_lt (t : Fin cfg0.N) : t.val - 1 < cfg0.N := lt_of_le_of_lt (Nat.sub_le _ _) t.isLt
abbrev blkOf (c : Dev nD) (t : Fin cfg0.N) : Blk F := blk m c t (outsAt0 m c (t.val - 1) (pre_lt t)).2.2

end Cert.ScanFwdIdeal.Grad

end
-- ==== Proof.ScanVal.lean ====
/- The tiles of `ScanTiles` as the sums of `ScanSpec`, where the blocks that a grid point reads are the rows of one chunk. -/
module

public import proofs.«01_k».proof.Proof.ScanSpec
public import proofs.«01_k».proof.Proof.ScanTiles
public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.ScanFwdIdeal.Grad

open Cert.ScanFwdIdeal Cert.ScanFwdIdeal.Gen Cert.Ssd

/-- The step of a lane: the softplus below lane 32, zero from there on. -/
theorem step_at (x : Vec Ideal S128x128 .f32) (b : Vec Ideal S1x128 .f32) (l h : Fin 128) :
    k0_pay4 x b (ix2 l h) = if h.val < 32 then softplus (x (ix2 l h) + b (ix2 0 h)) else 0 := by
  pointwise [k0_pay4]
  rw [sel_32, select_ite, zero_sub]
  rfl

/-- The blocks hold the rows of chunk `k`, and the state is `G`. -/
structure Fits (A : Args) (k : Fin 128) (G : Fin 2048 → Fin 128 → EReal) (B : Blk Ideal) : Prop where
  x : ∀ (l : Fin 128) (q : Fin 3072), B.x (ix2 l q) = A.xbc (ix2 (row k l) q)
  dt : ∀ (l : Fin 128) (h : Fin 32), B.dt (ix2 l ⟨h.val, by omega⟩) = A.dtRaw (ix2 (row k l) h)
  bias : ∀ h : Fin 32, B.bias (ix2 0 ⟨h.val, by omega⟩) = A.dtBias (ix1 h)
  rate : ∀ h : Fin 32, B.rate (ix2 0 ⟨h.val, by omega⟩) = -(Ideal.exp (A.aLog (ix1 h)))
  skip : ∀ q : Fin 2048, B.skip (ix2 0 q) = A.d (ix1 (headOf q))
  hot : ∀ (h : Fin 128) (q : Fin 2048), B.hot (ix2 h q) = if h.val = q.val / 64 then 1 else 0
  state : ∀ (p : Fin 16) (j n : Fin 128), B.state (ix3 p j n) = G (ch p j) n

namespace Fits
variable {A : Args} {k : Fin 128} {G : Fin 2048 → Fin 128 → EReal} {B : Blk Ideal} (H : Fits A k G B)
include H

theorem dt_at (l : Fin 128) (h : Fin 32) : k0_pay4 B.dt B.bias (ix2 l ⟨h.val, by omega⟩) = Ssd.dt A k l h := by
  rw [step_at, if_pos h.isLt, H.dt, H.bias]; rfl
theorem adt_at (l : Fin 128) (h : Fin 32) : k0_pay5 B.dt B.bias B.rate (ix2 l ⟨h.val, by omega⟩) = adt A k l h := by
  pointwise [k0_pay5]
  rw [H.dt_at, H.rate]; rfl
theorem cst_at (l : Fin 128) (h : Fin 32) : B.cst (ix2 ⟨h.val, by omega⟩ l) = cs A k l h := by
  show k0_pay6 B.dt B.bias B.rate _ = _
  pointwise [k0_pay6]
  refine Finset.sum_congr rfl fun s _ => ?_
  rw [sel_ge, select_ite, H.adt_at]
theorem last_at (l : Fin 128) (h : Fin 32) : B.last (ix2 ⟨h.val, by omega⟩ l) = cs A k 127 h := by
  show k0_pay8 (k0_pay5 B.dt B.bias B.rate) _ = _
  pointwise [k0_pay8]
  refine Finset.sum_congr rfl fun s _ => ?_
  rw [H.adt_at, if_pos (show s ≤ 127 from Fin.le_last s)]
theorem dtx_at (l : Fin 128) (q : Fin 2048) : B.dtx (ix2 l q) = Ssd.dt A k l (headOf q) := by
  show k0_pay7 (k0_pay4 B.dt B.bias) B.hot _ = _
  pointwise [k0_pay7]
  rw [Finset.sum_eq_single (⟨(headOf q).val, by omega⟩ : Fin 128)]
  · rw [H.dt_at, H.hot, if_pos (show (headOf q).val = q.val / 64 from rfl), mul_one]
  · intro h _ hne
    rw [H.hot, if_neg (fun e : h.val = q.val / 64 => hne (Fin.ext e)), mul_zero]
  · intro h; exact absurd (Finset.mem_univ _) h

theorem X_at (p : Fin 16) (l j : Fin 128) : B.X p (ix2 l j) = Ssd.X A k l (ch p j) :=
  (Blocks.ld_cols _ _ l j l ⟨128 * p.val + j.val, by omega⟩ rfl rfl).trans (H.x l _)
theorem Bm_at (g : Fin 4) (l n : Fin 128) : B.Bm g (ix2 l n) = Ssd.B A k l g n :=
  (Blocks.ld_cols _ _ l n l ⟨2048 + (g.val * 128 + n.val), by omega⟩ rfl (by simp only; omega)).trans (H.x l _)
theorem Cm_at (g : Fin 4) (l n : Fin 128) : B.Cm g (ix2 l n) = Ssd.C A k l g n :=
  (Blocks.ld_cols _ _ l n l ⟨2560 + (g.val * 128 + n.val), by omega⟩ rfl (by simp only; omega)).trans (H.x l _)
theorem T_at (p : Fin 16) (l j : Fin 128) : B.T p (ix2 l j) = Ssd.dt A k l (headOf (ch p j)) :=
  (Blocks.ld_cols _ _ l j l (ch p j) rfl rfl).trans (H.dtx_at l _)
theorem K_at (p : Fin 16) (j : Fin 128) : B.K p (ix2 0 j) = A.d (ix1 (headOf (ch p j))) :=
  (Blocks.ld_cols _ _ 0 j 0 (ch p j) rfl rfl).trans (H.skip _)
theorem S_at (p : Fin 16) (j n : Fin 128) : B.S p (ix3 0 j n) = G (ch p j) n :=
  (Blocks.ld_eq _ _ _ (ix3 p j n) (funext fun a => Fin.ext (by fin_cases a <;> simp [Rect.emb_apply]))).trans (H.state p j n)
theorem R_lo (p : Fin 16) (l : Fin 128) : B.R (Blk.lo p) (ix2 0 l) = cs A k l (h0 p) :=
  (Blocks.ld_eq _ _ _ (ix2 (Blk.lo p) l) (Blocks.idx2_ext (by simp [Rect.emb_apply]) (by simp [Rect.emb_apply]))).trans (H.cst_at l (h0 p))
theorem R_hi (p : Fin 16) (l : Fin 128) : B.R (Blk.hi p) (ix2 0 l) = cs A k l (h1 p) :=
  (Blocks.ld_eq _ _ _ (ix2 (Blk.hi p) l) (Blocks.idx2_ext (by simp [Rect.emb_apply]) (by simp [Rect.emb_apply]))).trans (H.cst_at l (h1 p))
theorem Q_lo (p : Fin 16) (l : Fin 128) : B.Q (Blk.lo p) (ix2 0 l) = cs A k 127 (h0 p) :=
  (Blocks.ld_eq _ _ _ (ix2 (Blk.lo p) l) (Blocks.idx2_ext (by simp [Rect.emb_apply]) (by simp [Rect.emb_apply]))).trans (H.last_at l (h0 p))
theorem Q_hi (p : Fin 16) (l : Fin 128) : B.Q (Blk.hi p) (ix2 0 l) = cs A k 127 (h1 p) :=
  (Blocks.ld_eq _ _ _ (ix2 (Blk.hi p) l) (Blocks.idx2_ext (by simp [Rect.emb_apply]) (by simp [Rect.emb_apply]))).trans (H.last_at l (h1 p))

theorem newState_at (p : Fin 16) (j n : Fin 128) :
    B.newState p (ix3 0 j n) = cd A k (headOf (ch p j)) * G (ch p j) n + grow A k (ch p j) n := by
  unfold Blk.newState
  pointwise [k0_pay28, k0_pay10, k0_pay21, k0_pay12, k0_pay13, k0_pay15, k0_pay11, k0_pay14, k0_pay16, k0_pay18, k0_pay19, k0_pay22]
  simp only [sel_64, select_ite, H.X_at, H.Bm_at, H.T_at, H.R_lo, H.R_hi, H.Q_lo, H.Q_hi, H.S_at]
  rw [pick p j fun h => Ideal.exp (cs A k 127 h)]
  refine congrArg₂ (· + ·) rfl (Finset.sum_congr rfl fun s _ => ?_)
  rw [pick p j fun h => Ideal.exp (cs A k 127 h - cs A k s h), groupOf_ch, mul_comm (Ssd.X A k s _ * _)]
  rfl

theorem oldState_at (p : Fin 16) (j n : Fin 128) : B.oldState p (ix4 0 0 j n) = G (ch p j) n := by
  unfold Blk.oldState
  pointwise [k0_pay27, k0_pay10]
  exact H.S_at p j n

theorem newY_at (p : Fin 16) (l j : Fin 128) : B.newY p (ix2 l j) = out A k l G (ch p j) := by
  unfold Blk.newY
  pointwise [k0_pay26, k0_pay20, k0_pay10, k0_pay12, k0_pay15, k0_pay23, k0_pay9, k0_pay11, k0_pay24, k0_pay14, k0_pay25, k0_pay17, k0_pay18, k0_pay19]
  simp only [sel_64, sel_ge, select_ite, H.X_at, H.Bm_at, H.Cm_at, H.T_at, H.R_lo, H.R_hi, H.S_at, H.K_at]
  rw [pick p j fun h => Ideal.exp (cs A k l h), out, mul_comm (A.d _)]
  have e : ((∑ s : Fin 128, if j.val < 64 then (if s ≤ l then (∑ n : Fin 128, Ssd.C A k l (gr p) n * Ssd.B A k s (gr p) n) * Ideal.exp (cs A k l (h0 p) - cs A k s (h0 p)) * (Ssd.X A k s (ch p j) * Ssd.dt A k s (headOf (ch p j))) else 0) else 0)
      + ∑ s : Fin 128, if j.val < 64 then 0 else (if s ≤ l then (∑ n : Fin 128, Ssd.C A k l (gr p) n * Ssd.B A k s (gr p) n) * Ideal.exp (cs A k l (h1 p) - cs A k s (h1 p)) * (Ssd.X A k s (ch p j) * Ssd.dt A k s (headOf (ch p j))) else 0))
      = ∑ s : Fin 128, (cb A k l s (groupOf (ch p j)) * lm A k l s (headOf (ch p j))) * xdt A k s (ch p j) := by
    rw [← Finset.sum_add_distrib]
    refine Finset.sum_congr rfl fun s _ => ?_
    rw [groupOf_ch, lm]
    by_cases hj : j.val < 64
    · rw [if_pos hj, if_pos hj, add_zero, headOf_lo p j hj]
      by_cases hl : s ≤ l
      · rw [if_pos hl, if_pos hl, xdt, headOf_lo p j hj]; rfl
      · rw [if_neg hl, if_neg hl, mul_zero, zero_mul]
    · rw [if_neg hj, if_neg hj, zero_add, headOf_hi p j hj]
      by_cases hl : s ≤ l
      · rw [if_pos hl, if_pos hl, xdt, headOf_hi p j hj]; rfl
      · rw [if_neg hl, if_neg hl, mul_zero, zero_mul]
  rw [e, groupOf_ch]
  refine congrArg₂ (· + ·) (congrArg₂ (· + ·) rfl (congrArg₂ (· * ·) (Finset.sum_congr rfl fun n _ => mul_comm _ _) rfl)) rfl

end Fits

end Cert.ScanFwdIdeal.Grad

end
-- ==== Proof.ScanHost.lean ====
/- What the host hands the gated scan's forward call, and what a grid point therefore reads. -/
module

public import proofs.«01_k».proof.Proof.ScanVal
public import Idealize.ShloMosaic.Lib.Routing.OpsOne

@[expose] public section
set_option maxRecDepth 16384
noncomputable section
open Idealize.ShloMosaic Idealize.ShloMosaic.TcCoe Idealize.SL.Sem
open Idealize.ShloMosaic.Pipeline (Dat)
namespace Cert.ScanFwdIdeal.Grad
open Cert.ScanFwdIdeal Cert.ScanFwdIdeal.Gen Cert.Ssd
variable (m : (ℓ : Loc nD τ sig) → Buf (Elt Ideal) ℓ)

/-- The arguments, as the kernel's memory holds them at launch; the scan has no cotangent. -/
abbrev args (c : Dev nD) : Args :=
  ⟨m ((c : Thread nD τ).loc main_arg0), m ((c : Thread nD τ).loc main_arg1), m ((c : Thread nD τ).loc main_arg2), m ((c : Thread nD τ).loc main_arg3),
    m ((c : Thread nD τ).loc main_arg4), fun _ => 0⟩

/-- Which block each window takes at each point: the chunks from the first to the last. -/
theorem idx_val : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![t.val, 0] ∧ win0_7.index t = ![t.val, 0, 0, 0] :=
  (by decide +kernel : ∀ t : Fin grid0.N, _)

/-- A row of 32 numbers written into the first lanes of a row of 128. -/
theorem row_set (Z : IVec S2 32) (hZ : ∀ x, Z x = 0#32) (x0 : S1x128.Idx → EReal) (u : S32.Idx → EReal) (h : Fin 32) :
    Host.scatter scatter_S1x128_S2_S32_0_0_01_0 (fun _ b => b) x0 Z u (ix2 0 ⟨h.val, by omega⟩) = u (ix1 h) := by
  have hw0 : ∀ k : Fin 32, scatter_S1x128_S2_S32_0_0_01_0.window (ix1 k) 0 = 0 := fun k => by
    unfold ScatterDims.window
    rw [dif_neg (by decide)]
  have hw1 : ∀ k : Fin 32, scatter_S1x128_S2_S32_0_0_01_0.window (ix1 k) 1 = k.val := fun k => by
    unfold ScatterDims.window
    rw [dif_pos (by decide)]
    exact congrArg (fun t => ((ix1 k : S32.Idx) t).val) (Subsingleton.elim (α := Fin 1) _ 0)
  have hs : ∀ (k : Fin 32) (q : Fin 2), scatter_S1x128_S2_S32_0_0_01_0.start (ix1 k) Z q = 0 := fun k q =>
    (Routing.start_pair (R := 1) (C := 128) scatter_S1x128_S2_S32_0_0_01_0 rfl rfl Z (ix1 k) q).trans (by rw [hZ]; rfl)
  have lands : ∀ (k : Fin 32), scatter_S1x128_S2_S32_0_0_01_0.resultIdx? (ix1 k) Z = some (ix2 0 ⟨h.val, by omega⟩) ↔ k = h := fun k => by
    refine (Routing.resultIdx?_ix2 (R := 1) (C := 128) scatter_S1x128_S2_S32_0_0_01_0 (ix1 k) Z 0 ⟨h.val, by omega⟩).trans ?_
    rw [hs, hs, hw0, hw1, Fin.ext_iff]
    simp
  refine Routing.scatter_set_hit _ x0 Z u _ _ (fun k hk => ?_) (ix1 h) ((lands h).2 rfl)
  idx_vars k
  rw [(lands _).1 hk]

/-- The two index words are zero. -/
theorem words_zero (x : S2.Idx) : concatenate S2 0 [⟨S1, broadcastInDim S1 ![] bcast_S_S1 (constantI S_ 32 0#32)⟩, ⟨S1, broadcastInDim S1 ![] bcast_S_S1 (constantI S_ 32 0#32)⟩] concatenates_S1_S1_S2_d0 x = 0#32 := by
  idx_vars x
  fin_cases x0 <;> pointwise []

/-- What the host hands the region: the bias, the rates, the skip weights, the raw steps and the heads' channels. -/
theorem V_bias (c : Dev nD) (h : Fin 32) : V m c main_v22 (ix2 0 ⟨h.val, by omega⟩) = (args m c).dtBias (ix1 h) := by
  show StableHlo.after (List.flatten [hostOps0, hostOps0_1, hostOps0_2, hostOps0_3]) (fun b => m (c, b)) (Proc.devRef .tc main_v22) _ = _
  simp only [List.flatten_cons, List.flatten_nil, List.append_nil, List.cons_append, List.nil_append]
  after_results
  exact row_set _ words_zero _ _ h
theorem V_rate (c : Dev nD) (h : Fin 32) : V m c main_v17 (ix2 0 ⟨h.val, by omega⟩) = -(Ideal.exp ((args m c).aLog (ix1 h))) := by
  show StableHlo.after (List.flatten [hostOps0, hostOps0_1, hostOps0_2, hostOps0_3]) (fun b => m (c, b)) (Proc.devRef .tc main_v17) _ = _
  simp only [List.flatten_cons, List.flatten_nil, List.append_nil, List.cons_append, List.nil_append]
  after_results
  refine (row_set _ words_zero _ _ h).trans ?_
  pointwise []
theorem V_skip (c : Dev nD) (q : Fin 2048) : V m c main_v25 (ix2 0 q) = (args m c).d (ix1 (headOf q)) := by
  show StableHlo.after (List.flatten [hostOps0, hostOps0_1, hostOps0_2, hostOps0_3]) (fun b => m (c, b)) (Proc.devRef .tc main_v25) _ = _
  simp only [List.flatten_cons, List.flatten_nil, List.append_nil, List.cons_append, List.nil_append]
  after_results
  pointwise []
  rfl
theorem V_dt (c : Dev nD) (r : Fin 16384) (h : Fin 32) : V m c main_v26 (ix2 r ⟨h.val, by omega⟩) = (args m c).dtRaw (ix2 r h) := by
  show StableHlo.after (List.flatten [hostOps0, hostOps0_1, hostOps0_2, hostOps0_3]) (fun b => m (c, b)) (Proc.devRef .tc main_v26) _ = _
  simp only [List.flatten_cons, List.flatten_nil, List.append_nil, List.cons_append, List.nil_append]
  after_results
  simp only [StableHlo.TRef.toBuf, StableHlo.TRef.ofBuf, cast_eq]
  pointwise []
theorem V_seg (c : Dev nD) (q : Fin 2048) (h : Fin 128) : V m c main_v10 (ix2 q h) = (if h.val = q.val / 64 then 1 else 0 : EReal) := by
  show StableHlo.after (List.flatten [hostOps0, hostOps0_1, hostOps0_2, hostOps0_3]) (fun b => m (c, b)) (Proc.devRef .tc main_v10) _ = _
  simp only [List.flatten_cons, List.flatten_nil, List.append_nil, List.cons_append, List.nil_append]
  after_results
  simp only [StableHlo.TRef.toBuf, StableHlo.TRef.ofBuf, cast_eq]
  pointwise []
  exact (congrArg (fun w => FloatOps.uitofp FTy.f32 (IntOp.cmpi CmpIPredicate.eq w (BitVec.ofNat 32 h.val))) (head_word q)).trans (hot_word q h)
theorem V_hot (c : Dev nD) (h : Fin 128) (q : Fin 2048) : V m c main_v12 (ix2 h q) = V m c main_v10 (ix2 q h) := by
  show StableHlo.after (List.flatten [hostOps0, hostOps0_1, hostOps0_2, hostOps0_3]) (fun b => m (c, b)) (Proc.devRef .tc main_v12) _
    = StableHlo.after (List.flatten [hostOps0, hostOps0_1, hostOps0_2, hostOps0_3]) (fun b => m (c, b)) (Proc.devRef .tc main_v10) _
  simp only [List.flatten_cons, List.flatten_nil, List.append_nil, List.cons_append, List.nil_append]
  after_results
  pointwise []

theorem t_lt (t : Fin cfg0.N) : t.val < 128 := lt_of_lt_of_eq t.isLt N_0

theorem fwd_self (t : Fin cfg0.N) : fwd t.val = ⟨t.val, t_lt t⟩ := Fin.ext (Nat.mod_eq_of_lt (t_lt t))

/-- A block of each host-made array, at an index: the chunk's rows, or the whole array. -/
theorem read_dt (v : S16384x128.Idx → Elt Ideal .f32) (t : Fin cfg0.N) (i j : Fin 128) :
    ((cfg0.win 1).blk t).view.read (Elt Ideal) v (ix2 i j) = v (ix2 (row (fwd t.val) i) j) :=
  (fwd_self t).symm ▸ congrArg v (Blocks.idx2_ext (by blk_point [idx_val t, row]) (by blk_point [idx_val t]))
theorem read_x (v : S16384x3072.Idx → Elt Ideal .f32) (t : Fin cfg0.N) (i : Fin 128) (j : Fin 3072) :
    ((cfg0.win 0).blk t).view.read (Elt Ideal) v (ix2 i j) = v (ix2 (row (fwd t.val) i) j) :=
  (fwd_self t).symm ▸ congrArg v (Blocks.idx2_ext (by blk_point [idx_val t, row]) (by blk_point [idx_val t]))
theorem read_bias (v : S1x128.Idx → Elt Ideal .f32) (t : Fin cfg0.N) (j : Fin 128) : ((cfg0.win 2).blk t).view.read (Elt Ideal) v (ix2 0 j) = v (ix2 0 j) :=
  congrArg v (Blocks.idx2_ext (by blk_point [idx_val t]) (by blk_point [idx_val t]))
theorem read_rate (v : S1x128.Idx → Elt Ideal .f32) (t : Fin cfg0.N) (j : Fin 128) : ((cfg0.win 3).blk t).view.read (Elt Ideal) v (ix2 0 j) = v (ix2 0 j) :=
  congrArg v (Blocks.idx2_ext (by blk_point [idx_val t]) (by blk_point [idx_val t]))
theorem read_skip (v : S1x2048.Idx → Elt Ideal .f32) (t : Fin cfg0.N) (j : Fin 2048) : ((cfg0.win 4).blk t).view.read (Elt Ideal) v (ix2 0 j) = v (ix2 0 j) :=
  congrArg v (Blocks.idx2_ext (by blk_point [idx_val t]) (by blk_point [idx_val t]))
theorem read_hot (v : S128x2048.Idx → Elt Ideal .bf16) (t : Fin cfg0.N) (i : Fin 128) (j : Fin 2048) : ((cfg0.win 5).blk t).view.read (Elt Ideal) v (ix2 i j) = v (ix2 i j) :=
  congrArg v (Blocks.idx2_ext (by blk_point [idx_val t]) (by blk_point [idx_val t]))

theorem x_at (c : Dev nD) (t : Fin cfg0.N) (l : Fin 128) (q : Fin 3072) : iblk m c 0 t (ix2 l q) = (args m c).xbc (ix2 (row (fwd t.val) l) q) := by
  unfold iblk
  exact (read_x (V m c main_arg0) t l q).trans (congrFun (V_main_arg0 m c) _)
theorem dt_at (c : Dev nD) (t : Fin cfg0.N) (l : Fin 128) (h : Fin 32) : iblk m c 1 t (ix2 l ⟨h.val, by omega⟩) = (args m c).dtRaw (ix2 (row (fwd t.val) l) h) := by
  unfold iblk
  exact (read_dt (V m c main_v26) t l ⟨h.val, by omega⟩).trans (V_dt m c (row (fwd t.val) l) h)
theorem bias_at (c : Dev nD) (t : Fin cfg0.N) (h : Fin 32) : iblk m c 2 t (ix2 0 ⟨h.val, by omega⟩) = (args m c).dtBias (ix1 h) := by
  unfold iblk
  exact (read_bias (V m c main_v22) t ⟨h.val, by omega⟩).trans (V_bias m c h)
theorem rate_at (c : Dev nD) (t : Fin cfg0.N) (h : Fin 32) : iblk m c 3 t (ix2 0 ⟨h.val, by omega⟩) = -(Ideal.exp ((args m c).aLog (ix1 h))) := by
  unfold iblk
  exact (read_rate (V m c main_v17) t ⟨h.val, by omega⟩).trans (V_rate m c h)
theorem skip_at (c : Dev nD) (t : Fin cfg0.N) (q : Fin 2048) : iblk m c 4 t (ix2 0 q) = (args m c).d (ix1 (headOf q)) := by
  unfold iblk
  exact (read_skip (V m c main_v25) t q).trans (V_skip m c q)
theorem hot_at (c : Dev nD) (t : Fin cfg0.N) (h : Fin 128) (q : Fin 2048) : iblk m c 5 t (ix2 h q) = (if h.val = q.val / 64 then 1 else 0 : EReal) := by
  unfold iblk
  exact (read_hot (V m c main_v12) t h q).trans ((V_hot m c h q).trans (V_seg m c q h))

set_option maxHeartbeats 2000000 in
/-- A point's blocks hold the rows of its chunk. -/
theorem fits (c : Dev nD) (t : Fin cfg0.N) (s : Vec Ideal S16x128x128 .f32) (G : Fin 2048 → Fin 128 → EReal)
    (hs : ∀ (p : Fin 16) (j n : Fin 128), s (ix3 p j n) = G (ch p j) n) : Fits (args m c) (fwd t.val) G (blk m c t s) where
  x := x_at m c t
  dt := dt_at m c t
  bias := bias_at m c t
  rate := rate_at m c t
  skip := skip_at m c t
  hot := hot_at m c t
  state := hs

end Cert.ScanFwdIdeal.Grad

end
-- ==== Proof.ScanPoint.lean ====
/- The generated run's stores at each kind of grid point, as the pieces of `ScanTiles`. -/
module

public import proofs.«01_k».proof.Proof.ScanTiles

@[expose] public section

set_option maxRecDepth 16384

noncomputable section

open Idealize.ShloMosaic Idealize.ShloMosaic.TcCoe Idealize.SL.Sem
open Idealize.ShloMosaic.Pipeline (Dat)

namespace Cert.ScanFwdIdeal.Grad

open Cert.ScanFwdIdeal Cert.ScanFwdIdeal.Gen

variable {F : FTy → Type} [FloatOps F]
variable (m : (ℓ : Loc nD τ sig) → Buf (Elt F) ℓ)

set_option maxHeartbeats 2000000 in
/-- What the first point leaves of the state. -/
theorem state_A (c : Dev nD) (t : Fin cfg0.N) (h0 : t.val % 128 = 0) :
    (outsAt0 m c t.val t.isLt).2.2 = View.canon (Blk.pairs.map (blk m c t k0_pay3).pS ++ [Blk.fillS]) := by
  rw [outsAt0_A m c t h0]
  frame_open
  dsimp only
  try simp (disch := decide) only [↓ View.readCov_skip, ↓ View.readCov_cons_toLoadRect, ↓ View.readCov_fill]
  frame_out
  sl_kernel_rfl

set_option maxHeartbeats 2000000 in
/-- What a later point leaves of the state. -/
theorem state_B (c : Dev nD) (t : Fin cfg0.N) (h0 : ¬ t.val % 128 = 0) :
    (outsAt0 m c t.val t.isLt).2.2 = View.canon (Blk.pairs.map (blkOf m c t).pS) := by
  rw [outsAt0_B m c t h0]
  frame_open
  dsimp only
  try simp (disch := decide) only [↓ View.readCov_skip, ↓ View.readCov_cons_toLoadRect, ↓ View.readCov_fill]
  frame_out
  simp only [read_unread_whole]
  sl_kernel_rfl

set_option maxHeartbeats 2000000 in
/-- What the first point leaves of the states before each chunk. -/
theorem old_A (c : Dev nD) (t : Fin cfg0.N) (h0 : t.val % 128 = 0) :
    (outsAt0 m c t.val t.isLt).2.1 = View.canon (Blk.pairs.map (blk m c t k0_pay3).pO) := by
  rw [outsAt0_A m c t h0]
  frame_open
  dsimp only
  try simp (disch := decide) only [↓ View.readCov_skip, ↓ View.readCov_cons_toLoadRect, ↓ View.readCov_fill]
  frame_out
  sl_kernel_rfl

set_option maxHeartbeats 2000000 in
/-- What a later point leaves of the states before each chunk. -/
theorem old_B (c : Dev nD) (t : Fin cfg0.N) (h0 : ¬ t.val % 128 = 0) :
    (outsAt0 m c t.val t.isLt).2.1 = View.canon (Blk.pairs.map (blkOf m c t).pO) := by
  rw [outsAt0_B m c t h0]
  frame_open
  dsimp only
  try simp (disch := decide) only [↓ View.readCov_skip, ↓ View.readCov_cons_toLoadRect, ↓ View.readCov_fill]
  frame_out
  simp only [read_unread_whole]
  sl_kernel_rfl

set_option maxHeartbeats 2000000 in
/-- What the first point leaves of the output. -/
theorem out_A (c : Dev nD) (t : Fin cfg0.N) (h0 : t.val % 128 = 0) :
    (outsAt0 m c t.val t.isLt).1 = View.canon (Blk.pairs.map (blk m c t k0_pay3).pY) := by
  rw [outsAt0_A m c t h0]
  frame_open
  dsimp only
  try simp (disch := decide) only [↓ View.readCov_skip, ↓ View.readCov_cons_toLoadRect, ↓ View.readCov_fill]
  frame_out
  sl_kernel_rfl

set_option maxHeartbeats 2000000 in
/-- What a later point leaves of the output. -/
theorem out_B (c : Dev nD) (t : Fin cfg0.N) (h0 : ¬ t.val % 128 = 0) :
    (outsAt0 m c t.val t.isLt).1 = View.canon (Blk.pairs.map (blkOf m c t).pY) := by
  rw [outsAt0_B m c t h0]
  frame_open
  dsimp only
  try simp (disch := decide) only [↓ View.readCov_skip, ↓ View.readCov_cons_toLoadRect, ↓ View.readCov_fill]
  frame_out
  simp only [read_unread_whole]
  sl_kernel_rfl

end Cert.ScanFwdIdeal.Grad

end
-- ==== Proof.ScanSteps.lean ====
/- What the forward scan leaves after each grid point: the state, and a chunk's states and outputs. -/
module

public import proofs.«01_k».proof.Proof.ScanHost
public import proofs.«01_k».proof.Proof.ScanPoint

@[expose] public section

set_option maxRecDepth 16384

noncomputable section

open Idealize.ShloMosaic Idealize.ShloMosaic.TcCoe Idealize.SL.Sem
open Idealize.ShloMosaic.Pipeline (Dat)

namespace Cert.ScanFwdIdeal.Grad

open Cert.ScanFwdIdeal Cert.ScanFwdIdeal.Gen Cert.Ssd

variable (B : Blk Ideal)

theorem mem_pairs (p : Fin 16) : p ∈ Blk.pairs := by revert p; decide

/-- The stored states, read back: each pair's own. -/
theorem canon_state (L : List (View.Piece (Elt Ideal) S16x128x128 .f32)) (p : Fin 16) (j n : Fin 128) :
    View.canon (Blk.pairs.map B.pS ++ L) (ix3 p j n) = B.newState p (ix3 0 j n) := by
  refine View.canon_append_of_pieces (fun y : S16x128x128.Idx => B.newState (y 0) (ix3 0 (y 1) (y 2))) L (Blk.pairs.map B.pS) ?_ (ix3 p j n)
    ⟨B.pS p, List.mem_map_of_mem (mem_pairs p), ?_⟩
  · intro r hr x
    obtain ⟨o, _, rfl⟩ := List.mem_map.mp hr
    have e0 : (B.pS o).1.emb x 0 = o := Fin.ext (by simp [Rect.emb_apply])
    have e1 : (x : S1x128x128.Idx) = ix3 0 ((B.pS o).1.emb x 1) ((B.pS o).1.emb x 2) := funext fun a => Fin.ext (by
      have : (x 0).val < 1 := (x 0).isLt
      fin_cases a <;> simp [Rect.emb_apply] <;> omega)
    show B.newState o x = _
    dsimp only
    rw [e0]
    exact congrArg (B.newState o) e1
  · rw [Rect.mem_set_unit]
    intro a; fin_cases a <;> simp

/-- The states as they were, read back: each pair's own. -/
theorem canon_old (p : Fin 16) (j n : Fin 128) : View.canon (Blk.pairs.map B.pO) (ix4 0 p j n) = B.oldState p (ix4 0 0 j n) := by
  have h := View.canon_append_of_pieces (fun y : S1x16x128x128.Idx => B.oldState (y 1) (ix4 0 0 (y 2) (y 3))) [] (Blk.pairs.map B.pO) ?_ (ix4 0 p j n)
    ⟨B.pO p, List.mem_map_of_mem (mem_pairs p), ?_⟩
  · rwa [List.append_nil] at h
  · intro r hr x
    obtain ⟨o, _, rfl⟩ := List.mem_map.mp hr
    have e0 : (B.pO o).1.emb x 1 = o := Fin.ext (by
      have : (x 1).val < 1 := (x 1).isLt
      simp [Rect.emb_apply])
    have e1 : (x : S1x1x128x128.Idx) = ix4 0 0 ((B.pO o).1.emb x 2) ((B.pO o).1.emb x 3) := funext fun a => Fin.ext (by
      have : (x 0).val < 1 := (x 0).isLt
      have : (x 1).val < 1 := (x 1).isLt
      fin_cases a <;> simp [Rect.emb_apply] <;> omega)
    show B.oldState o x = _
    dsimp only
    rw [e0]
    exact congrArg (B.oldState o) e1
  · rw [Rect.mem_set_unit]
    intro a; fin_cases a <;> simp

/-- The stored outputs, read back. -/
theorem canon_out (l : Fin 128) (q : Fin 2048) :
    View.canon (Blk.pairs.map B.pY) (ix2 l q) = B.newY ⟨q.val / 128, by omega⟩ (ix2 l ⟨q.val % 128, by omega⟩) := by
  have h := View.canon_append_of_pieces (fun y : S128x2048.Idx => B.newY ⟨(y 1).val / 128, by have : (y 1).val < 2048 := (y 1).isLt; omega⟩ (ix2 (y 0) ⟨(y 1).val % 128, by omega⟩)) []
    (Blk.pairs.map B.pY) ?_ (ix2 l q) ⟨B.pY ⟨q.val / 128, by omega⟩, List.mem_map_of_mem (mem_pairs _), ?_⟩
  · rwa [List.append_nil] at h
  · intro r hr x
    obtain ⟨o, _, rfl⟩ := List.mem_map.mp hr
    have l1 : (x 1).val < 128 := (x 1).isLt
    have e : ((B.pY o).1.emb x 1).val = 128 * o.val + (x 1).val := by simp [Rect.emb_apply]
    have e0 : ((B.pY o).1.emb x 0).val = (x 0).val := by simp [Rect.emb_apply]
    show B.newY o x = _
    dsimp only
    refine congrArg₂ (fun p (i : S128x128.Idx) => B.newY p i) (Fin.ext ?_) (Blocks.idx2_ext ?_ ?_)
    · simp only [e]; omega
    · exact e0.symm
    · show (x 1).val = ((B.pY o).1.emb x 1).val % 128; rw [e]; omega
  · rw [Rect.mem_set_unit]
    intro a; fin_cases a <;> simp <;> omega

variable (m : (ℓ : Loc nD τ sig) → Buf (Elt Ideal) ℓ)

theorem ch_divmod (q : Fin 2048) : ch ⟨q.val / 128, by omega⟩ ⟨q.val % 128, by omega⟩ = q := Fin.ext (by simp only [ch]; omega)

/-- What one point leaves, from what it finds. -/
theorem state_step {A : Args} {t : ℕ} {B : Blk Ideal} (H : Fits A (fwd t) (fst A t) B) (L) (p : Fin 16) (j n : Fin 128) :
    View.canon (Blk.pairs.map B.pS ++ L) (ix3 p j n) = fst A (t + 1) (ch p j) n :=
  (canon_state B L p j n).trans (H.newState_at p j n)

/-- The fill is zeros. -/
theorem zero_state (p : Fin 16) (j n : Fin 128) : k0_pay3 (F := Ideal) (ix3 p j n) = (0 : EReal) := by pointwise [k0_pay3]

/-- The first point's blocks, over the zeros. -/
theorem fits_first (c : Dev nD) (ht : 0 < cfg0.N) : Fits (args m c) (fwd 0) (fst (args m c) 0) (blk m c ⟨0, ht⟩ (k0_pay3 (F := Ideal))) :=
  fits m c ⟨0, ht⟩ (k0_pay3 (F := Ideal)) (fst (args m c) 0) zero_state

/-- After point `t`: the state. -/
theorem carried (c : Dev nD) : ∀ (t : ℕ) (ht : t < cfg0.N) (p : Fin 16) (j n : Fin 128), (outsAt0 m c t ht).2.2 (ix3 p j n) = fst (args m c) (t + 1) (ch p j) n
  | 0, ht => fun p j n => (congrFun (state_A m c ⟨0, ht⟩ rfl) _).trans (state_step (fits_first m c ht) _ p j n)
  | t + 1, ht => fun p j n => by
    have hN : t + 1 < 128 := lt_of_lt_of_eq ht N_0
    have h := fits m c ⟨t + 1, ht⟩ (outsAt0 m c t (Nat.lt_of_succ_lt ht)).2.2 (fst (args m c) (t + 1)) (carried c t (Nat.lt_of_succ_lt ht))
    have hs : (outsAt0 m c (t + 1) ht).2.2 = View.canon (Blk.pairs.map (blkOf m c ⟨t + 1, ht⟩).pS) := state_B m c ⟨t + 1, ht⟩ (by show ¬ (t + 1) % 128 = 0; omega)
    rw [← List.append_nil (Blk.pairs.map (blkOf m c ⟨t + 1, ht⟩).pS)] at hs
    exact (congrFun hs _).trans (state_step h _ p j n)

set_option maxHeartbeats 2000000 in
/-- What a point stores, over a block that holds its chunk's rows and the state before them. -/
theorem point (c : Dev nD) (t : Fin cfg0.N) : ∃ B : Blk Ideal, Fits (args m c) (fwd t.val) (fst (args m c) t.val) B
    ∧ (outsAt0 m c t.val t.isLt).1 = View.canon (Blk.pairs.map B.pY) ∧ (outsAt0 m c t.val t.isLt).2.1 = View.canon (Blk.pairs.map B.pO) := by
  have ht := t_lt t
  obtain ⟨t, hN⟩ := t
  match t with
  | 0 => exact ⟨_, fits_first m c hN, out_A m c ⟨0, hN⟩ rfl, old_A m c ⟨0, hN⟩ rfl⟩
  | t + 1 =>
    have h0 : ¬ (t + 1) % 128 = 0 := by have : t + 1 < 128 := ht; omega
    exact ⟨_, fits m c ⟨t + 1, hN⟩ (outsAt0 m c t (Nat.lt_of_succ_lt hN)).2.2 (fst (args m c) (t + 1)) (carried m c t (Nat.lt_of_succ_lt hN)),
      out_B m c ⟨t + 1, hN⟩ h0, old_B m c ⟨t + 1, hN⟩ h0⟩

theorem fwd_val (t : Fin cfg0.N) (k : Fin 128) (h : t.val = k.val) : fwd t.val = k := Fin.ext (by simp only [fwd]; omega)

/-- A point's output and states are those of `ScanSpec`. -/
theorem out_point (c : Dev nD) (t : Fin cfg0.N) (k : Fin 128) (h : t.val = k.val) (l : Fin 128) (q : Fin 2048) :
    (outsAt0 m c t.val t.isLt).1 (ix2 l q) = y (args m c) k l q := by
  obtain ⟨B, H, e, _⟩ := point m c t
  rw [fwd_val t k h, h] at H
  rw [e, canon_out, H.newY_at, ch_divmod]; rfl
theorem old_point (c : Dev nD) (t : Fin cfg0.N) (k : Fin 128) (h : t.val = k.val) (p : Fin 16) (j n : Fin 128) :
    (outsAt0 m c t.val t.isLt).2.1 (ix4 0 p j n) = saved (args m c) k (ch p j) n := by
  obtain ⟨B, H, _, e⟩ := point m c t
  rw [h] at H
  rw [e, canon_old, H.oldState_at]; rfl

end Cert.ScanFwdIdeal.Grad

end
-- ==== Proof.ScanKernel.lean ====
/- What the two results of the forward scan's call hold: the output, and the state before each chunk (`Cert.Ssd`). -/
module

public import proofs.«01_k».proof.Proof.ScanSteps

@[expose] public section

set_option maxRecDepth 16384

noncomputable section

open Idealize.ShloMosaic Idealize.ShloMosaic.TcCoe Idealize.SL.Sem
open Idealize.ShloMosaic.Pipeline (Dat)

namespace Cert.ScanFwdIdeal.Grad

open Cert.ScanFwdIdeal Cert.ScanFwdIdeal.Gen Cert.Ssd

variable (m : (ℓ : Loc nD τ sig) → Buf (Elt Ideal) ℓ)

theorem point_lt (n : ℕ) (h : n < 128) : n < cfg0.N := lt_of_lt_of_eq h N_0.symm

/-- The two whole arrays. -/
def outs (A : Args) (x : S16384x2048.Idx) : EReal := y A (chunkOf (x 0)) (rowOf (x 0)) (x 1)
def states (A : Args) (x : S128x16x128x128.Idx) : EReal := saved A (x 0) (ch (x 1) (x 2)) (x 3)

theorem out_block (c : Dev nD) (t : Fin cfg0.N) (z : S128x2048.Idx) (x : S16384x2048.Idx) (h0 : (x 0).val = t.val * 128 + (z 0).val) (h1 : (x 1).val = (z 1).val) :
    (outsAt0 m c t.val t.isLt).1 z = outs (args m c) x := by
  have ht := t_lt t
  have hz : (z 0).val < 128 := (z 0).isLt
  have e := out_point m c t (chunkOf (x 0)) (by simp only [chunkOf]; omega) (rowOf (x 0)) (x 1)
  refine Eq.trans (congrArg _ (Blocks.idx2_ext ?_ ?_)) e
  · show (z 0).val = (x 0).val % 128; omega
  · exact h1.symm
theorem old_block (c : Dev nD) (t : Fin cfg0.N) (z : S1x16x128x128.Idx) (x : S128x16x128x128.Idx) (h0 : (x 0).val = t.val + (z 0).val) (h1 : (x 1).val = (z 1).val)
    (h2 : (x 2).val = (z 2).val) (h3 : (x 3).val = (z 3).val) : (outsAt0 m c t.val t.isLt).2.1 z = states (args m c) x := by
  have hz : (z 0).val < 1 := (z 0).isLt
  have e := old_point m c t (x 0) (by omega) (x 1) (x 2) (x 3)
  refine Eq.trans (congrArg _ (funext fun a => Fin.ext ?_)) e
  fin_cases a
  · show (z 0).val = 0; omega
  · exact h1.symm
  · exact h2.symm
  · exact h3.symm

theorem final_out (c : Dev nD) : (dats m 0 c).arrAt 6 cfg0.N = outs (args m c) := by
  refine (dats m 0 c).arrAt_eq_of_covers 6 (outs (args m c)) (by decide +kernel) fun t hf z => ?_
  blk_simp
  rw [after0_6]
  refine out_block m c t z _ ?_ ?_
  · blk_point [idx_val t]
  · blk_point [idx_val t]
theorem final_old (c : Dev nD) : (dats m 0 c).arrAt 7 cfg0.N = states (args m c) := by
  refine (dats m 0 c).arrAt_eq_of_covers 7 (states (args m c)) (by decide +kernel) fun t hf z => ?_
  blk_simp
  rw [after0_7]
  refine old_block m c t z _ ?_ ?_ ?_ ?_
  · blk_point [idx_val t]
  · blk_point [idx_val t]
  · blk_point [idx_val t]
  · blk_point [idx_val t]

/-- The kernel's run: both results, and the arguments as they were. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v27_0) = outs (args m c)
      ∧ r.2.mem ((c.tc : Thread nD τ).loc main_v27_1) = states (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 6).trans (final_out m c), ((h c).1 7).trans (final_old m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.ScanFwdIdeal.Grad

end
-- ==== Proof.ScanRef.lean ====
/- What the reference's buffers hold before its loop (`Cert.Ssd`). -/
module

public import proofs.«01_k».proof.Proof.SsdArrays
public import proofs.«01_k».proof.Proof.ScanSpec
public import proofs.«01_k».proof.Proof.Gen.ScanRefIdeal.Run

@[expose] public section

set_option maxRecDepth 16384

noncomputable section

open Idealize.ShloMosaic Idealize.ShloMosaic.TcCoe Idealize.SL.Sem Idealize.ShloMosaic.StableHlo

namespace Cert.ScanRefIdeal.Grad

open Cert.ScanRefIdeal Cert.ScanRefIdeal.Gen Cert.ScanRefIdeal.Value Cert.Ssd

variable (A : Args) (V : Valuation τ sig (Elt Ideal))

/-- Within a chunk, what the inputs up to a row add to its output; what each chunk adds to the state. -/
def aYd : S128x128x4x8x64.Idx → EReal := fun x => ∑ s : Fin 128, (cb A (x 0) (x 1) s (x 2) * lm A (x 0) (x 1) s (head (x 2) (x 3))) * xdt A (x 0) s (chan (head (x 2) (x 3)) (x 4))
def aGrow : S128x4x8x64x128.Idx → EReal := fun x => grow A (x 0) (chan (head (x 1) (x 2)) (x 3)) (x 4)

/- The projections, and the step sizes before the softplus. -/
theorem s0_v5 (h1 : V (Proc.devRef .tc main_arg1) = A.dtRaw) (h2 : V (Proc.devRef .tc main_arg2) = A.dtBias) :
    after hostOps0 V (Proc.devRef .tc main_v5) = aZ A := by
  after_results
  rw [h1, h2]; funext x; idx_vars x
  pointwise [aZ]
theorem s0_v0 (h0 : V (Proc.devRef .tc main_arg0) = A.xbc) : after hostOps0 V (Proc.devRef .tc main_v0) = aX0 A := by
  after_results
  rw [h0]; funext x; idx_vars x
  pointwise [aX0]
theorem s0_v1 (h0 : V (Proc.devRef .tc main_arg0) = A.xbc) : after hostOps0 V (Proc.devRef .tc main_v1) = aB0 A := by
  after_results
  rw [h0]; funext x; idx_vars x
  pointwise [aB0]
theorem s0_v2 (h0 : V (Proc.devRef .tc main_arg0) = A.xbc) : after hostOps0 V (Proc.devRef .tc main_v2) = aC0 A := by
  after_results
  rw [h0]; funext x; idx_vars x
  pointwise [aC0]

/- The step sizes. -/
theorem s1_v6 (h5 : V (Proc.devRef .tc main_v5) = aZ A) : after hostOps0_1 V (Proc.devRef .tc main_v6) = aSp A := by
  after_results
  simp only [TRef.toBuf, TRef.ofBuf, cast_eq]
  rw [h5]; funext x; idx_vars x
  pointwise [aZ, aSp, softplus]
  exact if_neg (fun h => h rfl)

/- The projections by chunk, the scaled input, and the logarithms of the decays. -/
theorem s2_v10 (h0 : V (Proc.devRef .tc main_v0) = aX0 A) : after hostOps0_2 V (Proc.devRef .tc main_v10) = aX A := by
  after_results
  rw [h0]; funext x; idx_vars x
  pointwise [X, aX0, aX, row_mk, chan_mk]
theorem s2_v11 (h0 : V (Proc.devRef .tc main_v1) = aB0 A) : after hostOps0_2 V (Proc.devRef .tc main_v11) = aB A := by
  after_results
  rw [h0]; funext x; idx_vars x
  pointwise [B, aB0, aB, row_mk]
theorem s2_v12 (h0 : V (Proc.devRef .tc main_v2) = aC0 A) : after hostOps0_2 V (Proc.devRef .tc main_v12) = aC A := by
  after_results
  rw [h0]; funext x; idx_vars x
  pointwise [C, aC0, aC, row_mk]
theorem s2_v16 (h0 : V (Proc.devRef .tc main_v0) = aX0 A) (h6 : V (Proc.devRef .tc main_v6) = aSp A) :
    after hostOps0_2 V (Proc.devRef .tc main_v16) = aXdt A := by
  after_results
  rw [h0, h6]; funext x; idx_vars x
  pointwise [xdt, X, dt, aX0, aSp, aXdt, row_mk, chan_mk, head_mk, headOf_chan]
theorem s2_v20 (h0 : V (Proc.devRef .tc main_v6) = aSp A) (h3 : V (Proc.devRef .tc main_arg3) = A.aLog) :
    after hostOps0_2 V (Proc.devRef .tc main_v20) = aAdt A := by
  after_results
  rw [h0, h3]; funext x; idx_vars x
  pointwise [aSp, aAdt, adt, dt, row_mk, head_mk]

/- The summed logarithms, their differences, the mask. -/
theorem s3_v21 (h0 : V (Proc.devRef .tc main_v20) = aAdt A) : after hostOps0_3 V (Proc.devRef .tc main_v21) = aCs A := by
  after_results
  simp only [TRef.toBuf, TRef.ofBuf, cast_eq]
  rw [h0]; funext x; idx_vars x
  have z : (broadcastInDim S_ ![] bcast_S_S_ (constant (F := Ideal) S_ .f32 0x00000000#32)) = fun _ : S_.Idx => (0 : EReal) := by
    funext i
    pointwise []
  rw [z]
  exact cumsum4 _ _ _ _ _ _ _
theorem s4_v26 (h0 : V (Proc.devRef .tc main_v21) = aCs A) : after hostOps0_4 V (Proc.devRef .tc main_v26) = aDiff A := by
  after_results
  rw [h0]; funext x; idx_vars x
  pointwise [aCs, aDiff]
theorem s4_v27 : after hostOps0_4 V (Proc.devRef .tc main_v27) = fun _ : S128x128.Idx => 1#1 := by
  after_results
  funext x; idx_vars x
  pointwise []
theorem s5_v28 (h0 : V (Proc.devRef .tc main_v27) = fun _ : S128x128.Idx => 1#1) : after hostOps0_5 V (Proc.devRef .tc main_v28) = aTri := by
  after_results
  simp only [TRef.toBuf, TRef.ofBuf, cast_eq]
  rw [h0]; funext x; idx_vars x
  pointwise [aTri]
  exact tri_word x0 x1
theorem s6_cst : after hostOps0_6 V (Proc.devRef .tc main_cst) = constant (F := Ideal) S_ .f32 0xFF800000#32 := by
  after_results
theorem s7_v29 (h0 : V (Proc.devRef .tc main_v28) = aTri) (h1 : V (Proc.devRef .tc main_v26) = aDiff A)
    (h2 : V (Proc.devRef .tc main_cst) = constant (F := Ideal) S_ .f32 0xFF800000#32) : after hostOps0_7 V (Proc.devRef .tc main_v29) = aMask A := by
  after_results
  simp only [TRef.toBuf, TRef.ofBuf, cast_eq]
  rw [h0, h1, h2]; funext x; idx_vars x
  pointwise [aTri, aMask]
  by_cases h : x4 ≤ x3
  · simp [h, Scalar.select]
  · simp only [h, if_false, Scalar.select]
    exact bot_word

/- The decays, the products, and what the loop starts from. -/
theorem s8_v37 (h0 : V (Proc.devRef .tc main_v29) = aMask A) (hB : V (Proc.devRef .tc main_v11) = aB A) (hC : V (Proc.devRef .tc main_v12) = aC A)
    (hX : V (Proc.devRef .tc main_v16) = aXdt A) : after hostOps0_8 V (Proc.devRef .tc main_v37) = aYd A := by
  after_results
  rw [h0, hB, hC, hX]; funext x; idx_vars x
  pointwise [aYd, aXdt, aB, aC, cb, aMask, aDiff, lm, headOf_chan, groupOf_chan]
  refine Finset.sum_congr rfl fun s _ => (mul_comm _ _).trans (congrArg (· * _) ?_)
  by_cases h : s ≤ x1
  · simp [h]
  · simp [h]
theorem s8_v54_0 (h0 : V (Proc.devRef .tc main_v21) = aCs A) (h1 : V (Proc.devRef .tc main_v16) = aXdt A) (hB : V (Proc.devRef .tc main_v11) = aB A) :
    after hostOps0_8 V (Proc.devRef .tc main_v54_0) = aGrow A := by
  after_results
  rw [h0, h1, hB]; funext x; idx_vars x
  pointwise [id_eq, aGrow, grow, aXdt, aB, aCs, dec, headOf_chan, groupOf_chan]
theorem s8_v54_1 (h0 : V (Proc.devRef .tc main_v21) = aCs A) : after hostOps0_8 V (Proc.devRef .tc main_v54_1) = aCd A := by
  after_results
  rw [h0]; funext x; idx_vars x
  pointwise [id_eq, aCd, aCs, cd]
theorem s8_v54_3 : after hostOps0_8 V (Proc.devRef .tc main_v54_3) = fun _ : S4x8x64x128.Idx => (0 : EReal) := by
  after_results
  funext x; idx_vars x
  pointwise [id_eq]
theorem s8_v54_4 : after hostOps0_8 V (Proc.devRef .tc main_v54_4) = fun _ : S128x4x8x64x128.Idx => (0 : EReal) := by
  after_results
  funext x; idx_vars x
  pointwise [id_eq]

end Cert.ScanRefIdeal.Grad

end
-- ==== Proof.ScanLoop.lean ====
/- What the reference computes: its loop, and the two results after it (`Cert.Ssd`). -/
module

public import proofs.«01_k».proof.Proof.ScanRef

@[expose] public section

set_option maxRecDepth 16384

noncomputable section

open Idealize.ShloMosaic Idealize.ShloMosaic.TcCoe Idealize.SL.Sem Idealize.ShloMosaic.StableHlo

namespace Cert.ScanRefIdeal.Grad

open Cert.ScanRefIdeal Cert.ScanRefIdeal.Gen Cert.ScanRefIdeal.Value Cert.Ssd

variable (A : Args) (V : Valuation τ sig (Elt Ideal))

/-- The states before each chunk, stacked; and the two results. -/
def aSt : S128x4x8x64x128.Idx → EReal := fun x => saved A (x 0) (chan (head (x 1) (x 2)) (x 3)) (x 4)
def aOut : S16384x2048.Idx → EReal := fun x => y A (chunkOf (x 0)) (rowOf (x 0)) (x 1)
def aSaved : S128x16x128x128.Idx → EReal := fun x => saved A (x 0) (ch (x 1) (x 2)) (x 3)

/-- What the buffers hold that are read after the loop. -/
structure After : Prop where
  v10 : V (Proc.devRef .tc main_v10) = aX A
  v12 : V (Proc.devRef .tc main_v12) = aC A
  v21 : V (Proc.devRef .tc main_v21) = aCs A
  v37 : V (Proc.devRef .tc main_v37) = aYd A
  a4 : V (Proc.devRef .tc main_arg4) = A.d

theorem head_mod (q : Fin 2048) (h) : (⟨(groupOf q).val * 8 + q.val / 64 % 8, h⟩ : Fin 32) = headOf q := Fin.ext (by simp only [groupOf, headOf]; omega)
set_option maxHeartbeats 1000000 in
theorem s9_v68 (h : After A V) (hs : V (Proc.devRef .tc main_v54_4) = aSt A) : after hostOps0_9 V (Proc.devRef .tc main_v68) = aOut A := by
  obtain ⟨h10, h12, h21, h37, h4⟩ := h
  after_results
  rw [h10, h12, h21, h37, h4, hs]
  clear h10 h12 h21 h37 h4 hs
  funext x; idx_vars x
  pointwise [aOut, y, out, ex, aX, aC, aCs, aYd, aSt, chunk_mk, rowOf_mk, groupOf_mk, head_group, chan_head, head_mod, Fin.sum_univ_one]
theorem s9_v69 (hs : V (Proc.devRef .tc main_v54_4) = aSt A) : after hostOps0_9 V (Proc.devRef .tc main_v69) = aSaved A := by
  after_results
  rw [hs]
  clear hs
  funext x; idx_vars x
  pointwise [aSaved, aSt]
  exact congrArg (fun q => saved A x0 q x3) (Fin.ext (by simp only [chan, head, ch]; omega))
/-- What the loop carries before trip `k`. -/
structure Carried (k : ℕ) : Prop where
  inc : V (Proc.devRef .tc main_v54_0) = aGrow A
  cd : V (Proc.devRef .tc main_v54_1) = aCd A
  ctr : V (Proc.devRef .tc main_v54_2) = fun _ : S_.Idx => Scf.iv 0#32 1#32 k
  st : V (Proc.devRef .tc main_v54_3) = fun x : S4x8x64x128.Idx => fst A k (chan (head (x 0) (x 1)) (x 2)) (x 3)
  stack : V (Proc.devRef .tc main_v54_4) = fun x : S128x4x8x64x128.Idx => if (show Fin 128 from x 0).val < k then aSt A x else 0

/-- Trip `k` reads, and writes, chunk `k`. -/
theorem start_clamp : ∀ k : Fin 128, (min (max (Scf.iv 0#32 1#32 k.val).toInt 0) ((128 - 1 : ℕ) : ℤ)).toNat = k.val := by decide +kernel

theorem ctr_word : ∀ k : Fin 128, IntOp.addi (Scf.iv 0#32 1#32 k.val) 1#32 = Scf.iv 0#32 1#32 (k.val + 1) := by decide +kernel

/-- The starts of trip `k`'s block. -/
def start (k : ℕ) : Fin 5 → ℤ := fun a => ((![fun _ => Scf.iv 0#32 1#32 k, constantI S_ 32 0#32, constantI S_ 32 0#32, constantI S_ 32 0#32, constantI S_ 32 0#32] : Fin 5 → S_.Idx → BitVec 32) a (Shape.Idx.first h_S_)).toInt

theorem slice_inc (k : Fin 128) (x : S128x4x8x64x128.Idx → EReal) (h) (a : Fin 1) (g : Fin 4) (r : Fin 8) (p : Fin 64) (n : Fin 128) :
    Host.dynamicSlice S1x4x8x64x128 x (start k) h (ix5 a g r p n) = x (ix5 k g r p n) := by
  rw [Host.dynamicSlice_apply]
  refine congrArg x (funext fun b => Fin.ext ?_)
  have ha : a.val = 0 := by omega
  match b with
  | ⟨0, _⟩ => exact (congrArg₂ (· + ·) (start_clamp k) ha).trans (Nat.add_zero _)
  | ⟨1, _⟩ => exact Nat.zero_add _
  | ⟨2, _⟩ => exact Nat.zero_add _
  | ⟨3, _⟩ => exact Nat.zero_add _
  | ⟨4, _⟩ => exact Nat.zero_add _

theorem slice_cd (k : Fin 128) (x : S128x4x8x1x1.Idx → EReal) (h) (a : Fin 1) (g : Fin 4) (r : Fin 8) (p : Fin 1) (n : Fin 1) :
    Host.dynamicSlice S1x4x8x1x1 x (start k) h (ix5 a g r p n) = x (ix5 k g r p n) := by
  rw [Host.dynamicSlice_apply]
  refine congrArg x (funext fun b => Fin.ext ?_)
  have ha : a.val = 0 := by omega
  match b with
  | ⟨0, _⟩ => exact (congrArg₂ (· + ·) (start_clamp k) ha).trans (Nat.add_zero _)
  | ⟨1, _⟩ => exact Nat.zero_add _
  | ⟨2, _⟩ => exact Nat.zero_add _
  | ⟨3, _⟩ => exact Nat.zero_add _
  | ⟨4, _⟩ => exact Nat.zero_add _

theorem update_stack (k : Fin 128) (x : S128x4x8x64x128.Idx → EReal) (u : S1x4x8x64x128.Idx → EReal) (h) (c : Fin 128) (g : Fin 4) (r : Fin 8) (p : Fin 64) (n : Fin 128) :
    Host.dynamicUpdateSlice x u (start k) h (ix5 c g r p n) = if c = k then u (ix5 0 g r p n) else x (ix5 c g r p n) := by
  rw [Host.dynamicUpdateSlice_apply]
  have hc : Host.clampedStart S128x4x8x64x128 S1x4x8x64x128 h.1 (start k) 0 = k.val := start_clamp k
  have hk := k.isLt
  have hc' := c.isLt
  by_cases e : c = k
  · have ev : c.val = k.val := congrArg Fin.val e
    rw [if_pos e, dif_pos]
    · refine congrArg u (funext fun b => Fin.ext ?_)
      match b with
      | ⟨0, _⟩ => exact (congrArg₂ (· - ·) ev hc).trans (Nat.sub_self _)
      | ⟨1, _⟩ => rfl
      | ⟨2, _⟩ => rfl
      | ⟨3, _⟩ => rfl
      | ⟨4, _⟩ => rfl
    · intro b
      match b with
      | ⟨0, _⟩ =>
        show Host.clampedStart S128x4x8x64x128 S1x4x8x64x128 h.1 (start k) 0 ≤ c.val ∧ c.val < Host.clampedStart S128x4x8x64x128 S1x4x8x64x128 h.1 (start k) 0 + 1
        omega
      | ⟨1, _⟩ => exact ⟨Nat.zero_le _, (Nat.zero_add 4).symm ▸ g.isLt⟩
      | ⟨2, _⟩ => exact ⟨Nat.zero_le _, (Nat.zero_add 8).symm ▸ r.isLt⟩
      | ⟨3, _⟩ => exact ⟨Nat.zero_le _, (Nat.zero_add 64).symm ▸ p.isLt⟩
      | ⟨4, _⟩ => exact ⟨Nat.zero_le _, (Nat.zero_add 128).symm ▸ n.isLt⟩
  · rw [if_neg e, dif_neg]
    intro hin
    have h0 : Host.clampedStart S128x4x8x64x128 S1x4x8x64x128 h.1 (start k) 0 ≤ c.val ∧ c.val < Host.clampedStart S128x4x8x64x128 S1x4x8x64x128 h.1 (start k) 0 + 1 := hin 0
    exact e (Fin.ext (by show c.val = k.val; omega))

theorem cast_inc (y : S1x4x8x64x128.Idx → EReal) (g : Fin 4) (r : Fin 8) (p : Fin 64) (n : Fin 128) :
    shapeCast S4x8x64x128 y shapeCasts_S1x4x8x64x128_S4x8x64x128 (ix4 g r p n) = y (ix5 0 g r p n) := by pointwise []
theorem cast_cd (y : S1x4x8x1x1.Idx → EReal) (g : Fin 4) (r : Fin 8) (p : Fin 64) (n : Fin 128) :
    broadcastInDim S4x8x64x128 ![0, 1, 2, 3] bcast_S4x8x1x1_S4x8x64x128_0_1_2_3 (shapeCast S4x8x1x1 y shapeCasts_S1x4x8x1x1_S4x8x1x1) (ix4 g r p n)
      = y (ix5 0 g r 0 0) := by pointwise []
theorem lift_st (y : S4x8x64x128.Idx → EReal) (g : Fin 4) (r : Fin 8) (p : Fin 64) (n : Fin 128) :
    broadcastInDim S1x4x8x64x128 ![1, 2, 3, 4] bcast_S4x8x64x128_S1x4x8x64x128_1_2_3_4 y (ix5 0 g r p n) = y (ix4 g r p n) := by pointwise []
theorem step_st (k : Fin 128) (h : Carried A V k.val) :
    step_main_v54_3 V = fun x : S4x8x64x128.Idx => fst A (k.val + 1) (chan (head (x 0) (x 1)) (x 2)) (x 3) := by
  unfold step_main_v54_3
  rw [h.inc, h.cd, h.st, h.ctr]
  funext x; idx_vars x
  have ek : fwd k.val = k := Fin.ext (Nat.mod_eq_of_lt k.isLt)
  show _ = cd A (fwd k.val) (headOf (chan (head x0 x1) x2)) * fst A k.val (chan (head x0 x1) x2) x3 + grow A (fwd k.val) (chan (head x0 x1) x2) x3
  rw [ek]
  refine (congrArg₂ (· + ·) (congrArg₂ (· * ·) ?_ rfl) ?_ : _ = cd A k (headOf (chan (head x0 x1) x2)) * _ + grow A k (chan (head x0 x1) x2) x3)
  · rw [headOf_chan]
    refine Eq.trans ?_ (slice_cd k (aCd A) sliceFits_S128x4x8x1x1_S1x4x8x1x1 0 x0 x1 0 0)
    exact cast_cd _ _ _ _ _
  · refine Eq.trans ?_ (slice_inc k (aGrow A) sliceFits_S128x4x8x64x128_S1x4x8x64x128 0 x0 x1 x2 x3)
    exact cast_inc _ _ _ _ _
theorem step_stack (k : Fin 128) (h : Carried A V k.val) :
    step_main_v54_4 V = fun x : S128x4x8x64x128.Idx => if (show Fin 128 from x 0).val < k.val + 1 then aSt A x else 0 := by
  unfold step_main_v54_4
  rw [h.stack, h.st, h.ctr]
  funext x; idx_vars x
  refine (update_stack k _ _ updateFits_S128x4x8x64x128_S1x4x8x64x128 _ _ _ _ _).trans ?_
  rw [lift_st]
  show (if x0 = k then fst A k.val (chan (head x1 x2) x3) x4 else if x0.val < k.val then saved A x0 (chan (head x1 x2) x3) x4 else 0)
    = if x0.val < k.val + 1 then saved A x0 (chan (head x1 x2) x3) x4 else 0
  by_cases hc : x0 = k
  · rw [if_pos hc, if_pos (by omega), hc]; rfl
  · have hv : x0.val ≠ k.val := fun hv => hc (Fin.ext hv)
    rw [if_neg hc]
    by_cases hlt : x0.val < k.val
    · rw [if_pos hlt, if_pos (by omega)]
    · rw [if_neg hlt, if_neg (by omega)]
theorem step (k : Fin 128) (h : Carried A V k.val) : Carried A (STEP V) (k.val + 1) := by
  refine ⟨(STEP_main_v54_0 V).trans h.inc, (STEP_main_v54_1 V).trans h.cd, (STEP_main_v54_2 V).trans ?_,
    (STEP_main_v54_3 V).trans (step_st A V k h), (STEP_main_v54_4 V).trans (step_stack A V k h)⟩
  unfold step_main_v54_2
  rw [h.ctr]
  exact funext fun _ => ctr_word k
variable (m : (ℓ : Loc nD τ sig) → Buf (Elt Ideal) ℓ)

/-- The buffers that a trip writes. -/
abbrev tripW : List (Ref sig .tc) := condOps_W ++ while0Ops0_W ++ while0Ops0_1_W ++ while0Ops0_2_W ++ while0Ops0_3_W ++ while0Ops0_4_W
theorem keep_trip (b : Ref sig .tc) (h : b ∉ tripW) : afterL bodyI (after condOps V) (Proc.devRef .tc b) = V (Proc.devRef .tc b) := by
  simp only [tripW, List.mem_append, not_or] at h
  obtain ⟨⟨⟨⟨⟨hc, h0⟩, h1⟩, h2⟩, h3⟩, h4⟩ := h
  simp only [afterL_cons, afterL_nil]
  rw [after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]
theorem keep_loop (b : Ref sig .tc) (h : b ∉ tripW) (c : Dev nD) : ∀ k, atK m k c (Proc.devRef .tc b) = entryContents preI m c (Proc.devRef .tc b)
  | 0 => rfl
  | k + 1 => (keep_trip (atK m k c) b h).trans (keep_loop b h c k)

/-- What the loop carries after `k` trips. -/
theorem carried (c : Dev nD) (h0 : Carried A (entryContents preI m c) 0) : ∀ k ≤ 128, Carried A (STEP^[k] (entryContents preI m c)) k
  | 0, _ => h0
  | k + 1, h => by
    rw [Function.iterate_succ_apply']
    exact step A _ ⟨k, h⟩ (carried c h0 k (Nat.le_of_succ_le h))

end Cert.ScanRefIdeal.Grad

end
-- ==== Proof.ScanEntry.lean ====
/- What the reference's buffers hold when its loop begins, and its results (`Cert.Ssd`). -/
module

public import proofs.«01_k».proof.Proof.ScanLoop

@[expose] public section

set_option maxRecDepth 16384

noncomputable section

open Idealize.ShloMosaic Idealize.ShloMosaic.TcCoe Idealize.SL.Sem Idealize.ShloMosaic.StableHlo

namespace Cert.ScanRefIdeal.Grad

open Cert.ScanRefIdeal Cert.ScanRefIdeal.Gen Cert.ScanRefIdeal.Value Cert.Ssd

variable (A : Args) (V : Valuation τ sig (Elt Ideal))

/-- The arguments are in their buffers. -/
structure Given : Prop where
  a0 : V (Proc.devRef .tc main_arg0) = A.xbc
  a1 : V (Proc.devRef .tc main_arg1) = A.dtRaw
  a2 : V (Proc.devRef .tc main_arg2) = A.dtBias
  a3 : V (Proc.devRef .tc main_arg3) = A.aLog
  a4 : V (Proc.devRef .tc main_arg4) = A.d

/-- The projections by chunk are in their buffers. -/
structure Kept : Prop where
  v10 : V (Proc.devRef .tc main_v10) = aX A
  v11 : V (Proc.devRef .tc main_v11) = aB A
  v12 : V (Proc.devRef .tc main_v12) = aC A
  v16 : V (Proc.devRef .tc main_v16) = aXdt A
  a4 : V (Proc.devRef .tc main_arg4) = A.d
abbrev keptRefs : List (Ref sig .tc) := [main_v10, main_v11, main_v12, main_v16, main_arg4]
variable {A V} in
theorem Kept.of {W : Valuation τ sig (Elt Ideal)} (h : Kept A V) (e : ∀ b ∈ keptRefs, W (Proc.devRef .tc b) = V (Proc.devRef .tc b)) : Kept A W :=
  ⟨(e main_v10 (by decide)).trans h.v10, (e main_v11 (by decide)).trans h.v11, (e main_v12 (by decide)).trans h.v12,
    (e main_v16 (by decide)).trans h.v16, (e main_arg4 (by decide)).trans h.a4⟩

theorem at2 (g : Given A V) : Kept A (after hostOps0_2 (after hostOps0_1 (after hostOps0 V)))
    ∧ after hostOps0_2 (after hostOps0_1 (after hostOps0 V)) (Proc.devRef .tc main_v20) = aAdt A := by
  have k0 (b : Ref sig .tc) (h : b ∉ hostOps0_W) := after_of_writes_sub hostOps0 V hostOps0_writes h
  have k1 (b : Ref sig .tc) (h : b ∉ hostOps0_1_W) := after_of_writes_sub hostOps0_1 (after hostOps0 V) hostOps0_1_writes h
  have k2 (b : Ref sig .tc) (h : b ∉ hostOps0_2_W) := after_of_writes_sub hostOps0_2 (after hostOps0_1 (after hostOps0 V)) hostOps0_2_writes h
  have v0 := (k1 main_v0 (by decide)).trans (s0_v0 A V g.a0)
  have v1 := (k1 main_v1 (by decide)).trans (s0_v1 A V g.a0)
  have v2 := (k1 main_v2 (by decide)).trans (s0_v2 A V g.a0)
  have v6 := s1_v6 A (after hostOps0 V) (s0_v5 A V g.a1 g.a2)
  have a3 := (k1 main_arg3 (by decide)).trans ((k0 main_arg3 (by decide)).trans g.a3)
  exact ⟨⟨s2_v10 A _ v0, s2_v11 A _ v1, s2_v12 A _ v2, s2_v16 A _ v0 v6,
    (k2 main_arg4 (by decide)).trans ((k1 main_arg4 (by decide)).trans ((k0 main_arg4 (by decide)).trans g.a4))⟩, s2_v20 A _ v6 a3⟩

theorem at7 (k : Kept A V) (h20 : V (Proc.devRef .tc main_v20) = aAdt A) :
    Kept A (after hostOps0_7 (after hostOps0_6 (after hostOps0_5 (after hostOps0_4 (after hostOps0_3 V)))))
    ∧ after hostOps0_7 (after hostOps0_6 (after hostOps0_5 (after hostOps0_4 (after hostOps0_3 V)))) (Proc.devRef .tc main_v21) = aCs A
    ∧ after hostOps0_7 (after hostOps0_6 (after hostOps0_5 (after hostOps0_4 (after hostOps0_3 V)))) (Proc.devRef .tc main_v29) = aMask A := by
  have k3 (b : Ref sig .tc) (h : b ∉ hostOps0_3_W) := after_of_writes_sub hostOps0_3 V hostOps0_3_writes h
  have h21 := s3_v21 A V h20
  generalize after hostOps0_3 V = V3 at *
  have k4 (b : Ref sig .tc) (h : b ∉ hostOps0_4_W) := after_of_writes_sub hostOps0_4 V3 hostOps0_4_writes h
  have h26 := s4_v26 A V3 h21
  have h27 := s4_v27 V3
  generalize after hostOps0_4 V3 = V4 at *
  have k5 (b : Ref sig .tc) (h : b ∉ hostOps0_5_W) := after_of_writes_sub hostOps0_5 V4 hostOps0_5_writes h
  have h28 := s5_v28 V4 h27
  generalize after hostOps0_5 V4 = V5 at *
  have k6 (b : Ref sig .tc) (h : b ∉ hostOps0_6_W) := after_of_writes_sub hostOps0_6 V5 hostOps0_6_writes h
  have hc := s6_cst V5
  generalize after hostOps0_6 V5 = V6 at *
  have k7 (b : Ref sig .tc) (h : b ∉ hostOps0_7_W) := after_of_writes_sub hostOps0_7 V6 hostOps0_7_writes h
  refine ⟨k.of fun b hb => ?_, ?_, s7_v29 A V6 ((k6 _ (by decide)).trans h28) ((k6 _ (by decide)).trans ((k5 _ (by decide)).trans h26)) hc⟩
  · have d : ∀ b ∈ keptRefs, b ∉ hostOps0_3_W ∧ b ∉ hostOps0_4_W ∧ b ∉ hostOps0_5_W ∧ b ∉ hostOps0_6_W ∧ b ∉ hostOps0_7_W := by decide
    obtain ⟨d3, d4, d5, d6, d7⟩ := d b hb
    exact (k7 b d7).trans ((k6 b d6).trans ((k5 b d5).trans ((k4 b d4).trans (k3 b d3))))
  · exact (k7 _ (by decide)).trans ((k6 _ (by decide)).trans ((k5 _ (by decide)).trans ((k4 _ (by decide)).trans h21)))

theorem ctr0 : after hostOps0_8 V (Proc.devRef .tc main_v54_2) = fun _ : S_.Idx => Scf.iv 0#32 1#32 0 := by
  after_results
  funext i
  exact (by decide : (0#32 : BitVec 32) = Scf.iv 0#32 1#32 0)

/-- What the loop starts from. -/
theorem at8 (k : Kept A V) (h21 : V (Proc.devRef .tc main_v21) = aCs A) (h29 : V (Proc.devRef .tc main_v29) = aMask A) :
    After A (after hostOps0_8 V) ∧ Carried A (after hostOps0_8 V) 0 := by
  have k8 (b : Ref sig .tc) (h : b ∉ hostOps0_8_W) := after_of_writes_sub hostOps0_8 V hostOps0_8_writes h
  refine ⟨⟨(k8 _ (by decide)).trans k.v10, (k8 _ (by decide)).trans k.v12, (k8 _ (by decide)).trans h21, s8_v37 A V h29 k.v11 k.v12 k.v16,
    (k8 _ (by decide)).trans k.a4⟩, ⟨s8_v54_0 A V h21 k.v16 k.v11, s8_v54_1 A V h21, ctr0 V, ?_, ?_⟩⟩
  · exact s8_v54_3 V
  · refine (s8_v54_4 V).trans (funext fun x => (if_neg (Nat.not_lt_zero _)).symm)

theorem entry (g : Given A V) : After A (afterL preI V) ∧ Carried A (afterL preI V) 0 := by
  obtain ⟨k2, h20⟩ := at2 A V g
  obtain ⟨k7, h21, h29⟩ := at7 A _ k2 h20
  exact at8 A _ k7 h21 h29

variable (m : (ℓ : Loc nD τ sig) → Buf (Elt Ideal) ℓ)

/-- The arguments of core `c`; the scan has no cotangent. -/
def args (c : Dev nD) : Args :=
  ⟨m ((c : Thread nD τ).loc main_arg0), m ((c : Thread nD τ).loc main_arg1), m ((c : Thread nD τ).loc main_arg2), m ((c : Thread nD τ).loc main_arg3),
    m ((c : Thread nD τ).loc main_arg4), fun _ => 0⟩
theorem given (c : Dev nD) : Given (args m c) (launchContents m c) := ⟨rfl, rfl, rfl, rfl, rfl⟩

abbrev argRefs : List (Ref sig .tc) := [main_arg0, main_arg1, main_arg2, main_arg3, main_arg4]
theorem keep9 (b : Ref sig .tc) (h : b ∈ argRefs) : after hostOps0_9 V (Proc.devRef .tc b) = V (Proc.devRef .tc b) := by
  fin_cases h <;> after_results

theorem final (c : Dev nD) : finalContents condOps preI bodyI postI 128 m c (Proc.devRef .tc main_v68) = aOut (args m c)
    ∧ finalContents condOps preI bodyI postI 128 m c (Proc.devRef .tc main_v69) = aSaved (args m c) := by
  obtain ⟨hA, h0⟩ := entry (args m c) _ (given m c)
  have hC := carried (args m c) m c h0 128 le_rfl
  have hs := (atK_agree m c 128 main_v54_4 (by decide)).trans hC.stack
  have hs' : atK m 128 c (Proc.devRef .tc main_v54_4) = aSt (args m c) := hs.trans (funext fun x => if_pos (show Fin 128 from x 0).isLt)
  have k (b : Ref sig .tc) (h : b ∉ tripW) := keep_loop m b h c 128
  have kc (b : Ref sig .tc) (h : b ∉ condOps_W) := after_of_writes_sub condOps (atK m 128 c) condOps_writes h
  have e (b : Ref sig .tc) (h : b ∉ tripW) (h' : b ∉ condOps_W) := (kc b h').trans (k b h)
  have hA' : After (args m c) (after condOps (atK m 128 c)) :=
    ⟨(e _ (by decide) (by decide)).trans hA.v10, (e _ (by decide) (by decide)).trans hA.v12, (e _ (by decide) (by decide)).trans hA.v21,
      (e _ (by decide) (by decide)).trans hA.v37, (e _ (by decide) (by decide)).trans hA.a4⟩
  exact ⟨s9_v68 (args m c) _ hA' ((kc _ (by decide)).trans hs'), s9_v69 (args m c) _ ((kc _ (by decide)).trans hs')⟩

/-- The arguments keep their contents. -/
theorem final_arg (c : Dev nD) (b : Ref sig .tc) (hb : b ∈ argRefs) :
    finalContents condOps preI bodyI postI 128 m c (Proc.devRef .tc b) = launchContents m c (Proc.devRef .tc b) := by
  have d : ∀ b ∈ argRefs, b ∉ tripW ∧ b ∉ condOps_W ∧ b ∉ hostOps0_W ∧ b ∉ hostOps0_1_W ∧ b ∉ hostOps0_2_W ∧ b ∉ hostOps0_3_W
      ∧ b ∉ hostOps0_4_W ∧ b ∉ hostOps0_5_W ∧ b ∉ hostOps0_6_W ∧ b ∉ hostOps0_7_W ∧ b ∉ hostOps0_8_W := by decide
  obtain ⟨dt, dc, d0, d1, d2, d3, d4, d5, d6, d7, d8⟩ := d b hb
  show after hostOps0_9 (after condOps (atK m 128 c)) (Proc.devRef .tc b) = _
  rw [keep9 _ b hb, after_of_writes_sub condOps _ condOps_writes dc, keep_loop m b dt c 128]
  simp only [entryContents, afterL_cons, afterL_nil]
  rw [after_of_writes_sub hostOps0_8 _ hostOps0_8_writes d8, after_of_writes_sub hostOps0_7 _ hostOps0_7_writes d7,
    after_of_writes_sub hostOps0_6 _ hostOps0_6_writes d6, after_of_writes_sub hostOps0_5 _ hostOps0_5_writes d5,
    after_of_writes_sub hostOps0_4 _ hostOps0_4_writes d4, after_of_writes_sub hostOps0_3 _ hostOps0_3_writes d3,
    after_of_writes_sub hostOps0_2 _ hostOps0_2_writes d2, after_of_writes_sub hostOps0_1 _ hostOps0_1_writes d1,
    after_of_writes_sub hostOps0 _ hostOps0_writes d0]

/-- The reference's run: its two results, and its arguments. -/
theorem run (ρ : Dev nD → PrngReg) : θ_run (defs (F := Ideal)) (onTc (τ := τ) (main (F := Ideal))) ⟨m, fun _ => 0, ρ⟩
    (fun r => ∀ c : Dev nD, r.2.mem ((c : Thread nD τ).loc main_v68) = aOut (args m c) ∧ r.2.mem ((c : Thread nD τ).loc main_v69) = aSaved (args m c)
      ∧ ∀ b ∈ argRefs, r.2.mem ((c : Thread nD τ).loc b) = m ((c : Thread nD τ).loc b)) :=
  (θ_run defs _ _).mono (fun r h c => ⟨(h c main_v68 (by decide)).trans (final m c).1, (h c main_v69 (by decide)).trans (final m c).2,
    fun b hb => (h c b (by revert b; decide)).trans (final_arg m c b hb)⟩) (run_fold m ρ)

end Cert.ScanRefIdeal.Grad

end
-- ==== Proof.Scan.lean ====
module

public import proofs.«01_k».proof.Defs
public import proofs.«01_k».proof.Proof.ScanKernel
public import proofs.«01_k».proof.Proof.ScanEntry

@[expose] public section

noncomputable section

open Idealize.ShloMosaic Idealize.ShloMosaic.TcCoe Idealize.SL.Sem

namespace Cert.Scan

open Cert.ScanRefIdeal Cert.ScanRefIdeal.Grad

/-- The reference terminates, keeps its arguments and uses no semaphore. -/
theorem frame_ref : Cert.quiescent_ScanRefIdeal := fun m ρ _ =>
  (θ_run Cert.ScanRefIdeal.defs _ _).mono (fun r h => ⟨fun c =>
      have k := (h c).2.2
      ⟨k main_arg0 (by decide), k main_arg1 (by decide), k main_arg2 (by decide), k main_arg3 (by decide), k main_arg4 (by decide)⟩,
      sem_eq_zero_of_no_sems (by decide) r.2⟩)
    (Cert.ScanRefIdeal.Grad.run m ρ)

/-- The value claim: both results. -/
theorem algebraic : Cert.algebraic_ScanFwdIdeal_ScanRefIdeal := fun m g m' g' _ hag =>
  ⟨fun c => Cert.ScanFwdIdeal.Grad.outs (Cert.ScanFwdIdeal.Grad.args m c), fun c => Cert.ScanFwdIdeal.Grad.states (Cert.ScanFwdIdeal.Grad.args m c),
    Cert.ScanFwdIdeal.Grad.run m g,
    (θ_run _ _ _).mono (fun _ h c => by
      obtain ⟨a0, a1, a2, a3, a4⟩ := hag c
      have e : Cert.ScanRefIdeal.Grad.args m' c = Cert.ScanFwdIdeal.Grad.args m c := by
        unfold Cert.ScanRefIdeal.Grad.args Cert.ScanFwdIdeal.Grad.args; rw [a0, a1, a2, a3, a4]
      have k := (h c).2.2
      exact ⟨(h c).1.trans (congrArg aOut e), (h c).2.1.trans (congrArg aSaved e),
        k main_arg0 (by decide), k main_arg1 (by decide), k main_arg2 (by decide), k main_arg3 (by decide), k main_arg4 (by decide)⟩)
      (Cert.ScanRefIdeal.Grad.run m' g')⟩

end Cert.Scan

end
-- ==== Proof.ConvInTiles.lean ====
/- What one grid point of the convolution's input gradient stores, written once for every block of sixteen rows and 512 columns: the kernel
   unrolls the 192 blocks and cuts them at different places, and the stored blocks are the same function of the block's loads. -/
module

public import proofs.«01_k».proof.Proof.Blocks
public import proofs.«01_k».proof.Proof.Gen.ConvInIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ConvInIdeal.Grad

open Cert.ConvInIdeal Cert.ConvInIdeal.Gen

variable {F : FTy → Type} [FloatOps F]

/-- What a grid point reads: its place, its tile of the cotangent, the rows that follow the tile, and the filter. -/
structure Blk (F : FTy → Type) where
  i : grid0.Coords
  d : Vec F S512x3072 .f32
  h : Vec F S8x3072 .f32
  w : Vec F S4x3072 .f32

theorem inb_d (r : Fin 32) (j : Fin 6) (hr : r.val < 31) : ∀ a, (![16 * r.val, 512 * j.val] : Fin 2 → ℕ) a + (![24, 512] : Fin 2 → ℕ) a ≤ S512x3072.size a := by
  intro a; fin_cases a <;> simp <;> omega
theorem inb_e (j : Fin 6) : ∀ a, (![0, 512 * j.val] : Fin 2 → ℕ) a + (![24, 512] : Fin 2 → ℕ) a ≤ S24x3072.size a := by
  intro a; fin_cases a <;> simp <;> omega
theorem inb_w (k : Fin 4) (j : Fin 6) : ∀ a, (![k.val, 512 * j.val] : Fin 2 → ℕ) a + (![1, 512] : Fin 2 → ℕ) a ≤ S4x3072.size a := by
  intro a; fin_cases a <;> simp <;> omega
theorem inb_o (r : Fin 32) (j : Fin 6) : ∀ a, (![16 * r.val, 512 * j.val] : Fin 2 → ℕ) a + (![16, 512] : Fin 2 → ℕ) a ≤ S512x3072.size a := by
  intro a; fin_cases a <;> simp <;> omega

namespace Blk
variable (B : Blk F)

/-- The scratch buffer: the tile's last sixteen rows, and under them the rows that follow the tile. -/
abbrev ext : Vec F S24x3072 .f32 := View.canon
  [(⟨Rect.unit ![16, 0] ![8, 3072] (by intro a; fin_cases a <;> simp), k0_pay3 B.i B.h⟩ : View.Piece (Elt F) S24x3072 .f32),
   ⟨Rect.unit ![0, 0] ![16, 3072] (by intro a; fin_cases a <;> simp),
    k0_pay2 (View.ld B.d (Rect.unit ![496, 0] ![16, 3072] (by intro a; fin_cases a <;> simp)))⟩]

/-- The sixteen rows of a block and the eight rows under them. -/
def base (r : Fin 32) (j : Fin 6) : Vec F S24x512 .f32 :=
  if h : r.val < 31 then View.ld B.d (Rect.unit ![16 * r.val, 512 * j.val] ![24, 512] (inb_d r j h))
  else fun x => B.ext ((Rect.unit (s := S24x3072) ![0, 512 * j.val] ![24, 512] (inb_e j)).toLoadRect.idx x)

/-- One row of the filter, over the block's columns. -/
abbrev tap (j : Fin 6) (k : Fin 4) : Vec F S1x512 .f32 := View.ld B.w (Rect.unit ![k.val, 512 * j.val] ![1, 512] (inb_w k j))

/-- The block that is stored. -/
def dx (r : Fin 32) (j : Fin 6) : Vec F S16x512 .bf16 := k0_pay6 (B.base r j) (B.tap j 0) (B.tap j 1) (B.tap j 2) (B.tap j 3)

abbrev piece (j : Fin 6) (r : Fin 32) : View.Piece (Elt F) S512x3072 .bf16 := ⟨Rect.unit ![16 * r.val, 512 * j.val] ![16, 512] (inb_o r j), B.dx r j⟩

abbrev rows : List (Fin 32) := [31, 30, 29, 28, 27, 26, 25, 24, 23, 22, 21, 20, 19, 18, 17, 16, 15, 14, 13, 12, 11, 10, 9, 8, 7, 6, 5, 4, 3, 2, 1, 0]
abbrev strips : List (Fin 6) := [5, 4, 3, 2, 1, 0]

/-- The stores, the last one first. -/
abbrev pieces : List (View.Piece (Elt F) S512x3072 .bf16) := strips.flatMap fun j => rows.map (B.piece j)

end Blk

variable (m : (ℓ : Loc nD τ sig) → Buf (Elt F) ℓ)

/-- What point `t` reads. -/
abbrev blk (c : Dev nD) (t : Fin cfg0.N) : Blk F := ⟨grid0.coords t, iblk m c 0 t, iblk m c 1 t, iblk m c 2 t⟩

end Cert.ConvInIdeal.Grad

end
-- ==== Proof.ConvInPoint.lean ====
/- The generated run's stores at a grid point, as the pieces of `ConvInTiles`. -/
module

public import proofs.«01_k».proof.Proof.ConvInTiles

@[expose] public section

set_option maxRecDepth 65536

noncomputable section

open Idealize.ShloMosaic Idealize.ShloMosaic.TcCoe Idealize.SL.Sem
open Idealize.ShloMosaic.Pipeline (Dat)

namespace Cert.ConvInIdeal.Grad

open Cert.ConvInIdeal Cert.ConvInIdeal.Gen

variable {F : FTy → Type} [FloatOps F]
variable (m : (ℓ : Loc nD τ sig) → Buf (Elt F) ℓ)

set_option maxHeartbeats 2000000 in
/-- What a point leaves of the output. -/
theorem out_A (c : Dev nD) (t : Fin cfg0.N) : outsAt0 m c t = View.canon (blk m c t).pieces := by
  unfold outsAt0
  frame_open
  dsimp only
  frame_out
  simp only [View.readCov_eq_canon']
  refine congrArg View.canon ?_
  sl_kernel_rfl

end Cert.ConvInIdeal.Grad

end
-- ==== Proof.ConvInSpec.lean ====
/- The gradient of a causal convolution of four taps by its input: every row of the cotangent goes back to the four rows that it read. -/
module

public import proofs.«01_k».proof.Proof.Blocks

@[expose] public section

noncomputable section

open Idealize.ShloMosaic Idealize.ShloMosaic.TcCoe

namespace Cert.ConvIn

/-- The cotangent of the convolution's output, and the filter. -/
structure Args where
  d : Shape.Idx ⟨2, ![16384, 3072]⟩ → EReal
  w : Shape.Idx ⟨2, ![4, 3072]⟩ → EReal

/-- The cotangent's row `n`, and zero beyond the last row. -/
def row (A : Args) (n : ℕ) (q : Fin 3072) : EReal := if h : n < 16384 then A.d (ix2 ⟨n, h⟩ q) else 0

/-- The gradient: tap `k` read the row `3 - k` rows above. -/
def dx (A : Args) (r : ℕ) (q : Fin 3072) : EReal :=
  A.w (ix2 0 q) * row A (r + 3) q + A.w (ix2 1 q) * row A (r + 2) q + A.w (ix2 2 q) * row A (r + 1) q + A.w (ix2 3 q) * row A r q

end Cert.ConvIn

end
-- ==== Proof.ConvInKernel.lean ====
/- What the result of the convolution's input gradient holds (`Cert.ConvIn`). -/
module

public import proofs.«01_k».proof.Proof.ConvInPoint
public import proofs.«01_k».proof.Proof.ConvInSpec

@[expose] public section

set_option maxRecDepth 16384

noncomputable section

open Idealize.ShloMosaic Idealize.ShloMosaic.TcCoe Idealize.SL.Sem
open Idealize.ShloMosaic.Pipeline (Dat)

namespace Cert.ConvInIdeal.Grad

open Cert.ConvInIdeal Cert.ConvInIdeal.Gen Cert.ConvIn

/-- The blocks hold the rows of tile `n`, the eight rows that follow them, and the filter. -/
structure Fits (A : Args) (n : ℕ) (B : Blk Ideal) : Prop where
  d : ∀ (l : Fin 512) (q : Fin 3072), B.d (ix2 l q) = row A (n * 512 + l.val) q
  h : ∀ (l : Fin 8) (q : Fin 3072), k0_pay3 (F := Ideal) B.i B.h (ix2 l q) = row A (n * 512 + 512 + l.val) q
  w : ∀ (k : Fin 4) (q : Fin 3072), B.w (ix2 k q) = A.w (ix2 k q)

/-- A column of a strip. -/
abbrev col (j : Fin 6) (q : Fin 512) : Fin 3072 := ⟨512 * j.val + q.val, by omega⟩

namespace Fits
variable {A : Args} {n : ℕ} {B : Blk Ideal} (H : Fits A n B)
include H

theorem last_at (l : Fin 16) (q : Fin 3072) : k0_pay2 (F := Ideal) (View.ld B.d (Rect.unit ![496, 0] ![16, 3072] (by intro a; fin_cases a <;> simp))) (ix2 l q)
    = row A (n * 512 + 496 + l.val) q := by
  pointwise [k0_pay2]
  rw [H.d]; exact congrArg (row A · q) (by simp only; omega)

theorem ext_at (l : Fin 24) (q : Fin 3072) : B.ext (ix2 l q) = row A (n * 512 + 496 + l.val) q := by
  have h := View.canon_append_of_pieces (Val := Elt Ideal) (fun y : S24x3072.Idx => row A (n * 512 + 496 + (y 0).val) (y 1)) []
    [(⟨Rect.unit ![16, 0] ![8, 3072] (by intro a; fin_cases a <;> simp), k0_pay3 B.i B.h⟩ : View.Piece (Elt Ideal) S24x3072 .f32),
      ⟨Rect.unit ![0, 0] ![16, 3072] (by intro a; fin_cases a <;> simp),
      k0_pay2 (View.ld B.d (Rect.unit ![496, 0] ![16, 3072] (by intro a; fin_cases a <;> simp)))⟩] ?_ (ix2 l q) ?_
  · exact h
  · intro p hp x
    rcases List.mem_cons.mp hp with rfl | hp
    · refine Eq.trans (congrArg (k0_pay3 (F := Ideal) B.i B.h) (Blocks.idx2_ext (y := ix2 (x 0) (x 1)) rfl rfl)) ((H.h (x 0) (x 1)).trans ?_)
      refine congrArg₂ (row A) ?_ (Fin.ext ?_)
      · simp [Rect.emb_apply]; omega
      · simp [Rect.emb_apply]
    · obtain rfl := List.mem_singleton.mp hp
      refine Eq.trans (congrArg (k0_pay2 (F := Ideal) (View.ld B.d (Rect.unit ![496, 0] ![16, 3072] (by intro a; fin_cases a <;> simp)))) (Blocks.idx2_ext (y := ix2 (x 0) (x 1)) rfl rfl)) ((H.last_at (x 0) (x 1)).trans ?_)
      refine congrArg₂ (row A) ?_ (Fin.ext ?_)
      · simp [Rect.emb_apply]
      · simp [Rect.emb_apply]
  · by_cases hl : l.val < 16
    · refine ⟨_, List.mem_cons_of_mem _ List.mem_cons_self, ?_⟩
      rw [Rect.mem_set_unit]
      intro a; fin_cases a <;> simp <;> omega
    · refine ⟨_, List.mem_cons_self, ?_⟩
      rw [Rect.mem_set_unit]
      intro a; fin_cases a <;> simp <;> omega

theorem base_at (r : Fin 32) (j : Fin 6) (l : Fin 24) (q : Fin 512) : B.base r j (ix2 l q) = row A (n * 512 + 16 * r.val + l.val) (col j q) := by
  unfold Blk.base
  split
  · next h =>
    refine Eq.trans (Blocks.ld_eq _ _ _ (ix2 ⟨16 * r.val + l.val, by omega⟩ (col j q)) (Blocks.idx2_ext (by simp [Rect.emb_apply]) (by simp [Rect.emb_apply]))) ?_
    rw [H.d]; exact congrArg (row A · _) (by simp only; omega)
  · next h =>
    refine Eq.trans (congrArg B.ext (Blocks.idx2_ext (y := ix2 l (col j q)) ?_ ?_)) ((H.ext_at l (col j q)).trans (congrArg (row A · _) (by omega)))
    · simp [LoadRect.idx, Rect.toLoadRect]
    · simp [LoadRect.idx, Rect.toLoadRect]

theorem tap_at (j : Fin 6) (k : Fin 4) (q : Fin 512) : B.tap j k (ix2 0 q) = A.w (ix2 k (col j q)) :=
  (Blocks.ld_eq _ _ _ (ix2 k (col j q)) (Blocks.idx2_ext (by simp [Rect.emb_apply]) (by simp [Rect.emb_apply]))).trans (H.w k _)

theorem dx_at (r : Fin 32) (j : Fin 6) (l : Fin 16) (q : Fin 512) : B.dx r j (ix2 l q) = ConvIn.dx A (n * 512 + 16 * r.val + l.val) (col j q) := by
  unfold Blk.dx
  have t0 := H.tap_at j 0 q
  have t1 := H.tap_at j 1 q
  have t2 := H.tap_at j 2 q
  have t3 := H.tap_at j 3 q
  have hb := fun l => H.base_at r j l q
  generalize B.tap j 0 = w0 at *
  generalize B.tap j 1 = w1 at *
  generalize B.tap j 2 = w2 at *
  generalize B.tap j 3 = w3 at *
  generalize B.base r j = b at *
  pointwise [k0_pay6]
  simp only [t0, t1, t2, t3, hb]
  unfold ConvIn.dx
  have e (k : ℕ) (hk : k ≤ 3) : (l.val + k) % 24 = l.val + k := Nat.mod_eq_of_lt (by omega)
  simp [e, Nat.add_assoc]

end Fits

theorem mem_rows (r : Fin 32) : r ∈ Blk.rows := by revert r; decide
theorem mem_strips (j : Fin 6) : j ∈ Blk.strips := by revert j; decide

/-- The stored blocks, read back. -/
theorem canon_out {A : Args} {n : ℕ} {B : Blk Ideal} (H : Fits A n B) (z : S512x3072.Idx) :
    View.canon B.pieces z = ConvIn.dx A (n * 512 + (z 0).val) (z 1) := by
  have l0 : (z 0).val < 512 := (z 0).isLt
  have l1 : (z 1).val < 3072 := (z 1).isLt
  have h := View.canon_append_of_pieces (Val := Elt Ideal) (fun y : S512x3072.Idx => ConvIn.dx A (n * 512 + (y 0).val) (y 1)) [] B.pieces ?_ z
    ⟨B.piece ⟨(z 1).val / 512, by omega⟩ ⟨(z 0).val / 16, by omega⟩, List.mem_flatMap.mpr ⟨_, mem_strips _, List.mem_map_of_mem (mem_rows _)⟩, ?_⟩
  · rwa [List.append_nil] at h
  · intro p hp x
    obtain ⟨j, _, hp⟩ := List.mem_flatMap.mp hp
    obtain ⟨r, _, rfl⟩ := List.mem_map.mp hp
    refine Eq.trans (congrArg (B.dx r j) (Blocks.idx2_ext (y := ix2 (x 0) (x 1)) rfl rfl)) ((H.dx_at r j (x 0) (x 1)).trans ?_)
    refine congrArg₂ (ConvIn.dx A) ?_ (Fin.ext ?_)
    · simp [Rect.emb_apply]; omega
    · simp [Rect.emb_apply]
  · rw [Rect.mem_set_unit]
    intro a; fin_cases a <;> simp <;> omega

variable (m : (ℓ : Loc nD τ sig) → Buf (Elt Ideal) ℓ)

/-- The arguments in memory. -/
def args (c : Dev nD) : Args := ⟨m ((c.tc : Thread nD τ).loc main_arg0), m ((c.tc : Thread nD τ).loc main_arg1)⟩

theorem t_lt (t : Fin cfg0.N) : t.val < 32 := lt_of_lt_of_eq t.isLt N_0

theorem row_lt (A : Args) (n : ℕ) (h : n < 16384) (q : Fin 3072) : row A n q = A.d (ix2 ⟨n, h⟩ q) := dif_pos h
theorem row_out (A : Args) (n : ℕ) (h : ¬ n < 16384) (q : Fin 3072) : row A n q = 0 := dif_neg h

/-- Which block each window takes at each point. -/
theorem idx_val : ∀ t : Fin cfg0.N, win0_0.index t = ![t.val, 0] ∧ win0_2.index t = ![0, 0] ∧ win0_3.index t = ![t.val, 0] :=
  (by decide +kernel : ∀ t : Fin grid0.N, _)
theorem idx_next : ∀ t : Fin cfg0.N, t.val < 31 → win0_1.index t = ![(t.val + 1) * 64, 0] :=
  (by decide +kernel : ∀ t : Fin grid0.N, t.val < 31 → _)

theorem read_d (v : S16384x3072.Idx → Elt Ideal .f32) (t : Fin cfg0.N) (l : Fin 512) (q : Fin 3072) (h : t.val * 512 + l.val < 16384) :
    ((cfg0.win 0).blk t).view.read (Elt Ideal) v (ix2 l q) = v (ix2 ⟨t.val * 512 + l.val, h⟩ q) :=
  congrArg v (Blocks.idx2_ext (by blk_point [idx_val t]) (by blk_point [idx_val t]))
theorem read_h (v : S16384x3072.Idx → Elt Ideal .f32) (t : Fin cfg0.N) (l : Fin 8) (q : Fin 3072) (ht : t.val < 31) :
    ((cfg0.win 1).blk t).view.read (Elt Ideal) v (ix2 l q) = v (ix2 ⟨(t.val + 1) * 64 * 8 + l.val, by omega⟩ q) :=
  congrArg v (Blocks.idx2_ext (by blk_point [idx_next t ht]) (by blk_point [idx_next t ht]))
theorem read_w (v : S4x3072.Idx → Elt Ideal .f32) (t : Fin cfg0.N) (k : Fin 4) (q : Fin 3072) :
    ((cfg0.win 2).blk t).view.read (Elt Ideal) v (ix2 k q) = v (ix2 k q) :=
  congrArg v (Blocks.idx2_ext (by blk_point [idx_val t]) (by blk_point [idx_val t]))

theorem last_word : ∀ n : Fin 32, Scalar.cmpi .eq (BitVec.ofNat 32 n.val) 31#32 = if n.val = 31 then 1#1 else 0#1 := by decide
theorem place (t : Fin cfg0.N) : (grid0.coords t 0).val = t.val := by revert t; decide +kernel

theorem fits (c : Dev nD) (t : Fin cfg0.N) : Fits (args m c) t.val (blk m c t) where
  d l q := by
    have ht := t_lt t
    rw [row_lt _ _ (by omega)]
    unfold blk iblk
    exact (read_d (V m c main_arg0) t l q (by omega)).trans (congrFun (V_main_arg0 m c) _)
  h l q := by
    have ht := t_lt t
    have e : k0_pay3 (F := Ideal) (blk m c t).i (blk m c t).h (ix2 l q) = if t.val = 31 then (0 : EReal) else iblk m c 1 t (ix2 l q) := by
      pointwise [k0_pay3]
      rw [place, last_word ⟨t.val, ht⟩]
      by_cases h : t.val = 31 <;> simp [h, Scalar.select]
    rw [e]
    split
    · next h => rw [row_out _ _ (by omega)]
    · next h =>
      rw [row_lt _ _ (by omega)]
      unfold iblk
      exact ((read_h (V m c main_arg0) t l q (by omega)).trans (congrFun (V_main_arg0 m c) _)).trans
        (congrArg (args m c).d (Blocks.idx2_ext (by show (t.val + 1) * 64 * 8 + l.val = t.val * 512 + 512 + l.val; omega) rfl))
  w k q := by
    unfold blk iblk
    exact (read_w (V m c main_arg1) t k q).trans (congrFun (V_main_arg1 m c) _)

/-- The whole array. -/
def out (A : Args) (x : S16384x3072.Idx) : EReal := ConvIn.dx A (x 0).val (x 1)

theorem out_block (c : Dev nD) (t : Fin cfg0.N) (z : S512x3072.Idx) (x : S16384x3072.Idx) (h0 : (x 0).val = t.val * 512 + (z 0).val) (h1 : (x 1).val = (z 1).val) :
    outsAt0 m c t z = out (args m c) x := by
  rw [out_A, canon_out (fits m c t)]
  exact congrArg₂ (ConvIn.dx (args m c)) (by omega) (Fin.ext h1.symm)

theorem final_out (c : Dev nD) : (dats m 0 c).arrAt 3 cfg0.N = out (args m c) := by
  refine (dats m 0 c).arrAt_eq_of_covers 3 (out (args m c)) (by decide +kernel) fun t hf z => ?_
  blk_simp
  rw [after0_3]
  refine out_block m c t z _ ?_ ?_
  · blk_point [idx_val t]
  · blk_point [idx_val t]

/-- The kernel's run: the result, and the arguments as they were. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v0) = out (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 3).trans (final_out m c),
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c)))⟩) (run_main m ρ)

end Cert.ConvInIdeal.Grad

end
-- ==== Proof.ConvInRef.lean ====
/- What the reference's result holds: the gradient of the convolution by its input (`Cert.ConvIn`). -/
module

public import proofs.«01_k».proof.Proof.ConvInSpec
public import proofs.«01_k».proof.Proof.Gen.ConvInRefIdeal.Read
public import Idealize.ShloMosaic.Lib.KernelVsHost

@[expose] public section

set_option maxRecDepth 16384

noncomputable section

open Idealize.ShloMosaic Idealize.ShloMosaic.TcCoe Idealize.SL.Sem

namespace Cert.ConvInRefIdeal.Grad

open Cert.ConvInRefIdeal Cert.ConvInRefIdeal.Read Cert.ConvIn

variable (A : Args)

/-- Rows put `lo` rows down among zeros, read three rows below: the row `3 - lo` rows below, or zero beyond the last. -/
theorem pad_at (lo hi : ℕ) (k : ℕ) (hk : lo + k = 3) (x : S16384x3072.Idx → EReal) (z : S_.Idx → EReal) (hz : ∀ i, z i = 0)
    (h : S16384x3072.Pads ![lo, 0] ![hi, 0] ![0, 0] S16387x3072) (hu : 0 < S_.numel) (r : Fin 16384) (q : Fin 3072) :
    pad S16387x3072 ![lo, 0] ![hi, 0] ![0, 0] x z h hu (ix2 ⟨3 + r.val, by omega⟩ q)
      = if hr : r.val + k < 16384 then x (ix2 ⟨r.val + k, hr⟩ q) else 0 := by
  split
  · next hr =>
    refine pad_apply_of_inside _ _ _ x z h hu _ (ix2 ⟨r.val + k, hr⟩ q) fun a => ?_
    fin_cases a
    · show 3 + r.val = lo + (r.val + k) * (0 + 1); omega
    · show q.val = 0 + q.val * (0 + 1); omega
  · next hr =>
    refine (pad_apply_of_not_inside _ _ _ x z h hu _ 0 ?_).trans (hz _)
    rintro ⟨_, _, h3⟩
    have h3 : (3 + r.val - lo) / (0 + 1) < 16384 := h3
    omega

/-- A product by a filter's row, among zeros. -/
theorem term_at (k : Fin 4) (n : ℕ) (q : Fin 3072) (x : S16384x3072.Idx → EReal) (hx : ∀ (r : Fin 16384), x (ix2 r q) = A.d (ix2 r q) * A.w (ix2 k q)) :
    (if hr : n < 16384 then x (ix2 ⟨n, hr⟩ q) else 0) = A.w (ix2 k q) * row A n q := by
  unfold row
  split
  · rw [hx, mul_comm]
  · rw [mul_zero]

theorem result (r : Fin 16384) (q : Fin 3072) : val_main_v52 (F := Ideal) A.d A.w (ix2 r q) = dx A r.val q := by
  have e3 (r : Fin 16384) : val_main_v36 (F := Ideal) A.d A.w (ix2 r q) = A.d (ix2 r q) * A.w (ix2 3 q) := by
    pointwise [val_main_v36, val_main_v35, val_main_v34, val_main_v29, val_main_v28, val_main_v27]
  have e2 (r : Fin 16384) : val_main_v39 (F := Ideal) A.d A.w (ix2 r q) = A.d (ix2 r q) * A.w (ix2 2 q) := by
    pointwise [val_main_v39, val_main_v38, val_main_v33, val_main_v22, val_main_v21, val_main_v20]
  have e1 (r : Fin 16384) : val_main_v43 (F := Ideal) A.d A.w (ix2 r q) = A.d (ix2 r q) * A.w (ix2 1 q) := by
    pointwise [val_main_v43, val_main_v42, val_main_v33, val_main_v15, val_main_v14, val_main_v13]
  have e0 (r : Fin 16384) : val_main_v47 (F := Ideal) A.d A.w (ix2 r q) = A.d (ix2 r q) * A.w (ix2 0 q) := by
    pointwise [val_main_v47, val_main_v46, val_main_v33, val_main_v7, val_main_v6, val_main_v5]
  have z3 : ∀ i, val_main_cst_3 (F := Ideal) i = (0 : EReal) := fun i => by pointwise [val_main_cst_3]
  have z4 : ∀ i, val_main_cst_4 (F := Ideal) i = (0 : EReal) := fun i => by pointwise [val_main_cst_4]
  have z5 : ∀ i, val_main_cst_5 (F := Ideal) i = (0 : EReal) := fun i => by pointwise [val_main_cst_5]
  have z6 : ∀ i, val_main_cst_6 (F := Ideal) i = (0 : EReal) := fun i => by pointwise [val_main_cst_6]
  have p3 : val_main_v37 (F := Ideal) A.d A.w (ix2 ⟨3 + r.val, by omega⟩ q) = A.w (ix2 3 q) * row A (r.val + 0) q := (pad_at 3 0 0 rfl _ _ z3 _ _ r q).trans (term_at A 3 _ q _ e3)
  have p2 : val_main_v40 (F := Ideal) A.d A.w (ix2 ⟨3 + r.val, by omega⟩ q) = A.w (ix2 2 q) * row A (r.val + 1) q := (pad_at 2 1 1 rfl _ _ z4 _ _ r q).trans (term_at A 2 _ q _ e2)
  have p1 : val_main_v44 (F := Ideal) A.d A.w (ix2 ⟨3 + r.val, by omega⟩ q) = A.w (ix2 1 q) * row A (r.val + 2) q := (pad_at 1 2 2 rfl _ _ z5 _ _ r q).trans (term_at A 1 _ q _ e1)
  have p0 : val_main_v48 (F := Ideal) A.d A.w (ix2 ⟨3 + r.val, by omega⟩ q) = A.w (ix2 0 q) * row A (r.val + 3) q := (pad_at 0 3 3 rfl _ _ z6 _ _ r q).trans (term_at A 0 _ q _ e0)
  have e : val_main_v52 (F := Ideal) A.d A.w (ix2 r q) = val_main_v37 (F := Ideal) A.d A.w (ix2 ⟨3 + r.val, by omega⟩ q) + val_main_v40 (F := Ideal) A.d A.w (ix2 ⟨3 + r.val, by omega⟩ q)
      + val_main_v44 (F := Ideal) A.d A.w (ix2 ⟨3 + r.val, by omega⟩ q) + val_main_v48 (F := Ideal) A.d A.w (ix2 ⟨3 + r.val, by omega⟩ q) := by
    pointwise [val_main_v52, val_main_v51, val_main_v49, val_main_v45, val_main_v41]
  rw [e, p3, p2, p1, p0]
  unfold dx
  rw [Nat.add_zero]
  ac_rfl

end Cert.ConvInRefIdeal.Grad

end
-- ==== Proof.ConvIn.lean ====
module

public import proofs.«01_k».proof.Defs
public import proofs.«01_k».proof.Proof.ConvInKernel
public import proofs.«01_k».proof.Proof.ConvInRef

@[expose] public section

noncomputable section

open Idealize.ShloMosaic Idealize.ShloMosaic.TcCoe Idealize.SL.Sem

namespace Cert.ConvIn

/-- The reference terminates, keeps its arguments and uses no semaphore. -/
theorem frame_ref : Cert.quiescent_ConvInRefIdeal := fun m ρ _ =>
  (θ_run Cert.ConvInRefIdeal.defs _ _).mono (fun r h => ⟨fun c => (h c).2, sem_eq_zero_of_no_sems (by decide) r.2⟩)
    (Cert.ConvInRefIdeal.Value.run m ρ)

/-- The reference's result, of the same arguments. -/
theorem ref_out (A : Args) (i : Cert.ConvInRefIdeal.S16384x3072.Idx) : Cert.ConvInRefIdeal.Read.val_main_v52 (F := Ideal) A.d A.w i = dx A (i 0).val (i 1) := by
  idx_vars i
  exact Cert.ConvInRefIdeal.Grad.result A _ _

/-- The value claim. -/
theorem algebraic : Cert.algebraic_ConvInIdeal_ConvInRefIdeal := fun m g m' g' _ hag =>
  ⟨fun c => Cert.ConvInIdeal.Grad.out (Cert.ConvInIdeal.Grad.args m c), Cert.ConvInIdeal.Grad.run m g,
    (θ_run _ _ _).mono (fun _ h c => by
      obtain ⟨a0, a1⟩ := hag c
      refine ⟨(h c).1.trans ?_, (h c).2⟩
      rw [a0, a1]; exact funext (ref_out (Cert.ConvInIdeal.Grad.args m c)))
      (Cert.ConvInRefIdeal.Value.run m' g')⟩

end Cert.ConvIn

end
-- ==== Proof.ConvPreTiles.lean ====
/- What one grid point of the convolution's outer gradient stores, written once for every block of sixteen rows and 256 columns: the kernel
   unrolls the 384 blocks and cuts them at different places, and the stored blocks are the same function of the block's loads. -/
module

public import proofs.«01_k».proof.Proof.Blocks
public import proofs.«01_k».proof.Proof.Gen.ConvPreIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ConvPreIdeal.Grad

open Cert.ConvPreIdeal Cert.ConvPreIdeal.Gen

variable {F : FTy → Type} [FloatOps F]

/-- What a grid point reads: its place, its tiles of the input and of the cotangent, the rows before the tile, the filter and the bias. -/
structure Blk (F : FTy → Type) where
  i : grid0.Coords
  x : Vec F S512x3072 .f32
  d : Vec F S512x3072 .f32
  h : Vec F S8x3072 .f32
  w : Vec F S4x3072 .f32
  b : Vec F S1x3072 .f32

theorem inb_x (r : Fin 32) (j : Fin 12) (hr : 0 < r.val) : ∀ a, (![16 * r.val - 8, 256 * j.val] : Fin 2 → ℕ) a + (![24, 256] : Fin 2 → ℕ) a ≤ S512x3072.size a := by
  intro a; fin_cases a <;> simp <;> omega
theorem inb_e (j : Fin 12) : ∀ a, (![0, 256 * j.val] : Fin 2 → ℕ) a + (![24, 256] : Fin 2 → ℕ) a ≤ S24x3072.size a := by
  intro a; fin_cases a <;> simp <;> omega
theorem inb_w (k : Fin 4) (j : Fin 12) : ∀ a, (![k.val, 256 * j.val] : Fin 2 → ℕ) a + (![1, 256] : Fin 2 → ℕ) a ≤ S4x3072.size a := by
  intro a; fin_cases a <;> simp <;> omega
theorem inb_b (j : Fin 12) : ∀ a, (![0, 256 * j.val] : Fin 2 → ℕ) a + (![1, 256] : Fin 2 → ℕ) a ≤ S1x3072.size a := by
  intro a; fin_cases a <;> simp <;> omega
theorem inb_o (r : Fin 32) (j : Fin 12) : ∀ a, (![16 * r.val, 256 * j.val] : Fin 2 → ℕ) a + (![16, 256] : Fin 2 → ℕ) a ≤ S512x3072.size a := by
  intro a; fin_cases a <;> simp <;> omega

namespace Blk
variable (B : Blk F)

/-- The scratch buffer: the rows before the tile, and under them the tile's first sixteen rows. -/
abbrev ext : Vec F S24x3072 .f32 := View.canon
  [(⟨Rect.unit ![8, 0] ![16, 3072] (by intro a; fin_cases a <;> simp),
      k0_pay5 (View.ld B.x (Rect.unit ![0, 0] ![16, 3072] (by intro a; fin_cases a <;> simp)))⟩ : View.Piece (Elt F) S24x3072 .f32),
   ⟨Rect.unit ![0, 0] ![8, 3072] (by intro a; fin_cases a <;> simp), k0_pay4 B.i B.h⟩]

/-- The sixteen rows of a block and the eight rows above them. -/
def base (r : Fin 32) (j : Fin 12) : Vec F S24x256 .f32 :=
  if h : 0 < r.val then View.ld B.x (Rect.unit ![16 * r.val - 8, 256 * j.val] ![24, 256] (inb_x r j h))
  else fun x => B.ext ((Rect.unit (s := S24x3072) ![0, 256 * j.val] ![24, 256] (inb_e j)).toLoadRect.idx x)

/-- The rows that one tap reads. -/
def win (r : Fin 32) (j : Fin 12) (k : Fin 4) : FVec F S16x256 .f32 :=
  match k with
  | 0 => k0_pay4200 (B.base r j)
  | 1 => k0_pay4201 (B.base r j)
  | 2 => k0_pay4202 (B.base r j)
  | 3 => k0_pay4203 (B.base r j)

/-- One row of the filter, over the block's columns. -/
abbrev tap (j : Fin 12) (k : Fin 4) : Vec F S1x256 .f32 := View.ld B.w (Rect.unit ![k.val, 256 * j.val] ![1, 256] (inb_w k j))
abbrev bias (j : Fin 12) : Vec F S1x256 .f32 := View.ld B.b (Rect.unit ![0, 256 * j.val] ![1, 256] (inb_b j))
abbrev ct (r : Fin 32) (j : Fin 12) : Vec F S16x256 .f32 := View.ld B.d (Rect.unit ![16 * r.val, 256 * j.val] ![16, 256] (inb_o r j))

/-- The gradient of the sums. -/
def dp (r : Fin 32) (j : Fin 12) : FVec F S16x256 .f32 :=
  k0_pay4204 (B.base r j) (B.bias j) (B.tap j 0) (B.tap j 1) (B.tap j 2) (B.tap j 3) (B.ct r j)

abbrev later : List (Fin 32) := [1, 2, 3, 4, 5, 6, 7, 8, 9, 10, 11, 12, 13, 14, 15, 16, 17, 18, 19, 20, 21, 22, 23, 24, 25, 26, 27, 28, 29, 30, 31]

/-- A strip's blocks summed, of the gradient and of its products with a tap's rows. -/
def sumD (j : Fin 12) : FVec F S16x256 .f32 := later.foldl (fun s r => addf s (B.dp r j)) (B.dp 0 j)
def sumW (j : Fin 12) (k : Fin 4) : FVec F S16x256 .f32 :=
  later.foldl (fun s r => addf s (mulf (B.dp r j) (B.win r j k))) (mulf (B.dp 0 j) (B.win 0 j k))

abbrev pieceP (j : Fin 12) (r : Fin 32) : View.Piece (Elt F) S512x3072 .f32 := ⟨Rect.unit ![16 * r.val, 256 * j.val] ![16, 256] (inb_o r j), B.dp r j⟩
abbrev pieceW (o : Vec F S4x3072 .f32) (j : Fin 12) (k : Fin 4) : View.Piece (Elt F) S4x3072 .f32 :=
  ⟨Rect.unit ![k.val, 256 * j.val] ![1, 256] (inb_w k j),
    k0_pay1 (B.sumW j k) (k0_pay4431 (View.ld o (Rect.unit ![k.val, 256 * j.val] ![1, 256] (inb_w k j))))⟩
abbrev pieceB (o : Vec F S1x3072 .f32) (j : Fin 12) : View.Piece (Elt F) S1x3072 .f32 :=
  ⟨Rect.unit ![0, 256 * j.val] ![1, 256] (inb_b j),
    k0_pay1 (B.sumD j) (k0_pay4431 (View.ld o (Rect.unit ![0, 256 * j.val] ![1, 256] (inb_b j))))⟩

abbrev rows : List (Fin 32) := [31, 30, 29, 28, 27, 26, 25, 24, 23, 22, 21, 20, 19, 18, 17, 16, 15, 14, 13, 12, 11, 10, 9, 8, 7, 6, 5, 4, 3, 2, 1, 0]
abbrev strips : List (Fin 12) := [11, 10, 9, 8, 7, 6, 5, 4, 3, 2, 1, 0]
abbrev taps : List (Fin 4) := [3, 2, 1, 0]

/-- The stores, the last one first; the two sums are added to what they found. -/
abbrev piecesP : List (View.Piece (Elt F) S512x3072 .f32) := strips.flatMap fun j => rows.map (B.pieceP j)
abbrev piecesW (o : Vec F S4x3072 .f32) : List (View.Piece (Elt F) S4x3072 .f32) := strips.flatMap fun j => taps.map (B.pieceW o j)
abbrev piecesB (o : Vec F S1x3072 .f32) : List (View.Piece (Elt F) S1x3072 .f32) := strips.map (B.pieceB o)

end Blk

variable (m : (ℓ : Loc nD τ sig) → Buf (Elt F) ℓ)

/-- What point `t` reads. -/
abbrev blk (c : Dev nD) (t : Fin cfg0.N) : Blk F := ⟨grid0.coords t, iblk m c 0 t, iblk m c 1 t, iblk m c 2 t, iblk m c 3 t, iblk m c 4 t⟩

end Cert.ConvPreIdeal.Grad

end
-- ==== Proof.ConvPrePoint.lean ====
/- The generated run's stores at a grid point, as the pieces of `ConvPreTiles`. -/
module

public import proofs.«01_k».proof.Proof.ConvPreTiles

@[expose] public section

set_option maxRecDepth 65536

noncomputable section

open Idealize.ShloMosaic Idealize.ShloMosaic.TcCoe Idealize.SL.Sem
open Idealize.ShloMosaic.Pipeline (Dat)

namespace Cert.ConvPreIdeal.Grad

open Cert.ConvPreIdeal Cert.ConvPreIdeal.Gen

variable {F : FTy → Type} [FloatOps F]
variable (m : (ℓ : Loc nD τ sig) → Buf (Elt F) ℓ)

/-- What the point before left of the two sums. -/
abbrev oldW (c : Dev nD) (t : Fin cfg0.N) : Vec F S4x3072 .f32 := (outsAt0 m c (t.val - 1) (Nat.lt_of_le_of_lt (Nat.sub_le _ _) t.isLt)).2.1
abbrev oldB (c : Dev nD) (t : Fin cfg0.N) : Vec F S1x3072 .f32 := (outsAt0 m c (t.val - 1) (Nat.lt_of_le_of_lt (Nat.sub_le _ _) t.isLt)).2.2

set_option maxHeartbeats 4000000 in
/-- What a point leaves of the gradient of the sums. -/
theorem dp_A (c : Dev nD) (t : Fin cfg0.N) (h0 : t.val % 32 = 0) : (outsAt0 m c t.val t.isLt).1 = View.canon (blk m c t).piecesP := by
  rw [outsAt0_A m c t h0]
  frame_open
  dsimp only
  frame_out
  simp only [View.readCov_eq_canon']
  refine congrArg View.canon ?_
  sl_kernel_rfl

set_option maxHeartbeats 4000000 in
theorem dp_B (c : Dev nD) (t : Fin cfg0.N) (h0 : ¬ t.val % 32 = 0) : (outsAt0 m c t.val t.isLt).1 = View.canon (blk m c t).piecesP := by
  rw [outsAt0_B m c t h0]
  frame_open
  dsimp only
  frame_out
  simp only [View.readCov_eq_canon']
  refine congrArg View.canon ?_
  sl_kernel_rfl

set_option maxHeartbeats 4000000 in
/-- What the first point leaves of the filter's gradient. -/
theorem db_A (c : Dev nD) (t : Fin cfg0.N) (h0 : t.val % 32 = 0) : (outsAt0 m c t.val t.isLt).2.2
    = View.canon ((blk m c t).piecesB k0_pay3 ++ [⟨Rect.unit ![0, 0] ![1, 3072] (by intro a; fin_cases a <;> simp), k0_pay3⟩]) := by
  rw [outsAt0_A m c t h0]
  frame_open
  dsimp only
  simp (disch := decide) only [↓ View.readCov_skip, ↓ View.readCov_cons_toLoadRect, ↓ View.readCov_fill]
  frame_out
  simp only [View.readCov_eq_canon']
  refine congrArg View.canon ?_
  sl_kernel_rfl

set_option maxHeartbeats 4000000 in
theorem db_B (c : Dev nD) (t : Fin cfg0.N) (h0 : ¬ t.val % 32 = 0) : (outsAt0 m c t.val t.isLt).2.2 = View.canon ((blk m c t).piecesB (oldB m c t) ++ []) := by
  rw [outsAt0_B m c t h0]
  frame_open
  dsimp only
  frame_out
  simp only [read_unread_whole, View.readCov_eq_canon']
  refine congrArg View.canon ?_
  sl_kernel_rfl

end Cert.ConvPreIdeal.Grad

end
-- ==== Proof.ConvPrePointW.lean ====
/- The generated run's stores into the filter's gradient, as the pieces of `ConvPreTiles`. -/
module

public import proofs.«01_k».proof.Proof.ConvPrePoint

@[expose] public section

set_option maxRecDepth 65536

noncomputable section

open Idealize.ShloMosaic Idealize.ShloMosaic.TcCoe Idealize.SL.Sem
open Idealize.ShloMosaic.Pipeline (Dat)

namespace Cert.ConvPreIdeal.Grad

open Cert.ConvPreIdeal Cert.ConvPreIdeal.Gen

variable {F : FTy → Type} [FloatOps F]
variable (m : (ℓ : Loc nD τ sig) → Buf (Elt F) ℓ)

set_option maxHeartbeats 4000000 in
/-- What the first point leaves of the filter's gradient. -/
theorem dw_A (c : Dev nD) (t : Fin cfg0.N) (h0 : t.val % 32 = 0) : (outsAt0 m c t.val t.isLt).2.1
    = View.canon ((blk m c t).piecesW k0_pay2 ++ [⟨Rect.unit ![0, 0] ![4, 3072] (by intro a; fin_cases a <;> simp), k0_pay2⟩]) := by
  rw [outsAt0_A m c t h0]
  frame_open
  dsimp only
  simp (disch := decide) only [↓ View.readCov_skip, ↓ View.readCov_cons_toLoadRect, ↓ View.readCov_fill]
  frame_out
  simp only [View.readCov_eq_canon']
  refine congrArg View.canon ?_
  sl_kernel_rfl

set_option maxHeartbeats 4000000 in
/-- What a later point leaves of it. -/
theorem dw_B (c : Dev nD) (t : Fin cfg0.N) (h0 : ¬ t.val % 32 = 0) : (outsAt0 m c t.val t.isLt).2.1 = View.canon ((blk m c t).piecesW (oldW m c t) ++ []) := by
  rw [outsAt0_B m c t h0]
  frame_open
  dsimp only
  frame_out
  simp only [read_unread_whole, View.readCov_eq_canon']
  refine congrArg View.canon ?_
  sl_kernel_rfl

end Cert.ConvPreIdeal.Grad

end
-- ==== Proof.ConvPreSpec.lean ====
/- The gradient of silu behind a causal convolution of four taps: by the convolution's sums, by the filter and by the bias. -/
module

public import proofs.«01_k».proof.Proof.Blocks
public import Idealize.ShloMosaic.PureOps.Ideal.Laws

@[expose] public section

noncomputable section

open Idealize.ShloMosaic Idealize.ShloMosaic.TcCoe

namespace Cert.ConvPre

/-- The convolution's input, filter and bias, and the cotangent of the silu. -/
structure Args where
  x : Shape.Idx ⟨2, ![16384, 3072]⟩ → EReal
  w : Shape.Idx ⟨2, ![4, 3072]⟩ → EReal
  b : Shape.Idx ⟨1, ![3072]⟩ → EReal
  d : Shape.Idx ⟨2, ![16384, 3072]⟩ → EReal

/-- The input under three rows of zeros: its row `n`. -/
def row (A : Args) (n : ℕ) (q : Fin 3072) : EReal := if h : 3 ≤ n ∧ n < 16387 then A.x (ix2 ⟨n - 3, by omega⟩ q) else 0

/-- The cotangent's row `n`. -/
def ct (A : Args) (n : ℕ) (q : Fin 3072) : EReal := if h : n < 16384 then A.d (ix2 ⟨n, h⟩ q) else 0

/-- The convolution's sum with the bias. -/
def sums (A : Args) (n : ℕ) (q : Fin 3072) : EReal :=
  A.b (ix1 q) + A.w (ix2 0 q) * row A n q + A.w (ix2 1 q) * row A (n + 1) q + A.w (ix2 2 q) * row A (n + 2) q + A.w (ix2 3 q) * row A (n + 3) q

/-- The gradient by the sum: the cotangent times the derivative of silu. -/
def dpre (A : Args) (n : ℕ) (q : Fin 3072) : EReal :=
  ct A n q * (Ideal.logistic (sums A n q) * (1 + sums A n q * (1 - Ideal.logistic (sums A n q))))

/-- What a row adds to the gradient of tap `k`. -/
def term (A : Args) (k : Fin 4) (q : Fin 3072) (n : ℕ) : EReal := dpre A n q * row A (n + k.val) q

/-- The gradients by the filter and by the bias. -/
def dw (A : Args) (k : Fin 4) (q : Fin 3072) : EReal := ∑ r : Fin 16384, term A k q r.val
def db (A : Args) (q : Fin 3072) : EReal := ∑ r : Fin 16384, dpre A r.val q

/-- The rows of one tile, added as the kernel does. -/
def tile (f : ℕ → EReal) (n : ℕ) : EReal := ∑ l : Fin 16, ∑ r : Fin 32, f (n * 512 + 16 * r.val + l.val)

theorem blocks_sum (f : ℕ → EReal) (R : ℕ) : ∑ r ∈ Finset.range R, ∑ l ∈ Finset.range 16, f (16 * r + l) = ∑ x ∈ Finset.range (16 * R), f x := by
  induction R with
  | zero => simp
  | succ R ih => rw [Finset.sum_range_succ, ih, Nat.mul_succ, Finset.sum_range_add]

theorem tile_eq (f : ℕ → EReal) (n : ℕ) : tile f n = ∑ x : Fin 512, f (n * 512 + x.val) := by
  have h := blocks_sum (fun x => f (n * 512 + x)) 32
  rw [← Fin.sum_univ_eq_sum_range (fun x => f (n * 512 + x)) (16 * 32), ← Fin.sum_univ_eq_sum_range (fun r => ∑ l ∈ Finset.range 16, f (n * 512 + (16 * r + l))) 32] at h
  refine Eq.trans ?_ h
  unfold tile
  rw [Finset.sum_comm]
  refine Finset.sum_congr rfl fun r _ => ?_
  rw [← Fin.sum_univ_eq_sum_range (fun l => f (n * 512 + (16 * r.val + l))) 16]
  simp only [Nat.add_assoc]

end Cert.ConvPre

end
-- ==== Proof.ConvPreKernel.lean ====
/- What the results of the convolution's outer gradient hold (`Cert.ConvPre`). -/
module

public import proofs.«01_k».proof.Proof.ConvPrePointW
public import proofs.«01_k».proof.Proof.ConvPreSpec

@[expose] public section

set_option maxRecDepth 16384

noncomputable section

open Idealize.ShloMosaic Idealize.ShloMosaic.TcCoe Idealize.SL.Sem
open Idealize.ShloMosaic.Pipeline (Dat)

namespace Cert.ConvPreIdeal.Grad

open Cert.ConvPreIdeal Cert.ConvPreIdeal.Gen Cert.ConvPre

/-- The blocks hold the rows of tile `n`, the eight rows before them, the filter and the bias. -/
structure Fits (A : Args) (n : ℕ) (B : Blk Ideal) : Prop where
  x : ∀ (l : Fin 512) (q : Fin 3072), B.x (ix2 l q) = row A (n * 512 + l.val + 3) q
  d : ∀ (l : Fin 512) (q : Fin 3072), B.d (ix2 l q) = ct A (n * 512 + l.val) q
  h : ∀ (l : Fin 8) (q : Fin 3072), k0_pay4 (F := Ideal) B.i B.h (ix2 l q) = row A (n * 512 + l.val - 5) q
  w : ∀ (k : Fin 4) (q : Fin 3072), B.w (ix2 k q) = A.w (ix2 k q)
  b : ∀ (q : Fin 3072), B.b (ix2 0 q) = A.b (ix1 q)

/-- A column of a strip. -/
abbrev col (j : Fin 12) (q : Fin 256) : Fin 3072 := ⟨256 * j.val + q.val, by omega⟩

/-- Blocks summed one after another, at an index. -/
theorem fold_at (g : Fin 32 → FVec Ideal S16x256 .f32) (y : S16x256.Idx) : ∀ (L : List (Fin 32)) (s : FVec Ideal S16x256 .f32),
    L.foldl (fun s r => addf s (g r)) s y = (s y + (L.map fun r => g r y).sum : EReal)
  | [], s => (add_zero (s y : EReal)).symm
  | r :: L, s => (fold_at g y L (addf s (g r))).trans (add_assoc (s y : EReal) (g r y) _)

theorem rows_eq : List.finRange 32 = 0 :: Blk.later := by decide

theorem sum_at (g : Fin 32 → FVec Ideal S16x256 .f32) (y : S16x256.Idx) :
    Blk.later.foldl (fun s r => addf s (g r)) (g 0) y = (∑ r : Fin 32, g r y : EReal) := by
  refine (fold_at _ _ _ _).trans ?_
  rw [Fin.sum_univ_def, rows_eq]
  exact List.sum_cons.symm

/-- The column sums of a block, added to what a row held. -/
theorem colsum_at (s : FVec Ideal S16x256 .f32) (o : FVec Ideal S1x256 .f32) (q : Fin 256) :
    k0_pay1 s (k0_pay4431 o) (ix2 0 q) = (o (ix2 0 q) + ∑ l : Fin 16, s (ix2 l q) : EReal) := by
  pointwise [k0_pay1, k0_pay4431]

namespace Fits
variable {A : Args} {n : ℕ} {B : Blk Ideal} (H : Fits A n B)
include H

theorem first_at (l : Fin 16) (q : Fin 3072) : k0_pay5 (F := Ideal) (View.ld B.x (Rect.unit ![0, 0] ![16, 3072] (by intro a; fin_cases a <;> simp))) (ix2 l q)
    = row A (n * 512 + (8 + l.val) - 5) q := by
  pointwise [k0_pay5]
  rw [H.x]; exact congrArg (row A · q) (by simp only; omega)

theorem ext_at (l : Fin 24) (q : Fin 3072) : B.ext (ix2 l q) = row A (n * 512 + l.val - 5) q := by
  have h := View.canon_append_of_pieces (Val := Elt Ideal) (fun y : S24x3072.Idx => row A (n * 512 + (y 0).val - 5) (y 1)) []
    [(⟨Rect.unit ![8, 0] ![16, 3072] (by intro a; fin_cases a <;> simp),
      k0_pay5 (View.ld B.x (Rect.unit ![0, 0] ![16, 3072] (by intro a; fin_cases a <;> simp)))⟩ : View.Piece (Elt Ideal) S24x3072 .f32),
      ⟨Rect.unit ![0, 0] ![8, 3072] (by intro a; fin_cases a <;> simp), k0_pay4 B.i B.h⟩] ?_ (ix2 l q) ?_
  · exact h
  · intro p hp x
    rcases List.mem_cons.mp hp with rfl | hp
    · refine Eq.trans (congrArg (k0_pay5 (F := Ideal) (View.ld B.x (Rect.unit ![0, 0] ![16, 3072] (by intro a; fin_cases a <;> simp)))) (Blocks.idx2_ext (y := ix2 (x 0) (x 1)) rfl rfl)) ((H.first_at (x 0) (x 1)).trans ?_)
      refine congrArg₂ (row A) ?_ (Fin.ext ?_)
      · simp [Rect.emb_apply]
      · simp [Rect.emb_apply]
    · obtain rfl := List.mem_singleton.mp hp
      refine Eq.trans (congrArg (k0_pay4 (F := Ideal) B.i B.h) (Blocks.idx2_ext (y := ix2 (x 0) (x 1)) rfl rfl)) ((H.h (x 0) (x 1)).trans ?_)
      refine congrArg₂ (row A) ?_ (Fin.ext ?_)
      · simp [Rect.emb_apply]
      · simp [Rect.emb_apply]
  · by_cases hl : l.val < 8
    · refine ⟨_, List.mem_cons_of_mem _ List.mem_cons_self, ?_⟩
      rw [Rect.mem_set_unit]
      intro a; fin_cases a <;> simp <;> omega
    · refine ⟨_, List.mem_cons_self, ?_⟩
      rw [Rect.mem_set_unit]
      intro a; fin_cases a <;> simp <;> omega

theorem base_at (r : Fin 32) (j : Fin 12) (l : Fin 24) (q : Fin 256) : B.base r j (ix2 l q) = row A (n * 512 + 16 * r.val + l.val - 5) (col j q) := by
  unfold Blk.base
  split
  · next h =>
    refine Eq.trans (Blocks.ld_eq _ _ _ (ix2 ⟨16 * r.val - 8 + l.val, by omega⟩ (col j q)) (Blocks.idx2_ext (by simp [Rect.emb_apply]) (by simp [Rect.emb_apply]))) ?_
    rw [H.x]; exact congrArg (row A · _) (by simp only; omega)
  · next h =>
    refine Eq.trans (congrArg B.ext (Blocks.idx2_ext (y := ix2 l (col j q)) ?_ ?_)) ((H.ext_at l (col j q)).trans (congrArg (row A · _) (by omega)))
    · simp [LoadRect.idx, Rect.toLoadRect]
    · simp [LoadRect.idx, Rect.toLoadRect]

theorem win_at (r : Fin 32) (j : Fin 12) (k : Fin 4) (l : Fin 16) (q : Fin 256) :
    B.win r j k (ix2 l q) = row A (n * 512 + 16 * r.val + l.val + k.val) (col j q) := by
  have hb := fun l => H.base_at r j l q
  have e0 : B.win r j 0 (ix2 l q) = row A (n * 512 + 16 * r.val + l.val + 0) (col j q) := by
    unfold Blk.win
    generalize B.base r j = b at *
    pointwise [k0_pay4200]
    rw [hb]; exact congrArg (row A · _) (by simp only; omega)
  have e1 : B.win r j 1 (ix2 l q) = row A (n * 512 + 16 * r.val + l.val + 1) (col j q) := by
    unfold Blk.win
    generalize B.base r j = b at *
    pointwise [k0_pay4201]
    rw [hb]; exact congrArg (row A · _) (by simp only; omega)
  have e2 : B.win r j 2 (ix2 l q) = row A (n * 512 + 16 * r.val + l.val + 2) (col j q) := by
    unfold Blk.win
    generalize B.base r j = b at *
    pointwise [k0_pay4202]
    rw [hb]; exact congrArg (row A · _) (by simp only; omega)
  have e3 : B.win r j 3 (ix2 l q) = row A (n * 512 + 16 * r.val + l.val + 3) (col j q) := by
    unfold Blk.win
    generalize B.base r j = b at *
    pointwise [k0_pay4203]
    rw [hb]; exact congrArg (row A · _) (by simp only; omega)
  fin_cases k
  exacts [e0, e1, e2, e3]

theorem tap_at (j : Fin 12) (k : Fin 4) (q : Fin 256) : B.tap j k (ix2 0 q) = A.w (ix2 k (col j q)) :=
  (Blocks.ld_eq _ _ _ (ix2 k (col j q)) (Blocks.idx2_ext (by simp [Rect.emb_apply]) (by simp [Rect.emb_apply]))).trans (H.w k _)
theorem bias_at (j : Fin 12) (q : Fin 256) : B.bias j (ix2 0 q) = A.b (ix1 (col j q)) :=
  (Blocks.ld_eq _ _ _ (ix2 0 (col j q)) (Blocks.idx2_ext (by simp [Rect.emb_apply]) (by simp [Rect.emb_apply]))).trans (H.b _)
theorem ct_at (r : Fin 32) (j : Fin 12) (l : Fin 16) (q : Fin 256) : B.ct r j (ix2 l q) = ct A (n * 512 + 16 * r.val + l.val) (col j q) :=
  (Blocks.ld_eq _ _ _ (ix2 ⟨16 * r.val + l.val, by omega⟩ (col j q)) (Blocks.idx2_ext (by simp [Rect.emb_apply]) (by simp [Rect.emb_apply]))).trans
    ((H.d _ _).trans (congrArg (ct A · _) (by simp only; omega)))

theorem dp_at (r : Fin 32) (j : Fin 12) (l : Fin 16) (q : Fin 256) : B.dp r j (ix2 l q) = dpre A (n * 512 + 16 * r.val + l.val) (col j q) := by
  unfold Blk.dp
  have t0 := H.tap_at j 0 q
  have t1 := H.tap_at j 1 q
  have t2 := H.tap_at j 2 q
  have t3 := H.tap_at j 3 q
  have tb := H.bias_at j q
  have td := H.ct_at r j l q
  have w0 : k0_pay4200 (B.base r j) (ix2 l q) = _ := H.win_at r j 0 l q
  have w1 : k0_pay4201 (B.base r j) (ix2 l q) = _ := H.win_at r j 1 l q
  have w2 : k0_pay4202 (B.base r j) (ix2 l q) = _ := H.win_at r j 2 l q
  have w3 : k0_pay4203 (B.base r j) (ix2 l q) = _ := H.win_at r j 3 l q
  generalize B.tap j 0 = v0 at *
  generalize B.tap j 1 = v1 at *
  generalize B.tap j 2 = v2 at *
  generalize B.tap j 3 = v3 at *
  generalize B.bias j = vb at *
  generalize B.ct r j = vd at *
  generalize B.base r j = b at *
  pointwise [k0_pay4204]
  simp only [t0, t1, t2, t3, tb, td, w0, w1, w2, w3]
  rfl

theorem sumD_at (j : Fin 12) (l : Fin 16) (q : Fin 256) : B.sumD j (ix2 l q) = ∑ r : Fin 32, dpre A (n * 512 + 16 * r.val + l.val) (col j q) :=
  (sum_at (fun r => B.dp r j) (ix2 l q)).trans (Finset.sum_congr rfl fun r _ => H.dp_at r j l q)

theorem sumW_at (j : Fin 12) (k : Fin 4) (l : Fin 16) (q : Fin 256) : B.sumW j k (ix2 l q) = ∑ r : Fin 32, term A k (col j q) (n * 512 + 16 * r.val + l.val) :=
  (sum_at (fun r => mulf (B.dp r j) (B.win r j k)) (ix2 l q)).trans (Finset.sum_congr rfl fun r _ => congrArg₂ (· * · : EReal → EReal → EReal) (H.dp_at r j l q) (H.win_at r j k l q))

end Fits

theorem mem_rows (r : Fin 32) : r ∈ Blk.rows := by revert r; decide
theorem mem_strips (j : Fin 12) : j ∈ Blk.strips := by revert j; decide
theorem mem_taps (k : Fin 4) : k ∈ Blk.taps := by revert k; decide

/-- The stored blocks, read back. -/
theorem canon_dp {A : Args} {n : ℕ} {B : Blk Ideal} (H : Fits A n B) (z : S512x3072.Idx) :
    View.canon B.piecesP z = dpre A (n * 512 + (z 0).val) (z 1) := by
  have l0 : (z 0).val < 512 := (z 0).isLt
  have l1 : (z 1).val < 3072 := (z 1).isLt
  have h := View.canon_append_of_pieces (Val := Elt Ideal) (fun y : S512x3072.Idx => dpre A (n * 512 + (y 0).val) (y 1)) [] B.piecesP ?_ z
    ⟨B.pieceP ⟨(z 1).val / 256, by omega⟩ ⟨(z 0).val / 16, by omega⟩, List.mem_flatMap.mpr ⟨_, mem_strips _, List.mem_map_of_mem (mem_rows _)⟩, ?_⟩
  · rwa [List.append_nil] at h
  · intro p hp x
    obtain ⟨j, _, hp⟩ := List.mem_flatMap.mp hp
    obtain ⟨r, _, rfl⟩ := List.mem_map.mp hp
    refine Eq.trans (congrArg (B.dp r j) (Blocks.idx2_ext (y := ix2 (x 0) (x 1)) rfl rfl)) ((H.dp_at r j (x 0) (x 1)).trans ?_)
    refine congrArg₂ (dpre A) ?_ (Fin.ext ?_)
    · simp [Rect.emb_apply]; omega
    · simp [Rect.emb_apply]
  · rw [Rect.mem_set_unit]
    intro a; fin_cases a <;> simp <;> omega

/-- The filter's gradient after a tile: what was there, and the tile's sum. -/
theorem canon_dw {A : Args} {n : ℕ} {B : Blk Ideal} (H : Fits A n B) (o : Vec Ideal S4x3072 .f32) (rest : List (View.Piece (Elt Ideal) S4x3072 .f32)) (z : S4x3072.Idx) :
    View.canon (B.piecesW o ++ rest) z = (o z + tile (term A (z 0) (z 1)) n : EReal) := by
  have l1 : (z 1).val < 3072 := (z 1).isLt
  refine View.canon_append_of_pieces (Val := Elt Ideal) (fun y : S4x3072.Idx => (o y + tile (term A (y 0) (y 1)) n : EReal)) rest (B.piecesW o) ?_ z
    ⟨B.pieceW o ⟨(z 1).val / 256, by omega⟩ (z 0), List.mem_flatMap.mpr ⟨_, mem_strips _, List.mem_map_of_mem (mem_taps _)⟩, ?_⟩
  · intro p hp x
    obtain ⟨j, _, hp⟩ := List.mem_flatMap.mp hp
    obtain ⟨k, _, rfl⟩ := List.mem_map.mp hp
    have x0 : (x 0).val = 0 := by have : (x 0).val < 1 := (x 0).isLt; omega
    have e : (Rect.unit (s := S4x3072) ![k.val, 256 * j.val] ![1, 256] (inb_w k j)).emb x = ix2 k (col j (x 1)) :=
      Blocks.idx2_ext (by simp [Rect.emb_apply, x0]) (by simp [Rect.emb_apply])
    show (B.pieceW o j k).2 x = _
    rw [e]
    refine Eq.trans (congrArg (B.pieceW o j k).2 (Blocks.idx2_ext (y := ix2 0 (x 1)) x0 rfl)) ((colsum_at _ _ (x 1)).trans ?_)
    refine congrArg₂ (· + · : EReal → EReal → EReal) (Blocks.ld_eq _ _ _ _ ?_) (Finset.sum_congr rfl fun l _ => H.sumW_at j k l (x 1))
    exact Blocks.idx2_ext (by simp [Rect.emb_apply]) (by simp [Rect.emb_apply])
  · rw [Rect.mem_set_unit]
    intro a; fin_cases a <;> simp <;> omega

theorem canon_db {A : Args} {n : ℕ} {B : Blk Ideal} (H : Fits A n B) (o : Vec Ideal S1x3072 .f32) (rest : List (View.Piece (Elt Ideal) S1x3072 .f32)) (z : S1x3072.Idx) :
    View.canon (B.piecesB o ++ rest) z = (o z + tile (fun r => dpre A r (z 1)) n : EReal) := by
  have l0 : (z 0).val < 1 := (z 0).isLt
  have l1 : (z 1).val < 3072 := (z 1).isLt
  refine View.canon_append_of_pieces (Val := Elt Ideal) (fun y : S1x3072.Idx => (o y + tile (fun r => dpre A r (y 1)) n : EReal)) rest (B.piecesB o) ?_ z
    ⟨B.pieceB o ⟨(z 1).val / 256, by omega⟩, List.mem_map_of_mem (mem_strips _), ?_⟩
  · intro p hp x
    obtain ⟨j, _, rfl⟩ := List.mem_map.mp hp
    have x0 : (x 0).val = 0 := by have : (x 0).val < 1 := (x 0).isLt; omega
    have e : (Rect.unit (s := S1x3072) ![0, 256 * j.val] ![1, 256] (inb_b j)).emb x = ix2 0 (col j (x 1)) :=
      Blocks.idx2_ext (by simp [Rect.emb_apply, x0]) (by simp [Rect.emb_apply])
    show (B.pieceB o j).2 x = _
    rw [e]
    refine Eq.trans (congrArg (B.pieceB o j).2 (Blocks.idx2_ext (y := ix2 0 (x 1)) x0 rfl)) ((colsum_at _ _ (x 1)).trans ?_)
    refine congrArg₂ (· + · : EReal → EReal → EReal) (Blocks.ld_eq _ _ _ _ ?_) (Finset.sum_congr rfl fun l _ => H.sumD_at j l (x 1))
    exact Blocks.idx2_ext (by simp [Rect.emb_apply]) (by simp [Rect.emb_apply])
  · rw [Rect.mem_set_unit]
    intro a; fin_cases a <;> simp <;> omega

end Cert.ConvPreIdeal.Grad

end
-- ==== Proof.ConvPreFinal.lean ====
/- The three arrays that the convolution's outer gradient leaves (`Cert.ConvPre`). -/
module

public import proofs.«01_k».proof.Proof.ConvPreKernel

@[expose] public section

set_option maxRecDepth 16384

noncomputable section

open Idealize.ShloMosaic Idealize.ShloMosaic.TcCoe Idealize.SL.Sem
open Idealize.ShloMosaic.Pipeline (Dat)

namespace Cert.ConvPreIdeal.Grad

open Cert.ConvPreIdeal Cert.ConvPreIdeal.Gen Cert.ConvPre

variable (m : (ℓ : Loc nD τ sig) → Buf (Elt Ideal) ℓ)

/-- The arguments in memory. -/
def args (c : Dev nD) : Args := ⟨m ((c.tc : Thread nD τ).loc main_arg0), m ((c.tc : Thread nD τ).loc main_arg1),
  m ((c.tc : Thread nD τ).loc main_arg2), m ((c.tc : Thread nD τ).loc main_arg3)⟩

theorem t_lt (t : Fin cfg0.N) : t.val < 32 := lt_of_lt_of_eq t.isLt N_0

theorem row_in (A : Args) (n : ℕ) (h : 3 ≤ n ∧ n < 16387) (q : Fin 3072) : row A n q = A.x (ix2 ⟨n - 3, by omega⟩ q) := dif_pos h
theorem row_out (A : Args) (n : ℕ) (h : ¬ (3 ≤ n ∧ n < 16387)) (q : Fin 3072) : row A n q = 0 := dif_neg h
theorem ct_in (A : Args) (n : ℕ) (h : n < 16384) (q : Fin 3072) : ct A n q = A.d (ix2 ⟨n, h⟩ q) := dif_pos h

/-- Which block each window takes at each point. -/
theorem idx_val : ∀ t : Fin cfg0.N, win0_0.index t = ![t.val, 0] ∧ win0_1.index t = ![t.val, 0] ∧ win0_3.index t = ![0, 0] ∧ win0_4.index t = ![0, 0]
    ∧ win0_5.index t = ![t.val, 0] ∧ win0_6.index t = ![0, 0] ∧ win0_7.index t = ![0, 0] :=
  (by decide +kernel : ∀ t : Fin grid0.N, _)
theorem idx_prev : ∀ t : Fin cfg0.N, 0 < t.val → win0_2.index t = ![t.val * 64 - 1, 0] :=
  (by decide +kernel : ∀ t : Fin grid0.N, 0 < t.val → _)

theorem read_x (v : S16384x3072.Idx → Elt Ideal .f32) (t : Fin cfg0.N) (l : Fin 512) (q : Fin 3072) (h : t.val * 512 + l.val < 16384) :
    ((cfg0.win 0).blk t).view.read (Elt Ideal) v (ix2 l q) = v (ix2 ⟨t.val * 512 + l.val, h⟩ q) :=
  congrArg v (Blocks.idx2_ext (by blk_point [idx_val t]) (by blk_point [idx_val t]))
theorem read_d (v : S16384x3072.Idx → Elt Ideal .f32) (t : Fin cfg0.N) (l : Fin 512) (q : Fin 3072) (h : t.val * 512 + l.val < 16384) :
    ((cfg0.win 1).blk t).view.read (Elt Ideal) v (ix2 l q) = v (ix2 ⟨t.val * 512 + l.val, h⟩ q) :=
  congrArg v (Blocks.idx2_ext (by blk_point [idx_val t]) (by blk_point [idx_val t]))
theorem read_h (v : S16384x3072.Idx → Elt Ideal .f32) (t : Fin cfg0.N) (l : Fin 8) (q : Fin 3072) (ht : 0 < t.val) (h : (t.val * 64 - 1) * 8 + l.val < 16384) :
    ((cfg0.win 2).blk t).view.read (Elt Ideal) v (ix2 l q) = v (ix2 ⟨(t.val * 64 - 1) * 8 + l.val, h⟩ q) :=
  congrArg v (Blocks.idx2_ext (by blk_point [idx_prev t ht]) (by blk_point [idx_prev t ht]))
theorem read_w (v : S4x3072.Idx → Elt Ideal .f32) (t : Fin cfg0.N) (k : Fin 4) (q : Fin 3072) :
    ((cfg0.win 3).blk t).view.read (Elt Ideal) v (ix2 k q) = v (ix2 k q) :=
  congrArg v (Blocks.idx2_ext (by blk_point [idx_val t]) (by blk_point [idx_val t]))

/-- The bias reaches the kernel as one row. -/
theorem bias_read (c : Dev nD) (t : Fin cfg0.N) (q : Fin 3072) : iblk m c 4 t (ix2 0 q) = (args m c).b (ix1 q) := by
  unfold args
  blk_point [iblk, V, idx_val t]

theorem first_word : ∀ n : Fin 32, Scalar.cmpi .eq (BitVec.ofNat 32 n.val) 0#32 = if n.val = 0 then 1#1 else 0#1 := by decide
theorem place (t : Fin cfg0.N) : (grid0.coords t 0).val = t.val := by revert t; decide +kernel

theorem fits (c : Dev nD) (t : Fin cfg0.N) : Fits (args m c) t.val (blk m c t) where
  x l q := by
    have ht := t_lt t
    rw [row_in _ _ (by omega)]
    unfold blk iblk
    exact ((read_x (V m c main_arg0) t l q (by omega)).trans (congrFun (V_main_arg0 m c) _)).trans
      (congrArg (args m c).x (Blocks.idx2_ext (by show t.val * 512 + l.val = t.val * 512 + l.val + 3 - 3; omega) rfl))
  d l q := by
    have ht := t_lt t
    rw [ct_in _ _ (by omega)]
    unfold blk iblk
    exact (read_d (V m c main_arg3) t l q (by omega)).trans (congrFun (V_main_arg3 m c) _)
  h l q := by
    have ht := t_lt t
    have e : k0_pay4 (F := Ideal) (blk m c t).i (blk m c t).h (ix2 l q) = if t.val = 0 then (0 : EReal) else iblk m c 2 t (ix2 l q) := by
      pointwise [k0_pay4]
      rw [place, first_word ⟨t.val, ht⟩]
      by_cases h : t.val = 0 <;> simp [h, Scalar.select]
    rw [e]
    split
    · next h => rw [row_out _ _ (by omega)]
    · next h =>
      rw [row_in _ _ (by omega)]
      unfold iblk
      exact ((read_h (V m c main_arg0) t l q (by omega) (by omega)).trans (congrFun (V_main_arg0 m c) _)).trans
        (congrArg (args m c).x (Blocks.idx2_ext (by show (t.val * 64 - 1) * 8 + l.val = t.val * 512 + l.val - 5 - 3; omega) rfl))
  w k q := by
    unfold blk iblk
    exact (read_w (V m c main_arg1) t k q).trans (congrFun (V_main_arg1 m c) _)
  b q := bias_read m c t q

/-- What the buffers of a point hold, at an index. -/
theorem dp_point (c : Dev nD) (t : Fin cfg0.N) (z : S512x3072.Idx) : (outsAt0 m c t.val t.isLt).1 z = dpre (args m c) (t.val * 512 + (z 0).val) (z 1) := by
  by_cases h : t.val % 32 = 0
  · rw [dp_A m c t h]; exact canon_dp (fits m c t) z
  · rw [dp_B m c t h]; exact canon_dp (fits m c t) z

theorem dw_first (c : Dev nD) (t : Fin cfg0.N) (h : t.val % 32 = 0) (y : S4x3072.Idx) :
    (outsAt0 m c t.val t.isLt).2.1 y = (0 : EReal) + ∑ i : Fin 512, term (args m c) (y 0) (y 1) (t.val * 512 + i.val) := by
  rw [dw_A m c t h, canon_dw (fits m c t), tile_eq]
  exact congrArg (· + _) (by pointwise [k0_pay2])
theorem dw_next (c : Dev nD) (t : Fin cfg0.N) (h : ¬ t.val % 32 = 0) (y : S4x3072.Idx) :
    (outsAt0 m c t.val t.isLt).2.1 y = (outsAt0 m c (t.val - 1) (Nat.lt_of_le_of_lt (Nat.sub_le _ _) t.isLt)).2.1 y
      + ∑ i : Fin 512, term (args m c) (y 0) (y 1) (t.val * 512 + i.val) := by
  rw [dw_B m c t h, canon_dw (fits m c t), tile_eq]
theorem db_first (c : Dev nD) (t : Fin cfg0.N) (h : t.val % 32 = 0) (y : S1x3072.Idx) :
    (outsAt0 m c t.val t.isLt).2.2 y = (0 : EReal) + ∑ i : Fin 512, dpre (args m c) (t.val * 512 + i.val) (y 1) := by
  rw [db_A m c t h, canon_db (fits m c t), tile_eq]
  exact congrArg (· + _) (by pointwise [k0_pay3])
theorem db_next (c : Dev nD) (t : Fin cfg0.N) (h : ¬ t.val % 32 = 0) (y : S1x3072.Idx) :
    (outsAt0 m c t.val t.isLt).2.2 y = (outsAt0 m c (t.val - 1) (Nat.lt_of_le_of_lt (Nat.sub_le _ _) t.isLt)).2.2 y
      + ∑ i : Fin 512, dpre (args m c) (t.val * 512 + i.val) (y 1) := by
  rw [db_B m c t h, canon_db (fits m c t), tile_eq]

/-- The three arrays of the program's end. -/
def outP (A : Args) (x : S16384x3072.Idx) : EReal := dpre A (x 0).val (x 1)
def outW (A : Args) (x : S4x3072.Idx) : EReal := dw A (x 0) (x 1)
def outB (A : Args) (x : S1x3072.Idx) : EReal := db A (x 1)

theorem final_dp (c : Dev nD) : (dats m 0 c).arrAt 5 cfg0.N = outP (args m c) := by
  refine (dats m 0 c).arrAt_eq_of_covers 5 (outP (args m c)) (by decide +kernel) fun t hf z => ?_
  blk_simp
  rw [after0_5, dp_point]
  refine congrArg₂ (dpre (args m c)) ?_ (Fin.ext ?_)
  · blk_point [idx_val t]
  · blk_point [idx_val t]

theorem final_dw (c : Dev nD) : (dats m 0 c).arrAt 6 cfg0.N = outW (args m c) := by
  refine (dats m 0 c).arrAt_eq_of_covers 6 (outW (args m c)) (by decide +kernel) fun t hf y => ?_
  blk_simp
  rw [after0_6, Pipeline.eq_sum_fin_of_reset_step_apply_of_flush (fun n h => (outsAt0 m c n h).2.1) 32 (fun _ => 0) _
    (fun t h j => dw_first m c t h j) (fun t h j => dw_next m c t h j) t ((flush0_6 t).mp hf) _, zero_add]
  refine Fin.sum_mul_add_congr fun s k hl => ?_
  have ht := t_lt t
  have e : (32 * (t.val / 32) + s.val) * 512 + k.val = s.val * 512 + k.val := by omega
  show term _ _ _ ((32 * (t.val / 32) + s.val) * 512 + k.val) = term _ _ _ (s.val * 512 + k.val)
  rw [e]
  refine congrArg₂ (fun a b => term (args m c) a b _) (Fin.ext ?_) (Fin.ext ?_)
  · blk_point [idx_val t]
  · blk_point [idx_val t]

theorem final_db (c : Dev nD) : (dats m 0 c).arrAt 7 cfg0.N = outB (args m c) := by
  refine (dats m 0 c).arrAt_eq_of_covers 7 (outB (args m c)) (by decide +kernel) fun t hf y => ?_
  blk_simp
  rw [after0_7, Pipeline.eq_sum_fin_of_reset_step_apply_of_flush (fun n h => (outsAt0 m c n h).2.2) 32 (fun _ => 0) _
    (fun t h j => db_first m c t h j) (fun t h j => db_next m c t h j) t ((flush0_7 t).mp hf) _, zero_add]
  refine Fin.sum_mul_add_congr fun s k hl => ?_
  have ht := t_lt t
  have e : (32 * (t.val / 32) + s.val) * 512 + k.val = s.val * 512 + k.val := by omega
  show dpre _ ((32 * (t.val / 32) + s.val) * 512 + k.val) _ = dpre _ (s.val * 512 + k.val) _
  rw [e]
  refine congrArg (dpre (args m c) _) (Fin.ext ?_)
  blk_point [idx_val t]

/-- The kernel's run: the results, and the arguments as they were. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v1_0) = outP (args m c)
      ∧ r.2.mem ((c.tc : Thread nD τ).loc main_v1_1) = outW (args m c)
      ∧ r.2.mem ((c.tc : Thread nD τ).loc main_v1_2) = outB (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans (final_dp m c), ((h c).1 6).trans (final_dw m c), ((h c).1 7).trans (final_db m c),
    ((h c).1 2).trans (((dats m 0 c).arrAt_in 2 rfl _).trans ((A_eq m c 2).trans (V_main_arg0 m c))),
    ((h c).1 3).trans (((dats m 0 c).arrAt_in 3 rfl _).trans ((A_eq m c 3).trans (V_main_arg1 m c))),
    ((h c).2 main_arg2 (Pipeline.mem_restRefs_of main_arg2 (by decide) (by decide))).trans (V_main_arg2 m c),
    ((h c).1 1).trans (((dats m 0 c).arrAt_in 1 rfl _).trans ((A_eq m c 1).trans (V_main_arg3 m c)))⟩) (run_main m ρ)

end Cert.ConvPreIdeal.Grad

end
-- ==== Proof.ConvPreRef.lean ====
/- What the reference's results hold: the gradients of silu behind the convolution (`Cert.ConvPre`). -/
module

public import proofs.«01_k».proof.Proof.ConvPreSpec
public import proofs.«01_k».proof.Proof.Reals
public import proofs.«01_k».proof.Proof.Gen.ConvPreRefIdeal.Read
public import Idealize.ShloMosaic.Lib.KernelVsHost

@[expose] public section

set_option maxRecDepth 16384

noncomputable section

open Idealize.ShloMosaic Idealize.ShloMosaic.TcCoe Idealize.SL.Sem

namespace Cert.ConvPreRefIdeal.Grad

open Cert.ConvPreRefIdeal Cert.ConvPreRefIdeal.Read Cert.ConvPre

/-- The derivative of silu, as the sum of two products, against the short form: the sum may be infinite, the cotangent may not. -/
theorem silu_grad (p d : EReal) (hd : Reals.Fin1 d) :
    d * Ideal.logistic p + p * d * (Ideal.logistic p * (1 - Ideal.logistic p)) = d * (Ideal.logistic p * (1 + p * (1 - Ideal.logistic p))) := by
  obtain ⟨d, rfl⟩ := hd
  induction p with
  | bot => simp
  | top =>
    have h : (1 - 1 : EReal) = 0 := by rw [← EReal.coe_one, ← EReal.coe_sub, sub_self, EReal.coe_zero]
    simp [h]
  | coe p =>
    rw [Ideal.logistic_coe]
    have e1 : (1 : EReal) = ((1 : ℝ) : EReal) := rfl
    simp only [e1, ← EReal.coe_mul, ← EReal.coe_add, ← EReal.coe_sub]
    exact congrArg _ (by ring)

variable (A : Args)

/-- The padded input. -/
theorem padded_at (n : Fin 16387) (q : Fin 3072) : val_main_v1 (F := Ideal) A.x (ix2 n q) = row A n.val q := by
  pointwise [val_main_v1, val_main_v0, val_main_cst]
  unfold row
  have hn := n.isLt
  by_cases h : n.val < 3
  · rw [dif_pos h, dif_neg (by omega)]
  · rw [dif_neg h, dif_pos (by omega)]

theorem sums_at (r : Fin 16384) (q : Fin 3072) : val_main_v33 (F := Ideal) A.x A.w A.b (ix2 r q) = sums A r.val q := by
  have p0 : val_main_v2 (F := Ideal) A.x (ix2 r q) = row A r.val q := by
    pointwise [val_main_v2, padded_at]
  have p1 : val_main_v10 (F := Ideal) A.x (ix2 r q) = row A (r.val + 1) q := by
    pointwise [val_main_v10, padded_at]
    exact congrArg (row A · q) (Nat.add_comm _ _)
  have p2 : val_main_v17 (F := Ideal) A.x (ix2 r q) = row A (r.val + 2) q := by
    pointwise [val_main_v17, padded_at]
    exact congrArg (row A · q) (Nat.add_comm _ _)
  have p3 : val_main_v24 (F := Ideal) A.x (ix2 r q) = row A (r.val + 3) q := by
    pointwise [val_main_v24, padded_at]
    exact congrArg (row A · q) (Nat.add_comm _ _)
  have w0 : val_main_v6 (F := Ideal) A.w (ix2 r q) = A.w (ix2 0 q) := by pointwise [val_main_v6, val_main_v5, val_main_v4, val_main_v3]
  have w1 : val_main_v14 (F := Ideal) A.w (ix2 r q) = A.w (ix2 1 q) := by pointwise [val_main_v14, val_main_v13, val_main_v12, val_main_v11]
  have w2 : val_main_v21 (F := Ideal) A.w (ix2 r q) = A.w (ix2 2 q) := by pointwise [val_main_v21, val_main_v20, val_main_v19, val_main_v18]
  have w3 : val_main_v28 (F := Ideal) A.w (ix2 r q) = A.w (ix2 3 q) := by pointwise [val_main_v28, val_main_v27, val_main_v26, val_main_v25]
  have hb : val_main_v32 (F := Ideal) A.b (ix2 r q) = A.b (ix1 q) := by pointwise [val_main_v32, val_main_v31]
  have e : val_main_v33 (F := Ideal) A.x A.w A.b (ix2 r q) = (((0 + row A r.val q * A.w (ix2 0 q)) + row A (r.val + 1) q * A.w (ix2 1 q))
      + row A (r.val + 2) q * A.w (ix2 2 q)) + row A (r.val + 3) q * A.w (ix2 3 q) + A.b (ix1 q) := by
    pointwise [val_main_v33, val_main_v30, val_main_v29, val_main_v23, val_main_v22, val_main_v16, val_main_v15, val_main_v9, val_main_v8, val_main_v7, val_main_cst_0, p0, p1, p2, p3, w0, w1, w2, w3, hb]
  rw [e, zero_add]
  unfold sums
  ac_rfl

theorem ct_at (r : Fin 16384) (q : Fin 3072) : ct A r.val q = A.d (ix2 r q) := dif_pos r.isLt

/-- One row of the filter's gradient among zeros. -/
theorem pad_at (lo hi : ℕ) (x : S1x3072.Idx → EReal) (z : S_.Idx → EReal) (hz : ∀ i, z i = 0)
    (h : S1x3072.Pads ![lo, 0] ![hi, 0] ![0, 0] S4x3072) (hu : 0 < S_.numel) (k : Fin 4) (q : Fin 3072) :
    pad S4x3072 ![lo, 0] ![hi, 0] ![0, 0] x z h hu (ix2 k q) = if k.val = lo then x (ix2 0 q) else 0 := by
  split
  · next hk =>
    refine pad_apply_of_inside _ _ _ x z h hu _ (ix2 0 q) fun a => ?_
    fin_cases a
    · show k.val = lo + 0 * (0 + 1); omega
    · show q.val = 0 + q.val * (0 + 1); omega
  · next hk =>
    refine (pad_apply_of_not_inside _ _ _ x z h hu _ 0 ?_).trans (hz _)
    rintro ⟨h1, _, h3⟩
    have h1 : lo ≤ k.val := h1
    have h3 : (k.val - lo) / (0 + 1) < 1 := h3
    omega

variable (hd : ∀ i, Reals.Fin1 (A.d i))
include hd

theorem dpre_at (r : Fin 16384) (q : Fin 3072) : val_main_v35 (F := Ideal) A.x A.w A.b A.d (ix2 r q) = dpre A r.val q := by
  have s : val_main_v34_2 (F := Ideal) A.x A.w A.b (ix2 r q) = Ideal.logistic (sums A r.val q) := by
    pointwise [val_main_v34_2, val_main_call0_v4, val_main_call0_v3, val_main_call0_v2, val_main_call0_v1, val_main_call0_v0, val_main_call0_cst, val_main_call0_cst_0, sums_at]
    rfl
  have e : val_main_v35 (F := Ideal) A.x A.w A.b A.d (ix2 r q) = A.d (ix2 r q) * Ideal.logistic (sums A r.val q)
      + sums A r.val q * A.d (ix2 r q) * (Ideal.logistic (sums A r.val q) * (1 - Ideal.logistic (sums A r.val q))) := by
    pointwise [val_main_v35, val_main_call1_v0, val_main_call1_v1, val_main_call1_v2, val_main_v34_1, val_main_call0_v7, val_main_call0_v6, val_main_call0_cst_1, s, sums_at]
  rw [e, silu_grad _ _ (hd _), ← ct_at A]
  rfl

theorem db_at (q : Fin 3072) : val_main_v66 (F := Ideal) A.x A.w A.b A.d (ix2 0 q) = db A q := by
  pointwise [val_main_v66, val_main_v38, val_main_v37, val_main_v36, val_main_cst_1, val_main_cst_2]
  exact (Fin.sum_univ_one _).trans (Finset.sum_congr rfl fun r _ => dpre_at A hd r q)

theorem dw_at (k : Fin 4) (q : Fin 3072) : val_main_v65 (F := Ideal) A.x A.w A.b A.d (ix2 k q) = dw A k q := by
  have p0 (r : Fin 16384) : val_main_v59 (F := Ideal) A.x A.w A.b A.d (ix2 r q) = term A 0 q r.val := by
    pointwise [val_main_v59, val_main_v2, padded_at]
    exact (mul_comm _ _).trans (congrArg₂ (· * ·) (dpre_at A hd r q) (congrArg (row A · q) (by simp)))
  have p1 (r : Fin 16384) : val_main_v52 (F := Ideal) A.x A.w A.b A.d (ix2 r q) = term A 1 q r.val := by
    pointwise [val_main_v52, val_main_v10, padded_at]
    exact (mul_comm _ _).trans (congrArg₂ (· * ·) (dpre_at A hd r q) (congrArg (row A · q) (Nat.add_comm _ _)))
  have p2 (r : Fin 16384) : val_main_v45 (F := Ideal) A.x A.w A.b A.d (ix2 r q) = term A 2 q r.val := by
    pointwise [val_main_v45, val_main_v17, padded_at]
    exact (mul_comm _ _).trans (congrArg₂ (· * ·) (dpre_at A hd r q) (congrArg (row A · q) (Nat.add_comm _ _)))
  have p3 (r : Fin 16384) : val_main_v39 (F := Ideal) A.x A.w A.b A.d (ix2 r q) = term A 3 q r.val := by
    pointwise [val_main_v39, val_main_v24, padded_at]
    exact (mul_comm _ _).trans (congrArg₂ (· * ·) (dpre_at A hd r q) (congrArg (row A · q) (Nat.add_comm _ _)))
  have s0 : val_main_v63 (F := Ideal) A.x A.w A.b A.d (ix2 0 q) = dw A 0 q := by
    pointwise [val_main_v63, val_main_v62, val_main_v61, val_main_v60, val_main_cst_12, val_main_cst_13, p0]
    exact Fin.sum_univ_one _
  have s1 : val_main_v56 (F := Ideal) A.x A.w A.b A.d (ix2 0 q) = dw A 1 q := by
    pointwise [val_main_v56, val_main_v55, val_main_v54, val_main_v53, val_main_cst_9, val_main_cst_10, p1]
    exact Fin.sum_univ_one _
  have s2 : val_main_v49 (F := Ideal) A.x A.w A.b A.d (ix2 0 q) = dw A 2 q := by
    pointwise [val_main_v49, val_main_v48, val_main_v47, val_main_v46, val_main_cst_6, val_main_cst_7, p2]
    exact Fin.sum_univ_one _
  have s3 : val_main_v43 (F := Ideal) A.x A.w A.b A.d (ix2 0 q) = dw A 3 q := by
    pointwise [val_main_v43, val_main_v42, val_main_v41, val_main_v40, val_main_cst_3, val_main_cst_4, p3]
    exact Fin.sum_univ_one _
  have z5 : ∀ i, val_main_cst_5 (F := Ideal) i = (0 : EReal) := fun i => by pointwise [val_main_cst_5]
  have z8 : ∀ i, val_main_cst_8 (F := Ideal) i = (0 : EReal) := fun i => by pointwise [val_main_cst_8]
  have z11 : ∀ i, val_main_cst_11 (F := Ideal) i = (0 : EReal) := fun i => by pointwise [val_main_cst_11]
  have z14 : ∀ i, val_main_cst_14 (F := Ideal) i = (0 : EReal) := fun i => by pointwise [val_main_cst_14]
  have q3 : val_main_v44 (F := Ideal) A.x A.w A.b A.d (ix2 k q) = if k.val = 3 then dw A 3 q else 0 := (pad_at 3 0 _ _ z5 _ _ k q).trans (congrArg (fun y => if k.val = 3 then y else 0) s3)
  have q2 : val_main_v50 (F := Ideal) A.x A.w A.b A.d (ix2 k q) = if k.val = 2 then dw A 2 q else 0 := (pad_at 2 1 _ _ z8 _ _ k q).trans (congrArg (fun y => if k.val = 2 then y else 0) s2)
  have q1 : val_main_v57 (F := Ideal) A.x A.w A.b A.d (ix2 k q) = if k.val = 1 then dw A 1 q else 0 := (pad_at 1 2 _ _ z11 _ _ k q).trans (congrArg (fun y => if k.val = 1 then y else 0) s1)
  have q0 : val_main_v64 (F := Ideal) A.x A.w A.b A.d (ix2 k q) = if k.val = 0 then dw A 0 q else 0 := (pad_at 0 3 _ _ z14 _ _ k q).trans (congrArg (fun y => if k.val = 0 then y else 0) s0)
  have e : val_main_v65 (F := Ideal) A.x A.w A.b A.d (ix2 k q) = val_main_v44 (F := Ideal) A.x A.w A.b A.d (ix2 k q)
      + val_main_v50 (F := Ideal) A.x A.w A.b A.d (ix2 k q) + val_main_v57 (F := Ideal) A.x A.w A.b A.d (ix2 k q)
      + val_main_v64 (F := Ideal) A.x A.w A.b A.d (ix2 k q) := by
    pointwise [val_main_v65, val_main_v58, val_main_v51]
  rw [e, q3, q2, q1, q0]
  fin_cases k <;> simp

end Cert.ConvPreRefIdeal.Grad

end
-- ==== Proof.ConvPre.lean ====
module

public import proofs.«01_k».proof.Defs
public import proofs.«01_k».proof.Proof.ConvPreFinal
public import proofs.«01_k».proof.Proof.ConvPreRef
public import proofs.«01_k».proof.Proof.Gen.Pre_convpre_finite

@[expose] public section

noncomputable section

open Idealize.ShloMosaic Idealize.ShloMosaic.TcCoe Idealize.SL.Sem

namespace Cert.ConvPre

open Cert.ConvPreIdeal.Grad

/-- The precondition says that the cotangent is finite. -/
theorem finite (m : (ℓ : Loc Cert.ConvPreIdeal.nD Cert.ConvPreIdeal.τ Cert.ConvPreIdeal.sig) → Buf (Elt Ideal) ℓ)
    (hp : Cert.Pre_ConvPreIdeal_convpre_finite m) (c : Dev Cert.ConvPreIdeal.nD) (i : Shape.Idx ⟨2, ![16384, 3072]⟩) : Reals.Fin1 ((args m c).d i) :=
  Reals.fin1_of_lt (congrFun (hp c) i)

/-- The reference terminates, keeps its arguments and uses no semaphore. -/
theorem frame_ref : Cert.quiescent_ConvPreRefIdeal := fun m ρ _ =>
  (θ_run Cert.ConvPreRefIdeal.defs _ _).mono (fun r h => ⟨fun c => (h c).2.2.2, sem_eq_zero_of_no_sems (by decide) r.2⟩)
    (Cert.ConvPreRefIdeal.Value.run m ρ)

variable {A : Args} (hd : ∀ i, Reals.Fin1 (A.d i))
include hd

/-- The reference's results, of the same arguments. -/
theorem ref_dp (i : Cert.ConvPreRefIdeal.S16384x3072.Idx) : Cert.ConvPreRefIdeal.Read.val_main_v35 (F := Ideal) A.x A.w A.b A.d i = outP A i := by
  idx_vars i
  exact Cert.ConvPreRefIdeal.Grad.dpre_at A hd _ _
theorem ref_dw (i : Cert.ConvPreRefIdeal.S4x3072.Idx) : Cert.ConvPreRefIdeal.Read.val_main_v65 (F := Ideal) A.x A.w A.b A.d i = outW A i := by
  idx_vars i
  exact Cert.ConvPreRefIdeal.Grad.dw_at A hd _ _
theorem ref_db (i : Cert.ConvPreRefIdeal.S1x3072.Idx) : Cert.ConvPreRefIdeal.Read.val_main_v66 (F := Ideal) A.x A.w A.b A.d i = outB A i := by
  refine Eq.trans (congrArg (Cert.ConvPreRefIdeal.Read.val_main_v66 (F := Ideal) A.x A.w A.b A.d) (Blocks.idx2_ext (y := ix2 0 (i 1)) ?_ rfl)) (Cert.ConvPreRefIdeal.Grad.db_at A hd _)
  have h : (i 0).val < 1 := (i 0).isLt
  show (i 0).val = 0
  omega

omit hd

/-- The arguments, as the reference's memory holds them at launch. -/
def rargs (m : (ℓ : Loc Cert.ConvPreRefIdeal.nD Cert.ConvPreRefIdeal.τ Cert.ConvPreRefIdeal.sig) → Buf (Elt Ideal) ℓ) (c : Dev Cert.ConvPreRefIdeal.nD) : Args :=
  ⟨m ((c : Thread Cert.ConvPreRefIdeal.nD Cert.ConvPreRefIdeal.τ).loc Cert.ConvPreRefIdeal.main_arg0), m ((c : Thread Cert.ConvPreRefIdeal.nD Cert.ConvPreRefIdeal.τ).loc Cert.ConvPreRefIdeal.main_arg1),
    m ((c : Thread Cert.ConvPreRefIdeal.nD Cert.ConvPreRefIdeal.τ).loc Cert.ConvPreRefIdeal.main_arg2), m ((c : Thread Cert.ConvPreRefIdeal.nD Cert.ConvPreRefIdeal.τ).loc Cert.ConvPreRefIdeal.main_arg3)⟩

/-- The value claim. -/
theorem algebraic : Cert.algebraic_ConvPreIdeal_ConvPreRefIdeal_pre_convpre_finite := fun m g m' g' hp hag =>
  ⟨fun c => outP (args m c), fun c => outW (args m c), fun c => outB (args m c), Cert.ConvPreIdeal.Grad.run m g,
    (θ_run _ _ _).mono (fun _ h c => by
      obtain ⟨a0, a1, a2, a3⟩ := hag c
      have e : rargs m' c = args m c := by unfold rargs args; rw [a0, a1, a2, a3]
      have hd : ∀ i, Reals.Fin1 ((rargs m' c).d i) := e ▸ finite m hp c
      exact ⟨(h c).1.trans ((funext (ref_dp hd)).trans (congrArg outP e)), (h c).2.1.trans ((funext (ref_dw hd)).trans (congrArg outW e)),
        (h c).2.2.1.trans ((funext (ref_db hd)).trans (congrArg outB e)), (h c).2.2.2⟩)
      (Cert.ConvPreRefIdeal.Value.run m' g')⟩

end Cert.ConvPre

end
-- ==== Proof.ConvFwdPoint.lean ====
/- What one grid point of the convolution's forward call stores: the blocks of sixteen rows and 512 columns. A point reads what a point of the
   outer gradient reads, without the cotangent, and its scratch buffer holds the same rows. -/
module

public import proofs.«01_k».proof.Proof.ConvPreTiles
public import proofs.«01_k».proof.Proof.Gen.ConvFwdIdeal.Frame

@[expose] public section

set_option maxRecDepth 65536

noncomputable section

open Idealize.ShloMosaic Idealize.ShloMosaic.TcCoe Idealize.SL.Sem
open Idealize.ShloMosaic.Pipeline (Dat)
open Cert.ConvPreIdeal.Grad (Blk)

namespace Cert.ConvFwdIdeal.Out

open Cert.ConvFwdIdeal Cert.ConvFwdIdeal.Gen

variable {F : FTy → Type} [FloatOps F]

theorem inb_x (r : Fin 32) (j : Fin 6) (hr : 0 < r.val) : ∀ a, (![16 * r.val - 8, 512 * j.val] : Fin 2 → ℕ) a + (![24, 512] : Fin 2 → ℕ) a ≤ S512x3072.size a := by
  intro a; fin_cases a <;> simp <;> omega
theorem inb_e (j : Fin 6) : ∀ a, (![0, 512 * j.val] : Fin 2 → ℕ) a + (![24, 512] : Fin 2 → ℕ) a ≤ S24x3072.size a := by
  intro a; fin_cases a <;> simp <;> omega
theorem inb_w (k : Fin 4) (j : Fin 6) : ∀ a, (![k.val, 512 * j.val] : Fin 2 → ℕ) a + (![1, 512] : Fin 2 → ℕ) a ≤ S4x3072.size a := by
  intro a; fin_cases a <;> simp <;> omega
theorem inb_b (j : Fin 6) : ∀ a, (![0, 512 * j.val] : Fin 2 → ℕ) a + (![1, 512] : Fin 2 → ℕ) a ≤ S1x3072.size a := by
  intro a; fin_cases a <;> simp <;> omega
theorem inb_o (r : Fin 32) (j : Fin 6) : ∀ a, (![16 * r.val, 512 * j.val] : Fin 2 → ℕ) a + (![16, 512] : Fin 2 → ℕ) a ≤ S512x3072.size a := by
  intro a; fin_cases a <;> simp <;> omega

section
variable (B : Blk F)

/-- The sixteen rows of a block and the eight rows above them. -/
def base (r : Fin 32) (j : Fin 6) : Vec F S24x512 .f32 :=
  if h : 0 < r.val then View.ld B.x (Rect.unit ![16 * r.val - 8, 512 * j.val] ![24, 512] (inb_x r j h))
  else fun x => B.ext ((Rect.unit (s := S24x3072) ![0, 512 * j.val] ![24, 512] (inb_e j)).toLoadRect.idx x)

/-- One row of the filter, and the bias, over the block's columns. -/
abbrev tap (j : Fin 6) (k : Fin 4) : Vec F S1x512 .f32 := View.ld B.w (Rect.unit ![k.val, 512 * j.val] ![1, 512] (inb_w k j))
abbrev bias (j : Fin 6) : Vec F S1x512 .f32 := View.ld B.b (Rect.unit ![0, 512 * j.val] ![1, 512] (inb_b j))

/-- The block that is stored. -/
def silu (r : Fin 32) (j : Fin 6) : FVec F S16x512 .f32 :=
  k0_pay6 (base B r j) (bias B j) (tap B j 0) (tap B j 1) (tap B j 2) (tap B j 3)

abbrev piece (j : Fin 6) (r : Fin 32) : View.Piece (Elt F) S512x3072 .f32 := ⟨Rect.unit ![16 * r.val, 512 * j.val] ![16, 512] (inb_o r j), silu B r j⟩

abbrev strips : List (Fin 6) := [5, 4, 3, 2, 1, 0]

/-- The stores, the last one first. -/
abbrev pieces : List (View.Piece (Elt F) S512x3072 .f32) := strips.flatMap fun j => Blk.rows.map (piece B j)
end

variable (m : (ℓ : Loc nD τ sig) → Buf (Elt F) ℓ)

/-- What point `t` reads; the input stands where the gradient has its cotangent, which nothing here reads. -/
abbrev blk (c : Dev nD) (t : Fin cfg0.N) : Blk F := ⟨grid0.coords t, iblk m c 0 t, iblk m c 0 t, iblk m c 1 t, iblk m c 2 t, iblk m c 3 t⟩

set_option maxHeartbeats 2000000 in
/-- What a point leaves of the output. -/
theorem out_A (c : Dev nD) (t : Fin cfg0.N) : outsAt0 m c t = View.canon (pieces (blk m c t)) := by
  unfold outsAt0
  frame_open
  dsimp only
  frame_out
  simp only [View.readCov_eq_canon']
  refine congrArg View.canon ?_
  sl_kernel_rfl

end Cert.ConvFwdIdeal.Out

end
-- ==== Proof.ConvFwdKernel.lean ====
/- What the result of the convolution's forward call holds: silu of the sums (`Cert.ConvPre`). -/
module

public import proofs.«01_k».proof.Proof.ConvFwdPoint
public import proofs.«01_k».proof.Proof.ConvPreKernel

@[expose] public section

set_option maxRecDepth 16384

noncomputable section

open Idealize.ShloMosaic Idealize.ShloMosaic.TcCoe Idealize.SL.Sem
open Idealize.ShloMosaic.Pipeline (Dat)
open Cert.ConvPreIdeal.Grad (Blk Fits mem_rows)

namespace Cert.ConvFwdIdeal.Out

open Cert.ConvFwdIdeal Cert.ConvFwdIdeal.Gen Cert.ConvPre

/-- A column of a strip. -/
abbrev col (j : Fin 6) (q : Fin 512) : Fin 3072 := ⟨512 * j.val + q.val, by omega⟩

/-- Silu of a row's sum. -/
def siluAt (A : Args) (n : ℕ) (q : Fin 3072) : EReal := sums A n q * Ideal.logistic (sums A n q)

section
variable {A : Args} {n : ℕ} {B : Blk Ideal} (H : Fits A n B)
include H

theorem base_at (r : Fin 32) (j : Fin 6) (l : Fin 24) (q : Fin 512) : base B r j (ix2 l q) = row A (n * 512 + 16 * r.val + l.val - 5) (col j q) := by
  unfold base
  split
  · next h =>
    refine Eq.trans (Blocks.ld_eq _ _ _ (ix2 ⟨16 * r.val - 8 + l.val, by omega⟩ (col j q)) (Blocks.idx2_ext (by simp [Rect.emb_apply]) (by simp [Rect.emb_apply]))) ?_
    rw [H.x]; exact congrArg (row A · _) (by simp only; omega)
  · next h =>
    refine Eq.trans (congrArg B.ext (Blocks.idx2_ext (y := ix2 l (col j q)) ?_ ?_)) ((H.ext_at l (col j q)).trans (congrArg (row A · _) (by omega)))
    · simp [LoadRect.idx, Rect.toLoadRect]
    · simp [LoadRect.idx, Rect.toLoadRect]

theorem silu_at (r : Fin 32) (j : Fin 6) (l : Fin 16) (q : Fin 512) : silu B r j (ix2 l q) = siluAt A (n * 512 + 16 * r.val + l.val) (col j q) := by
  have t (k : Fin 4) : tap B j k (ix2 0 q) = A.w (ix2 k (col j q)) :=
    (Blocks.ld_eq _ _ _ (ix2 k (col j q)) (Blocks.idx2_ext (by simp [Rect.emb_apply]) (by simp [Rect.emb_apply]))).trans (H.w k _)
  have tb : bias B j (ix2 0 q) = A.b (ix1 (col j q)) :=
    (Blocks.ld_eq _ _ _ (ix2 0 (col j q)) (Blocks.idx2_ext (by simp [Rect.emb_apply]) (by simp [Rect.emb_apply]))).trans (H.b _)
  have hb := fun l => base_at H r j l q
  have t0 := t 0
  have t1 := t 1
  have t2 := t 2
  have t3 := t 3
  unfold silu
  generalize tap B j 0 = v0 at *
  generalize tap B j 1 = v1 at *
  generalize tap B j 2 = v2 at *
  generalize tap B j 3 = v3 at *
  generalize bias B j = vb at *
  generalize base B r j = b at *
  pointwise [k0_pay6]
  simp only [t0, t1, t2, t3, tb, hb]
  have e (k : ℕ) (hk : k ≤ 2) : n * 512 + 16 * r.val + (l.val + (5 + k)) % 24 - 5 = n * 512 + 16 * r.val + l.val + k := by
    rw [Nat.mod_eq_of_lt (by omega)]; omega
  have e0 : n * 512 + 16 * r.val + (l.val + 5) % 24 - 5 = n * 512 + 16 * r.val + l.val := e 0 (by omega)
  have e1 : n * 512 + 16 * r.val + (l.val + 6) % 24 - 5 = n * 512 + 16 * r.val + l.val + 1 := e 1 (by omega)
  have e2 : n * 512 + 16 * r.val + (l.val + 7) % 24 - 5 = n * 512 + 16 * r.val + l.val + 2 := e 2 (by omega)
  have e3 : n * 512 + 16 * r.val + (8 + l.val) - 5 = n * 512 + 16 * r.val + l.val + 3 := by omega
  unfold siluAt sums
  simp [e0, e1, e2, e3]
end

theorem mem_strips (j : Fin 6) : j ∈ strips := by revert j; decide

/-- The stored blocks, read back. -/
theorem canon_out {A : Args} {n : ℕ} {B : Blk Ideal} (H : Fits A n B) (z : S512x3072.Idx) :
    View.canon (pieces B) z = siluAt A (n * 512 + (z 0).val) (z 1) := by
  have l0 : (z 0).val < 512 := (z 0).isLt
  have l1 : (z 1).val < 3072 := (z 1).isLt
  have h := View.canon_append_of_pieces (Val := Elt Ideal) (fun y : S512x3072.Idx => siluAt A (n * 512 + (y 0).val) (y 1)) [] (pieces B) ?_ z
    ⟨piece B ⟨(z 1).val / 512, by omega⟩ ⟨(z 0).val / 16, by omega⟩, List.mem_flatMap.mpr ⟨_, mem_strips _, List.mem_map_of_mem (mem_rows _)⟩, ?_⟩
  · rwa [List.append_nil] at h
  · intro p hp x
    obtain ⟨j, _, hp⟩ := List.mem_flatMap.mp hp
    obtain ⟨r, _, rfl⟩ := List.mem_map.mp hp
    refine Eq.trans (congrArg (silu B r j) (Blocks.idx2_ext (y := ix2 (x 0) (x 1)) rfl rfl)) ((silu_at H r j (x 0) (x 1)).trans ?_)
    refine congrArg₂ (siluAt A) ?_ (Fin.ext ?_)
    · simp [Rect.emb_apply]; omega
    · simp [Rect.emb_apply]
  · rw [Rect.mem_set_unit]
    intro a; fin_cases a <;> simp <;> omega

variable (m : (ℓ : Loc nD τ sig) → Buf (Elt Ideal) ℓ)

/-- The arguments in memory; the input stands where the gradient has its cotangent. -/
def args (c : Dev nD) : Args := ⟨m ((c.tc : Thread nD τ).loc main_arg0), m ((c.tc : Thread nD τ).loc main_arg1),
  m ((c.tc : Thread nD τ).loc main_arg2), m ((c.tc : Thread nD τ).loc main_arg0)⟩

theorem t_lt (t : Fin cfg0.N) : t.val < 32 := lt_of_lt_of_eq t.isLt N_0

theorem row_in (A : Args) (n : ℕ) (h : 3 ≤ n ∧ n < 16387) (q : Fin 3072) : row A n q = A.x (ix2 ⟨n - 3, by omega⟩ q) := dif_pos h
theorem row_out (A : Args) (n : ℕ) (h : ¬ (3 ≤ n ∧ n < 16387)) (q : Fin 3072) : row A n q = 0 := dif_neg h

/-- Which block each window takes at each point. -/
theorem idx_val : ∀ t : Fin cfg0.N, win0_0.index t = ![t.val, 0] ∧ win0_2.index t = ![0, 0] ∧ win0_3.index t = ![0, 0] ∧ win0_4.index t = ![t.val, 0] :=
  (by decide +kernel : ∀ t : Fin grid0.N, _)
theorem idx_prev : ∀ t : Fin cfg0.N, 0 < t.val → win0_1.index t = ![t.val * 64 - 1, 0] :=
  (by decide +kernel : ∀ t : Fin grid0.N, 0 < t.val → _)

theorem read_x (v : S16384x3072.Idx → Elt Ideal .f32) (t : Fin cfg0.N) (l : Fin 512) (q : Fin 3072) (h : t.val * 512 + l.val < 16384) :
    ((cfg0.win 0).blk t).view.read (Elt Ideal) v (ix2 l q) = v (ix2 ⟨t.val * 512 + l.val, h⟩ q) :=
  congrArg v (Blocks.idx2_ext (by blk_point [idx_val t]) (by blk_point [idx_val t]))
theorem read_h (v : S16384x3072.Idx → Elt Ideal .f32) (t : Fin cfg0.N) (l : Fin 8) (q : Fin 3072) (ht : 0 < t.val) (h : (t.val * 64 - 1) * 8 + l.val < 16384) :
    ((cfg0.win 1).blk t).view.read (Elt Ideal) v (ix2 l q) = v (ix2 ⟨(t.val * 64 - 1) * 8 + l.val, h⟩ q) :=
  congrArg v (Blocks.idx2_ext (by blk_point [idx_prev t ht]) (by blk_point [idx_prev t ht]))
theorem read_w (v : S4x3072.Idx → Elt Ideal .f32) (t : Fin cfg0.N) (k : Fin 4) (q : Fin 3072) :
    ((cfg0.win 2).blk t).view.read (Elt Ideal) v (ix2 k q) = v (ix2 k q) :=
  congrArg v (Blocks.idx2_ext (by blk_point [idx_val t]) (by blk_point [idx_val t]))

/-- The bias reaches the kernel as one row. -/
theorem bias_read (c : Dev nD) (t : Fin cfg0.N) (q : Fin 3072) : iblk m c 3 t (ix2 0 q) = (args m c).b (ix1 q) := by
  unfold args
  blk_point [iblk, V, idx_val t]

theorem first_word : ∀ n : Fin 32, Scalar.cmpi .eq (BitVec.ofNat 32 n.val) 0#32 = if n.val = 0 then 1#1 else 0#1 := by decide
theorem place (t : Fin cfg0.N) : (grid0.coords t 0).val = t.val := by revert t; decide +kernel

theorem tile_at (c : Dev nD) (t : Fin cfg0.N) (l : Fin 512) (q : Fin 3072) (h : t.val * 512 + l.val < 16384) :
    iblk m c 0 t (ix2 l q) = (args m c).x (ix2 ⟨t.val * 512 + l.val, h⟩ q) :=
  (read_x (V m c main_arg0) t l q h).trans (congrFun (V_main_arg0 m c) _)

theorem fits (c : Dev nD) (t : Fin cfg0.N) : Fits (args m c) t.val (blk m c t) where
  x l q := by
    have ht := t_lt t
    rw [row_in _ _ (by omega)]
    exact (tile_at m c t l q (by omega)).trans (congrArg (args m c).x (Blocks.idx2_ext (by show t.val * 512 + l.val = t.val * 512 + l.val + 3 - 3; omega) rfl))
  d l q := by
    have ht := t_lt t
    have h : t.val * 512 + l.val < 16384 := by omega
    unfold ct
    rw [dif_pos h]
    exact tile_at m c t l q h
  h l q := by
    have ht := t_lt t
    have e : Cert.ConvPreIdeal.Gen.k0_pay4 (F := Ideal) (blk m c t).i (blk m c t).h (ix2 l q) = if t.val = 0 then (0 : EReal) else iblk m c 1 t (ix2 l q) := by
      pointwise [Cert.ConvPreIdeal.Gen.k0_pay4]
      rw [place, first_word ⟨t.val, ht⟩]
      by_cases h : t.val = 0 <;> simp [h, Scalar.select]
    rw [e]
    split
    · next h => rw [row_out _ _ (by omega)]
    · next h =>
      rw [row_in _ _ (by omega)]
      unfold iblk
      exact ((read_h (V m c main_arg0) t l q (by omega) (by omega)).trans (congrFun (V_main_arg0 m c) _)).trans
        (congrArg (args m c).x (Blocks.idx2_ext (by show (t.val * 64 - 1) * 8 + l.val = t.val * 512 + l.val - 5 - 3; omega) rfl))
  w k q := by
    unfold blk iblk
    exact (read_w (V m c main_arg1) t k q).trans (congrFun (V_main_arg1 m c) _)
  b q := bias_read m c t q

/-- The whole array. -/
def out (A : Args) (x : S16384x3072.Idx) : EReal := siluAt A (x 0).val (x 1)

theorem final_out (c : Dev nD) : (dats m 0 c).arrAt 4 cfg0.N = out (args m c) := by
  refine (dats m 0 c).arrAt_eq_of_covers 4 (out (args m c)) (by decide +kernel) fun t hf z => ?_
  blk_simp
  rw [after0_4, out_A, canon_out (fits m c t)]
  refine congrArg₂ (siluAt (args m c)) ?_ (Fin.ext ?_)
  · blk_point [idx_val t]
  · blk_point [idx_val t]

/-- The kernel's run: the result, and the arguments as they were. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v1) = out (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final_out m c),
    ((h c).1 1).trans (((dats m 0 c).arrAt_in 1 rfl _).trans ((A_eq m c 1).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c)⟩) (run_main m ρ)

end Cert.ConvFwdIdeal.Out

end
-- ==== Proof.ConvFwdRef.lean ====
/- What the reference's result holds: silu of the convolution's sums, which are the sums of the gradient's reference. -/
module

public import proofs.«01_k».proof.Proof.ConvPreRef
public import proofs.«01_k».proof.Proof.Gen.ConvFwdRefIdeal.Read

@[expose] public section

set_option maxRecDepth 16384

noncomputable section

open Idealize.ShloMosaic Idealize.ShloMosaic.TcCoe Idealize.SL.Sem

namespace Cert.ConvFwdRefIdeal.Out

open Cert.ConvFwdRefIdeal Cert.ConvFwdRefIdeal.Read Cert.ConvPre

variable (A : Args)

theorem sums_at (r : Fin 16384) (q : Fin 3072) : val_main_v33 (F := Ideal) A.x A.w A.b (ix2 r q) = sums A r.val q :=
  (congrFun (show val_main_v33 (F := Ideal) A.x A.w A.b = Cert.ConvPreRefIdeal.Read.val_main_v33 (F := Ideal) A.x A.w A.b from rfl) _).trans
    (Cert.ConvPreRefIdeal.Grad.sums_at A r q)

theorem result (r : Fin 16384) (q : Fin 3072) : val_main_v34 (F := Ideal) A.x A.w A.b (ix2 r q) = sums A r.val q * Ideal.logistic (sums A r.val q) := by
  pointwise [val_main_v34, val_main_call0_v5, val_main_call0_v4, val_main_call0_v3, val_main_call0_v2, val_main_call0_v1, val_main_call0_v0,
    val_main_call0_cst, val_main_call0_cst_0, sums_at]
  rfl

end Cert.ConvFwdRefIdeal.Out

end
-- ==== Proof.Conv.lean ====
module

public import proofs.«01_k».proof.Defs
public import proofs.«01_k».proof.Proof.ConvFwdKernel
public import proofs.«01_k».proof.Proof.ConvFwdRef
public import proofs.«01_k».proof.Proof.Gen.ConvFwdRefIdeal.Run

@[expose] public section

noncomputable section

open Idealize.ShloMosaic Idealize.ShloMosaic.TcCoe Idealize.SL.Sem

namespace Cert.Conv

open Cert.ConvFwdIdeal.Out Cert.ConvPre

/-- The reference terminates, keeps its arguments and uses no semaphore. -/
theorem frame_ref : Cert.quiescent_ConvFwdRefIdeal := fun m ρ _ =>
  (θ_run Cert.ConvFwdRefIdeal.defs _ _).mono (fun r h => ⟨fun c => (h c).2, sem_eq_zero_of_no_sems (by decide) r.2⟩)
    (Cert.ConvFwdRefIdeal.Value.run m ρ)

/-- The reference's result, of the same arguments. -/
theorem ref_out (A : Args) (i : Cert.ConvFwdRefIdeal.S16384x3072.Idx) : Cert.ConvFwdRefIdeal.Read.val_main_v34 (F := Ideal) A.x A.w A.b i = out A i := by
  idx_vars i
  exact Cert.ConvFwdRefIdeal.Out.result A _ _

/-- The arguments, as the reference's memory holds them at launch. -/
def rargs (m : (ℓ : Loc Cert.ConvFwdRefIdeal.nD Cert.ConvFwdRefIdeal.τ Cert.ConvFwdRefIdeal.sig) → Buf (Elt Ideal) ℓ) (c : Dev Cert.ConvFwdRefIdeal.nD) : Args :=
  ⟨m ((c : Thread Cert.ConvFwdRefIdeal.nD Cert.ConvFwdRefIdeal.τ).loc Cert.ConvFwdRefIdeal.main_arg0), m ((c : Thread Cert.ConvFwdRefIdeal.nD Cert.ConvFwdRefIdeal.τ).loc Cert.ConvFwdRefIdeal.main_arg1),
    m ((c : Thread Cert.ConvFwdRefIdeal.nD Cert.ConvFwdRefIdeal.τ).loc Cert.ConvFwdRefIdeal.main_arg2), m ((c : Thread Cert.ConvFwdRefIdeal.nD Cert.ConvFwdRefIdeal.τ).loc Cert.ConvFwdRefIdeal.main_arg0)⟩

/-- The value claim. -/
theorem algebraic : Cert.algebraic_ConvFwdIdeal_ConvFwdRefIdeal := fun m g m' g' _ hag =>
  ⟨fun c => out (args m c), Cert.ConvFwdIdeal.Out.run m g,
    (θ_run _ _ _).mono (fun _ h c => by
      obtain ⟨a0, a1, a2⟩ := hag c
      have e : rargs m' c = args m c := by unfold rargs args; rw [a0, a1, a2]
      exact ⟨(h c).1.trans ((funext (ref_out (rargs m' c))).trans (congrArg out e)), (h c).2⟩)
      (Cert.ConvFwdRefIdeal.Value.run m' g')⟩

end Cert.Conv

end
-- ==== Proof.Mod.lean ====
/- The forward call of the rms norm under its shift and scale: kernel and reference compute the same array. -/
module

public import proofs.«01_k».proof.Defs
public import proofs.«01_k».proof.Proof.Reals
public import proofs.«01_k».proof.Proof.Gen.ModFwdIdeal.Value
public import proofs.«01_k».proof.Proof.Gen.ModRefIdeal.Run
public import proofs.«01_k».proof.Proof.Gen.ModRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Mod

/-- The arguments: the rows, the norm's weight, the shift and the scale. -/
structure Args where
  x : Shape.Idx ⟨2, ![16384, 1024]⟩ → EReal
  g : Shape.Idx ⟨1, ![1024]⟩ → EReal
  sh : Shape.Idx ⟨2, ![1, 1024]⟩ → EReal
  sc : Shape.Idx ⟨2, ![1, 1024]⟩ → EReal

/-- The norm's epsilon and the width of a row, the numbers that their single-precision words are. -/
abbrev eps : EReal := Ideal.ofBits .f32 0x3727C5AC#32
abbrev width : EReal := Ideal.ofBits .f32 0x44800000#32

/-- The normed row under its weight, scale and shift. -/
def out (A : Args) (r : Fin 16384) (j : Fin 1024) : EReal :=
  A.x (ix2 r j) * Ideal.rsqrt (Reals.ms (fun k : Fin 1024 => A.x (ix2 r k)) width eps) * A.g (ix1 j) * (1 + A.sc (ix2 0 j)) + A.sh (ix2 0 j)

end Cert.Mod

/-! ## The kernel -/

namespace Cert.ModFwdIdeal.Out

open Cert.ModFwdIdeal Cert.ModFwdIdeal.Gen Cert.Mod

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1), m ((c : Thread nD τ).loc main_arg2), m ((c : Thread nD τ).loc main_arg3)⟩

/-- Which block each window takes at each point. -/
theorem idx_val : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

theorem t_lt (t : Fin cfg0.N) : t.val < 64 := lt_of_lt_of_eq t.isLt N_0

/-- Row `i` of the block of point `t`. -/
abbrev row (t : Fin cfg0.N) (i : Fin 256) : Fin 16384 := ⟨t.val * 256 + i.val, by have := t_lt t; omega⟩

theorem out_at (c : Dev nD) (t : Fin cfg0.N) (i : Fin 256) (j : Fin 1024) :
    k0_pay1 (F := Ideal) (iblk m c 0 t) (iblk m c 1 t) (iblk m c 3 t) (iblk m c 2 t) (ix2 i j) = out (args m c) (row t i) j := by
  pointwise [k0_pay1, out, Reals.ms]
  blk_point [iblk, V, idx_val t]

/-- Point `t` writes its rows. -/
theorem out_point (c : Dev nD) (t : Fin cfg0.N) (y : S256x1024.Idx) :
    out0_4 (iblk m c 0 t) (iblk m c 1 t) (iblk m c 2 t) (iblk m c 3 t) y = out (args m c) (row t (y 0)) (y 1) := by
  idx_vars y
  unfold out0_4
  frame_out
  exact out_at m c t _ _

/-- The whole array. -/
theorem final_out (c : Dev nD) : (dats m 0 c).arrAt 4 cfg0.N = fun j => out (args m c) (j 0) (j 1) := by
  refine (dats m 0 c).arrAt_eq_of_covers 4 (fun j => out (args m c) (j 0) (j 1)) (by decide +kernel) fun t _ y => ?_
  blk_simp
  rw [after0_4, out_point]
  refine congrArg₂ (out (args m c)) (Fin.ext ?_) (Fin.ext ?_)
  · blk_point [idx_val t]
  · blk_point [idx_val t]

end Cert.ModFwdIdeal.Out

/-! ## The reference -/

namespace Cert.ModRefIdeal.Out

open Cert.ModRefIdeal Cert.ModRefIdeal.Read Cert.Mod

variable (A : Args)

theorem ref_rinv (r : Fin 16384) (q : Fin 1) :
    val_main_v7 (F := Ideal) A.x (ix2 r q) = Ideal.rsqrt (Reals.ms (fun k : Fin 1024 => A.x (ix2 r k)) width eps) := by
  pointwise [val_main_v7, val_main_v6, val_main_v5, val_main_v4, val_main_v3, val_main_v2, val_main_v1, val_main_v0, val_main_cst, val_main_cst_0, val_main_cst_1, Reals.ms]
  try rfl

theorem result (i : S16384x1024.Idx) : val_main_v19 (F := Ideal) A.x A.g A.sh A.sc i = out A (i 0) (i 1) := by
  idx_vars i
  pointwise [val_main_v19, val_main_v18, val_main_v17, val_main_v16, val_main_v15, val_main_v14, val_main_v13, val_main_v12, val_main_v11, val_main_v10,
    val_main_v9, val_main_v8, val_main_cst_2, ref_rinv, out]

end Cert.ModRefIdeal.Out

/-! ## The claims -/

namespace Cert.Mod

/-- The reference terminates, keeps its arguments and uses no semaphore. -/
theorem frame_ref : Cert.quiescent_ModRefIdeal := fun m ρ _ =>
  (θ_run Cert.ModRefIdeal.defs _ _).mono (fun r h => ⟨fun c => (h c).2, sem_eq_zero_of_no_sems (by decide) r.2⟩)
    (Cert.ModRefIdeal.Value.run m ρ)

/-- The arguments, as the reference's memory holds them at launch. -/
def rargs (m : (ℓ : Loc Cert.ModRefIdeal.nD Cert.ModRefIdeal.τ Cert.ModRefIdeal.sig) → Buf (Elt Ideal) ℓ) (c : Dev Cert.ModRefIdeal.nD) : Args :=
  ⟨m ((c : Thread Cert.ModRefIdeal.nD Cert.ModRefIdeal.τ).loc Cert.ModRefIdeal.main_arg0),
    m ((c : Thread Cert.ModRefIdeal.nD Cert.ModRefIdeal.τ).loc Cert.ModRefIdeal.main_arg1),
    m ((c : Thread Cert.ModRefIdeal.nD Cert.ModRefIdeal.τ).loc Cert.ModRefIdeal.main_arg2),
    m ((c : Thread Cert.ModRefIdeal.nD Cert.ModRefIdeal.τ).loc Cert.ModRefIdeal.main_arg3)⟩

/-- The value claim. -/
theorem algebraic : Cert.algebraic_ModFwdIdeal_ModRefIdeal := fun m g m' g' _ hag =>
  ⟨fun c j => out (Cert.ModFwdIdeal.Out.args m c) (j 0) (j 1),
    (θ_run _ _ _).mono (fun _ h c => ⟨(h c).1.trans (Cert.ModFwdIdeal.Out.final_out m c), (h c).2⟩) (Cert.ModFwdIdeal.Value.run_blocks m g),
    (θ_run _ _ _).mono (fun _ h c => by
      obtain ⟨a0, a1, a2, a3⟩ := hag c
      have e : rargs m' c = Cert.ModFwdIdeal.Out.args m c := by unfold rargs; rw [a0, a1, a2, a3]
      exact ⟨(h c).1.trans ((funext (Cert.ModRefIdeal.Out.result (rargs m' c))).trans (congrArg (fun A : Args => fun j : Cert.ModRefIdeal.S16384x1024.Idx => out A (j 0) (j 1)) e)), (h c).2⟩)
      (Cert.ModRefIdeal.Value.run m' g')⟩

end Cert.Mod

end
-- ==== Proof.Skip.lean ====
/- The forward call of the gelu behind the S5 scan, with the skip: kernel and reference compute the same array. -/
module

public import proofs.«01_k».proof.Defs
public import proofs.«01_k».proof.Proof.Gen.SkipFwdIdeal.Value
public import proofs.«01_k».proof.Proof.Gen.SkipRefIdeal.Run
public import proofs.«01_k».proof.Proof.Gen.SkipRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Skip

/-- The arguments: the scan's output, its input and the skip's weight. -/
structure Args where
  y : Shape.Idx ⟨2, ![16384, 1024]⟩ → EReal
  u : Shape.Idx ⟨2, ![16384, 1024]⟩ → EReal
  skip : Shape.Idx ⟨1, ![1024]⟩ → EReal

/-- The literals of gelu, the numbers that their single-precision words are. -/
abbrev C : EReal := Ideal.ofBits .f32 0x3D372713#32
abbrev K : EReal := Ideal.ofBits .f32 0x3F4C422A#32
abbrev half : EReal := Ideal.ofBits .f32 0x3F000000#32

/-- The scan's output with the skip, and its gelu. -/
def v (A : Args) (r : Fin 16384) (j : Fin 1024) : EReal := A.y (ix2 r j) + A.skip (ix1 j) * A.u (ix2 r j)
def out (A : Args) (r : Fin 16384) (j : Fin 1024) : EReal :=
  half * v A r j * (1 + Ideal.tanh (K * (v A r j + C * (v A r j * v A r j * v A r j))))

end Cert.Skip

/-! ## The kernel -/

namespace Cert.SkipFwdIdeal.Out

open Cert.SkipFwdIdeal Cert.SkipFwdIdeal.Gen Cert.Skip

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1), m ((c : Thread nD τ).loc main_arg2)⟩

/-- Which block each window takes at each point. -/
theorem idx_val : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem t_lt (t : Fin cfg0.N) : t.val < 64 := lt_of_lt_of_eq t.isLt N_0

/-- Row `i` of the block of point `t`. -/
abbrev row (t : Fin cfg0.N) (i : Fin 256) : Fin 16384 := ⟨t.val * 256 + i.val, by have := t_lt t; omega⟩

theorem out_at (c : Dev nD) (t : Fin cfg0.N) (i : Fin 256) (j : Fin 1024) :
    k0_pay1 (F := Ideal) (iblk m c 0 t) (iblk m c 2 t) (iblk m c 1 t) (ix2 i j) = out (args m c) (row t i) j := by
  pointwise [k0_pay1, out, v]
  blk_point [iblk, V, idx_val t]

/-- Point `t` writes its rows. -/
theorem out_point (c : Dev nD) (t : Fin cfg0.N) (y : S256x1024.Idx) :
    out0_3 (iblk m c 0 t) (iblk m c 1 t) (iblk m c 2 t) y = out (args m c) (row t (y 0)) (y 1) := by
  idx_vars y
  unfold out0_3
  frame_out
  exact out_at m c t _ _

/-- The whole array. -/
theorem final_out (c : Dev nD) : (dats m 0 c).arrAt 3 cfg0.N = fun j => out (args m c) (j 0) (j 1) := by
  refine (dats m 0 c).arrAt_eq_of_covers 3 (fun j => out (args m c) (j 0) (j 1)) (by decide +kernel) fun t _ y => ?_
  blk_simp
  rw [after0_3, out_point]
  refine congrArg₂ (out (args m c)) (Fin.ext ?_) (Fin.ext ?_)
  · blk_point [idx_val t]
  · blk_point [idx_val t]

end Cert.SkipFwdIdeal.Out

/-! ## The reference -/

namespace Cert.SkipRefIdeal.Out

open Cert.SkipRefIdeal Cert.SkipRefIdeal.Read Cert.Skip

variable (A : Args)

theorem ref_v (r : Fin 16384) (j : Fin 1024) : val_main_v3 (F := Ideal) A.y A.u A.skip (ix2 r j) = v A r j := by
  pointwise [val_main_v3, val_main_v2, val_main_v1, val_main_v0, v]

theorem result (i : S16384x1024.Idx) : val_main_v17 (F := Ideal) A.y A.u A.skip i = out A (i 0) (i 1) := by
  idx_vars i
  pointwise [val_main_v17, val_main_v16, val_main_v15, val_main_v14, val_main_v13, val_main_v12, val_main_v11, val_main_v10, val_main_v9, val_main_v8,
    val_main_v7, val_main_v6, val_main_v5, val_main_v4, val_main_cst, val_main_cst_0, val_main_cst_1, val_main_cst_2, ref_v, out]
  ac_rfl

end Cert.SkipRefIdeal.Out

/-! ## The claims -/

namespace Cert.Skip

/-- The reference terminates, keeps its arguments and uses no semaphore. -/
theorem frame_ref : Cert.quiescent_SkipRefIdeal := fun m ρ _ =>
  (θ_run Cert.SkipRefIdeal.defs _ _).mono (fun r h => ⟨fun c => (h c).2, sem_eq_zero_of_no_sems (by decide) r.2⟩)
    (Cert.SkipRefIdeal.Value.run m ρ)

/-- The arguments, as the reference's memory holds them at launch. -/
def rargs (m : (ℓ : Loc Cert.SkipRefIdeal.nD Cert.SkipRefIdeal.τ Cert.SkipRefIdeal.sig) → Buf (Elt Ideal) ℓ) (c : Dev Cert.SkipRefIdeal.nD) : Args :=
  ⟨m ((c : Thread Cert.SkipRefIdeal.nD Cert.SkipRefIdeal.τ).loc Cert.SkipRefIdeal.main_arg0),
    m ((c : Thread Cert.SkipRefIdeal.nD Cert.SkipRefIdeal.τ).loc Cert.SkipRefIdeal.main_arg1),
    m ((c : Thread Cert.SkipRefIdeal.nD Cert.SkipRefIdeal.τ).loc Cert.SkipRefIdeal.main_arg2)⟩

/-- The value claim. -/
theorem algebraic : Cert.algebraic_SkipFwdIdeal_SkipRefIdeal := fun m g m' g' _ hag =>
  ⟨fun c j => out (Cert.SkipFwdIdeal.Out.args m c) (j 0) (j 1),
    (θ_run _ _ _).mono (fun _ h c => ⟨(h c).1.trans (Cert.SkipFwdIdeal.Out.final_out m c), (h c).2⟩) (Cert.SkipFwdIdeal.Value.run_blocks m g),
    (θ_run _ _ _).mono (fun _ h c => by
      obtain ⟨a0, a1, a2⟩ := hag c
      have e : rargs m' c = Cert.SkipFwdIdeal.Out.args m c := by unfold rargs; rw [a0, a1, a2]
      exact ⟨(h c).1.trans ((funext (Cert.SkipRefIdeal.Out.result (rargs m' c))).trans (congrArg (fun A : Args => fun j : Cert.SkipRefIdeal.S16384x1024.Idx => out A (j 0) (j 1)) e)), (h c).2⟩)
      (Cert.SkipRefIdeal.Value.run m' g')⟩

end Cert.Skip

end
-- ==== Proof.Gated.lean ====
/- The forward call of the gated linear unit, with its gate by the residual: kernel and reference compute the same array. -/
module

public import proofs.«01_k».proof.Defs
public import proofs.«01_k».proof.Proof.Blocks
public import proofs.«01_k».proof.Proof.Gen.GatedFwdIdeal.Value
public import proofs.«01_k».proof.Proof.Gen.GatedRefIdeal.Run
public import proofs.«01_k».proof.Proof.Gen.GatedRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Gated

/-- The arguments: the projection before its bias, the bias, the residual and its gate. -/
structure Args where
  ab : Shape.Idx ⟨2, ![16384, 2048]⟩ → EReal
  bias : Shape.Idx ⟨1, ![2048]⟩ → EReal
  x : Shape.Idx ⟨2, ![16384, 1024]⟩ → EReal
  gate : Shape.Idx ⟨2, ![1, 1024]⟩ → EReal

/-- Column `j` of the projection with its bias. -/
def proj (A : Args) (r : Fin 16384) (j : Fin 2048) : EReal := A.ab (ix2 r j) + A.bias (ix1 j)

/-- The residual plus the gated unit. -/
def out (A : Args) (r : Fin 16384) (j : Fin 1024) : EReal :=
  A.x (ix2 r j) + A.gate (ix2 0 j) * (proj A r ⟨j.val, by omega⟩ * Ideal.logistic (proj A r ⟨1024 + j.val, by omega⟩))

end Cert.Gated

/-! ## The kernel -/

namespace Cert.GatedFwdIdeal.Out

open Cert.GatedFwdIdeal Cert.GatedFwdIdeal.Gen Cert.Gated

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1), m ((c : Thread nD τ).loc main_arg2), m ((c : Thread nD τ).loc main_arg3)⟩

/-- Which block each window takes at each point. -/
theorem idx_val : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, _)

theorem t_lt (t : Fin cfg0.N) : t.val < 64 := lt_of_lt_of_eq t.isLt N_0

/-- Row `i` of the block of point `t`. -/
abbrev row (t : Fin cfg0.N) (i : Fin 256) : Fin 16384 := ⟨t.val * 256 + i.val, by have := t_lt t; omega⟩

theorem out_at (c : Dev nD) (t : Fin cfg0.N) (i : Fin 256) (j : Fin 1024) :
    k0_pay1 (F := Ideal) (View.ld (iblk m c 0 t) r0_0) (View.ld (iblk m c 2 t) r0_1) (View.ld (iblk m c 0 t) r0_2) (View.ld (iblk m c 2 t) r0_3)
      (iblk m c 1 t) (iblk m c 3 t) (ix2 i j) = out (args m c) (row t i) j := by
  pointwise [k0_pay1, out, proj]
  blk_point [iblk, V, idx_val t]

/-- Point `t` writes its rows. -/
theorem out_point (c : Dev nD) (t : Fin cfg0.N) (y : S256x1024.Idx) :
    out0_4 (iblk m c 0 t) (iblk m c 1 t) (iblk m c 2 t) (iblk m c 3 t) y = out (args m c) (row t (y 0)) (y 1) := by
  idx_vars y
  unfold out0_4
  frame_out
  exact out_at m c t _ _

/-- The whole array. -/
theorem final_out (c : Dev nD) : (dats m 0 c).arrAt 4 cfg0.N = fun j => out (args m c) (j 0) (j 1) := by
  refine (dats m 0 c).arrAt_eq_of_covers 4 (fun j => out (args m c) (j 0) (j 1)) (by decide +kernel) fun t _ y => ?_
  blk_simp
  rw [after0_4, out_point]
  refine congrArg₂ (out (args m c)) (Fin.ext ?_) (Fin.ext ?_)
  · blk_point [idx_val t]
  · blk_point [idx_val t]

end Cert.GatedFwdIdeal.Out

/-! ## The reference -/

namespace Cert.GatedRefIdeal.Out

open Cert.GatedRefIdeal Cert.GatedRefIdeal.Read Cert.Gated

variable (A : Args)

theorem ref_proj (r : Fin 16384) (j : Fin 2048) : val_main_v2 (F := Ideal) A.ab A.bias (ix2 r j) = proj A r j := by
  pointwise [val_main_v2, val_main_v1, val_main_v0, proj]

theorem ref_sig (r : Fin 16384) (j : Fin 1024) : val_main_v10 (F := Ideal) A.ab A.bias (ix2 r j) = Ideal.logistic (proj A r ⟨1024 + j.val, by omega⟩) := by
  pointwise [val_main_v10, val_main_v9, val_main_v8, val_main_v7, val_main_v6, val_main_v5, val_main_v4, ref_proj, val_main_cst, val_main_cst_0]
  rfl

theorem result (i : S16384x1024.Idx) : val_main_v14 (F := Ideal) A.ab A.bias A.x A.gate i = out A (i 0) (i 1) := by
  idx_vars i
  pointwise [val_main_v14, val_main_v13, val_main_v12, val_main_v11, val_main_v3, ref_sig, ref_proj, out]

end Cert.GatedRefIdeal.Out

/-! ## The claims -/

namespace Cert.Gated

/-- The reference terminates, keeps its arguments and uses no semaphore. -/
theorem frame_ref : Cert.quiescent_GatedRefIdeal := fun m ρ _ =>
  (θ_run Cert.GatedRefIdeal.defs _ _).mono (fun r h => ⟨fun c => (h c).2, sem_eq_zero_of_no_sems (by decide) r.2⟩)
    (Cert.GatedRefIdeal.Value.run m ρ)

/-- The arguments, as the reference's memory holds them at launch. -/
def rargs (m : (ℓ : Loc Cert.GatedRefIdeal.nD Cert.GatedRefIdeal.τ Cert.GatedRefIdeal.sig) → Buf (Elt Ideal) ℓ) (c : Dev Cert.GatedRefIdeal.nD) : Args :=
  ⟨m ((c : Thread Cert.GatedRefIdeal.nD Cert.GatedRefIdeal.τ).loc Cert.GatedRefIdeal.main_arg0),
    m ((c : Thread Cert.GatedRefIdeal.nD Cert.GatedRefIdeal.τ).loc Cert.GatedRefIdeal.main_arg1),
    m ((c : Thread Cert.GatedRefIdeal.nD Cert.GatedRefIdeal.τ).loc Cert.GatedRefIdeal.main_arg2),
    m ((c : Thread Cert.GatedRefIdeal.nD Cert.GatedRefIdeal.τ).loc Cert.GatedRefIdeal.main_arg3)⟩

/-- The value claim. -/
theorem algebraic : Cert.algebraic_GatedFwdIdeal_GatedRefIdeal := fun m g m' g' _ hag =>
  ⟨fun c j => out (Cert.GatedFwdIdeal.Out.args m c) (j 0) (j 1),
    (θ_run _ _ _).mono (fun _ h c => ⟨(h c).1.trans (Cert.GatedFwdIdeal.Out.final_out m c), (h c).2⟩) (Cert.GatedFwdIdeal.Value.run_blocks m g),
    (θ_run _ _ _).mono (fun _ h c => by
      obtain ⟨a0, a1, a2, a3⟩ := hag c
      have e : rargs m' c = Cert.GatedFwdIdeal.Out.args m c := by unfold rargs; rw [a0, a1, a2, a3]
      exact ⟨(h c).1.trans ((funext (Cert.GatedRefIdeal.Out.result (rargs m' c))).trans (congrArg (fun A : Args => fun j : Cert.GatedRefIdeal.S16384x1024.Idx => out A (j 0) (j 1)) e)), (h c).2⟩)
      (Cert.GatedRefIdeal.Value.run m' g')⟩

end Cert.Gated

end
-- ==== Proof.Group.lean ====
/- The forward call of the gate by silu and the grouped norm behind it: kernel and reference compute the same array. -/
module

public import proofs.«01_k».proof.Defs
public import proofs.«01_k».proof.Proof.Blocks
public import proofs.«01_k».proof.Proof.Reals
public import proofs.«01_k».proof.Proof.Gen.GroupFwdIdeal.Value
public import proofs.«01_k».proof.Proof.Gen.GroupRefIdeal.Run
public import proofs.«01_k».proof.Proof.Gen.GroupRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Group

/-- The arguments: the scan's output, the gate and the norm's weight. -/
structure Args where
  y : Shape.Idx ⟨2, ![16384, 2048]⟩ → EReal
  z : Shape.Idx ⟨2, ![16384, 2048]⟩ → EReal
  g : Shape.Idx ⟨1, ![2048]⟩ → EReal

/-- The norm's epsilon and the width of a group, the numbers that their single-precision words are. -/
abbrev eps : EReal := Ideal.ofBits .f32 0x3727C5AC#32
abbrev width : EReal := Ideal.ofBits .f32 0x44000000#32

/-- Column `k` of group `q`, and a column's group and place in it. -/
def col (q : Fin 4) (k : Fin 512) : Fin 2048 := ⟨q.val * 512 + k.val, by omega⟩
def grp (j : Fin 2048) : Fin 4 := ⟨j.val / 512, by omega⟩
def pos (j : Fin 2048) : Fin 512 := ⟨j.val % 512, by omega⟩

/-- The gated row, and one over the root mean square of a group of it. -/
def gated (A : Args) (r : Fin 16384) (j : Fin 2048) : EReal := A.y (ix2 r j) * (A.z (ix2 r j) * Ideal.logistic (A.z (ix2 r j)))
def rinv (A : Args) (r : Fin 16384) (q : Fin 4) : EReal := Ideal.rsqrt (Reals.ms (fun k : Fin 512 => gated A r (col q k)) width eps)

/-- The normed group under its weight. -/
def outAt (A : Args) (r : Fin 16384) (q : Fin 4) (k : Fin 512) : EReal := gated A r (col q k) * rinv A r q * A.g (ix1 (col q k))
def out (A : Args) (r : Fin 16384) (j : Fin 2048) : EReal := outAt A r (grp j) (pos j)

/-- Column `j` is the group's `k`-th. -/
theorem at_col (A : Args) {r r' : Fin 16384} {q : Fin 4} {k : Fin 512} {j : Fin 2048} (hr : r = r') (h : j.val = q.val * 512 + k.val) :
    outAt A r q k = out A r' j := by
  obtain rfl : q = grp j := Fin.ext (by show q.val = j.val / 512; omega)
  obtain rfl : k = pos j := Fin.ext (by show k.val = j.val % 512; omega)
  rw [hr, out]

end Cert.Group

/-! ## The kernel -/

namespace Cert.GroupFwdIdeal.Out

open Cert.GroupFwdIdeal Cert.GroupFwdIdeal.Gen Cert.Group

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1), m ((c : Thread nD τ).loc main_arg2)⟩

/-- Which block each window takes at each point. -/
theorem idx_val : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem t_lt (t : Fin cfg0.N) : t.val < 64 := lt_of_lt_of_eq t.isLt N_0

/-- Row `i` of the block of point `t`. -/
abbrev row (t : Fin cfg0.N) (i : Fin 256) : Fin 16384 := ⟨t.val * 256 + i.val, by have := t_lt t; omega⟩

/-- A block of a group holds the arguments' rows `R` at group `q`. -/
structure Holds (A : Args) (R : Fin 256 → Fin 16384) (q : Fin 4) (z y : Vec Ideal S256x512 .f32) (g : Vec Ideal S1x512 .f32) : Prop where
  z : ∀ i k, z (ix2 i k) = A.z (ix2 (R i) (col q k))
  y : ∀ i k, y (ix2 i k) = A.y (ix2 (R i) (col q k))
  g : ∀ k, g (ix2 0 k) = A.g (ix1 (col q k))

section
variable {A : Args} {R : Fin 256 → Fin 16384} {q : Fin 4} {z y : Vec Ideal S256x512 .f32} {g : Vec Ideal S1x512 .f32} (H : Holds A R q z y g)
include H

/-- A group of the block, written once for its four printings. -/
theorem group_at (i : Fin 256) (k : Fin 512) : k0_pay2 (F := Ideal) z y g (ix2 i k) = outAt A (R i) q k := by
  pointwise [k0_pay2, H.z, H.y, H.g, outAt, rinv, gated, Reals.ms]
end

/-- The loads of a point at the columns of group `q`. -/
theorem holds (c : Dev nD) (t : Fin cfg0.N) (q : Fin 4) {o : Nat} (ho : o = q.val * 512) (h1 h0 h2) :
    Holds (args m c) (row t) q (View.ld (iblk m c 1 t) (Rect.unit ![0, o] ![256, 512] h1)) (View.ld (iblk m c 0 t) (Rect.unit ![0, o] ![256, 512] h0))
      (View.ld (iblk m c 2 t) (Rect.unit ![0, o] ![1, 512] h2)) where
  z i k := (Blocks.ld_cols _ _ i k i (col q k) rfl (by rw [ho]; rfl)).trans (by blk_point [iblk, V, idx_val t])
  y i k := (Blocks.ld_cols _ _ i k i (col q k) rfl (by rw [ho]; rfl)).trans (by blk_point [iblk, V, idx_val t])
  g k := (Blocks.ld_cols _ _ 0 k 0 (col q k) rfl (by rw [ho]; rfl)).trans (by blk_point [iblk, V, idx_val t])

theorem tile (c : Dev nD) (t : Fin cfg0.N) (q : Fin 4) (x : S256x512.Idx) (y : S256x2048.Idx) {o : Nat} (ho : o = q.val * 512) (h1 h0 h2)
    (e0 : (y 0).val = (x 0).val) (e1 : (y 1).val = o + (x 1).val) :
    k0_pay2 (F := Ideal) (View.ld (iblk m c 1 t) (Rect.unit ![0, o] ![256, 512] h1)) (View.ld (iblk m c 0 t) (Rect.unit ![0, o] ![256, 512] h0))
      (View.ld (iblk m c 2 t) (Rect.unit ![0, o] ![1, 512] h2)) x = out (args m c) (row t (y 0)) (y 1) := by
  idx_vars x
  exact (group_at (holds m c t q ho h1 h0 h2) _ _).trans (at_col (args m c) (Fin.ext (congrArg (t.val * 256 + ·) e0.symm)) (ho ▸ e1))

/-- Point `t` writes its rows. -/
theorem out_point (c : Dev nD) (t : Fin cfg0.N) (y : S256x2048.Idx) :
    out0_3 (iblk m c 0 t) (iblk m c 1 t) (iblk m c 2 t) y = out (args m c) (row t (y 0)) (y 1) := by
  unfold out0_3
  canon_tiles x h
  · exact tile m c t 3 x y rfl _ _ _ h0 h1
  · exact tile m c t 2 x y rfl _ _ _ h0 h1
  · exact tile m c t 1 x y rfl _ _ _ h0 h1
  · exact tile m c t 0 x y rfl _ _ _ h0 (h1.trans (Nat.zero_add _).symm)

/-- The whole array. -/
theorem final_out (c : Dev nD) : (dats m 0 c).arrAt 3 cfg0.N = fun j => out (args m c) (j 0) (j 1) := by
  refine (dats m 0 c).arrAt_eq_of_covers 3 (fun j => out (args m c) (j 0) (j 1)) (by decide +kernel) fun t _ y => ?_
  blk_simp
  rw [after0_3, out_point]
  refine congrArg₂ (out (args m c)) (Fin.ext ?_) (Fin.ext ?_)
  · blk_point [idx_val t]
  · blk_point [idx_val t]

end Cert.GroupFwdIdeal.Out

/-! ## The reference -/

namespace Cert.GroupRefIdeal.Out

open Cert.GroupRefIdeal Cert.GroupRefIdeal.Read Cert.Group

variable (A : Args)

theorem ref_gated (r : Fin 16384) (j : Fin 2048) : val_main_v1 (F := Ideal) A.y A.z (ix2 r j) = gated A r j := by
  pointwise [val_main_v1, val_main_v0, val_main_call0_v5, val_main_call0_v4, val_main_call0_v3, val_main_call0_v2, val_main_call0_v1, val_main_call0_v0,
    val_main_call0_cst, val_main_call0_cst_0, gated]
  rfl

theorem ref_group (r : Fin 16384) (q : Fin 4) (k : Fin 512) : val_main_v2 (F := Ideal) A.y A.z (ix3 r q k) = gated A r (col q k) := by
  pointwise [val_main_v2]
  exact ref_gated A r (col q k)

theorem ref_rinv (r : Fin 16384) (q : Fin 4) (p : Fin 1) : val_main_v10 (F := Ideal) A.y A.z (ix3 r q p) = rinv A r q := by
  pointwise [val_main_v10, val_main_v9, val_main_v8, val_main_v7, val_main_v6, val_main_v5, val_main_v4, val_main_v3, ref_group, val_main_cst, val_main_cst_0, val_main_cst_1,
    rinv, Reals.ms]
  try rfl

theorem ref_yhat (r : Fin 16384) (q : Fin 4) (k : Fin 512) : val_main_v12 (F := Ideal) A.y A.z (ix3 r q k) = gated A r (col q k) * rinv A r q := by
  pointwise [val_main_v12, val_main_v11, ref_group, ref_rinv]

theorem result_at (r : Fin 16384) (q : Fin 4) (k : Fin 512) : val_main_v17 (F := Ideal) A.y A.z A.g (ix2 r (col q k)) = outAt A r q k := by
  pointwise [val_main_v17, val_main_v16, val_main_v15, val_main_v14, val_main_v13, outAt]
  rw [← ref_yhat]
  refine congrArg (fun i => val_main_v12 (F := Ideal) A.y A.z i * A.g (ix1 (col q k))) (congrArg₂ (ix3 r) (Fin.ext ?_) (Fin.ext ?_))
  · show (q.val * 512 + k.val) / 512 = q.val; omega
  · show (q.val * 512 + k.val) % 512 = k.val; omega

theorem result_row (r : Fin 16384) (j : Fin 2048) : val_main_v17 (F := Ideal) A.y A.z A.g (ix2 r j) = out A r j := by
  have h := result_at A r (grp j) (pos j)
  have e : col (grp j) (pos j) = j := Fin.ext (by show j.val / 512 * 512 + j.val % 512 = j.val; omega)
  rw [e] at h
  exact h

theorem result (i : S16384x2048.Idx) : val_main_v17 (F := Ideal) A.y A.z A.g i = out A (i 0) (i 1) := by
  idx_vars i
  exact result_row A _ _

end Cert.GroupRefIdeal.Out

/-! ## The claims -/

namespace Cert.Group

/-- The reference terminates, keeps its arguments and uses no semaphore. -/
theorem frame_ref : Cert.quiescent_GroupRefIdeal := fun m ρ _ =>
  (θ_run Cert.GroupRefIdeal.defs _ _).mono (fun r h => ⟨fun c => (h c).2, sem_eq_zero_of_no_sems (by decide) r.2⟩)
    (Cert.GroupRefIdeal.Value.run m ρ)

/-- The arguments, as the reference's memory holds them at launch. -/
def rargs (m : (ℓ : Loc Cert.GroupRefIdeal.nD Cert.GroupRefIdeal.τ Cert.GroupRefIdeal.sig) → Buf (Elt Ideal) ℓ) (c : Dev Cert.GroupRefIdeal.nD) : Args :=
  ⟨m ((c : Thread Cert.GroupRefIdeal.nD Cert.GroupRefIdeal.τ).loc Cert.GroupRefIdeal.main_arg0),
    m ((c : Thread Cert.GroupRefIdeal.nD Cert.GroupRefIdeal.τ).loc Cert.GroupRefIdeal.main_arg1),
    m ((c : Thread Cert.GroupRefIdeal.nD Cert.GroupRefIdeal.τ).loc Cert.GroupRefIdeal.main_arg2)⟩

/-- The value claim. -/
theorem algebraic : Cert.algebraic_GroupFwdIdeal_GroupRefIdeal := fun m g m' g' _ hag =>
  ⟨fun c j => out (Cert.GroupFwdIdeal.Out.args m c) (j 0) (j 1),
    (θ_run _ _ _).mono (fun _ h c => ⟨(h c).1.trans (Cert.GroupFwdIdeal.Out.final_out m c), (h c).2⟩) (Cert.GroupFwdIdeal.Value.run_blocks m g),
    (θ_run _ _ _).mono (fun _ h c => by
      obtain ⟨a0, a1, a2⟩ := hag c
      have e : rargs m' c = Cert.GroupFwdIdeal.Out.args m c := by unfold rargs; rw [a0, a1, a2]
      exact ⟨(h c).1.trans ((funext (Cert.GroupRefIdeal.Out.result (rargs m' c))).trans (congrArg (fun A : Args => fun j : Cert.GroupRefIdeal.S16384x2048.Idx => out A (j 0) (j 1)) e)), (h c).2⟩)
      (Cert.GroupRefIdeal.Value.run m' g')⟩

end Cert.Group

end
-- ==== Proof.Relu.lean ====
/- The forward call of the first product of the squared-relu MLP, the relu fused into it: kernel and reference compute the same array. -/
module

public import proofs.«01_k».proof.Defs
public import proofs.«01_k».proof.Proof.Gen.ReluFwdIdeal.Value
public import proofs.«01_k».proof.Proof.Gen.ReluRefIdeal.Run
public import proofs.«01_k».proof.Proof.Gen.ReluRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Relu

/-- The arguments: the rows and the weight. -/
structure Args where
  h : Shape.Idx ⟨2, ![16384, 1024]⟩ → EReal
  w : Shape.Idx ⟨2, ![1024, 4096]⟩ → EReal

/-- The relu of the product. -/
def out (A : Args) (r : Fin 16384) (j : Fin 4096) : EReal := max (∑ k : Fin 1024, A.h (ix2 r k) * A.w (ix2 k j)) 0

end Cert.Relu

/-! ## The kernel -/

namespace Cert.ReluFwdIdeal.Out

open Cert.ReluFwdIdeal Cert.ReluFwdIdeal.Gen Cert.Relu

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1)⟩

/-- Which block each window takes at each point. -/
theorem idx_val : ∀ t : Fin cfg0.N, win0_0.index t = ![t.val / 4, 0] ∧ win0_1.index t = ![0, t.val % 4] ∧ win0_2.index t = ![t.val / 4, t.val % 4] :=
  (by decide +kernel : ∀ t : Fin grid0.N, _)

theorem t_lt (t : Fin cfg0.N) : t.val < 64 := lt_of_lt_of_eq t.isLt N_0

/-- Row `i` of the tile of point `t`. -/
abbrev row (t : Fin cfg0.N) (i : Fin 1024) : Fin 16384 := ⟨t.val / 4 * 1024 + i.val, by have := t_lt t; omega⟩

/-- Column `j` of the tile of point `t`. -/
abbrev col (t : Fin cfg0.N) (j : Fin 1024) : Fin 4096 := ⟨t.val % 4 * 1024 + j.val, by omega⟩

/-- A point computes its tile of the result. -/
theorem out_at (c : Dev nD) (t : Fin cfg0.N) (i : Fin 1024) (j : Fin 1024) :
    k0_pay1 (F := Ideal) (iblk m c 0 t) (iblk m c 1 t) (ix2 i j) = out (args m c) (row t i) (col t j) := by
  pointwise [k0_pay1, out]
  blk_point [iblk, V, idx_val t]

theorem out_point (c : Dev nD) (t : Fin cfg0.N) (i : Fin 1024) (j : Fin 1024) :
    out0_2 (iblk m c 0 t) (iblk m c 1 t) (ix2 i j) = out (args m c) (row t i) (col t j) := by
  unfold out0_2
  frame_out
  exact out_at m c t _ _

/-- The whole array. -/
theorem final_out (c : Dev nD) : (dats m 0 c).arrAt 2 cfg0.N = fun j => out (args m c) (j 0) (j 1) := by
  refine (dats m 0 c).arrAt_eq_of_covers 2 (fun j => out (args m c) (j 0) (j 1)) (by decide +kernel) fun t _ y => ?_
  blk_simp
  rw [after0_2]
  idx_vars y
  refine (out_point m c t y0 y1).trans (congrArg₂ (out (args m c)) (Fin.ext ?_) (Fin.ext ?_))
  · blk_point [idx_val t]
  · blk_point [idx_val t]

end Cert.ReluFwdIdeal.Out

/-! ## The reference -/

namespace Cert.ReluRefIdeal.Out

open Cert.ReluRefIdeal Cert.ReluRefIdeal.Read Cert.Relu

variable (A : Args)

theorem result (i : S16384x4096.Idx) : val_main_v2 (F := Ideal) A.h A.w i = out A (i 0) (i 1) := by
  idx_vars i
  pointwise [val_main_v2, val_main_v1, val_main_v0, val_main_call0_v0, val_main_call0_cst, out]

end Cert.ReluRefIdeal.Out

/-! ## The claims -/

namespace Cert.Relu

/-- The reference terminates, keeps its arguments and uses no semaphore. -/
theorem frame_ref : Cert.quiescent_ReluRefIdeal := fun m ρ _ =>
  (θ_run Cert.ReluRefIdeal.defs _ _).mono (fun r h => ⟨fun c => (h c).2, sem_eq_zero_of_no_sems (by decide) r.2⟩)
    (Cert.ReluRefIdeal.Value.run m ρ)

/-- The arguments, as the reference's memory holds them at launch. -/
def rargs (m : (ℓ : Loc Cert.ReluRefIdeal.nD Cert.ReluRefIdeal.τ Cert.ReluRefIdeal.sig) → Buf (Elt Ideal) ℓ) (c : Dev Cert.ReluRefIdeal.nD) : Args :=
  ⟨m ((c : Thread Cert.ReluRefIdeal.nD Cert.ReluRefIdeal.τ).loc Cert.ReluRefIdeal.main_arg0),
    m ((c : Thread Cert.ReluRefIdeal.nD Cert.ReluRefIdeal.τ).loc Cert.ReluRefIdeal.main_arg1)⟩

/-- The value claim. -/
theorem algebraic : Cert.algebraic_ReluFwdIdeal_ReluRefIdeal := fun m g m' g' _ hag =>
  ⟨fun c j => out (Cert.ReluFwdIdeal.Out.args m c) (j 0) (j 1),
    (θ_run _ _ _).mono (fun _ h c => ⟨(h c).1.trans (Cert.ReluFwdIdeal.Out.final_out m c), (h c).2⟩) (Cert.ReluFwdIdeal.Value.run_blocks m g),
    (θ_run _ _ _).mono (fun _ h c => by
      obtain ⟨a0, a1⟩ := hag c
      have e : rargs m' c = Cert.ReluFwdIdeal.Out.args m c := by unfold rargs; rw [a0, a1]
      exact ⟨(h c).1.trans ((funext (Cert.ReluRefIdeal.Out.result (rargs m' c))).trans (congrArg (fun A : Args => fun j : Cert.ReluRefIdeal.S16384x4096.Idx => out A (j 0) (j 1)) e)), (h c).2⟩)
      (Cert.ReluRefIdeal.Value.run m' g')⟩

end Cert.Relu

end
-- ==== Proof.Square.lean ====
/- The forward call of the second product of the squared-relu MLP, with the square, the gate and the residual fused into it: kernel and reference compute the same array. -/
module

public import proofs.«01_k».proof.Defs
public import proofs.«01_k».proof.Proof.Gen.SquareFwdIdeal.Value
public import proofs.«01_k».proof.Proof.Gen.SquareRefIdeal.Run
public import proofs.«01_k».proof.Proof.Gen.SquareRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Square

/-- The arguments: the relu, the weight, the gate and the residual. -/
structure Args where
  a : Shape.Idx ⟨2, ![16384, 4096]⟩ → EReal
  w : Shape.Idx ⟨2, ![4096, 1024]⟩ → EReal
  gate : Shape.Idx ⟨2, ![1, 1024]⟩ → EReal
  x : Shape.Idx ⟨2, ![16384, 1024]⟩ → EReal

/-- The residual plus the gated product of the square. -/
def out (A : Args) (r : Fin 16384) (j : Fin 1024) : EReal :=
  (∑ k : Fin 4096, A.a (ix2 r k) * A.a (ix2 r k) * A.w (ix2 k j)) * A.gate (ix2 0 j) + A.x (ix2 r j)

end Cert.Square

/-! ## The kernel -/

namespace Cert.SquareFwdIdeal.Out

open Cert.SquareFwdIdeal Cert.SquareFwdIdeal.Gen Cert.Square

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1), m ((c : Thread nD τ).loc main_arg2), m ((c : Thread nD τ).loc main_arg3)⟩

/-- Which block each window takes at each point. -/
theorem idx_val : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)

theorem t_lt (t : Fin cfg0.N) : t.val < 32 := lt_of_lt_of_eq t.isLt N_0

/-- Row `i` of the tile of point `t`. -/
abbrev row (t : Fin cfg0.N) (i : Fin 512) : Fin 16384 := ⟨t.val * 512 + i.val, by have := t_lt t; omega⟩

/-- A point computes its tile of the result. -/
theorem out_at (c : Dev nD) (t : Fin cfg0.N) (i : Fin 512) (j : Fin 1024) :
    k0_pay1 (F := Ideal) (iblk m c 0 t) (iblk m c 1 t) (iblk m c 2 t) (iblk m c 3 t) (ix2 i j) = out (args m c) (row t i) j := by
  pointwise [k0_pay1, out]
  blk_point [iblk, V, idx_val t]

theorem out_point (c : Dev nD) (t : Fin cfg0.N) (i : Fin 512) (j : Fin 1024) :
    out0_4 (iblk m c 0 t) (iblk m c 1 t) (iblk m c 2 t) (iblk m c 3 t) (ix2 i j) = out (args m c) (row t i) j := by
  unfold out0_4
  frame_out
  exact out_at m c t _ _

/-- The whole array. -/
theorem final_out (c : Dev nD) : (dats m 0 c).arrAt 4 cfg0.N = fun j => out (args m c) (j 0) (j 1) := by
  refine (dats m 0 c).arrAt_eq_of_covers 4 (fun j => out (args m c) (j 0) (j 1)) (by decide +kernel) fun t _ y => ?_
  blk_simp
  rw [after0_4]
  idx_vars y
  refine (out_point m c t y0 y1).trans (congrArg₂ (out (args m c)) (Fin.ext ?_) (Fin.ext ?_))
  · blk_point [idx_val t]
  · blk_point [idx_val t]

end Cert.SquareFwdIdeal.Out

/-! ## The reference -/

namespace Cert.SquareRefIdeal.Out

open Cert.SquareRefIdeal Cert.SquareRefIdeal.Read Cert.Square

variable (A : Args)

theorem result (i : S16384x1024.Idx) : val_main_v4 (F := Ideal) A.a A.w A.gate A.x i = out A (i 0) (i 1) := by
  idx_vars i
  pointwise [val_main_v4, val_main_v3, val_main_v2, val_main_v1, val_main_v0, out]
  rw [add_comm, mul_comm]

end Cert.SquareRefIdeal.Out

/-! ## The claims -/

namespace Cert.Square

/-- The reference terminates, keeps its arguments and uses no semaphore. -/
theorem frame_ref : Cert.quiescent_SquareRefIdeal := fun m ρ _ =>
  (θ_run Cert.SquareRefIdeal.defs _ _).mono (fun r h => ⟨fun c => (h c).2, sem_eq_zero_of_no_sems (by decide) r.2⟩)
    (Cert.SquareRefIdeal.Value.run m ρ)

/-- The arguments, as the reference's memory holds them at launch. -/
def rargs (m : (ℓ : Loc Cert.SquareRefIdeal.nD Cert.SquareRefIdeal.τ Cert.SquareRefIdeal.sig) → Buf (Elt Ideal) ℓ) (c : Dev Cert.SquareRefIdeal.nD) : Args :=
  ⟨m ((c : Thread Cert.SquareRefIdeal.nD Cert.SquareRefIdeal.τ).loc Cert.SquareRefIdeal.main_arg0),
    m ((c : Thread Cert.SquareRefIdeal.nD Cert.SquareRefIdeal.τ).loc Cert.SquareRefIdeal.main_arg1),
    m ((c : Thread Cert.SquareRefIdeal.nD Cert.SquareRefIdeal.τ).loc Cert.SquareRefIdeal.main_arg2),
    m ((c : Thread Cert.SquareRefIdeal.nD Cert.SquareRefIdeal.τ).loc Cert.SquareRefIdeal.main_arg3)⟩

/-- The value claim. -/
theorem algebraic : Cert.algebraic_SquareFwdIdeal_SquareRefIdeal := fun m g m' g' _ hag =>
  ⟨fun c j => out (Cert.SquareFwdIdeal.Out.args m c) (j 0) (j 1),
    (θ_run _ _ _).mono (fun _ h c => ⟨(h c).1.trans (Cert.SquareFwdIdeal.Out.final_out m c), (h c).2⟩) (Cert.SquareFwdIdeal.Value.run_blocks m g),
    (θ_run _ _ _).mono (fun _ h c => by
      obtain ⟨a0, a1, a2, a3⟩ := hag c
      have e : rargs m' c = Cert.SquareFwdIdeal.Out.args m c := by unfold rargs; rw [a0, a1, a2, a3]
      exact ⟨(h c).1.trans ((funext (Cert.SquareRefIdeal.Out.result (rargs m' c))).trans (congrArg (fun A : Args => fun j : Cert.SquareRefIdeal.S16384x1024.Idx => out A (j 0) (j 1)) e)), (h c).2⟩)
      (Cert.SquareRefIdeal.Value.run m' g')⟩

end Cert.Square

end
-- ==== Proof.Proj.lean ====
/- The forward call of the state-space layer's output projection, with the gate and the residual fused into it: kernel and reference compute the same array. -/
module

public import proofs.«01_k».proof.Defs
public import proofs.«01_k».proof.Proof.Gen.ProjFwdIdeal.Value
public import proofs.«01_k».proof.Proof.Gen.ProjRefIdeal.Run
public import proofs.«01_k».proof.Proof.Gen.ProjRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proj

/-- The arguments: the normed rows, the weight, the gate and the residual. -/
structure Args where
  y : Shape.Idx ⟨2, ![16384, 2048]⟩ → EReal
  w : Shape.Idx ⟨2, ![2048, 1024]⟩ → EReal
  gate : Shape.Idx ⟨2, ![1, 1024]⟩ → EReal
  x : Shape.Idx ⟨2, ![16384, 1024]⟩ → EReal

/-- The residual plus the gated product. -/
def out (A : Args) (r : Fin 16384) (j : Fin 1024) : EReal :=
  (∑ k : Fin 2048, A.y (ix2 r k) * A.w (ix2 k j)) * A.gate (ix2 0 j) + A.x (ix2 r j)

end Cert.Proj

/-! ## The kernel -/

namespace Cert.ProjFwdIdeal.Out

open Cert.ProjFwdIdeal Cert.ProjFwdIdeal.Gen Cert.Proj

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1), m ((c : Thread nD τ).loc main_arg2), m ((c : Thread nD τ).loc main_arg3)⟩

/-- Which block each window takes at each point. -/
theorem idx_val : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)

theorem t_lt (t : Fin cfg0.N) : t.val < 16 := lt_of_lt_of_eq t.isLt N_0

/-- Row `i` of the tile of point `t`. -/
abbrev row (t : Fin cfg0.N) (i : Fin 1024) : Fin 16384 := ⟨t.val * 1024 + i.val, by have := t_lt t; omega⟩

/-- A point computes its tile of the result. -/
theorem out_at (c : Dev nD) (t : Fin cfg0.N) (i : Fin 1024) (j : Fin 1024) :
    k0_pay1 (F := Ideal) (iblk m c 0 t) (iblk m c 1 t) (iblk m c 2 t) (iblk m c 3 t) (ix2 i j) = out (args m c) (row t i) j := by
  pointwise [k0_pay1, out]
  blk_point [iblk, V, idx_val t]

theorem out_point (c : Dev nD) (t : Fin cfg0.N) (i : Fin 1024) (j : Fin 1024) :
    out0_4 (iblk m c 0 t) (iblk m c 1 t) (iblk m c 2 t) (iblk m c 3 t) (ix2 i j) = out (args m c) (row t i) j := by
  unfold out0_4
  frame_out
  exact out_at m c t _ _

/-- The whole array. -/
theorem final_out (c : Dev nD) : (dats m 0 c).arrAt 4 cfg0.N = fun j => out (args m c) (j 0) (j 1) := by
  refine (dats m 0 c).arrAt_eq_of_covers 4 (fun j => out (args m c) (j 0) (j 1)) (by decide +kernel) fun t _ y => ?_
  blk_simp
  rw [after0_4]
  idx_vars y
  refine (out_point m c t y0 y1).trans (congrArg₂ (out (args m c)) (Fin.ext ?_) (Fin.ext ?_))
  · blk_point [idx_val t]
  · blk_point [idx_val t]

end Cert.ProjFwdIdeal.Out

/-! ## The reference -/

namespace Cert.ProjRefIdeal.Out

open Cert.ProjRefIdeal Cert.ProjRefIdeal.Read Cert.Proj

variable (A : Args)

theorem result (i : S16384x1024.Idx) : val_main_v3 (F := Ideal) A.y A.w A.gate A.x i = out A (i 0) (i 1) := by
  idx_vars i
  pointwise [val_main_v3, val_main_v2, val_main_v1, val_main_v0, out]
  rw [add_comm, mul_comm]

end Cert.ProjRefIdeal.Out

/-! ## The claims -/

namespace Cert.Proj

/-- The reference terminates, keeps its arguments and uses no semaphore. -/
theorem frame_ref : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run m ρ)

/-- The arguments, as the reference's memory holds them at launch. -/
def rargs (m : (ℓ : Loc Cert.ProjRefIdeal.nD Cert.ProjRefIdeal.τ Cert.ProjRefIdeal.sig) → Buf (Elt Ideal) ℓ) (c : Dev Cert.ProjRefIdeal.nD) : Args :=
  ⟨m ((c : Thread Cert.ProjRefIdeal.nD Cert.ProjRefIdeal.τ).loc Cert.ProjRefIdeal.main_arg0),
    m ((c : Thread Cert.ProjRefIdeal.nD Cert.ProjRefIdeal.τ).loc Cert.ProjRefIdeal.main_arg1),
    m ((c : Thread Cert.ProjRefIdeal.nD Cert.ProjRefIdeal.τ).loc Cert.ProjRefIdeal.main_arg2),
    m ((c : Thread Cert.ProjRefIdeal.nD Cert.ProjRefIdeal.τ).loc Cert.ProjRefIdeal.main_arg3)⟩

/-- The value claim. -/
theorem algebraic : Cert.algebraic_ProjFwdIdeal_ProjRefIdeal := fun m g m' g' _ hag =>
  ⟨fun c j => out (Cert.ProjFwdIdeal.Out.args m c) (j 0) (j 1),
    (θ_run _ _ _).mono (fun _ h c => ⟨(h c).1.trans (Cert.ProjFwdIdeal.Out.final_out m c), (h c).2⟩) (Cert.ProjFwdIdeal.Value.run_blocks m g),
    (θ_run _ _ _).mono (fun _ h c => by
      obtain ⟨a0, a1, a2, a3⟩ := hag c
      have e : rargs m' c = Cert.ProjFwdIdeal.Out.args m c := by unfold rargs; rw [a0, a1, a2, a3]
      exact ⟨(h c).1.trans ((funext (Cert.ProjRefIdeal.Out.result (rargs m' c))).trans (congrArg (fun A : Args => fun j : Cert.ProjRefIdeal.S16384x1024.Idx => out A (j 0) (j 1)) e)), (h c).2⟩)
      (Cert.ProjRefIdeal.Value.run m' g')⟩

end Cert.Proj

end
-- ==== Proof.Win.lean ====
/- The input projection of the S5 layer. Kernel and reference compute the same array. -/
module

public import proofs.«01_k».proof.Defs
public import proofs.«01_k».proof.Proof.Gen.WinFwdIdeal.Value
public import proofs.«01_k».proof.Proof.Gen.WinRefIdeal.Run
public import proofs.«01_k».proof.Proof.Gen.WinRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Win

/-- The arguments: the rows and the weight. -/
structure Args where
  h : Shape.Idx ⟨2, ![16384, 1024]⟩ → EReal
  w : Shape.Idx ⟨2, ![1024, 1024]⟩ → EReal

/-- The product. -/
def out (A : Args) (r : Fin 16384) (j : Fin 1024) : EReal := ∑ k : Fin 1024, A.h (ix2 r k) * A.w (ix2 k j)

end Cert.Win

/-! ## The kernel -/

namespace Cert.WinFwdIdeal.Out

open Cert.WinFwdIdeal Cert.WinFwdIdeal.Gen Cert.Win

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1)⟩

/-- Which block each window takes at each point. -/
theorem idx_val : ∀ t : Fin cfg0.N, win0_0.index t = ![t.val, 0] ∧ win0_1.index t = ![0, 0] ∧ win0_2.index t = ![t.val, 0] :=
  (by decide +kernel : ∀ t : Fin grid0.N, _)

theorem t_lt (t : Fin cfg0.N) : t.val < 16 := lt_of_lt_of_eq t.isLt N_0

/-- Row `i` of the tile of point `t`. -/
abbrev row (t : Fin cfg0.N) (i : Fin 1024) : Fin 16384 := ⟨t.val * 1024 + i.val, by have := t_lt t; omega⟩

/-- A point computes its tile of the result. -/
theorem out_at (c : Dev nD) (t : Fin cfg0.N) (i : Fin 1024) (j : Fin 1024) :
    k0_pay1 (F := Ideal) (iblk m c 0 t) (iblk m c 1 t) (ix2 i j) = out (args m c) (row t i) j := by
  pointwise [k0_pay1, out]
  blk_point [iblk, V, idx_val t]

theorem out_point (c : Dev nD) (t : Fin cfg0.N) (i : Fin 1024) (j : Fin 1024) :
    out0_2 (iblk m c 0 t) (iblk m c 1 t) (ix2 i j) = out (args m c) (row t i) j := by
  unfold out0_2
  frame_out
  exact out_at m c t _ _

/-- The whole array. -/
theorem final_out (c : Dev nD) : (dats m 0 c).arrAt 2 cfg0.N = fun j => out (args m c) (j 0) (j 1) := by
  refine (dats m 0 c).arrAt_eq_of_covers 2 (fun j => out (args m c) (j 0) (j 1)) (by decide +kernel) fun t _ y => ?_
  blk_simp
  rw [after0_2]
  idx_vars y
  refine (out_point m c t y0 y1).trans (congrArg₂ (out (args m c)) (Fin.ext ?_) (Fin.ext ?_))
  · blk_point [idx_val t]
  · blk_point [idx_val t]

end Cert.WinFwdIdeal.Out

/-! ## The reference -/

namespace Cert.WinRefIdeal.Out

open Cert.WinRefIdeal Cert.WinRefIdeal.Read Cert.Win

variable (A : Args)

theorem result (i : S16384x1024.Idx) : val_main_v0 (F := Ideal) A.h A.w i = out A (i 0) (i 1) := by
  idx_vars i
  pointwise [val_main_v0, out]

end Cert.WinRefIdeal.Out

/-! ## The claims -/

namespace Cert.Win

/-- The reference terminates, keeps its arguments and uses no semaphore. -/
theorem frame_ref : Cert.quiescent_WinRefIdeal := fun m ρ _ =>
  (θ_run Cert.WinRefIdeal.defs _ _).mono (fun r h => ⟨fun c => (h c).2, sem_eq_zero_of_no_sems (by decide) r.2⟩)
    (Cert.WinRefIdeal.Value.run m ρ)

/-- The arguments, as the reference's memory holds them at launch. -/
def rargs (m : (ℓ : Loc Cert.WinRefIdeal.nD Cert.WinRefIdeal.τ Cert.WinRefIdeal.sig) → Buf (Elt Ideal) ℓ) (c : Dev Cert.WinRefIdeal.nD) : Args :=
  ⟨m ((c : Thread Cert.WinRefIdeal.nD Cert.WinRefIdeal.τ).loc Cert.WinRefIdeal.main_arg0),
    m ((c : Thread Cert.WinRefIdeal.nD Cert.WinRefIdeal.τ).loc Cert.WinRefIdeal.main_arg1)⟩

/-- The value claim. -/
theorem algebraic : Cert.algebraic_WinFwdIdeal_WinRefIdeal := fun m g m' g' _ hag =>
  ⟨fun c j => out (Cert.WinFwdIdeal.Out.args m c) (j 0) (j 1),
    (θ_run _ _ _).mono (fun _ h c => ⟨(h c).1.trans (Cert.WinFwdIdeal.Out.final_out m c), (h c).2⟩) (Cert.WinFwdIdeal.Value.run_blocks m g),
    (θ_run _ _ _).mono (fun _ h c => by
      obtain ⟨a0, a1⟩ := hag c
      have e : rargs m' c = Cert.WinFwdIdeal.Out.args m c := by unfold rargs; rw [a0, a1]
      exact ⟨(h c).1.trans ((funext (Cert.WinRefIdeal.Out.result (rargs m' c))).trans (congrArg (fun A : Args => fun j : Cert.WinRefIdeal.S16384x1024.Idx => out A (j 0) (j 1)) e)), (h c).2⟩)
      (Cert.WinRefIdeal.Value.run m' g')⟩

end Cert.Win

end
-- ==== Proof.Wz.lean ====
/- A product of 1024 by 2048: the projection of the gated linear unit, and the state-space layer's projection onto its gate. Kernel and reference compute the same array. -/
module

public import proofs.«01_k».proof.Defs
public import proofs.«01_k».proof.Proof.Gen.WzFwdIdeal.Value
public import proofs.«01_k».proof.Proof.Gen.WzRefIdeal.Run
public import proofs.«01_k».proof.Proof.Gen.WzRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Wz

/-- The arguments: the rows and the weight. -/
structure Args where
  h : Shape.Idx ⟨2, ![16384, 1024]⟩ → EReal
  w : Shape.Idx ⟨2, ![1024, 2048]⟩ → EReal

/-- The product. -/
def out (A : Args) (r : Fin 16384) (j : Fin 2048) : EReal := ∑ k : Fin 1024, A.h (ix2 r k) * A.w (ix2 k j)

end Cert.Wz

/-! ## The kernel -/

namespace Cert.WzFwdIdeal.Out

open Cert.WzFwdIdeal Cert.WzFwdIdeal.Gen Cert.Wz

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1)⟩

/-- Which block each window takes at each point. -/
theorem idx_val : ∀ t : Fin cfg0.N, win0_0.index t = ![t.val / 2, 0] ∧ win0_1.index t = ![0, t.val % 2] ∧ win0_2.index t = ![t.val / 2, t.val % 2] :=
  (by decide +kernel : ∀ t : Fin grid0.N, _)

theorem t_lt (t : Fin cfg0.N) : t.val < 32 := lt_of_lt_of_eq t.isLt N_0

/-- Row `i` of the tile of point `t`. -/
abbrev row (t : Fin cfg0.N) (i : Fin 1024) : Fin 16384 := ⟨t.val / 2 * 1024 + i.val, by have := t_lt t; omega⟩

/-- Column `j` of the tile of point `t`. -/
abbrev col (t : Fin cfg0.N) (j : Fin 1024) : Fin 2048 := ⟨t.val % 2 * 1024 + j.val, by omega⟩

/-- A point computes its tile of the result. -/
theorem out_at (c : Dev nD) (t : Fin cfg0.N) (i : Fin 1024) (j : Fin 1024) :
    k0_pay1 (F := Ideal) (iblk m c 0 t) (iblk m c 1 t) (ix2 i j) = out (args m c) (row t i) (col t j) := by
  pointwise [k0_pay1, out]
  blk_point [iblk, V, idx_val t]

theorem out_point (c : Dev nD) (t : Fin cfg0.N) (i : Fin 1024) (j : Fin 1024) :
    out0_2 (iblk m c 0 t) (iblk m c 1 t) (ix2 i j) = out (args m c) (row t i) (col t j) := by
  unfold out0_2
  frame_out
  exact out_at m c t _ _

/-- The whole array. -/
theorem final_out (c : Dev nD) : (dats m 0 c).arrAt 2 cfg0.N = fun j => out (args m c) (j 0) (j 1) := by
  refine (dats m 0 c).arrAt_eq_of_covers 2 (fun j => out (args m c) (j 0) (j 1)) (by decide +kernel) fun t _ y => ?_
  blk_simp
  rw [after0_2]
  idx_vars y
  refine (out_point m c t y0 y1).trans (congrArg₂ (out (args m c)) (Fin.ext ?_) (Fin.ext ?_))
  · blk_point [idx_val t]
  · blk_point [idx_val t]

end Cert.WzFwdIdeal.Out

/-! ## The reference -/

namespace Cert.WzRefIdeal.Out

open Cert.WzRefIdeal Cert.WzRefIdeal.Read Cert.Wz

variable (A : Args)

theorem result (i : S16384x2048.Idx) : val_main_v0 (F := Ideal) A.h A.w i = out A (i 0) (i 1) := by
  idx_vars i
  pointwise [val_main_v0, out]

end Cert.WzRefIdeal.Out

/-! ## The claims -/

namespace Cert.Wz

/-- The reference terminates, keeps its arguments and uses no semaphore. -/
theorem frame_ref : Cert.quiescent_WzRefIdeal := fun m ρ _ =>
  (θ_run Cert.WzRefIdeal.defs _ _).mono (fun r h => ⟨fun c => (h c).2, sem_eq_zero_of_no_sems (by decide) r.2⟩)
    (Cert.WzRefIdeal.Value.run m ρ)

/-- The arguments, as the reference's memory holds them at launch. -/
def rargs (m : (ℓ : Loc Cert.WzRefIdeal.nD Cert.WzRefIdeal.τ Cert.WzRefIdeal.sig) → Buf (Elt Ideal) ℓ) (c : Dev Cert.WzRefIdeal.nD) : Args :=
  ⟨m ((c : Thread Cert.WzRefIdeal.nD Cert.WzRefIdeal.τ).loc Cert.WzRefIdeal.main_arg0),
    m ((c : Thread Cert.WzRefIdeal.nD Cert.WzRefIdeal.τ).loc Cert.WzRefIdeal.main_arg1)⟩

/-- The value claim. -/
theorem algebraic : Cert.algebraic_WzFwdIdeal_WzRefIdeal := fun m g m' g' _ hag =>
  ⟨fun c j => out (Cert.WzFwdIdeal.Out.args m c) (j 0) (j 1),
    (θ_run _ _ _).mono (fun _ h c => ⟨(h c).1.trans (Cert.WzFwdIdeal.Out.final_out m c), (h c).2⟩) (Cert.WzFwdIdeal.Value.run_blocks m g),
    (θ_run _ _ _).mono (fun _ h c => by
      obtain ⟨a0, a1⟩ := hag c
      have e : rargs m' c = Cert.WzFwdIdeal.Out.args m c := by unfold rargs; rw [a0, a1]
      exact ⟨(h c).1.trans ((funext (Cert.WzRefIdeal.Out.result (rargs m' c))).trans (congrArg (fun A : Args => fun j : Cert.WzRefIdeal.S16384x2048.Idx => out A (j 0) (j 1)) e)), (h c).2⟩)
      (Cert.WzRefIdeal.Value.run m' g')⟩

end Cert.Wz

end
-- ==== Proof.Wxbc.lean ====
/- The projection of the state-space layer onto the input of its convolution. Kernel and reference compute the same array. -/
module

public import proofs.«01_k».proof.Defs
public import proofs.«01_k».proof.Proof.Gen.WxbcFwdIdeal.Value
public import proofs.«01_k».proof.Proof.Gen.WxbcRefIdeal.Run
public import proofs.«01_k».proof.Proof.Gen.WxbcRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Wxbc

/-- The arguments: the rows and the weight. -/
structure Args where
  h : Shape.Idx ⟨2, ![16384, 1024]⟩ → EReal
  w : Shape.Idx ⟨2, ![1024, 3072]⟩ → EReal

/-- The product. -/
def out (A : Args) (r : Fin 16384) (j : Fin 3072) : EReal := ∑ k : Fin 1024, A.h (ix2 r k) * A.w (ix2 k j)

end Cert.Wxbc

/-! ## The kernel -/

namespace Cert.WxbcFwdIdeal.Out

open Cert.WxbcFwdIdeal Cert.WxbcFwdIdeal.Gen Cert.Wxbc

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1)⟩

/-- Which block each window takes at each point. -/
theorem idx_val : ∀ t : Fin cfg0.N, win0_0.index t = ![t.val / 3, 0] ∧ win0_1.index t = ![0, t.val % 3] ∧ win0_2.index t = ![t.val / 3, t.val % 3] :=
  (by decide +kernel : ∀ t : Fin grid0.N, _)

theorem t_lt (t : Fin cfg0.N) : t.val < 48 := lt_of_lt_of_eq t.isLt N_0

/-- Row `i` of the tile of point `t`. -/
abbrev row (t : Fin cfg0.N) (i : Fin 1024) : Fin 16384 := ⟨t.val / 3 * 1024 + i.val, by have := t_lt t; omega⟩

/-- Column `j` of the tile of point `t`. -/
abbrev col (t : Fin cfg0.N) (j : Fin 1024) : Fin 3072 := ⟨t.val % 3 * 1024 + j.val, by omega⟩

/-- A point computes its tile of the result. -/
theorem out_at (c : Dev nD) (t : Fin cfg0.N) (i : Fin 1024) (j : Fin 1024) :
    k0_pay1 (F := Ideal) (iblk m c 0 t) (iblk m c 1 t) (ix2 i j) = out (args m c) (row t i) (col t j) := by
  pointwise [k0_pay1, out]
  blk_point [iblk, V, idx_val t]

theorem out_point (c : Dev nD) (t : Fin cfg0.N) (i : Fin 1024) (j : Fin 1024) :
    out0_2 (iblk m c 0 t) (iblk m c 1 t) (ix2 i j) = out (args m c) (row t i) (col t j) := by
  unfold out0_2
  frame_out
  exact out_at m c t _ _

/-- The whole array. -/
theorem final_out (c : Dev nD) : (dats m 0 c).arrAt 2 cfg0.N = fun j => out (args m c) (j 0) (j 1) := by
  refine (dats m 0 c).arrAt_eq_of_covers 2 (fun j => out (args m c) (j 0) (j 1)) (by decide +kernel) fun t _ y => ?_
  blk_simp
  rw [after0_2]
  idx_vars y
  refine (out_point m c t y0 y1).trans (congrArg₂ (out (args m c)) (Fin.ext ?_) (Fin.ext ?_))
  · blk_point [idx_val t]
  · blk_point [idx_val t]

end Cert.WxbcFwdIdeal.Out

/-! ## The reference -/

namespace Cert.WxbcRefIdeal.Out

open Cert.WxbcRefIdeal Cert.WxbcRefIdeal.Read Cert.Wxbc

variable (A : Args)

theorem result (i : S16384x3072.Idx) : val_main_v0 (F := Ideal) A.h A.w i = out A (i 0) (i 1) := by
  idx_vars i
  pointwise [val_main_v0, out]

end Cert.WxbcRefIdeal.Out

/-! ## The claims -/

namespace Cert.Wxbc

/-- The reference terminates, keeps its arguments and uses no semaphore. -/
theorem frame_ref : Cert.quiescent_WxbcRefIdeal := fun m ρ _ =>
  (θ_run Cert.WxbcRefIdeal.defs _ _).mono (fun r h => ⟨fun c => (h c).2, sem_eq_zero_of_no_sems (by decide) r.2⟩)
    (Cert.WxbcRefIdeal.Value.run m ρ)

/-- The arguments, as the reference's memory holds them at launch. -/
def rargs (m : (ℓ : Loc Cert.WxbcRefIdeal.nD Cert.WxbcRefIdeal.τ Cert.WxbcRefIdeal.sig) → Buf (Elt Ideal) ℓ) (c : Dev Cert.WxbcRefIdeal.nD) : Args :=
  ⟨m ((c : Thread Cert.WxbcRefIdeal.nD Cert.WxbcRefIdeal.τ).loc Cert.WxbcRefIdeal.main_arg0),
    m ((c : Thread Cert.WxbcRefIdeal.nD Cert.WxbcRefIdeal.τ).loc Cert.WxbcRefIdeal.main_arg1)⟩

/-- The value claim. -/
theorem algebraic : Cert.algebraic_WxbcFwdIdeal_WxbcRefIdeal := fun m g m' g' _ hag =>
  ⟨fun c j => out (Cert.WxbcFwdIdeal.Out.args m c) (j 0) (j 1),
    (θ_run _ _ _).mono (fun _ h c => ⟨(h c).1.trans (Cert.WxbcFwdIdeal.Out.final_out m c), (h c).2⟩) (Cert.WxbcFwdIdeal.Value.run_blocks m g),
    (θ_run _ _ _).mono (fun _ h c => by
      obtain ⟨a0, a1⟩ := hag c
      have e : rargs m' c = Cert.WxbcFwdIdeal.Out.args m c := by unfold rargs; rw [a0, a1]
      exact ⟨(h c).1.trans ((funext (Cert.WxbcRefIdeal.Out.result (rargs m' c))).trans (congrArg (fun A : Args => fun j : Cert.WxbcRefIdeal.S16384x3072.Idx => out A (j 0) (j 1)) e)), (h c).2⟩)
      (Cert.WxbcRefIdeal.Value.run m' g')⟩

end Cert.Wxbc

end
-- ==== Proof.Wdt.lean ====
/- The projection of the state-space layer onto its steps. Kernel and reference compute the same array. -/
module

public import proofs.«01_k».proof.Defs
public import proofs.«01_k».proof.Proof.Gen.WdtFwdIdeal.Value
public import proofs.«01_k».proof.Proof.Gen.WdtRefIdeal.Run
public import proofs.«01_k».proof.Proof.Gen.WdtRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Wdt

/-- The arguments: the rows and the weight. -/
structure Args where
  h : Shape.Idx ⟨2, ![16384, 1024]⟩ → EReal
  w : Shape.Idx ⟨2, ![1024, 128]⟩ → EReal

/-- The product. -/
def out (A : Args) (r : Fin 16384) (j : Fin 128) : EReal := ∑ k : Fin 1024, A.h (ix2 r k) * A.w (ix2 k j)

end Cert.Wdt

/-! ## The kernel -/

namespace Cert.WdtFwdIdeal.Out

open Cert.WdtFwdIdeal Cert.WdtFwdIdeal.Gen Cert.Wdt

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1)⟩

/-- Which block each window takes at each point. -/
theorem idx_val : ∀ t : Fin cfg0.N, win0_0.index t = ![t.val, 0] ∧ win0_1.index t = ![0, 0] ∧ win0_2.index t = ![t.val, 0] :=
  (by decide +kernel : ∀ t : Fin grid0.N, _)

theorem t_lt (t : Fin cfg0.N) : t.val < 16 := lt_of_lt_of_eq t.isLt N_0

/-- Row `i` of the tile of point `t`. -/
abbrev row (t : Fin cfg0.N) (i : Fin 1024) : Fin 16384 := ⟨t.val * 1024 + i.val, by have := t_lt t; omega⟩

/-- A point computes its tile of the result. -/
theorem out_at (c : Dev nD) (t : Fin cfg0.N) (i : Fin 1024) (j : Fin 128) :
    k0_pay1 (F := Ideal) (iblk m c 0 t) (iblk m c 1 t) (ix2 i j) = out (args m c) (row t i) j := by
  pointwise [k0_pay1, out]
  blk_point [iblk, V, idx_val t]

theorem out_point (c : Dev nD) (t : Fin cfg0.N) (i : Fin 1024) (j : Fin 128) :
    out0_2 (iblk m c 0 t) (iblk m c 1 t) (ix2 i j) = out (args m c) (row t i) j := by
  unfold out0_2
  frame_out
  exact out_at m c t _ _

/-- The whole array. -/
theorem final_out (c : Dev nD) : (dats m 0 c).arrAt 2 cfg0.N = fun j => out (args m c) (j 0) (j 1) := by
  refine (dats m 0 c).arrAt_eq_of_covers 2 (fun j => out (args m c) (j 0) (j 1)) (by decide +kernel) fun t _ y => ?_
  blk_simp
  rw [after0_2]
  idx_vars y
  refine (out_point m c t y0 y1).trans (congrArg₂ (out (args m c)) (Fin.ext ?_) (Fin.ext ?_))
  · blk_point [idx_val t]
  · blk_point [idx_val t]

end Cert.WdtFwdIdeal.Out

/-! ## The reference -/

namespace Cert.WdtRefIdeal.Out

open Cert.WdtRefIdeal Cert.WdtRefIdeal.Read Cert.Wdt

variable (A : Args)

theorem result (i : S16384x128.Idx) : val_main_v0 (F := Ideal) A.h A.w i = out A (i 0) (i 1) := by
  idx_vars i
  pointwise [val_main_v0, out]

end Cert.WdtRefIdeal.Out

/-! ## The claims -/

namespace Cert.Wdt

/-- The reference terminates, keeps its arguments and uses no semaphore. -/
theorem frame_ref : Cert.quiescent_WdtRefIdeal := fun m ρ _ =>
  (θ_run Cert.WdtRefIdeal.defs _ _).mono (fun r h => ⟨fun c => (h c).2, sem_eq_zero_of_no_sems (by decide) r.2⟩)
    (Cert.WdtRefIdeal.Value.run m ρ)

/-- The arguments, as the reference's memory holds them at launch. -/
def rargs (m : (ℓ : Loc Cert.WdtRefIdeal.nD Cert.WdtRefIdeal.τ Cert.WdtRefIdeal.sig) → Buf (Elt Ideal) ℓ) (c : Dev Cert.WdtRefIdeal.nD) : Args :=
  ⟨m ((c : Thread Cert.WdtRefIdeal.nD Cert.WdtRefIdeal.τ).loc Cert.WdtRefIdeal.main_arg0),
    m ((c : Thread Cert.WdtRefIdeal.nD Cert.WdtRefIdeal.τ).loc Cert.WdtRefIdeal.main_arg1)⟩

/-- The value claim. -/
theorem algebraic : Cert.algebraic_WdtFwdIdeal_WdtRefIdeal := fun m g m' g' _ hag =>
  ⟨fun c j => out (Cert.WdtFwdIdeal.Out.args m c) (j 0) (j 1),
    (θ_run _ _ _).mono (fun _ h c => ⟨(h c).1.trans (Cert.WdtFwdIdeal.Out.final_out m c), (h c).2⟩) (Cert.WdtFwdIdeal.Value.run_blocks m g),
    (θ_run _ _ _).mono (fun _ h c => by
      obtain ⟨a0, a1⟩ := hag c
      have e : rargs m' c = Cert.WdtFwdIdeal.Out.args m c := by unfold rargs; rw [a0, a1]
      exact ⟨(h c).1.trans ((funext (Cert.WdtRefIdeal.Out.result (rargs m' c))).trans (congrArg (fun A : Args => fun j : Cert.WdtRefIdeal.S16384x128.Idx => out A (j 0) (j 1)) e)), (h c).2⟩)
      (Cert.WdtRefIdeal.Value.run m' g')⟩

end Cert.Wdt

end
-- ==== Proof.Dh.lean ====
/- The gradient of the input projection of the S5 layer, by its input. Kernel and reference compute the same array. -/
module

public import proofs.«01_k».proof.Defs
public import proofs.«01_k».proof.Proof.Gen.DhBwdIdeal.Value
public import proofs.«01_k».proof.Proof.Gen.DhRefIdeal.Run
public import proofs.«01_k».proof.Proof.Gen.DhRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Dh

/-- The arguments: the rows and the weight. -/
structure Args where
  d : Shape.Idx ⟨2, ![16384, 1024]⟩ → EReal
  w : Shape.Idx ⟨2, ![1024, 1024]⟩ → EReal

/-- The product. -/
def out (A : Args) (r : Fin 16384) (j : Fin 1024) : EReal := ∑ k : Fin 1024, A.d (ix2 r k) * A.w (ix2 j k)

end Cert.Dh

/-! ## The kernel -/

namespace Cert.DhBwdIdeal.Out

open Cert.DhBwdIdeal Cert.DhBwdIdeal.Gen Cert.Dh

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1)⟩

/-- Which block each window takes at each point. -/
theorem idx_val : ∀ t : Fin cfg0.N, win0_0.index t = ![t.val, 0] ∧ win0_1.index t = ![0, 0] ∧ win0_2.index t = ![t.val, 0] :=
  (by decide +kernel : ∀ t : Fin grid0.N, _)

theorem t_lt (t : Fin cfg0.N) : t.val < 16 := lt_of_lt_of_eq t.isLt N_0

/-- Row `i` of the tile of point `t`. -/
abbrev row (t : Fin cfg0.N) (i : Fin 1024) : Fin 16384 := ⟨t.val * 1024 + i.val, by have := t_lt t; omega⟩

/-- A point computes its tile of the result. -/
theorem out_at (c : Dev nD) (t : Fin cfg0.N) (i : Fin 1024) (j : Fin 1024) :
    k0_pay1 (F := Ideal) (iblk m c 0 t) (iblk m c 1 t) (ix2 i j) = out (args m c) (row t i) j := by
  pointwise [k0_pay1, out]
  blk_point [iblk, V, idx_val t]

theorem out_point (c : Dev nD) (t : Fin cfg0.N) (i : Fin 1024) (j : Fin 1024) :
    out0_2 (iblk m c 0 t) (iblk m c 1 t) (ix2 i j) = out (args m c) (row t i) j := by
  unfold out0_2
  frame_out
  exact out_at m c t _ _

/-- The whole array. -/
theorem final_out (c : Dev nD) : (dats m 0 c).arrAt 2 cfg0.N = fun j => out (args m c) (j 0) (j 1) := by
  refine (dats m 0 c).arrAt_eq_of_covers 2 (fun j => out (args m c) (j 0) (j 1)) (by decide +kernel) fun t _ y => ?_
  blk_simp
  rw [after0_2]
  idx_vars y
  refine (out_point m c t y0 y1).trans (congrArg₂ (out (args m c)) (Fin.ext ?_) (Fin.ext ?_))
  · blk_point [idx_val t]
  · blk_point [idx_val t]

end Cert.DhBwdIdeal.Out

/-! ## The reference -/

namespace Cert.DhRefIdeal.Out

open Cert.DhRefIdeal Cert.DhRefIdeal.Read Cert.Dh

variable (A : Args)

theorem result (i : S16384x1024.Idx) : val_main_v0 (F := Ideal) A.d A.w i = out A (i 0) (i 1) := by
  idx_vars i
  pointwise [val_main_v0, out]

end Cert.DhRefIdeal.Out

/-! ## The claims -/

namespace Cert.Dh

/-- The reference terminates, keeps its arguments and uses no semaphore. -/
theorem frame_ref : Cert.quiescent_DhRefIdeal := fun m ρ _ =>
  (θ_run Cert.DhRefIdeal.defs _ _).mono (fun r h => ⟨fun c => (h c).2, sem_eq_zero_of_no_sems (by decide) r.2⟩)
    (Cert.DhRefIdeal.Value.run m ρ)

/-- The arguments, as the reference's memory holds them at launch. -/
def rargs (m : (ℓ : Loc Cert.DhRefIdeal.nD Cert.DhRefIdeal.τ Cert.DhRefIdeal.sig) → Buf (Elt Ideal) ℓ) (c : Dev Cert.DhRefIdeal.nD) : Args :=
  ⟨m ((c : Thread Cert.DhRefIdeal.nD Cert.DhRefIdeal.τ).loc Cert.DhRefIdeal.main_arg0),
    m ((c : Thread Cert.DhRefIdeal.nD Cert.DhRefIdeal.τ).loc Cert.DhRefIdeal.main_arg1)⟩

/-- The value claim. -/
theorem algebraic : Cert.algebraic_DhBwdIdeal_DhRefIdeal := fun m g m' g' _ hag =>
  ⟨fun c j => out (Cert.DhBwdIdeal.Out.args m c) (j 0) (j 1),
    (θ_run _ _ _).mono (fun _ h c => ⟨(h c).1.trans (Cert.DhBwdIdeal.Out.final_out m c), (h c).2⟩) (Cert.DhBwdIdeal.Value.run_blocks m g),
    (θ_run _ _ _).mono (fun _ h c => by
      obtain ⟨a0, a1⟩ := hag c
      have e : rargs m' c = Cert.DhBwdIdeal.Out.args m c := by unfold rargs; rw [a0, a1]
      exact ⟨(h c).1.trans ((funext (Cert.DhRefIdeal.Out.result (rargs m' c))).trans (congrArg (fun A : Args => fun j : Cert.DhRefIdeal.S16384x1024.Idx => out A (j 0) (j 1)) e)), (h c).2⟩)
      (Cert.DhRefIdeal.Value.run m' g')⟩

end Cert.Dh

end
-- ==== Proof.Dmlp.lean ====
/- The gradient of the first product of the MLP, by its input. Kernel and reference compute the same array. -/
module

public import proofs.«01_k».proof.Defs
public import proofs.«01_k».proof.Proof.Gen.DmlpBwdIdeal.Value
public import proofs.«01_k».proof.Proof.Gen.DmlpRefIdeal.Run
public import proofs.«01_k».proof.Proof.Gen.DmlpRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Dmlp

/-- The arguments: the rows and the weight. -/
structure Args where
  d : Shape.Idx ⟨2, ![16384, 4096]⟩ → EReal
  w : Shape.Idx ⟨2, ![1024, 4096]⟩ → EReal

/-- The product. -/
def out (A : Args) (r : Fin 16384) (j : Fin 1024) : EReal := ∑ k : Fin 4096, A.d (ix2 r k) * A.w (ix2 j k)

end Cert.Dmlp

/-! ## The kernel -/

namespace Cert.DmlpBwdIdeal.Out

open Cert.DmlpBwdIdeal Cert.DmlpBwdIdeal.Gen Cert.Dmlp

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1)⟩

/-- Which block each window takes at each point. -/
theorem idx_val : ∀ t : Fin cfg0.N, win0_0.index t = ![t.val, 0] ∧ win0_1.index t = ![0, 0] ∧ win0_2.index t = ![t.val, 0] :=
  (by decide +kernel : ∀ t : Fin grid0.N, _)

theorem t_lt (t : Fin cfg0.N) : t.val < 16 := lt_of_lt_of_eq t.isLt N_0

/-- Row `i` of the tile of point `t`. -/
abbrev row (t : Fin cfg0.N) (i : Fin 1024) : Fin 16384 := ⟨t.val * 1024 + i.val, by have := t_lt t; omega⟩

/-- A point computes its tile of the result. -/
theorem out_at (c : Dev nD) (t : Fin cfg0.N) (i : Fin 1024) (j : Fin 1024) :
    k0_pay1 (F := Ideal) (iblk m c 0 t) (iblk m c 1 t) (ix2 i j) = out (args m c) (row t i) j := by
  pointwise [k0_pay1, out]
  blk_point [iblk, V, idx_val t]

theorem out_point (c : Dev nD) (t : Fin cfg0.N) (i : Fin 1024) (j : Fin 1024) :
    out0_2 (iblk m c 0 t) (iblk m c 1 t) (ix2 i j) = out (args m c) (row t i) j := by
  unfold out0_2
  frame_out
  exact out_at m c t _ _

/-- The whole array. -/
theorem final_out (c : Dev nD) : (dats m 0 c).arrAt 2 cfg0.N = fun j => out (args m c) (j 0) (j 1) := by
  refine (dats m 0 c).arrAt_eq_of_covers 2 (fun j => out (args m c) (j 0) (j 1)) (by decide +kernel) fun t _ y => ?_
  blk_simp
  rw [after0_2]
  idx_vars y
  refine (out_point m c t y0 y1).trans (congrArg₂ (out (args m c)) (Fin.ext ?_) (Fin.ext ?_))
  · blk_point [idx_val t]
  · blk_point [idx_val t]

end Cert.DmlpBwdIdeal.Out

/-! ## The reference -/

namespace Cert.DmlpRefIdeal.Out

open Cert.DmlpRefIdeal Cert.DmlpRefIdeal.Read Cert.Dmlp

variable (A : Args)

theorem result (i : S16384x1024.Idx) : val_main_v0 (F := Ideal) A.d A.w i = out A (i 0) (i 1) := by
  idx_vars i
  pointwise [val_main_v0, out]

end Cert.DmlpRefIdeal.Out

/-! ## The claims -/

namespace Cert.Dmlp

/-- The reference terminates, keeps its arguments and uses no semaphore. -/
theorem frame_ref : Cert.quiescent_DmlpRefIdeal := fun m ρ _ =>
  (θ_run Cert.DmlpRefIdeal.defs _ _).mono (fun r h => ⟨fun c => (h c).2, sem_eq_zero_of_no_sems (by decide) r.2⟩)
    (Cert.DmlpRefIdeal.Value.run m ρ)

/-- The arguments, as the reference's memory holds them at launch. -/
def rargs (m : (ℓ : Loc Cert.DmlpRefIdeal.nD Cert.DmlpRefIdeal.τ Cert.DmlpRefIdeal.sig) → Buf (Elt Ideal) ℓ) (c : Dev Cert.DmlpRefIdeal.nD) : Args :=
  ⟨m ((c : Thread Cert.DmlpRefIdeal.nD Cert.DmlpRefIdeal.τ).loc Cert.DmlpRefIdeal.main_arg0),
    m ((c : Thread Cert.DmlpRefIdeal.nD Cert.DmlpRefIdeal.τ).loc Cert.DmlpRefIdeal.main_arg1)⟩

/-- The value claim. -/
theorem algebraic : Cert.algebraic_DmlpBwdIdeal_DmlpRefIdeal := fun m g m' g' _ hag =>
  ⟨fun c j => out (Cert.DmlpBwdIdeal.Out.args m c) (j 0) (j 1),
    (θ_run _ _ _).mono (fun _ h c => ⟨(h c).1.trans (Cert.DmlpBwdIdeal.Out.final_out m c), (h c).2⟩) (Cert.DmlpBwdIdeal.Value.run_blocks m g),
    (θ_run _ _ _).mono (fun _ h c => by
      obtain ⟨a0, a1⟩ := hag c
      have e : rargs m' c = Cert.DmlpBwdIdeal.Out.args m c := by unfold rargs; rw [a0, a1]
      exact ⟨(h c).1.trans ((funext (Cert.DmlpRefIdeal.Out.result (rargs m' c))).trans (congrArg (fun A : Args => fun j : Cert.DmlpRefIdeal.S16384x1024.Idx => out A (j 0) (j 1)) e)), (h c).2⟩)
      (Cert.DmlpRefIdeal.Value.run m' g')⟩

end Cert.Dmlp

end
-- ==== Proof.Dgl.lean ====
/- The gradient of a product of 1024 by 2048, by its input. Kernel and reference compute the same array. -/
module

public import proofs.«01_k».proof.Defs
public import proofs.«01_k».proof.Proof.Gen.DglBwdIdeal.Value
public import proofs.«01_k».proof.Proof.Gen.DglRefIdeal.Run
public import proofs.«01_k».proof.Proof.Gen.DglRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Dgl

/-- The arguments: the rows and the weight. -/
structure Args where
  d : Shape.Idx ⟨2, ![16384, 2048]⟩ → EReal
  w : Shape.Idx ⟨2, ![1024, 2048]⟩ → EReal

/-- The product. -/
def out (A : Args) (r : Fin 16384) (j : Fin 1024) : EReal := ∑ k : Fin 2048, A.d (ix2 r k) * A.w (ix2 j k)

end Cert.Dgl

/-! ## The kernel -/

namespace Cert.DglBwdIdeal.Out

open Cert.DglBwdIdeal Cert.DglBwdIdeal.Gen Cert.Dgl

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1)⟩

/-- Which block each window takes at each point. -/
theorem idx_val : ∀ t : Fin cfg0.N, win0_0.index t = ![t.val, 0] ∧ win0_1.index t = ![0, 0] ∧ win0_2.index t = ![t.val, 0] :=
  (by decide +kernel : ∀ t : Fin grid0.N, _)

theorem t_lt (t : Fin cfg0.N) : t.val < 16 := lt_of_lt_of_eq t.isLt N_0

/-- Row `i` of the tile of point `t`. -/
abbrev row (t : Fin cfg0.N) (i : Fin 1024) : Fin 16384 := ⟨t.val * 1024 + i.val, by have := t_lt t; omega⟩

/-- A point computes its tile of the result. -/
theorem out_at (c : Dev nD) (t : Fin cfg0.N) (i : Fin 1024) (j : Fin 1024) :
    k0_pay1 (F := Ideal) (iblk m c 0 t) (iblk m c 1 t) (ix2 i j) = out (args m c) (row t i) j := by
  pointwise [k0_pay1, out]
  blk_point [iblk, V, idx_val t]

theorem out_point (c : Dev nD) (t : Fin cfg0.N) (i : Fin 1024) (j : Fin 1024) :
    out0_2 (iblk m c 0 t) (iblk m c 1 t) (ix2 i j) = out (args m c) (row t i) j := by
  unfold out0_2
  frame_out
  exact out_at m c t _ _

/-- The whole array. -/
theorem final_out (c : Dev nD) : (dats m 0 c).arrAt 2 cfg0.N = fun j => out (args m c) (j 0) (j 1) := by
  refine (dats m 0 c).arrAt_eq_of_covers 2 (fun j => out (args m c) (j 0) (j 1)) (by decide +kernel) fun t _ y => ?_
  blk_simp
  rw [after0_2]
  idx_vars y
  refine (out_point m c t y0 y1).trans (congrArg₂ (out (args m c)) (Fin.ext ?_) (Fin.ext ?_))
  · blk_point [idx_val t]
  · blk_point [idx_val t]

end Cert.DglBwdIdeal.Out

/-! ## The reference -/

namespace Cert.DglRefIdeal.Out

open Cert.DglRefIdeal Cert.DglRefIdeal.Read Cert.Dgl

variable (A : Args)

theorem result (i : S16384x1024.Idx) : val_main_v0 (F := Ideal) A.d A.w i = out A (i 0) (i 1) := by
  idx_vars i
  pointwise [val_main_v0, out]

end Cert.DglRefIdeal.Out

/-! ## The claims -/

namespace Cert.Dgl

/-- The reference terminates, keeps its arguments and uses no semaphore. -/
theorem frame_ref : Cert.quiescent_DglRefIdeal := fun m ρ _ =>
  (θ_run Cert.DglRefIdeal.defs _ _).mono (fun r h => ⟨fun c => (h c).2, sem_eq_zero_of_no_sems (by decide) r.2⟩)
    (Cert.DglRefIdeal.Value.run m ρ)

/-- The arguments, as the reference's memory holds them at launch. -/
def rargs (m : (ℓ : Loc Cert.DglRefIdeal.nD Cert.DglRefIdeal.τ Cert.DglRefIdeal.sig) → Buf (Elt Ideal) ℓ) (c : Dev Cert.DglRefIdeal.nD) : Args :=
  ⟨m ((c : Thread Cert.DglRefIdeal.nD Cert.DglRefIdeal.τ).loc Cert.DglRefIdeal.main_arg0),
    m ((c : Thread Cert.DglRefIdeal.nD Cert.DglRefIdeal.τ).loc Cert.DglRefIdeal.main_arg1)⟩

/-- The value claim. -/
theorem algebraic : Cert.algebraic_DglBwdIdeal_DglRefIdeal := fun m g m' g' _ hag =>
  ⟨fun c j => out (Cert.DglBwdIdeal.Out.args m c) (j 0) (j 1),
    (θ_run _ _ _).mono (fun _ h c => ⟨(h c).1.trans (Cert.DglBwdIdeal.Out.final_out m c), (h c).2⟩) (Cert.DglBwdIdeal.Value.run_blocks m g),
    (θ_run _ _ _).mono (fun _ h c => by
      obtain ⟨a0, a1⟩ := hag c
      have e : rargs m' c = Cert.DglBwdIdeal.Out.args m c := by unfold rargs; rw [a0, a1]
      exact ⟨(h c).1.trans ((funext (Cert.DglRefIdeal.Out.result (rargs m' c))).trans (congrArg (fun A : Args => fun j : Cert.DglRefIdeal.S16384x1024.Idx => out A (j 0) (j 1)) e)), (h c).2⟩)
      (Cert.DglRefIdeal.Value.run m' g')⟩

end Cert.Dgl

end
-- ==== Proof.Dyn.lean ====
/- The gradient of the output projection of the state-space layer, by its input; the weight comes scaled by the gate. Kernel and reference compute the same array. -/
module

public import proofs.«01_k».proof.Defs
public import proofs.«01_k».proof.Proof.Gen.DynBwdIdeal.Value
public import proofs.«01_k».proof.Proof.Gen.DynRefIdeal.Run
public import proofs.«01_k».proof.Proof.Gen.DynRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Dyn

/-- The arguments: the rows and the weight. -/
structure Args where
  d : Shape.Idx ⟨2, ![16384, 1024]⟩ → EReal
  w : Shape.Idx ⟨2, ![2048, 1024]⟩ → EReal

/-- The product. -/
def out (A : Args) (r : Fin 16384) (j : Fin 2048) : EReal := ∑ k : Fin 1024, A.d (ix2 r k) * A.w (ix2 j k)

end Cert.Dyn

/-! ## The kernel -/

namespace Cert.DynBwdIdeal.Out

open Cert.DynBwdIdeal Cert.DynBwdIdeal.Gen Cert.Dyn

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1)⟩

/-- Which block each window takes at each point. -/
theorem idx_val : ∀ t : Fin cfg0.N, win0_0.index t = ![t.val / 2, 0] ∧ win0_1.index t = ![t.val % 2, 0] ∧ win0_2.index t = ![t.val / 2, t.val % 2] :=
  (by decide +kernel : ∀ t : Fin grid0.N, _)

theorem t_lt (t : Fin cfg0.N) : t.val < 32 := lt_of_lt_of_eq t.isLt N_0

/-- Row `i` of the tile of point `t`. -/
abbrev row (t : Fin cfg0.N) (i : Fin 1024) : Fin 16384 := ⟨t.val / 2 * 1024 + i.val, by have := t_lt t; omega⟩

/-- Column `j` of the tile of point `t`. -/
abbrev col (t : Fin cfg0.N) (j : Fin 1024) : Fin 2048 := ⟨t.val % 2 * 1024 + j.val, by omega⟩

/-- A point computes its tile of the result. -/
theorem out_at (c : Dev nD) (t : Fin cfg0.N) (i : Fin 1024) (j : Fin 1024) :
    k0_pay1 (F := Ideal) (iblk m c 0 t) (iblk m c 1 t) (ix2 i j) = out (args m c) (row t i) (col t j) := by
  pointwise [k0_pay1, out]
  blk_point [iblk, V, idx_val t]

theorem out_point (c : Dev nD) (t : Fin cfg0.N) (i : Fin 1024) (j : Fin 1024) :
    out0_2 (iblk m c 0 t) (iblk m c 1 t) (ix2 i j) = out (args m c) (row t i) (col t j) := by
  unfold out0_2
  frame_out
  exact out_at m c t _ _

/-- The whole array. -/
theorem final_out (c : Dev nD) : (dats m 0 c).arrAt 2 cfg0.N = fun j => out (args m c) (j 0) (j 1) := by
  refine (dats m 0 c).arrAt_eq_of_covers 2 (fun j => out (args m c) (j 0) (j 1)) (by decide +kernel) fun t _ y => ?_
  blk_simp
  rw [after0_2]
  idx_vars y
  refine (out_point m c t y0 y1).trans (congrArg₂ (out (args m c)) (Fin.ext ?_) (Fin.ext ?_))
  · blk_point [idx_val t]
  · blk_point [idx_val t]

end Cert.DynBwdIdeal.Out

/-! ## The reference -/

namespace Cert.DynRefIdeal.Out

open Cert.DynRefIdeal Cert.DynRefIdeal.Read Cert.Dyn

variable (A : Args)

theorem result (i : S16384x2048.Idx) : val_main_v0 (F := Ideal) A.d A.w i = out A (i 0) (i 1) := by
  idx_vars i
  pointwise [val_main_v0, out]

end Cert.DynRefIdeal.Out

/-! ## The claims -/

namespace Cert.Dyn

/-- The reference terminates, keeps its arguments and uses no semaphore. -/
theorem frame_ref : Cert.quiescent_DynRefIdeal := fun m ρ _ =>
  (θ_run Cert.DynRefIdeal.defs _ _).mono (fun r h => ⟨fun c => (h c).2, sem_eq_zero_of_no_sems (by decide) r.2⟩)
    (Cert.DynRefIdeal.Value.run m ρ)

/-- The arguments, as the reference's memory holds them at launch. -/
def rargs (m : (ℓ : Loc Cert.DynRefIdeal.nD Cert.DynRefIdeal.τ Cert.DynRefIdeal.sig) → Buf (Elt Ideal) ℓ) (c : Dev Cert.DynRefIdeal.nD) : Args :=
  ⟨m ((c : Thread Cert.DynRefIdeal.nD Cert.DynRefIdeal.τ).loc Cert.DynRefIdeal.main_arg0),
    m ((c : Thread Cert.DynRefIdeal.nD Cert.DynRefIdeal.τ).loc Cert.DynRefIdeal.main_arg1)⟩

/-- The value claim. -/
theorem algebraic : Cert.algebraic_DynBwdIdeal_DynRefIdeal := fun m g m' g' _ hag =>
  ⟨fun c j => out (Cert.DynBwdIdeal.Out.args m c) (j 0) (j 1),
    (θ_run _ _ _).mono (fun _ h c => ⟨(h c).1.trans (Cert.DynBwdIdeal.Out.final_out m c), (h c).2⟩) (Cert.DynBwdIdeal.Value.run_blocks m g),
    (θ_run _ _ _).mono (fun _ h c => by
      obtain ⟨a0, a1⟩ := hag c
      have e : rargs m' c = Cert.DynBwdIdeal.Out.args m c := by unfold rargs; rw [a0, a1]
      exact ⟨(h c).1.trans ((funext (Cert.DynRefIdeal.Out.result (rargs m' c))).trans (congrArg (fun A : Args => fun j : Cert.DynRefIdeal.S16384x2048.Idx => out A (j 0) (j 1)) e)), (h c).2⟩)
      (Cert.DynRefIdeal.Value.run m' g')⟩

end Cert.Dyn

end
-- ==== Proof.Dxbc.lean ====
/- The gradient of the projection onto the convolution, by its input, on top of another gradient. Kernel and reference compute the same array. -/
module

public import proofs.«01_k».proof.Defs
public import proofs.«01_k».proof.Proof.Gen.DxbcBwdIdeal.Value
public import proofs.«01_k».proof.Proof.Gen.DxbcRefIdeal.Run
public import proofs.«01_k».proof.Proof.Gen.DxbcRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Dxbc

/-- The arguments: the rows, the weight and what the product is added to. -/
structure Args where
  d : Shape.Idx ⟨2, ![16384, 3072]⟩ → EReal
  w : Shape.Idx ⟨2, ![1024, 3072]⟩ → EReal
  acc : Shape.Idx ⟨2, ![16384, 1024]⟩ → EReal

/-- The product, on top of what there is. -/
def out (A : Args) (r : Fin 16384) (j : Fin 1024) : EReal := A.acc (ix2 r j) + ∑ k : Fin 3072, A.d (ix2 r k) * A.w (ix2 j k)

end Cert.Dxbc

/-! ## The kernel -/

namespace Cert.DxbcBwdIdeal.Out

open Cert.DxbcBwdIdeal Cert.DxbcBwdIdeal.Gen Cert.Dxbc

variable (m : (ℓ : Loc nD τ sig) → Buf (Elt Ideal) ℓ)

/-- The arguments, as the kernel's memory holds them at launch. -/
abbrev args (c : Dev nD) : Args := ⟨m ((c : Thread nD τ).loc main_arg0), m ((c : Thread nD τ).loc main_arg1), m ((c : Thread nD τ).loc main_arg2)⟩

/-- Which block each window takes at each point. -/
theorem idx_val : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem t_lt (t : Fin cfg0.N) : t.val < 16 := lt_of_lt_of_eq t.isLt N_0

/-- Row `i` of the tile of point `t`. -/
abbrev row (t : Fin cfg0.N) (i : Fin 1024) : Fin 16384 := ⟨t.val * 1024 + i.val, by have := t_lt t; omega⟩

/-- A point computes its tile of the result. -/
theorem out_at (c : Dev nD) (t : Fin cfg0.N) (i : Fin 1024) (j : Fin 1024) :
    k0_pay1 (F := Ideal) (iblk m c 0 t) (iblk m c 1 t) (iblk m c 2 t) (ix2 i j) = out (args m c) (row t i) j := by
  pointwise [k0_pay1, out]
  blk_point [iblk, V, idx_val t]

theorem out_point (c : Dev nD) (t : Fin cfg0.N) (i : Fin 1024) (j : Fin 1024) :
    out0_3 (iblk m c 0 t) (iblk m c 1 t) (iblk m c 2 t) (ix2 i j) = out (args m c) (row t i) j := by
  unfold out0_3
  frame_out
  exact out_at m c t _ _

/-- The whole array. -/
theorem final_out (c : Dev nD) : (dats m 0 c).arrAt 3 cfg0.N = fun j => out (args m c) (j 0) (j 1) := by
  refine (dats m 0 c).arrAt_eq_of_covers 3 (fun j => out (args m c) (j 0) (j 1)) (by decide +kernel) fun t _ y => ?_
  blk_simp
  rw [after0_3]
  idx_vars y
  refine (out_point m c t y0 y1).trans (congrArg₂ (out (args m c)) (Fin.ext ?_) (Fin.ext ?_))
  · blk_point [idx_val t]
  · blk_point [idx_val t]

end Cert.DxbcBwdIdeal.Out

/-! ## The reference -/

namespace Cert.DxbcRefIdeal.Out

open Cert.DxbcRefIdeal Cert.DxbcRefIdeal.Read Cert.Dxbc

variable (A : Args)

theorem result (i : S16384x1024.Idx) : val_main_v1 (F := Ideal) A.d A.w A.acc i = out A (i 0) (i 1) := by
  idx_vars i
  pointwise [val_main_v1, val_main_v0, out]

end Cert.DxbcRefIdeal.Out

/-! ## The claims -/

namespace Cert.Dxbc

/-- The reference terminates, keeps its arguments and uses no semaphore. -/
theorem frame_ref : Cert.quiescent_DxbcRefIdeal := fun m ρ _ =>
  (θ_run Cert.DxbcRefIdeal.defs _ _).mono (fun r h => ⟨fun c => (h c).2, sem_eq_zero_of_no_sems (by decide) r.2⟩)
    (Cert.DxbcRefIdeal.Value.run m ρ)

/-- The arguments, as the reference's memory holds them at launch. -/
def rargs (m : (ℓ : Loc Cert.DxbcRefIdeal.nD Cert.DxbcRefIdeal.τ Cert.DxbcRefIdeal.sig) → Buf (Elt Ideal) ℓ) (c : Dev Cert.DxbcRefIdeal.nD) : Args :=
  ⟨m ((c : Thread Cert.DxbcRefIdeal.nD Cert.DxbcRefIdeal.τ).loc Cert.DxbcRefIdeal.main_arg0),
    m ((c : Thread Cert.DxbcRefIdeal.nD Cert.DxbcRefIdeal.τ).loc Cert.DxbcRefIdeal.main_arg1),
    m ((c : Thread Cert.DxbcRefIdeal.nD Cert.DxbcRefIdeal.τ).loc Cert.DxbcRefIdeal.main_arg2)⟩

/-- The value claim. -/
theorem algebraic : Cert.algebraic_DxbcBwdIdeal_DxbcRefIdeal := fun m g m' g' _ hag =>
  ⟨fun c j => out (Cert.DxbcBwdIdeal.Out.args m c) (j 0) (j 1),
    (θ_run _ _ _).mono (fun _ h c => ⟨(h c).1.trans (Cert.DxbcBwdIdeal.Out.final_out m c), (h c).2⟩) (Cert.DxbcBwdIdeal.Value.run_blocks m g),
    (θ_run _ _ _).mono (fun _ h c => by
      obtain ⟨a0, a1, a2⟩ := hag c
      have e : rargs m' c = Cert.DxbcBwdIdeal.Out.args m c := by unfold rargs; rw [a0, a1, a2]
      exact ⟨(h c).1.trans ((funext (Cert.DxbcRefIdeal.Out.result (rargs m' c))).trans (congrArg (fun A : Args => fun j : Cert.DxbcRefIdeal.S16384x1024.Idx => out A (j 0) (j 1)) e)), (h c).2⟩)
      (Cert.DxbcRefIdeal.Value.run m' g')⟩

end Cert.Dxbc

end
-- ==== Proof.lean ====
/- The claim: every program runs without fault, keeps its arguments and leaves every semaphore counter at zero; each ideal
   program is its kernel over the extended reals; and each kernel computes what its reference does. -/
module

public import proofs.«01_k».proof.Defs
public import proofs.«01_k».proof.Proof.Gen.GluBwd
public import proofs.«01_k».proof.Proof.Gen.GluBwd.Frame
public import proofs.«01_k».proof.Proof.Gen.GluBwdIdeal
public import proofs.«01_k».proof.Proof.Gen.GluBwdIdeal.Frame
public import proofs.«01_k».proof.Proof.Gen.GluBwdIdeal.Value
public import proofs.«01_k».proof.Proof.Gen.GluGradIdeal
public import proofs.«01_k».proof.Proof.Gen.GluGradIdeal.Run
public import proofs.«01_k».proof.Proof.Gen.GluGradIdeal.Read
public import proofs.«01_k».proof.Proof.Gen.GeluBwd
public import proofs.«01_k».proof.Proof.Gen.GeluBwd.Frame
public import proofs.«01_k».proof.Proof.Gen.GeluBwdIdeal
public import proofs.«01_k».proof.Proof.Gen.GeluBwdIdeal.Frame
public import proofs.«01_k».proof.Proof.Gen.GeluGradIdeal
public import proofs.«01_k».proof.Proof.Gen.GeluGradIdeal.Run
public import proofs.«01_k».proof.Proof.Gen.GeluGradIdeal.Read
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormGradIdeal
public import proofs.«01_k».proof.Proof.Gen.NormGradIdeal.Run
public import proofs.«01_k».proof.Proof.Gen.NormGradIdeal.Read
public import proofs.«01_k».proof.Proof.Gen.GateNormBwd
public import proofs.«01_k».proof.Proof.Gen.GateNormBwd.Frame
public import proofs.«01_k».proof.Proof.Gen.GateNormBwdIdeal
public import proofs.«01_k».proof.Proof.Gen.GateNormBwdIdeal.Frame
public import proofs.«01_k».proof.Proof.Gen.GateNormBwdIdeal.Value
public import proofs.«01_k».proof.Proof.Gen.GateNormGradIdeal
public import proofs.«01_k».proof.Proof.Gen.GateNormGradIdeal.Run
public import proofs.«01_k».proof.Proof.Gen.GateNormGradIdeal.Read
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossGradIdeal
public import proofs.«01_k».proof.Proof.Gen.LossGradIdeal.Run
public import proofs.«01_k».proof.Proof.Gen.LossGradIdeal.Read
public import proofs.«01_k».proof.Proof.Gen.DrBwd
public import proofs.«01_k».proof.Proof.Gen.DrBwd.Frame
public import proofs.«01_k».proof.Proof.Gen.DrBwdIdeal
public import proofs.«01_k».proof.Proof.Gen.DrBwdIdeal.Frame
public import proofs.«01_k».proof.Proof.Gen.DrGradIdeal
public import proofs.«01_k».proof.Proof.Gen.DrGradIdeal.Run
public import proofs.«01_k».proof.Proof.Gen.DrGradIdeal.Read
public import proofs.«01_k».proof.Proof.Gen.GateOutBwd
public import proofs.«01_k».proof.Proof.Gen.GateOutBwd.Frame
public import proofs.«01_k».proof.Proof.Gen.GateOutBwdIdeal
public import proofs.«01_k».proof.Proof.Gen.GateOutBwdIdeal.Frame
public import proofs.«01_k».proof.Proof.Gen.GateOutGradIdeal
public import proofs.«01_k».proof.Proof.Gen.GateOutGradIdeal.Run
public import proofs.«01_k».proof.Proof.Gen.GateOutGradIdeal.Read
public import proofs.«01_k».proof.Proof.Gen.SsdBwd
public import proofs.«01_k».proof.Proof.Gen.SsdBwd.Frame
public import proofs.«01_k».proof.Proof.Gen.SsdBwdIdeal
public import proofs.«01_k».proof.Proof.Gen.SsdBwdIdeal.Frame
public import proofs.«01_k».proof.Proof.Gen.SsdGradIdeal
public import proofs.«01_k».proof.Proof.Gen.SsdGradIdeal.Run
public import proofs.«01_k».proof.Proof.Gen.ScanFwd
public import proofs.«01_k».proof.Proof.Gen.ScanFwd.Frame
public import proofs.«01_k».proof.Proof.Gen.ScanFwdIdeal
public import proofs.«01_k».proof.Proof.Gen.ScanFwdIdeal.Frame
public import proofs.«01_k».proof.Proof.Gen.ScanRefIdeal
public import proofs.«01_k».proof.Proof.Gen.ScanRefIdeal.Run
public import proofs.«01_k».proof.Proof.Gen.ConvIn
public import proofs.«01_k».proof.Proof.Gen.ConvIn.Frame
public import proofs.«01_k».proof.Proof.Gen.ConvInIdeal
public import proofs.«01_k».proof.Proof.Gen.ConvInIdeal.Frame
public import proofs.«01_k».proof.Proof.Gen.ConvInRefIdeal
public import proofs.«01_k».proof.Proof.Gen.ConvInRefIdeal.Run
public import proofs.«01_k».proof.Proof.Gen.ConvInRefIdeal.Read
public import proofs.«01_k».proof.Proof.Gen.ConvPre
public import proofs.«01_k».proof.Proof.Gen.ConvPre.Frame
public import proofs.«01_k».proof.Proof.Gen.ConvPreIdeal
public import proofs.«01_k».proof.Proof.Gen.ConvPreIdeal.Frame
public import proofs.«01_k».proof.Proof.Gen.ConvPreRefIdeal
public import proofs.«01_k».proof.Proof.Gen.ConvPreRefIdeal.Run
public import proofs.«01_k».proof.Proof.Gen.ConvPreRefIdeal.Read
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.ModFwd
public import proofs.«01_k».proof.Proof.Gen.ModFwd.Frame
public import proofs.«01_k».proof.Proof.Gen.ModFwdIdeal
public import proofs.«01_k».proof.Proof.Gen.ModFwdIdeal.Frame
public import proofs.«01_k».proof.Proof.Gen.ModFwdIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.Gen.SkipFwd
public import proofs.«01_k».proof.Proof.Gen.SkipFwd.Frame
public import proofs.«01_k».proof.Proof.Gen.SkipFwdIdeal
public import proofs.«01_k».proof.Proof.Gen.SkipFwdIdeal.Frame
public import proofs.«01_k».proof.Proof.Gen.SkipFwdIdeal.Value
public import proofs.«01_k».proof.Proof.Gen.SkipRefIdeal
public import proofs.«01_k».proof.Proof.Gen.SkipRefIdeal.Run
public import proofs.«01_k».proof.Proof.Gen.SkipRefIdeal.Read
public import proofs.«01_k».proof.Proof.Gen.GatedFwd
public import proofs.«01_k».proof.Proof.Gen.GatedFwd.Frame
public import proofs.«01_k».proof.Proof.Gen.GatedFwdIdeal
public import proofs.«01_k».proof.Proof.Gen.GatedFwdIdeal.Frame
public import proofs.«01_k».proof.Proof.Gen.GatedFwdIdeal.Value
public import proofs.«01_k».proof.Proof.Gen.GatedRefIdeal
public import proofs.«01_k».proof.Proof.Gen.GatedRefIdeal.Run
public import proofs.«01_k».proof.Proof.Gen.GatedRefIdeal.Read
public import proofs.«01_k».proof.Proof.Gen.GroupFwd
public import proofs.«01_k».proof.Proof.Gen.GroupFwd.Frame
public import proofs.«01_k».proof.Proof.Gen.GroupFwdIdeal
public import proofs.«01_k».proof.Proof.Gen.GroupFwdIdeal.Frame
public import proofs.«01_k».proof.Proof.Gen.GroupFwdIdeal.Value
public import proofs.«01_k».proof.Proof.Gen.GroupRefIdeal
public import proofs.«01_k».proof.Proof.Gen.GroupRefIdeal.Run
public import proofs.«01_k».proof.Proof.Gen.GroupRefIdeal.Read
public import proofs.«01_k».proof.Proof.Gen.ReluFwd
public import proofs.«01_k».proof.Proof.Gen.ReluFwd.Frame
public import proofs.«01_k».proof.Proof.Gen.ReluFwdIdeal
public import proofs.«01_k».proof.Proof.Gen.ReluFwdIdeal.Frame
public import proofs.«01_k».proof.Proof.Gen.ReluFwdIdeal.Value
public import proofs.«01_k».proof.Proof.Gen.ReluRefIdeal
public import proofs.«01_k».proof.Proof.Gen.ReluRefIdeal.Run
public import proofs.«01_k».proof.Proof.Gen.ReluRefIdeal.Read
public import proofs.«01_k».proof.Proof.Gen.SquareFwd
public import proofs.«01_k».proof.Proof.Gen.SquareFwd.Frame
public import proofs.«01_k».proof.Proof.Gen.SquareFwdIdeal
public import proofs.«01_k».proof.Proof.Gen.SquareFwdIdeal.Frame
public import proofs.«01_k».proof.Proof.Gen.SquareFwdIdeal.Value
public import proofs.«01_k».proof.Proof.Gen.SquareRefIdeal
public import proofs.«01_k».proof.Proof.Gen.SquareRefIdeal.Run
public import proofs.«01_k».proof.Proof.Gen.SquareRefIdeal.Read
public import proofs.«01_k».proof.Proof.Gen.ProjFwd
public import proofs.«01_k».proof.Proof.Gen.ProjFwd.Frame
public import proofs.«01_k».proof.Proof.Gen.ProjFwdIdeal
public import proofs.«01_k».proof.Proof.Gen.ProjFwdIdeal.Frame
public import proofs.«01_k».proof.Proof.Gen.ProjFwdIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.WinFwd
public import proofs.«01_k».proof.Proof.Gen.WinFwd.Frame
public import proofs.«01_k».proof.Proof.Gen.WinFwdIdeal
public import proofs.«01_k».proof.Proof.Gen.WinFwdIdeal.Frame
public import proofs.«01_k».proof.Proof.Gen.WinFwdIdeal.Value
public import proofs.«01_k».proof.Proof.Gen.WinRefIdeal
public import proofs.«01_k».proof.Proof.Gen.WinRefIdeal.Run
public import proofs.«01_k».proof.Proof.Gen.WinRefIdeal.Read
public import proofs.«01_k».proof.Proof.Gen.WzFwd
public import proofs.«01_k».proof.Proof.Gen.WzFwd.Frame
public import proofs.«01_k».proof.Proof.Gen.WzFwdIdeal
public import proofs.«01_k».proof.Proof.Gen.WzFwdIdeal.Frame
public import proofs.«01_k».proof.Proof.Gen.WzFwdIdeal.Value
public import proofs.«01_k».proof.Proof.Gen.WzRefIdeal
public import proofs.«01_k».proof.Proof.Gen.WzRefIdeal.Run
public import proofs.«01_k».proof.Proof.Gen.WzRefIdeal.Read
public import proofs.«01_k».proof.Proof.Gen.WxbcFwd
public import proofs.«01_k».proof.Proof.Gen.WxbcFwd.Frame
public import proofs.«01_k».proof.Proof.Gen.WxbcFwdIdeal
public import proofs.«01_k».proof.Proof.Gen.WxbcFwdIdeal.Frame
public import proofs.«01_k».proof.Proof.Gen.WxbcFwdIdeal.Value
public import proofs.«01_k».proof.Proof.Gen.WxbcRefIdeal
public import proofs.«01_k».proof.Proof.Gen.WxbcRefIdeal.Run
public import proofs.«01_k».proof.Proof.Gen.WxbcRefIdeal.Read
public import proofs.«01_k».proof.Proof.Gen.WdtFwd
public import proofs.«01_k».proof.Proof.Gen.WdtFwd.Frame
public import proofs.«01_k».proof.Proof.Gen.WdtFwdIdeal
public import proofs.«01_k».proof.Proof.Gen.WdtFwdIdeal.Frame
public import proofs.«01_k».proof.Proof.Gen.WdtFwdIdeal.Value
public import proofs.«01_k».proof.Proof.Gen.WdtRefIdeal
public import proofs.«01_k».proof.Proof.Gen.WdtRefIdeal.Run
public import proofs.«01_k».proof.Proof.Gen.WdtRefIdeal.Read
public import proofs.«01_k».proof.Proof.Gen.DhBwd
public import proofs.«01_k».proof.Proof.Gen.DhBwd.Frame
public import proofs.«01_k».proof.Proof.Gen.DhBwdIdeal
public import proofs.«01_k».proof.Proof.Gen.DhBwdIdeal.Frame
public import proofs.«01_k».proof.Proof.Gen.DhBwdIdeal.Value
public import proofs.«01_k».proof.Proof.Gen.DhRefIdeal
public import proofs.«01_k».proof.Proof.Gen.DhRefIdeal.Run
public import proofs.«01_k».proof.Proof.Gen.DhRefIdeal.Read
public import proofs.«01_k».proof.Proof.Gen.DmlpBwd
public import proofs.«01_k».proof.Proof.Gen.DmlpBwd.Frame
public import proofs.«01_k».proof.Proof.Gen.DmlpBwdIdeal
public import proofs.«01_k».proof.Proof.Gen.DmlpBwdIdeal.Frame
public import proofs.«01_k».proof.Proof.Gen.DmlpBwdIdeal.Value
public import proofs.«01_k».proof.Proof.Gen.DmlpRefIdeal
public import proofs.«01_k».proof.Proof.Gen.DmlpRefIdeal.Run
public import proofs.«01_k».proof.Proof.Gen.DmlpRefIdeal.Read
public import proofs.«01_k».proof.Proof.Gen.DglBwd
public import proofs.«01_k».proof.Proof.Gen.DglBwd.Frame
public import proofs.«01_k».proof.Proof.Gen.DglBwdIdeal
public import proofs.«01_k».proof.Proof.Gen.DglBwdIdeal.Frame
public import proofs.«01_k».proof.Proof.Gen.DglBwdIdeal.Value
public import proofs.«01_k».proof.Proof.Gen.DglRefIdeal
public import proofs.«01_k».proof.Proof.Gen.DglRefIdeal.Run
public import proofs.«01_k».proof.Proof.Gen.DglRefIdeal.Read
public import proofs.«01_k».proof.Proof.Gen.DynBwd
public import proofs.«01_k».proof.Proof.Gen.DynBwd.Frame
public import proofs.«01_k».proof.Proof.Gen.DynBwdIdeal
public import proofs.«01_k».proof.Proof.Gen.DynBwdIdeal.Frame
public import proofs.«01_k».proof.Proof.Gen.DynBwdIdeal.Value
public import proofs.«01_k».proof.Proof.Gen.DynRefIdeal
public import proofs.«01_k».proof.Proof.Gen.DynRefIdeal.Run
public import proofs.«01_k».proof.Proof.Gen.DynRefIdeal.Read
public import proofs.«01_k».proof.Proof.Gen.DxbcBwd
public import proofs.«01_k».proof.Proof.Gen.DxbcBwd.Frame
public import proofs.«01_k».proof.Proof.Gen.DxbcBwdIdeal
public import proofs.«01_k».proof.Proof.Gen.DxbcBwdIdeal.Frame
public import proofs.«01_k».proof.Proof.Gen.DxbcBwdIdeal.Value
public import proofs.«01_k».proof.Proof.Gen.DxbcRefIdeal
public import proofs.«01_k».proof.Proof.Gen.DxbcRefIdeal.Run
public import proofs.«01_k».proof.Proof.Gen.DxbcRefIdeal.Read
public import proofs.«01_k».proof.Proof.Gen.Pre_gelu_finite
public import proofs.«01_k».proof.Proof.Gen.Pre_norm_finite
public import proofs.«01_k».proof.Proof.Gen.Pre_gatenorm_finite
public import proofs.«01_k».proof.Proof.Gen.Pre_loss_finite
public import proofs.«01_k».proof.Proof.Gen.Pre_gateout_finite
public import proofs.«01_k».proof.Proof.Gen.Pre_convpre_finite
public import proofs.«01_k».proof.Proof.Glu
public import proofs.«01_k».proof.Proof.Gelu
public import proofs.«01_k».proof.Proof.Norm
public import proofs.«01_k».proof.Proof.GateNorm
public import proofs.«01_k».proof.Proof.Loss
public import proofs.«01_k».proof.Proof.Dr
public import proofs.«01_k».proof.Proof.GateOut
public import proofs.«01_k».proof.Proof.Ssd
public import proofs.«01_k».proof.Proof.Scan
public import proofs.«01_k».proof.Proof.ConvIn
public import proofs.«01_k».proof.Proof.ConvPre
public import proofs.«01_k».proof.Proof.Conv
public import proofs.«01_k».proof.Proof.Mod
public import proofs.«01_k».proof.Proof.Skip
public import proofs.«01_k».proof.Proof.Gated
public import proofs.«01_k».proof.Proof.Group
public import proofs.«01_k».proof.Proof.Relu
public import proofs.«01_k».proof.Proof.Square
public import proofs.«01_k».proof.Proof.Proj
public import proofs.«01_k».proof.Proof.Win
public import proofs.«01_k».proof.Proof.Wz
public import proofs.«01_k».proof.Proof.Wxbc
public import proofs.«01_k».proof.Proof.Wdt
public import proofs.«01_k».proof.Proof.Dh
public import proofs.«01_k».proof.Proof.Dmlp
public import proofs.«01_k».proof.Proof.Dgl
public import proofs.«01_k».proof.Proof.Dyn
public import proofs.«01_k».proof.Proof.Dxbc
public import Idealize.ShloMosaic.Adequacy
public import Idealize.ShloMosaic.Init

@[expose] public section

noncomputable section

namespace Cert.Proof

open Idealize.ShloMosaic Idealize.SL.Sem

/-- Everything that the certificate claims. -/
theorem claim : Cert.Claim := ⟨
  Cert.GluBwd.Gen.facts,
  Cert.GluBwdIdeal.Gen.facts,
  Cert.GluGradIdeal.Gen.facts,
  Cert.GeluBwd.Gen.facts,
  Cert.GeluBwdIdeal.Gen.facts,
  Cert.GeluGradIdeal.Gen.facts,
  Cert.NormBwd.Gen.facts,
  Cert.NormBwdIdeal.Gen.facts,
  Cert.NormGradIdeal.Gen.facts,
  Cert.GateNormBwd.Gen.facts,
  Cert.GateNormBwdIdeal.Gen.facts,
  Cert.GateNormGradIdeal.Gen.facts,
  Cert.LossHead.Gen.facts,
  Cert.LossHeadIdeal.Gen.facts,
  Cert.LossGradIdeal.Gen.facts,
  Cert.DrBwd.Gen.facts,
  Cert.DrBwdIdeal.Gen.facts,
  Cert.DrGradIdeal.Gen.facts,
  Cert.GateOutBwd.Gen.facts,
  Cert.GateOutBwdIdeal.Gen.facts,
  Cert.GateOutGradIdeal.Gen.facts,
  Cert.SsdBwd.Gen.facts,
  Cert.SsdBwdIdeal.Gen.facts,
  Cert.SsdGradIdeal.Gen.facts,
  Cert.ScanFwd.Gen.facts,
  Cert.ScanFwdIdeal.Gen.facts,
  Cert.ScanRefIdeal.Gen.facts,
  Cert.ConvIn.Gen.facts,
  Cert.ConvInIdeal.Gen.facts,
  Cert.ConvInRefIdeal.Gen.facts,
  Cert.ConvPre.Gen.facts,
  Cert.ConvPreIdeal.Gen.facts,
  Cert.ConvPreRefIdeal.Gen.facts,
  Cert.ConvFwd.Gen.facts,
  Cert.ConvFwdIdeal.Gen.facts,
  Cert.ConvFwdRefIdeal.Gen.facts,
  Cert.ModFwd.Gen.facts,
  Cert.ModFwdIdeal.Gen.facts,
  Cert.ModRefIdeal.Gen.facts,
  Cert.SkipFwd.Gen.facts,
  Cert.SkipFwdIdeal.Gen.facts,
  Cert.SkipRefIdeal.Gen.facts,
  Cert.GatedFwd.Gen.facts,
  Cert.GatedFwdIdeal.Gen.facts,
  Cert.GatedRefIdeal.Gen.facts,
  Cert.GroupFwd.Gen.facts,
  Cert.GroupFwdIdeal.Gen.facts,
  Cert.GroupRefIdeal.Gen.facts,
  Cert.ReluFwd.Gen.facts,
  Cert.ReluFwdIdeal.Gen.facts,
  Cert.ReluRefIdeal.Gen.facts,
  Cert.SquareFwd.Gen.facts,
  Cert.SquareFwdIdeal.Gen.facts,
  Cert.SquareRefIdeal.Gen.facts,
  Cert.ProjFwd.Gen.facts,
  Cert.ProjFwdIdeal.Gen.facts,
  Cert.ProjRefIdeal.Gen.facts,
  Cert.WinFwd.Gen.facts,
  Cert.WinFwdIdeal.Gen.facts,
  Cert.WinRefIdeal.Gen.facts,
  Cert.WzFwd.Gen.facts,
  Cert.WzFwdIdeal.Gen.facts,
  Cert.WzRefIdeal.Gen.facts,
  Cert.WxbcFwd.Gen.facts,
  Cert.WxbcFwdIdeal.Gen.facts,
  Cert.WxbcRefIdeal.Gen.facts,
  Cert.WdtFwd.Gen.facts,
  Cert.WdtFwdIdeal.Gen.facts,
  Cert.WdtRefIdeal.Gen.facts,
  Cert.DhBwd.Gen.facts,
  Cert.DhBwdIdeal.Gen.facts,
  Cert.DhRefIdeal.Gen.facts,
  Cert.DmlpBwd.Gen.facts,
  Cert.DmlpBwdIdeal.Gen.facts,
  Cert.DmlpRefIdeal.Gen.facts,
  Cert.DglBwd.Gen.facts,
  Cert.DglBwdIdeal.Gen.facts,
  Cert.DglRefIdeal.Gen.facts,
  Cert.DynBwd.Gen.facts,
  Cert.DynBwdIdeal.Gen.facts,
  Cert.DynRefIdeal.Gen.facts,
  Cert.DxbcBwd.Gen.facts,
  Cert.DxbcBwdIdeal.Gen.facts,
  Cert.DxbcRefIdeal.Gen.facts,
  Cert.Pre_gelu_finite.Gen.facts,
  Cert.Pre_norm_finite.Gen.facts,
  Cert.Pre_gatenorm_finite.Gen.facts,
  Cert.Pre_loss_finite.Gen.facts,
  Cert.Pre_gateout_finite.Gen.facts,
  Cert.Pre_convpre_finite.Gen.facts,
  fun m ρ _ => Cert.GluBwd.Gen.frame m ρ,
  fun m ρ _ => Cert.GluBwdIdeal.Gen.frame m ρ,
  fun m ρ _ => Cert.Glu.frame_ref m ρ trivial,
  fun m ρ _ => Cert.GeluBwd.Gen.frame m ρ,
  fun m ρ _ => Cert.GeluBwdIdeal.Gen.frame m ρ,
  fun m ρ _ => Cert.GeluBwdIdeal.Gen.frame m ρ,
  fun m ρ _ => Cert.Gelu.frame_ref m ρ trivial,
  fun m ρ _ => Cert.Gelu.frame_ref m ρ trivial,
  fun m ρ _ => Cert.NormBwd.Gen.frame m ρ,
  fun m ρ _ => Cert.NormBwdIdeal.Gen.frame m ρ,
  fun m ρ _ => Cert.NormBwdIdeal.Gen.frame m ρ,
  fun m ρ _ => Cert.Norm.frame_ref m ρ trivial,
  fun m ρ _ => Cert.Norm.frame_ref m ρ trivial,
  fun m ρ _ => Cert.GateNormBwd.Gen.frame m ρ,
  fun m ρ _ => Cert.GateNormBwdIdeal.Gen.frame m ρ,
  fun m ρ _ => Cert.GateNormBwdIdeal.Gen.frame m ρ,
  fun m ρ _ => Cert.GateNorm.frame_ref m ρ trivial,
  fun m ρ _ => Cert.GateNorm.frame_ref m ρ trivial,
  fun m ρ _ => Cert.LossHead.Gen.frame m ρ,
  fun m ρ _ => Cert.LossHeadIdeal.Gen.frame m ρ,
  fun m ρ _ => Cert.LossHeadIdeal.Gen.frame m ρ,
  fun m ρ _ => Cert.Loss.frame_ref m ρ trivial,
  fun m ρ _ => Cert.Loss.frame_ref m ρ trivial,
  fun m ρ _ => Cert.DrBwd.Gen.frame m ρ,
  fun m ρ _ => Cert.DrBwdIdeal.Gen.frame m ρ,
  fun m ρ _ => Cert.Dr.frame_ref m ρ trivial,
  fun m ρ _ => Cert.GateOutBwd.Gen.frame m ρ,
  fun m ρ _ => Cert.GateOutBwdIdeal.Gen.frame m ρ,
  fun m ρ _ => Cert.GateOutBwdIdeal.Gen.frame m ρ,
  fun m ρ _ => Cert.GateOut.frame_ref m ρ trivial,
  fun m ρ _ => Cert.GateOut.frame_ref m ρ trivial,
  fun m ρ _ => Cert.SsdBwd.Gen.frame m ρ,
  fun m ρ _ => Cert.SsdBwdIdeal.Gen.frame m ρ,
  fun m ρ _ => Cert.Ssd.frame_ref m ρ trivial,
  fun m ρ _ => Cert.ScanFwd.Gen.frame m ρ,
  fun m ρ _ => Cert.ScanFwdIdeal.Gen.frame m ρ,
  fun m ρ _ => Cert.Scan.frame_ref m ρ trivial,
  fun m ρ _ => Cert.ConvIn.Gen.frame m ρ,
  fun m ρ _ => Cert.ConvInIdeal.Gen.frame m ρ,
  fun m ρ _ => Cert.ConvIn.frame_ref m ρ trivial,
  fun m ρ _ => Cert.ConvPre.Gen.frame m ρ,
  fun m ρ _ => Cert.ConvPreIdeal.Gen.frame m ρ,
  fun m ρ _ => Cert.ConvPreIdeal.Gen.frame m ρ,
  fun m ρ _ => Cert.ConvPre.frame_ref m ρ trivial,
  fun m ρ _ => Cert.ConvPre.frame_ref m ρ trivial,
  fun m ρ _ => Cert.ConvFwd.Gen.frame m ρ,
  fun m ρ _ => Cert.ConvFwdIdeal.Gen.frame m ρ,
  fun m ρ _ => Cert.Conv.frame_ref m ρ trivial,
  fun m ρ _ => Cert.ModFwd.Gen.frame m ρ,
  fun m ρ _ => Cert.ModFwdIdeal.Gen.frame m ρ,
  fun m ρ _ => Cert.Mod.frame_ref m ρ trivial,
  fun m ρ _ => Cert.SkipFwd.Gen.frame m ρ,
  fun m ρ _ => Cert.SkipFwdIdeal.Gen.frame m ρ,
  fun m ρ _ => Cert.Skip.frame_ref m ρ trivial,
  fun m ρ _ => Cert.GatedFwd.Gen.frame m ρ,
  fun m ρ _ => Cert.GatedFwdIdeal.Gen.frame m ρ,
  fun m ρ _ => Cert.Gated.frame_ref m ρ trivial,
  fun m ρ _ => Cert.GroupFwd.Gen.frame m ρ,
  fun m ρ _ => Cert.GroupFwdIdeal.Gen.frame m ρ,
  fun m ρ _ => Cert.Group.frame_ref m ρ trivial,
  fun m ρ _ => Cert.ReluFwd.Gen.frame m ρ,
  fun m ρ _ => Cert.ReluFwdIdeal.Gen.frame m ρ,
  fun m ρ _ => Cert.Relu.frame_ref m ρ trivial,
  fun m ρ _ => Cert.SquareFwd.Gen.frame m ρ,
  fun m ρ _ => Cert.SquareFwdIdeal.Gen.frame m ρ,
  fun m ρ _ => Cert.Square.frame_ref m ρ trivial,
  fun m ρ _ => Cert.ProjFwd.Gen.frame m ρ,
  fun m ρ _ => Cert.ProjFwdIdeal.Gen.frame m ρ,
  fun m ρ _ => Cert.Proj.frame_ref m ρ trivial,
  fun m ρ _ => Cert.WinFwd.Gen.frame m ρ,
  fun m ρ _ => Cert.WinFwdIdeal.Gen.frame m ρ,
  fun m ρ _ => Cert.Win.frame_ref m ρ trivial,
  fun m ρ _ => Cert.WzFwd.Gen.frame m ρ,
  fun m ρ _ => Cert.WzFwdIdeal.Gen.frame m ρ,
  fun m ρ _ => Cert.Wz.frame_ref m ρ trivial,
  fun m ρ _ => Cert.WxbcFwd.Gen.frame m ρ,
  fun m ρ _ => Cert.WxbcFwdIdeal.Gen.frame m ρ,
  fun m ρ _ => Cert.Wxbc.frame_ref m ρ trivial,
  fun m ρ _ => Cert.WdtFwd.Gen.frame m ρ,
  fun m ρ _ => Cert.WdtFwdIdeal.Gen.frame m ρ,
  fun m ρ _ => Cert.Wdt.frame_ref m ρ trivial,
  fun m ρ _ => Cert.DhBwd.Gen.frame m ρ,
  fun m ρ _ => Cert.DhBwdIdeal.Gen.frame m ρ,
  fun m ρ _ => Cert.Dh.frame_ref m ρ trivial,
  fun m ρ _ => Cert.DmlpBwd.Gen.frame m ρ,
  fun m ρ _ => Cert.DmlpBwdIdeal.Gen.frame m ρ,
  fun m ρ _ => Cert.Dmlp.frame_ref m ρ trivial,
  fun m ρ _ => Cert.DglBwd.Gen.frame m ρ,
  fun m ρ _ => Cert.DglBwdIdeal.Gen.frame m ρ,
  fun m ρ _ => Cert.Dgl.frame_ref m ρ trivial,
  fun m ρ _ => Cert.DynBwd.Gen.frame m ρ,
  fun m ρ _ => Cert.DynBwdIdeal.Gen.frame m ρ,
  fun m ρ _ => Cert.Dyn.frame_ref m ρ trivial,
  fun m ρ _ => Cert.DxbcBwd.Gen.frame m ρ,
  fun m ρ _ => Cert.DxbcBwdIdeal.Gen.frame m ρ,
  fun m ρ _ => Cert.Dxbc.frame_ref m ρ trivial,
  trivial,
  Cert.Glu.algebraic,
  Cert.Gelu.preserves,
  Cert.Gelu.algebraic,
  trivial,
  Cert.Norm.algebraic,
  trivial,
  Cert.GateNorm.algebraic,
  trivial,
  Cert.Loss.algebraic,
  trivial,
  Cert.Dr.algebraic,
  trivial,
  Cert.GateOut.algebraic,
  trivial,
  Cert.Ssd.algebraic,
  trivial,
  Cert.Scan.algebraic,
  trivial,
  Cert.ConvIn.algebraic,
  trivial,
  Cert.ConvPre.algebraic,
  trivial,
  Cert.Conv.algebraic,
  trivial,
  Cert.Mod.algebraic,
  trivial,
  Cert.Skip.algebraic,
  trivial,
  Cert.Gated.algebraic,
  trivial,
  Cert.Group.algebraic,
  trivial,
  Cert.Relu.algebraic,
  trivial,
  Cert.Square.algebraic,
  trivial,
  Cert.Proj.algebraic,
  trivial,
  Cert.Win.algebraic,
  trivial,
  Cert.Wz.algebraic,
  trivial,
  Cert.Wxbc.algebraic,
  trivial,
  Cert.Wdt.algebraic,
  trivial,
  Cert.Dh.algebraic,
  trivial,
  Cert.Dmlp.algebraic,
  trivial,
  Cert.Dgl.algebraic,
  trivial,
  Cert.Dyn.algebraic,
  trivial,
  Cert.Dxbc.algebraic⟩

end Cert.Proof

end
